-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_v22) = v5 c
          ∧ r.2.mem ((c.tc : Thread Cert.ReferenceIdeal.nD Cert.ReferenceIdeal.τ).loc Cert.ReferenceIdeal.main_v21) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)

variable [Facts]

def fn_part1 {F : FTy → Type} [FloatOps F] (main_arg6 : FVec F S4096x2048 .f32) (main_v2 : IVec S4096x2048 1) (main_v5 : IVec S4096x2048 1) (main_v8 : IVec S4096x2048 1) (main_v11 : IVec S4096x2048 1) (main_v14 : IVec S4096x2048 1) (main_v17 : IVec S4096x2048 1) : IVec S4096x2048 1 :=
  let main_v18 : FVec F S4096x2048 .f32 := Host.absf main_arg6
  let main_cst_5 : FVec F S_ .f32 := constant S_ .f32 0x7F800000#32
  let main_v19 : FVec F S4096x2048 .f32 := broadcastInDim S4096x2048 ![] bcast_S_S4096x2048 main_cst_5
  let main_v20 : IVec S4096x2048 1 := cmpf .olt main_v18 main_v19
  let main_v21 : IVec S4096x2048 1 := andi main_v2 main_v5
  let main_v22 : IVec S4096x2048 1 := andi main_v21 main_v8
  let main_v23 : IVec S4096x2048 1 := andi main_v22 main_v11
  let main_v24 : IVec S4096x2048 1 := andi main_v23 main_v14
  let main_v25 : IVec S4096x2048 1 := andi main_v24 main_v17
  let main_v26 : IVec S4096x2048 1 := andi main_v25 main_v20
  main_v26

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S4096x2048 .f32) (main_arg6 : FVec F S4096x2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  fn_part1 (F := F) main_arg6 main_v2 main_v5 main_v8 main_v11 main_v14 main_v17
-- ==== Kernel.lean ====
abbrev S4096x2048 : Shape := ⟨2, ![4096, 2048]⟩
abbrev S16x64x128x128 : Shape := ⟨4, ![16, 64, 128, 128]⟩
abbrev S128x2048 : Shape := ⟨2, ![128, 2048]⟩
abbrev S16x2x128x128 : Shape := ⟨4, ![16, 2, 128, 128]⟩
abbrev S16x128x128 : Shape := ⟨3, ![16, 128, 128]⟩
abbrev S64x128 : Shape := ⟨2, ![64, 128]⟩
abbrev S1x64x128 : Shape := ⟨3, ![1, 64, 128]⟩
abbrev S16x64x128 : Shape := ⟨3, ![16, 64, 128]⟩
abbrev S64x64 : Shape := ⟨2, ![64, 64]⟩
abbrev S1x64x64 : Shape := ⟨3, ![1, 64, 64]⟩
abbrev S16x64x64 : Shape := ⟨3, ![16, 64, 64]⟩
abbrev S16x128x64 : Shape := ⟨3, ![16, 128, 64]⟩
abbrev S2x1x1x128 : Shape := ⟨4, ![2, 1, 1, 128]⟩
abbrev S1x16x64x128 : Shape := ⟨4, ![1, 16, 64, 128]⟩
abbrev S2x16x64x128 : Shape := ⟨4, ![2, 16, 64, 128]⟩
abbrev S32x64x128 : Shape := ⟨3, ![32, 64, 128]⟩
abbrev S32x64x64 : Shape := ⟨3, ![32, 64, 64]⟩
abbrev S128x128 : Shape := ⟨2, ![128, 128]⟩
abbrev S1x128x128 : Shape := ⟨3, ![1, 128, 128]⟩
abbrev S1x1x128x128 : Shape := ⟨4, ![1, 1, 128, 128]⟩

abbrev nBuf : Space → Nat
  | .hbm => 15
  | .vmem => 46
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S16x64x128x128, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S16x2x128x128, .f32⟩
  | .local _ .vmem, ⟨15, _⟩ => ⟨S16x2x128x128, .f32⟩
  | .local _ .vmem, ⟨16, _⟩ => ⟨S16x128x128, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S128x2048, .f32⟩
  | .local _ .vmem, ⟨31, _⟩ => ⟨S16x2x128x128, .f32⟩
  | .local _ .vmem, ⟨32, _⟩ => ⟨S16x2x128x128, .f32⟩
  | .local _ .vmem, ⟨33, _⟩ => ⟨S128x2048, .f32⟩
  | .local _ .vmem, ⟨34, _⟩ => ⟨S128x2048, .f32⟩
  | .local _ .vmem, ⟨35, _⟩ => ⟨S128x2048, .f32⟩
  | .local _ .vmem, ⟨36, _⟩ => ⟨S128x2048, .f32⟩
  | .local _ .vmem, ⟨37, _⟩ => ⟨S128x2048, .f32⟩
  | .local _ .vmem, ⟨38, _⟩ => ⟨S128x2048, .f32⟩
  | .local _ .vmem, ⟨39, _⟩ => ⟨S128x2048, .f32⟩
  | .local _ .vmem, ⟨40, _⟩ => ⟨S128x2048, .f32⟩
  | .local _ .vmem, ⟨41, _⟩ => ⟨S128x2048, .f32⟩
  | .local _ .vmem, ⟨42, _⟩ => ⟨S128x2048, .f32⟩
  | .local _ .vmem, ⟨43, _⟩ => ⟨S128x2048, .f32⟩
  | .local _ .vmem, ⟨44, _⟩ => ⟨S128x2048, .f32⟩
  | .local _ .vmem, ⟨45, _⟩ => ⟨S16x128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32_3 : BitVec 32 := 0#32
  let c2_i32 : BitVec 32 := 2#32
  let v4 : BitVec 32 := Scalar.addi c0_i32_3 c2_i32
  let c1_i32 : BitVec 32 := 1#32
  ⟨c0_i32_3, v4, c1_i32⟩
def k0_mult1 (k0_t1 : Fin k0_t1_loop.trips) : BitVec 32 :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  v9
def k0_off1 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v11 : Index := Scalar.indexCast v10
  let c0_8 : Index := 0#32
  ![v11.toNat, 0]
def k0_off2 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v13 : Index := Scalar.indexCast v10
  let c128 : Index := 128#32
  ![v13.toNat, 128]
def k0_off3 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v15 : Index := Scalar.indexCast v10
  let c256 : Index := 256#32
  ![v15.toNat, 256]
def k0_off4 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v17 : Index := Scalar.indexCast v10
  let c384 : Index := 384#32
  ![v17.toNat, 384]
def k0_off5 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v19 : Index := Scalar.indexCast v10
  let c512 : Index := 512#32
  ![v19.toNat, 512]
def k0_off6 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v21 : Index := Scalar.indexCast v10
  let c640 : Index := 640#32
  ![v21.toNat, 640]
def k0_off7 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v23 : Index := Scalar.indexCast v10
  let c768 : Index := 768#32
  ![v23.toNat, 768]
def k0_off8 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v25 : Index := Scalar.indexCast v10
  let c896 : Index := 896#32
  ![v25.toNat, 896]
def k0_off9 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v27 : Index := Scalar.indexCast v10
  let c1024 : Index := 1024#32
  ![v27.toNat, 1024]
def k0_off10 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v29 : Index := Scalar.indexCast v10
  let c1152 : Index := 1152#32
  ![v29.toNat, 1152]
def k0_off11 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v31 : Index := Scalar.indexCast v10
  let c1280 : Index := 1280#32
  ![v31.toNat, 1280]
def k0_off12 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v33 : Index := Scalar.indexCast v10
  let c1408 : Index := 1408#32
  ![v33.toNat, 1408]
def k0_off13 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v35 : Index := Scalar.indexCast v10
  let c1536 : Index := 1536#32
  ![v35.toNat, 1536]
def k0_off14 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v37 : Index := Scalar.indexCast v10
  let c1664 : Index := 1664#32
  ![v37.toNat, 1664]
def k0_off15 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v39 : Index := Scalar.indexCast v10
  let c1792 : Index := 1792#32
  ![v39.toNat, 1792]
def k0_off16 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v41 : Index := Scalar.indexCast v10
  let c1920 : Index := 1920#32
  ![v41.toNat, 1920]
def k0_off17 (k0_t1 : Fin k0_t1_loop.trips) : Fin 4 → Nat :=
  let c0_129 : Index := 0#32
  let c0_i32_3 : BitVec 32 := 0#32
  let c1_i32 : BitVec 32 := 1#32
  let arg11 : BitVec 32 := Scf.iv c0_i32_3 c1_i32 k0_t1
  let v503 : Index := Scalar.indexCast arg11
  let c0_130 : Index := 0#32
  let c0_131 : Index := 0#32
  ![0, v503.toNat, 0, 0]
def k0_off18 (k0_t1 : Fin k0_t1_loop.trips) : Fin 4 → Nat :=
  let c1 : Index := 1#32
  let c0_i32_3 : BitVec 32 := 0#32
  let c1_i32 : BitVec 32 := 1#32
  let arg11 : BitVec 32 := Scf.iv c0_i32_3 c1_i32 k0_t1
  let v513 : Index := Scalar.indexCast arg11
  let c0_133 : Index := 0#32
  let c0_134 : Index := 0#32
  ![1, v513.toNat, 0, 0]
def k0_off19 (k0_t1 : Fin k0_t1_loop.trips) : Fin 4 → Nat :=
  let c2 : Index := 2#32
  let c0_i32_3 : BitVec 32 := 0#32
  let c1_i32 : BitVec 32 := 1#32
  let arg11 : BitVec 32 := Scf.iv c0_i32_3 c1_i32 k0_t1
  let v523 : Index := Scalar.indexCast arg11
  let c0_136 : Index := 0#32
  let c0_137 : Index := 0#32
  ![2, v523.toNat, 0, 0]
def k0_off20 (k0_t1 : Fin k0_t1_loop.trips) : Fin 4 → Nat :=
  let c3 : Index := 3#32
  let c0_i32_3 : BitVec 32 := 0#32
  let c1_i32 : BitVec 32 := 1#32
  let arg11 : BitVec 32 := Scf.iv c0_i32_3 c1_i32 k0_t1
  let v533 : Index := Scalar.indexCast arg11
  let c0_139 : Index := 0#32
  let c0_140 : Index := 0#32
  ![3, v533.toNat, 0, 0]
def k0_off21 (k0_t1 : Fin k0_t1_loop.trips) : Fin 4 → Nat :=
  let c4 : Index := 4#32
  let c0_i32_3 : BitVec 32 := 0#32
  let c1_i32 : BitVec 32 := 1#32
  let arg11 : BitVec 32 := Scf.iv c0_i32_3 c1_i32 k0_t1
  let v543 : Index := Scalar.indexCast arg11
  let c0_142 : Index := 0#32
  let c0_143 : Index := 0#32
  ![4, v543.toNat, 0, 0]
def k0_off22 (k0_t1 : Fin k0_t1_loop.trips) : Fin 4 → Nat :=
  let c5 : Index := 5#32
  let c0_i32_3 : BitVec 32 := 0#32
  let c1_i32 : BitVec 32 := 1#32
  let arg11 : BitVec 32 := Scf.iv c0_i32_3 c1_i32 k0_t1
  let v553 : Index := Scalar.indexCast arg11
  let c0_145 : Index := 0#32
  let c0_146 : Index := 0#32
  ![5, v553.toNat, 0, 0]
def k0_off23 (k0_t1 : Fin k0_t1_loop.trips) : Fin 4 → Nat :=
  let c6 : Index := 6#32
  let c0_i32_3 : BitVec 32 := 0#32
  let c1_i32 : BitVec 32 := 1#32
  let arg11 : BitVec 32 := Scf.iv c0_i32_3 c1_i32 k0_t1
  let v563 : Index := Scalar.indexCast arg11
  let c0_148 : Index := 0#32
  let c0_149 : Index := 0#32
  ![6, v563.toNat, 0, 0]
def k0_off24 (k0_t1 : Fin k0_t1_loop.trips) : Fin 4 → Nat :=
  let c7 : Index := 7#32
  let c0_i32_3 : BitVec 32 := 0#32
  let c1_i32 : BitVec 32 := 1#32
  let arg11 : BitVec 32 := Scf.iv c0_i32_3 c1_i32 k0_t1
  let v573 : Index := Scalar.indexCast arg11
  let c0_151 : Index := 0#32
  let c0_152 : Index := 0#32
  ![7, v573.toNat, 0, 0]
def k0_off25 (k0_t1 : Fin k0_t1_loop.trips) : Fin 4 → Nat :=
  let c8 : Index := 8#32
  let c0_i32_3 : BitVec 32 := 0#32
  let c1_i32 : BitVec 32 := 1#32
  let arg11 : BitVec 32 := Scf.iv c0_i32_3 c1_i32 k0_t1
  let v583 : Index := Scalar.indexCast arg11
  let c0_154 : Index := 0#32
  let c0_155 : Index := 0#32
  ![8, v583.toNat, 0, 0]
def k0_off26 (k0_t1 : Fin k0_t1_loop.trips) : Fin 4 → Nat :=
  let c9 : Index := 9#32
  let c0_i32_3 : BitVec 32 := 0#32
  let c1_i32 : BitVec 32 := 1#32
  let arg11 : BitVec 32 := Scf.iv c0_i32_3 c1_i32 k0_t1
  let v593 : Index := Scalar.indexCast arg11
  let c0_157 : Index := 0#32
  let c0_158 : Index := 0#32
  ![9, v593.toNat, 0, 0]
def k0_off27 (k0_t1 : Fin k0_t1_loop.trips) : Fin 4 → Nat :=
  let c10 : Index := 10#32
  let c0_i32_3 : BitVec 32 := 0#32
  let c1_i32 : BitVec 32 := 1#32
  let arg11 : BitVec 32 := Scf.iv c0_i32_3 c1_i32 k0_t1
  let v603 : Index := Scalar.indexCast arg11
  let c0_160 : Index := 0#32
  let c0_161 : Index := 0#32
  ![10, v603.toNat, 0, 0]
def k0_off28 (k0_t1 : Fin k0_t1_loop.trips) : Fin 4 → Nat :=
  let c11 : Index := 11#32
  let c0_i32_3 : BitVec 32 := 0#32
  let c1_i32 : BitVec 32 := 1#32
  let arg11 : BitVec 32 := Scf.iv c0_i32_3 c1_i32 k0_t1
  let v613 : Index := Scalar.indexCast arg11
  let c0_163 : Index := 0#32
  let c0_164 : Index := 0#32
  ![11, v613.toNat, 0, 0]
def k0_off29 (k0_t1 : Fin k0_t1_loop.trips) : Fin 4 → Nat :=
  let c12 : Index := 12#32
  let c0_i32_3 : BitVec 32 := 0#32
  let c1_i32 : BitVec 32 := 1#32
  let arg11 : BitVec 32 := Scf.iv c0_i32_3 c1_i32 k0_t1
  let v623 : Index := Scalar.indexCast arg11
  let c0_166 : Index := 0#32
  let c0_167 : Index := 0#32
  ![12, v623.toNat, 0, 0]
def k0_off30 (k0_t1 : Fin k0_t1_loop.trips) : Fin 4 → Nat :=
  let c13 : Index := 13#32
  let c0_i32_3 : BitVec 32 := 0#32
  let c1_i32 : BitVec 32 := 1#32
  let arg11 : BitVec 32 := Scf.iv c0_i32_3 c1_i32 k0_t1
  let v633 : Index := Scalar.indexCast arg11
  let c0_169 : Index := 0#32
  let c0_170 : Index := 0#32
  ![13, v633.toNat, 0, 0]
def k0_off31 (k0_t1 : Fin k0_t1_loop.trips) : Fin 4 → Nat :=
  let c14 : Index := 14#32
  let c0_i32_3 : BitVec 32 := 0#32
  let c1_i32 : BitVec 32 := 1#32
  let arg11 : BitVec 32 := Scf.iv c0_i32_3 c1_i32 k0_t1
  let v643 : Index := Scalar.indexCast arg11
  let c0_172 : Index := 0#32
  let c0_173 : Index := 0#32
  ![14, v643.toNat, 0, 0]
def k0_off32 (k0_t1 : Fin k0_t1_loop.trips) : Fin 4 → Nat :=
  let c15 : Index := 15#32
  let c0_i32_3 : BitVec 32 := 0#32
  let c1_i32 : BitVec 32 := 1#32
  let arg11 : BitVec 32 := Scf.iv c0_i32_3 c1_i32 k0_t1
  let v653 : Index := Scalar.indexCast arg11
  let c0_175 : Index := 0#32
  let c0_176 : Index := 0#32
  ![15, v653.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 32], ![false, false]⟩

@[reducible] def k1_t1_loop : Scf.Loop 32 :=
  let c0_i32_3 : BitVec 32 := 0#32
  let c2_i32 : BitVec 32 := 2#32
  let v4 : BitVec 32 := Scalar.addi c0_i32_3 c2_i32
  let c1_i32 : BitVec 32 := 1#32
  ⟨c0_i32_3, v4, c1_i32⟩
def k1_mult1 (k1_t1 : Fin k1_t1_loop.trips) : BitVec 32 :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  v10
def k1_off1 (k1_t1 : Fin k1_t1_loop.trips) : Fin 4 → Nat :=
  let c0_9 : Index := 0#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v12 : Index := Scalar.indexCast v9
  let c0_10 : Index := 0#32
  let c0_11 : Index := 0#32
  ![0, v12.toNat, 0, 0]
def k1_off2 (k1_t1 : Fin k1_t1_loop.trips) : Fin 4 → Nat :=
  let c1 : Index := 1#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v15 : Index := Scalar.indexCast v9
  let c0_12 : Index := 0#32
  let c0_13 : Index := 0#32
  ![1, v15.toNat, 0, 0]
def k1_off3 (k1_t1 : Fin k1_t1_loop.trips) : Fin 4 → Nat :=
  let c2 : Index := 2#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v18 : Index := Scalar.indexCast v9
  let c0_14 : Index := 0#32
  let c0_15 : Index := 0#32
  ![2, v18.toNat, 0, 0]
def k1_off4 (k1_t1 : Fin k1_t1_loop.trips) : Fin 4 → Nat :=
  let c3 : Index := 3#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v21 : Index := Scalar.indexCast v9
  let c0_16 : Index := 0#32
  let c0_17 : Index := 0#32
  ![3, v21.toNat, 0, 0]
def k1_off5 (k1_t1 : Fin k1_t1_loop.trips) : Fin 4 → Nat :=
  let c4 : Index := 4#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v24 : Index := Scalar.indexCast v9
  let c0_18 : Index := 0#32
  let c0_19 : Index := 0#32
  ![4, v24.toNat, 0, 0]
def k1_off6 (k1_t1 : Fin k1_t1_loop.trips) : Fin 4 → Nat :=
  let c5 : Index := 5#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v27 : Index := Scalar.indexCast v9
  let c0_20 : Index := 0#32
  let c0_21 : Index := 0#32
  ![5, v27.toNat, 0, 0]
def k1_off7 (k1_t1 : Fin k1_t1_loop.trips) : Fin 4 → Nat :=
  let c6 : Index := 6#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v30 : Index := Scalar.indexCast v9
  let c0_22 : Index := 0#32
  let c0_23 : Index := 0#32
  ![6, v30.toNat, 0, 0]
def k1_off8 (k1_t1 : Fin k1_t1_loop.trips) : Fin 4 → Nat :=
  let c7 : Index := 7#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v33 : Index := Scalar.indexCast v9
  let c0_24 : Index := 0#32
  let c0_25 : Index := 0#32
  ![7, v33.toNat, 0, 0]
def k1_off9 (k1_t1 : Fin k1_t1_loop.trips) : Fin 4 → Nat :=
  let c8 : Index := 8#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v36 : Index := Scalar.indexCast v9
  let c0_26 : Index := 0#32
  let c0_27 : Index := 0#32
  ![8, v36.toNat, 0, 0]
def k1_off10 (k1_t1 : Fin k1_t1_loop.trips) : Fin 4 → Nat :=
  let c9 : Index := 9#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v39 : Index := Scalar.indexCast v9
  let c0_28 : Index := 0#32
  let c0_29 : Index := 0#32
  ![9, v39.toNat, 0, 0]
def k1_off11 (k1_t1 : Fin k1_t1_loop.trips) : Fin 4 → Nat :=
  let c10 : Index := 10#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v42 : Index := Scalar.indexCast v9
  let c0_30 : Index := 0#32
  let c0_31 : Index := 0#32
  ![10, v42.toNat, 0, 0]
def k1_off12 (k1_t1 : Fin k1_t1_loop.trips) : Fin 4 → Nat :=
  let c11 : Index := 11#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v45 : Index := Scalar.indexCast v9
  let c0_32 : Index := 0#32
  let c0_33 : Index := 0#32
  ![11, v45.toNat, 0, 0]
def k1_off13 (k1_t1 : Fin k1_t1_loop.trips) : Fin 4 → Nat :=
  let c12 : Index := 12#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v48 : Index := Scalar.indexCast v9
  let c0_34 : Index := 0#32
  let c0_35 : Index := 0#32
  ![12, v48.toNat, 0, 0]
def k1_off14 (k1_t1 : Fin k1_t1_loop.trips) : Fin 4 → Nat :=
  let c13 : Index := 13#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v51 : Index := Scalar.indexCast v9
  let c0_36 : Index := 0#32
  let c0_37 : Index := 0#32
  ![13, v51.toNat, 0, 0]
def k1_off15 (k1_t1 : Fin k1_t1_loop.trips) : Fin 4 → Nat :=
  let c14 : Index := 14#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v54 : Index := Scalar.indexCast v9
  let c0_38 : Index := 0#32
  let c0_39 : Index := 0#32
  ![14, v54.toNat, 0, 0]
def k1_off16 (k1_t1 : Fin k1_t1_loop.trips) : Fin 4 → Nat :=
  let c15 : Index := 15#32
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let v57 : Index := Scalar.indexCast v9
  let c0_40 : Index := 0#32
  let c0_41 : Index := 0#32
  ![15, v57.toNat, 0, 0]
def k1_off17 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v77 : Index := Scalar.indexCast v11
  let c0_42 : Index := 0#32
  ![v77.toNat, 0]
def k1_off18 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v79 : Index := Scalar.indexCast v11
  let c128 : Index := 128#32
  ![v79.toNat, 128]
def k1_off19 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v81 : Index := Scalar.indexCast v11
  let c256 : Index := 256#32
  ![v81.toNat, 256]
def k1_off20 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v83 : Index := Scalar.indexCast v11
  let c384 : Index := 384#32
  ![v83.toNat, 384]
def k1_off21 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v85 : Index := Scalar.indexCast v11
  let c512 : Index := 512#32
  ![v85.toNat, 512]
def k1_off22 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v87 : Index := Scalar.indexCast v11
  let c640 : Index := 640#32
  ![v87.toNat, 640]
def k1_off23 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v89 : Index := Scalar.indexCast v11
  let c768 : Index := 768#32
  ![v89.toNat, 768]
def k1_off24 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v91 : Index := Scalar.indexCast v11
  let c896 : Index := 896#32
  ![v91.toNat, 896]
def k1_off25 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v93 : Index := Scalar.indexCast v11
  let c1024 : Index := 1024#32
  ![v93.toNat, 1024]
def k1_off26 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v95 : Index := Scalar.indexCast v11
  let c1152 : Index := 1152#32
  ![v95.toNat, 1152]
def k1_off27 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v97 : Index := Scalar.indexCast v11
  let c1280 : Index := 1280#32
  ![v97.toNat, 1280]
def k1_off28 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v99 : Index := Scalar.indexCast v11
  let c1408 : Index := 1408#32
  ![v99.toNat, 1408]
def k1_off29 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v101 : Index := Scalar.indexCast v11
  let c1536 : Index := 1536#32
  ![v101.toNat, 1536]
def k1_off30 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v103 : Index := Scalar.indexCast v11
  let c1664 : Index := 1664#32
  ![v103.toNat, 1664]
def k1_off31 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v105 : Index := Scalar.indexCast v11
  let c1792 : Index := 1792#32
  ![v105.toNat, 1792]
def k1_off32 (k1_t1 : Fin k1_t1_loop.trips) : Fin 2 → Nat :=
  let c1_i32_8 : BitVec 32 := 1#32
  let c0_i32_3 : BitVec 32 := 0#32
  let c1_i32 : BitVec 32 := 1#32
  let arg17 : BitVec 32 := Scf.iv c0_i32_3 c1_i32 k1_t1
  let v9 : BitVec 32 := Scalar.subi c1_i32_8 arg17
  let c64_i32 : BitVec 32 := 64#32
  let v10 : BitVec 32 := Scalar.muli v9 c64_i32
  let v11 : BitVec 32 := v10
  let v107 : Index := Scalar.indexCast v11
  let c1920 : Index := 1920#32
  ![v107.toNat, 1920]
def cc1_transform_0 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc1_transform_4 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc1_transform_5 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc1_transform_6 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_7 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_9 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_10 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_11 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_12 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_13 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S16x2x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S128x2048 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S128x2048 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== ReferenceIdeal.lean ====
abbrev S4096x2048 : Shape := ⟨2, ![4096, 2048]⟩
abbrev S4096x32x64 : Shape := ⟨3, ![4096, 32, 64]⟩
abbrev S_ : Shape := ⟨0, ![]⟩
abbrev S32x64x64 : Shape := ⟨3, ![32, 64, 64]⟩
abbrev S4096x32x64x64 : Shape := ⟨4, ![4096, 32, 64, 64]⟩
abbrev S1x32x64 : Shape := ⟨3, ![1, 32, 64]⟩
abbrev S32x64 : Shape := ⟨2, ![32, 64]⟩
abbrev S32x1x64 : Shape := ⟨3, ![32, 1, 64]⟩
abbrev S32x64x1 : Shape := ⟨3, ![32, 64, 1]⟩
abbrev S1x32x64x64 : Shape := ⟨4, ![1, 32, 64, 64]⟩

abbrev nBuf : Space → Nat
  | .hbm => 278
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S4096x2048, .f32⟩
  | 5 => ⟨S4096x2048, .f32⟩
  | 6 => ⟨S4096x2048, .f32⟩
  | 7 => ⟨S4096x32x64, .f32⟩
  | 8 => ⟨S4096x32x64, .f32⟩
  | 9 => ⟨S4096x32x64, .f32⟩
  | 10 => ⟨S4096x32x64, .f32⟩
  | 11 => ⟨S4096x32x64, .f32⟩
  | 12 => ⟨S4096x32x64, .f32⟩
  | 13 => ⟨S_, .f32⟩
  | 14 => ⟨S32x64x64, .f32⟩
  | 15 => ⟨S_, .f32⟩
  | 16 => ⟨S4096x32x64, .f32⟩
  | 17 => ⟨S_, .f32⟩
  | 18 => ⟨S4096x32x64x64, .f32⟩
  | 19 => ⟨S_, .i32⟩
  | 20 => ⟨S4096x32x64, .f32⟩
  | 21 => ⟨S4096x32x64, .f32⟩
  | 22 => ⟨S4096x32x64, .f32⟩
  | 23 => ⟨S4096x32x64, .f32⟩
  | 24 => ⟨S4096x32x64, .f32⟩
  | 25 => ⟨S4096x32x64, .f32⟩
  | 26 => ⟨S_, .i32⟩
  | 27 => ⟨S32x64x64, .f32⟩
  | 28 => ⟨S4096x32x64, .f32⟩
  | 29 => ⟨S4096x32x64x64, .f32⟩
  | 30 => ⟨S_, .i32⟩
  | 31 => ⟨S_, .i1⟩
  | 32 => ⟨S_, .i32⟩
  | 33 => ⟨S_, .i32⟩
  | 34 => ⟨S1x32x64, .f32⟩
  | 35 => ⟨S32x64, .f32⟩
  | 36 => ⟨S_, .i32⟩
  | 37 => ⟨S_, .i32⟩
  | 38 => ⟨S1x32x64, .f32⟩
  | 39 => ⟨S32x64, .f32⟩
  | 40 => ⟨S_, .i32⟩
  | 41 => ⟨S_, .i32⟩
  | 42 => ⟨S1x32x64, .f32⟩
  | 43 => ⟨S32x64, .f32⟩
  | 44 => ⟨S_, .i32⟩
  | 45 => ⟨S_, .i32⟩
  | 46 => ⟨S1x32x64, .f32⟩
  | 47 => ⟨S32x64, .f32⟩
  | 48 => ⟨S_, .i32⟩
  | 49 => ⟨S_, .i32⟩
  | 50 => ⟨S1x32x64, .f32⟩
  | 51 => ⟨S32x64, .f32⟩
  | 52 => ⟨S_, .i32⟩
  | 53 => ⟨S_, .i32⟩
  | 54 => ⟨S1x32x64, .f32⟩
  | 55 => ⟨S32x64, .f32⟩
  | 56 => ⟨S32x1x64, .f32⟩
  | 57 => ⟨S32x64x64, .f32⟩
  | 58 => ⟨S32x64x64, .f32⟩
  | 59 => ⟨S_, .f32⟩
  | 60 => ⟨S32x64, .f32⟩
  | 61 => ⟨S32x64, .f32⟩
  | 62 => ⟨S32x1x64, .f32⟩
  | 63 => ⟨S32x64x64, .f32⟩
  | 64 => ⟨S32x64x64, .f32⟩
  | 65 => ⟨S32x64x1, .f32⟩
  | 66 => ⟨S32x1x64, .f32⟩
  | 67 => ⟨S32x64x64, .f32⟩
  | 68 => ⟨S32x64x64, .f32⟩
  | 69 => ⟨S32x64x64, .f32⟩
  | 70 => ⟨S32x64x64, .f32⟩
  | 71 => ⟨S32x64x1, .f32⟩
  | 72 => ⟨S32x1x64, .f32⟩
  | 73 => ⟨S32x64x64, .f32⟩
  | 74 => ⟨S32x64x64, .f32⟩
  | 75 => ⟨S32x64x64, .f32⟩
  | 76 => ⟨S32x64x64, .f32⟩
  | 77 => ⟨S32x1x64, .f32⟩
  | 78 => ⟨S32x64x64, .f32⟩
  | 79 => ⟨S32x64x64, .f32⟩
  | 80 => ⟨S_, .f32⟩
  | 81 => ⟨S32x64, .f32⟩
  | 82 => ⟨S1x32x64, .f32⟩
  | 83 => ⟨S_, .i32⟩
  | 84 => ⟨S_, .i32⟩
  | 85 => ⟨S4096x32x64, .f32⟩
  | 86 => ⟨S1x32x64x64, .f32⟩
  | 87 => ⟨S_, .i32⟩
  | 88 => ⟨S_, .i32⟩
  | 89 => ⟨S_, .i32⟩
  | 90 => ⟨S4096x32x64x64, .f32⟩
  | 91 => ⟨S_, .i32⟩
  | 92 => ⟨S_, .i32⟩
  | 93 => ⟨S4096x2048, .f32⟩
  | 94 => ⟨S_, .f32⟩
  | 95 => ⟨S32x64x64, .f32⟩
  | 96 => ⟨S4096x32x64, .f32⟩
  | 97 => ⟨S_, .f32⟩
  | 98 => ⟨S32x64x64, .f32⟩
  | 99 => ⟨S_, .f32⟩
  | 100 => ⟨S4096x32x64, .f32⟩
  | 101 => ⟨S_, .f32⟩
  | 102 => ⟨S4096x32x64, .f32⟩
  | 103 => ⟨S_, .f32⟩
  | 104 => ⟨S4096x32x64, .f32⟩
  | 105 => ⟨S_, .f32⟩
  | 106 => ⟨S4096x32x64, .f32⟩
  | 107 => ⟨S_, .f32⟩
  | 108 => ⟨S4096x32x64, .f32⟩
  | 109 => ⟨S_, .f32⟩
  | 110 => ⟨S4096x32x64, .f32⟩
  | 111 => ⟨S_, .i32⟩
  | 112 => ⟨S4096x32x64, .f32⟩
  | 113 => ⟨S4096x32x64x64, .f32⟩
  | 114 => ⟨S4096x32x64, .f32⟩
  | 115 => ⟨S4096x32x64, .f32⟩
  | 116 => ⟨S4096x32x64, .f32⟩
  | 117 => ⟨S4096x32x64, .f32⟩
  | 118 => ⟨S4096x32x64, .f32⟩
  | 119 => ⟨S4096x32x64, .f32⟩
  | 120 => ⟨S_, .i32⟩
  | 121 => ⟨S32x64x64, .f32⟩
  | 122 => ⟨S4096x32x64, .f32⟩
  | 123 => ⟨S4096x32x64, .f32⟩
  | 124 => ⟨S4096x32x64, .f32⟩
  | 125 => ⟨S4096x32x64, .f32⟩
  | 126 => ⟨S4096x32x64, .f32⟩
  | 127 => ⟨S4096x32x64, .f32⟩
  | _ => ⟨S4096x2048, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S1x32x64, .f32⟩
  | 9 => ⟨S32x64, .f32⟩
  | 10 => ⟨S_, .i32⟩
  | 11 => ⟨S_, .i32⟩
  | 12 => ⟨S_, .i32⟩
  | 13 => ⟨S1x32x64x64, .f32⟩
  | 14 => ⟨S32x64x64, .f32⟩
  | 15 => ⟨S_, .i32⟩
  | 16 => ⟨S_, .i32⟩
  | 17 => ⟨S1x32x64, .f32⟩
  | 18 => ⟨S32x64, .f32⟩
  | 19 => ⟨S_, .i32⟩
  | 20 => ⟨S_, .i32⟩
  | 21 => ⟨S1x32x64, .f32⟩
  | 22 => ⟨S32x64, .f32⟩
  | 23 => ⟨S_, .i32⟩
  | 24 => ⟨S_, .i32⟩
  | 25 => ⟨S1x32x64, .f32⟩
  | 26 => ⟨S32x64, .f32⟩
  | 27 => ⟨S_, .i32⟩
  | 28 => ⟨S_, .i32⟩
  | 29 => ⟨S1x32x64, .f32⟩
  | 30 => ⟨S32x64, .f32⟩
  | 31 => ⟨S_, .i32⟩
  | 32 => ⟨S_, .i32⟩
  | 33 => ⟨S1x32x64, .f32⟩
  | 34 => ⟨S32x64, .f32⟩
  | 35 => ⟨S_, .i32⟩
  | 36 => ⟨S_, .i32⟩
  | 37 => ⟨S1x32x64, .f32⟩
  | 38 => ⟨S32x64, .f32⟩
  | 39 => ⟨S32x1x64, .f32⟩
  | 40 => ⟨S32x64x64, .f32⟩
  | 41 => ⟨S32x64x64, .f32⟩
  | 42 => ⟨S_, .f32⟩
  | 43 => ⟨S32x64, .f32⟩
  | 44 => ⟨S32x64, .f32⟩
  | 45 => ⟨S32x1x64, .f32⟩
  | 46 => ⟨S32x64x64, .f32⟩
  | 47 => ⟨S32x64x64, .f32⟩
  | 48 => ⟨S32x64x1, .f32⟩
  | 49 => ⟨S32x1x64, .f32⟩
  | 50 => ⟨S32x64x64, .f32⟩
  | 51 => ⟨S32x64x64, .f32⟩
  | 52 => ⟨S32x64x64, .f32⟩
  | 53 => ⟨S32x64x64, .f32⟩
  | 54 => ⟨S32x64x1, .f32⟩
  | 55 => ⟨S32x1x64, .f32⟩
  | 56 => ⟨S32x64x64, .f32⟩
  | 57 => ⟨S32x64x64, .f32⟩
  | 58 => ⟨S32x64x64, .f32⟩
  | 59 => ⟨S32x64x64, .f32⟩
  | 60 => ⟨S32x1x64, .f32⟩
  | 61 => ⟨S32x64x64, .f32⟩
  | 62 => ⟨S32x64x64, .f32⟩
  | 63 => ⟨S_, .f32⟩
  | 64 => ⟨S32x64, .f32⟩
  | 65 => ⟨S32x1x64, .f32⟩
  | 66 => ⟨S32x64x64, .f32⟩
  | 67 => ⟨S32x64x64, .f32⟩
  | 68 => ⟨S32x64x64, .f32⟩
  | 69 => ⟨S_, .f32⟩
  | 70 => ⟨S32x64, .f32⟩
  | 71 => ⟨S32x64x64, .f32⟩
  | 72 => ⟨S32x64x64, .f32⟩
  | 73 => ⟨S_, .f32⟩
  | 74 => ⟨S32x64, .f32⟩
  | 75 => ⟨S32x1x64, .f32⟩
  | 76 => ⟨S32x64x64, .f32⟩
  | 77 => ⟨S32x64x64, .f32⟩
  | 78 => ⟨S_, .f32⟩
  | 79 => ⟨S32x64, .f32⟩
  | 80 => ⟨S32x64x1, .f32⟩
  | 81 => ⟨S_, .f32⟩
  | 82 => ⟨S32x64, .f32⟩
  | 83 => ⟨S_, .f32⟩
  | 84 => ⟨S32x64, .f32⟩
  | 85 => ⟨S32x64x64, .f32⟩
  | 86 => ⟨S32x64x64, .f32⟩
  | 87 => ⟨S_, .f32⟩
  | 88 => ⟨S32x64, .f32⟩
  | 89 => ⟨S32x1x64, .f32⟩
  | 90 => ⟨S32x64x64, .f32⟩
  | 91 => ⟨S32x64x64, .f32⟩
  | 92 => ⟨S_, .f32⟩
  | 93 => ⟨S32x64, .f32⟩
  | 94 => ⟨S32x64x1, .f32⟩
  | 95 => ⟨S_, .f32⟩
  | 96 => ⟨S32x64, .f32⟩
  | 97 => ⟨S_, .f32⟩
  | 98 => ⟨S32x64, .f32⟩
  | 99 => ⟨S32x64x64, .f32⟩
  | 100 => ⟨S_, .f32⟩
  | 101 => ⟨S32x64, .f32⟩
  | 102 => ⟨S32x1x64, .f32⟩
  | 103 => ⟨S32x64x64, .f32⟩
  | 104 => ⟨S32x64x64, .f32⟩
  | 105 => ⟨S_, .f32⟩
  | 106 => ⟨S32x64, .f32⟩
  | 107 => ⟨S32x64, .f32⟩
  | 108 => ⟨S32x64x64, .f32⟩
  | 109 => ⟨S32x64x64, .f32⟩
  | 110 => ⟨S_, .f32⟩
  | 111 => ⟨S32x64, .f32⟩
  | 112 => ⟨S32x1x64, .f32⟩
  | 113 => ⟨S32x64x64, .f32⟩
  | 114 => ⟨S32x64x64, .f32⟩
  | 115 => ⟨S32x64x64, .f32⟩
  | 116 => ⟨S_, .f32⟩
  | 117 => ⟨S32x64, .f32⟩
  | 118 => ⟨S1x32x64, .f32⟩
  | 119 => ⟨S_, .i32⟩
  | 120 => ⟨S_, .i32⟩
  | 121 => ⟨S4096x32x64, .f32⟩
  | 122 => ⟨S1x32x64, .f32⟩
  | 123 => ⟨S_, .i32⟩
  | 124 => ⟨S_, .i32⟩
  | 125 => ⟨S4096x32x64, .f32⟩
  | 126 => ⟨S1x32x64, .f32⟩
  | 127 => ⟨S_, .i32⟩
  | _ => ⟨S4096x2048, .f32⟩

abbrev hbmTy0_2 (i : Nat) : BufTy := match i % 128 with
  | 0 => ⟨S_, .i32⟩
  | 1 => ⟨S4096x32x64, .f32⟩
  | 2 => ⟨S1x32x64, .f32⟩
  | 3 => ⟨S_, .i32⟩
  | 4 => ⟨S_, .i32⟩
  | 5 => ⟨S4096x32x64, .f32⟩
  | 6 => ⟨S1x32x64, .f32⟩
  | 7 => ⟨S_, .i32⟩
  | 8 => ⟨S_, .i32⟩
  | 9 => ⟨S4096x32x64, .f32⟩
  | 10 => ⟨S1x32x64, .f32⟩
  | 11 => ⟨S_, .i32⟩
  | 12 => ⟨S_, .i32⟩
  | 13 => ⟨S4096x32x64, .f32⟩
  | 14 => ⟨S_, .i32⟩
  | 15 => ⟨S_, .i32⟩
  | 16 => ⟨S4096x2048, .f32⟩
  | 17 => ⟨S4096x2048, .f32⟩
  | 18 => ⟨S4096x2048, .f32⟩
  | 19 => ⟨S4096x2048, .f32⟩
  | 20 => ⟨S4096x2048, .f32⟩
  | 21 => ⟨S4096x2048, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_c : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev main_v9_9 : Ref sig .tc := ⟨.hbm, 29, rfl⟩
abbrev main_while0c_c_20 : Ref sig .tc := ⟨.hbm, 30, rfl⟩
abbrev main_while0c_v27 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v27 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_v0 : Ref sig .tc := ⟨.hbm, 38, rfl⟩
abbrev main_while0b_v28 : Ref sig .tc := ⟨.hbm, 39, rfl⟩
abbrev main_while0b_call2_c : Ref sig .tc := ⟨.hbm, 40, rfl⟩
abbrev main_while0b_call2_c_0 : Ref sig .tc := ⟨.hbm, 41, rfl⟩
abbrev main_while0b_call2_v0 : Ref sig .tc := ⟨.hbm, 42, rfl⟩
abbrev main_while0b_v29 : Ref sig .tc := ⟨.hbm, 43, rfl⟩
abbrev main_while0b_call3_c : Ref sig .tc := ⟨.hbm, 44, rfl⟩
abbrev main_while0b_call3_c_0 : Ref sig .tc := ⟨.hbm, 45, rfl⟩
abbrev main_while0b_call3_v0 : Ref sig .tc := ⟨.hbm, 46, rfl⟩
abbrev main_while0b_v30 : Ref sig .tc := ⟨.hbm, 47, rfl⟩
abbrev main_while0b_call4_c : Ref sig .tc := ⟨.hbm, 48, rfl⟩
abbrev main_while0b_call4_c_0 : Ref sig .tc := ⟨.hbm, 49, rfl⟩
abbrev main_while0b_call4_v0 : Ref sig .tc := ⟨.hbm, 50, rfl⟩
abbrev main_while0b_v31 : Ref sig .tc := ⟨.hbm, 51, rfl⟩
abbrev main_while0b_call5_c : Ref sig .tc := ⟨.hbm, 52, rfl⟩
abbrev main_while0b_call5_c_0 : Ref sig .tc := ⟨.hbm, 53, rfl⟩
abbrev main_while0b_call5_v0 : Ref sig .tc := ⟨.hbm, 54, rfl⟩
abbrev main_while0b_v32 : Ref sig .tc := ⟨.hbm, 55, rfl⟩
abbrev main_while0b_v33 : Ref sig .tc := ⟨.hbm, 56, rfl⟩
abbrev main_while0b_v34 : Ref sig .tc := ⟨.hbm, 57, rfl⟩
abbrev main_while0b_v35 : Ref sig .tc := ⟨.hbm, 58, rfl⟩
abbrev main_while0b_cst_20 : Ref sig .tc := ⟨.hbm, 59, rfl⟩
abbrev main_while0b_v36 : Ref sig .tc := ⟨.hbm, 60, rfl⟩
abbrev main_while0b_v37 : Ref sig .tc := ⟨.hbm, 61, rfl⟩
abbrev main_while0b_v38 : Ref sig .tc := ⟨.hbm, 62, rfl⟩
abbrev main_while0b_v39 : Ref sig .tc := ⟨.hbm, 63, rfl⟩
abbrev main_while0b_v40 : Ref sig .tc := ⟨.hbm, 64, rfl⟩
abbrev main_while0b_v41 : Ref sig .tc := ⟨.hbm, 65, rfl⟩
abbrev main_while0b_v42 : Ref sig .tc := ⟨.hbm, 66, rfl⟩
abbrev main_while0b_v43 : Ref sig .tc := ⟨.hbm, 67, rfl⟩
abbrev main_while0b_v44 : Ref sig .tc := ⟨.hbm, 68, rfl⟩
abbrev main_while0b_v45 : Ref sig .tc := ⟨.hbm, 69, rfl⟩
abbrev main_while0b_v46 : Ref sig .tc := ⟨.hbm, 70, rfl⟩
abbrev main_while0b_v47 : Ref sig .tc := ⟨.hbm, 71, rfl⟩
abbrev main_while0b_v48 : Ref sig .tc := ⟨.hbm, 72, rfl⟩
abbrev main_while0b_v49 : Ref sig .tc := ⟨.hbm, 73, rfl⟩
abbrev main_while0b_v50 : Ref sig .tc := ⟨.hbm, 74, rfl⟩
abbrev main_while0b_v51 : Ref sig .tc := ⟨.hbm, 75, rfl⟩
abbrev main_while0b_v52 : Ref sig .tc := ⟨.hbm, 76, rfl⟩
abbrev main_while0b_v53 : Ref sig .tc := ⟨.hbm, 77, rfl⟩
abbrev main_while0b_v54 : Ref sig .tc := ⟨.hbm, 78, rfl⟩
abbrev main_while0b_v55 : Ref sig .tc := ⟨.hbm, 79, rfl⟩
abbrev main_while0b_cst_21 : Ref sig .tc := ⟨.hbm, 80, rfl⟩
abbrev main_while0b_v56 : Ref sig .tc := ⟨.hbm, 81, rfl⟩
abbrev main_while0b_call6_v0 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_v57 : Ref sig .tc := ⟨.hbm, 85, rfl⟩
abbrev main_while0b_call7_v0 : Ref sig .tc := ⟨.hbm, 86, rfl⟩
abbrev main_while0b_call7_c : Ref sig .tc := ⟨.hbm, 87, rfl⟩
abbrev main_while0b_call7_c_0 : Ref sig .tc := ⟨.hbm, 88, rfl⟩
abbrev main_while0b_call7_c_1 : Ref sig .tc := ⟨.hbm, 89, rfl⟩
abbrev main_while0b_v58 : Ref sig .tc := ⟨.hbm, 90, rfl⟩
abbrev main_while0b_c_22 : Ref sig .tc := ⟨.hbm, 91, rfl⟩
abbrev main_while0b_v59 : Ref sig .tc := ⟨.hbm, 92, rfl⟩
abbrev main_v10 : Ref sig .tc := ⟨.hbm, 93, rfl⟩
abbrev main_cst_2 : Ref sig .tc := ⟨.hbm, 94, rfl⟩
abbrev main_v11 : Ref sig .tc := ⟨.hbm, 95, rfl⟩
abbrev main_v12 : Ref sig .tc := ⟨.hbm, 96, rfl⟩
abbrev main_cst_3 : Ref sig .tc := ⟨.hbm, 97, rfl⟩
abbrev main_v13 : Ref sig .tc := ⟨.hbm, 98, rfl⟩
abbrev main_cst_4 : Ref sig .tc := ⟨.hbm, 99, rfl⟩
abbrev main_v14 : Ref sig .tc := ⟨.hbm, 100, rfl⟩
abbrev main_cst_5 : Ref sig .tc := ⟨.hbm, 101, rfl⟩
abbrev main_v15 : Ref sig .tc := ⟨.hbm, 102, rfl⟩
abbrev main_cst_6 : Ref sig .tc := ⟨.hbm, 103, rfl⟩
abbrev main_v16 : Ref sig .tc := ⟨.hbm, 104, rfl⟩
abbrev main_cst_7 : Ref sig .tc := ⟨.hbm, 105, rfl⟩
abbrev main_v17 : Ref sig .tc := ⟨.hbm, 106, rfl⟩
abbrev main_cst_8 : Ref sig .tc := ⟨.hbm, 107, rfl⟩
abbrev main_v18 : Ref sig .tc := ⟨.hbm, 108, rfl⟩
abbrev main_cst_9 : Ref sig .tc := ⟨.hbm, 109, rfl⟩
abbrev main_v19 : Ref sig .tc := ⟨.hbm, 110, rfl⟩
abbrev main_c_10 : Ref sig .tc := ⟨.hbm, 111, rfl⟩
abbrev main_v20_0 : Ref sig .tc := ⟨.hbm, 112, rfl⟩
abbrev main_v20_1 : Ref sig .tc := ⟨.hbm, 113, rfl⟩
abbrev main_v20_2 : Ref sig .tc := ⟨.hbm, 114, rfl⟩
abbrev main_v20_3 : Ref sig .tc := ⟨.hbm, 115, rfl⟩
abbrev main_v20_4 : Ref sig .tc := ⟨.hbm, 116, rfl⟩
abbrev main_v20_5 : Ref sig .tc := ⟨.hbm, 117, rfl⟩
abbrev main_v20_6 : Ref sig .tc := ⟨.hbm, 118, rfl⟩
abbrev main_v20_7 : Ref sig .tc := ⟨.hbm, 119, rfl⟩
abbrev main_v20_8 : Ref sig .tc := ⟨.hbm, 120, rfl⟩
abbrev main_v20_9 : Ref sig .tc := ⟨.hbm, 121, rfl⟩
abbrev main_v20_10 : Ref sig .tc := ⟨.hbm, 122, rfl⟩
abbrev main_v20_11 : Ref sig .tc := ⟨.hbm, 123, rfl⟩
abbrev main_v20_12 : Ref sig .tc := ⟨.hbm, 124, rfl⟩
abbrev main_v20_13 : Ref sig .tc := ⟨.hbm, 125, rfl⟩
abbrev main_v20_14 : Ref sig .tc := ⟨.hbm, 126, rfl⟩
abbrev main_v20_15 : Ref sig .tc := ⟨.hbm, 127, rfl⟩
abbrev main_while1c_c_26 : Ref sig .tc := ⟨.hbm, 128, rfl⟩
abbrev main_while1c_v27 : Ref sig .tc := ⟨.hbm, 129, rfl⟩
abbrev main_while1b_c_26 : Ref sig .tc := ⟨.hbm, 130, rfl⟩
abbrev main_while1b_v27 : Ref sig .tc := ⟨.hbm, 131, rfl⟩
abbrev main_while1b_c_27 : Ref sig .tc := ⟨.hbm, 132, rfl⟩
abbrev main_while1b_v28 : Ref sig .tc := ⟨.hbm, 133, rfl⟩
abbrev main_while1b_call8_c : Ref sig .tc := ⟨.hbm, 134, rfl⟩
abbrev main_while1b_call8_c_0 : Ref sig .tc := ⟨.hbm, 135, rfl⟩
abbrev main_while1b_call8_v0 : Ref sig .tc := ⟨.hbm, 136, rfl⟩
abbrev main_while1b_v29 : Ref sig .tc := ⟨.hbm, 137, rfl⟩
abbrev main_while1b_call9_c : Ref sig .tc := ⟨.hbm, 138, rfl⟩
abbrev main_while1b_call9_c_0 : Ref sig .tc := ⟨.hbm, 139, rfl⟩
abbrev main_while1b_call9_c_1 : Ref sig .tc := ⟨.hbm, 140, rfl⟩
abbrev main_while1b_call9_v0 : Ref sig .tc := ⟨.hbm, 141, rfl⟩
abbrev main_while1b_v30 : Ref sig .tc := ⟨.hbm, 142, rfl⟩
abbrev main_while1b_call10_c : Ref sig .tc := ⟨.hbm, 143, rfl⟩
abbrev main_while1b_call10_c_0 : Ref sig .tc := ⟨.hbm, 144, rfl⟩
abbrev main_while1b_call10_v0 : Ref sig .tc := ⟨.hbm, 145, rfl⟩
abbrev main_while1b_v31 : Ref sig .tc := ⟨.hbm, 146, rfl⟩
abbrev main_while1b_call11_c : Ref sig .tc := ⟨.hbm, 147, rfl⟩
abbrev main_while1b_call11_c_0 : Ref sig .tc := ⟨.hbm, 148, rfl⟩
abbrev main_while1b_call11_v0 : Ref sig .tc := ⟨.hbm, 149, rfl⟩
abbrev main_while1b_v32 : Ref sig .tc := ⟨.hbm, 150, rfl⟩
abbrev main_while1b_call12_c : Ref sig .tc := ⟨.hbm, 151, rfl⟩
abbrev main_while1b_call12_c_0 : Ref sig .tc := ⟨.hbm, 152, rfl⟩
abbrev main_while1b_call12_v0 : Ref sig .tc := ⟨.hbm, 153, rfl⟩
abbrev main_while1b_v33 : Ref sig .tc := ⟨.hbm, 154, rfl⟩
abbrev main_while1b_call13_c : Ref sig .tc := ⟨.hbm, 155, rfl⟩
abbrev main_while1b_call13_c_0 : Ref sig .tc := ⟨.hbm, 156, rfl⟩
abbrev main_while1b_call13_v0 : Ref sig .tc := ⟨.hbm, 157, rfl⟩
abbrev main_while1b_v34 : Ref sig .tc := ⟨.hbm, 158, rfl⟩
abbrev main_while1b_call14_c : Ref sig .tc := ⟨.hbm, 159, rfl⟩
abbrev main_while1b_call14_c_0 : Ref sig .tc := ⟨.hbm, 160, rfl⟩
abbrev main_while1b_call14_v0 : Ref sig .tc := ⟨.hbm, 161, rfl⟩
abbrev main_while1b_v35 : Ref sig .tc := ⟨.hbm, 162, rfl⟩
abbrev main_while1b_call15_c : Ref sig .tc := ⟨.hbm, 163, rfl⟩
abbrev main_while1b_call15_c_0 : Ref sig .tc := ⟨.hbm, 164, rfl⟩
abbrev main_while1b_call15_v0 : Ref sig .tc := ⟨.hbm, 165, rfl⟩
abbrev main_while1b_v36 : Ref sig .tc := ⟨.hbm, 166, rfl⟩
abbrev main_while1b_v37 : Ref sig .tc := ⟨.hbm, 167, rfl⟩
abbrev main_while1b_v38 : Ref sig .tc := ⟨.hbm, 168, rfl⟩
abbrev main_while1b_v39 : Ref sig .tc := ⟨.hbm, 169, rfl⟩
abbrev main_while1b_cst_28 : Ref sig .tc := ⟨.hbm, 170, rfl⟩
abbrev main_while1b_v40 : Ref sig .tc := ⟨.hbm, 171, rfl⟩
abbrev main_while1b_v41 : Ref sig .tc := ⟨.hbm, 172, rfl⟩
abbrev main_while1b_v42 : Ref sig .tc := ⟨.hbm, 173, rfl⟩
abbrev main_while1b_v43 : Ref sig .tc := ⟨.hbm, 174, rfl⟩
abbrev main_while1b_v44 : Ref sig .tc := ⟨.hbm, 175, rfl⟩
abbrev main_while1b_v45 : Ref sig .tc := ⟨.hbm, 176, rfl⟩
abbrev main_while1b_v46 : Ref sig .tc := ⟨.hbm, 177, rfl⟩
abbrev main_while1b_v47 : Ref sig .tc := ⟨.hbm, 178, rfl⟩
abbrev main_while1b_v48 : Ref sig .tc := ⟨.hbm, 179, rfl⟩
abbrev main_while1b_v49 : Ref sig .tc := ⟨.hbm, 180, rfl⟩
abbrev main_while1b_v50 : Ref sig .tc := ⟨.hbm, 181, rfl⟩
abbrev main_while1b_v51 : Ref sig .tc := ⟨.hbm, 182, rfl⟩
abbrev main_while1b_v52 : Ref sig .tc := ⟨.hbm, 183, rfl⟩
abbrev main_while1b_v53 : Ref sig .tc := ⟨.hbm, 184, rfl⟩
abbrev main_while1b_v54 : Ref sig .tc := ⟨.hbm, 185, rfl⟩
abbrev main_while1b_v55 : Ref sig .tc := ⟨.hbm, 186, rfl⟩
abbrev main_while1b_v56 : Ref sig .tc := ⟨.hbm, 187, rfl⟩
abbrev main_while1b_v57 : Ref sig .tc := ⟨.hbm, 188, rfl⟩
abbrev main_while1b_v58 : Ref sig .tc := ⟨.hbm, 189, rfl⟩
abbrev main_while1b_v59 : Ref sig .tc := ⟨.hbm, 190, rfl⟩
abbrev main_while1b_cst_29 : Ref sig .tc := ⟨.hbm, 191, rfl⟩
abbrev main_while1b_v60 : Ref sig .tc := ⟨.hbm, 192, rfl⟩
abbrev main_while1b_v61 : Ref sig .tc := ⟨.hbm, 193, rfl⟩
abbrev main_while1b_v62 : Ref sig .tc := ⟨.hbm, 194, rfl⟩
abbrev main_while1b_v63 : Ref sig .tc := ⟨.hbm, 195, rfl⟩
abbrev main_while1b_v64 : Ref sig .tc := ⟨.hbm, 196, rfl⟩
abbrev main_while1b_cst_30 : Ref sig .tc := ⟨.hbm, 197, rfl⟩
abbrev main_while1b_v65 : Ref sig .tc := ⟨.hbm, 198, rfl⟩
abbrev main_while1b_v66 : Ref sig .tc := ⟨.hbm, 199, rfl⟩
abbrev main_while1b_v67 : Ref sig .tc := ⟨.hbm, 200, rfl⟩
abbrev main_while1b_cst_31 : Ref sig .tc := ⟨.hbm, 201, rfl⟩
abbrev main_while1b_v68 : Ref sig .tc := ⟨.hbm, 202, rfl⟩
abbrev main_while1b_v69 : Ref sig .tc := ⟨.hbm, 203, rfl⟩
abbrev main_while1b_v70 : Ref sig .tc := ⟨.hbm, 204, rfl⟩
abbrev main_while1b_v71 : Ref sig .tc := ⟨.hbm, 205, rfl⟩
abbrev main_while1b_cst_32 : Ref sig .tc := ⟨.hbm, 206, rfl⟩
abbrev main_while1b_v72 : Ref sig .tc := ⟨.hbm, 207, rfl⟩
abbrev main_while1b_v73 : Ref sig .tc := ⟨.hbm, 208, rfl⟩
abbrev main_while1b_cst_33 : Ref sig .tc := ⟨.hbm, 209, rfl⟩
abbrev main_while1b_v74 : Ref sig .tc := ⟨.hbm, 210, rfl⟩
abbrev main_while1b_cst_34 : Ref sig .tc := ⟨.hbm, 211, rfl⟩
abbrev main_while1b_v75 : Ref sig .tc := ⟨.hbm, 212, rfl⟩
abbrev main_while1b_v76 : Ref sig .tc := ⟨.hbm, 213, rfl⟩
abbrev main_while1b_v77 : Ref sig .tc := ⟨.hbm, 214, rfl⟩
abbrev main_while1b_cst_35 : Ref sig .tc := ⟨.hbm, 215, rfl⟩
abbrev main_while1b_v78 : Ref sig .tc := ⟨.hbm, 216, rfl⟩
abbrev main_while1b_v79 : Ref sig .tc := ⟨.hbm, 217, rfl⟩
abbrev main_while1b_v80 : Ref sig .tc := ⟨.hbm, 218, rfl⟩
abbrev main_while1b_v81 : Ref sig .tc := ⟨.hbm, 219, rfl⟩
abbrev main_while1b_cst_36 : Ref sig .tc := ⟨.hbm, 220, rfl⟩
abbrev main_while1b_v82 : Ref sig .tc := ⟨.hbm, 221, rfl⟩
abbrev main_while1b_v83 : Ref sig .tc := ⟨.hbm, 222, rfl⟩
abbrev main_while1b_cst_37 : Ref sig .tc := ⟨.hbm, 223, rfl⟩
abbrev main_while1b_v84 : Ref sig .tc := ⟨.hbm, 224, rfl⟩
abbrev main_while1b_cst_38 : Ref sig .tc := ⟨.hbm, 225, rfl⟩
abbrev main_while1b_v85 : Ref sig .tc := ⟨.hbm, 226, rfl⟩
abbrev main_while1b_v86 : Ref sig .tc := ⟨.hbm, 227, rfl⟩
abbrev main_while1b_cst_39 : Ref sig .tc := ⟨.hbm, 228, rfl⟩
abbrev main_while1b_v87 : Ref sig .tc := ⟨.hbm, 229, rfl⟩
abbrev main_while1b_v88 : Ref sig .tc := ⟨.hbm, 230, rfl⟩
abbrev main_while1b_v89 : Ref sig .tc := ⟨.hbm, 231, rfl⟩
abbrev main_while1b_v90 : Ref sig .tc := ⟨.hbm, 232, rfl⟩
abbrev main_while1b_cst_40 : Ref sig .tc := ⟨.hbm, 233, rfl⟩
abbrev main_while1b_v91 : Ref sig .tc := ⟨.hbm, 234, rfl⟩
abbrev main_while1b_v92 : Ref sig .tc := ⟨.hbm, 235, rfl⟩
abbrev main_while1b_v93 : Ref sig .tc := ⟨.hbm, 236, rfl⟩
abbrev main_while1b_v94 : Ref sig .tc := ⟨.hbm, 237, rfl⟩
abbrev main_while1b_cst_41 : Ref sig .tc := ⟨.hbm, 238, rfl⟩
abbrev main_while1b_v95 : Ref sig .tc := ⟨.hbm, 239, rfl⟩
abbrev main_while1b_v96 : Ref sig .tc := ⟨.hbm, 240, rfl⟩
abbrev main_while1b_v97 : Ref sig .tc := ⟨.hbm, 241, rfl⟩
abbrev main_while1b_v98 : Ref sig .tc := ⟨.hbm, 242, rfl⟩
abbrev main_while1b_v99 : Ref sig .tc := ⟨.hbm, 243, rfl⟩
abbrev main_while1b_cst_42 : Ref sig .tc := ⟨.hbm, 244, rfl⟩
abbrev main_while1b_v100 : Ref sig .tc := ⟨.hbm, 245, rfl⟩
abbrev main_while1b_call16_v0 : Ref sig .tc := ⟨.hbm, 246, rfl⟩
abbrev main_while1b_call16_c : Ref sig .tc := ⟨.hbm, 247, rfl⟩
abbrev main_while1b_call16_c_0 : Ref sig .tc := ⟨.hbm, 248, rfl⟩
abbrev main_while1b_v101 : Ref sig .tc := ⟨.hbm, 249, rfl⟩
abbrev main_while1b_call17_v0 : Ref sig .tc := ⟨.hbm, 250, rfl⟩
abbrev main_while1b_call17_c : Ref sig .tc := ⟨.hbm, 251, rfl⟩
abbrev main_while1b_call17_c_0 : Ref sig .tc := ⟨.hbm, 252, rfl⟩
abbrev main_while1b_v102 : Ref sig .tc := ⟨.hbm, 253, rfl⟩
abbrev main_while1b_call18_v0 : Ref sig .tc := ⟨.hbm, 254, rfl⟩
abbrev main_while1b_call18_c : Ref sig .tc := ⟨.hbm, 255, rfl⟩
abbrev main_while1b_call18_c_0 : Ref sig .tc := ⟨.hbm, 256, rfl⟩
abbrev main_while1b_v103 : Ref sig .tc := ⟨.hbm, 257, rfl⟩
abbrev main_while1b_call19_v0 : Ref sig .tc := ⟨.hbm, 258, rfl⟩
abbrev main_while1b_call19_c : Ref sig .tc := ⟨.hbm, 259, rfl⟩
abbrev main_while1b_call19_c_0 : Ref sig .tc := ⟨.hbm, 260, rfl⟩
abbrev main_while1b_v104 : Ref sig .tc := ⟨.hbm, 261, rfl⟩
abbrev main_while1b_call20_v0 : Ref sig .tc := ⟨.hbm, 262, rfl⟩
abbrev main_while1b_call20_c : Ref sig .tc := ⟨.hbm, 263, rfl⟩
abbrev main_while1b_call20_c_0 : Ref sig .tc := ⟨.hbm, 264, rfl⟩
abbrev main_while1b_v105 : Ref sig .tc := ⟨.hbm, 265, rfl⟩
abbrev main_while1b_call21_v0 : Ref sig .tc := ⟨.hbm, 266, rfl⟩
abbrev main_while1b_call21_c : Ref sig .tc := ⟨.hbm, 267, rfl⟩
abbrev main_while1b_call21_c_0 : Ref sig .tc := ⟨.hbm, 268, rfl⟩
abbrev main_while1b_v106 : Ref sig .tc := ⟨.hbm, 269, rfl⟩
abbrev main_while1b_c_43 : Ref sig .tc := ⟨.hbm, 270, rfl⟩
abbrev main_while1b_v107 : Ref sig .tc := ⟨.hbm, 271, rfl⟩
abbrev main_v21 : Ref sig .tc := ⟨.hbm, 272, rfl⟩
abbrev main_v22 : Ref sig .tc := ⟨.hbm, 273, rfl⟩
abbrev main_v23 : Ref sig .tc := ⟨.hbm, 274, rfl⟩
abbrev main_v24 : Ref sig .tc := ⟨.hbm, 275, rfl⟩
abbrev main_v25 : Ref sig .tc := ⟨.hbm, 276, rfl⟩
abbrev main_v26 : Ref sig .tc := ⟨.hbm, 277, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== Kernel2.lean ====
abbrev S4096x4096 : Shape := ⟨2, ![4096, 4096]⟩
abbrev S4096x23552 : Shape := ⟨2, ![4096, 23552]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x23552, .bf16⟩
  | .hbm, ⟨2, _⟩ => ⟨S4096x23552, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 23, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩
abbrev S4096x23552 : Shape := ⟨2, ![4096, 23552]⟩
abbrev S_ : Shape := ⟨0, ![]⟩
abbrev S23552x4096 : Shape := ⟨2, ![23552, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x23552, .bf16⟩
  | .hbm, ⟨2, _⟩ => ⟨S_, .f32⟩
  | .hbm, ⟨3, _⟩ => ⟨S4096x23552, .f32⟩
  | .hbm, ⟨4, _⟩ => ⟨S4096x4096, .f32⟩
  | .hbm, ⟨5, _⟩ => ⟨S4096x23552, .f32⟩
  | .hbm, ⟨6, _⟩ => ⟨S4096x23552, .f32⟩
  | .hbm, ⟨7, _⟩ => ⟨S23552x4096, .f32⟩
  | .hbm, ⟨8, _⟩ => ⟨S4096x23552, .f32⟩
  | .hbm, ⟨9, _⟩ => ⟨S4096x23552, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4x4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x16384 : Shape := ⟨2, ![4096, 16384]⟩
abbrev S_ : Shape := ⟨0, ![]⟩
abbrev S16384x4096 : Shape := ⟨2, ![16384, 4096]⟩
abbrev S4096x4x4096 : Shape := ⟨3, ![4096, 4, 4096]⟩
abbrev S4x4096x4096 : Shape := ⟨3, ![4, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S_, .f32⟩
  | .hbm, ⟨3, _⟩ => ⟨S4096x16384, .f32⟩
  | .hbm, ⟨4, _⟩ => ⟨S4096x4096, .f32⟩
  | .hbm, ⟨5, _⟩ => ⟨S4096x16384, .f32⟩
  | .hbm, ⟨6, _⟩ => ⟨S4096x16384, .f32⟩
  | .hbm, ⟨7, _⟩ => ⟨S16384x4096, .f32⟩
  | .hbm, ⟨8, _⟩ => ⟨S4096x16384, .f32⟩
  | .hbm, ⟨9, _⟩ => ⟨S4096x16384, .bf16⟩
  | .hbm, ⟨10, _⟩ => ⟨S4096x4x4096, .bf16⟩
  | .hbm, ⟨11, _⟩ => ⟨S4x4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x16384 : Shape := ⟨2, ![4096, 16384]⟩
abbrev S4096x4096 : Shape := ⟨2, ![4096, 4096]⟩
abbrev S16384x4096 : Shape := ⟨2, ![16384, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S16384x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x16384 : Shape := ⟨2, ![4096, 16384]⟩
abbrev S4096x4096 : Shape := ⟨2, ![4096, 4096]⟩
abbrev S_ : Shape := ⟨0, ![]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S_, .f32⟩
  | .hbm, ⟨3, _⟩ => ⟨S16384x4096, .f32⟩
  | .hbm, ⟨4, _⟩ => ⟨S4096x16384, .f32⟩
  | .hbm, ⟨5, _⟩ => ⟨S4096x4096, .f32⟩
  | .hbm, ⟨6, _⟩ => ⟨S4096x4096, .f32⟩
  | .hbm, ⟨7, _⟩ => ⟨S4096x16384, .f32⟩
  | .hbm, ⟨8, _⟩ => ⟨S16384x4096, .f32⟩
  | .hbm, ⟨9, _⟩ => ⟨S16384x4096, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x4096 : Shape := ⟨2, ![4096, 4096]⟩
abbrev S4096x23552 : Shape := ⟨2, ![4096, 23552]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x23552, .bf16⟩
  | .hbm, ⟨2, _⟩ => ⟨S4096x23552, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 23, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S4096x23552 : Shape := ⟨2, ![4096, 23552]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x23552, .bf16⟩
  | .hbm, ⟨2, _⟩ => ⟨S4096x4096, .f32⟩
  | .hbm, ⟨3, _⟩ => ⟨S4096x23552, .f32⟩
  | .hbm, ⟨4, _⟩ => ⟨S4096x23552, .f32⟩
  | .hbm, ⟨5, _⟩ => ⟨S4096x23552, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S4096x4096 : Shape := ⟨2, ![4096, 4096]⟩
abbrev S16384x4096 : Shape := ⟨2, ![16384, 4096]⟩
abbrev S4096x16384 : Shape := ⟨2, ![4096, 16384]⟩
abbrev S1024x4096 : Shape := ⟨2, ![1024, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .hbm, ⟨3, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x4096 : Shape := ⟨2, ![4096, 4096]⟩
abbrev S16384x4096 : Shape := ⟨2, ![16384, 4096]⟩
abbrev S4096x16384 : Shape := ⟨2, ![4096, 16384]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x16384, .f32⟩
  | .hbm, ⟨8, _⟩ => ⟨S4096x16384, .i1⟩
  | .hbm, ⟨9, _⟩ => ⟨S_, .f32⟩
  | .hbm, ⟨10, _⟩ => ⟨S4096x16384, .f32⟩
  | .hbm, ⟨11, _⟩ => ⟨S4096x16384, .i1⟩
  | .hbm, ⟨12, _⟩ => ⟨S_, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S_, .f32⟩
  | .hbm, ⟨17, _⟩ => ⟨S4096x16384, .f32⟩
  | .hbm, ⟨18, _⟩ => ⟨S4096x16384, .f32⟩
  | .hbm, ⟨19, _⟩ => ⟨S4096x16384, .f32⟩
  | .hbm, ⟨20, _⟩ => ⟨S4096x16384, .f32⟩
  | .hbm, ⟨21, _⟩ => ⟨S_, .f32⟩
  | .hbm, ⟨22, _⟩ => ⟨S4096x16384, .f32⟩
  | .hbm, ⟨23, _⟩ => ⟨S4096x16384, .f32⟩
  | .hbm, ⟨24, _⟩ => ⟨S16384x4096, .f32⟩
  | .hbm, ⟨25, _⟩ => ⟨S4096x4096, .f32⟩
  | .hbm, ⟨26, _⟩ => ⟨S4096x4096, .f32⟩
  | .hbm, ⟨27, _⟩ => ⟨S4096x16384, .f32⟩
  | .hbm, ⟨28, _⟩ => ⟨S4096x16384, .f32⟩
  | .hbm, ⟨29, _⟩ => ⟨S4096x16384, .f32⟩
  | .hbm, ⟨30, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel7.lean ====
abbrev S4096x4096 : Shape := ⟨2, ![4096, 4096]⟩
abbrev S4x4096x4096 : Shape := ⟨3, ![4, 4096, 4096]⟩
abbrev S4096x16384 : Shape := ⟨2, ![4096, 16384]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4096x16384, .f32⟩
  | .hbm, ⟨3, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x4096 : Shape := ⟨2, ![4096, 4096]⟩
abbrev S4x4096x4096 : Shape := ⟨3, ![4, 4096, 4096]⟩
abbrev S4096x4x4096 : Shape := ⟨3, ![4096, 4, 4096]⟩
abbrev S4096x16384 : Shape := ⟨2, ![4096, 16384]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4096x4x4096, .bf16⟩
  | .hbm, ⟨3, _⟩ => ⟨S4096x16384, .bf16⟩
  | .hbm, ⟨4, _⟩ => ⟨S4096x4096, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .f32⟩
  | .hbm, ⟨10, _⟩ => ⟨S4096x16384, .f32⟩
  | .hbm, ⟨11, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x23552 : Shape := ⟨2, ![4096, 23552]⟩
abbrev S4096x4096 : Shape := ⟨2, ![4096, 4096]⟩
abbrev S1024x2944 : Shape := ⟨2, ![1024, 2944]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x23552, .bf16⟩
  | .hbm, ⟨1, _⟩ => ⟨S4096x23552, .bf16⟩
  | .hbm, ⟨2, _⟩ => ⟨S4096x4096, .f32⟩
  | .local _ .vmem, ⟨0, _⟩ => ⟨S1024x2944, .bf16⟩
  | .local _ .vmem, ⟨1, _⟩ => ⟨S1024x2944, .bf16⟩
  | .local _ .vmem, ⟨2, _⟩ => ⟨S1024x2944, .bf16⟩
  | .local _ .vmem, ⟨3, _⟩ => ⟨S1024x2944, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x23552, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x23552 : Shape := ⟨2, ![4096, 23552]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x23552, .bf16⟩
  | .hbm, ⟨1, _⟩ => ⟨S4096x23552, .bf16⟩
  | .hbm, ⟨2, _⟩ => ⟨S_, .f32⟩
  | .hbm, ⟨3, _⟩ => ⟨S4096x4096, .f32⟩
  | .hbm, ⟨4, _⟩ => ⟨S4096x23552, .f32⟩
  | .hbm, ⟨5, _⟩ => ⟨S4096x23552, .f32⟩
  | .hbm, ⟨6, _⟩ => ⟨S4096x23552, .f32⟩
  | .hbm, ⟨7, _⟩ => ⟨S4096x4096, .f32⟩
  | _, _ => ⟨S4096x23552, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x16384 : Shape := ⟨2, ![4096, 16384]⟩
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Body0.lean ====
module

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's test of the grid's second coordinate: the chain's first point. -/
abbrev fwdCond (i : grid0.Coords) : Prop := (Scalar.cmpi .ne (Scalar.extui (Scalar.cmpi .eq (BitVec.ofNat 32 (i 1).val) 0#32)) 0#32) = 1#1

theorem fwdCond_iff : ∀ t : Fin cfg0.N, fwdCond (grid0.coords t) ↔ t.val % 32 = 0 :=
  (fun t => by
    have ht : t.val < 32 := Nat.lt_of_lt_of_eq t.isLt N_0
    have e0 : (grid0.coords t 0).val = t.val / 32 % 1 := Pipeline.Grid.coords_val t 0 (by decide) rfl
    have e1 : (grid0.coords t 1).val = t.val / 1 % 32 := Pipeline.Grid.coords_val t 1 (by decide) rfl
    simp only [fwdCond, e0, e1]
    word_cmp
   : ∀ t : Fin grid0.N, fwdCond (grid0.coords t) ↔ t.val % 32 = 0)

set_option maxHeartbeats 2000000 in
/-- The body's whole run at the first point of the chain, its scratch cleared first: what it stores into
    each output and into the scratch, as the lists of pieces the run finds. -/
def fwdFirst (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2x128x128 .f32) (harg9 : arg9.IsWhole) (arg10 : Memref sig .tc .vmem S16x128x128 .f32) (harg10 : arg10.IsWhole)
    (hc : fwdCond i) (x0 : Vec F S128x2048 .f32) (x1 : Vec F S128x2048 .f32) (x2 : Vec F S128x2048 .f32) (x3 : Vec F S128x2048 .f32) (x4 : Vec F S128x2048 .f32) (x5 : Vec F S128x2048 .f32) :
    Σ' (L0 : List (View.Piece (Elt F) S128x2048 .f32)) (L1 : List (View.Piece (Elt F) S16x2x128x128 .f32)) (L2 : List (View.Piece (Elt F) S16x128x128 .f32)), ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L0) ∗ (∃ f, arg9.view.loc (c : Thread nD τ) ↦[arg9.view.set]{fullShare} arg9.view.writes (Elt F) f L1) ∗ (∃ f, arg10.view.loc (c : Thread nD τ) ↦[arg10.view.set]{fullShare} arg10.view.writes (Elt F) f L2)) -∗ K ⟨⟩))
          ⊢ wp frame (wpE (defs₀ (F := F)) Variants.none c none) E (cc0_rwkv_rec_fwd i arg2 harg2 arg3 harg3 arg4 harg4 arg5 harg5 arg6 harg6 arg7 harg7 arg8 harg8 arg9 harg9 arg10 harg10) K := by
  refine ⟨?_, ?_, ?_, fun E K => ?run⟩
  case run =>
    simp only [cc0_rwkv_rec_fwd_eq_skeleton]; unfold cc0_rwkv_rec_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

set_option maxHeartbeats 2000000 in
/-- The body's whole run at a later point, from the scratch as the point before left it: what it stores into
    each output and into the scratch, as the lists of pieces the run finds. -/
def fwdNext (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2x128x128 .f32) (harg9 : arg9.IsWhole) (arg10 : Memref sig .tc .vmem S16x128x128 .f32) (harg10 : arg10.IsWhole)
    (hc : ¬fwdCond i) (x0 : Vec F S128x2048 .f32) (x1 : Vec F S128x2048 .f32) (x2 : Vec F S128x2048 .f32) (x3 : Vec F S128x2048 .f32) (x4 : Vec F S128x2048 .f32) (x5 : Vec F S128x2048 .f32) (xs : Vec F S16x128x128 .f32) :
    Σ' (L0 : List (View.Piece (Elt F) S128x2048 .f32)) (L1 : List (View.Piece (Elt F) S16x2x128x128 .f32)) (L2 : List (View.Piece (Elt F) S16x128x128 .f32)), ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L0) ∗ (∃ f, arg9.view.loc (c : Thread nD τ) ↦[arg9.view.set]{fullShare} arg9.view.writes (Elt F) f L1) ∗ (∃ f, arg10.view.loc (c : Thread nD τ) ↦[arg10.view.set]{fullShare} arg10.view.writes (Elt F) f L2)) -∗ K ⟨⟩))
          ⊢ wp frame (wpE (defs₀ (F := F)) Variants.none c none) E (cc0_rwkv_rec_fwd i arg2 harg2 arg3 harg3 arg4 harg4 arg5 harg5 arg6 harg6 arg7 harg7 arg8 harg8 arg9 harg9 arg10 harg10) K := by
  refine ⟨?_, ?_, ?_, fun E K => ?run⟩
  case run =>
    simp only [cc0_rwkv_rec_fwd_eq_skeleton]; unfold cc0_rwkv_rec_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

end Cert.KernelIdeal.Rec

end
-- ==== Proof.Data0.lean ====
module

public import proofs.«01_k».proof.Proof.Body0

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (W : Dev nD → Valuation τ sig (Elt F))

/-- Window `w`'s block of the array it is over, as the region finds that array. -/
def fwdBlk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

abbrev fwdM0 (t : Fin cfg0.N) : Memref sig .tc .vmem S128x2048 .f32 := win0_0.stage (cfg0.slots t 0)
abbrev fwdMW0 (t : Fin cfg0.N) : (fwdM0 t).IsWhole := hstage0_0 ((cfg0.slots t 0).cast nbuf0_0)
abbrev fwdM1 (t : Fin cfg0.N) : Memref sig .tc .vmem S128x2048 .f32 := win0_1.stage (cfg0.slots t 1)
abbrev fwdMW1 (t : Fin cfg0.N) : (fwdM1 t).IsWhole := hstage0_1 ((cfg0.slots t 1).cast nbuf0_1)
abbrev fwdM2 (t : Fin cfg0.N) : Memref sig .tc .vmem S128x2048 .f32 := win0_2.stage (cfg0.slots t 2)
abbrev fwdMW2 (t : Fin cfg0.N) : (fwdM2 t).IsWhole := hstage0_2 ((cfg0.slots t 2).cast nbuf0_2)
abbrev fwdM3 (t : Fin cfg0.N) : Memref sig .tc .vmem S128x2048 .f32 := win0_3.stage (cfg0.slots t 3)
abbrev fwdMW3 (t : Fin cfg0.N) : (fwdM3 t).IsWhole := hstage0_3 ((cfg0.slots t 3).cast nbuf0_3)
abbrev fwdM4 (t : Fin cfg0.N) : Memref sig .tc .vmem S128x2048 .f32 := win0_4.stage (cfg0.slots t 4)
abbrev fwdMW4 (t : Fin cfg0.N) : (fwdM4 t).IsWhole := hstage0_4 ((cfg0.slots t 4).cast nbuf0_4)
abbrev fwdM5 (t : Fin cfg0.N) : Memref sig .tc .vmem S128x2048 .f32 := win0_5.stage (cfg0.slots t 5)
abbrev fwdMW5 (t : Fin cfg0.N) : (fwdM5 t).IsWhole := hstage0_5 ((cfg0.slots t 5).cast nbuf0_5)
abbrev fwdM6 (t : Fin cfg0.N) : Memref sig .tc .vmem S128x2048 .f32 := win0_6.stage (cfg0.slots t 6)
abbrev fwdMW6 (t : Fin cfg0.N) : (fwdM6 t).IsWhole := hstage0_6 ((cfg0.slots t 6).cast nbuf0_6)
abbrev fwdM7 (t : Fin cfg0.N) : Memref sig .tc .vmem S16x2x128x128 .f32 := win0_7.stage (cfg0.slots t 7)
abbrev fwdMW7 (t : Fin cfg0.N) : (fwdM7 t).IsWhole := hstage0_7 ((cfg0.slots t 7).cast nbuf0_7)
abbrev fwdScr : Memref sig .tc .vmem S16x128x128 .f32 := Memref.whole cc0_scratch0

/-- What one point leaves: each output's block and the scratch. -/
structure FwdOut (F : FTy → Type) [FloatOps F] where
  o0 : Vec F S128x2048 .f32
  o1 : Vec F S16x2x128x128 .f32
  st : Vec F S16x128x128 .f32

/-- Pieces written over anything, read back. -/
def fwdRead {sh : Shape} (a : Memref sig .tc .vmem sh .f32) (L : List (View.Piece (Elt F) sh .f32)) : Vec F sh .f32 :=
  a.view.read (Elt F) (a.view.writes (Elt F) a.view.junk L)

/-- The first point's outputs. -/
def fwdOutA (c : Dev nD) (t : Fin cfg0.N) (hc : fwdCond (grid0.coords t)) : FwdOut F :=
  ⟨fwdRead (fwdM6 t) (fwdFirst c (grid0.coords t) (fwdM0 t) (fwdMW0 t) (fwdM1 t) (fwdMW1 t) (fwdM2 t) (fwdMW2 t) (fwdM3 t) (fwdMW3 t) (fwdM4 t) (fwdMW4 t) (fwdM5 t) (fwdMW5 t) (fwdM6 t) (fwdMW6 t) (fwdM7 t) (fwdMW7 t) fwdScr (Memref.isWhole_whole _) hc (fwdBlk W c 0 t) (fwdBlk W c 1 t) (fwdBlk W c 2 t) (fwdBlk W c 3 t) (fwdBlk W c 4 t) (fwdBlk W c 5 t)).1, fwdRead (fwdM7 t) (fwdFirst c (grid0.coords t) (fwdM0 t) (fwdMW0 t) (fwdM1 t) (fwdMW1 t) (fwdM2 t) (fwdMW2 t) (fwdM3 t) (fwdMW3 t) (fwdM4 t) (fwdMW4 t) (fwdM5 t) (fwdMW5 t) (fwdM6 t) (fwdMW6 t) (fwdM7 t) (fwdMW7 t) fwdScr (Memref.isWhole_whole _) hc (fwdBlk W c 0 t) (fwdBlk W c 1 t) (fwdBlk W c 2 t) (fwdBlk W c 3 t) (fwdBlk W c 4 t) (fwdBlk W c 5 t)).2.1, fwdRead fwdScr (fwdFirst c (grid0.coords t) (fwdM0 t) (fwdMW0 t) (fwdM1 t) (fwdMW1 t) (fwdM2 t) (fwdMW2 t) (fwdM3 t) (fwdMW3 t) (fwdM4 t) (fwdMW4 t) (fwdM5 t) (fwdMW5 t) (fwdM6 t) (fwdMW6 t) (fwdM7 t) (fwdMW7 t) fwdScr (Memref.isWhole_whole _) hc (fwdBlk W c 0 t) (fwdBlk W c 1 t) (fwdBlk W c 2 t) (fwdBlk W c 3 t) (fwdBlk W c 4 t) (fwdBlk W c 5 t)).2.2.1⟩

/-- A later point's outputs, from the scratch `xs`. -/
def fwdOutB (c : Dev nD) (t : Fin cfg0.N) (hc : ¬fwdCond (grid0.coords t)) (xs : Vec F S16x128x128 .f32) : FwdOut F :=
  ⟨fwdRead (fwdM6 t) (fwdNext c (grid0.coords t) (fwdM0 t) (fwdMW0 t) (fwdM1 t) (fwdMW1 t) (fwdM2 t) (fwdMW2 t) (fwdM3 t) (fwdMW3 t) (fwdM4 t) (fwdMW4 t) (fwdM5 t) (fwdMW5 t) (fwdM6 t) (fwdMW6 t) (fwdM7 t) (fwdMW7 t) fwdScr (Memref.isWhole_whole _) hc (fwdBlk W c 0 t) (fwdBlk W c 1 t) (fwdBlk W c 2 t) (fwdBlk W c 3 t) (fwdBlk W c 4 t) (fwdBlk W c 5 t) xs).1, fwdRead (fwdM7 t) (fwdNext c (grid0.coords t) (fwdM0 t) (fwdMW0 t) (fwdM1 t) (fwdMW1 t) (fwdM2 t) (fwdMW2 t) (fwdM3 t) (fwdMW3 t) (fwdM4 t) (fwdMW4 t) (fwdM5 t) (fwdMW5 t) (fwdM6 t) (fwdMW6 t) (fwdM7 t) (fwdMW7 t) fwdScr (Memref.isWhole_whole _) hc (fwdBlk W c 0 t) (fwdBlk W c 1 t) (fwdBlk W c 2 t) (fwdBlk W c 3 t) (fwdBlk W c 4 t) (fwdBlk W c 5 t) xs).2.1, fwdRead fwdScr (fwdNext c (grid0.coords t) (fwdM0 t) (fwdMW0 t) (fwdM1 t) (fwdMW1 t) (fwdM2 t) (fwdMW2 t) (fwdM3 t) (fwdMW3 t) (fwdM4 t) (fwdMW4 t) (fwdM5 t) (fwdMW5 t) (fwdM6 t) (fwdMW6 t) (fwdM7 t) (fwdMW7 t) fwdScr (Memref.isWhole_whole _) hc (fwdBlk W c 0 t) (fwdBlk W c 1 t) (fwdBlk W c 2 t) (fwdBlk W c 3 t) (fwdBlk W c 4 t) (fwdBlk W c 5 t) xs).2.2.1⟩

/-- What the region leaves at every point, by recursion along the chain. -/
def fwdAt (c : Dev nD) : (n : ℕ) → n < cfg0.N → FwdOut F
  | 0, hn => fwdOutA W c ⟨0, hn⟩ ((fwdCond_iff _).mpr rfl)
  | n + 1, hn => fwdOutB W c ⟨n + 1, hn⟩ (fun h => by
      have h1 := (fwdCond_iff _).mp h
      have h2 : n + 1 < 32 := lt_of_lt_of_eq hn (show cfg0.N = 32 from N_0)
      have h3 : (n + 1) % 32 = 0 := h1
      omega) (fwdAt c n (Nat.lt_of_succ_lt hn)).st

section

variable (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2x128x128 .f32) (harg9 : arg9.IsWhole) (arg10 : Memref sig .tc .vmem S16x128x128 .f32) (harg10 : arg10.IsWhole)

section

variable (hc : fwdCond i) (x0 : Vec F S128x2048 .f32) (x1 : Vec F S128x2048 .f32) (x2 : Vec F S128x2048 .f32) (x3 : Vec F S128x2048 .f32) (x4 : Vec F S128x2048 .f32) (x5 : Vec F S128x2048 .f32)

theorem fwdFirst_cover0 (y : S128x2048.Idx) :
    ∃ pc ∈ (fwdFirst c i arg2 harg2 arg3 harg3 arg4 harg4 arg5 harg5 arg6 harg6 arg7 harg7 arg8 harg8 arg9 harg9 arg10 harg10 hc x0 x1 x2 x3 x4 x5).1, y ∈ pc.1.set :=
  View.cover_of_tiledL (fwdFirst c i arg2 harg2 arg3 harg3 arg4 harg4 arg5 harg5 arg6 harg6 arg7 harg7 arg8 harg8 arg9 harg9 arg10 harg10 hc x0 x1 x2 x3 x4 x5).1 ![64, 128] (by sl_kernel_rfl) y

theorem fwdFirst_cover1 (y : S16x2x128x128.Idx) :
    ∃ pc ∈ (fwdFirst c i arg2 harg2 arg3 harg3 arg4 harg4 arg5 harg5 arg6 harg6 arg7 harg7 arg8 harg8 arg9 harg9 arg10 harg10 hc x0 x1 x2 x3 x4 x5).2.1, y ∈ pc.1.set :=
  View.cover_of_tiledL (fwdFirst c i arg2 harg2 arg3 harg3 arg4 harg4 arg5 harg5 arg6 harg6 arg7 harg7 arg8 harg8 arg9 harg9 arg10 harg10 hc x0 x1 x2 x3 x4 x5).2.1 ![1, 1, 128, 128] (by sl_kernel_rfl) y

theorem fwdFirst_cover2 (y : S16x128x128.Idx) :
    ∃ pc ∈ (fwdFirst c i arg2 harg2 arg3 harg3 arg4 harg4 arg5 harg5 arg6 harg6 arg7 harg7 arg8 harg8 arg9 harg9 arg10 harg10 hc x0 x1 x2 x3 x4 x5).2.2.1, y ∈ pc.1.set :=
  View.cover_of_tiledL (fwdFirst c i arg2 harg2 arg3 harg3 arg4 harg4 arg5 harg5 arg6 harg6 arg7 harg7 arg8 harg8 arg9 harg9 arg10 harg10 hc x0 x1 x2 x3 x4 x5).2.2.1 ![16, 128, 128] (by sl_kernel_rfl) y

end

section

variable (hc : ¬fwdCond i) (x0 : Vec F S128x2048 .f32) (x1 : Vec F S128x2048 .f32) (x2 : Vec F S128x2048 .f32) (x3 : Vec F S128x2048 .f32) (x4 : Vec F S128x2048 .f32) (x5 : Vec F S128x2048 .f32) (xs : Vec F S16x128x128 .f32)

theorem fwdNext_cover0 (y : S128x2048.Idx) :
    ∃ pc ∈ (fwdNext c i arg2 harg2 arg3 harg3 arg4 harg4 arg5 harg5 arg6 harg6 arg7 harg7 arg8 harg8 arg9 harg9 arg10 harg10 hc x0 x1 x2 x3 x4 x5 xs).1, y ∈ pc.1.set :=
  View.cover_of_tiledL (fwdNext c i arg2 harg2 arg3 harg3 arg4 harg4 arg5 harg5 arg6 harg6 arg7 harg7 arg8 harg8 arg9 harg9 arg10 harg10 hc x0 x1 x2 x3 x4 x5 xs).1 ![64, 128] (by sl_kernel_rfl) y

theorem fwdNext_cover1 (y : S16x2x128x128.Idx) :
    ∃ pc ∈ (fwdNext c i arg2 harg2 arg3 harg3 arg4 harg4 arg5 harg5 arg6 harg6 arg7 harg7 arg8 harg8 arg9 harg9 arg10 harg10 hc x0 x1 x2 x3 x4 x5 xs).2.1, y ∈ pc.1.set :=
  View.cover_of_tiledL (fwdNext c i arg2 harg2 arg3 harg3 arg4 harg4 arg5 harg5 arg6 harg6 arg7 harg7 arg8 harg8 arg9 harg9 arg10 harg10 hc x0 x1 x2 x3 x4 x5 xs).2.1 ![1, 1, 128, 128] (by sl_kernel_rfl) y

theorem fwdNext_cover2 (y : S16x128x128.Idx) :
    ∃ pc ∈ (fwdNext c i arg2 harg2 arg3 harg3 arg4 harg4 arg5 harg5 arg6 harg6 arg7 harg7 arg8 harg8 arg9 harg9 arg10 harg10 hc x0 x1 x2 x3 x4 x5 xs).2.2.1, y ∈ pc.1.set :=
  View.cover_of_tiledL (fwdNext c i arg2 harg2 arg3 harg3 arg4 harg4 arg5 harg5 arg6 harg6 arg7 harg7 arg8 harg8 arg9 harg9 arg10 harg10 hc x0 x1 x2 x3 x4 x5 xs).2.2.1 ![16, 128, 128] (by sl_kernel_rfl) y

end

end

/-- The invariant between points: the carried scratch at what the point before left, the rest of the scoped memory at anything. -/
def fwdPhi (c : Dev nD) : (n : ℕ) → n ≤ cfg0.N → sProp 𝕄
  | 0, _ => Pipeline.scopedRest spec0 c
  | n + 1, hn => iprop(owns (c : Thread nD τ) fwdScr fullShare (fwdAt W c n hn).st ∗ Pipeline.scopedRestBut spec0 c [cc0_scratch0])

/-- The region's proof data from the entry contents `W`. -/
def fwdDat (c : Dev nD) : Dat τ (Elt F) Unit ℕ (UR sig nD τ) ℕ cfg0 c where
  A w := W c (Pipeline.arrRef spec0 w)
  after w t := match w with
    | ⟨0, _⟩ => fwdBlk W c 0 t
    | ⟨1, _⟩ => fwdBlk W c 1 t
    | ⟨2, _⟩ => fwdBlk W c 2 t
    | ⟨3, _⟩ => fwdBlk W c 3 t
    | ⟨4, _⟩ => fwdBlk W c 4 t
    | ⟨5, _⟩ => fwdBlk W c 5 t
    | ⟨6, _⟩ => (fwdAt W c t.val t.isLt).o0
    | ⟨7, _⟩ => (fwdAt W c t.val t.isLt).o1
  Φ t := fwdPhi W c t.val (Nat.le_of_lt_succ t.isLt)
  q _ := fullShare
  owed _ := 0

theorem fwdDat_A (c : Dev nD) (w : Fin cfg0.W) : (fwdDat W c).A w = W c (Pipeline.arrRef spec0 w) := by
  dsimp only [fwdDat]

theorem fwdAfter0 (c : Dev nD) (t : Fin cfg0.N) : (fwdDat W c).after 0 t = fwdBlk W c 0 t := by dsimp only [fwdDat]
theorem fwdAfter1 (c : Dev nD) (t : Fin cfg0.N) : (fwdDat W c).after 1 t = fwdBlk W c 1 t := by dsimp only [fwdDat]
theorem fwdAfter2 (c : Dev nD) (t : Fin cfg0.N) : (fwdDat W c).after 2 t = fwdBlk W c 2 t := by dsimp only [fwdDat]
theorem fwdAfter3 (c : Dev nD) (t : Fin cfg0.N) : (fwdDat W c).after 3 t = fwdBlk W c 3 t := by dsimp only [fwdDat]
theorem fwdAfter4 (c : Dev nD) (t : Fin cfg0.N) : (fwdDat W c).after 4 t = fwdBlk W c 4 t := by dsimp only [fwdDat]
theorem fwdAfter5 (c : Dev nD) (t : Fin cfg0.N) : (fwdDat W c).after 5 t = fwdBlk W c 5 t := by dsimp only [fwdDat]
theorem fwdAfter6 (c : Dev nD) (t : Fin cfg0.N) : (fwdDat W c).after 6 t = (fwdAt W c t.val t.isLt).o0 := by dsimp only [fwdDat]
theorem fwdAfter7 (c : Dev nD) (t : Fin cfg0.N) : (fwdDat W c).after 7 t = (fwdAt W c t.val t.isLt).o1 := by dsimp only [fwdDat]
theorem fwdBefore0 (c : Dev nD) (t : Fin cfg0.N) (d) : (fwdDat W c).before 0 t d = fwdBlk W c 0 t :=
  ((fwdDat W c).before_in_eq_fetched 0 rfl (fun _ => rfl) (fun _ _ _ => rfl) (fun t => by rw [fwdAfter0]; unfold Dat.blockOf fwdBlk; rw [fwdDat_A]; try rfl) t d).trans
    (by unfold Dat.fetched Dat.blockOf fwdBlk; rw [fwdDat_A]; try rfl)
theorem fwdBefore1 (c : Dev nD) (t : Fin cfg0.N) (d) : (fwdDat W c).before 1 t d = fwdBlk W c 1 t :=
  ((fwdDat W c).before_in_eq_fetched 1 rfl (fun _ => rfl) (fun _ _ _ => rfl) (fun t => by rw [fwdAfter1]; unfold Dat.blockOf fwdBlk; rw [fwdDat_A]; try rfl) t d).trans
    (by unfold Dat.fetched Dat.blockOf fwdBlk; rw [fwdDat_A]; try rfl)
theorem fwdBefore2 (c : Dev nD) (t : Fin cfg0.N) (d) : (fwdDat W c).before 2 t d = fwdBlk W c 2 t :=
  ((fwdDat W c).before_in_eq_fetched 2 rfl (fun _ => rfl) (fun _ _ _ => rfl) (fun t => by rw [fwdAfter2]; unfold Dat.blockOf fwdBlk; rw [fwdDat_A]; try rfl) t d).trans
    (by unfold Dat.fetched Dat.blockOf fwdBlk; rw [fwdDat_A]; try rfl)
theorem fwdBefore3 (c : Dev nD) (t : Fin cfg0.N) (d) : (fwdDat W c).before 3 t d = fwdBlk W c 3 t :=
  ((fwdDat W c).before_in_eq_fetched 3 rfl (fun _ => rfl) (fun _ _ _ => rfl) (fun t => by rw [fwdAfter3]; unfold Dat.blockOf fwdBlk; rw [fwdDat_A]; try rfl) t d).trans
    (by unfold Dat.fetched Dat.blockOf fwdBlk; rw [fwdDat_A]; try rfl)
theorem fwdBefore4 (c : Dev nD) (t : Fin cfg0.N) (d) : (fwdDat W c).before 4 t d = fwdBlk W c 4 t :=
  ((fwdDat W c).before_in_eq_fetched 4 rfl (fun _ => rfl) (fun _ _ _ => rfl) (fun t => by rw [fwdAfter4]; unfold Dat.blockOf fwdBlk; rw [fwdDat_A]; try rfl) t d).trans
    (by unfold Dat.fetched Dat.blockOf fwdBlk; rw [fwdDat_A]; try rfl)
theorem fwdBefore5 (c : Dev nD) (t : Fin cfg0.N) (d) : (fwdDat W c).before 5 t d = fwdBlk W c 5 t :=
  ((fwdDat W c).before_in_eq_fetched 5 rfl (fun _ => rfl) (fun _ _ _ => rfl) (fun t => by rw [fwdAfter5]; unfold Dat.blockOf fwdBlk; rw [fwdDat_A]; try rfl) t d).trans
    (by unfold Dat.fetched Dat.blockOf fwdBlk; rw [fwdDat_A]; try rfl)

/-- What the body is called with at point `t`. -/
def fwdPre (c : Dev nD) (t : Fin cfg0.N) : sProp 𝕄 :=
  iprop((fwdDat W c).Φ t.castSucc ∗ (fwdDat W c).owesAt () t.castSucc
    ∗ (∃ d, owns (c : Thread nD τ) (fwdM0 t) fullShare ((fwdDat W c).before 0 t d))
    ∗ (∃ d, owns (c : Thread nD τ) (fwdM1 t) fullShare ((fwdDat W c).before 1 t d))
    ∗ (∃ d, owns (c : Thread nD τ) (fwdM2 t) fullShare ((fwdDat W c).before 2 t d))
    ∗ (∃ d, owns (c : Thread nD τ) (fwdM3 t) fullShare ((fwdDat W c).before 3 t d))
    ∗ (∃ d, owns (c : Thread nD τ) (fwdM4 t) fullShare ((fwdDat W c).before 4 t d))
    ∗ (∃ d, owns (c : Thread nD τ) (fwdM5 t) fullShare ((fwdDat W c).before 5 t d))
    ∗ (∃ d, owns (c : Thread nD τ) (fwdM6 t) fullShare ((fwdDat W c).before 6 t d))
    ∗ (∃ d, owns (c : Thread nD τ) (fwdM7 t) fullShare ((fwdDat W c).before 7 t d)))

/-- What the body returns at point `t`. -/
def fwdPost (c : Dev nD) (t : Fin cfg0.N) : sProp 𝕄 :=
  iprop((fwdDat W c).Φ t.succ ∗ (fwdDat W c).owesAt () t.succ
    ∗ owns (c : Thread nD τ) (fwdM0 t) fullShare ((fwdDat W c).after 0 t)
    ∗ owns (c : Thread nD τ) (fwdM1 t) fullShare ((fwdDat W c).after 1 t)
    ∗ owns (c : Thread nD τ) (fwdM2 t) fullShare ((fwdDat W c).after 2 t)
    ∗ owns (c : Thread nD τ) (fwdM3 t) fullShare ((fwdDat W c).after 3 t)
    ∗ owns (c : Thread nD τ) (fwdM4 t) fullShare ((fwdDat W c).after 4 t)
    ∗ owns (c : Thread nD τ) (fwdM5 t) fullShare ((fwdDat W c).after 5 t)
    ∗ owns (c : Thread nD τ) (fwdM6 t) fullShare ((fwdDat W c).after 6 t)
    ∗ owns (c : Thread nD τ) (fwdM7 t) fullShare ((fwdDat W c).after 7 t))

theorem fwdSplit (c : Dev nD) : (Pipeline.scopedRest spec0 c : sProp 𝕄) =
    iprop((∃ f, (((c : Thread nD τ).loc cc0_scratch0) ↦{fullShare} f)) ∗ Pipeline.scopedRestBut spec0 c [cc0_scratch0]) := scopedRest0_split c

set_option maxHeartbeats 9600000 in
/-- The body at any point of the region. -/
theorem fwdSound (c : Dev nD) (t : Fin cfg0.N) :
    fwdPre W c t ⊢ wp frame (wpE (defs₀ (F := F)) Variants.none c none) Set.univ (bodyAt0 t) (fun _ => fwdPost W c t) := by
  unfold fwdPre fwdPost bodyAt0
  simp only [fwdBefore0, fwdBefore1, fwdBefore2, fwdBefore3, fwdBefore4, fwdBefore5]
  rw [show (fwdDat W c).owesAt () t.succ = (fwdDat W c).owesAt () t.castSucc from rfl,
    fwdAfter0, fwdAfter1, fwdAfter2, fwdAfter3, fwdAfter4, fwdAfter5, fwdAfter6, fwdAfter7]
  rw [show (fwdDat W c).Φ t.succ = fwdPhi W c (t.val + 1) t.isLt from rfl,
    show (fwdDat W c).Φ t.castSucc = fwdPhi W c t.val (Nat.le_of_lt t.isLt) from rfl]
  obtain ⟨n, hn⟩ := t
  cases n with
  | zero =>
      dsimp only [fwdPhi]
      rw [fwdSplit]
      rw [show fwdAt W c 0 hn = fwdOutA W c ⟨0, hn⟩ ((fwdCond_iff _).mpr rfl) from rfl]
      generalize (fwdCond_iff (⟨0, hn⟩ : Fin cfg0.N)).mpr rfl = hc
      generalize (⟨0, hn⟩ : Fin cfg0.N) = t at *
      dsimp only [fwdOutA, fwdRead]
      simp only [← owns_whole]
      iintro ⟨⟨⟨%fs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((fwdFirst c (grid0.coords t) _ _ _ _ _ _ _ _ _ _ _ _ _ _ _ _ _ _ hc (fwdBlk W c 0 t) (fwdBlk W c 1 t) (fwdBlk W c 2 t) (fwdBlk W c 3 t) (fwdBlk W c 4 t) (fwdBlk W c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexists _; iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact View.read_writes_of_cover _ _ _ _ _ (fwdFirst_cover2 c _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (fwdFirst_cover0 c _ _ _ _ _ _ _ _ _ _ _ _ _ _ _ _ _ _ _ _ _ _ _ _ _ _ )
      unfold owns; iexists _; isplitr
      swap; · iexact H7
      ipureintro; exact View.read_writes_of_cover _ _ _ _ _ (fwdFirst_cover1 c _ _ _ _ _ _ _ _ _ _ _ _ _ _ _ _ _ _ _ _ _ _ _ _ _ _ )

  | succ n =>
      dsimp only [fwdPhi]
      have hc : ¬fwdCond (grid0.coords (⟨n + 1, hn⟩ : Fin cfg0.N)) := fun h => by
        have h1 := (fwdCond_iff _).mp h
        have h2 : n + 1 < 32 := lt_of_lt_of_eq hn (show cfg0.N = 32 from N_0)
        have h3 : (n + 1) % 32 = 0 := h1
        omega
      rw [show fwdAt W c (n + 1) hn = fwdOutB W c ⟨n + 1, hn⟩ hc (fwdAt W c n (Nat.lt_of_succ_lt hn)).st from rfl]
      generalize (fwdAt W c n (Nat.lt_of_succ_lt hn)).st = xs
      generalize (⟨n + 1, hn⟩ : Fin cfg0.N) = t at *
      dsimp only [fwdOutB, fwdRead]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((fwdNext c (grid0.coords t) _ _ _ _ _ _ _ _ _ _ _ _ _ _ _ _ _ _ hc (fwdBlk W c 0 t) (fwdBlk W c 1 t) (fwdBlk W c 2 t) (fwdBlk W c 3 t) (fwdBlk W c 4 t) (fwdBlk W c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact View.read_writes_of_cover _ _ _ _ _ (fwdNext_cover2 c _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (fwdNext_cover0 c _ _ _ _ _ _ _ _ _ _ _ _ _ _ _ _ _ _ _ _ _ _ _ _ _ _ _ )
      unfold owns; iexists _; isplitr
      swap; · iexact H7
      ipureintro; exact View.read_writes_of_cover _ _ _ _ _ (fwdNext_cover1 c _ _ _ _ _ _ _ _ _ _ _ _ _ _ _ _ _ _ _ _ _ _ _ _ _ _ _ )

theorem fwdRow (t : Fin cfg0.N) :
    defs₀ (F := F) .tc cfg0.body (cfg0.bodyArgs t (cfg0.slots t)) = bodyAt0 t := by
  unfold defs₀; rw [Defs.onTc_tc]

/-- The body obligation of the region. -/
theorem fwdObligation (c : Dev nD) : BodyObligation (fwdDat (F := F) W c) (defs₀ (F := F)) Variants.none () Set.univ := fun t => by
  rw [bigSep_W0, bigSep_W0, fwdRow]
  exact triple_restated (fwdSound W c t) rfl .rfl fun _ => .rfl

/-- After the last point the scratch's contents are forgotten. -/
theorem fwdLeave (c : Dev nD) : (fwdDat W c).Φ (Fin.last cfg0.N) ⊢ Pipeline.scopedRest spec0 c := by
  have e : cfg0.N = 31 + 1 := N_0
  rw [show (fwdDat W c).Φ (Fin.last cfg0.N) = fwdPhi W c cfg0.N le_rfl from rfl]
  have key : ∀ n (h : n ≤ cfg0.N), n = 31 + 1 → (fwdPhi W c n h ⊢ Pipeline.scopedRest spec0 c) := by
    intro n h hn; subst hn
    dsimp only [fwdPhi]
    rw [fwdSplit]
    simp only [owns_whole]
    iintro ⟨HS, Hg⟩
    isplitl [HS]
    · iexists _; iexact HS
    iexact Hg
  exact key _ _ e

end Cert.KernelIdeal.Rec

end
-- ==== Proof.Body1.lean ====
module

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's test of the grid's second coordinate: the chain's first point. -/
abbrev bwdCond (i : grid1.Coords) : Prop := (Scalar.cmpi .ne (Scalar.extui (Scalar.cmpi .eq (BitVec.ofNat 32 (i 1).val) 0#32)) 0#32) = 1#1

theorem bwdCond_iff : ∀ t : Fin cfg1.N, bwdCond (grid1.coords t) ↔ t.val % 32 = 0 :=
  (fun t => by
    have ht : t.val < 32 := Nat.lt_of_lt_of_eq t.isLt N_1
    have e0 : (grid1.coords t 0).val = t.val / 32 % 1 := Pipeline.Grid.coords_val t 0 (by decide) rfl
    have e1 : (grid1.coords t 1).val = t.val / 1 % 32 := Pipeline.Grid.coords_val t 1 (by decide) rfl
    simp only [bwdCond, e0, e1]
    word_cmp
   : ∀ t : Fin grid1.N, bwdCond (grid1.coords t) ↔ t.val % 32 = 0)

set_option maxHeartbeats 2000000 in
/-- The body's whole run at the first point of the chain, its scratch cleared first: what it stores into
    each output and into the scratch, as the lists of pieces the run finds. -/
def bwdFirst (c : Dev nD) (i : grid1.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2x128x128 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S16x128x128 .f32) (harg16 : arg16.IsWhole)
    (hc : bwdCond i) (x0 : Vec F S128x2048 .f32) (x1 : Vec F S128x2048 .f32) (x2 : Vec F S128x2048 .f32) (x3 : Vec F S128x2048 .f32) (x4 : Vec F S128x2048 .f32) (x5 : Vec F S128x2048 .f32) (x6 : Vec F S128x2048 .f32) (x7 : Vec F S16x2x128x128 .f32) :
    Σ' (L0 : List (View.Piece (Elt F) S128x2048 .f32)) (L1 : List (View.Piece (Elt F) S128x2048 .f32)) (L2 : List (View.Piece (Elt F) S128x2048 .f32)) (L3 : List (View.Piece (Elt F) S128x2048 .f32)) (L4 : List (View.Piece (Elt F) S128x2048 .f32)) (L5 : List (View.Piece (Elt F) S128x2048 .f32)) (L6 : List (View.Piece (Elt F) S16x128x128 .f32)), ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L0) ∗ (∃ f, arg11.view.loc (c : Thread nD τ) ↦[arg11.view.set]{fullShare} arg11.view.writes (Elt F) f L1) ∗ (∃ f, arg12.view.loc (c : Thread nD τ) ↦[arg12.view.set]{fullShare} arg12.view.writes (Elt F) f L2) ∗ (∃ f, arg13.view.loc (c : Thread nD τ) ↦[arg13.view.set]{fullShare} arg13.view.writes (Elt F) f L3) ∗ (∃ f, arg14.view.loc (c : Thread nD τ) ↦[arg14.view.set]{fullShare} arg14.view.writes (Elt F) f L4) ∗ (∃ f, arg15.view.loc (c : Thread nD τ) ↦[arg15.view.set]{fullShare} arg15.view.writes (Elt F) f L5) ∗ (∃ f, arg16.view.loc (c : Thread nD τ) ↦[arg16.view.set]{fullShare} arg16.view.writes (Elt F) f L6)) -∗ K ⟨⟩))
          ⊢ wp frame (wpE (defs₀ (F := F)) Variants.none c none) E (cc1_rwkv_rec_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine ⟨?_, ?_, ?_, ?_, ?_, ?_, ?_, fun E K => ?run⟩
  case run =>
    simp only [cc1_rwkv_rec_bwd_eq_skeleton]; unfold cc1_rwkv_rec_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

set_option maxHeartbeats 2000000 in
/-- The body's whole run at a later point, from the scratch as the point before left it: what it stores into
    each output and into the scratch, as the lists of pieces the run finds. -/
def bwdNext (c : Dev nD) (i : grid1.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2x128x128 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S16x128x128 .f32) (harg16 : arg16.IsWhole)
    (hc : ¬bwdCond i) (x0 : Vec F S128x2048 .f32) (x1 : Vec F S128x2048 .f32) (x2 : Vec F S128x2048 .f32) (x3 : Vec F S128x2048 .f32) (x4 : Vec F S128x2048 .f32) (x5 : Vec F S128x2048 .f32) (x6 : Vec F S128x2048 .f32) (x7 : Vec F S16x2x128x128 .f32) (xs : Vec F S16x128x128 .f32) :
    Σ' (L0 : List (View.Piece (Elt F) S128x2048 .f32)) (L1 : List (View.Piece (Elt F) S128x2048 .f32)) (L2 : List (View.Piece (Elt F) S128x2048 .f32)) (L3 : List (View.Piece (Elt F) S128x2048 .f32)) (L4 : List (View.Piece (Elt F) S128x2048 .f32)) (L5 : List (View.Piece (Elt F) S128x2048 .f32)) (L6 : List (View.Piece (Elt F) S16x128x128 .f32)), ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L0) ∗ (∃ f, arg11.view.loc (c : Thread nD τ) ↦[arg11.view.set]{fullShare} arg11.view.writes (Elt F) f L1) ∗ (∃ f, arg12.view.loc (c : Thread nD τ) ↦[arg12.view.set]{fullShare} arg12.view.writes (Elt F) f L2) ∗ (∃ f, arg13.view.loc (c : Thread nD τ) ↦[arg13.view.set]{fullShare} arg13.view.writes (Elt F) f L3) ∗ (∃ f, arg14.view.loc (c : Thread nD τ) ↦[arg14.view.set]{fullShare} arg14.view.writes (Elt F) f L4) ∗ (∃ f, arg15.view.loc (c : Thread nD τ) ↦[arg15.view.set]{fullShare} arg15.view.writes (Elt F) f L5) ∗ (∃ f, arg16.view.loc (c : Thread nD τ) ↦[arg16.view.set]{fullShare} arg16.view.writes (Elt F) f L6)) -∗ K ⟨⟩))
          ⊢ wp frame (wpE (defs₀ (F := F)) Variants.none c none) E (cc1_rwkv_rec_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine ⟨?_, ?_, ?_, ?_, ?_, ?_, ?_, fun E K => ?run⟩
  case run =>
    simp only [cc1_rwkv_rec_bwd_eq_skeleton]; unfold cc1_rwkv_rec_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg16.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

end Cert.KernelIdeal.Rec

end
-- ==== Proof.Data1.lean ====
module

public import proofs.«01_k».proof.Proof.Body1

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (W : Dev nD → Valuation τ sig (Elt F))

/-- Window `w`'s block of the array it is over, as the region finds that array. -/
def bwdBlk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

abbrev bwdM0 (t : Fin cfg1.N) : Memref sig .tc .vmem S128x2048 .f32 := win1_0.stage (cfg1.slots t 0)
abbrev bwdMW0 (t : Fin cfg1.N) : (bwdM0 t).IsWhole := hstage1_0 ((cfg1.slots t 0).cast nbuf1_0)
abbrev bwdM1 (t : Fin cfg1.N) : Memref sig .tc .vmem S128x2048 .f32 := win1_1.stage (cfg1.slots t 1)
abbrev bwdMW1 (t : Fin cfg1.N) : (bwdM1 t).IsWhole := hstage1_1 ((cfg1.slots t 1).cast nbuf1_1)
abbrev bwdM2 (t : Fin cfg1.N) : Memref sig .tc .vmem S128x2048 .f32 := win1_2.stage (cfg1.slots t 2)
abbrev bwdMW2 (t : Fin cfg1.N) : (bwdM2 t).IsWhole := hstage1_2 ((cfg1.slots t 2).cast nbuf1_2)
abbrev bwdM3 (t : Fin cfg1.N) : Memref sig .tc .vmem S128x2048 .f32 := win1_3.stage (cfg1.slots t 3)
abbrev bwdMW3 (t : Fin cfg1.N) : (bwdM3 t).IsWhole := hstage1_3 ((cfg1.slots t 3).cast nbuf1_3)
abbrev bwdM4 (t : Fin cfg1.N) : Memref sig .tc .vmem S128x2048 .f32 := win1_4.stage (cfg1.slots t 4)
abbrev bwdMW4 (t : Fin cfg1.N) : (bwdM4 t).IsWhole := hstage1_4 ((cfg1.slots t 4).cast nbuf1_4)
abbrev bwdM5 (t : Fin cfg1.N) : Memref sig .tc .vmem S128x2048 .f32 := win1_5.stage (cfg1.slots t 5)
abbrev bwdMW5 (t : Fin cfg1.N) : (bwdM5 t).IsWhole := hstage1_5 ((cfg1.slots t 5).cast nbuf1_5)
abbrev bwdM6 (t : Fin cfg1.N) : Memref sig .tc .vmem S128x2048 .f32 := win1_6.stage (cfg1.slots t 6)
abbrev bwdMW6 (t : Fin cfg1.N) : (bwdM6 t).IsWhole := hstage1_6 ((cfg1.slots t 6).cast nbuf1_6)
abbrev bwdM7 (t : Fin cfg1.N) : Memref sig .tc .vmem S16x2x128x128 .f32 := win1_7.stage (cfg1.slots t 7)
abbrev bwdMW7 (t : Fin cfg1.N) : (bwdM7 t).IsWhole := hstage1_7 ((cfg1.slots t 7).cast nbuf1_7)
abbrev bwdM8 (t : Fin cfg1.N) : Memref sig .tc .vmem S128x2048 .f32 := win1_8.stage (cfg1.slots t 8)
abbrev bwdMW8 (t : Fin cfg1.N) : (bwdM8 t).IsWhole := hstage1_8 ((cfg1.slots t 8).cast nbuf1_8)
abbrev bwdM9 (t : Fin cfg1.N) : Memref sig .tc .vmem S128x2048 .f32 := win1_9.stage (cfg1.slots t 9)
abbrev bwdMW9 (t : Fin cfg1.N) : (bwdM9 t).IsWhole := hstage1_9 ((cfg1.slots t 9).cast nbuf1_9)
abbrev bwdM10 (t : Fin cfg1.N) : Memref sig .tc .vmem S128x2048 .f32 := win1_10.stage (cfg1.slots t 10)
abbrev bwdMW10 (t : Fin cfg1.N) : (bwdM10 t).IsWhole := hstage1_10 ((cfg1.slots t 10).cast nbuf1_10)
abbrev bwdM11 (t : Fin cfg1.N) : Memref sig .tc .vmem S128x2048 .f32 := win1_11.stage (cfg1.slots t 11)
abbrev bwdMW11 (t : Fin cfg1.N) : (bwdM11 t).IsWhole := hstage1_11 ((cfg1.slots t 11).cast nbuf1_11)
abbrev bwdM12 (t : Fin cfg1.N) : Memref sig .tc .vmem S128x2048 .f32 := win1_12.stage (cfg1.slots t 12)
abbrev bwdMW12 (t : Fin cfg1.N) : (bwdM12 t).IsWhole := hstage1_12 ((cfg1.slots t 12).cast nbuf1_12)
abbrev bwdM13 (t : Fin cfg1.N) : Memref sig .tc .vmem S128x2048 .f32 := win1_13.stage (cfg1.slots t 13)
abbrev bwdMW13 (t : Fin cfg1.N) : (bwdM13 t).IsWhole := hstage1_13 ((cfg1.slots t 13).cast nbuf1_13)
abbrev bwdScr : Memref sig .tc .vmem S16x128x128 .f32 := Memref.whole cc1_scratch0

/-- What one point leaves: each output's block and the scratch. -/
structure BwdOut (F : FTy → Type) [FloatOps F] where
  o0 : Vec F S128x2048 .f32
  o1 : Vec F S128x2048 .f32
  o2 : Vec F S128x2048 .f32
  o3 : Vec F S128x2048 .f32
  o4 : Vec F S128x2048 .f32
  o5 : Vec F S128x2048 .f32
  st : Vec F S16x128x128 .f32

/-- Pieces written over anything, read back. -/
def bwdRead {sh : Shape} (a : Memref sig .tc .vmem sh .f32) (L : List (View.Piece (Elt F) sh .f32)) : Vec F sh .f32 :=
  a.view.read (Elt F) (a.view.writes (Elt F) a.view.junk L)

/-- The first point's outputs. -/
def bwdOutA (c : Dev nD) (t : Fin cfg1.N) (hc : bwdCond (grid1.coords t)) : BwdOut F :=
  ⟨bwdRead (bwdM8 t) (bwdFirst c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t)).1, bwdRead (bwdM9 t) (bwdFirst c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t)).2.1, bwdRead (bwdM10 t) (bwdFirst c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t)).2.2.1, bwdRead (bwdM11 t) (bwdFirst c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t)).2.2.2.1, bwdRead (bwdM12 t) (bwdFirst c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t)).2.2.2.2.1, bwdRead (bwdM13 t) (bwdFirst c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t)).2.2.2.2.2.1, bwdRead bwdScr (bwdFirst c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t)).2.2.2.2.2.2.1⟩

/-- A later point's outputs, from the scratch `xs`. -/
def bwdOutB (c : Dev nD) (t : Fin cfg1.N) (hc : ¬bwdCond (grid1.coords t)) (xs : Vec F S16x128x128 .f32) : BwdOut F :=
  ⟨bwdRead (bwdM8 t) (bwdNext c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t) xs).1, bwdRead (bwdM9 t) (bwdNext c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t) xs).2.1, bwdRead (bwdM10 t) (bwdNext c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t) xs).2.2.1, bwdRead (bwdM11 t) (bwdNext c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t) xs).2.2.2.1, bwdRead (bwdM12 t) (bwdNext c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t) xs).2.2.2.2.1, bwdRead (bwdM13 t) (bwdNext c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t) xs).2.2.2.2.2.1, bwdRead bwdScr (bwdNext c (grid1.coords t) (bwdM0 t) (bwdMW0 t) (bwdM1 t) (bwdMW1 t) (bwdM2 t) (bwdMW2 t) (bwdM3 t) (bwdMW3 t) (bwdM4 t) (bwdMW4 t) (bwdM5 t) (bwdMW5 t) (bwdM6 t) (bwdMW6 t) (bwdM7 t) (bwdMW7 t) (bwdM8 t) (bwdMW8 t) (bwdM9 t) (bwdMW9 t) (bwdM10 t) (bwdMW10 t) (bwdM11 t) (bwdMW11 t) (bwdM12 t) (bwdMW12 t) (bwdM13 t) (bwdMW13 t) bwdScr (Memref.isWhole_whole _) hc (bwdBlk W c 0 t) (bwdBlk W c 1 t) (bwdBlk W c 2 t) (bwdBlk W c 3 t) (bwdBlk W c 4 t) (bwdBlk W c 5 t) (bwdBlk W c 6 t) (bwdBlk W c 7 t) xs).2.2.2.2.2.2.1⟩

/-- What the region leaves at every point, by recursion along the chain. -/
def bwdAt (c : Dev nD) : (n : ℕ) → n < cfg1.N → BwdOut F
  | 0, hn => bwdOutA W c ⟨0, hn⟩ ((bwdCond_iff _).mpr rfl)
  | n + 1, hn => bwdOutB W c ⟨n + 1, hn⟩ (fun h => by
      have h1 := (bwdCond_iff _).mp h
      have h2 : n + 1 < 32 := lt_of_lt_of_eq hn (show cfg1.N = 32 from N_1)
      have h3 : (n + 1) % 32 = 0 := h1
      omega) (bwdAt c n (Nat.lt_of_succ_lt hn)).st

section

variable (c : Dev nD) (i : grid1.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2x128x128 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S16x128x128 .f32) (harg16 : arg16.IsWhole)

section

variable (hc : bwdCond i) (x0 : Vec F S128x2048 .f32) (x1 : Vec F S128x2048 .f32) (x2 : Vec F S128x2048 .f32) (x3 : Vec F S128x2048 .f32) (x4 : Vec F S128x2048 .f32) (x5 : Vec F S128x2048 .f32) (x6 : Vec F S128x2048 .f32) (x7 : Vec F S16x2x128x128 .f32)

theorem bwdFirst_cover0 (y : S128x2048.Idx) :
    ∃ pc ∈ (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).1, y ∈ pc.1.set :=
  View.cover_of_tiledL (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).1 ![64, 128] (by sl_kernel_rfl) y

theorem bwdFirst_cover1 (y : S128x2048.Idx) :
    ∃ pc ∈ (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.1, y ∈ pc.1.set :=
  View.cover_of_tiledL (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.1 ![64, 128] (by sl_kernel_rfl) y

theorem bwdFirst_cover2 (y : S128x2048.Idx) :
    ∃ pc ∈ (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.1, y ∈ pc.1.set :=
  View.cover_of_tiledL (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.1 ![64, 128] (by sl_kernel_rfl) y

theorem bwdFirst_cover3 (y : S128x2048.Idx) :
    ∃ pc ∈ (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.1, y ∈ pc.1.set :=
  View.cover_of_tiledL (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.1 ![64, 128] (by sl_kernel_rfl) y

theorem bwdFirst_cover4 (y : S128x2048.Idx) :
    ∃ pc ∈ (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.2.1, y ∈ pc.1.set :=
  View.cover_of_tiledL (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.2.1 ![64, 128] (by sl_kernel_rfl) y

theorem bwdFirst_cover5 (y : S128x2048.Idx) :
    ∃ pc ∈ (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.2.2.1, y ∈ pc.1.set :=
  View.cover_of_tiledL (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.2.2.1 ![64, 128] (by sl_kernel_rfl) y

theorem bwdFirst_cover6 (y : S16x128x128.Idx) :
    ∃ pc ∈ (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.2.2.2.1, y ∈ pc.1.set :=
  View.cover_of_tiledL (bwdFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.2.2.2.1 ![16, 128, 128] (by sl_kernel_rfl) y

end

section

variable (hc : ¬bwdCond i) (x0 : Vec F S128x2048 .f32) (x1 : Vec F S128x2048 .f32) (x2 : Vec F S128x2048 .f32) (x3 : Vec F S128x2048 .f32) (x4 : Vec F S128x2048 .f32) (x5 : Vec F S128x2048 .f32) (x6 : Vec F S128x2048 .f32) (x7 : Vec F S16x2x128x128 .f32) (xs : Vec F S16x128x128 .f32)

theorem bwdNext_cover0 (y : S128x2048.Idx) :
    ∃ pc ∈ (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).1, y ∈ pc.1.set :=
  View.cover_of_tiledL (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).1 ![64, 128] (by sl_kernel_rfl) y

theorem bwdNext_cover1 (y : S128x2048.Idx) :
    ∃ pc ∈ (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.1, y ∈ pc.1.set :=
  View.cover_of_tiledL (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.1 ![64, 128] (by sl_kernel_rfl) y

theorem bwdNext_cover2 (y : S128x2048.Idx) :
    ∃ pc ∈ (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.1, y ∈ pc.1.set :=
  View.cover_of_tiledL (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.1 ![64, 128] (by sl_kernel_rfl) y

theorem bwdNext_cover3 (y : S128x2048.Idx) :
    ∃ pc ∈ (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.1, y ∈ pc.1.set :=
  View.cover_of_tiledL (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.1 ![64, 128] (by sl_kernel_rfl) y

theorem bwdNext_cover4 (y : S128x2048.Idx) :
    ∃ pc ∈ (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.2.1, y ∈ pc.1.set :=
  View.cover_of_tiledL (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.2.1 ![64, 128] (by sl_kernel_rfl) y

theorem bwdNext_cover5 (y : S128x2048.Idx) :
    ∃ pc ∈ (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.2.2.1, y ∈ pc.1.set :=
  View.cover_of_tiledL (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.2.2.1 ![64, 128] (by sl_kernel_rfl) y

theorem bwdNext_cover6 (y : S16x128x128.Idx) :
    ∃ pc ∈ (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.2.2.2.1, y ∈ pc.1.set :=
  View.cover_of_tiledL (bwdNext c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.2.2.2.1 ![16, 128, 128] (by sl_kernel_rfl) y

end

end

/-- The invariant between points: the carried scratch at what the point before left, the rest of the scoped memory at anything. -/
def bwdPhi (c : Dev nD) : (n : ℕ) → n ≤ cfg1.N → sProp 𝕄
  | 0, _ => Pipeline.scopedRest spec1 c
  | n + 1, hn => iprop(owns (c : Thread nD τ) bwdScr fullShare (bwdAt W c n hn).st ∗ Pipeline.scopedRestBut spec1 c [cc1_scratch0])

/-- The region's proof data from the entry contents `W`. -/
def bwdDat (c : Dev nD) : Dat τ (Elt F) Unit ℕ (UR sig nD τ) ℕ cfg1 c where
  A w := W c (Pipeline.arrRef spec1 w)
  after w t := match w with
    | ⟨0, _⟩ => bwdBlk W c 0 t
    | ⟨1, _⟩ => bwdBlk W c 1 t
    | ⟨2, _⟩ => bwdBlk W c 2 t
    | ⟨3, _⟩ => bwdBlk W c 3 t
    | ⟨4, _⟩ => bwdBlk W c 4 t
    | ⟨5, _⟩ => bwdBlk W c 5 t
    | ⟨6, _⟩ => bwdBlk W c 6 t
    | ⟨7, _⟩ => bwdBlk W c 7 t
    | ⟨8, _⟩ => (bwdAt W c t.val t.isLt).o0
    | ⟨9, _⟩ => (bwdAt W c t.val t.isLt).o1
    | ⟨10, _⟩ => (bwdAt W c t.val t.isLt).o2
    | ⟨11, _⟩ => (bwdAt W c t.val t.isLt).o3
    | ⟨12, _⟩ => (bwdAt W c t.val t.isLt).o4
    | ⟨13, _⟩ => (bwdAt W c t.val t.isLt).o5
  Φ t := bwdPhi W c t.val (Nat.le_of_lt_succ t.isLt)
  q _ := fullShare
  owed _ := 0

theorem bwdDat_A (c : Dev nD) (w : Fin cfg1.W) : (bwdDat W c).A w = W c (Pipeline.arrRef spec1 w) := by
  dsimp only [bwdDat]

theorem bwdAfter0 (c : Dev nD) (t : Fin cfg1.N) : (bwdDat W c).after 0 t = bwdBlk W c 0 t := by dsimp only [bwdDat]
theorem bwdAfter1 (c : Dev nD) (t : Fin cfg1.N) : (bwdDat W c).after 1 t = bwdBlk W c 1 t := by dsimp only [bwdDat]
theorem bwdAfter2 (c : Dev nD) (t : Fin cfg1.N) : (bwdDat W c).after 2 t = bwdBlk W c 2 t := by dsimp only [bwdDat]
theorem bwdAfter3 (c : Dev nD) (t : Fin cfg1.N) : (bwdDat W c).after 3 t = bwdBlk W c 3 t := by dsimp only [bwdDat]
theorem bwdAfter4 (c : Dev nD) (t : Fin cfg1.N) : (bwdDat W c).after 4 t = bwdBlk W c 4 t := by dsimp only [bwdDat]
theorem bwdAfter5 (c : Dev nD) (t : Fin cfg1.N) : (bwdDat W c).after 5 t = bwdBlk W c 5 t := by dsimp only [bwdDat]
theorem bwdAfter6 (c : Dev nD) (t : Fin cfg1.N) : (bwdDat W c).after 6 t = bwdBlk W c 6 t := by dsimp only [bwdDat]
theorem bwdAfter7 (c : Dev nD) (t : Fin cfg1.N) : (bwdDat W c).after 7 t = bwdBlk W c 7 t := by dsimp only [bwdDat]
theorem bwdAfter8 (c : Dev nD) (t : Fin cfg1.N) : (bwdDat W c).after 8 t = (bwdAt W c t.val t.isLt).o0 := by dsimp only [bwdDat]
theorem bwdAfter9 (c : Dev nD) (t : Fin cfg1.N) : (bwdDat W c).after 9 t = (bwdAt W c t.val t.isLt).o1 := by dsimp only [bwdDat]
theorem bwdAfter10 (c : Dev nD) (t : Fin cfg1.N) : (bwdDat W c).after 10 t = (bwdAt W c t.val t.isLt).o2 := by dsimp only [bwdDat]
theorem bwdAfter11 (c : Dev nD) (t : Fin cfg1.N) : (bwdDat W c).after 11 t = (bwdAt W c t.val t.isLt).o3 := by dsimp only [bwdDat]
theorem bwdAfter12 (c : Dev nD) (t : Fin cfg1.N) : (bwdDat W c).after 12 t = (bwdAt W c t.val t.isLt).o4 := by dsimp only [bwdDat]
theorem bwdAfter13 (c : Dev nD) (t : Fin cfg1.N) : (bwdDat W c).after 13 t = (bwdAt W c t.val t.isLt).o5 := by dsimp only [bwdDat]
theorem bwdBefore0 (c : Dev nD) (t : Fin cfg1.N) (d) : (bwdDat W c).before 0 t d = bwdBlk W c 0 t :=
  ((bwdDat W c).before_in_eq_fetched 0 rfl (fun _ => rfl) (fun _ _ _ => rfl) (fun t => by rw [bwdAfter0]; unfold Dat.blockOf bwdBlk; rw [bwdDat_A]; try rfl) t d).trans
    (by unfold Dat.fetched Dat.blockOf bwdBlk; rw [bwdDat_A]; try rfl)
theorem bwdBefore1 (c : Dev nD) (t : Fin cfg1.N) (d) : (bwdDat W c).before 1 t d = bwdBlk W c 1 t :=
  ((bwdDat W c).before_in_eq_fetched 1 rfl (fun _ => rfl) (fun _ _ _ => rfl) (fun t => by rw [bwdAfter1]; unfold Dat.blockOf bwdBlk; rw [bwdDat_A]; try rfl) t d).trans
    (by unfold Dat.fetched Dat.blockOf bwdBlk; rw [bwdDat_A]; try rfl)
theorem bwdBefore2 (c : Dev nD) (t : Fin cfg1.N) (d) : (bwdDat W c).before 2 t d = bwdBlk W c 2 t :=
  ((bwdDat W c).before_in_eq_fetched 2 rfl (fun _ => rfl) (fun _ _ _ => rfl) (fun t => by rw [bwdAfter2]; unfold Dat.blockOf bwdBlk; rw [bwdDat_A]; try rfl) t d).trans
    (by unfold Dat.fetched Dat.blockOf bwdBlk; rw [bwdDat_A]; try rfl)
theorem bwdBefore3 (c : Dev nD) (t : Fin cfg1.N) (d) : (bwdDat W c).before 3 t d = bwdBlk W c 3 t :=
  ((bwdDat W c).before_in_eq_fetched 3 rfl (fun _ => rfl) (fun _ _ _ => rfl) (fun t => by rw [bwdAfter3]; unfold Dat.blockOf bwdBlk; rw [bwdDat_A]; try rfl) t d).trans
    (by unfold Dat.fetched Dat.blockOf bwdBlk; rw [bwdDat_A]; try rfl)
theorem bwdBefore4 (c : Dev nD) (t : Fin cfg1.N) (d) : (bwdDat W c).before 4 t d = bwdBlk W c 4 t :=
  ((bwdDat W c).before_in_eq_fetched 4 rfl (fun _ => rfl) (fun _ _ _ => rfl) (fun t => by rw [bwdAfter4]; unfold Dat.blockOf bwdBlk; rw [bwdDat_A]; try rfl) t d).trans
    (by unfold Dat.fetched Dat.blockOf bwdBlk; rw [bwdDat_A]; try rfl)
theorem bwdBefore5 (c : Dev nD) (t : Fin cfg1.N) (d) : (bwdDat W c).before 5 t d = bwdBlk W c 5 t :=
  ((bwdDat W c).before_in_eq_fetched 5 rfl (fun _ => rfl) (fun _ _ _ => rfl) (fun t => by rw [bwdAfter5]; unfold Dat.blockOf bwdBlk; rw [bwdDat_A]; try rfl) t d).trans
    (by unfold Dat.fetched Dat.blockOf bwdBlk; rw [bwdDat_A]; try rfl)
theorem bwdBefore6 (c : Dev nD) (t : Fin cfg1.N) (d) : (bwdDat W c).before 6 t d = bwdBlk W c 6 t :=
  ((bwdDat W c).before_in_eq_fetched 6 rfl (fun _ => rfl) (fun _ _ _ => rfl) (fun t => by rw [bwdAfter6]; unfold Dat.blockOf bwdBlk; rw [bwdDat_A]; try rfl) t d).trans
    (by unfold Dat.fetched Dat.blockOf bwdBlk; rw [bwdDat_A]; try rfl)
theorem bwdBefore7 (c : Dev nD) (t : Fin cfg1.N) (d) : (bwdDat W c).before 7 t d = bwdBlk W c 7 t :=
  ((bwdDat W c).before_in_eq_fetched 7 rfl (fun _ => rfl) (fun _ _ _ => rfl) (fun t => by rw [bwdAfter7]; unfold Dat.blockOf bwdBlk; rw [bwdDat_A]; try rfl) t d).trans
    (by unfold Dat.fetched Dat.blockOf bwdBlk; rw [bwdDat_A]; try rfl)

/-- What the body is called with at point `t`. -/
def bwdPre (c : Dev nD) (t : Fin cfg1.N) : sProp 𝕄 :=
  iprop((bwdDat W c).Φ t.castSucc ∗ (bwdDat W c).owesAt () t.castSucc
    ∗ (∃ d, owns (c : Thread nD τ) (bwdM0 t) fullShare ((bwdDat W c).before 0 t d))
    ∗ (∃ d, owns (c : Thread nD τ) (bwdM1 t) fullShare ((bwdDat W c).before 1 t d))
    ∗ (∃ d, owns (c : Thread nD τ) (bwdM2 t) fullShare ((bwdDat W c).before 2 t d))
    ∗ (∃ d, owns (c : Thread nD τ) (bwdM3 t) fullShare ((bwdDat W c).before 3 t d))
    ∗ (∃ d, owns (c : Thread nD τ) (bwdM4 t) fullShare ((bwdDat W c).before 4 t d))
    ∗ (∃ d, owns (c : Thread nD τ) (bwdM5 t) fullShare ((bwdDat W c).before 5 t d))
    ∗ (∃ d, owns (c : Thread nD τ) (bwdM6 t) fullShare ((bwdDat W c).before 6 t d))
    ∗ (∃ d, owns (c : Thread nD τ) (bwdM7 t) fullShare ((bwdDat W c).before 7 t d))
    ∗ (∃ d, owns (c : Thread nD τ) (bwdM8 t) fullShare ((bwdDat W c).before 8 t d))
    ∗ (∃ d, owns (c : Thread nD τ) (bwdM9 t) fullShare ((bwdDat W c).before 9 t d))
    ∗ (∃ d, owns (c : Thread nD τ) (bwdM10 t) fullShare ((bwdDat W c).before 10 t d))
    ∗ (∃ d, owns (c : Thread nD τ) (bwdM11 t) fullShare ((bwdDat W c).before 11 t d))
    ∗ (∃ d, owns (c : Thread nD τ) (bwdM12 t) fullShare ((bwdDat W c).before 12 t d))
    ∗ (∃ d, owns (c : Thread nD τ) (bwdM13 t) fullShare ((bwdDat W c).before 13 t d)))

/-- What the body returns at point `t`. -/
def bwdPost (c : Dev nD) (t : Fin cfg1.N) : sProp 𝕄 :=
  iprop((bwdDat W c).Φ t.succ ∗ (bwdDat W c).owesAt () t.succ
    ∗ owns (c : Thread nD τ) (bwdM0 t) fullShare ((bwdDat W c).after 0 t)
    ∗ owns (c : Thread nD τ) (bwdM1 t) fullShare ((bwdDat W c).after 1 t)
    ∗ owns (c : Thread nD τ) (bwdM2 t) fullShare ((bwdDat W c).after 2 t)
    ∗ owns (c : Thread nD τ) (bwdM3 t) fullShare ((bwdDat W c).after 3 t)
    ∗ owns (c : Thread nD τ) (bwdM4 t) fullShare ((bwdDat W c).after 4 t)
    ∗ owns (c : Thread nD τ) (bwdM5 t) fullShare ((bwdDat W c).after 5 t)
    ∗ owns (c : Thread nD τ) (bwdM6 t) fullShare ((bwdDat W c).after 6 t)
    ∗ owns (c : Thread nD τ) (bwdM7 t) fullShare ((bwdDat W c).after 7 t)
    ∗ owns (c : Thread nD τ) (bwdM8 t) fullShare ((bwdDat W c).after 8 t)
    ∗ owns (c : Thread nD τ) (bwdM9 t) fullShare ((bwdDat W c).after 9 t)
    ∗ owns (c : Thread nD τ) (bwdM10 t) fullShare ((bwdDat W c).after 10 t)
    ∗ owns (c : Thread nD τ) (bwdM11 t) fullShare ((bwdDat W c).after 11 t)
    ∗ owns (c : Thread nD τ) (bwdM12 t) fullShare ((bwdDat W c).after 12 t)
    ∗ owns (c : Thread nD τ) (bwdM13 t) fullShare ((bwdDat W c).after 13 t))

theorem bwdSplit (c : Dev nD) : (Pipeline.scopedRest spec1 c : sProp 𝕄) =
    iprop((∃ f, (((c : Thread nD τ).loc cc1_scratch0) ↦{fullShare} f)) ∗ Pipeline.scopedRestBut spec1 c [cc1_scratch0]) := by
  rw [Pipeline.scopedRest_split_of_list spec1 c [cc1_scratch0] (by decide) (by decide)]
  rfl

set_option maxHeartbeats 9600000 in
/-- The body at any point of the region. -/
theorem bwdSound (c : Dev nD) (t : Fin cfg1.N) :
    bwdPre W c t ⊢ wp frame (wpE (defs₀ (F := F)) Variants.none c none) Set.univ (bodyAt1 t) (fun _ => bwdPost W c t) := by
  unfold bwdPre bwdPost bodyAt1
  simp only [bwdBefore0, bwdBefore1, bwdBefore2, bwdBefore3, bwdBefore4, bwdBefore5, bwdBefore6, bwdBefore7]
  rw [show (bwdDat W c).owesAt () t.succ = (bwdDat W c).owesAt () t.castSucc from rfl,
    bwdAfter0, bwdAfter1, bwdAfter2, bwdAfter3, bwdAfter4, bwdAfter5, bwdAfter6, bwdAfter7, bwdAfter8, bwdAfter9, bwdAfter10, bwdAfter11, bwdAfter12, bwdAfter13]
  rw [show (bwdDat W c).Φ t.succ = bwdPhi W c (t.val + 1) t.isLt from rfl,
    show (bwdDat W c).Φ t.castSucc = bwdPhi W c t.val (Nat.le_of_lt t.isLt) from rfl]
  obtain ⟨n, hn⟩ := t
  cases n with
  | zero =>
      dsimp only [bwdPhi]
      rw [bwdSplit]
      rw [show bwdAt W c 0 hn = bwdOutA W c ⟨0, hn⟩ ((bwdCond_iff _).mpr rfl) from rfl]
      generalize (bwdCond_iff (⟨0, hn⟩ : Fin cfg1.N)).mpr rfl = hc
      generalize (⟨0, hn⟩ : Fin cfg1.N) = t at *
      dsimp only [bwdOutA, bwdRead]
      simp only [← owns_whole]
      iintro ⟨⟨⟨%fs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((bwdFirst c (grid1.coords t) _ _ _ _ _ _ _ _ _ _ _ _ _ _ _ _ _ _ _ _ _ _ _ _ _ _ _ _ _ _ hc (bwdBlk W c 0 t) (bwdBlk W c 1 t) (bwdBlk W c 2 t) (bwdBlk W c 3 t) (bwdBlk W c 4 t) (bwdBlk W c 5 t) (bwdBlk W c 6 t) (bwdBlk W c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS]; · iexists _; iexact HS
      iintro ⟨H0, H1, H2, H3, H4, H5, H6, H7, ⟨%e8, H8⟩, ⟨%e9, H9⟩, ⟨%e10, H10⟩, ⟨%e11, H11⟩, ⟨%e12, H12⟩, ⟨%e13, H13⟩, ⟨%es, HS⟩⟩
      isplitl [HS Hg]
      · isplitl [HS]
        · unfold owns; iexists _; isplitr
          swap; · iexact HS
          ipureintro; exact View.read_writes_of_cover _ _ _ _ _ (bwdFirst_cover6 c _ _ _ _ _ _ _ _ _ _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (bwdFirst_cover0 c _ _ _ _ _ _ _ _ _ _ _ _ _ _ _ _ _ _ _ _ _ _ _ _ _ _ _ _ _ _ _ _ _ _ _ _ _ _ _ _ )
      isplitl [H9]
      · unfold owns; iexists _; isplitr
        swap; · iexact H9
        ipureintro; exact View.read_writes_of_cover _ _ _ _ _ (bwdFirst_cover1 c _ _ _ _ _ _ _ _ _ _ _ _ _ _ _ _ _ _ _ _ _ _ _ _ _ _ _ _ _ _ _ _ _ _ _ _ _ _ _ _ )
      isplitl [H10]
      · unfold owns; iexists _; isplitr
        swap; · iexact H10
        ipureintro; exact View.read_writes_of_cover _ _ _ _ _ (bwdFirst_cover2 c _ _ _ _ _ _ _ _ _ _ _ _ _ _ _ _ _ _ _ _ _ _ _ _ _ _ _ _ _ _ _ _ _ _ _ _ _ _ _ _ )
      isplitl [H11]
      · unfold owns; iexists _; isplitr
        swap; · iexact H11
        ipureintro; exact View.read_writes_of_cover _ _ _ _ _ (bwdFirst_cover3 c _ _ _ _ _ _ _ _ _ _ _ _ _ _ _ _ _ _ _ _ _ _ _ _ _ _ _ _ _ _ _ _ _ _ _ _ _ _ _ _ )
      isplitl [H12]
      · unfold owns; iexists _; isplitr
        swap; · iexact H12
        ipureintro; exact View.read_writes_of_cover _ _ _ _ _ (bwdFirst_cover4 c _ _ _ _ _ _ _ _ _ _ _ _ _ _ _ _ _ _ _ _ _ _ _ _ _ _ _ _ _ _ _ _ _ _ _ _ _ _ _ _ )
      unfold owns; iexists _; isplitr
      swap; · iexact H13
      ipureintro; exact View.read_writes_of_cover _ _ _ _ _ (bwdFirst_cover5 c _ _ _ _ _ _ _ _ _ _ _ _ _ _ _ _ _ _ _ _ _ _ _ _ _ _ _ _ _ _ _ _ _ _ _ _ _ _ _ _ )

  | succ n =>
      dsimp only [bwdPhi]
      have hc : ¬bwdCond (grid1.coords (⟨n + 1, hn⟩ : Fin cfg1.N)) := fun h => by
        have h1 := (bwdCond_iff _).mp h
        have h2 : n + 1 < 32 := lt_of_lt_of_eq hn (show cfg1.N = 32 from N_1)
        have h3 : (n + 1) % 32 = 0 := h1
        omega
      rw [show bwdAt W c (n + 1) hn = bwdOutB W c ⟨n + 1, hn⟩ hc (bwdAt W c n (Nat.lt_of_succ_lt hn)).st from rfl]
      generalize (bwdAt W c n (Nat.lt_of_succ_lt hn)).st = xs
      generalize (⟨n + 1, hn⟩ : Fin cfg1.N) = t at *
      dsimp only [bwdOutB, bwdRead]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((bwdNext c (grid1.coords t) _ _ _ _ _ _ _ _ _ _ _ _ _ _ _ _ _ _ _ _ _ _ _ _ _ _ _ _ _ _ hc (bwdBlk W c 0 t) (bwdBlk W c 1 t) (bwdBlk W c 2 t) (bwdBlk W c 3 t) (bwdBlk W c 4 t) (bwdBlk W c 5 t) (bwdBlk W c 6 t) (bwdBlk W c 7 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS]; · iexact HS
      iintro ⟨H0, H1, H2, H3, H4, H5, H6, H7, ⟨%e8, H8⟩, ⟨%e9, H9⟩, ⟨%e10, H10⟩, ⟨%e11, H11⟩, ⟨%e12, H12⟩, ⟨%e13, H13⟩, ⟨%es, HS⟩⟩
      isplitl [HS Hg]
      · isplitl [HS]
        · unfold owns; iexists _; isplitr
          swap; · iexact HS
          ipureintro; exact View.read_writes_of_cover _ _ _ _ _ (bwdNext_cover6 c _ _ _ _ _ _ _ _ _ _ _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (bwdNext_cover0 c _ _ _ _ _ _ _ _ _ _ _ _ _ _ _ _ _ _ _ _ _ _ _ _ _ _ _ _ _ _ _ _ _ _ _ _ _ _ _ _ _ )
      isplitl [H9]
      · unfold owns; iexists _; isplitr
        swap; · iexact H9
        ipureintro; exact View.read_writes_of_cover _ _ _ _ _ (bwdNext_cover1 c _ _ _ _ _ _ _ _ _ _ _ _ _ _ _ _ _ _ _ _ _ _ _ _ _ _ _ _ _ _ _ _ _ _ _ _ _ _ _ _ _ )
      isplitl [H10]
      · unfold owns; iexists _; isplitr
        swap; · iexact H10
        ipureintro; exact View.read_writes_of_cover _ _ _ _ _ (bwdNext_cover2 c _ _ _ _ _ _ _ _ _ _ _ _ _ _ _ _ _ _ _ _ _ _ _ _ _ _ _ _ _ _ _ _ _ _ _ _ _ _ _ _ _ )
      isplitl [H11]
      · unfold owns; iexists _; isplitr
        swap; · iexact H11
        ipureintro; exact View.read_writes_of_cover _ _ _ _ _ (bwdNext_cover3 c _ _ _ _ _ _ _ _ _ _ _ _ _ _ _ _ _ _ _ _ _ _ _ _ _ _ _ _ _ _ _ _ _ _ _ _ _ _ _ _ _ )
      isplitl [H12]
      · unfold owns; iexists _; isplitr
        swap; · iexact H12
        ipureintro; exact View.read_writes_of_cover _ _ _ _ _ (bwdNext_cover4 c _ _ _ _ _ _ _ _ _ _ _ _ _ _ _ _ _ _ _ _ _ _ _ _ _ _ _ _ _ _ _ _ _ _ _ _ _ _ _ _ _ )
      unfold owns; iexists _; isplitr
      swap; · iexact H13
      ipureintro; exact View.read_writes_of_cover _ _ _ _ _ (bwdNext_cover5 c _ _ _ _ _ _ _ _ _ _ _ _ _ _ _ _ _ _ _ _ _ _ _ _ _ _ _ _ _ _ _ _ _ _ _ _ _ _ _ _ _ )

theorem bwdRow (t : Fin cfg1.N) :
    defs₀ (F := F) .tc cfg1.body (cfg1.bodyArgs t (cfg1.slots t)) = bodyAt1 t := by
  unfold defs₀; rw [Defs.onTc_tc]

/-- The body obligation of the region. -/
theorem bwdObligation (c : Dev nD) : BodyObligation (bwdDat (F := F) W c) (defs₀ (F := F)) Variants.none () Set.univ := fun t => by
  rw [bigSep_W1, bigSep_W1, bwdRow]
  exact triple_restated (bwdSound W c t) rfl .rfl fun _ => .rfl

/-- After the last point the scratch's contents are forgotten. -/
theorem bwdLeave (c : Dev nD) : (bwdDat W c).Φ (Fin.last cfg1.N) ⊢ Pipeline.scopedRest spec1 c := by
  have e : cfg1.N = 31 + 1 := N_1
  rw [show (bwdDat W c).Φ (Fin.last cfg1.N) = bwdPhi W c cfg1.N le_rfl from rfl]
  have key : ∀ n (h : n ≤ cfg1.N), n = 31 + 1 → (bwdPhi W c n h ⊢ Pipeline.scopedRest spec1 c) := by
    intro n h hn; subst hn
    dsimp only [bwdPhi]
    rw [bwdSplit]
    simp only [owns_whole]
    iintro ⟨HS, Hg⟩
    isplitl [HS]
    · iexists _; iexact HS
    iexact Hg
  exact key _ _ e

end Cert.KernelIdeal.Rec

end
-- ==== Proof.Launch.lean ====
module

public import proofs.«01_k».proof.Proof.Data0
public import proofs.«01_k».proof.Proof.Data1
public import Idealize.ShloMosaic.Lib.Pipeline.RegionArraysS
public import Idealize.ShloMosaic.Lib.Pipeline.Regions
public import Idealize.ShloMosaic.Lib.Pipeline.Frame

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg RegionSeg Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
def before (c : Dev nD) : Valuation τ sig (Elt F) := fun b => m (c, b)
/-- between the two regions, -/
def between (c : Dev nD) : Valuation τ sig (Elt F) := Pipeline.afterRegion (fwdDat (before m) c) (before m c)
/-- and at the end. -/
def atEnd (c : Dev nD) : Valuation τ sig (Elt F) := Pipeline.afterRegion (bwdDat (between m) c) (between m c)

abbrev noTables : (p : Fin 2) → (pcfgs (F := F) p).Adm := fun p => (cfgs p).toPCfg_adm

/-- Both regions' proof data. -/
def both : (p : Fin 2) → (c : Dev nD) → Dat τ (Elt F) Unit ℕ (UR sig nD τ) ℕ (cfgs p) c
  | ⟨0, _⟩ => fun c => fwdDat (before m) c
  | ⟨1, _⟩ => fun c => bwdDat (between m) c

/-- Every cell of a TensorCore is at the one level. -/
def flat : GSem nD τ sig → Finset Unit := fun g => if g.1.2 = .tc then {()} else ∅
abbrev level : GSem nD τ sig → Unit → ℕ := fun _ _ => 0

theorem flat_tc (c : Dev nD) (x : SemLoc sig) : () ∈ flat ((c : Thread nD τ), x) := by
  unfold flat
  rw [if_pos rfl]
  exact Finset.mem_singleton_self _

abbrev none0 : Dev nD → CellTallies nD τ sig Unit := fun _ => 0

/-- What a core owes: nothing. -/
abbrev Rest (c : Dev nD) : sProp 𝕄 := iprop((∃ Wd, owes (c : Thread nD τ) (none0 c) Wd) ∗ emp ∗ emp)

theorem fwdArrs : Pipeline.arrRefs (τ := τ) (pcfgs (F := F) 0).spec ⊆ Pipeline.ucRefs τ sig :=
  Pipeline.arrRefs_sub_ucRefs _ (show ∀ w, (Pipeline.arrRef spec0 w).isScoped = false by decide)

set_option backward.isDefEq.respectTransparency.types false in
/-- Region 0, entered from every unscoped buffer at `before m`. -/
def fwdRegion : RegionSeg (pcfgs (F := F)) noTables (both m) () defs₀ Variants.none flat level 0 :=
  RegionSeg.ofHeldIn (pcfgs (F := F)) noTables (both m) () defs₀ Variants.none flat level 0 none0 (Pipeline.ucRefs τ sig)
    (fun _ => iprop(emp)) (fun _ => iprop(emp)) launch0.toP rfl
    (fun c => (fwdObligation (before m) c).loose) (fun _ _ => rfl) (fun _ => rfl)
    (fun c => (fwdDat (before m) c).share_full fun _ => rfl)
    (fun c => show iprop(Pipeline.scopedRest spec0 c ∗ emp) ⊢ Pipeline.scopedRest spec0 c from by
      iintro ⟨H, -⟩
      iexact H)
    (fun c => (fwdLeave (before m) c).trans (by
      iintro H
      isplitl [H]; · iexact H
      iempintro))
    (fun _ => 0) ⟨fun c _ _ => flat_tc c _, fun _ _ _ => le_rfl, fun _ _ _ h => absurd h (lt_irrefl _)⟩ (fun _ => iprop(emp)) (before m)
    (fun c w => (fwdDat_A (before m) c w))

set_option backward.isDefEq.respectTransparency.types false in
theorem fwdRegion_pre (c : Dev nD) : iprop(StableHlo.held (c : Thread nD τ) (Pipeline.ucRefs τ sig) (before m c) ∗ Rest c) ⊢ (fwdRegion m).pre c := by
  unfold fwdRegion
  exact RegionSeg.ofHeldIn_pre (pcs := pcfgs (F := F)) (a := noTables) (pdats := both m) (ι := ()) (defs₀ := defs₀) (𝒱₀ := Variants.none) (L := flat) (lv := level) (p := 0) (D := none0) (S := Pipeline.ucRefs τ sig) (W := before m) (X := fun _ => iprop(emp)) (Y := fun _ => iprop(emp)) (R := fun _ => iprop(emp)) (b := fun _ => 0) fwdArrs c

set_option backward.isDefEq.respectTransparency.types false in
theorem fwdRegion_post (c : Dev nD) : (fwdRegion m).post c ⊢ iprop(StableHlo.held (c : Thread nD τ) (Pipeline.ucRefs τ sig) (between m c) ∗ Rest c) := by
  unfold fwdRegion between
  exact RegionSeg.ofHeldIn_post (pcs := pcfgs (F := F)) (a := noTables) (pdats := both m) (ι := ()) (defs₀ := defs₀) (𝒱₀ := Variants.none) (L := flat) (lv := level) (p := 0) (D := none0) (S := Pipeline.ucRefs τ sig) (W := before m) (X := fun _ => iprop(emp)) (Y := fun _ => iprop(emp)) (R := fun _ => iprop(emp)) (b := fun _ => 0) fwdArrs c

theorem bwdArrs : Pipeline.arrRefs (τ := τ) (pcfgs (F := F) 1).spec ⊆ Pipeline.ucRefs τ sig :=
  Pipeline.arrRefs_sub_ucRefs _ (show ∀ w, (Pipeline.arrRef spec1 w).isScoped = false by decide)

set_option backward.isDefEq.respectTransparency.types false in
/-- Region 1, entered from every unscoped buffer at `between m`. -/
def bwdRegion : RegionSeg (pcfgs (F := F)) noTables (both m) () defs₀ Variants.none flat level 1 :=
  RegionSeg.ofHeldIn (pcfgs (F := F)) noTables (both m) () defs₀ Variants.none flat level 1 none0 (Pipeline.ucRefs τ sig)
    (fun _ => iprop(emp)) (fun _ => iprop(emp)) launch1.toP rfl
    (fun c => (bwdObligation (between m) c).loose) (fun _ _ => rfl) (fun _ => rfl)
    (fun c => (bwdDat (between m) c).share_full fun _ => rfl)
    (fun c => show iprop(Pipeline.scopedRest spec1 c ∗ emp) ⊢ Pipeline.scopedRest spec1 c from by
      iintro ⟨H, -⟩
      iexact H)
    (fun c => (bwdLeave (between m) c).trans (by
      iintro H
      isplitl [H]; · iexact H
      iempintro))
    (fun _ => 0) ⟨fun c _ _ => flat_tc c _, fun _ _ _ => le_rfl, fun _ _ _ h => absurd h (lt_irrefl _)⟩ (fun _ => iprop(emp)) (between m)
    (fun c w => (bwdDat_A (between m) c w))

set_option backward.isDefEq.respectTransparency.types false in
theorem bwdRegion_pre (c : Dev nD) : iprop(StableHlo.held (c : Thread nD τ) (Pipeline.ucRefs τ sig) (between m c) ∗ Rest c) ⊢ (bwdRegion m).pre c := by
  unfold bwdRegion
  exact RegionSeg.ofHeldIn_pre (pcs := pcfgs (F := F)) (a := noTables) (pdats := both m) (ι := ()) (defs₀ := defs₀) (𝒱₀ := Variants.none) (L := flat) (lv := level) (p := 1) (D := none0) (S := Pipeline.ucRefs τ sig) (W := between m) (X := fun _ => iprop(emp)) (Y := fun _ => iprop(emp)) (R := fun _ => iprop(emp)) (b := fun _ => 0) bwdArrs c

set_option backward.isDefEq.respectTransparency.types false in
theorem bwdRegion_post (c : Dev nD) : (bwdRegion m).post c ⊢ iprop(StableHlo.held (c : Thread nD τ) (Pipeline.ucRefs τ sig) (atEnd m c) ∗ Rest c) := by
  unfold bwdRegion atEnd
  exact RegionSeg.ofHeldIn_post (pcs := pcfgs (F := F)) (a := noTables) (pdats := both m) (ι := ()) (defs₀ := defs₀) (𝒱₀ := Variants.none) (L := flat) (lv := level) (p := 1) (D := none0) (S := Pipeline.ucRefs τ sig) (W := between m) (X := fun _ => iprop(emp)) (Y := fun _ => iprop(emp)) (R := fun _ => iprop(emp)) (b := fun _ => 0) bwdArrs c

abbrev items (c : Dev nD) : List (Seg (pcfgs (F := F)) noTables (both m) () defs₀ Variants.none flat level) :=
  [.region (fwdRegion m), .region (bwdRegion m)]

theorem scopedAll : ∀ sm : SemLoc sig, sm.isScoped .tc = true := by decide

set_option backward.isDefEq.respectTransparency.types false in
set_option maxHeartbeats 400000 in
/-- The whole run: every buffer that outlives the regions ends at `atEnd`, every counter at zero. -/
theorem run_all : θ_run defs (onTc (τ := τ) (main (F := F))) ⟨m, fun _ => 0, ρ⟩ (fun r =>
    (∀ c : Dev nD, ∀ b ∈ Pipeline.ucRefs τ sig, r.2.mem (c, b) = atEnd m c b) ∧ r.2.sem = fun _ => 0) := by
  refine Pipeline.θ_run_regions_kit_dev_sems (pcfgs (F := F)) noTables (both m) () cellOf_inj
    emb₁ defs₀ Variants.none flat level m ρ main (items m)
    (fun c Q => by
      rewrite [main_chain c, Seg.run_eq_chain,
        show (items m c).map Seg.prog = [
          Prog.lift (.customCall (Pipeline.entry 0) ()),
          Prog.lift (.customCall (Pipeline.entry 1) ()) ] from rfl]
      dsimp (config := { failIfUnchanged := false }) only
      exact .rfl)
    (fun c => by simp only [items, Seg.pipes_region, Seg.pipes_nil]; decide) (fun _ => 0)
    (fun g h => by unfold flat; rw [if_neg h]) (fun _ => iprop(emp))
    (initOf (Pipeline.cells cfgs cellOf_inj) (Pipeline.launchToks cfgs cellOf_inj))
    ?_
    (T₀ := fun c => iprop(StableHlo.held (c : Thread nD τ) (Pipeline.ucRefs τ sig) (before m c) ∗ Rest c))
    (Tₙ := fun c => StableHlo.held (c : Thread nD τ) (Pipeline.ucRefs τ sig) (atEnd m c))
    (hch := fun c => ⟨fwdRegion_pre m c, (fwdRegion_post m c).trans (bwdRegion_pre m c),
      (bwdRegion_post m c).trans (sep_mono .rfl (by
        iintro ⟨H, -⟩
        iexact H))⟩)
    (hinit := ?_) (QY := fun c s => ∀ b ∈ Pipeline.ucRefs τ sig, s.mem (c, b) = atEnd m c b)
    (hfin := fun c s' => ?_) (hQ := ?_)
  · iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach flat level fun c => ?_
    rw [show unscopedBufs c (fun b => m ((c : Thread nD τ).loc b)) = StableHlo.held (c : Thread nD τ) (Pipeline.ucRefs τ sig) (before m c) from
      Pipeline.unscopedBufs_held (Ix := Unit) (Name := ℕ) (U := UR sig nD τ) (Lvl := ℕ) c (before m c)]
    iintro ⟨⟨Hh, -, HO, -, -, -⟩, -⟩
    imodintro
    isplitl [Hh]; · iexact Hh
    isplitl [HO]; · iexists ∅; iexact HO
    isplitl; · iempintro
    iempintro
  · unfold StableHlo.held
    iintro ⟨Hh, HSI⟩
    ihave Hr := (pointsTo_read_all (Pipeline.ucRefs τ sig) (fun b => ((c : Thread nD τ).1, b)) (atEnd m c) s') $$ [Hh HSI]
    · isplitl [Hh] <;> iassumption
    icases Hr with ⟨%h, HSI⟩
    imodintro
    isplitr
    · ipureintro
      exact h
    · iexact HSI
  · intro r h hz
    refine ⟨h, ?_⟩
    refine funext fun g => ?_
    exact hz g (.inr (scopedAll g.2))

end Cert.KernelIdeal.Rec

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Rec

open Idealize.ShloMosaic Idealize.ShloMosaic.TcCoe
open Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-! The operation lists of the reference program and of its two host loops, and the blocks they make up. -/

abbrev K (s : Shape) : Type := (⟨s, .f32⟩ : BufTy).Contents (Elt F)
abbrev I (s : Shape) : Type := (⟨s, .i32⟩ : BufTy).Contents (Elt F)
abbrev opsStart : List (HloOp τ sig (Elt F)) :=
  [ reshape main_arg0 main_v0 (rfl : (.f32 : EltTy) = .f32) shapeCasts_S4096x2048_S4096x32x64,
    reshape main_arg1 main_v1 (rfl : (.f32 : EltTy) = .f32) shapeCasts_S4096x2048_S4096x32x64,
    reshape main_arg2 main_v2 (rfl : (.f32 : EltTy) = .f32) shapeCasts_S4096x2048_S4096x32x64,
    reshape main_arg3 main_v3 (rfl : (.f32 : EltTy) = .f32) shapeCasts_S4096x2048_S4096x32x64,
    reshape main_arg4 main_v4 (rfl : (.f32 : EltTy) = .f32) shapeCasts_S4096x2048_S4096x32x64,
    reshape main_arg5 main_v5 (rfl : (.f32 : EltTy) = .f32) shapeCasts_S4096x2048_S4096x32x64,
    nullary main_cst (constant S_ .f32 0x00000000#32),
    unary main_cst main_v6 (broadcastInDim S32x64x64 ![] bcast_S_S32x64x64 : K (F := F) S_ → K (F := F) S32x64x64),
    nullary main_cst_0 (constant S_ .f32 0x00000000#32),
    unary main_cst_0 main_v7 (broadcastInDim S4096x32x64 ![] bcast_S_S4096x32x64 : K (F := F) S_ → K (F := F) S4096x32x64),
    nullary main_cst_1 (constant S_ .f32 0x00000000#32),
    unary main_cst_1 main_v8 (broadcastInDim S4096x32x64x64 ![] bcast_S_S4096x32x64x64 : K (F := F) S_ → K (F := F) S4096x32x64x64),
    nullary main_c (constantI S_ 32 0#32),
    unary main_v0 main_v9_0 id,
    unary main_v1 main_v9_1 id,
    unary main_v2 main_v9_2 id,
    unary main_v3 main_v9_3 id,
    unary main_v4 main_v9_4 id,
    unary main_v5 main_v9_5 id,
    unary main_c main_v9_6 id,
    unary main_v6 main_v9_7 id,
    unary main_v7 main_v9_8 id,
    unary main_v8 main_v9_9 id ]
theorem opsStart_sub : (opsStart : List (HloOp τ sig (Elt F))).Forall fun op => op.bufs ⊆ tcRefs τ sig :=
  ⟨reshape_bufs_sub .., reshape_bufs_sub .., reshape_bufs_sub .., reshape_bufs_sub .., reshape_bufs_sub .., reshape_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev opsMid : List (HloOp τ sig (Elt F)) :=
  ( reshape main_v9_8 main_v10 (rfl : (.f32 : EltTy) = .f32) shapeCasts_S4096x32x64_S4096x2048
  :: nullary main_cst_2 (constant S_ .f32 0x00000000#32)
  :: unary main_cst_2 main_v11 (broadcastInDim S32x64x64 ![] bcast_S_S32x64x64 : K (F := F) S_ → K (F := F) S32x64x64)
  :: reshape main_arg6 main_v12 (rfl : (.f32 : EltTy) = .f32) shapeCasts_S4096x2048_S4096x32x64
  :: nullary main_cst_3 (constant S_ .f32 0x00000000#32)
  :: unary main_cst_3 main_v13 (broadcastInDim S32x64x64 ![] bcast_S_S32x64x64 : K (F := F) S_ → K (F := F) S32x64x64)
  :: nullary main_cst_4 (constant S_ .f32 0x00000000#32)
  :: unary main_cst_4 main_v14 (broadcastInDim S4096x32x64 ![] bcast_S_S4096x32x64 : K (F := F) S_ → K (F := F) S4096x32x64)
  :: nullary main_cst_5 (constant S_ .f32 0x00000000#32)
  :: unary main_cst_5 main_v15 (broadcastInDim S4096x32x64 ![] bcast_S_S4096x32x64 : K (F := F) S_ → K (F := F) S4096x32x64)
  :: nullary main_cst_6 (constant S_ .f32 0x00000000#32)
  :: unary main_cst_6 main_v16 (broadcastInDim S4096x32x64 ![] bcast_S_S4096x32x64 : K (F := F) S_ → K (F := F) S4096x32x64)
  :: nullary main_cst_7 (constant S_ .f32 0x00000000#32)
  :: unary main_cst_7 main_v17 (broadcastInDim S4096x32x64 ![] bcast_S_S4096x32x64 : K (F := F) S_ → K (F := F) S4096x32x64)
  :: nullary main_cst_8 (constant S_ .f32 0x00000000#32)
  :: unary main_cst_8 main_v18 (broadcastInDim S4096x32x64 ![] bcast_S_S4096x32x64 : K (F := F) S_ → K (F := F) S4096x32x64)
  :: nullary main_cst_9 (constant S_ .f32 0x00000000#32)
  :: unary main_cst_9 main_v19 (broadcastInDim S4096x32x64 ![] bcast_S_S4096x32x64 : K (F := F) S_ → K (F := F) S4096x32x64)
  :: nullary main_c_10 (constantI S_ 32 0#32)
  :: unary main_v12 main_v20_0 id
  :: unary main_v9_9 main_v20_1 id
  :: unary main_v0 main_v20_2 id
  :: unary main_v1 main_v20_3 id
  :: unary main_v2 main_v20_4 id
  :: unary main_v3 main_v20_5 id
  :: unary main_v4 main_v20_6 id
  :: unary main_v5 main_v20_7 id
  :: unary main_c_10 main_v20_8 id
  :: unary main_v13 main_v20_9 id
  :: unary main_v14 main_v20_10 id
  :: unary main_v15 main_v20_11 id
  :: unary main_v16 main_v20_12 id
  :: unary main_v17 main_v20_13 id
  :: unary main_v18 main_v20_14 id
  :: unary main_v19 main_v20_15 id
  :: [] )
theorem opsMid_sub : (opsMid : List (HloOp τ sig (Elt F))).Forall fun op => op.bufs ⊆ tcRefs τ sig :=
  ⟨reshape_bufs_sub .., nullary_bufs_sub .., unary_bufs_sub .., reshape_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev opsEnd : List (HloOp τ sig (Elt F)) :=
  [ reshape main_v20_15 main_v21 (rfl : (.f32 : EltTy) = .f32) shapeCasts_S4096x32x64_S4096x2048,
    reshape main_v20_14 main_v22 (rfl : (.f32 : EltTy) = .f32) shapeCasts_S4096x32x64_S4096x2048,
    reshape main_v20_13 main_v23 (rfl : (.f32 : EltTy) = .f32) shapeCasts_S4096x32x64_S4096x2048,
    reshape main_v20_12 main_v24 (rfl : (.f32 : EltTy) = .f32) shapeCasts_S4096x32x64_S4096x2048,
    reshape main_v20_11 main_v25 (rfl : (.f32 : EltTy) = .f32) shapeCasts_S4096x32x64_S4096x2048,
    reshape main_v20_10 main_v26 (rfl : (.f32 : EltTy) = .f32) shapeCasts_S4096x32x64_S4096x2048 ]
theorem opsEnd_sub : (opsEnd : List (HloOp τ sig (Elt F))).Forall fun op => op.bufs ⊆ tcRefs τ sig :=
  ⟨reshape_bufs_sub .., reshape_bufs_sub .., reshape_bufs_sub .., reshape_bufs_sub .., reshape_bufs_sub .., reshape_bufs_sub ..⟩
abbrev fw0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.unaryIndexed (.of main_v9_0 : TRef sig ⟨S4096x32x64, .f32⟩) ![(.of main_v9_6 : TRef sig ⟨S_, .i32⟩), (.of main_while0b_call0_c : TRef sig ⟨S_, .i32⟩), (.of main_while0b_call0_c_0 : TRef sig ⟨S_, .i32⟩)] (.of main_while0b_call0_v0 : TRef sig ⟨S1x32x64, .f32⟩) (fun x i => Host.dynamicSlice S1x32x64 x (fun k => (i k (Shape.Idx.first h_S_)).toInt) sliceFits_S4096x32x64_S1x32x64),
    TRef.reshape (.of main_while0b_call0_v0 : TRef sig ⟨S1x32x64, .f32⟩) (.of main_while0b_v27 : TRef sig ⟨S32x64, .f32⟩) (rfl : (.f32 : EltTy) = .f32) shapeCasts_S1x32x64_S32x64 ]
theorem fw0_sub : (fw0 : List (HloOp τ sig (Elt F))).Forall fun op => op.bufs ⊆ tcRefs τ sig :=
  ⟨nullary_bufs_sub .., nullary_bufs_sub .., unaryIndexed_bufs_sub .., reshape_bufs_sub ..⟩
abbrev fw1 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.unaryIndexed (.of main_v9_1 : TRef sig ⟨S4096x32x64, .f32⟩) ![(.of main_v9_6 : TRef sig ⟨S_, .i32⟩), (.of main_while0b_call1_c : TRef sig ⟨S_, .i32⟩), (.of main_while0b_call1_c_0 : TRef sig ⟨S_, .i32⟩)] (.of main_while0b_call1_v0 : TRef sig ⟨S1x32x64, .f32⟩) (fun x i => Host.dynamicSlice S1x32x64 x (fun k => (i k (Shape.Idx.first h_S_)).toInt) sliceFits_S4096x32x64_S1x32x64),
    TRef.reshape (.of main_while0b_call1_v0 : TRef sig ⟨S1x32x64, .f32⟩) (.of main_while0b_v28 : TRef sig ⟨S32x64, .f32⟩) (rfl : (.f32 : EltTy) = .f32) shapeCasts_S1x32x64_S32x64 ]
theorem fw1_sub : (fw1 : List (HloOp τ sig (Elt F))).Forall fun op => op.bufs ⊆ tcRefs τ sig :=
  ⟨nullary_bufs_sub .., nullary_bufs_sub .., unaryIndexed_bufs_sub .., reshape_bufs_sub ..⟩
abbrev fw2 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.unaryIndexed (.of main_v9_2 : TRef sig ⟨S4096x32x64, .f32⟩) ![(.of main_v9_6 : TRef sig ⟨S_, .i32⟩), (.of main_while0b_call2_c : TRef sig ⟨S_, .i32⟩), (.of main_while0b_call2_c_0 : TRef sig ⟨S_, .i32⟩)] (.of main_while0b_call2_v0 : TRef sig ⟨S1x32x64, .f32⟩) (fun x i => Host.dynamicSlice S1x32x64 x (fun k => (i k (Shape.Idx.first h_S_)).toInt) sliceFits_S4096x32x64_S1x32x64),
    TRef.reshape (.of main_while0b_call2_v0 : TRef sig ⟨S1x32x64, .f32⟩) (.of main_while0b_v29 : TRef sig ⟨S32x64, .f32⟩) (rfl : (.f32 : EltTy) = .f32) shapeCasts_S1x32x64_S32x64 ]
theorem fw2_sub : (fw2 : List (HloOp τ sig (Elt F))).Forall fun op => op.bufs ⊆ tcRefs τ sig :=
  ⟨nullary_bufs_sub .., nullary_bufs_sub .., unaryIndexed_bufs_sub .., reshape_bufs_sub ..⟩
abbrev fw3 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.unaryIndexed (.of main_v9_3 : TRef sig ⟨S4096x32x64, .f32⟩) ![(.of main_v9_6 : TRef sig ⟨S_, .i32⟩), (.of main_while0b_call3_c : TRef sig ⟨S_, .i32⟩), (.of main_while0b_call3_c_0 : TRef sig ⟨S_, .i32⟩)] (.of main_while0b_call3_v0 : TRef sig ⟨S1x32x64, .f32⟩) (fun x i => Host.dynamicSlice S1x32x64 x (fun k => (i k (Shape.Idx.first h_S_)).toInt) sliceFits_S4096x32x64_S1x32x64),
    TRef.reshape (.of main_while0b_call3_v0 : TRef sig ⟨S1x32x64, .f32⟩) (.of main_while0b_v30 : TRef sig ⟨S32x64, .f32⟩) (rfl : (.f32 : EltTy) = .f32) shapeCasts_S1x32x64_S32x64 ]
theorem fw3_sub : (fw3 : List (HloOp τ sig (Elt F))).Forall fun op => op.bufs ⊆ tcRefs τ sig :=
  ⟨nullary_bufs_sub .., nullary_bufs_sub .., unaryIndexed_bufs_sub .., reshape_bufs_sub ..⟩
abbrev fw4 : List (HloOp τ sig (Elt F)) :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.unaryIndexed (.of main_v9_4 : TRef sig ⟨S4096x32x64, .f32⟩) ![(.of main_v9_6 : TRef sig ⟨S_, .i32⟩), (.of main_while0b_call4_c : TRef sig ⟨S_, .i32⟩), (.of main_while0b_call4_c_0 : TRef sig ⟨S_, .i32⟩)] (.of main_while0b_call4_v0 : TRef sig ⟨S1x32x64, .f32⟩) (fun x i => Host.dynamicSlice S1x32x64 x (fun k => (i k (Shape.Idx.first h_S_)).toInt) sliceFits_S4096x32x64_S1x32x64),
    TRef.reshape (.of main_while0b_call4_v0 : TRef sig ⟨S1x32x64, .f32⟩) (.of main_while0b_v31 : TRef sig ⟨S32x64, .f32⟩) (rfl : (.f32 : EltTy) = .f32) shapeCasts_S1x32x64_S32x64 ]
theorem fw4_sub : (fw4 : List (HloOp τ sig (Elt F))).Forall fun op => op.bufs ⊆ tcRefs τ sig :=
  ⟨nullary_bufs_sub .., nullary_bufs_sub .., unaryIndexed_bufs_sub .., reshape_bufs_sub ..⟩
abbrev fw5 : List (HloOp τ sig (Elt F)) :=
  [ TRef.nullary (.of main_while0b_call5_c : TRef sig ⟨S_, .i32⟩) (constantI S_ 32 0#32),
    TRef.nullary (.of main_while0b_call5_c_0 : TRef sig ⟨S_, .i32⟩) (constantI S_ 32 0#32),
    TRef.unaryIndexed (.of main_v9_5 : TRef sig ⟨S4096x32x64, .f32⟩) ![(.of main_v9_6 : TRef sig ⟨S_, .i32⟩), (.of main_while0b_call5_c : TRef sig ⟨S_, .i32⟩), (.of main_while0b_call5_c_0 : TRef sig ⟨S_, .i32⟩)] (.of main_while0b_call5_v0 : TRef sig ⟨S1x32x64, .f32⟩) (fun x i => Host.dynamicSlice S1x32x64 x (fun k => (i k (Shape.Idx.first h_S_)).toInt) sliceFits_S4096x32x64_S1x32x64),
    TRef.reshape (.of main_while0b_call5_v0 : TRef sig ⟨S1x32x64, .f32⟩) (.of main_while0b_v32 : TRef sig ⟨S32x64, .f32⟩) (rfl : (.f32 : EltTy) = .f32) shapeCasts_S1x32x64_S32x64 ]
theorem fw5_sub : (fw5 : List (HloOp τ sig (Elt F))).Forall fun op => op.bufs ⊆ tcRefs τ sig :=
  ⟨nullary_bufs_sub .., nullary_bufs_sub .., unaryIndexed_bufs_sub .., reshape_bufs_sub ..⟩
abbrev fw6 : List (HloOp τ sig (Elt F)) :=
  [ unary main_while0b_v31 main_while0b_v33 (broadcastInDim S32x1x64 ![0, 2] bcast_S32x64_S32x1x64_0_2 : K (F := F) S32x64 → K (F := F) S32x1x64),
    unary main_while0b_v33 main_while0b_v34 (broadcastInDim S32x64x64 ![0, 1, 2] bcast_S32x1x64_S32x64x64_0_1_2 : K (F := F) S32x1x64 → K (F := F) S32x64x64),
    binary main_v9_7 main_while0b_v34 main_while0b_v35 (mulf : K (F := F) S32x64x64 → K (F := F) S32x64x64 → K (F := F) S32x64x64),
    nullary main_while0b_cst_20 (constant S_ .f32 0x00000000#32),
    binary main_while0b_v35 main_while0b_cst_20 main_while0b_v36 ((fun x v => Host.reduceAdd x v reducesTo_S32x64x64_S32x64_d2 h_S_) : K (F := F) S32x64x64 → K (F := F) S_ → K (F := F) S32x64),
    unary main_while0b_v28 main_while0b_v37 (Host.exp : K (F := F) S32x64 → K (F := F) S32x64),
    unary main_while0b_v37 main_while0b_v38 (broadcastInDim S32x1x64 ![0, 2] bcast_S32x64_S32x1x64_0_2 : K (F := F) S32x64 → K (F := F) S32x1x64),
    unary main_while0b_v38 main_while0b_v39 (broadcastInDim S32x64x64 ![0, 1, 2] bcast_S32x1x64_S32x64x64_0_1_2 : K (F := F) S32x1x64 → K (F := F) S32x64x64),
    binary main_v9_7 main_while0b_v39 main_while0b_v40 (mulf : K (F := F) S32x64x64 → K (F := F) S32x64x64 → K (F := F) S32x64x64),
    unary main_while0b_v36 main_while0b_v41 (broadcastInDim S32x64x1 ![0, 1] bcast_S32x64_S32x64x1_0_1 : K (F := F) S32x64 → K (F := F) S32x64x1),
    unary main_while0b_v32 main_while0b_v42 (broadcastInDim S32x1x64 ![0, 2] bcast_S32x64_S32x1x64_0_2 : K (F := F) S32x64 → K (F := F) S32x1x64),
    unary main_while0b_v41 main_while0b_v43 (broadcastInDim S32x64x64 ![0, 1, 2] bcast_S32x64x1_S32x64x64_0_1_2 : K (F := F) S32x64x1 → K (F := F) S32x64x64),
    unary main_while0b_v42 main_while0b_v44 (broadcastInDim S32x64x64 ![0, 1, 2] bcast_S32x1x64_S32x64x64_0_1_2 : K (F := F) S32x1x64 → K (F := F) S32x64x64),
    binary main_while0b_v43 main_while0b_v44 main_while0b_v45 (mulf : K (F := F) S32x64x64 → K (F := F) S32x64x64 → K (F := F) S32x64x64),
    binary main_while0b_v40 main_while0b_v45 main_while0b_v46 (addf : K (F := F) S32x64x64 → K (F := F) S32x64x64 → K (F := F) S32x64x64),
    unary main_while0b_v30 main_while0b_v47 (broadcastInDim S32x64x1 ![0, 1] bcast_S32x64_S32x64x1_0_1 : K (F := F) S32x64 → K (F := F) S32x64x1),
    unary main_while0b_v29 main_while0b_v48 (broadcastInDim S32x1x64 ![0, 2] bcast_S32x64_S32x1x64_0_2 : K (F := F) S32x64 → K (F := F) S32x1x64),
    unary main_while0b_v47 main_while0b_v49 (broadcastInDim S32x64x64 ![0, 1, 2] bcast_S32x64x1_S32x64x64_0_1_2 : K (F := F) S32x64x1 → K (F := F) S32x64x64),
    unary main_while0b_v48 main_while0b_v50 (broadcastInDim S32x64x64 ![0, 1, 2] bcast_S32x1x64_S32x64x64_0_1_2 : K (F := F) S32x1x64 → K (F := F) S32x64x64),
    binary main_while0b_v49 main_while0b_v50 main_while0b_v51 (mulf : K (F := F) S32x64x64 → K (F := F) S32x64x64 → K (F := F) S32x64x64),
    binary main_while0b_v46 main_while0b_v51 main_while0b_v52 (addf : K (F := F) S32x64x64 → K (F := F) S32x64x64 → K (F := F) S32x64x64),
    unary main_while0b_v27 main_while0b_v53 (broadcastInDim S32x1x64 ![0, 2] bcast_S32x64_S32x1x64_0_2 : K (F := F) S32x64 → K (F := F) S32x1x64),
    unary main_while0b_v53 main_while0b_v54 (broadcastInDim S32x64x64 ![0, 1, 2] bcast_S32x1x64_S32x64x64_0_1_2 : K (F := F) S32x1x64 → K (F := F) S32x64x64),
    binary main_while0b_v52 main_while0b_v54 main_while0b_v55 (mulf : K (F := F) S32x64x64 → K (F := F) S32x64x64 → K (F := F) S32x64x64),
    nullary main_while0b_cst_21 (constant S_ .f32 0x00000000#32),
    binary main_while0b_v55 main_while0b_cst_21 main_while0b_v56 ((fun x v => Host.reduceAdd x v reducesTo_S32x64x64_S32x64_d2 h_S_) : K (F := F) S32x64x64 → K (F := F) S_ → K (F := F) S32x64) ]
theorem fw6_sub : (fw6 : List (HloOp τ sig (Elt F))).Forall fun op => op.bufs ⊆ tcRefs τ sig :=
  ⟨unary_bufs_sub .., unary_bufs_sub .., binary_bufs_sub .., nullary_bufs_sub .., binary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., unary_bufs_sub .., unary_bufs_sub .., binary_bufs_sub .., nullary_bufs_sub .., binary_bufs_sub ..⟩
abbrev fw7 : List (HloOp τ sig (Elt F)) :=
  [ TRef.unary (.of main_while0b_v56 : TRef sig ⟨S32x64, .f32⟩) (.of main_while0b_call6_v0 : TRef sig ⟨S1x32x64, .f32⟩) (broadcastInDim S1x32x64 ![1, 2] bcast_S32x64_S1x32x64_1_2),
    TRef.nullary (.of main_while0b_call6_c : TRef sig ⟨S_, .i32⟩) (constantI S_ 32 0#32),
    TRef.nullary (.of main_while0b_call6_c_0 : TRef sig ⟨S_, .i32⟩) (constantI S_ 32 0#32),
    TRef.binaryIndexed (.of main_v9_8 : TRef sig ⟨S4096x32x64, .f32⟩) (.of main_while0b_call6_v0 : TRef sig ⟨S1x32x64, .f32⟩) ![(.of main_v9_6 : TRef sig ⟨S_, .i32⟩), (.of main_while0b_call6_c : TRef sig ⟨S_, .i32⟩), (.of main_while0b_call6_c_0 : TRef sig ⟨S_, .i32⟩)] (.of main_while0b_v57 : TRef sig ⟨S4096x32x64, .f32⟩) (fun x u i => Host.dynamicUpdateSlice x u (fun k => (i k (Shape.Idx.first h_S_)).toInt) updateFits_S4096x32x64_S1x32x64) ]
theorem fw7_sub : (fw7 : List (HloOp τ sig (Elt F))).Forall fun op => op.bufs ⊆ tcRefs τ sig :=
  ⟨unary_bufs_sub .., nullary_bufs_sub .., nullary_bufs_sub .., binaryIndexed_bufs_sub ..⟩
abbrev fw8 : List (HloOp τ sig (Elt F)) :=
  [ TRef.unary (.of main_v9_7 : TRef sig ⟨S32x64x64, .f32⟩) (.of main_while0b_call7_v0 : TRef sig ⟨S1x32x64x64, .f32⟩) (broadcastInDim S1x32x64x64 ![1, 2, 3] bcast_S32x64x64_S1x32x64x64_1_2_3),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.binaryIndexed (.of main_v9_9 : TRef sig ⟨S4096x32x64x64, .f32⟩) (.of main_while0b_call7_v0 : TRef sig ⟨S1x32x64x64, .f32⟩) ![(.of main_v9_6 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_v58 : TRef sig ⟨S4096x32x64x64, .f32⟩) (fun x u i => Host.dynamicUpdateSlice x u (fun k => (i k (Shape.Idx.first h_S_)).toInt) updateFits_S4096x32x64x64_S1x32x64x64) ]
theorem fw8_sub : (fw8 : List (HloOp τ sig (Elt F))).Forall fun op => op.bufs ⊆ tcRefs τ sig :=
  ⟨unary_bufs_sub .., nullary_bufs_sub .., nullary_bufs_sub .., nullary_bufs_sub .., binaryIndexed_bufs_sub ..⟩
abbrev fw9 : List (HloOp τ sig (Elt F)) :=
  [ nullary main_while0b_c_22 (constantI S_ 32 1#32),
    binary main_v9_6 main_while0b_c_22 main_while0b_v59 (addi : I (F := F) S_ → I (F := F) S_ → I (F := F) S_),
    unary main_while0b_v59 main_v9_6 id,
    unary main_while0b_v52 main_v9_7 id,
    unary main_while0b_v57 main_v9_8 id,
    unary main_while0b_v58 main_v9_9 id ]
theorem fw9_sub : (fw9 : List (HloOp τ sig (Elt F))).Forall fun op => op.bufs ⊆ tcRefs τ sig :=
  ⟨nullary_bufs_sub .., binary_bufs_sub .., unary_bufs_sub .., unary_bufs_sub .., unary_bufs_sub .., unary_bufs_sub ..⟩
abbrev bw0 : List (HloOp τ sig (Elt F)) :=
  [ nullary main_while1b_c_26 (constantI S_ 32 4096#32),
    binary main_while1b_c_26 main_v20_8 main_while1b_v27 (subi : I (F := F) S_ → I (F := F) S_ → I (F := F) S_),
    nullary main_while1b_c_27 (constantI S_ 32 1#32),
    binary main_while1b_v27 main_while1b_c_27 main_while1b_v28 (subi : I (F := F) S_ → I (F := F) S_ → I (F := F) S_) ]
theorem bw0_sub : (bw0 : List (HloOp τ sig (Elt F))).Forall fun op => op.bufs ⊆ tcRefs τ sig :=
  ⟨nullary_bufs_sub .., binary_bufs_sub .., nullary_bufs_sub .., binary_bufs_sub ..⟩
abbrev bw1 : List (HloOp τ sig (Elt F)) :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.unaryIndexed (.of main_v20_0 : TRef sig ⟨S4096x32x64, .f32⟩) ![(.of main_while1b_v28 : TRef sig ⟨S_, .i32⟩), (.of main_while1b_call8_c : TRef sig ⟨S_, .i32⟩), (.of main_while1b_call8_c_0 : TRef sig ⟨S_, .i32⟩)] (.of main_while1b_call8_v0 : TRef sig ⟨S1x32x64, .f32⟩) (fun x i => Host.dynamicSlice S1x32x64 x (fun k => (i k (Shape.Idx.first h_S_)).toInt) sliceFits_S4096x32x64_S1x32x64),
    TRef.reshape (.of main_while1b_call8_v0 : TRef sig ⟨S1x32x64, .f32⟩) (.of main_while1b_v29 : TRef sig ⟨S32x64, .f32⟩) (rfl : (.f32 : EltTy) = .f32) shapeCasts_S1x32x64_S32x64 ]
theorem bw1_sub : (bw1 : List (HloOp τ sig (Elt F))).Forall fun op => op.bufs ⊆ tcRefs τ sig :=
  ⟨nullary_bufs_sub .., nullary_bufs_sub .., unaryIndexed_bufs_sub .., reshape_bufs_sub ..⟩
abbrev bw2 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.unaryIndexed (.of main_v20_1 : TRef sig ⟨S4096x32x64x64, .f32⟩) ![(.of main_while1b_v28 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩)] (.of main_while1b_call9_v0 : TRef sig ⟨S1x32x64x64, .f32⟩) (fun x i => Host.dynamicSlice S1x32x64x64 x (fun k => (i k (Shape.Idx.first h_S_)).toInt) sliceFits_S4096x32x64x64_S1x32x64x64),
    TRef.reshape (.of main_while1b_call9_v0 : TRef sig ⟨S1x32x64x64, .f32⟩) (.of main_while1b_v30 : TRef sig ⟨S32x64x64, .f32⟩) (rfl : (.f32 : EltTy) = .f32) shapeCasts_S1x32x64x64_S32x64x64 ]
theorem bw2_sub : (bw2 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev bw3 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.unaryIndexed (.of main_v20_2 : TRef sig ⟨S4096x32x64, .f32⟩) ![(.of main_while1b_v28 : TRef sig ⟨S_, .i32⟩), (.of main_while1b_call10_c : TRef sig ⟨S_, .i32⟩), (.of main_while1b_call10_c_0 : TRef sig ⟨S_, .i32⟩)] (.of main_while1b_call10_v0 : TRef sig ⟨S1x32x64, .f32⟩) (fun x i => Host.dynamicSlice S1x32x64 x (fun k => (i k (Shape.Idx.first h_S_)).toInt) sliceFits_S4096x32x64_S1x32x64),
    TRef.reshape (.of main_while1b_call10_v0 : TRef sig ⟨S1x32x64, .f32⟩) (.of main_while1b_v31 : TRef sig ⟨S32x64, .f32⟩) (rfl : (.f32 : EltTy) = .f32) shapeCasts_S1x32x64_S32x64 ]
theorem bw3_sub : (bw3 : List (HloOp τ sig (Elt F))).Forall fun op => op.bufs ⊆ tcRefs τ sig :=
  ⟨nullary_bufs_sub .., nullary_bufs_sub .., unaryIndexed_bufs_sub .., reshape_bufs_sub ..⟩
abbrev bw4 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.unaryIndexed (.of main_v20_3 : TRef sig ⟨S4096x32x64, .f32⟩) ![(.of main_while1b_v28 : TRef sig ⟨S_, .i32⟩), (.of main_while1b_call11_c : TRef sig ⟨S_, .i32⟩), (.of main_while1b_call11_c_0 : TRef sig ⟨S_, .i32⟩)] (.of main_while1b_call11_v0 : TRef sig ⟨S1x32x64, .f32⟩) (fun x i => Host.dynamicSlice S1x32x64 x (fun k => (i k (Shape.Idx.first h_S_)).toInt) sliceFits_S4096x32x64_S1x32x64),
    TRef.reshape (.of main_while1b_call11_v0 : TRef sig ⟨S1x32x64, .f32⟩) (.of main_while1b_v32 : TRef sig ⟨S32x64, .f32⟩) (rfl : (.f32 : EltTy) = .f32) shapeCasts_S1x32x64_S32x64 ]
theorem bw4_sub : (bw4 : List (HloOp τ sig (Elt F))).Forall fun op => op.bufs ⊆ tcRefs τ sig :=
  ⟨nullary_bufs_sub .., nullary_bufs_sub .., unaryIndexed_bufs_sub .., reshape_bufs_sub ..⟩
abbrev bw5 : List (HloOp τ sig (Elt F)) :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.unaryIndexed (.of main_v20_4 : TRef sig ⟨S4096x32x64, .f32⟩) ![(.of main_while1b_v28 : TRef sig ⟨S_, .i32⟩), (.of main_while1b_call12_c : TRef sig ⟨S_, .i32⟩), (.of main_while1b_call12_c_0 : TRef sig ⟨S_, .i32⟩)] (.of main_while1b_call12_v0 : TRef sig ⟨S1x32x64, .f32⟩) (fun x i => Host.dynamicSlice S1x32x64 x (fun k => (i k (Shape.Idx.first h_S_)).toInt) sliceFits_S4096x32x64_S1x32x64),
    TRef.reshape (.of main_while1b_call12_v0 : TRef sig ⟨S1x32x64, .f32⟩) (.of main_while1b_v33 : TRef sig ⟨S32x64, .f32⟩) (rfl : (.f32 : EltTy) = .f32) shapeCasts_S1x32x64_S32x64 ]
theorem bw5_sub : (bw5 : List (HloOp τ sig (Elt F))).Forall fun op => op.bufs ⊆ tcRefs τ sig :=
  ⟨nullary_bufs_sub .., nullary_bufs_sub .., unaryIndexed_bufs_sub .., reshape_bufs_sub ..⟩
abbrev bw6 : List (HloOp τ sig (Elt F)) :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.unaryIndexed (.of main_v20_5 : TRef sig ⟨S4096x32x64, .f32⟩) ![(.of main_while1b_v28 : TRef sig ⟨S_, .i32⟩), (.of main_while1b_call13_c : TRef sig ⟨S_, .i32⟩), (.of main_while1b_call13_c_0 : TRef sig ⟨S_, .i32⟩)] (.of main_while1b_call13_v0 : TRef sig ⟨S1x32x64, .f32⟩) (fun x i => Host.dynamicSlice S1x32x64 x (fun k => (i k (Shape.Idx.first h_S_)).toInt) sliceFits_S4096x32x64_S1x32x64),
    TRef.reshape (.of main_while1b_call13_v0 : TRef sig ⟨S1x32x64, .f32⟩) (.of main_while1b_v34 : TRef sig ⟨S32x64, .f32⟩) (rfl : (.f32 : EltTy) = .f32) shapeCasts_S1x32x64_S32x64 ]
theorem bw6_sub : (bw6 : List (HloOp τ sig (Elt F))).Forall fun op => op.bufs ⊆ tcRefs τ sig :=
  ⟨nullary_bufs_sub .., nullary_bufs_sub .., unaryIndexed_bufs_sub .., reshape_bufs_sub ..⟩
abbrev bw7 : List (HloOp τ sig (Elt F)) :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.unaryIndexed (.of main_v20_6 : TRef sig ⟨S4096x32x64, .f32⟩) ![(.of main_while1b_v28 : TRef sig ⟨S_, .i32⟩), (.of main_while1b_call14_c : TRef sig ⟨S_, .i32⟩), (.of main_while1b_call14_c_0 : TRef sig ⟨S_, .i32⟩)] (.of main_while1b_call14_v0 : TRef sig ⟨S1x32x64, .f32⟩) (fun x i => Host.dynamicSlice S1x32x64 x (fun k => (i k (Shape.Idx.first h_S_)).toInt) sliceFits_S4096x32x64_S1x32x64),
    TRef.reshape (.of main_while1b_call14_v0 : TRef sig ⟨S1x32x64, .f32⟩) (.of main_while1b_v35 : TRef sig ⟨S32x64, .f32⟩) (rfl : (.f32 : EltTy) = .f32) shapeCasts_S1x32x64_S32x64 ]
theorem bw7_sub : (bw7 : List (HloOp τ sig (Elt F))).Forall fun op => op.bufs ⊆ tcRefs τ sig :=
  ⟨nullary_bufs_sub .., nullary_bufs_sub .., unaryIndexed_bufs_sub .., reshape_bufs_sub ..⟩
abbrev bw8 : List (HloOp τ sig (Elt F)) :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.unaryIndexed (.of main_v20_7 : TRef sig ⟨S4096x32x64, .f32⟩) ![(.of main_while1b_v28 : TRef sig ⟨S_, .i32⟩), (.of main_while1b_call15_c : TRef sig ⟨S_, .i32⟩), (.of main_while1b_call15_c_0 : TRef sig ⟨S_, .i32⟩)] (.of main_while1b_call15_v0 : TRef sig ⟨S1x32x64, .f32⟩) (fun x i => Host.dynamicSlice S1x32x64 x (fun k => (i k (Shape.Idx.first h_S_)).toInt) sliceFits_S4096x32x64_S1x32x64),
    TRef.reshape (.of main_while1b_call15_v0 : TRef sig ⟨S1x32x64, .f32⟩) (.of main_while1b_v36 : TRef sig ⟨S32x64, .f32⟩) (rfl : (.f32 : EltTy) = .f32) shapeCasts_S1x32x64_S32x64 ]
theorem bw8_sub : (bw8 : List (HloOp τ sig (Elt F))).Forall fun op => op.bufs ⊆ tcRefs τ sig :=
  ⟨nullary_bufs_sub .., nullary_bufs_sub .., unaryIndexed_bufs_sub .., reshape_bufs_sub ..⟩
abbrev bw9 : List (HloOp τ sig (Elt F)) :=
  ( unary main_while1b_v35 main_while1b_v37 (broadcastInDim S32x1x64 ![0, 2] bcast_S32x64_S32x1x64_0_2 : K (F := F) S32x64 → K (F := F) S32x1x64)
  :: unary main_while1b_v37 main_while1b_v38 (broadcastInDim S32x64x64 ![0, 1, 2] bcast_S32x1x64_S32x64x64_0_1_2 : K (F := F) S32x1x64 → K (F := F) S32x64x64)
  :: binary main_while1b_v30 main_while1b_v38 main_while1b_v39 (mulf : K (F := F) S32x64x64 → K (F := F) S32x64x64 → K (F := F) S32x64x64)
  :: nullary main_while1b_cst_28 (constant S_ .f32 0x00000000#32)
  :: binary main_while1b_v39 main_while1b_cst_28 main_while1b_v40 ((fun x v => Host.reduceAdd x v reducesTo_S32x64x64_S32x64_d2 h_S_) : K (F := F) S32x64x64 → K (F := F) S_ → K (F := F) S32x64)
  :: unary main_while1b_v32 main_while1b_v41 (Host.exp : K (F := F) S32x64 → K (F := F) S32x64)
  :: unary main_while1b_v41 main_while1b_v42 (broadcastInDim S32x1x64 ![0, 2] bcast_S32x64_S32x1x64_0_2 : K (F := F) S32x64 → K (F := F) S32x1x64)
  :: unary main_while1b_v42 main_while1b_v43 (broadcastInDim S32x64x64 ![0, 1, 2] bcast_S32x1x64_S32x64x64_0_1_2 : K (F := F) S32x1x64 → K (F := F) S32x64x64)
  :: binary main_while1b_v30 main_while1b_v43 main_while1b_v44 (mulf : K (F := F) S32x64x64 → K (F := F) S32x64x64 → K (F := F) S32x64x64)
  :: unary main_while1b_v40 main_while1b_v45 (broadcastInDim S32x64x1 ![0, 1] bcast_S32x64_S32x64x1_0_1 : K (F := F) S32x64 → K (F := F) S32x64x1)
  :: unary main_while1b_v36 main_while1b_v46 (broadcastInDim S32x1x64 ![0, 2] bcast_S32x64_S32x1x64_0_2 : K (F := F) S32x64 → K (F := F) S32x1x64)
  :: unary main_while1b_v45 main_while1b_v47 (broadcastInDim S32x64x64 ![0, 1, 2] bcast_S32x64x1_S32x64x64_0_1_2 : K (F := F) S32x64x1 → K (F := F) S32x64x64)
  :: unary main_while1b_v46 main_while1b_v48 (broadcastInDim S32x64x64 ![0, 1, 2] bcast_S32x1x64_S32x64x64_0_1_2 : K (F := F) S32x1x64 → K (F := F) S32x64x64)
  :: binary main_while1b_v47 main_while1b_v48 main_while1b_v49 (mulf : K (F := F) S32x64x64 → K (F := F) S32x64x64 → K (F := F) S32x64x64)
  :: binary main_while1b_v44 main_while1b_v49 main_while1b_v50 (addf : K (F := F) S32x64x64 → K (F := F) S32x64x64 → K (F := F) S32x64x64)
  :: unary main_while1b_v34 main_while1b_v51 (broadcastInDim S32x64x1 ![0, 1] bcast_S32x64_S32x64x1_0_1 : K (F := F) S32x64 → K (F := F) S32x64x1)
  :: unary main_while1b_v33 main_while1b_v52 (broadcastInDim S32x1x64 ![0, 2] bcast_S32x64_S32x1x64_0_2 : K (F := F) S32x64 → K (F := F) S32x1x64)
  :: unary main_while1b_v51 main_while1b_v53 (broadcastInDim S32x64x64 ![0, 1, 2] bcast_S32x64x1_S32x64x64_0_1_2 : K (F := F) S32x64x1 → K (F := F) S32x64x64)
  :: unary main_while1b_v52 main_while1b_v54 (broadcastInDim S32x64x64 ![0, 1, 2] bcast_S32x1x64_S32x64x64_0_1_2 : K (F := F) S32x1x64 → K (F := F) S32x64x64)
  :: binary main_while1b_v53 main_while1b_v54 main_while1b_v55 (mulf : K (F := F) S32x64x64 → K (F := F) S32x64x64 → K (F := F) S32x64x64)
  :: binary main_while1b_v50 main_while1b_v55 main_while1b_v56 (addf : K (F := F) S32x64x64 → K (F := F) S32x64x64 → K (F := F) S32x64x64)
  :: unary main_while1b_v31 main_while1b_v57 (broadcastInDim S32x1x64 ![0, 2] bcast_S32x64_S32x1x64_0_2 : K (F := F) S32x64 → K (F := F) S32x1x64)
  :: unary main_while1b_v29 main_while1b_v58 (broadcastInDim S32x64x64 ![0, 1] bcast_S32x64_S32x64x64_0_1 : K (F := F) S32x64 → K (F := F) S32x64x64)
  :: binary main_while1b_v56 main_while1b_v58 main_while1b_v59 (mulf : K (F := F) S32x64x64 → K (F := F) S32x64x64 → K (F := F) S32x64x64)
  :: nullary main_while1b_cst_29 (constant S_ .f32 0x00000000#32)
  :: binary main_while1b_v59 main_while1b_cst_29 main_while1b_v60 ((fun x v => Host.reduceAdd x v reducesTo_S32x64x64_S32x64_d1 h_S_) : K (F := F) S32x64x64 → K (F := F) S_ → K (F := F) S32x64)
  :: reshape main_while1b_v60 main_while1b_v61 (rfl : (.f32 : EltTy) = .f32) shapeCasts_S32x64_S32x1x64
  :: unary main_while1b_v57 main_while1b_v62 (broadcastInDim S32x64x64 ![0, 1, 2] bcast_S32x1x64_S32x64x64_0_1_2 : K (F := F) S32x1x64 → K (F := F) S32x64x64)
  :: binary main_while1b_v58 main_while1b_v62 main_while1b_v63 (mulf : K (F := F) S32x64x64 → K (F := F) S32x64x64 → K (F := F) S32x64x64)
  :: binary main_v20_9 main_while1b_v63 main_while1b_v64 (addf : K (F := F) S32x64x64 → K (F := F) S32x64x64 → K (F := F) S32x64x64)
  :: nullary main_while1b_cst_30 (constant S_ .f32 0x00000000#32)
  :: binary main_while1b_v61 main_while1b_cst_30 main_while1b_v65 ((fun x v => Host.reduceAdd x v reducesTo_S32x1x64_S32x64_d1 h_S_) : K (F := F) S32x1x64 → K (F := F) S_ → K (F := F) S32x64)
  :: unary main_while1b_v51 main_while1b_v66 (broadcastInDim S32x64x64 ![0, 1, 2] bcast_S32x64x1_S32x64x64_0_1_2 : K (F := F) S32x64x1 → K (F := F) S32x64x64)
  :: binary main_while1b_v66 main_while1b_v64 main_while1b_v67 (mulf : K (F := F) S32x64x64 → K (F := F) S32x64x64 → K (F := F) S32x64x64)
  :: nullary main_while1b_cst_31 (constant S_ .f32 0x00000000#32)
  :: binary main_while1b_v67 main_while1b_cst_31 main_while1b_v68 ((fun x v => Host.reduceAdd x v reducesTo_S32x64x64_S32x64_d1 h_S_) : K (F := F) S32x64x64 → K (F := F) S_ → K (F := F) S32x64)
  :: reshape main_while1b_v68 main_while1b_v69 (rfl : (.f32 : EltTy) = .f32) shapeCasts_S32x64_S32x1x64
  :: unary main_while1b_v52 main_while1b_v70 (broadcastInDim S32x64x64 ![0, 1, 2] bcast_S32x1x64_S32x64x64_0_1_2 : K (F := F) S32x1x64 → K (F := F) S32x64x64)
  :: binary main_while1b_v64 main_while1b_v70 main_while1b_v71 (mulf : K (F := F) S32x64x64 → K (F := F) S32x64x64 → K (F := F) S32x64x64)
  :: nullary main_while1b_cst_32 (constant S_ .f32 0x00000000#32)
  :: binary main_while1b_v71 main_while1b_cst_32 main_while1b_v72 ((fun x v => Host.reduceAdd x v reducesTo_S32x64x64_S32x64_d2 h_S_) : K (F := F) S32x64x64 → K (F := F) S_ → K (F := F) S32x64)
  :: reshape main_while1b_v72 main_while1b_v73 (rfl : (.f32 : EltTy) = .f32) shapeCasts_S32x64_S32x64x1
  :: nullary main_while1b_cst_33 (constant S_ .f32 0x00000000#32)
  :: binary main_while1b_v69 main_while1b_cst_33 main_while1b_v74 ((fun x v => Host.reduceAdd x v reducesTo_S32x1x64_S32x64_d1 h_S_) : K (F := F) S32x1x64 → K (F := F) S_ → K (F := F) S32x64)
  :: nullary main_while1b_cst_34 (constant S_ .f32 0x00000000#32)
  :: binary main_while1b_v73 main_while1b_cst_34 main_while1b_v75 ((fun x v => Host.reduceAdd x v reducesTo_S32x64x1_S32x64_d2 h_S_) : K (F := F) S32x64x1 → K (F := F) S_ → K (F := F) S32x64)
  :: unary main_while1b_v45 main_while1b_v76 (broadcastInDim S32x64x64 ![0, 1, 2] bcast_S32x64x1_S32x64x64_0_1_2 : K (F := F) S32x64x1 → K (F := F) S32x64x64)
  :: binary main_while1b_v76 main_while1b_v64 main_while1b_v77 (mulf : K (F := F) S32x64x64 → K (F := F) S32x64x64 → K (F := F) S32x64x64)
  :: nullary main_while1b_cst_35 (constant S_ .f32 0x00000000#32)
  :: binary main_while1b_v77 main_while1b_cst_35 main_while1b_v78 ((fun x v => Host.reduceAdd x v reducesTo_S32x64x64_S32x64_d1 h_S_) : K (F := F) S32x64x64 → K (F := F) S_ → K (F := F) S32x64)
  :: reshape main_while1b_v78 main_while1b_v79 (rfl : (.f32 : EltTy) = .f32) shapeCasts_S32x64_S32x1x64
  :: unary main_while1b_v46 main_while1b_v80 (broadcastInDim S32x64x64 ![0, 1, 2] bcast_S32x1x64_S32x64x64_0_1_2 : K (F := F) S32x1x64 → K (F := F) S32x64x64)
  :: binary main_while1b_v64 main_while1b_v80 main_while1b_v81 (mulf : K (F := F) S32x64x64 → K (F := F) S32x64x64 → K (F := F) S32x64x64)
  :: nullary main_while1b_cst_36 (constant S_ .f32 0x00000000#32)
  :: binary main_while1b_v81 main_while1b_cst_36 main_while1b_v82 ((fun x v => Host.reduceAdd x v reducesTo_S32x64x64_S32x64_d2 h_S_) : K (F := F) S32x64x64 → K (F := F) S_ → K (F := F) S32x64)
  :: reshape main_while1b_v82 main_while1b_v83 (rfl : (.f32 : EltTy) = .f32) shapeCasts_S32x64_S32x64x1
  :: nullary main_while1b_cst_37 (constant S_ .f32 0x00000000#32)
  :: binary main_while1b_v79 main_while1b_cst_37 main_while1b_v84 ((fun x v => Host.reduceAdd x v reducesTo_S32x1x64_S32x64_d1 h_S_) : K (F := F) S32x1x64 → K (F := F) S_ → K (F := F) S32x64)
  :: nullary main_while1b_cst_38 (constant S_ .f32 0x00000000#32)
  :: binary main_while1b_v83 main_while1b_cst_38 main_while1b_v85 ((fun x v => Host.reduceAdd x v reducesTo_S32x64x1_S32x64_d2 h_S_) : K (F := F) S32x64x1 → K (F := F) S_ → K (F := F) S32x64)
  :: binary main_while1b_v30 main_while1b_v64 main_while1b_v86 (mulf : K (F := F) S32x64x64 → K (F := F) S32x64x64 → K (F := F) S32x64x64)
  :: nullary main_while1b_cst_39 (constant S_ .f32 0x00000000#32)
  :: binary main_while1b_v86 main_while1b_cst_39 main_while1b_v87 ((fun x v => Host.reduceAdd x v reducesTo_S32x64x64_S32x64_d1 h_S_) : K (F := F) S32x64x64 → K (F := F) S_ → K (F := F) S32x64)
  :: reshape main_while1b_v87 main_while1b_v88 (rfl : (.f32 : EltTy) = .f32) shapeCasts_S32x64_S32x1x64
  :: unary main_while1b_v42 main_while1b_v89 (broadcastInDim S32x64x64 ![0, 1, 2] bcast_S32x1x64_S32x64x64_0_1_2 : K (F := F) S32x1x64 → K (F := F) S32x64x64)
  :: binary main_while1b_v64 main_while1b_v89 main_while1b_v90 (mulf : K (F := F) S32x64x64 → K (F := F) S32x64x64 → K (F := F) S32x64x64)
  :: nullary main_while1b_cst_40 (constant S_ .f32 0x00000000#32)
  :: binary main_while1b_v88 main_while1b_cst_40 main_while1b_v91 ((fun x v => Host.reduceAdd x v reducesTo_S32x1x64_S32x64_d1 h_S_) : K (F := F) S32x1x64 → K (F := F) S_ → K (F := F) S32x64)
  :: binary main_while1b_v91 main_while1b_v41 main_while1b_v92 (mulf : K (F := F) S32x64 → K (F := F) S32x64 → K (F := F) S32x64)
  :: unary main_while1b_v85 main_while1b_v93 (broadcastInDim S32x64x64 ![0, 1] bcast_S32x64_S32x64x64_0_1 : K (F := F) S32x64 → K (F := F) S32x64x64)
  :: binary main_while1b_v30 main_while1b_v93 main_while1b_v94 (mulf : K (F := F) S32x64x64 → K (F := F) S32x64x64 → K (F := F) S32x64x64)
  :: nullary main_while1b_cst_41 (constant S_ .f32 0x00000000#32)
  :: binary main_while1b_v94 main_while1b_cst_41 main_while1b_v95 ((fun x v => Host.reduceAdd x v reducesTo_S32x64x64_S32x64_d1 h_S_) : K (F := F) S32x64x64 → K (F := F) S_ → K (F := F) S32x64)
  :: reshape main_while1b_v95 main_while1b_v96 (rfl : (.f32 : EltTy) = .f32) shapeCasts_S32x64_S32x1x64
  :: unary main_while1b_v37 main_while1b_v97 (broadcastInDim S32x64x64 ![0, 1, 2] bcast_S32x1x64_S32x64x64_0_1_2 : K (F := F) S32x1x64 → K (F := F) S32x64x64)
  :: binary main_while1b_v93 main_while1b_v97 main_while1b_v98 (mulf : K (F := F) S32x64x64 → K (F := F) S32x64x64 → K (F := F) S32x64x64)
  :: binary main_while1b_v90 main_while1b_v98 main_while1b_v99 (addf : K (F := F) S32x64x64 → K (F := F) S32x64x64 → K (F := F) S32x64x64)
  :: nullary main_while1b_cst_42 (constant S_ .f32 0x00000000#32)
  :: binary main_while1b_v96 main_while1b_cst_42 main_while1b_v100 ((fun x v => Host.reduceAdd x v reducesTo_S32x1x64_S32x64_d1 h_S_) : K (F := F) S32x1x64 → K (F := F) S_ → K (F := F) S32x64)
  :: [] )
set_option maxHeartbeats 40000000 in  -- a long stretch: its list (or the term over it) exceeds the default budget
theorem bw9_sub : (bw9 : List (HloOp τ sig (Elt F))).Forall fun op => op.bufs ⊆ tcRefs τ sig :=
  ⟨unary_bufs_sub .., unary_bufs_sub .., binary_bufs_sub .., nullary_bufs_sub .., binary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., unary_bufs_sub .., unary_bufs_sub .., binary_bufs_sub .., nullary_bufs_sub .., binary_bufs_sub .., reshape_bufs_sub .., unary_bufs_sub .., binary_bufs_sub .., binary_bufs_sub .., nullary_bufs_sub .., binary_bufs_sub .., unary_bufs_sub .., binary_bufs_sub .., nullary_bufs_sub .., binary_bufs_sub .., reshape_bufs_sub .., unary_bufs_sub .., binary_bufs_sub .., nullary_bufs_sub .., binary_bufs_sub .., reshape_bufs_sub .., nullary_bufs_sub .., binary_bufs_sub .., nullary_bufs_sub .., binary_bufs_sub .., unary_bufs_sub .., binary_bufs_sub .., nullary_bufs_sub .., binary_bufs_sub .., reshape_bufs_sub .., unary_bufs_sub .., binary_bufs_sub .., nullary_bufs_sub .., binary_bufs_sub .., reshape_bufs_sub .., nullary_bufs_sub .., binary_bufs_sub .., nullary_bufs_sub .., binary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub .., nullary_bufs_sub .., binary_bufs_sub .., reshape_bufs_sub .., unary_bufs_sub .., binary_bufs_sub .., binary_bufs_sub .., nullary_bufs_sub .., binary_bufs_sub ..⟩
abbrev bw10 : List (HloOp τ sig (Elt F)) :=
  [ TRef.unary (.of main_while1b_v65 : TRef sig ⟨S32x64, .f32⟩) (.of main_while1b_call16_v0 : TRef sig ⟨S1x32x64, .f32⟩) (broadcastInDim S1x32x64 ![1, 2] bcast_S32x64_S1x32x64_1_2),
    TRef.nullary (.of main_while1b_call16_c : TRef sig ⟨S_, .i32⟩) (constantI S_ 32 0#32),
    TRef.nullary (.of main_while1b_call16_c_0 : TRef sig ⟨S_, .i32⟩) (constantI S_ 32 0#32),
    TRef.binaryIndexed (.of main_v20_10 : TRef sig ⟨S4096x32x64, .f32⟩) (.of main_while1b_call16_v0 : TRef sig ⟨S1x32x64, .f32⟩) ![(.of main_while1b_v28 : TRef sig ⟨S_, .i32⟩), (.of main_while1b_call16_c : TRef sig ⟨S_, .i32⟩), (.of main_while1b_call16_c_0 : TRef sig ⟨S_, .i32⟩)] (.of main_while1b_v101 : TRef sig ⟨S4096x32x64, .f32⟩) (fun x u i => Host.dynamicUpdateSlice x u (fun k => (i k (Shape.Idx.first h_S_)).toInt) updateFits_S4096x32x64_S1x32x64) ]
theorem bw10_sub : (bw10 : List (HloOp τ sig (Elt F))).Forall fun op => op.bufs ⊆ tcRefs τ sig :=
  ⟨unary_bufs_sub .., nullary_bufs_sub .., nullary_bufs_sub .., binaryIndexed_bufs_sub ..⟩
abbrev bw11 : List (HloOp τ sig (Elt F)) :=
  [ TRef.unary (.of main_while1b_v92 : TRef sig ⟨S32x64, .f32⟩) (.of main_while1b_call17_v0 : TRef sig ⟨S1x32x64, .f32⟩) (broadcastInDim S1x32x64 ![1, 2] bcast_S32x64_S1x32x64_1_2),
    TRef.nullary (.of main_while1b_call17_c : TRef sig ⟨S_, .i32⟩) (constantI S_ 32 0#32),
    TRef.nullary (.of main_while1b_call17_c_0 : TRef sig ⟨S_, .i32⟩) (constantI S_ 32 0#32),
    TRef.binaryIndexed (.of main_v20_11 : TRef sig ⟨S4096x32x64, .f32⟩) (.of main_while1b_call17_v0 : TRef sig ⟨S1x32x64, .f32⟩) ![(.of main_while1b_v28 : TRef sig ⟨S_, .i32⟩), (.of main_while1b_call17_c : TRef sig ⟨S_, .i32⟩), (.of main_while1b_call17_c_0 : TRef sig ⟨S_, .i32⟩)] (.of main_while1b_v102 : TRef sig ⟨S4096x32x64, .f32⟩) (fun x u i => Host.dynamicUpdateSlice x u (fun k => (i k (Shape.Idx.first h_S_)).toInt) updateFits_S4096x32x64_S1x32x64) ]
theorem bw11_sub : (bw11 : List (HloOp τ sig (Elt F))).Forall fun op => op.bufs ⊆ tcRefs τ sig :=
  ⟨unary_bufs_sub .., nullary_bufs_sub .., nullary_bufs_sub .., binaryIndexed_bufs_sub ..⟩
abbrev bw12 : List (HloOp τ sig (Elt F)) :=
  [ TRef.unary (.of main_while1b_v74 : TRef sig ⟨S32x64, .f32⟩) (.of main_while1b_call18_v0 : TRef sig ⟨S1x32x64, .f32⟩) (broadcastInDim S1x32x64 ![1, 2] bcast_S32x64_S1x32x64_1_2),
    TRef.nullary (.of main_while1b_call18_c : TRef sig ⟨S_, .i32⟩) (constantI S_ 32 0#32),
    TRef.nullary (.of main_while1b_call18_c_0 : TRef sig ⟨S_, .i32⟩) (constantI S_ 32 0#32),
    TRef.binaryIndexed (.of main_v20_12 : TRef sig ⟨S4096x32x64, .f32⟩) (.of main_while1b_call18_v0 : TRef sig ⟨S1x32x64, .f32⟩) ![(.of main_while1b_v28 : TRef sig ⟨S_, .i32⟩), (.of main_while1b_call18_c : TRef sig ⟨S_, .i32⟩), (.of main_while1b_call18_c_0 : TRef sig ⟨S_, .i32⟩)] (.of main_while1b_v103 : TRef sig ⟨S4096x32x64, .f32⟩) (fun x u i => Host.dynamicUpdateSlice x u (fun k => (i k (Shape.Idx.first h_S_)).toInt) updateFits_S4096x32x64_S1x32x64) ]
theorem bw12_sub : (bw12 : List (HloOp τ sig (Elt F))).Forall fun op => op.bufs ⊆ tcRefs τ sig :=
  ⟨unary_bufs_sub .., nullary_bufs_sub .., nullary_bufs_sub .., binaryIndexed_bufs_sub ..⟩
abbrev bw13 : List (HloOp τ sig (Elt F)) :=
  [ TRef.unary (.of main_while1b_v75 : TRef sig ⟨S32x64, .f32⟩) (.of main_while1b_call19_v0 : TRef sig ⟨S1x32x64, .f32⟩) (broadcastInDim S1x32x64 ![1, 2] bcast_S32x64_S1x32x64_1_2),
    TRef.nullary (.of main_while1b_call19_c : TRef sig ⟨S_, .i32⟩) (constantI S_ 32 0#32),
    TRef.nullary (.of main_while1b_call19_c_0 : TRef sig ⟨S_, .i32⟩) (constantI S_ 32 0#32),
    TRef.binaryIndexed (.of main_v20_13 : TRef sig ⟨S4096x32x64, .f32⟩) (.of main_while1b_call19_v0 : TRef sig ⟨S1x32x64, .f32⟩) ![(.of main_while1b_v28 : TRef sig ⟨S_, .i32⟩), (.of main_while1b_call19_c : TRef sig ⟨S_, .i32⟩), (.of main_while1b_call19_c_0 : TRef sig ⟨S_, .i32⟩)] (.of main_while1b_v104 : TRef sig ⟨S4096x32x64, .f32⟩) (fun x u i => Host.dynamicUpdateSlice x u (fun k => (i k (Shape.Idx.first h_S_)).toInt) updateFits_S4096x32x64_S1x32x64) ]
theorem bw13_sub : (bw13 : List (HloOp τ sig (Elt F))).Forall fun op => op.bufs ⊆ tcRefs τ sig :=
  ⟨unary_bufs_sub .., nullary_bufs_sub .., nullary_bufs_sub .., binaryIndexed_bufs_sub ..⟩
abbrev bw14 : List (HloOp τ sig (Elt F)) :=
  [ TRef.unary (.of main_while1b_v100 : TRef sig ⟨S32x64, .f32⟩) (.of main_while1b_call20_v0 : TRef sig ⟨S1x32x64, .f32⟩) (broadcastInDim S1x32x64 ![1, 2] bcast_S32x64_S1x32x64_1_2),
    TRef.nullary (.of main_while1b_call20_c : TRef sig ⟨S_, .i32⟩) (constantI S_ 32 0#32),
    TRef.nullary (.of main_while1b_call20_c_0 : TRef sig ⟨S_, .i32⟩) (constantI S_ 32 0#32),
    TRef.binaryIndexed (.of main_v20_14 : TRef sig ⟨S4096x32x64, .f32⟩) (.of main_while1b_call20_v0 : TRef sig ⟨S1x32x64, .f32⟩) ![(.of main_while1b_v28 : TRef sig ⟨S_, .i32⟩), (.of main_while1b_call20_c : TRef sig ⟨S_, .i32⟩), (.of main_while1b_call20_c_0 : TRef sig ⟨S_, .i32⟩)] (.of main_while1b_v105 : TRef sig ⟨S4096x32x64, .f32⟩) (fun x u i => Host.dynamicUpdateSlice x u (fun k => (i k (Shape.Idx.first h_S_)).toInt) updateFits_S4096x32x64_S1x32x64) ]
theorem bw14_sub : (bw14 : List (HloOp τ sig (Elt F))).Forall fun op => op.bufs ⊆ tcRefs τ sig :=
  ⟨unary_bufs_sub .., nullary_bufs_sub .., nullary_bufs_sub .., binaryIndexed_bufs_sub ..⟩
abbrev bw15 : List (HloOp τ sig (Elt F)) :=
  [ TRef.unary (.of main_while1b_v84 : TRef sig ⟨S32x64, .f32⟩) (.of main_while1b_call21_v0 : TRef sig ⟨S1x32x64, .f32⟩) (broadcastInDim S1x32x64 ![1, 2] bcast_S32x64_S1x32x64_1_2),
    TRef.nullary (.of main_while1b_call21_c : TRef sig ⟨S_, .i32⟩) (constantI S_ 32 0#32),
    TRef.nullary (.of main_while1b_call21_c_0 : TRef sig ⟨S_, .i32⟩) (constantI S_ 32 0#32),
    TRef.binaryIndexed (.of main_v20_15 : TRef sig ⟨S4096x32x64, .f32⟩) (.of main_while1b_call21_v0 : TRef sig ⟨S1x32x64, .f32⟩) ![(.of main_while1b_v28 : TRef sig ⟨S_, .i32⟩), (.of main_while1b_call21_c : TRef sig ⟨S_, .i32⟩), (.of main_while1b_call21_c_0 : TRef sig ⟨S_, .i32⟩)] (.of main_while1b_v106 : TRef sig ⟨S4096x32x64, .f32⟩) (fun x u i => Host.dynamicUpdateSlice x u (fun k => (i k (Shape.Idx.first h_S_)).toInt) updateFits_S4096x32x64_S1x32x64) ]
theorem bw15_sub : (bw15 : List (HloOp τ sig (Elt F))).Forall fun op => op.bufs ⊆ tcRefs τ sig :=
  ⟨unary_bufs_sub .., nullary_bufs_sub .., nullary_bufs_sub .., binaryIndexed_bufs_sub ..⟩
abbrev bw16 : List (HloOp τ sig (Elt F)) :=
  [ nullary main_while1b_c_43 (constantI S_ 32 1#32),
    binary main_v20_8 main_while1b_c_43 main_while1b_v107 (addi : I (F := F) S_ → I (F := F) S_ → I (F := F) S_),
    unary main_while1b_v107 main_v20_8 id,
    unary main_while1b_v99 main_v20_9 id,
    unary main_while1b_v101 main_v20_10 id,
    unary main_while1b_v102 main_v20_11 id,
    unary main_while1b_v103 main_v20_12 id,
    unary main_while1b_v104 main_v20_13 id,
    unary main_while1b_v105 main_v20_14 id,
    unary main_while1b_v106 main_v20_15 id ]
theorem bw16_sub : (bw16 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub ..⟩

abbrev Ef (F : FTy → Type) [FloatOps F] := TpuEff nD τ sig (Elt F) (HostLoop.Sig (Pipeline.Sig Λ₀ (Fin 0) fun p => (pcfgs (F := F) p).Adm) 2) .tc

theorem part0_chain (c : Dev nD) : main_part0 (F := F) c = (Pipeline.chainK
  [ seq opsStart,
    HostLoop.enter 0,
    seq opsMid ]
  (HostLoop.enter 1) : Prog (Ef F) PUnit) := by
  rewrite [chainK_seq_cons, Pipeline.chainK_cons, chainK_seq_cons]
  chain_rfl

theorem part1_chain (c : Dev nD) : main_part1 (F := F) c = (Pipeline.chain
  [ seq opsEnd ] : Prog (Ef F) PUnit) := by
  rewrite [chain_seq_cons]
  chain_rfl

theorem main_chain (c : Dev nD) : main (F := F) c = (Pipeline.chain
  [ seq opsStart,
    HostLoop.enter 0,
    seq opsMid,
    HostLoop.enter 1,
    seq opsEnd ] : Prog (Ef F) PUnit) := by
  show (main_part0 (F := F) c >>= fun _ => main_part1 (F := F) c) = _
  rewrite [part1_chain, part0_chain, Pipeline.chainK_bind_chain]
  chain_rfl

theorem fw_chain : main_while0_body (F := F) = (Pipeline.chain
  [ seq fw0,
    seq fw1,
    seq fw2,
    seq fw3,
    seq fw4,
    seq fw5,
    seq fw6,
    seq fw7,
    seq fw8,
    seq fw9 ] : Prog (Ef F) PUnit) := by
  rewrite [Pipeline.chain_cons, Pipeline.chain_cons, Pipeline.chain_cons, Pipeline.chain_cons, Pipeline.chain_cons, Pipeline.chain_cons, chain_seq_cons, Pipeline.chain_cons, Pipeline.chain_cons, chain_seq_cons]
  chain_rfl

theorem bw_chain : main_while1_body (F := F) = (Pipeline.chain
  [ seq bw0,
    seq bw1,
    seq bw2,
    seq bw3,
    seq bw4,
    seq bw5,
    seq bw6,
    seq bw7,
    seq bw8,
    seq bw9,
    seq bw10,
    seq bw11,
    seq bw12,
    seq bw13,
    seq bw14,
    seq bw15,
    seq bw16 ] : Prog (Ef F) PUnit) := by
  rewrite [chain_seq_cons, Pipeline.chain_cons, Pipeline.chain_cons, Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, Pipeline.chain_cons, Pipeline.chain_cons, chain_seq_cons]
  chain_rfl

end Cert.ReferenceIdeal.Rec
-- ==== Proof.RefKeeps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import proofs.«01_k».proof.Proof.RefOps
public import Idealize.ShloMosaic.Lib.Quiescent
public import Idealize.ShloMosaic.Lib.Scf.ExitTest
public import Idealize.ShloMosaic.Lib.Scf.Counter

@[expose] public section

set_option maxRecDepth 16384

noncomputable section

namespace Cert.ReferenceIdeal.Rec

open Idealize.ShloMosaic Idealize.ShloMosaic.TcCoe
open Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-! The operation lists of the reference program and of its two host loops, and the blocks they make up. -/

/-! The lists of references each stretch writes. -/

abbrev fwI : List (List (HloOp τ sig (Elt F))) := [fw0, fw1, fw2, fw3, fw4, fw5, fw6, fw7, fw8, fw9]
abbrev bwI : List (List (HloOp τ sig (Elt F))) := [bw0, bw1, bw2, bw3, bw4, bw5, bw6, bw7, bw8, bw9, bw10, bw11, bw12, bw13, bw14, bw15, bw16]
abbrev cond0 : List (HloOp τ sig (Elt F)) :=
  [ nullary main_while0c_c_20 (constantI S_ 32 4096#32),
    binary main_v9_6 main_while0c_c_20 main_while0c_v27 (cmpi .slt : I (F := F) S_ → I (F := F) S_ → (⟨S_, .i1⟩ : BufTy).Contents (Elt F)) ]
def cond0W : List (Ref sig .tc) := [main_while0c_c_20, main_while0c_v27]
abbrev cond1 : List (HloOp τ sig (Elt F)) :=
  [ nullary main_while1c_c_26 (constantI S_ 32 4096#32),
    binary main_v20_8 main_while1c_c_26 main_while1c_v27 (cmpi .slt : I (F := F) S_ → I (F := F) S_ → (⟨S_, .i1⟩ : BufTy).Contents (Elt F)) ]
def cond1W : List (Ref sig .tc) := [main_while1c_c_26, main_while1c_v27]
def opsStartW : List (Ref sig .tc) :=
  [main_v0, main_v1, main_v2, main_v3, main_v4, main_v5, main_cst, main_v6, main_cst_0, main_v7, main_cst_1, main_v8, main_c, main_v9_0, main_v9_1, main_v9_2, main_v9_3, main_v9_4, main_v9_5, main_v9_6, main_v9_7, main_v9_8, main_v9_9]
def opsMidW : List (Ref sig .tc) :=
  [main_v10, main_cst_2, main_v11, main_v12, main_cst_3, main_v13, main_cst_4, main_v14, main_cst_5, main_v15, main_cst_6, main_v16, main_cst_7, main_v17, main_cst_8, main_v18, main_cst_9, main_v19, main_c_10, main_v20_0, main_v20_1, main_v20_2, main_v20_3, main_v20_4, main_v20_5, main_v20_6, main_v20_7, main_v20_8, main_v20_9, main_v20_10, main_v20_11, main_v20_12, main_v20_13, main_v20_14, main_v20_15]
def opsEndW : List (Ref sig .tc) :=
  [main_v21, main_v22, main_v23, main_v24, main_v25, main_v26]
def fw0W : List (Ref sig .tc) :=
  [main_while0b_call0_c, main_while0b_call0_c_0, main_while0b_call0_v0, main_while0b_v27]
def fw1W : List (Ref sig .tc) :=
  [main_while0b_call1_c, main_while0b_call1_c_0, main_while0b_call1_v0, main_while0b_v28]
def fw2W : List (Ref sig .tc) :=
  [main_while0b_call2_c, main_while0b_call2_c_0, main_while0b_call2_v0, main_while0b_v29]
def fw3W : List (Ref sig .tc) :=
  [main_while0b_call3_c, main_while0b_call3_c_0, main_while0b_call3_v0, main_while0b_v30]
def fw4W : List (Ref sig .tc) :=
  [main_while0b_call4_c, main_while0b_call4_c_0, main_while0b_call4_v0, main_while0b_v31]
def fw5W : List (Ref sig .tc) :=
  [main_while0b_call5_c, main_while0b_call5_c_0, main_while0b_call5_v0, main_while0b_v32]
def fw6W : List (Ref sig .tc) :=
  [main_while0b_v33, main_while0b_v34, main_while0b_v35, main_while0b_cst_20, main_while0b_v36, main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_cst_21, main_while0b_v56]
def fw7W : List (Ref sig .tc) :=
  [main_while0b_call6_v0, main_while0b_call6_c, main_while0b_call6_c_0, main_while0b_v57]
def fw8W : List (Ref sig .tc) :=
  [main_while0b_call7_v0, main_while0b_call7_c, main_while0b_call7_c_0, main_while0b_call7_c_1, main_while0b_v58]
def fw9W : List (Ref sig .tc) :=
  [main_while0b_c_22, main_while0b_v59, main_v9_6, main_v9_7, main_v9_8, main_v9_9]
def bw0W : List (Ref sig .tc) :=
  [main_while1b_c_26, main_while1b_v27, main_while1b_c_27, main_while1b_v28]
def bw1W : List (Ref sig .tc) :=
  [main_while1b_call8_c, main_while1b_call8_c_0, main_while1b_call8_v0, main_while1b_v29]
def bw2W : List (Ref sig .tc) :=
  [main_while1b_call9_c, main_while1b_call9_c_0, main_while1b_call9_c_1, main_while1b_call9_v0, main_while1b_v30]
def bw3W : List (Ref sig .tc) :=
  [main_while1b_call10_c, main_while1b_call10_c_0, main_while1b_call10_v0, main_while1b_v31]
def bw4W : List (Ref sig .tc) :=
  [main_while1b_call11_c, main_while1b_call11_c_0, main_while1b_call11_v0, main_while1b_v32]
def bw5W : List (Ref sig .tc) :=
  [main_while1b_call12_c, main_while1b_call12_c_0, main_while1b_call12_v0, main_while1b_v33]
def bw6W : List (Ref sig .tc) :=
  [main_while1b_call13_c, main_while1b_call13_c_0, main_while1b_call13_v0, main_while1b_v34]
def bw7W : List (Ref sig .tc) :=
  [main_while1b_call14_c, main_while1b_call14_c_0, main_while1b_call14_v0, main_while1b_v35]
def bw8W : List (Ref sig .tc) :=
  [main_while1b_call15_c, main_while1b_call15_c_0, main_while1b_call15_v0, main_while1b_v36]
def bw9W : List (Ref sig .tc) :=
  [main_while1b_v37, main_while1b_v38, main_while1b_v39, main_while1b_cst_28, main_while1b_v40, main_while1b_v41, main_while1b_v42, main_while1b_v43, main_while1b_v44, main_while1b_v45, main_while1b_v46, main_while1b_v47, main_while1b_v48, main_while1b_v49, main_while1b_v50, main_while1b_v51, main_while1b_v52, main_while1b_v53, main_while1b_v54, main_while1b_v55, main_while1b_v56, main_while1b_v57, main_while1b_v58, main_while1b_v59, main_while1b_cst_29, main_while1b_v60, main_while1b_v61, main_while1b_v62, main_while1b_v63, main_while1b_v64, main_while1b_cst_30, main_while1b_v65, main_while1b_v66, main_while1b_v67, main_while1b_cst_31, main_while1b_v68, main_while1b_v69, main_while1b_v70, main_while1b_v71, main_while1b_cst_32, main_while1b_v72, main_while1b_v73, main_while1b_cst_33, main_while1b_v74, main_while1b_cst_34, main_while1b_v75, main_while1b_v76, main_while1b_v77, main_while1b_cst_35, main_while1b_v78, main_while1b_v79, main_while1b_v80, main_while1b_v81, main_while1b_cst_36, main_while1b_v82, main_while1b_v83, main_while1b_cst_37, main_while1b_v84, main_while1b_cst_38, main_while1b_v85, main_while1b_v86, main_while1b_cst_39, main_while1b_v87, main_while1b_v88, main_while1b_v89, main_while1b_v90, main_while1b_cst_40, main_while1b_v91, main_while1b_v92, main_while1b_v93, main_while1b_v94, main_while1b_cst_41, main_while1b_v95, main_while1b_v96, main_while1b_v97, main_while1b_v98, main_while1b_v99, main_while1b_cst_42, main_while1b_v100]
def bw10W : List (Ref sig .tc) :=
  [main_while1b_call16_v0, main_while1b_call16_c, main_while1b_call16_c_0, main_while1b_v101]
def bw11W : List (Ref sig .tc) :=
  [main_while1b_call17_v0, main_while1b_call17_c, main_while1b_call17_c_0, main_while1b_v102]
def bw12W : List (Ref sig .tc) :=
  [main_while1b_call18_v0, main_while1b_call18_c, main_while1b_call18_c_0, main_while1b_v103]
def bw13W : List (Ref sig .tc) :=
  [main_while1b_call19_v0, main_while1b_call19_c, main_while1b_call19_c_0, main_while1b_v104]
def bw14W : List (Ref sig .tc) :=
  [main_while1b_call20_v0, main_while1b_call20_c, main_while1b_call20_c_0, main_while1b_v105]
def bw15W : List (Ref sig .tc) :=
  [main_while1b_call21_v0, main_while1b_call21_c, main_while1b_call21_c_0, main_while1b_v106]
def bw16W : List (Ref sig .tc) :=
  [main_while1b_c_43, main_while1b_v107, main_v20_8, main_v20_9, main_v20_10, main_v20_11, main_v20_12, main_v20_13, main_v20_14, main_v20_15]
abbrev fwInit : List (List (HloOp τ sig (Elt F))) := [fw0, fw1, fw2, fw3, fw4, fw5, fw6, fw7, fw8]
abbrev bwInit : List (List (HloOp τ sig (Elt F))) := [bw0, bw1, bw2, bw3, bw4, bw5, bw6, bw7, bw8, bw9, bw10, bw11, bw12, bw13, bw14, bw15]
def fwInitW : List (Ref sig .tc) := fw0W ++ (fw1W ++ (fw2W ++ (fw3W ++ (fw4W ++ (fw5W ++ (fw6W ++ (fw7W ++ (fw8W))))))))
def bwInitW : List (Ref sig .tc) := bw0W ++ (bw1W ++ (bw2W ++ (bw3W ++ (bw4W ++ (bw5W ++ (bw6W ++ (bw7W ++ (bw8W ++ (bw9W ++ (bw10W ++ (bw11W ++ (bw12W ++ (bw13W ++ (bw14W ++ (bw15W)))))))))))))))
def fwIW : List (Ref sig .tc) := fw0W ++ (fw1W ++ (fw2W ++ (fw3W ++ (fw4W ++ (fw5W ++ (fw6W ++ (fw7W ++ (fw8W ++ (fw9W)))))))))
def bwIW : List (Ref sig .tc) := bw0W ++ (bw1W ++ (bw2W ++ (bw3W ++ (bw4W ++ (bw5W ++ (bw6W ++ (bw7W ++ (bw8W ++ (bw9W ++ (bw10W ++ (bw11W ++ (bw12W ++ (bw13W ++ (bw14W ++ (bw15W ++ (bw16W))))))))))))))))
theorem opsStart_keeps (X : Valuation τ sig (Elt F)) {r : Ref sig .tc} (hr : r ∉ opsStartW) :
    after opsStart X (Proc.devRef .tc r) = X (Proc.devRef .tc r) := after_unwritten opsStartW rfl hr X
theorem opsMid_keeps (X : Valuation τ sig (Elt F)) {r : Ref sig .tc} (hr : r ∉ opsMidW) :
    after opsMid X (Proc.devRef .tc r) = X (Proc.devRef .tc r) := after_unwritten opsMidW rfl hr X
theorem opsEnd_keeps (X : Valuation τ sig (Elt F)) {r : Ref sig .tc} (hr : r ∉ opsEndW) :
    after opsEnd X (Proc.devRef .tc r) = X (Proc.devRef .tc r) := after_unwritten opsEndW rfl hr X
theorem cond0_keeps (X : Valuation τ sig (Elt F)) {r : Ref sig .tc} (hr : r ∉ cond0W) :
    after cond0 X (Proc.devRef .tc r) = X (Proc.devRef .tc r) := after_unwritten cond0W rfl hr X
theorem cond1_keeps (X : Valuation τ sig (Elt F)) {r : Ref sig .tc} (hr : r ∉ cond1W) :
    after cond1 X (Proc.devRef .tc r) = X (Proc.devRef .tc r) := after_unwritten cond1W rfl hr X
theorem fw0_keeps (X : Valuation τ sig (Elt F)) {r : Ref sig .tc} (hr : r ∉ fw0W) :
    after fw0 X (Proc.devRef .tc r) = X (Proc.devRef .tc r) := after_unwritten fw0W rfl hr X
theorem fw1_keeps (X : Valuation τ sig (Elt F)) {r : Ref sig .tc} (hr : r ∉ fw1W) :
    after fw1 X (Proc.devRef .tc r) = X (Proc.devRef .tc r) := after_unwritten fw1W rfl hr X
theorem fw2_keeps (X : Valuation τ sig (Elt F)) {r : Ref sig .tc} (hr : r ∉ fw2W) :
    after fw2 X (Proc.devRef .tc r) = X (Proc.devRef .tc r) := after_unwritten fw2W rfl hr X
theorem fw3_keeps (X : Valuation τ sig (Elt F)) {r : Ref sig .tc} (hr : r ∉ fw3W) :
    after fw3 X (Proc.devRef .tc r) = X (Proc.devRef .tc r) := after_unwritten fw3W rfl hr X
theorem fw4_keeps (X : Valuation τ sig (Elt F)) {r : Ref sig .tc} (hr : r ∉ fw4W) :
    after fw4 X (Proc.devRef .tc r) = X (Proc.devRef .tc r) := after_unwritten fw4W rfl hr X
theorem fw5_keeps (X : Valuation τ sig (Elt F)) {r : Ref sig .tc} (hr : r ∉ fw5W) :
    after fw5 X (Proc.devRef .tc r) = X (Proc.devRef .tc r) := after_unwritten fw5W rfl hr X
theorem fw6_keeps (X : Valuation τ sig (Elt F)) {r : Ref sig .tc} (hr : r ∉ fw6W) :
    after fw6 X (Proc.devRef .tc r) = X (Proc.devRef .tc r) := after_unwritten fw6W rfl hr X
theorem fw7_keeps (X : Valuation τ sig (Elt F)) {r : Ref sig .tc} (hr : r ∉ fw7W) :
    after fw7 X (Proc.devRef .tc r) = X (Proc.devRef .tc r) := after_unwritten fw7W rfl hr X
theorem fw8_keeps (X : Valuation τ sig (Elt F)) {r : Ref sig .tc} (hr : r ∉ fw8W) :
    after fw8 X (Proc.devRef .tc r) = X (Proc.devRef .tc r) := after_unwritten fw8W rfl hr X
theorem fw9_keeps (X : Valuation τ sig (Elt F)) {r : Ref sig .tc} (hr : r ∉ fw9W) :
    after fw9 X (Proc.devRef .tc r) = X (Proc.devRef .tc r) := after_unwritten fw9W rfl hr X
theorem bw0_keeps (X : Valuation τ sig (Elt F)) {r : Ref sig .tc} (hr : r ∉ bw0W) :
    after bw0 X (Proc.devRef .tc r) = X (Proc.devRef .tc r) := after_unwritten bw0W rfl hr X
theorem bw1_keeps (X : Valuation τ sig (Elt F)) {r : Ref sig .tc} (hr : r ∉ bw1W) :
    after bw1 X (Proc.devRef .tc r) = X (Proc.devRef .tc r) := after_unwritten bw1W rfl hr X
theorem bw2_keeps (X : Valuation τ sig (Elt F)) {r : Ref sig .tc} (hr : r ∉ bw2W) :
    after bw2 X (Proc.devRef .tc r) = X (Proc.devRef .tc r) := after_unwritten bw2W rfl hr X
theorem bw3_keeps (X : Valuation τ sig (Elt F)) {r : Ref sig .tc} (hr : r ∉ bw3W) :
    after bw3 X (Proc.devRef .tc r) = X (Proc.devRef .tc r) := after_unwritten bw3W rfl hr X
theorem bw4_keeps (X : Valuation τ sig (Elt F)) {r : Ref sig .tc} (hr : r ∉ bw4W) :
    after bw4 X (Proc.devRef .tc r) = X (Proc.devRef .tc r) := after_unwritten bw4W rfl hr X
theorem bw5_keeps (X : Valuation τ sig (Elt F)) {r : Ref sig .tc} (hr : r ∉ bw5W) :
    after bw5 X (Proc.devRef .tc r) = X (Proc.devRef .tc r) := after_unwritten bw5W rfl hr X
theorem bw6_keeps (X : Valuation τ sig (Elt F)) {r : Ref sig .tc} (hr : r ∉ bw6W) :
    after bw6 X (Proc.devRef .tc r) = X (Proc.devRef .tc r) := after_unwritten bw6W rfl hr X
theorem bw7_keeps (X : Valuation τ sig (Elt F)) {r : Ref sig .tc} (hr : r ∉ bw7W) :
    after bw7 X (Proc.devRef .tc r) = X (Proc.devRef .tc r) := after_unwritten bw7W rfl hr X
theorem bw8_keeps (X : Valuation τ sig (Elt F)) {r : Ref sig .tc} (hr : r ∉ bw8W) :
    after bw8 X (Proc.devRef .tc r) = X (Proc.devRef .tc r) := after_unwritten bw8W rfl hr X
theorem bw9_keeps (X : Valuation τ sig (Elt F)) {r : Ref sig .tc} (hr : r ∉ bw9W) :
    after bw9 X (Proc.devRef .tc r) = X (Proc.devRef .tc r) := after_unwritten bw9W rfl hr X
theorem bw10_keeps (X : Valuation τ sig (Elt F)) {r : Ref sig .tc} (hr : r ∉ bw10W) :
    after bw10 X (Proc.devRef .tc r) = X (Proc.devRef .tc r) := after_unwritten bw10W rfl hr X
theorem bw11_keeps (X : Valuation τ sig (Elt F)) {r : Ref sig .tc} (hr : r ∉ bw11W) :
    after bw11 X (Proc.devRef .tc r) = X (Proc.devRef .tc r) := after_unwritten bw11W rfl hr X
theorem bw12_keeps (X : Valuation τ sig (Elt F)) {r : Ref sig .tc} (hr : r ∉ bw12W) :
    after bw12 X (Proc.devRef .tc r) = X (Proc.devRef .tc r) := after_unwritten bw12W rfl hr X
theorem bw13_keeps (X : Valuation τ sig (Elt F)) {r : Ref sig .tc} (hr : r ∉ bw13W) :
    after bw13 X (Proc.devRef .tc r) = X (Proc.devRef .tc r) := after_unwritten bw13W rfl hr X
theorem bw14_keeps (X : Valuation τ sig (Elt F)) {r : Ref sig .tc} (hr : r ∉ bw14W) :
    after bw14 X (Proc.devRef .tc r) = X (Proc.devRef .tc r) := after_unwritten bw14W rfl hr X
theorem bw15_keeps (X : Valuation τ sig (Elt F)) {r : Ref sig .tc} (hr : r ∉ bw15W) :
    after bw15 X (Proc.devRef .tc r) = X (Proc.devRef .tc r) := after_unwritten bw15W rfl hr X
theorem bw16_keeps (X : Valuation τ sig (Elt F)) {r : Ref sig .tc} (hr : r ∉ bw16W) :
    after bw16 X (Proc.devRef .tc r) = X (Proc.devRef .tc r) := after_unwritten bw16W rfl hr X
theorem fwInit_keeps (X : Valuation τ sig (Elt F)) {r : Ref sig .tc} (hr : r ∉ fwInitW) :
    afterL fwInit X (Proc.devRef .tc r) = X (Proc.devRef .tc r) := by
  simp only [fwInitW, List.mem_append, not_or] at hr
  obtain ⟨h0, h1, h2, h3, h4, h5, h6, h7, h8⟩ := hr
  simp only [afterL_cons, afterL_nil]
  rw [fw8_keeps _ h8, fw7_keeps _ h7, fw6_keeps _ h6, fw5_keeps _ h5, fw4_keeps _ h4, fw3_keeps _ h3, fw2_keeps _ h2, fw1_keeps _ h1, fw0_keeps _ h0]
theorem bwInit_keeps (X : Valuation τ sig (Elt F)) {r : Ref sig .tc} (hr : r ∉ bwInitW) :
    afterL bwInit X (Proc.devRef .tc r) = X (Proc.devRef .tc r) := by
  simp only [bwInitW, List.mem_append, not_or] at hr
  obtain ⟨h0, h1, h2, h3, h4, h5, h6, h7, h8, h9, h10, h11, h12, h13, h14, h15⟩ := hr
  simp only [afterL_cons, afterL_nil]
  rw [bw15_keeps _ h15, bw14_keeps _ h14, bw13_keeps _ h13, bw12_keeps _ h12, bw11_keeps _ h11, bw10_keeps _ h10, bw9_keeps _ h9, bw8_keeps _ h8, bw7_keeps _ h7, bw6_keeps _ h6, bw5_keeps _ h5, bw4_keeps _ h4, bw3_keeps _ h3, bw2_keeps _ h2, bw1_keeps _ h1, bw0_keeps _ h0]
theorem fwI_keeps (X : Valuation τ sig (Elt F)) {r : Ref sig .tc} (hr : r ∉ fwIW) :
    afterL fwI X (Proc.devRef .tc r) = X (Proc.devRef .tc r) := by
  simp only [fwIW, List.mem_append, not_or] at hr
  obtain ⟨h0, h1, h2, h3, h4, h5, h6, h7, h8, h9⟩ := hr
  simp only [afterL_cons, afterL_nil]
  rw [fw9_keeps _ h9, fw8_keeps _ h8, fw7_keeps _ h7, fw6_keeps _ h6, fw5_keeps _ h5, fw4_keeps _ h4, fw3_keeps _ h3, fw2_keeps _ h2, fw1_keeps _ h1, fw0_keeps _ h0]
theorem bwI_keeps (X : Valuation τ sig (Elt F)) {r : Ref sig .tc} (hr : r ∉ bwIW) :
    afterL bwI X (Proc.devRef .tc r) = X (Proc.devRef .tc r) := by
  simp only [bwIW, List.mem_append, not_or] at hr
  obtain ⟨h0, h1, h2, h3, h4, h5, h6, h7, h8, h9, h10, h11, h12, h13, h14, h15, h16⟩ := hr
  simp only [afterL_cons, afterL_nil]
  rw [bw16_keeps _ h16, bw15_keeps _ h15, bw14_keeps _ h14, bw13_keeps _ h13, bw12_keeps _ h12, bw11_keeps _ h11, bw10_keeps _ h10, bw9_keeps _ h9, bw8_keeps _ h8, bw7_keeps _ h7, bw6_keeps _ h6, bw5_keeps _ h5, bw4_keeps _ h4, bw3_keeps _ h3, bw2_keeps _ h2, bw1_keeps _ h1, bw0_keeps _ h0]

end Cert.ReferenceIdeal.Rec
-- ==== Proof.RefFold.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import proofs.«01_k».proof.Proof.RefKeeps
public import Idealize.ShloMosaic.Lib.Quiescent
public import Idealize.ShloMosaic.Lib.Scf.ExitTest
public import Idealize.ShloMosaic.Lib.Scf.Counter

@[expose] public section

set_option maxRecDepth 16384

noncomputable section

namespace Cert.ReferenceIdeal.Rec

open Idealize.ShloMosaic Idealize.ShloMosaic.TcCoe
open Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-! The operation lists of the reference program and of its two host loops, and the blocks they make up. -/

theorem start_plain : Plain [(opsStart : List (HloOp τ sig (Elt F)))] := .cons opsStart_sub .nil
theorem mid_plain : Plain [(opsMid : List (HloOp τ sig (Elt F)))] := .cons opsMid_sub .nil
theorem end_plain : Plain [(opsEnd : List (HloOp τ sig (Elt F)))] := .cons opsEnd_sub .nil
theorem fw_plain : Plain (fwI (F := F)) := .cons fw0_sub (.cons fw1_sub (.cons fw2_sub (.cons fw3_sub (.cons fw4_sub (.cons fw5_sub (.cons fw6_sub (.cons fw7_sub (.cons fw8_sub (.cons fw9_sub (.nil))))))))))
theorem bw_plain : Plain (bwI (F := F)) := .cons bw0_sub (.cons bw1_sub (.cons bw2_sub (.cons bw3_sub (.cons bw4_sub (.cons bw5_sub (.cons bw6_sub (.cons bw7_sub (.cons bw8_sub (.cons bw9_sub (.cons bw10_sub (.cons bw11_sub (.cons bw12_sub (.cons bw13_sub (.cons bw14_sub (.cons bw15_sub (.cons bw16_sub (.nil)))))))))))))))))

variable (m : (ℓ : Loc nD τ sig) → Buf (Elt F) ℓ) (ρ : Dev nD → PrngReg)

/-- The buffers when the first loop starts, before its `k`-th test, when the second starts, before its `k`-th test, at the end. -/
def atA (c : Dev nD) : Valuation τ sig (Elt F) := after opsStart (launchContents m c)
def trip0 (k : ℕ) (c : Dev nD) : Valuation τ sig (Elt F) := atTrip cond0 fwI (atA m) k c
def atB (c : Dev nD) : Valuation τ sig (Elt F) := after opsMid (after cond0 (trip0 m 4096 c))
def trip1 (k : ℕ) (c : Dev nD) : Valuation τ sig (Elt F) := atTrip cond1 bwI (atB m) k c
def atC (c : Dev nD) : Valuation τ sig (Elt F) := after opsEnd (after cond1 (trip1 m 4096 c))

theorem trip0_zero (c : Dev nD) : trip0 m 0 c = atA m c := rfl
theorem trip1_zero (c : Dev nD) : trip1 m 0 c = atB m c := rfl
theorem trip0_succ (k : ℕ) (c : Dev nD) : trip0 m (k + 1) c = afterL fwI (after cond0 (trip0 m k c)) := rfl
theorem trip1_succ (k : ℕ) (c : Dev nD) : trip1 m (k + 1) c = afterL bwI (after cond1 (trip1 m k c)) := rfl

theorem trip0_keeps (c : Dev nD) {r : Ref sig .tc} (h : r ∉ fwIW) (h' : r ∉ cond0W) :
    ∀ k, trip0 m k c (Proc.devRef .tc r) = atA m c (Proc.devRef .tc r)
  | 0 => rfl
  | k + 1 => by rw [trip0_succ, fwI_keeps _ h, cond0_keeps _ h', trip0_keeps c h h' k]
theorem trip1_keeps (c : Dev nD) {r : Ref sig .tc} (h : r ∉ bwIW) (h' : r ∉ cond1W) :
    ∀ k, trip1 m k c (Proc.devRef .tc r) = atB m c (Proc.devRef .tc r)
  | 0 => rfl
  | k + 1 => by rw [trip1_succ, bwI_keeps _ h, cond1_keeps _ h', trip1_keeps c h h' k]
/-- A buffer nothing writes ends as it began. -/
theorem atC_keeps (c : Dev nD) {r : Ref sig .tc}
    (h : r ∉ opsStartW ++ (fwIW ++ (cond0W ++ (opsMidW ++ (bwIW ++ (cond1W ++ opsEndW)))))) :
    atC m c (Proc.devRef .tc r) = m (c, Proc.devRef .tc r) := by
  simp only [List.mem_append, not_or] at h
  obtain ⟨h1, h2, h3, h4, h5, h6, h7⟩ := h
  rw [atC, opsEnd_keeps _ h7, cond1_keeps _ h6, trip1_keeps m c h5 h6, atB, opsMid_keeps _ h4, cond0_keeps _ h3,
    trip0_keeps m c h2 h3, atA, opsStart_keeps _ h1]

theorem ctr_last0 (X : Valuation τ sig (Elt F)) :
    after fw9 X (Proc.devRef .tc main_v9_6) = addi (X (Proc.devRef .tc main_v9_6)) (constantI S_ 32 1#32) := by
  after_results
  rfl
theorem ctr_last1 (X : Valuation τ sig (Elt F)) :
    after bw16 X (Proc.devRef .tc main_v20_8) = addi (X (Proc.devRef .tc main_v20_8)) (constantI S_ 32 1#32) := by
  after_results
  rfl
theorem fw_ctr (X : Valuation τ sig (Elt F)) :
    afterL fwI X (Proc.devRef .tc main_v9_6) = addi (X (Proc.devRef .tc main_v9_6)) (constantI S_ 32 1#32) := by
  rw [show afterL fwI X = after fw9 (afterL fwInit X) from rfl, ctr_last0, fwInit_keeps _ (by decide +kernel)]
theorem bw_ctr (X : Valuation τ sig (Elt F)) :
    afterL bwI X (Proc.devRef .tc main_v20_8) = addi (X (Proc.devRef .tc main_v20_8)) (constantI S_ 32 1#32) := by
  rw [show afterL bwI X = after bw16 (afterL bwInit X) from rfl, ctr_last1, bwInit_keeps _ (by decide +kernel)]
theorem atA_ctr (c : Dev nD) : atA m c (Proc.devRef .tc main_v9_6) = fun _ => (0#32 : BitVec 32) := by
  unfold atA
  after_reads_simp
  rfl
theorem atB_ctr (c : Dev nD) : atB m c (Proc.devRef .tc main_v20_8) = fun _ => (0#32 : BitVec 32) := by
  unfold atB
  after_reads_simp
  rfl
/-- Both counters count the trips. -/
theorem trip0_ctr (c : Dev nD) : ∀ k, trip0 m k c (Proc.devRef .tc main_v9_6) = fun _ => Scf.iv 0#32 1#32 k
  | 0 => by rw [trip0_zero, atA_ctr, Scf.iv_zero]
  | k + 1 => by
    rw [trip0_succ, fw_ctr, cond0_keeps _ (by decide), trip0_ctr c k, Scf.iv_succ]
    rfl
theorem trip1_ctr (c : Dev nD) : ∀ k, trip1 m k c (Proc.devRef .tc main_v20_8) = fun _ => Scf.iv 0#32 1#32 k
  | 0 => by rw [trip1_zero, atB_ctr, Scf.iv_zero]
  | k + 1 => by
    rw [trip1_succ, bw_ctr, cond1_keeps _ (by decide), trip1_ctr c k, Scf.iv_succ]
    rfl

theorem arg0_kept (c : Dev nD) : atC m c (Proc.devRef .tc main_arg0) = m (c, Proc.devRef .tc main_arg0) := atC_keeps m c (by decide +kernel)
theorem arg1_kept (c : Dev nD) : atC m c (Proc.devRef .tc main_arg1) = m (c, Proc.devRef .tc main_arg1) := atC_keeps m c (by decide +kernel)
theorem arg2_kept (c : Dev nD) : atC m c (Proc.devRef .tc main_arg2) = m (c, Proc.devRef .tc main_arg2) := atC_keeps m c (by decide +kernel)
theorem arg3_kept (c : Dev nD) : atC m c (Proc.devRef .tc main_arg3) = m (c, Proc.devRef .tc main_arg3) := atC_keeps m c (by decide +kernel)
theorem arg4_kept (c : Dev nD) : atC m c (Proc.devRef .tc main_arg4) = m (c, Proc.devRef .tc main_arg4) := atC_keeps m c (by decide +kernel)
theorem arg5_kept (c : Dev nD) : atC m c (Proc.devRef .tc main_arg5) = m (c, Proc.devRef .tc main_arg5) := atC_keeps m c (by decide +kernel)
theorem arg6_kept (c : Dev nD) : atC m c (Proc.devRef .tc main_arg6) = m (c, Proc.devRef .tc main_arg6) := atC_keeps m c (by decide +kernel)

end Cert.ReferenceIdeal.Rec
-- ==== Proof.RefRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import proofs.«01_k».proof.Proof.RefFold
public import Idealize.ShloMosaic.Lib.Quiescent
public import Idealize.ShloMosaic.Lib.Scf.ExitTest
public import Idealize.ShloMosaic.Lib.Scf.Counter

@[expose] public section

set_option maxRecDepth 16384

noncomputable section

namespace Cert.ReferenceIdeal.Rec

open Idealize.ShloMosaic Idealize.ShloMosaic.TcCoe
open Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-! The operation lists of the reference program and of its two host loops, and the blocks they make up. -/

open Idealize.ShloMosaic.Pipeline (ucRefs sub_ucRefs)
variable (m : (ℓ : Loc nD τ sig) → Buf (Elt F) ℓ) (ρ : Dev nD → PrngReg)

/-! The run: three stretches and two counted loops. -/

local notation "𝕄" => MT nD τ sig Unit (Elt F) ℕ (Option PUnit) ℕ

abbrev noArgs (p : Fin 0) : (pcfgs (F := F) p).Adm := p.elim0
abbrev noTk : Fin 0 → Pipeline.Ticket (Ix := Unit) (Name := ℕ) (U := Option PUnit) (Lvl := ℕ) (nD := nD) (τ := τ) (pcfgs (F := F)) noArgs :=
  fun j => j.elim0
abbrev noL : GSem nD τ sig → Finset Unit := fun _ => ∅
abbrev noLv : GSem nD τ sig → Unit → ℕ := fun _ _ => 0
theorem noCells : Function.Injective (Pipeline.cellOf (nD := nD) (τ := τ) (Pipeline.pin (pcfgs (F := F)) noArgs)) := fun k => k.1.elim0
abbrev Owed (c : Dev nD) : sProp 𝕄 := iprop(∃ W, owes (c : Thread nD τ) (0 : CellTallies nD τ sig Unit) W)

set_option backward.isDefEq.respectTransparency.types false in
/-- One test of loop 0: it holds the buffers and says whether trips remain. -/
theorem test0 (k : ℕ) (hk : k ≤ 4096) (c : Dev nD) (bd : Option (Variants.lift Variants.none).V) :
    (iprop(boundary (c : Thread nD τ) ∗ held (c : Thread nD τ) (ucRefs τ sig) (trip0 m k c)) : sProp 𝕄)
      ⊢ wp frame (wpE (HostLoop.defs (loops (F := F)) (Pipeline.defs (pcfgs (F := F)) defs₀)) (Variants.lift Variants.none) (c : Thread nD τ) bd) Set.univ
        (main_while0_cond (F := F)) (fun v => iprop(⌜v = 1#1 ↔ k < 4096⌝ ∗ boundary (c : Thread nD τ)
          ∗ held (c : Thread nD τ) (ucRefs τ sig) (after cond0 (trip0 m k c)))) := by
  have hctr := trip0_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip0 m k c) main_v9_6 HostLoop.idx0)
        (HloOp.result _ (trip0 m k c) main_while0c_c_20 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  rw [after_cons, after_cons, after_nil]; iexact Hh

theorem test0_framed : LoopCond (pcfgs (F := F)) defs₀ Variants.none (loops (F := F)) Owed (main_while0_cond (F := F)) cond0 fwI (atA m) 4096 := by
  intro k hk c bd
  have hpost : ∀ v, iprop(iprop(⌜v = 1#1 ↔ k < 4096⌝ ∗ boundary (c : Thread nD τ)
          ∗ held (c : Thread nD τ) (ucRefs τ sig) (after cond0 (trip0 m k c))) ∗ Owed (F := F) c)
      ⊢ iprop(⌜v = 1#1 ↔ k < 4096⌝ ∗ boundary (c : Thread nD τ)
          ∗ held (c : Thread nD τ) (ucRefs τ sig) (after cond0 (trip0 m k c)) ∗ Owed (F := F) c) := by
    intro v
    iintro ⟨⟨%hv, Hbd, Hh⟩, HR⟩
    isplitr
    · ipureintro; exact hv
    isplitl [Hbd]; · iexact Hbd
    isplitl [Hh] <;> iassumption
  refine BIBase.Entails.trans ?_ (((sep_mono_left (test0 m k hk c bd)).trans (wp_frame_r _ _ _)).trans (wp_mono _ _ _ hpost))
  iintro ⟨Hbd, Hh, HR⟩
  isplitl [Hbd Hh]
  · isplitl [Hbd]
    · iexact Hbd
    iexact Hh
  iexact HR

set_option backward.isDefEq.respectTransparency.types false in
/-- One test of loop 1: it holds the buffers and says whether trips remain. -/
theorem test1 (k : ℕ) (hk : k ≤ 4096) (c : Dev nD) (bd : Option (Variants.lift Variants.none).V) :
    (iprop(boundary (c : Thread nD τ) ∗ held (c : Thread nD τ) (ucRefs τ sig) (trip1 m k c)) : sProp 𝕄)
      ⊢ wp frame (wpE (HostLoop.defs (loops (F := F)) (Pipeline.defs (pcfgs (F := F)) defs₀)) (Variants.lift Variants.none) (c : Thread nD τ) bd) Set.univ
        (main_while1_cond (F := F)) (fun v => iprop(⌜v = 1#1 ↔ k < 4096⌝ ∗ boundary (c : Thread nD τ)
          ∗ held (c : Thread nD τ) (ucRefs τ sig) (after cond1 (trip1 m k c)))) := by
  have hctr := trip1_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip1 m k c) main_v20_8 HostLoop.idx0)
        (HloOp.result _ (trip1 m k c) main_while1c_c_26 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  rw [after_cons, after_cons, after_nil]; iexact Hh

theorem test1_framed : LoopCond (pcfgs (F := F)) defs₀ Variants.none (loops (F := F)) Owed (main_while1_cond (F := F)) cond1 bwI (atB m) 4096 := by
  intro k hk c bd
  have hpost : ∀ v, iprop(iprop(⌜v = 1#1 ↔ k < 4096⌝ ∗ boundary (c : Thread nD τ)
          ∗ held (c : Thread nD τ) (ucRefs τ sig) (after cond1 (trip1 m k c))) ∗ Owed (F := F) c)
      ⊢ iprop(⌜v = 1#1 ↔ k < 4096⌝ ∗ boundary (c : Thread nD τ)
          ∗ held (c : Thread nD τ) (ucRefs τ sig) (after cond1 (trip1 m k c)) ∗ Owed (F := F) c) := by
    intro v
    iintro ⟨⟨%hv, Hbd, Hh⟩, HR⟩
    isplitr
    · ipureintro; exact hv
    isplitl [Hbd]; · iexact Hbd
    isplitl [Hh] <;> iassumption
  refine BIBase.Entails.trans ?_ (((sep_mono_left (test1 m k hk c bd)).trans (wp_frame_r _ _ _)).trans (wp_mono _ _ _ hpost))
  iintro ⟨Hbd, Hh, HR⟩
  isplitl [Hbd Hh]
  · isplitl [Hbd]
    · iexact Hbd
    iexact Hh
  iexact HR

theorem fw_body : main_while0_body (F := F) = Pipeline.chain ((fwI (F := F)).map fun ops => (seq ops : Prog (Ef F) PUnit)) := by
  rw [fw_chain]; rfl
theorem bw_body : main_while1_body (F := F) = Pipeline.chain ((bwI (F := F)).map fun ops => (seq ops : Prog (Ef F) PUnit)) := by
  rw [bw_chain]; rfl

def runSegs : List (Pipeline.CSeg (pcfgs (F := F)) noArgs defs₀ Variants.none noL noLv (loops (F := F)) noTk) :=
  segsOf (pcfgs (F := F)) noArgs defs₀ Variants.none noL noLv (loops (F := F)) noTk Owed [opsStart] start_plain (launchContents m)
  ++ loopSeg (pcfgs (F := F)) noArgs defs₀ Variants.none noL noLv (loops (F := F)) noTk 0 main_while0_cond main_while0_body rfl cond0 fwI fw_plain
      fw_body 4096 (atA m) Owed (test0_framed m)
    :: (segsOf (pcfgs (F := F)) noArgs defs₀ Variants.none noL noLv (loops (F := F)) noTk Owed [opsMid] mid_plain (fun c => after cond0 (trip0 m 4096 c))
      ++ loopSeg (pcfgs (F := F)) noArgs defs₀ Variants.none noL noLv (loops (F := F)) noTk 1 main_while1_cond main_while1_body rfl cond1 bwI bw_plain
          bw_body 4096 (atB m) Owed (test1_framed m)
        :: segsOf (pcfgs (F := F)) noArgs defs₀ Variants.none noL noLv (loops (F := F)) noTk Owed [opsEnd] end_plain (fun c => after cond1 (trip1 m 4096 c)))

theorem runSegs_prog (c : Dev nD) : Pipeline.chain ((runSegs m).map Pipeline.CSeg.prog) = main (F := F) c := by
  rw [main_chain, runSegs, List.map_append, List.map_cons, List.map_append, List.map_cons, segsOf_prog, segsOf_prog, segsOf_prog]
  rfl

theorem runSegs_chains : Pipeline.CSeg.Chains (fun c => iprop(held (c : Thread nD τ) (ucRefs τ sig) (launchContents m c) ∗ Owed (F := F) c)) (runSegs m)
    (fun c => iprop(held (c : Thread nD τ) (ucRefs τ sig) (atC m c) ∗ Owed (F := F) c)) :=
  Pipeline.CSeg.Chains.append (segsOf_chains (pcfgs (F := F)) noArgs defs₀ Variants.none noL noLv (loops (F := F)) noTk Owed [opsStart] start_plain (launchContents m))
    ⟨fun _ => .rfl, Pipeline.CSeg.Chains.append
      (segsOf_chains (pcfgs (F := F)) noArgs defs₀ Variants.none noL noLv (loops (F := F)) noTk Owed [opsMid] mid_plain (fun c => after cond0 (trip0 m 4096 c)))
      ⟨fun _ => .rfl, segsOf_chains (pcfgs (F := F)) noArgs defs₀ Variants.none noL noLv (loops (F := F)) noTk Owed [opsEnd] end_plain (fun c => after cond1 (trip1 m 4096 c))⟩⟩

/-- Every run ends with every buffer as computed and every counter at zero. -/
theorem run_all : θ_run (defs (F := F)) (onTc (τ := τ) (main (F := F))) ⟨m, fun _ => 0, ρ⟩ (fun r =>
    (∀ c : Dev nD, ∀ b ∈ ucRefs τ sig, r.2.mem (c, b) = atC m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noArgs noCells defs₀ Variants.none noL noLv (loops (F := F)) noTk m ρ main (runSegs m)
    (fun c Q => by
      rw [← runSegs_prog m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -; imodintro
      isplitl []
      · rw [Finset.univ_eq_empty, BI.bigSep_empty]; iempintro
      · iapply (show (BI.emp : sProp 𝕄) ⊢ bigSep Finset.univ (fun _ : Dev nD => BI.emp) from by rw [BI.bigSep_emp_const])
        iempintro)
    (T₀ := fun c => iprop(held (c : Thread nD τ) (ucRefs τ sig) (launchContents m c) ∗ Owed (F := F) c))
    (Tₙ := fun c => iprop(held (c : Thread nD τ) (ucRefs τ sig) (atC m c)))
    (hch := runSegs_chains m)
    (hinit := by
      refine Pipeline.initEach noL noLv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩; imodintro
      isplitl [Hh]
      · iexact Hh
      iexists ∅; iexact HO)
    (QY := fun c s => ∀ b ∈ ucRefs τ sig, s.mem ((c : Dev nD), b) = atC m c b)
    (hfin := fun c s' => by
      unfold held
      iintro ⟨Hh, HSI⟩
      ihave Hr := (pointsTo_read_all (ucRefs τ sig) (fun b => ((c : Dev nD), b)) (fun b => atC m c b) s') $$ [Hh HSI]
      · isplitl [Hh] <;> iassumption
      icases Hr with ⟨%h, HSI⟩
      imodintro
      isplitr
      · ipureintro; exact h
      iexact HSI)
    (hQ := fun s h _ => ⟨h, Idealize.ShloMosaic.sem_eq_zero_of_no_sems rfl s⟩)

end Cert.ReferenceIdeal.Rec
-- ==== Proof.SameText.lean ====
module
public import proofs.«01_k».proof.Proof.Gen.Kernel
public import proofs.«01_k».proof.Proof.Gen.KernelIdeal
@[expose] public section
set_option maxRecDepth 16384
open Idealize.ShloMosaic
noncomputable section
variable {F : FTy → Type} [FloatOps F]

set_option maxHeartbeats 1000000
/-- The two programs run the same bodies. -/
theorem Cert.Proof.same_bodies : (Cert.Kernel.defs₀ (F := F) : Defs Cert.KernelIdeal.nD Cert.KernelIdeal.τ Cert.KernelIdeal.sig (Elt F) Cert.KernelIdeal.Λ₀) = Cert.KernelIdeal.defs₀ (F := F) := by
  funext k
  match k with
  | .tc =>
    funext l x
    match l, x with
    | ⟨0, _⟩, (t, s) => exact rfl
    | ⟨1, _⟩, (t, s) => exact rfl
  | .scScalar _ => rfl
  | .scVector _ _ => rfl
-- ==== Proof.Frames.lean ====
module

public import proofs.«01_k».proof.Defs
public import proofs.«01_k».proof.Proof.Launch
public import proofs.«01_k».proof.Proof.RefRun
public import proofs.«01_k».proof.Proof.SameText

@[expose] public section

set_option maxRecDepth 16384

noncomputable section

namespace Cert.KernelIdeal.Rec

open Idealize.ShloMosaic Idealize.ShloMosaic.TcCoe Idealize.ShloMosaic.Pipeline Idealize.SL.Sem
open Cert.KernelIdeal Cert.KernelIdeal.Gen

variable {F : FTy → Type} [FloatOps F]
variable (m : (ℓ : Loc nD τ sig) → Buf (Elt F) ℓ) (ρ : Dev nD → PrngReg)

/-- A buffer that no output window of either region writes ends as it began. -/
theorem atEnd_keeps (c : Dev nD) (r : Ref sig .tc)
    (h0 : ∀ w, Pipeline.arrRef spec0 w = r → (cfg0.win w).isOut = false)
    (h1 : ∀ w, Pipeline.arrRef spec1 w = r → (cfg1.win w).isOut = false) :
    atEnd m c (Proc.devRef .tc r) = m (c, Proc.devRef .tc r) := by
  unfold atEnd
  rw [Pipeline.afterRegion_keeps (bwdDat (between m) c) (between m c) launch1.win.arr_inj (bwdDat_A (between m) c) r h1]
  unfold between
  rw [Pipeline.afterRegion_keeps (fwdDat (before m) c) (before m c) launch0.win.arr_inj (fwdDat_A (before m) c) r h0]
  rfl

theorem arg0_kept (c : Dev nD) : atEnd m c (Proc.devRef .tc main_arg0) = m (c, Proc.devRef .tc main_arg0) :=
  atEnd_keeps m c main_arg0 (by decide) (by decide)
theorem arg1_kept (c : Dev nD) : atEnd m c (Proc.devRef .tc main_arg1) = m (c, Proc.devRef .tc main_arg1) :=
  atEnd_keeps m c main_arg1 (by decide) (by decide)
theorem arg2_kept (c : Dev nD) : atEnd m c (Proc.devRef .tc main_arg2) = m (c, Proc.devRef .tc main_arg2) :=
  atEnd_keeps m c main_arg2 (by decide) (by decide)
theorem arg3_kept (c : Dev nD) : atEnd m c (Proc.devRef .tc main_arg3) = m (c, Proc.devRef .tc main_arg3) :=
  atEnd_keeps m c main_arg3 (by decide) (by decide)
theorem arg4_kept (c : Dev nD) : atEnd m c (Proc.devRef .tc main_arg4) = m (c, Proc.devRef .tc main_arg4) :=
  atEnd_keeps m c main_arg4 (by decide) (by decide)
theorem arg5_kept (c : Dev nD) : atEnd m c (Proc.devRef .tc main_arg5) = m (c, Proc.devRef .tc main_arg5) :=
  atEnd_keeps m c main_arg5 (by decide) (by decide)
theorem arg6_kept (c : Dev nD) : atEnd m c (Proc.devRef .tc main_arg6) = m (c, Proc.devRef .tc main_arg6) :=
  atEnd_keeps m c main_arg6 (by decide) (by decide)

/-- Every run leaves the seven arguments as they were, and every counter at zero. -/
theorem quiet : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r h => ⟨fun c => ⟨(h.1 c _ (StableHlo.devRef_mem_ucRefs main_arg0 (by decide))).trans (arg0_kept m c), (h.1 c _ (StableHlo.devRef_mem_ucRefs main_arg1 (by decide))).trans (arg1_kept m c), (h.1 c _ (StableHlo.devRef_mem_ucRefs main_arg2 (by decide))).trans (arg2_kept m c), (h.1 c _ (StableHlo.devRef_mem_ucRefs main_arg3 (by decide))).trans (arg3_kept m c), (h.1 c _ (StableHlo.devRef_mem_ucRefs main_arg4 (by decide))).trans (arg4_kept m c), (h.1 c _ (StableHlo.devRef_mem_ucRefs main_arg5 (by decide))).trans (arg5_kept m c), (h.1 c _ (StableHlo.devRef_mem_ucRefs main_arg6 (by decide))).trans (arg6_kept m c)⟩, h.2⟩) (run_all m ρ)

end Cert.KernelIdeal.Rec

namespace Cert.ReferenceIdeal.Rec

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ) (ρ : Dev nD → PrngReg)

theorem quiet : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r h => ⟨fun c => ⟨(h.1 c _ (StableHlo.devRef_mem_ucRefs main_arg0 (by decide))).trans (arg0_kept m c), (h.1 c _ (StableHlo.devRef_mem_ucRefs main_arg1 (by decide))).trans (arg1_kept m c), (h.1 c _ (StableHlo.devRef_mem_ucRefs main_arg2 (by decide))).trans (arg2_kept m c), (h.1 c _ (StableHlo.devRef_mem_ucRefs main_arg3 (by decide))).trans (arg3_kept m c), (h.1 c _ (StableHlo.devRef_mem_ucRefs main_arg4 (by decide))).trans (arg4_kept m c), (h.1 c _ (StableHlo.devRef_mem_ucRefs main_arg5 (by decide))).trans (arg5_kept m c), (h.1 c _ (StableHlo.devRef_mem_ucRefs main_arg6 (by decide))).trans (arg6_kept m c)⟩, h.2⟩) (run_all m ρ)

end Cert.ReferenceIdeal.Rec

namespace Cert.Proof

open Idealize.ShloMosaic Idealize.SL.Sem

set_option maxHeartbeats 4000000 in
theorem frame_KernelIdeal : Cert.quiescent_KernelIdeal := fun m ρ _ => Cert.KernelIdeal.Rec.quiet (F := Ideal) m ρ
set_option maxHeartbeats 4000000 in
/-- The same text: the body tables of the two programs are one table. -/
theorem same_defs {F : FTy → Type} [FloatOps F] : (Cert.Kernel.defs (F := F) : Defs Cert.KernelIdeal.nD Cert.KernelIdeal.τ Cert.KernelIdeal.sig (Elt F)
      (Pipeline.Sig Cert.KernelIdeal.Λ₀ (Fin 2) fun p => (Cert.KernelIdeal.pcfgs (F := F) p).Adm)) = Cert.KernelIdeal.defs (F := F) :=
  congrArg (Pipeline.defs (Cert.KernelIdeal.pcfgs (F := F))) same_bodies
set_option maxHeartbeats 4000000 in
theorem frame_Kernel : Cert.quiescent_Kernel := fun m ρ _ => by
  have h := Cert.KernelIdeal.Rec.quiet (F := Bits) m ρ
  rw [← same_defs] at h
  exact h
theorem frame_ReferenceIdeal : Cert.quiescent_ReferenceIdeal := fun m ρ _ => Cert.ReferenceIdeal.Rec.quiet (F := Ideal) m ρ
theorem keeps_rounding : Cert.preserves_Kernel_KernelIdeal := trivial

end Cert.Proof
-- ==== Proof.Chunk.lean ====
module

public import Mathlib.Data.Matrix.Mul
public import Mathlib.Data.Real.Basic
public import Mathlib.Analysis.SpecialFunctions.Exp

@[expose] public section

noncomputable section

namespace Cert.Rwkv

/-- The real matrices of one head and one chunk. -/
abbrev Mat := Matrix (Fin 64) (Fin 64) ℝ

/-- The entrywise product. -/
def had (x y : Mat) : Mat := fun i j => x i j * y i j
/-- The entrywise exponential. -/
def expM (x : Mat) : Mat := fun i j => Real.exp (x i j)
/-- The entries strictly below the diagonal. -/
def lowS (x : Mat) : Mat := fun s t => if t < s then x s t else 0
/-- The entries on and below the diagonal. -/
def lowI (x : Mat) : Mat := fun s t => if t ≤ s then x s t else 0
/-- Ones on and below the diagonal. -/
def LI : Mat := fun s t => if t ≤ s then 1 else 0
/-- The unit matrix. -/
def eye : Mat := fun s t => if s = t then 1 else 0
/-- Every row is the sum of the rows. -/
def csum (x : Mat) : Mat := fun _ j => ∑ i, x i j

/-- One head's chunk: the state before it, its rows, and what comes back from after it. -/
structure Chunk where
  s : Mat
  r : Mat
  lw : Mat
  k : Mat
  v : Mat
  a : Mat
  b : Mat
  dy : Mat
  ds : Mat

namespace Chunk

variable (c : Chunk)

def cum : Mat := LI * c.lw + LI * (c.lw - c.lw)
def tot : Mat := csum c.lw + csum (c.lw - c.lw)
def en : Mat := expM (0 - c.cum)
def ep : Mat := expM (c.cum - c.lw)
def ec : Mat := expM c.cum
def at' : Mat := had c.a c.ep
def bt : Mat := had c.b c.en
def kt : Mat := had c.k c.en
def rt : Mat := had c.r c.ec
def base : Mat := c.at' * c.s.transpose
def ab : Mat := c.at' * c.bt.transpose
def Aab : Mat := lowS c.ab
def Aak : Mat := lowS (c.at' * c.kt.transpose)
def Arb : Mat := lowI (c.rt * c.bt.transpose)
def Ark : Mat := lowI (c.rt * c.kt.transpose)
def p0 : Mat := eye + c.Aab
def q1 : Mat := c.Aab * c.Aab
def p1 : Mat := c.p0 + c.p0 * c.q1
def q2 : Mat := c.q1 * c.q1
def p2 : Mat := c.p1 + c.p1 * c.q2
def q3 : Mat := c.q2 * c.q2
def p3 : Mat := c.p2 + c.p2 * c.q3
def q4 : Mat := c.q3 * c.q3
def p4 : Mat := c.p3 + c.p3 * c.q4
def q5 : Mat := c.q4 * c.q4
def p5 : Mat := c.p4 + c.p4 * c.q5
def Z : Mat := c.base + c.Aak * c.v
def u : Mat := c.p5 * c.Z
def rs : Mat := c.rt * c.s.transpose
def inner : Mat := c.Arb * c.u + c.Ark * c.v
def y : Mat := c.rs + c.inner
def upd : Mat := c.u.transpose * c.bt + c.v.transpose * c.kt
def et : Mat := expM c.tot
def sn : Mat := c.s + c.upd
def s' : Mat := had c.sn c.et

def dM : Mat := had c.ds c.et
def sds : Mat := had (had c.sn c.ds) c.et
def dv0 : Mat := c.kt * c.dM.transpose
def dk0 : Mat := c.v * c.dM
def du0 : Mat := c.bt * c.dM.transpose
def db0 : Mat := c.u * c.dM
def dyv : Mat := c.dy * c.v.transpose
def dArk : Mat := lowI c.dyv
def dv1 : Mat := c.Ark.transpose * c.dy
def dyu : Mat := c.dy * c.u.transpose
def dArb : Mat := lowI c.dyu
def du1 : Mat := c.Arb.transpose * c.dy
def du : Mat := c.du0 + c.du1
def dr0 : Mat := c.dy * c.s
def ds1 : Mat := c.dM + c.dy.transpose * c.rt
def dT : Mat := c.du * c.Z.transpose
def dZ : Mat := c.p5.transpose * c.du
def dZv : Mat := c.dZ * c.v.transpose
def dAak : Mat := lowS c.dZv
def dv2 : Mat := c.dv1 + c.Aak.transpose * c.dZ
def dp4 : Mat := c.dT + c.dT * c.q5.transpose
def dq5 : Mat := c.p4.transpose * c.dT
def w4 : Mat := c.dq5 * c.q4.transpose + c.q4.transpose * c.dq5
def dpq4 : Mat := c.dp4 * c.q4.transpose
def dp3 : Mat := c.dp4 + c.dpq4
def dq4 : Mat := c.w4 + c.p3.transpose * c.dp4
def w3 : Mat := c.dq4 * c.q3.transpose + c.q3.transpose * c.dq4
def dp2 : Mat := c.dp3 + c.dp3 * c.q3.transpose
def dq3 : Mat := c.w3 + c.p2.transpose * c.dp3
def w2 : Mat := c.dq3 * c.q2.transpose + c.q2.transpose * c.dq3
def dp1 : Mat := c.dp2 + c.dp2 * c.q2.transpose
def dq2 : Mat := c.w2 + c.p1.transpose * c.dp2
def w1 : Mat := c.dq2 * c.q1.transpose + c.q1.transpose * c.dq2
def dpq1 : Mat := c.dp1 * c.q1.transpose
def dp0 : Mat := c.dp1 + c.dpq1
def dq1 : Mat := c.w1 + c.p0.transpose * c.dp1
def dA : Mat := c.dp0 + c.dq1 * c.Aab.transpose + c.Aab.transpose * c.dq1
def dAab : Mat := lowS c.dA
def drt1 : Mat := c.dArk * c.kt + c.dArb * c.bt
def dbt1 : Mat := c.dArb.transpose * c.rt
def dkt1 : Mat := c.dArk.transpose * c.rt + c.dAak.transpose * c.at'
def dbt2 : Mat := c.dAab.transpose * c.at'
def dat1 : Mat := c.dAak * c.kt + c.dAab * c.bt
def ds0 : Mat := c.ds1 + c.dZ.transpose * c.at'
def drt : Mat := c.dr0 + c.drt1
def dat : Mat := c.dZ * c.s + c.dat1
def dv : Mat := c.dv0 + c.dv2
def dkt : Mat := c.dk0 + c.dkt1
def dbt : Mat := c.db0 + (c.dbt1 + c.dbt2)
def dr : Mat := had c.drt c.ec
def rdr : Mat := had (had c.r c.drt) c.ec
def dk : Mat := had c.dkt c.en
def kb : Mat := had c.k c.dkt + had c.b c.dbt
def db : Mat := had c.dbt c.en
def da : Mat := had c.dat c.ep
def al : Mat := had (had c.a c.dat) c.ep
def dcum : Mat := c.rdr + c.al + (0 - had c.kb c.en)
def dlw : Mat := (0 - c.al) + (csum c.sds + csum (c.sds - c.sds)) + (LI.transpose * c.dcum + LI.transpose * (c.dcum - c.dcum))

end Chunk

end Cert.Rwkv

end
-- ==== Proof.Rep.lean ====
module

public import proofs.«01_k».proof.KernelIdeal
public import proofs.«01_k».proof.Proof.Gen.KernelIdeal.Skeleton
public import Idealize.ShloMosaic.Lib.Pointwise
public import proofs.«01_k».proof.Proof.Chunk

@[expose] public section

set_option maxRecDepth 16384

noncomputable section

namespace Cert.KernelIdeal.Val

open Idealize.ShloMosaic Idealize.ShloMosaic.TcCoe
open Cert.KernelIdeal Cert.KernelIdeal.Gen Cert.Rwkv

/-- One matrix for every head: pair, then place in the pair. -/
abbrev Mats := Fin 16 → Fin 2 → Mat

/-- Lane `i` of head `h` in a pair of heads. -/
def lane (h : Fin 2) (i : Fin 64) : Fin 128 := ⟨h.val * 64 + i.val, by omega⟩
/-- Row of pair `g`'s head `h` in the stack of all heads. -/
def head (h : Fin 2) (g : Fin 16) : Fin 32 := ⟨h.val * 16 + g.val, by omega⟩

/-- Rows by time, lanes of pairs of heads: the tensor holds the heads' matrices. -/
def T (X : S16x64x128.Idx → EReal) (f : Mats) : Prop := ∀ g h t i, X (ix3 g t (lane h i)) = ((f g h t i : ℝ) : EReal)
/-- The stack of heads, each with all lanes of its pair: the head's own lanes hold its matrix. -/
def B (X : S32x64x128.Idx → EReal) (f : Mats) : Prop := ∀ g h t i, X (ix3 (head h g) t (lane h i)) = ((f g h t i : ℝ) : EReal)
/-- The stack of heads is zero on the other head's lanes. -/
def BZ (X : S32x64x128.Idx → EReal) : Prop := ∀ g h h' t i, h' ≠ h → X (ix3 (head h g) t (lane h' i)) = 0
/-- The stack of heads holds a square of times for each. -/
def M (X : S32x64x64.Idx → EReal) (f : Mats) : Prop := ∀ g h s t, X (ix3 (head h g) s t) = ((f g h s t : ℝ) : EReal)
/-- The states of the pairs hold each head's state on the diagonal. -/
def S (X : S16x128x128.Idx → EReal) (f : Mats) : Prop := ∀ g h i j, X (ix3 g (lane h i) (lane h j)) = ((f g h i j : ℝ) : EReal)
/-- The states of the pairs are zero off the diagonal of heads. -/
def SZ (X : S16x128x128.Idx → EReal) : Prop := ∀ g h h' i j, h' ≠ h → X (ix3 g (lane h i) (lane h' j)) = 0
/-- One square of times, the same for all pairs. -/
def K (X : S16x64x64.Idx → EReal) (f : Mat) : Prop := ∀ g s t, X (ix3 g s t) = ((f s t : ℝ) : EReal)
/-- The mask of heads over the lanes. -/
def HM (X : S2x1x1x128.Idx → EReal) : Prop := ∀ h h' i, X (ix4 h 0 0 (lane h' i)) = if h' = h then 1 else 0

/-- A sum over the lanes of a pair is the sum over its heads. -/
theorem sum_lanes (F : Fin 128 → EReal) : ∑ l, F l = ∑ h, ∑ i, F (lane h i) := by
  rw [← Fintype.sum_prod_type']
  refine (Fintype.sum_equiv (finProdFinEquiv (m := 2) (n := 64)) _ _ ?_).symm
  rintro ⟨h, i⟩
  congr 1
  ext
  simp only [lane, finProdFinEquiv_apply_val]
  omega

/-- A sum over the lanes of a pair whose terms vanish on the other head. -/
theorem sum_own (F : Fin 128 → EReal) (h : Fin 2) (hz : ∀ h' i, h' ≠ h → F (lane h' i) = 0) :
    ∑ l, F l = ∑ i, F (lane h i) := by
  rw [sum_lanes, Finset.sum_eq_single h (fun h' _ hh => Finset.sum_eq_zero fun i _ => hz h' i hh) (by simp)]

theorem coe_sum {n : ℕ} (f : Fin n → ℝ) : ((∑ k, f k : ℝ) : EReal) = ∑ k, ((f k : ℝ) : EReal) :=
  map_sum (⟨⟨Real.toEReal, EReal.coe_zero⟩, EReal.coe_add⟩ : ℝ →+ EReal) f Finset.univ

/-- A product's row, read at real entries. -/
theorem coe_dot {n : ℕ} (F G : Fin n → EReal) (f g : Fin n → ℝ) (hF : ∀ k, F k = ((f k : ℝ) : EReal)) (hG : ∀ k, G k = ((g k : ℝ) : EReal)) :
    ∑ k, F k * G k = ((∑ k, f k * g k : ℝ) : EReal) := by
  rw [coe_sum]
  exact Finset.sum_congr rfl fun k _ => by rw [hF, hG, ← EReal.coe_mul]

theorem d1_at (X : FVec Ideal S16x64x64 .bf16) (Y : FVec Ideal S16x64x128 .bf16) (g : Fin 16) (s : Fin 64) (t : Fin 128) :
    matmul dot_S16x64x64_S16x64x128_S16x64x128_2_1_1_2_0_0 none X Y (constant S16x64x128 .f32 0x00000000#32) (ix3 g s t)
      = ∑ k : Fin 64, X (ix3 g s k) * Y (ix3 g k t) := by
  pointwise

theorem d1t_at (X : FVec Ideal S16x64x64 .bf16) (Y : FVec Ideal S16x64x128 .bf16) (g : Fin 16) (s : Fin 64) (t : Fin 128) :
    matmul dot_S16x64x64_S16x64x128_S16x64x128_1_1_2_2_0_0 none X Y (constant S16x64x128 .f32 0x00000000#32) (ix3 g s t)
      = ∑ k : Fin 64, X (ix3 g k s) * Y (ix3 g k t) := by
  pointwise

theorem d2_at (X : FVec Ideal S16x128x64 .bf16) (Y : FVec Ideal S16x64x128 .bf16) (g : Fin 16) (s : Fin 128) (t : Fin 128) :
    matmul dot_S16x128x64_S16x64x128_S16x128x128_2_1_1_2_0_0 none X Y (constant S16x128x128 .f32 0x00000000#32) (ix3 g s t)
      = ∑ k : Fin 64, X (ix3 g s k) * Y (ix3 g k t) := by
  pointwise

theorem d2t_at (X : FVec Ideal S16x128x64 .bf16) (Y : FVec Ideal S16x128x128 .bf16) (g : Fin 16) (s : Fin 64) (t : Fin 128) :
    matmul dot_S16x128x64_S16x128x128_S16x64x128_1_1_2_2_0_0 none X Y (constant S16x64x128 .f32 0x00000000#32) (ix3 g s t)
      = ∑ k : Fin 128, X (ix3 g k s) * Y (ix3 g k t) := by
  pointwise

theorem d3_at (X : FVec Ideal S16x64x128 .bf16) (Y : FVec Ideal S16x128x128 .bf16) (g : Fin 16) (s : Fin 64) (t : Fin 128) :
    matmul dot_S16x64x128_S16x128x128_S16x64x128_2_2_1_1_0_0 none X Y (constant S16x64x128 .f32 0x00000000#32) (ix3 g s t)
      = ∑ k : Fin 128, X (ix3 g s k) * Y (ix3 g t k) := by
  pointwise

theorem d8_at (X : FVec Ideal S16x64x128 .bf16) (Y : FVec Ideal S16x128x128 .bf16) (g : Fin 16) (s : Fin 64) (t : Fin 128) :
    matmul dot_S16x64x128_S16x128x128_S16x64x128_2_1_1_2_0_0 none X Y (constant S16x64x128 .f32 0x00000000#32) (ix3 g s t)
      = ∑ k : Fin 128, X (ix3 g s k) * Y (ix3 g k t) := by
  pointwise

theorem d7_at (X : FVec Ideal S16x64x128 .bf16) (Y : FVec Ideal S16x64x128 .bf16) (g : Fin 16) (s : Fin 128) (t : Fin 128) :
    matmul dot_S16x64x128_S16x64x128_S16x128x128_1_1_2_2_0_0 none X Y (constant S16x128x128 .f32 0x00000000#32) (ix3 g s t)
      = ∑ k : Fin 64, X (ix3 g k s) * Y (ix3 g k t) := by
  pointwise

theorem d4_at (X : FVec Ideal S32x64x128 .bf16) (Y : FVec Ideal S32x64x128 .bf16) (g : Fin 32) (s : Fin 64) (t : Fin 64) :
    matmul dot_S32x64x128_S32x64x128_S32x64x64_2_2_1_1_0_0 none X Y (constant S32x64x64 .f32 0x00000000#32) (ix3 g s t)
      = ∑ k : Fin 128, X (ix3 g s k) * Y (ix3 g t k) := by
  pointwise

theorem d5_at (X : FVec Ideal S32x64x64 .bf16) (Y : FVec Ideal S32x64x64 .bf16) (g : Fin 32) (s : Fin 64) (t : Fin 64) :
    matmul dot_S32x64x64_S32x64x64_S32x64x64_2_1_1_2_0_0 none X Y (constant S32x64x64 .f32 0x00000000#32) (ix3 g s t)
      = ∑ k : Fin 64, X (ix3 g s k) * Y (ix3 g k t) := by
  pointwise

theorem d10_at (X : FVec Ideal S32x64x64 .bf16) (Y : FVec Ideal S32x64x64 .bf16) (g : Fin 32) (s : Fin 64) (t : Fin 64) :
    matmul dot_S32x64x64_S32x64x64_S32x64x64_2_2_1_1_0_0 none X Y (constant S32x64x64 .f32 0x00000000#32) (ix3 g s t)
      = ∑ k : Fin 64, X (ix3 g s k) * Y (ix3 g t k) := by
  pointwise

theorem d11_at (X : FVec Ideal S32x64x64 .bf16) (Y : FVec Ideal S32x64x64 .bf16) (g : Fin 32) (s : Fin 64) (t : Fin 64) :
    matmul dot_S32x64x64_S32x64x64_S32x64x64_1_1_2_2_0_0 none X Y (constant S32x64x64 .f32 0x00000000#32) (ix3 g s t)
      = ∑ k : Fin 64, X (ix3 g k s) * Y (ix3 g k t) := by
  pointwise

theorem d6_at (X : FVec Ideal S32x64x64 .bf16) (Y : FVec Ideal S32x64x128 .bf16) (g : Fin 32) (s : Fin 64) (t : Fin 128) :
    matmul dot_S32x64x64_S32x64x128_S32x64x128_2_1_1_2_0_0 none X Y (constant S32x64x128 .f32 0x00000000#32) (ix3 g s t)
      = ∑ k : Fin 64, X (ix3 g s k) * Y (ix3 g k t) := by
  pointwise

theorem d9_at (X : FVec Ideal S32x64x64 .bf16) (Y : FVec Ideal S32x64x128 .bf16) (g : Fin 32) (s : Fin 64) (t : Fin 128) :
    matmul dot_S32x64x64_S32x64x128_S32x64x128_1_1_2_2_0_0 none X Y (constant S32x64x128 .f32 0x00000000#32) (ix3 g s t)
      = ∑ k : Fin 64, X (ix3 g k s) * Y (ix3 g k t) := by
  pointwise

theorem both_at (X : FVec Ideal S16x64x128 .f32) (h : Fin 2) (g : Fin 16) (t : Fin 64) (l : Fin 128) :
    shapeCast S32x64x128 (broadcastTo S2x16x64x128 (shapeCast S1x16x64x128 (shapeCast S1x16x64x128 X shapeCasts_S16x64x128_S1x16x64x128)
      shapeCasts_S1x16x64x128_S1x16x64x128) broadcasts_S1x16x64x128_S2x16x64x128) shapeCasts_S2x16x64x128_S32x64x128 (ix3 (head h g) t l)
      = X (ix3 g t l) := by
  have e : ∀ p, (⟨(head h g).val % 16, p⟩ : Fin 16) = g := fun p => Fin.ext (by simp only [head]; omega)
  pointwise
  rw [e]

theorem perhead_at (X : FVec Ideal S16x64x128 .f32) (H : FVec Ideal S2x1x1x128 .f32) (h : Fin 2) (g : Fin 16) (t : Fin 64) (l : Fin 128) :
    shapeCast S32x64x128 (mulf (broadcastTo S2x16x64x128 (shapeCast S1x16x64x128 X shapeCasts_S16x64x128_S1x16x64x128)
      broadcasts_S1x16x64x128_S2x16x64x128) (broadcastTo S2x16x64x128 H broadcasts_S2x1x1x128_S2x16x64x128)) shapeCasts_S2x16x64x128_S32x64x128 (ix3 (head h g) t l)
      = X (ix3 g t l) * H (ix4 h 0 0 l) := by
  have e : ∀ p, (⟨(head h g).val % 16, p⟩ : Fin 16) = g := fun p => Fin.ext (by simp only [head]; omega)
  have e' : ∀ p, (⟨(head h g).val / 16, p⟩ : Fin 2) = h := fun p => Fin.ext (by simp only [head]; omega)
  pointwise
  rw [e, e']

theorem merge_at (X : FVec Ideal S32x64x128 .f32) (g : Fin 16) (t : Fin 64) (l : Fin 128) :
    multiReduction .add [0] S16x64x128 (shapeCast S2x16x64x128 X shapeCasts_S32x64x128_S2x16x64x128) 0x00000000#32 reduces_S2x16x64x128_S16x64x128 (.inl rfl) rfl
       (ix3 g t l)
      = ∑ h : Fin 2, X (ix3 (head h g) t l) := by
  pointwise
  rfl

theorem again_at (X : FVec Ideal S16x64x128 .f32) (g : Fin 16) (t : Fin 64) (l : Fin 128) :
    multiReduction .add [0] S16x64x128 (shapeCast S1x16x64x128 X shapeCasts_S16x64x128_S1x16x64x128) 0x00000000#32 reduces_S1x16x64x128_S16x64x128 (.inl rfl) rfl
       (ix3 g t l) = X (ix3 g t l) := by
  pointwise
  exact Fin.sum_univ_one _

/-- A truth bit made a float. -/
theorem bit_at (b : BitVec 1) (p : Prop) [Decidable p] (h : b = if p then 1#1 else 0#1) :
    FloatOps.sitofp (F := Ideal) .f32 (BitVec.setWidth 32 b) = if p then 1 else 0 := by
  subst h
  split
  · show (((BitVec.setWidth 32 1#1).toInt : ℝ) : EReal) = 1
    norm_num
  · show (((BitVec.setWidth 32 0#1).toInt : ℝ) : EReal) = 0
    norm_num

theorem hm_bits : ∀ (h h' : Fin 2) (i : Fin 64), IntOp.xori (IntOp.xori (IntOp.cmpi CmpIPredicate.sge (BitVec.ofNat 32 (lane h' i).val) 64#32)
    (IntOp.cmpi CmpIPredicate.eq (BitVec.ofNat 32 h.val) 1#32)) 1#1 = if h' = h then 1#1 else 0#1 := by decide +kernel
theorem ge_bits : ∀ s t : Fin 64, IntOp.cmpi CmpIPredicate.sge (BitVec.ofNat 32 s.val) (BitVec.ofNat 32 t.val) = if t ≤ s then 1#1 else 0#1 := by decide +kernel
theorem gt_bits : ∀ s t : Fin 64, IntOp.cmpi CmpIPredicate.sgt (BitVec.ofNat 32 s.val) (BitVec.ofNat 32 t.val) = if t < s then 1#1 else 0#1 := by decide +kernel
theorem eq_bits : ∀ s t : Fin 64, IntOp.cmpi CmpIPredicate.eq (BitVec.ofNat 32 s.val) (BitVec.ofNat 32 t.val) = if s = t then 1#1 else 0#1 := by decide +kernel
theorem half_bits : ∀ (h : Fin 2) (i : Fin 64), IntOp.cmpi CmpIPredicate.sge (BitVec.ofNat 32 (lane h i).val) 64#32 = BitVec.ofNat 1 h.val := by decide +kernel
theorem same_bits : ∀ h h' : Fin 2, IntOp.xori (IntOp.xori (BitVec.ofNat 1 h.val) (BitVec.ofNat 1 h'.val)) 1#1 = if h' = h then 1#1 else 0#1 := by decide +kernel

theorem hm_at (h h' : Fin 2) (i : Fin 64) : k0_pay33 (F := Ideal) (ix4 h 0 0 (lane h' i)) = if h' = h then 1 else 0 := by
  pointwise [k0_pay33]
  exact bit_at _ _ (hm_bits h h' i)

theorem ge_at (s t : Fin 64) : k0_pay20 (ix2 s t) = if t ≤ s then 1#1 else 0#1 := by
  pointwise [k0_pay20]
  exact ge_bits s t

theorem gt_at (s t : Fin 64) : k0_pay21 (ix2 s t) = if t < s then 1#1 else 0#1 := by
  pointwise [k0_pay21]
  exact gt_bits s t

theorem blk_at (h h' : Fin 2) (i j : Fin 64) : k1_pay90 (ix2 (lane h i) (lane h' j)) = if h' = h then 1#1 else 0#1 := by
  pointwise [k1_pay90]
  rw [half_bits, half_bits]
  exact same_bits h h'

theorem lowone_at (g : Fin 16) (s t : Fin 64) :
    broadcastTo S16x64x64 (shapeCast S1x64x64 (truncf .bf16 (sitofp (F := Ideal) .f32 (extui 32 k0_pay20 natLt_1_32)) bitsLt_bf16_f32) shapeCasts_S64x64_S1x64x64) broadcasts_S1x64x64_S16x64x64 (ix3 g s t)
      = if t ≤ s then 1 else 0 := by
  pointwise [k0_pay20]
  exact bit_at _ _ (ge_bits s t)

theorem eye_at (X : FVec Ideal S32x64x64 .f32) (g : Fin 32) (s t : Fin 64) :
    addf (broadcastTo S32x64x64 (shapeCast S1x64x64 (sitofp (F := Ideal) .f32 (extui 32 (cmpi .eq (iota .tc S64x64 32 [0] iota_S64x64_d0_w32) (iota .tc S64x64 32 [1] iota_S64x64_d1_w32)) natLt_1_32)) shapeCasts_S64x64_S1x64x64)
       broadcasts_S1x64x64_S32x64x64) X (ix3 g s t)
      = (if s = t then 1 else 0) + X (ix3 g s t) := by
  pointwise
  rw [bit_at _ _ (eq_bits s t)]

end Cert.KernelIdeal.Val

end
-- ==== Proof.Lift.lean ====
module

public import proofs.«01_k».proof.Proof.Rep

@[expose] public section

set_option maxRecDepth 16384

noncomputable section

namespace Cert.KernelIdeal.Val

open Idealize.ShloMosaic Idealize.ShloMosaic.TcCoe
open Cert.KernelIdeal Cert.KernelIdeal.Gen Cert.Rwkv

/-- The stack of lanes twice, for each head of a pair: the head's matrix on its own lanes and zero beside them. -/
def D (X : S2x16x64x128.Idx → EReal) (f : Mats) : Prop := ∀ g h h' t i, X (ix4 h g t (lane h' i)) = if h' = h then ((f g h t i : ℝ) : EReal) else 0
/-- All entries are one. -/
def ON (X : S16x128x64.Idx → EReal) : Prop := ∀ g s t, X (ix3 g s t) = 1
/-- The bits of earlier times. -/
def MS (m : IVec S64x64 1) : Prop := ∀ s t, m (ix2 s t) = if t < s then 1#1 else 0#1
/-- The bits of times that are not later. -/
def MI (m : IVec S64x64 1) : Prop := ∀ s t, m (ix2 s t) = if t ≤ s then 1#1 else 0#1
/-- The bits of earlier times, for every head. -/
def MS3 (m : IVec S32x64x64 1) : Prop := ∀ g s t, m (ix3 g s t) = if t < s then 1#1 else 0#1
/-- The bits of times that are not later, for every head. -/
def MI3 (m : IVec S32x64x64 1) : Prop := ∀ g s t, m (ix3 g s t) = if t ≤ s then 1#1 else 0#1
/-- The bits of lanes of one head. -/
def BM (m : IVec S128x128 1) : Prop := ∀ h h' i j, m (ix2 (lane h i) (lane h' j)) = if h' = h then 1#1 else 0#1
/-- The bits of lanes of one head, for every pair. -/
def BM3 (m : IVec S16x128x128 1) : Prop := ∀ g h h' i j, m (ix3 g (lane h i) (lane h' j)) = if h' = h then 1#1 else 0#1

section elementwise
variable {f f' : Mats}

theorem T_mul {X Y : FVec Ideal S16x64x128 .f32} (hX : T X f) (hY : T Y f') : T (mulf X Y) (fun g h => had (f g h) (f' g h)) := fun g h t i => by
  show X _ * Y _ = _
  rw [hX, hY, ← EReal.coe_mul]; rfl
theorem T_add {X Y : FVec Ideal S16x64x128 .f32} (hX : T X f) (hY : T Y f') : T (addf X Y) (fun g h => f g h + f' g h) := fun g h t i => by
  show X _ + Y _ = _
  rw [hX, hY, ← EReal.coe_add]; rfl
theorem T_sub {X Y : FVec Ideal S16x64x128 .f32} (hX : T X f) (hY : T Y f') : T (subf X Y) (fun g h => f g h - f' g h) := fun g h t i => by
  show X _ - Y _ = _
  rw [hX, hY, ← EReal.coe_sub]; rfl
theorem T_exp {X : FVec Ideal S16x64x128 .f32} (hX : T X f) : T (exp X) (fun g h => expM (f g h)) := fun g h t i => by
  show Ideal.exp (X _) = _
  rw [hX]; rfl
theorem T_trunc {X : FVec Ideal S16x64x128 .f32} (hX : T X f) (w) : T (truncf .bf16 X w) f := hX
theorem T_ext {X : FVec Ideal S16x64x128 .bf16} (hX : T X f) (w) : T (extf .f32 X w) f := hX
theorem T_zero : T (broadcast S16x64x128 (Scalar.ofBits (F := Ideal) .f32 0x00000000#32)) (fun _ _ => 0) := fun g h t i => by
  pointwise
  rfl

theorem S_mul {X Y : FVec Ideal S16x128x128 .f32} (hX : S X f) (hY : S Y f') : S (mulf X Y) (fun g h => had (f g h) (f' g h)) := fun g h t i => by
  show X _ * Y _ = _
  rw [hX, hY, ← EReal.coe_mul]; rfl
theorem S_add {X Y : FVec Ideal S16x128x128 .f32} (hX : S X f) (hY : S Y f') : S (addf X Y) (fun g h => f g h + f' g h) := fun g h t i => by
  show X _ + Y _ = _
  rw [hX, hY, ← EReal.coe_add]; rfl
theorem S_sub {X Y : FVec Ideal S16x128x128 .f32} (hX : S X f) (hY : S Y f') : S (subf X Y) (fun g h => f g h - f' g h) := fun g h t i => by
  show X _ - Y _ = _
  rw [hX, hY, ← EReal.coe_sub]; rfl
theorem S_exp {X : FVec Ideal S16x128x128 .f32} (hX : S X f) : S (exp X) (fun g h => expM (f g h)) := fun g h t i => by
  show Ideal.exp (X _) = _
  rw [hX]; rfl
theorem S_trunc {X : FVec Ideal S16x128x128 .f32} (hX : S X f) (w) : S (truncf .bf16 X w) f := hX
theorem S_ext {X : FVec Ideal S16x128x128 .bf16} (hX : S X f) (w) : S (extf .f32 X w) f := hX
theorem SZ_mul {X Y : FVec Ideal S16x128x128 .f32} (hX : SZ X) : SZ (mulf X Y) := fun g h h' i j e => by
  show X _ * Y _ = _
  rw [hX _ _ _ _ _ e, zero_mul]
theorem SZ_add {X Y : FVec Ideal S16x128x128 .f32} (hX : SZ X) (hY : SZ Y) : SZ (addf X Y) := fun g h h' i j e => by
  show X _ + Y _ = _
  rw [hX _ _ _ _ _ e, hY _ _ _ _ _ e, zero_add]
theorem SZ_sub {X Y : FVec Ideal S16x128x128 .f32} (hX : SZ X) (hY : SZ Y) : SZ (subf X Y) := fun g h h' i j e => by
  show X _ - Y _ = _
  rw [hX _ _ _ _ _ e, hY _ _ _ _ _ e, sub_zero]
theorem SZ_trunc {X : FVec Ideal S16x128x128 .f32} (hX : SZ X) (w) : SZ (truncf .bf16 X w) := hX
theorem SZ_ext {X : FVec Ideal S16x128x128 .bf16} (hX : SZ X) (w) : SZ (extf .f32 X w) := hX

theorem M_add {X Y : FVec Ideal S32x64x64 .f32} (hX : M X f) (hY : M Y f') : M (addf X Y) (fun g h => f g h + f' g h) := fun g h t i => by
  show X _ + Y _ = _
  rw [hX, hY, ← EReal.coe_add]; rfl
theorem M_trunc {X : FVec Ideal S32x64x64 .f32} (hX : M X f) (w) : M (truncf .bf16 X w) f := hX
theorem B_add {X Y : FVec Ideal S32x64x128 .f32} (hX : B X f) (hY : B Y f') : B (addf X Y) (fun g h => f g h + f' g h) := fun g h t i => by
  show X _ + Y _ = _
  rw [hX, hY, ← EReal.coe_add]; rfl
theorem B_trunc {X : FVec Ideal S32x64x128 .f32} (hX : B X f) (w) : B (truncf .bf16 X w) f := hX
theorem BZ_add {X Y : FVec Ideal S32x64x128 .f32} (hX : BZ X) (hY : BZ Y) : BZ (addf X Y) := fun g h h' t i e => by
  show X _ + Y _ = _
  rw [hX _ _ _ _ _ e, hY _ _ _ _ _ e, zero_add]
theorem BZ_trunc {X : FVec Ideal S32x64x128 .f32} (hX : BZ X) (w) : BZ (truncf .bf16 X w) := hX
end elementwise

section masks
variable {f : Mats}

theorem MS3_of {m : IVec S64x64 1} (hm : MS m) : MS3 (broadcastTo S32x64x64 (shapeCast S1x64x64 m shapeCasts_S64x64_S1x64x64) broadcasts_S1x64x64_S32x64x64) := fun g s t => by
  pointwise
  exact hm s t
theorem MI3_of {m : IVec S64x64 1} (hm : MI m) : MI3 (broadcastTo S32x64x64 (shapeCast S1x64x64 m shapeCasts_S64x64_S1x64x64) broadcasts_S1x64x64_S32x64x64) := fun g s t => by
  pointwise
  exact hm s t
theorem BM3_of {m : IVec S128x128 1} (hm : BM m) : BM3 (broadcastTo S16x128x128 (shapeCast S1x128x128 m shapeCasts_S128x128_S1x128x128) broadcasts_S1x128x128_S16x128x128) := fun g h h' i j => by
  pointwise
  exact hm h h' i j
theorem M_lowS {m : IVec S32x64x64 1} {X : FVec Ideal S32x64x64 .f32} (hm : MS3 m) (hX : M X f) :
    M (select m X (broadcast S32x64x64 (Scalar.ofBits (F := Ideal) .f32 0x00000000#32))) (fun g h => lowS (f g h)) := fun g h s t => by
  pointwise
  rw [hm]
  by_cases e : t < s <;> simp [Scalar.select, lowS, e, hX g h s t]
theorem M_lowI {m : IVec S32x64x64 1} {X : FVec Ideal S32x64x64 .f32} (hm : MI3 m) (hX : M X f) :
    M (select m X (broadcast S32x64x64 (Scalar.ofBits (F := Ideal) .f32 0x00000000#32))) (fun g h => lowI (f g h)) := fun g h s t => by
  pointwise
  rw [hm]
  by_cases e : t ≤ s <;> simp [Scalar.select, lowI, e, hX g h s t]
theorem S_sel {m : IVec S16x128x128 1} {X : FVec Ideal S16x128x128 .f32} (hm : BM3 m) (hX : S X f) :
    S (select m X (broadcast S16x128x128 (Scalar.ofBits (F := Ideal) .f32 0x00000000#32))) f := fun g h i j => by
  pointwise
  rw [hm]
  simp [Scalar.select, hX g h i j]
theorem SZ_sel {m : IVec S16x128x128 1} {X : FVec Ideal S16x128x128 .f32} (hm : BM3 m) :
    SZ (select m X (broadcast S16x128x128 (Scalar.ofBits (F := Ideal) .f32 0x00000000#32))) := fun g h h' i j e => by
  pointwise
  rw [hm]
  simp [Scalar.select, e]
theorem M_eye {X : FVec Ideal S32x64x64 .f32} (hX : M X f) :
    M (addf (broadcastTo S32x64x64 (shapeCast S1x64x64 (sitofp (F := Ideal) .f32 (extui 32 (cmpi .eq (iota .tc S64x64 32 [0] iota_S64x64_d0_w32) (iota .tc S64x64 32 [1] iota_S64x64_d1_w32)) natLt_1_32)) shapeCasts_S64x64_S1x64x64)
       broadcasts_S1x64x64_S32x64x64) X) (fun g h => eye + f g h) := fun g h s t => by
  rw [eye_at, hX]
  show _ = ((eye s t + f g h s t : ℝ) : EReal)
  unfold eye
  split <;> simp
end masks

section copies
variable {f : Mats}

theorem B_both {X : FVec Ideal S16x64x128 .f32} (hX : T X f) :
    B (shapeCast S32x64x128 (broadcastTo S2x16x64x128 (shapeCast S1x16x64x128 (shapeCast S1x16x64x128 X shapeCasts_S16x64x128_S1x16x64x128)
      shapeCasts_S1x16x64x128_S1x16x64x128) broadcasts_S1x16x64x128_S2x16x64x128) shapeCasts_S2x16x64x128_S32x64x128) f :=
  fun g h t i => (both_at X h g t _).trans (hX g h t i)
theorem B_perhead {X : FVec Ideal S16x64x128 .f32} {H : FVec Ideal S2x1x1x128 .f32} (hH : HM H) (hX : T X f) :
    B (shapeCast S32x64x128 (mulf (broadcastTo S2x16x64x128 (shapeCast S1x16x64x128 X shapeCasts_S16x64x128_S1x16x64x128)
      broadcasts_S1x16x64x128_S2x16x64x128) (broadcastTo S2x16x64x128 H broadcasts_S2x1x1x128_S2x16x64x128)) shapeCasts_S2x16x64x128_S32x64x128) f :=
  fun g h t i => by rw [perhead_at, hX, hH, if_pos rfl, mul_one]
theorem BZ_perhead {X : FVec Ideal S16x64x128 .f32} {H : FVec Ideal S2x1x1x128 .f32} (hH : HM H) :
    BZ (shapeCast S32x64x128 (mulf (broadcastTo S2x16x64x128 (shapeCast S1x16x64x128 X shapeCasts_S16x64x128_S1x16x64x128)
      broadcasts_S1x16x64x128_S2x16x64x128) (broadcastTo S2x16x64x128 H broadcasts_S2x1x1x128_S2x16x64x128)) shapeCasts_S2x16x64x128_S32x64x128) :=
  fun g h h' t i e => by rw [perhead_at, hH, if_neg e, mul_zero]
theorem D_mask {X : FVec Ideal S32x64x128 .f32} {H : FVec Ideal S2x1x1x128 .f32} (hH : HM H) (hX : B X f) :
    D (mulf (shapeCast S2x16x64x128 X shapeCasts_S32x64x128_S2x16x64x128) (broadcastTo S2x16x64x128 H broadcasts_S2x1x1x128_S2x16x64x128)) f := fun g h h' t i => by
  have e0 : mulf (shapeCast S2x16x64x128 X shapeCasts_S32x64x128_S2x16x64x128) (broadcastTo S2x16x64x128 H broadcasts_S2x1x1x128_S2x16x64x128) (ix4 h g t (lane h' i))
      = X (ix3 (head h g) t (lane h' i)) * H (ix4 h 0 0 (lane h' i)) := by
    pointwise
    rfl
  rw [e0, hH]
  by_cases e : h' = h
  · subst e; rw [if_pos rfl, if_pos rfl, hX, mul_one]
  · rw [if_neg e, if_neg e, mul_zero]
theorem T_red {X : FVec Ideal S2x16x64x128 .f32} (hX : D X f) :
    T (multiReduction .add [0] S16x64x128 X 0x00000000#32 reduces_S2x16x64x128_S16x64x128 (.inl rfl) rfl) f := fun g h t i => by
  have e0 : multiReduction .add [0] S16x64x128 X 0x00000000#32 reduces_S2x16x64x128_S16x64x128 (.inl rfl) rfl (ix3 g t (lane h i))
      = ∑ h' : Fin 2, X (ix4 h' g t (lane h i)) := by
    pointwise
  rw [e0, Finset.sum_eq_single h]
  · rw [hX, if_pos rfl]
  · intro h' _ e
    rw [hX, if_neg (Ne.symm e)]
  · simp
theorem T_merge {X : FVec Ideal S32x64x128 .f32} (hX : B X f) (hZ : BZ X) :
    T (multiReduction .add [0] S16x64x128 (shapeCast S2x16x64x128 X shapeCasts_S32x64x128_S2x16x64x128) 0x00000000#32 reduces_S2x16x64x128_S16x64x128 (.inl rfl) rfl) f := fun g h t i => by
  rw [merge_at, Finset.sum_eq_single h]
  · exact hX g h t i
  · intro h' _ e
    exact hZ _ _ _ _ _ (Ne.symm e)
  · simp
theorem T_again {X : FVec Ideal S16x64x128 .f32} (hX : T X f) :
    T (multiReduction .add [0] S16x64x128 (shapeCast S1x16x64x128 X shapeCasts_S16x64x128_S1x16x64x128) 0x00000000#32 reduces_S1x16x64x128_S16x64x128 (.inl rfl) rfl) f :=
  fun g h t i => (again_at X g t _).trans (hX g h t i)
end copies

section products
variable {f f' : Mats}

theorem T_d1 {X : FVec Ideal S16x64x64 .bf16} {Y : FVec Ideal S16x64x128 .bf16} {L : Mat} (hX : K X L) (hY : T Y f) :
    T (matmul dot_S16x64x64_S16x64x128_S16x64x128_2_1_1_2_0_0 none X Y (constant S16x64x128 .f32 0x00000000#32)) (fun g h => L * f g h) :=
  fun g h t i => (d1_at X Y g t _).trans (coe_dot _ _ _ _ (fun k => hX g t k) (fun k => hY g h k i))
theorem T_d1t {X : FVec Ideal S16x64x64 .bf16} {Y : FVec Ideal S16x64x128 .bf16} {L : Mat} (hX : K X L) (hY : T Y f) :
    T (matmul dot_S16x64x64_S16x64x128_S16x64x128_1_1_2_2_0_0 none X Y (constant S16x64x128 .f32 0x00000000#32)) (fun g h => L.transpose * f g h) :=
  fun g h t i => (d1t_at X Y g t _).trans (coe_dot _ _ _ _ (fun k => hX g k t) (fun k => hY g h k i))
theorem S_d2 {X : FVec Ideal S16x128x64 .bf16} {Y : FVec Ideal S16x64x128 .bf16} (hX : ON X) (hY : T Y f) :
    S (matmul dot_S16x128x64_S16x64x128_S16x128x128_2_1_1_2_0_0 none X Y (constant S16x128x128 .f32 0x00000000#32)) (fun g h => csum (f g h)) :=
  fun g h i j => (d2_at X Y g _ _).trans ((coe_dot _ _ (fun _ => 1) _ (fun k => (hX g _ k).trans EReal.coe_one.symm) (fun k => hY g h k j)).trans (by simp [csum]))
theorem T_d2t {X : FVec Ideal S16x128x64 .bf16} {Y : FVec Ideal S16x128x128 .bf16} (hX : ON X) (hY : S Y f) (hZ : SZ Y) :
    T (matmul dot_S16x128x64_S16x128x128_S16x64x128_1_1_2_2_0_0 none X Y (constant S16x64x128 .f32 0x00000000#32)) (fun g h => csum (f g h)) :=
  fun g h t j => by
    rw [d2t_at, sum_own _ h (fun h' i e => by rw [hZ _ _ _ _ _ (Ne.symm e), mul_zero])]
    exact (coe_dot _ _ (fun _ => 1) _ (fun k => (hX g _ t).trans EReal.coe_one.symm) (fun k => hY g h k j)).trans (by simp [csum])
theorem T_d3 {X : FVec Ideal S16x64x128 .bf16} {Y : FVec Ideal S16x128x128 .bf16} (hX : T X f) (hY : S Y f') (hZ : SZ Y) :
    T (matmul dot_S16x64x128_S16x128x128_S16x64x128_2_2_1_1_0_0 none X Y (constant S16x64x128 .f32 0x00000000#32)) (fun g h => f g h * (f' g h).transpose) :=
  fun g h t i => by
    rw [d3_at, sum_own _ h (fun h' j e => by rw [hZ _ _ _ _ _ e, mul_zero])]
    exact coe_dot _ _ _ _ (fun k => hX g h t k) (fun k => hY g h i k)
theorem T_d8 {X : FVec Ideal S16x64x128 .bf16} {Y : FVec Ideal S16x128x128 .bf16} (hX : T X f) (hY : S Y f') (hZ : SZ Y) :
    T (matmul dot_S16x64x128_S16x128x128_S16x64x128_2_1_1_2_0_0 none X Y (constant S16x64x128 .f32 0x00000000#32)) (fun g h => f g h * f' g h) :=
  fun g h t i => by
    rw [d8_at, sum_own _ h (fun h' j e => by rw [hZ _ _ _ _ _ (Ne.symm e), mul_zero])]
    exact coe_dot _ _ _ _ (fun k => hX g h t k) (fun k => hY g h k i)
theorem S_d7 {X Y : FVec Ideal S16x64x128 .bf16} (hX : T X f) (hY : T Y f') :
    S (matmul dot_S16x64x128_S16x64x128_S16x128x128_1_1_2_2_0_0 none X Y (constant S16x128x128 .f32 0x00000000#32)) (fun g h => (f g h).transpose * f' g h) :=
  fun g h i j => (d7_at X Y g _ _).trans (coe_dot _ _ _ _ (fun k => hX g h k i) (fun k => hY g h k j))
theorem M_d4 {X Y : FVec Ideal S32x64x128 .bf16} (hX : B X f) (hZ : BZ X) (hY : B Y f') :
    M (matmul dot_S32x64x128_S32x64x128_S32x64x64_2_2_1_1_0_0 none X Y (constant S32x64x64 .f32 0x00000000#32)) (fun g h => f g h * (f' g h).transpose) :=
  fun g h s t => by
    rw [d4_at, sum_own _ h (fun h' j e => by rw [hZ _ _ _ _ _ e, zero_mul])]
    exact coe_dot _ _ _ _ (fun k => hX g h s k) (fun k => hY g h t k)
theorem M_d5 {X Y : FVec Ideal S32x64x64 .bf16} (hX : M X f) (hY : M Y f') :
    M (matmul dot_S32x64x64_S32x64x64_S32x64x64_2_1_1_2_0_0 none X Y (constant S32x64x64 .f32 0x00000000#32)) (fun g h => f g h * f' g h) :=
  fun g h s t => (d5_at X Y _ _ _).trans (coe_dot _ _ _ _ (fun k => hX g h s k) (fun k => hY g h k t))
theorem M_d10 {X Y : FVec Ideal S32x64x64 .bf16} (hX : M X f) (hY : M Y f') :
    M (matmul dot_S32x64x64_S32x64x64_S32x64x64_2_2_1_1_0_0 none X Y (constant S32x64x64 .f32 0x00000000#32)) (fun g h => f g h * (f' g h).transpose) :=
  fun g h s t => (d10_at X Y _ _ _).trans (coe_dot _ _ _ _ (fun k => hX g h s k) (fun k => hY g h t k))
theorem M_d11 {X Y : FVec Ideal S32x64x64 .bf16} (hX : M X f) (hY : M Y f') :
    M (matmul dot_S32x64x64_S32x64x64_S32x64x64_1_1_2_2_0_0 none X Y (constant S32x64x64 .f32 0x00000000#32)) (fun g h => (f g h).transpose * f' g h) :=
  fun g h s t => (d11_at X Y _ _ _).trans (coe_dot _ _ _ _ (fun k => hX g h k s) (fun k => hY g h k t))
theorem B_d6 {X : FVec Ideal S32x64x64 .bf16} {Y : FVec Ideal S32x64x128 .bf16} (hX : M X f) (hY : B Y f') :
    B (matmul dot_S32x64x64_S32x64x128_S32x64x128_2_1_1_2_0_0 none X Y (constant S32x64x128 .f32 0x00000000#32)) (fun g h => f g h * f' g h) :=
  fun g h t i => (d6_at X Y _ _ _).trans (coe_dot _ _ _ _ (fun k => hX g h t k) (fun k => hY g h k i))
theorem B_d9 {X : FVec Ideal S32x64x64 .bf16} {Y : FVec Ideal S32x64x128 .bf16} (hX : M X f) (hY : B Y f') :
    B (matmul dot_S32x64x64_S32x64x128_S32x64x128_1_1_2_2_0_0 none X Y (constant S32x64x128 .f32 0x00000000#32)) (fun g h => (f g h).transpose * f' g h) :=
  fun g h t i => (d9_at X Y _ _ _).trans (coe_dot _ _ _ _ (fun k => hX g h k t) (fun k => hY g h k i))
theorem BZ_d9 {X : FVec Ideal S32x64x64 .bf16} {Y : FVec Ideal S32x64x128 .bf16} (hY : BZ Y) :
    BZ (matmul dot_S32x64x64_S32x64x128_S32x64x128_1_1_2_2_0_0 none X Y (constant S32x64x128 .f32 0x00000000#32)) :=
  fun g h h' t i e => (d9_at X Y _ _ _).trans (Finset.sum_eq_zero fun k _ => by rw [hY _ _ _ _ _ e, mul_zero])
end products

end Cert.KernelIdeal.Val

end
-- ==== Proof.Pay0.lean ====
module

public import proofs.«01_k».proof.Proof.Lift

@[expose] public section

set_option maxRecDepth 16384

noncomputable section

namespace Cert.KernelIdeal.Val

open Idealize.ShloMosaic Idealize.ShloMosaic.TcCoe
open Cert.KernelIdeal Cert.KernelIdeal.Gen Cert.Rwkv

variable {C : Fin 16 → Fin 2 → Chunk}

theorem BM_blk : BM k1_pay90 := blk_at

theorem k0_pay20_MI : MI k0_pay20 := ge_at

theorem k0_pay21_MS : MS k0_pay21 := gt_at

theorem k0_pay22_T {v108 : FVec Ideal S16x64x128 .f32} (h108 : T v108 (fun g h => (C g h).lw)) : T (k0_pay22 v108) (fun g h => (C g h).cum) := by
  have hK : K (broadcastTo S16x64x64 (shapeCast S1x64x64 (truncf .bf16 (sitofp (F := Ideal) .f32 (extui 32 k0_pay20 natLt_1_32)) bitsLt_bf16_f32) shapeCasts_S64x64_S1x64x64) broadcasts_S1x64x64_S16x64x64) LI := fun g s t => by
    rw [lowone_at]
    unfold LI
    split <;> simp
  exact T_add (T_d1 hK (T_trunc h108 _)) (T_d1 hK (T_trunc (T_sub h108 (T_ext (T_trunc h108 _) _)) _))

theorem k0_pay23_ON : ON (k0_pay23 (F := Ideal)) := fun g s t => by
  show Ideal.ofBits .bf16 0x3F80#16 = 1
  pointwise

theorem k0_pay24_T {v108 : FVec Ideal S16x64x128 .f32} (h108 : T v108 (fun g h => (C g h).lw)) :
    T (k0_pay24 v108) (fun g h => (C g h).lw) := by
  unfold k0_pay24
  exact (T_trunc h108 _)

theorem k0_pay25_T {v108 : FVec Ideal S16x64x128 .f32} (h108 : T v108 (fun g h => (C g h).lw)) :
    T (k0_pay25 v108) (fun g h => (C g h).lw - (C g h).lw) := by
  unfold k0_pay25
  exact (T_trunc (T_sub h108 (T_ext (k0_pay24_T h108) _)) _)

theorem k0_pay26_S {v108 : FVec Ideal S16x64x128 .f32} (h108 : T v108 (fun g h => (C g h).lw)) :
    S (k0_pay26 v108) (fun g h => csum (C g h).lw) := by
  unfold k0_pay26
  exact (S_d2 (k0_pay23_ON) (k0_pay24_T h108))

theorem k0_pay27_S {v321 : FVec Ideal S16x128x64 .bf16} {v325 : FVec Ideal S16x64x128 .bf16} {v326 : FVec Ideal S16x128x128 .f32} (h321 : ON v321) (h325 : T v325 (fun g h => (C g h).lw - (C g h).lw)) (h326 : S v326 (fun g h => csum (C g h).lw)) :
    S (k0_pay27 v321 v325 v326) (fun g h => (C g h).tot) := by
  unfold k0_pay27
  exact (S_add h326 (S_d2 h321 h325))

theorem k0_pay28_T {v320 : FVec Ideal S16x64x128 .f32} (h320 : T v320 (fun g h => (C g h).cum)) :
    T (k0_pay28 v320) (fun g h => (C g h).en) := by
  unfold k0_pay28
  exact (T_exp (T_sub T_zero h320))

theorem k0_pay29_T {v108 : FVec Ideal S16x64x128 .f32} {v255 : FVec Ideal S16x64x128 .f32} {v320 : FVec Ideal S16x64x128 .f32} (h108 : T v108 (fun g h => (C g h).lw)) (h255 : T v255 (fun g h => (C g h).a)) (h320 : T v320 (fun g h => (C g h).cum)) :
    T (k0_pay29 v108 v255 v320) (fun g h => (C g h).at') := by
  unfold k0_pay29
  exact (T_mul h255 (T_exp (T_sub h320 h108)))

theorem k0_pay30_T {v304 : FVec Ideal S16x64x128 .f32} {v320 : FVec Ideal S16x64x128 .f32} (h304 : T v304 (fun g h => (C g h).b)) (h320 : T v320 (fun g h => (C g h).cum)) :
    T (k0_pay30 v304 v320) (fun g h => (C g h).bt) := by
  unfold k0_pay30
  exact (T_mul h304 (k0_pay28_T h320))

theorem k0_pay31_T {v157 : FVec Ideal S16x64x128 .f32} {v320 : FVec Ideal S16x64x128 .f32} (h157 : T v157 (fun g h => (C g h).k)) (h320 : T v320 (fun g h => (C g h).cum)) :
    T (k0_pay31 v157 v320) (fun g h => (C g h).kt) := by
  unfold k0_pay31
  exact (T_mul h157 (k0_pay28_T h320))

theorem k0_pay32_T {v59 : FVec Ideal S16x64x128 .f32} {v320 : FVec Ideal S16x64x128 .f32} (h59 : T v59 (fun g h => (C g h).r)) (h320 : T v320 (fun g h => (C g h).cum)) :
    T (k0_pay32 v59 v320) (fun g h => (C g h).rt) := by
  unfold k0_pay32
  exact (T_mul h59 (T_exp h320))

theorem k0_pay33_HM : HM (k0_pay33 (F := Ideal)) := hm_at

theorem k0_pay34_B {v304 : FVec Ideal S16x64x128 .f32} {v320 : FVec Ideal S16x64x128 .f32} (h304 : T v304 (fun g h => (C g h).b)) (h320 : T v320 (fun g h => (C g h).cum)) :
    B (k0_pay34 v304 v320) (fun g h => (C g h).bt) := by
  unfold k0_pay34
  exact (B_both (k0_pay30_T h304 h320))

theorem k0_pay35_B {v157 : FVec Ideal S16x64x128 .f32} {v320 : FVec Ideal S16x64x128 .f32} (h157 : T v157 (fun g h => (C g h).k)) (h320 : T v320 (fun g h => (C g h).cum)) :
    B (k0_pay35 v157 v320) (fun g h => (C g h).kt) := by
  unfold k0_pay35
  exact (B_both (k0_pay31_T h157 h320))

theorem k0_pay36_B {v206 : FVec Ideal S16x64x128 .f32} (h206 : T v206 (fun g h => (C g h).v)) :
    B (k0_pay36 v206) (fun g h => (C g h).v) := by
  unfold k0_pay36
  exact (B_both h206)

theorem k0_pay37_B {v108 : FVec Ideal S16x64x128 .f32} {v255 : FVec Ideal S16x64x128 .f32} {v320 : FVec Ideal S16x64x128 .f32} (h108 : T v108 (fun g h => (C g h).lw)) (h255 : T v255 (fun g h => (C g h).a)) (h320 : T v320 (fun g h => (C g h).cum)) :
    B (k0_pay37 v108 v255 v320) (fun g h => (C g h).at') := by
  unfold k0_pay37
  exact (B_perhead (k0_pay33_HM) (k0_pay29_T h108 h255 h320))

theorem k0_pay37_BZ {v108 : FVec Ideal S16x64x128 .f32} {v255 : FVec Ideal S16x64x128 .f32} {v320 : FVec Ideal S16x64x128 .f32} (h108 : T v108 (fun g h => (C g h).lw)) (h255 : T v255 (fun g h => (C g h).a)) (h320 : T v320 (fun g h => (C g h).cum)) :
    BZ (k0_pay37 v108 v255 v320) := by
  unfold k0_pay37
  exact (BZ_perhead (k0_pay33_HM))

theorem k0_pay38_B {v59 : FVec Ideal S16x64x128 .f32} {v320 : FVec Ideal S16x64x128 .f32} (h59 : T v59 (fun g h => (C g h).r)) (h320 : T v320 (fun g h => (C g h).cum)) :
    B (k0_pay38 v59 v320) (fun g h => (C g h).rt) := by
  unfold k0_pay38
  exact (B_perhead (k0_pay33_HM) (k0_pay32_T h59 h320))

theorem k0_pay38_BZ {v59 : FVec Ideal S16x64x128 .f32} {v320 : FVec Ideal S16x64x128 .f32} (h59 : T v59 (fun g h => (C g h).r)) (h320 : T v320 (fun g h => (C g h).cum)) :
    BZ (k0_pay38 v59 v320) := by
  unfold k0_pay38
  exact (BZ_perhead (k0_pay33_HM))

theorem k0_pay39_T {arg12 : Vec Ideal S16x128x128 .f32} {v108 : FVec Ideal S16x64x128 .f32} {v255 : FVec Ideal S16x64x128 .f32} {v320 : FVec Ideal S16x64x128 .f32} (harg12 : S arg12 (fun g h => (C g h).s)) (harg12SZ : SZ arg12) (h108 : T v108 (fun g h => (C g h).lw)) (h255 : T v255 (fun g h => (C g h).a)) (h320 : T v320 (fun g h => (C g h).cum)) :
    T (k0_pay39 arg12 v108 v255 v320) (fun g h => (C g h).base) := by
  unfold k0_pay39
  exact (T_d3 (T_trunc (k0_pay29_T h108 h255 h320) _) (S_trunc harg12 _) (SZ_trunc harg12SZ _))

theorem k0_pay40_M {v108 : FVec Ideal S16x64x128 .f32} {v255 : FVec Ideal S16x64x128 .f32} {v304 : FVec Ideal S16x64x128 .f32} {v320 : FVec Ideal S16x64x128 .f32} (h108 : T v108 (fun g h => (C g h).lw)) (h255 : T v255 (fun g h => (C g h).a)) (h304 : T v304 (fun g h => (C g h).b)) (h320 : T v320 (fun g h => (C g h).cum)) :
    M (k0_pay40 v108 v255 v304 v320) (fun g h => (C g h).ab) := by
  unfold k0_pay40
  exact (M_d4 (B_trunc (k0_pay37_B h108 h255 h320) _) (BZ_trunc (k0_pay37_BZ h108 h255 h320) _) (B_trunc (k0_pay34_B h304 h320) _))

theorem k0_pay41_MS3 {v308 : IVec S64x64 1} (h308 : MS v308) :
    MS3 (k0_pay41 v308) := by
  unfold k0_pay41
  exact (MS3_of h308)

theorem k0_pay42_M {v376 : FVec Ideal S32x64x64 .f32} {v378 : IVec S32x64x64 1} (h376 : M v376 (fun g h => (C g h).ab)) (h378 : MS3 v378) :
    M (k0_pay42 v376 (Scalar.ofBits (F := Ideal) .f32 0x00000000#32) v378) (fun g h => (C g h).Aab) := by
  unfold k0_pay42
  exact (M_lowS h378 h376)

theorem k0_pay43_M {v308 : IVec S64x64 1} {v356 : FVec Ideal S32x64x128 .f32} {v365 : FVec Ideal S32x64x128 .f32} (h308 : MS v308) (h356 : B v356 (fun g h => (C g h).kt)) (h365 : B v365 (fun g h => (C g h).at')) (h365BZ : BZ v365) :
    M (k0_pay43 v308 v356 v365) (fun g h => (C g h).Aak) := by
  unfold k0_pay43
  exact (M_lowS (MS3_of h308) (M_d4 (B_trunc h365 _) (BZ_trunc h365BZ _) (B_trunc h356 _)))

theorem k0_pay44_M {v307 : IVec S64x64 1} {v352 : FVec Ideal S32x64x128 .f32} {v370 : FVec Ideal S32x64x128 .f32} (h307 : MI v307) (h352 : B v352 (fun g h => (C g h).bt)) (h370 : B v370 (fun g h => (C g h).rt)) (h370BZ : BZ v370) :
    M (k0_pay44 v307 v352 v370) (fun g h => (C g h).Arb) := by
  unfold k0_pay44
  exact (M_lowI (MI3_of h307) (M_d4 (B_trunc h370 _) (BZ_trunc h370BZ _) (B_trunc h352 _)))

theorem k0_pay45_M {v307 : IVec S64x64 1} {v356 : FVec Ideal S32x64x128 .f32} {v370 : FVec Ideal S32x64x128 .f32} (h307 : MI v307) (h356 : B v356 (fun g h => (C g h).kt)) (h370 : B v370 (fun g h => (C g h).rt)) (h370BZ : BZ v370) :
    M (k0_pay45 v307 v356 v370) (fun g h => (C g h).Ark) := by
  unfold k0_pay45
  exact (M_lowI (MI3_of h307) (M_d4 (B_trunc h370 _) (BZ_trunc h370BZ _) (B_trunc h356 _)))

theorem k0_pay46_M {v376 : FVec Ideal S32x64x64 .f32} {v378 : IVec S32x64x64 1} (h376 : M v376 (fun g h => (C g h).ab)) (h378 : MS3 v378) :
    M (k0_pay46 v376 (Scalar.ofBits (F := Ideal) .f32 0x00000000#32) v378) (fun g h => (C g h).q1) := by
  unfold k0_pay46
  exact (M_d5 (M_trunc (k0_pay42_M h376 h378) _) (M_trunc (k0_pay42_M h376 h378) _))

theorem k0_pay47_M {v376 : FVec Ideal S32x64x64 .f32} {v378 : IVec S32x64x64 1} (h376 : M v376 (fun g h => (C g h).ab)) (h378 : MS3 v378) :
    M (k0_pay47 v376 (Scalar.ofBits (F := Ideal) .f32 0x00000000#32) v378) (fun g h => (C g h).q2) := by
  unfold k0_pay47
  exact (M_d5 (M_trunc (k0_pay46_M h376 h378) _) (M_trunc (k0_pay46_M h376 h378) _))

theorem k0_pay48_M {v376 : FVec Ideal S32x64x64 .f32} {v378 : IVec S32x64x64 1} (h376 : M v376 (fun g h => (C g h).ab)) (h378 : MS3 v378) :
    M (k0_pay48 v376 (Scalar.ofBits (F := Ideal) .f32 0x00000000#32) v378) (fun g h => (C g h).p2) := by
  unfold k0_pay48
  exact (M_add (M_add (M_eye (k0_pay42_M h376 h378)) (M_d5 (M_trunc (M_eye (k0_pay42_M h376 h378)) _) (M_trunc (k0_pay46_M h376 h378) _))) (M_d5 (M_trunc (M_add (M_eye (k0_pay42_M h376 h378)) (M_d5 (M_trunc (M_eye (k0_pay42_M h376 h378)) _) (M_trunc (k0_pay46_M h376 h378) _))) _) (M_trunc (k0_pay47_M h376 h378) _)))

theorem k0_pay49_M {v376 : FVec Ideal S32x64x64 .f32} {v378 : IVec S32x64x64 1} (h376 : M v376 (fun g h => (C g h).ab)) (h378 : MS3 v378) :
    M (k0_pay49 v376 (Scalar.ofBits (F := Ideal) .f32 0x00000000#32) v378) (fun g h => (C g h).q3) := by
  unfold k0_pay49
  exact (M_d5 (M_trunc (k0_pay47_M h376 h378) _) (M_trunc (k0_pay47_M h376 h378) _))

theorem k0_pay50_M {v376 : FVec Ideal S32x64x64 .f32} {v378 : IVec S32x64x64 1} (h376 : M v376 (fun g h => (C g h).ab)) (h378 : MS3 v378) :
    M (k0_pay50 v376 (Scalar.ofBits (F := Ideal) .f32 0x00000000#32) v378) (fun g h => (C g h).p2) := by
  unfold k0_pay50
  exact (M_trunc (k0_pay48_M h376 h378) _)

theorem k0_pay51_T {v348 : FVec Ideal S2x1x1x128 .f32} {v360 : FVec Ideal S32x64x128 .f32} {v373 : FVec Ideal S16x64x128 .f32} {v387 : FVec Ideal S32x64x64 .f32} {v423 : FVec Ideal S32x64x64 .f32} {v426 : FVec Ideal S32x64x64 .f32} {v427 : FVec Ideal S32x64x64 .bf16} (h348 : HM v348) (h360 : B v360 (fun g h => (C g h).v)) (h373 : T v373 (fun g h => (C g h).base)) (h387 : M v387 (fun g h => (C g h).Aak)) (h423 : M v423 (fun g h => (C g h).p2)) (h426 : M v426 (fun g h => (C g h).q3)) (h427 : M v427 (fun g h => (C g h).p2)) :
    T (k0_pay51 v348 v360 v373 v387 v423 v426 v427) (fun g h => (C g h).u) := by
  unfold k0_pay51
  exact (T_red (D_mask h348 (B_d6 (M_trunc (M_add (M_add (M_add h423 (M_d5 h427 (M_trunc h426 _))) (M_d5 (M_trunc (M_add h423 (M_d5 h427 (M_trunc h426 _))) _) (M_trunc (M_d5 (M_trunc h426 _) (M_trunc h426 _)) _))) (M_d5 (M_trunc (M_add (M_add h423 (M_d5 h427 (M_trunc h426 _))) (M_d5 (M_trunc (M_add h423 (M_d5 h427 (M_trunc h426 _))) _) (M_trunc (M_d5 (M_trunc h426 _) (M_trunc h426 _)) _))) _) (M_trunc (M_d5 (M_trunc (M_d5 (M_trunc h426 _) (M_trunc h426 _)) _) (M_trunc (M_d5 (M_trunc h426 _) (M_trunc h426 _)) _)) _))) _) (B_trunc (B_add (B_both h373) (B_d6 (M_trunc h387 _) (B_trunc h360 _))) _))))

theorem k0_pay52_T {arg12 : Vec Ideal S16x128x128 .f32} {v338 : FVec Ideal S16x64x128 .f32} (harg12 : S arg12 (fun g h => (C g h).s)) (harg12SZ : SZ arg12) (h338 : T v338 (fun g h => (C g h).rt)) :
    T (k0_pay52 arg12 v338) (fun g h => (C g h).rs) := by
  unfold k0_pay52
  exact (T_d3 (T_trunc h338 _) (S_trunc harg12 _) (SZ_trunc harg12SZ _))

theorem k0_pay53_D {v348 : FVec Ideal S2x1x1x128 .f32} {v360 : FVec Ideal S32x64x128 .f32} {v373 : FVec Ideal S16x64x128 .f32} {v387 : FVec Ideal S32x64x64 .f32} {v394 : FVec Ideal S32x64x64 .f32} {v401 : FVec Ideal S32x64x64 .f32} {v423 : FVec Ideal S32x64x64 .f32} {v426 : FVec Ideal S32x64x64 .f32} {v427 : FVec Ideal S32x64x64 .bf16} (h348 : HM v348) (h360 : B v360 (fun g h => (C g h).v)) (h373 : T v373 (fun g h => (C g h).base)) (h387 : M v387 (fun g h => (C g h).Aak)) (h394 : M v394 (fun g h => (C g h).Arb)) (h401 : M v401 (fun g h => (C g h).Ark)) (h423 : M v423 (fun g h => (C g h).p2)) (h426 : M v426 (fun g h => (C g h).q3)) (h427 : M v427 (fun g h => (C g h).p2)) :
    D (k0_pay53 v348 v360 v373 v387 v394 v401 v423 v426 v427) (fun g h => (C g h).inner) := by
  unfold k0_pay53
  exact (D_mask h348 (B_add (B_d6 (M_trunc h394 _) (B_trunc (B_both (k0_pay51_T h348 h360 h373 h387 h423 h426 h427)) _)) (B_d6 (M_trunc h401 _) (B_trunc h360 _))))

theorem k0_pay54_T {v462 : FVec Ideal S16x64x128 .f32} {v476 : FVec Ideal S2x16x64x128 .f32} (h462 : T v462 (fun g h => (C g h).rs)) (h476 : D v476 (fun g h => (C g h).inner)) :
    T (k0_pay54 v462 v476) (fun g h => (C g h).y) := by
  unfold k0_pay54
  exact (T_add h462 (T_red h476))

theorem k0_pay55_S {arg12 : Vec Ideal S16x128x128 .f32} {v206 : FVec Ideal S16x64x128 .f32} {v328 : FVec Ideal S16x128x128 .f32} {v335 : FVec Ideal S16x64x128 .f32} {v336 : FVec Ideal S16x64x128 .f32} {v459 : FVec Ideal S16x64x128 .f32} (harg12 : S arg12 (fun g h => (C g h).s)) (harg12SZ : SZ arg12) (h206 : T v206 (fun g h => (C g h).v)) (h328 : S v328 (fun g h => (C g h).tot)) (h335 : T v335 (fun g h => (C g h).bt)) (h336 : T v336 (fun g h => (C g h).kt)) (h459 : T v459 (fun g h => (C g h).u)) :
    S (k0_pay55 arg12 v206 v328 v335 v336 v459) (fun g h => (C g h).s') := by
  unfold k0_pay55
  exact (S_mul (S_add harg12 (S_sel (BM3_of BM_blk) (S_add (S_d7 (T_trunc h459 _) (T_trunc h335 _)) (S_d7 (T_trunc h206 _) (T_trunc h336 _))))) (S_exp h328))

theorem k0_pay55_SZ {arg12 : Vec Ideal S16x128x128 .f32} {v206 : FVec Ideal S16x64x128 .f32} {v328 : FVec Ideal S16x128x128 .f32} {v335 : FVec Ideal S16x64x128 .f32} {v336 : FVec Ideal S16x64x128 .f32} {v459 : FVec Ideal S16x64x128 .f32} (harg12 : S arg12 (fun g h => (C g h).s)) (harg12SZ : SZ arg12) (h206 : T v206 (fun g h => (C g h).v)) (h328 : S v328 (fun g h => (C g h).tot)) (h335 : T v335 (fun g h => (C g h).bt)) (h336 : T v336 (fun g h => (C g h).kt)) (h459 : T v459 (fun g h => (C g h).u)) :
    SZ (k0_pay55 arg12 v206 v328 v335 v336 v459) := by
  unfold k0_pay55
  exact (SZ_mul (SZ_add harg12SZ (SZ_sel (BM3_of BM_blk))))

end Cert.KernelIdeal.Val

end
-- ==== Proof.Load.lean ====
module

public import proofs.«01_k».proof.Proof.Rep
public import Idealize.ShloMosaic.Lib.Pipeline.ValueKit

@[expose] public section

set_option maxRecDepth 16384

noncomputable section

namespace Cert.KernelIdeal.Val

open Idealize.ShloMosaic Idealize.ShloMosaic.TcCoe
open Cert.KernelIdeal Cert.KernelIdeal.Gen Cert.Rwkv

/-- The rows from `n` on of a block hold the heads' matrices. -/
def LD (x : S128x2048.Idx → EReal) (n : ℕ) (f : Mats) : Prop :=
  ∀ (a : Fin 128) (b : Fin 2048) g h t i, a.val = n + t.val → b.val = 128 * g.val + 64 * h.val + i.val →
    x (ix2 a b) = ((f g h t i : ℝ) : EReal)

/-- The `n`-th states of a block hold each head's state on the diagonal. -/
def LS (x : S16x2x128x128.Idx → EReal) (n : ℕ) (f : Mats) : Prop :=
  ∀ (q : Fin 2) g h i j, q.val = n → x (ix4 g q (lane h i) (lane h j)) = ((f g h i j : ℝ) : EReal)

/-- The `n`-th states of a block are zero off the diagonal of heads. -/
def LSZ (x : S16x2x128x128.Idx → EReal) (n : ℕ) : Prop :=
  ∀ (q : Fin 2) g h h' i j, q.val = n → h' ≠ h → x (ix4 g q (lane h i) (lane h' j)) = 0

theorem idx_rows {n g : ℕ} {off : Fin 2 → ℕ} (ho : off = ![n, 128 * g])
    (hin : ∀ a, off a + S64x128.size a ≤ S128x2048.size a) (t : Fin 64) (l : Fin 128) (a : Fin 128) (b : Fin 2048)
    (ha : a.val = n + t.val) (hb : b.val = 128 * g + l.val) :
    (Rect.unit (s := S128x2048) off S64x128.size hin).emb (ix2 t l) = ix2 a b := by
  subst ho
  funext d
  refine Fin.ext ?_
  rw [ValueKit.rect_emb_unit_val]
  fin_cases d
  · exact ha.symm
  · exact hb.symm

theorem read_rows {v : Memref sig .tc .vmem S128x2048 .f32}
    {X : v.view.ty.Contents (Elt Ideal)} {n : ℕ} {f : Mats} (hX : LD (v.view.read (Elt Ideal) X) n f) (g : Fin 16)
    {off : Fin 2 → ℕ} (ho : off = ![n, 128 * g.val])
    {hin : ∀ a, off a + S64x128.size a ≤ S128x2048.size a} (t : Fin 64) (h : Fin 2) (i : Fin 64) :
    View.readAt (Elt Ideal) v.view (Rect.unit (s := S128x2048) off S64x128.size hin).toLoadRect X (ix2 t (lane h i)) = ((f g h t i : ℝ) : EReal) := by
  have h0 : n + 64 ≤ 128 := by have := hin 0; subst ho; exact this
  have e := idx_rows ho hin t (lane h i) ⟨n + t.val, by omega⟩ ⟨128 * g.val + (lane h i).val, by have := (lane h i).isLt; omega⟩ rfl rfl
  refine (congrArg (v.view.read (Elt Ideal) X) e).trans (hX _ _ g h t i rfl ?_)
  simp only [lane]
  omega

theorem idx_slab {n g : ℕ} {off : Fin 4 → ℕ} (ho : off = ![g, n, 0, 0])
    (hin : ∀ a, off a + S1x1x128x128.size a ≤ S16x2x128x128.size a) (i j : Fin 128) (a : Fin 16) (b : Fin 2)
    (ha : a.val = g) (hb : b.val = n) :
    (Rect.unit (s := S16x2x128x128) off S1x1x128x128.size hin).emb (ix4 0 0 i j) = ix4 a b i j := by
  subst ho
  funext d
  refine Fin.ext ?_
  rw [ValueKit.rect_emb_unit_val]
  fin_cases d
  · exact ha.symm
  · exact hb.symm
  · exact Nat.zero_add _
  · exact Nat.zero_add _

theorem read_slab {v : Memref sig .tc .vmem S16x2x128x128 .f32}
    {X : v.view.ty.Contents (Elt Ideal)} {n : ℕ} (g : Fin 16) (q : Fin 2) (hq : q.val = n)
    {off : Fin 4 → ℕ} (ho : off = ![g.val, n, 0, 0])
    {hin : ∀ a, off a + S1x1x128x128.size a ≤ S16x2x128x128.size a} (i j : Fin 128) :
    View.readAt (Elt Ideal) v.view (Rect.unit (s := S16x2x128x128) off S1x1x128x128.size hin).toLoadRect X (ix4 0 0 i j)
      = v.view.read (Elt Ideal) X (ix4 g q i j) :=
  congrArg (v.view.read (Elt Ideal) X) (idx_slab ho hin i j g q rfl hq)

/-- Sixteen tiles stacked, one for each pair of heads. -/
def pile (p0 p1 p2 p3 p4 p5 p6 p7 p8 p9 p10 p11 p12 p13 p14 p15 : FVec Ideal S1x1x128x128 .f32) : FVec Ideal S16x128x128 .f32 :=
  concatenate S16x128x128 0 [⟨S1x128x128, shapeCast S1x128x128 (shapeCast S128x128 p0 shapeCasts_S1x1x128x128_S128x128) shapeCasts_S128x128_S1x128x128⟩, ⟨S1x128x128, shapeCast S1x128x128 (shapeCast S128x128 p1 shapeCasts_S1x1x128x128_S128x128) shapeCasts_S128x128_S1x128x128⟩, ⟨S1x128x128, shapeCast S1x128x128 (shapeCast S128x128 p2 shapeCasts_S1x1x128x128_S128x128) shapeCasts_S128x128_S1x128x128⟩, ⟨S1x128x128, shapeCast S1x128x128 (shapeCast S128x128 p3 shapeCasts_S1x1x128x128_S128x128) shapeCasts_S128x128_S1x128x128⟩, ⟨S1x128x128, shapeCast S1x128x128 (shapeCast S128x128 p4 shapeCasts_S1x1x128x128_S128x128) shapeCasts_S128x128_S1x128x128⟩, ⟨S1x128x128, shapeCast S1x128x128 (shapeCast S128x128 p5 shapeCasts_S1x1x128x128_S128x128) shapeCasts_S128x128_S1x128x128⟩, ⟨S1x128x128, shapeCast S1x128x128 (shapeCast S128x128 p6 shapeCasts_S1x1x128x128_S128x128) shapeCasts_S128x128_S1x128x128⟩, ⟨S1x128x128, shapeCast S1x128x128 (shapeCast S128x128 p7 shapeCasts_S1x1x128x128_S128x128) shapeCasts_S128x128_S1x128x128⟩, ⟨S1x128x128, shapeCast S1x128x128 (shapeCast S128x128 p8 shapeCasts_S1x1x128x128_S128x128) shapeCasts_S128x128_S1x128x128⟩, ⟨S1x128x128, shapeCast S1x128x128 (shapeCast S128x128 p9 shapeCasts_S1x1x128x128_S128x128) shapeCasts_S128x128_S1x128x128⟩, ⟨S1x128x128, shapeCast S1x128x128 (shapeCast S128x128 p10 shapeCasts_S1x1x128x128_S128x128) shapeCasts_S128x128_S1x128x128⟩, ⟨S1x128x128, shapeCast S1x128x128 (shapeCast S128x128 p11 shapeCasts_S1x1x128x128_S128x128) shapeCasts_S128x128_S1x128x128⟩, ⟨S1x128x128, shapeCast S1x128x128 (shapeCast S128x128 p12 shapeCasts_S1x1x128x128_S128x128) shapeCasts_S128x128_S1x128x128⟩, ⟨S1x128x128, shapeCast S1x128x128 (shapeCast S128x128 p13 shapeCasts_S1x1x128x128_S128x128) shapeCasts_S128x128_S1x128x128⟩, ⟨S1x128x128, shapeCast S1x128x128 (shapeCast S128x128 p14 shapeCasts_S1x1x128x128_S128x128) shapeCasts_S128x128_S1x128x128⟩, ⟨S1x128x128, shapeCast S1x128x128 (shapeCast S128x128 p15 shapeCasts_S1x1x128x128_S128x128) shapeCasts_S128x128_S1x128x128⟩] concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0

theorem rows_at (p0 p1 p2 p3 p4 p5 p6 p7 p8 p9 p10 p11 p12 p13 p14 p15 : FVec Ideal S64x128 .f32) (g : Fin 16) (t : Fin 64) (l : Fin 128) :
    k0_pay19 (F := Ideal) p0 p1 p2 p3 p4 p5 p6 p7 p8 p9 p10 p11 p12 p13 p14 p15 (ix3 g t l) = (![p0, p1, p2, p3, p4, p5, p6, p7, p8, p9, p10, p11, p12, p13, p14, p15] g) (ix2 t l) := by
  fin_cases g <;> pointwise [k0_pay19]

theorem pile_at (p0 p1 p2 p3 p4 p5 p6 p7 p8 p9 p10 p11 p12 p13 p14 p15 : FVec Ideal S1x1x128x128 .f32) (g : Fin 16) (i j : Fin 128) :
    pile p0 p1 p2 p3 p4 p5 p6 p7 p8 p9 p10 p11 p12 p13 p14 p15 (ix3 g i j) = (![p0, p1, p2, p3, p4, p5, p6, p7, p8, p9, p10, p11, p12, p13, p14, p15] g) (ix4 0 0 i j) := by
  fin_cases g <;> pointwise [pile]

theorem T_rows {p0 p1 p2 p3 p4 p5 p6 p7 p8 p9 p10 p11 p12 p13 p14 p15 : FVec Ideal S64x128 .f32} {f : Mats}
    (h0 : ∀ t h i, p0 (ix2 t (lane h i)) = ((f 0 h t i : ℝ) : EReal))
    (h1 : ∀ t h i, p1 (ix2 t (lane h i)) = ((f 1 h t i : ℝ) : EReal))
    (h2 : ∀ t h i, p2 (ix2 t (lane h i)) = ((f 2 h t i : ℝ) : EReal))
    (h3 : ∀ t h i, p3 (ix2 t (lane h i)) = ((f 3 h t i : ℝ) : EReal))
    (h4 : ∀ t h i, p4 (ix2 t (lane h i)) = ((f 4 h t i : ℝ) : EReal))
    (h5 : ∀ t h i, p5 (ix2 t (lane h i)) = ((f 5 h t i : ℝ) : EReal))
    (h6 : ∀ t h i, p6 (ix2 t (lane h i)) = ((f 6 h t i : ℝ) : EReal))
    (h7 : ∀ t h i, p7 (ix2 t (lane h i)) = ((f 7 h t i : ℝ) : EReal))
    (h8 : ∀ t h i, p8 (ix2 t (lane h i)) = ((f 8 h t i : ℝ) : EReal))
    (h9 : ∀ t h i, p9 (ix2 t (lane h i)) = ((f 9 h t i : ℝ) : EReal))
    (h10 : ∀ t h i, p10 (ix2 t (lane h i)) = ((f 10 h t i : ℝ) : EReal))
    (h11 : ∀ t h i, p11 (ix2 t (lane h i)) = ((f 11 h t i : ℝ) : EReal))
    (h12 : ∀ t h i, p12 (ix2 t (lane h i)) = ((f 12 h t i : ℝ) : EReal))
    (h13 : ∀ t h i, p13 (ix2 t (lane h i)) = ((f 13 h t i : ℝ) : EReal))
    (h14 : ∀ t h i, p14 (ix2 t (lane h i)) = ((f 14 h t i : ℝ) : EReal))
    (h15 : ∀ t h i, p15 (ix2 t (lane h i)) = ((f 15 h t i : ℝ) : EReal)) :
    T (k0_pay19 (F := Ideal) p0 p1 p2 p3 p4 p5 p6 p7 p8 p9 p10 p11 p12 p13 p14 p15) f := fun g h t i => by
  rw [rows_at]
  fin_cases g
  · exact h0 t h i
  · exact h1 t h i
  · exact h2 t h i
  · exact h3 t h i
  · exact h4 t h i
  · exact h5 t h i
  · exact h6 t h i
  · exact h7 t h i
  · exact h8 t h i
  · exact h9 t h i
  · exact h10 t h i
  · exact h11 t h i
  · exact h12 t h i
  · exact h13 t h i
  · exact h14 t h i
  · exact h15 t h i

theorem S_pile {p0 p1 p2 p3 p4 p5 p6 p7 p8 p9 p10 p11 p12 p13 p14 p15 : FVec Ideal S1x1x128x128 .f32} {x : S16x2x128x128.Idx → EReal} {q : Fin 2}
    (h0 : ∀ i j, p0 (ix4 0 0 i j) = x (ix4 0 q i j))
    (h1 : ∀ i j, p1 (ix4 0 0 i j) = x (ix4 1 q i j))
    (h2 : ∀ i j, p2 (ix4 0 0 i j) = x (ix4 2 q i j))
    (h3 : ∀ i j, p3 (ix4 0 0 i j) = x (ix4 3 q i j))
    (h4 : ∀ i j, p4 (ix4 0 0 i j) = x (ix4 4 q i j))
    (h5 : ∀ i j, p5 (ix4 0 0 i j) = x (ix4 5 q i j))
    (h6 : ∀ i j, p6 (ix4 0 0 i j) = x (ix4 6 q i j))
    (h7 : ∀ i j, p7 (ix4 0 0 i j) = x (ix4 7 q i j))
    (h8 : ∀ i j, p8 (ix4 0 0 i j) = x (ix4 8 q i j))
    (h9 : ∀ i j, p9 (ix4 0 0 i j) = x (ix4 9 q i j))
    (h10 : ∀ i j, p10 (ix4 0 0 i j) = x (ix4 10 q i j))
    (h11 : ∀ i j, p11 (ix4 0 0 i j) = x (ix4 11 q i j))
    (h12 : ∀ i j, p12 (ix4 0 0 i j) = x (ix4 12 q i j))
    (h13 : ∀ i j, p13 (ix4 0 0 i j) = x (ix4 13 q i j))
    (h14 : ∀ i j, p14 (ix4 0 0 i j) = x (ix4 14 q i j))
    (h15 : ∀ i j, p15 (ix4 0 0 i j) = x (ix4 15 q i j)) (g : Fin 16) (i j : Fin 128) :
    pile p0 p1 p2 p3 p4 p5 p6 p7 p8 p9 p10 p11 p12 p13 p14 p15 (ix3 g i j) = x (ix4 g q i j) := by
  rw [pile_at]
  fin_cases g
  · exact h0 i j
  · exact h1 i j
  · exact h2 i j
  · exact h3 i j
  · exact h4 i j
  · exact h5 i j
  · exact h6 i j
  · exact h7 i j
  · exact h8 i j
  · exact h9 i j
  · exact h10 i j
  · exact h11 i j
  · exact h12 i j
  · exact h13 i j
  · exact h14 i j
  · exact h15 i j

/-- A written piece of rows holds the values `φ` of the block. -/
def Rows (φ : ℕ → ℕ → ℝ) (p : View.Piece (Elt Ideal) S128x2048 .f32) : Prop :=
  ∀ x, p.2 x = ((φ (p.1.emb x 0).val (p.1.emb x 1).val : ℝ) : EReal)

/-- A written piece of states holds the states `σ n` of the block. -/
def Slabs (σ : ℕ → Mats) (p : View.Piece (Elt Ideal) S16x2x128x128 .f32) : Prop :=
  ∀ x g q h h' i j, p.1.emb x = ix4 g q (lane h i) (lane h' j) →
    p.2 x = if h' = h then ((σ q.val g h i j : ℝ) : EReal) else 0

theorem lane_split (l : Fin 128) : ∃ h i, l = lane h i :=
  ⟨⟨l.val / 64, by omega⟩, ⟨l.val % 64, by omega⟩, Fin.ext (by simp only [lane]; omega)⟩

theorem row_slice (X : FVec Ideal S16x64x128 .f32) (g : Fin 16) (hs : S16x64x128.Slices ![g.val, 0, 0] S1x64x128) (t : Fin 64) (l : Fin 128) :
    shapeCast S64x128 (extractStridedSlice S1x64x128 ![g.val, 0, 0] X hs) shapeCasts_S1x64x128_S64x128 (ix2 t l) = X (ix3 g t l) := by
  pointwise []

theorem state_slice (X : FVec Ideal S16x128x128 .f32) (g : Fin 16) (hs : S16x128x128.Slices ![g.val, 0, 0] S1x128x128) (i j : Fin 128) :
    shapeCast S1x1x128x128 (shapeCast S128x128 (extractStridedSlice S1x128x128 ![g.val, 0, 0] X hs) shapeCasts_S1x128x128_S128x128) shapeCasts_S128x128_S1x1x128x128 (ix4 0 0 i j) = X (ix3 g i j) := by
  pointwise []

theorem Rows_of {n : ℕ} {X : FVec Ideal S16x64x128 .f32} {f : Mats} (hX : T X f) {φ : ℕ → ℕ → ℝ}
    (hφ : ∀ g h t i, f g h t i = φ (n + t.val) (128 * g.val + 64 * h.val + i.val)) (g : Fin 16)
    {off : Fin 2 → ℕ} (ho : off = ![n, 128 * g.val])
    {hin : ∀ a, off a + S64x128.size a ≤ S128x2048.size a} {hs : S16x64x128.Slices ![g.val, 0, 0] S1x64x128} :
    Rows φ ⟨Rect.unit (s := S128x2048) off S64x128.size hin, shapeCast S64x128 (extractStridedSlice S1x64x128 ![g.val, 0, 0] X hs) shapeCasts_S1x64x128_S64x128⟩ := by
  intro x
  obtain ⟨t, l, rfl⟩ : ∃ t : Fin 64, ∃ l : Fin 128, x = ix2 t l := ⟨x 0, x 1, by funext a; fin_cases a <;> rfl⟩
  obtain ⟨h, i, rfl⟩ := lane_split l
  have h0 : n + 64 ≤ 128 := by have := hin 0; subst ho; exact this
  have e := idx_rows ho hin t (lane h i) ⟨n + t.val, by omega⟩ ⟨128 * g.val + (lane h i).val, by have := (lane h i).isLt; omega⟩ rfl rfl
  refine (row_slice X g hs t (lane h i)).trans ?_
  rw [hX, hφ]
  dsimp only
  rw [e]
  show _ = ((φ (n + t.val) (128 * g.val + (lane h i).val) : ℝ) : EReal)
  congr 2
  simp only [lane]
  omega

theorem Slabs_of {n : ℕ} {X : FVec Ideal S16x128x128 .f32} {f : Mats} (hX : S X f) (hZ : SZ X) {σ : ℕ → Mats}
    (hσ : f = σ n) (g : Fin 16) (hn : n < 2)
    {off : Fin 4 → ℕ} (ho : off = ![g.val, n, 0, 0])
    {hin : ∀ a, off a + S1x1x128x128.size a ≤ S16x2x128x128.size a} {hs : S16x128x128.Slices ![g.val, 0, 0] S1x128x128} :
    Slabs σ ⟨Rect.unit (s := S16x2x128x128) off S1x1x128x128.size hin, shapeCast S1x1x128x128 (shapeCast S128x128 (extractStridedSlice S1x128x128 ![g.val, 0, 0] X hs) shapeCasts_S1x128x128_S128x128) shapeCasts_S128x128_S1x1x128x128⟩ := by
  subst hσ
  intro x g' q h h' i j hx
  obtain ⟨a, b, k, l, rfl⟩ : ∃ (a b : Fin 1) (k l : Fin 128), x = ix4 a b k l := ⟨x 0, x 1, x 2, x 3, by funext a; fin_cases a <;> rfl⟩
  obtain rfl : a = 0 := Subsingleton.elim _ _
  obtain rfl : b = 0 := Subsingleton.elim _ _
  have e := (idx_slab ho hin k l g ⟨n, hn⟩ rfl rfl).symm.trans hx
  have e0 : g = g' := congrFun e 0
  have e1 : (⟨n, hn⟩ : Fin 2) = q := congrFun e 1
  have e2 : k = lane h i := congrFun e 2
  have e3 : l = lane h' j := congrFun e 3
  subst e0 e1 e2 e3
  refine (state_slice X g hs _ _).trans ?_
  split
  · next hh => subst hh; exact hX g h' i j
  · next hh => exact hZ g h h' i j hh

/-- Pieces that cover a block and all have a property give it to the block. -/
theorem canon_of {s : Shape} (Q : s.Idx → EReal → Prop) (y : s.Idx) : ∀ L : List (View.Piece (Elt Ideal) s .f32),
    (∃ pc ∈ L, y ∈ pc.1.set) → (∀ p ∈ L, ∀ x, Q (p.1.emb x) (p.2 x)) → Q y (View.canon L y) := by
  intro L
  induction L with
  | nil => rintro ⟨p, hp, _⟩; cases hp
  | cons p L ih =>
    intro hc hQ
    by_cases hy : y ∈ p.1.set
    · obtain ⟨x, rfl⟩ := p.1.exists_idx_of_mem hy
      obtain ⟨r, w⟩ := p
      show Q (r.emb x) (View.canon (⟨r, w⟩ :: L) (r.emb x))
      rw [show View.canon (⟨r, w⟩ :: L) (r.emb x) = w x from View.canon_cons_emb r w L x]
      exact hQ ⟨r, w⟩ List.mem_cons_self x
    · rw [View.canon_cons_of_not_mem p L hy]
      refine ih ?_ fun p' hp' => hQ p' (List.mem_cons_of_mem _ hp')
      obtain ⟨p', hp', hy'⟩ := hc
      rcases List.mem_cons.mp hp' with rfl | h
      · exact absurd hy' hy
      · exact ⟨p', h, hy'⟩

end Cert.KernelIdeal.Val
-- ==== Proof.Trip0.lean ====
module

public import proofs.«01_k».proof.Proof.Pay0
public import proofs.«01_k».proof.Proof.Load
public import proofs.«01_k».proof.Proof.Gen.KernelIdeal.Loops

@[expose] public section

set_option maxRecDepth 16384

noncomputable section

namespace Cert.KernelIdeal.Val

open Idealize.ShloMosaic Idealize.ShloMosaic.TcCoe
open Cert.KernelIdeal Cert.KernelIdeal.Gen Cert.Rwkv

theorem k0_v59_T {v : Memref sig .tc .vmem S128x2048 .f32} {X : v.view.ty.Contents (Elt Ideal)} {k : Fin k0_t1_loop.trips} {f : Mats}
    (hX : LD (v.view.read (Elt Ideal) X) (64 * k.val) f) : T (trip_k0_t1.sl.v59 (F := Ideal) v X k) f :=
  T_rows (read_rows hX 0 (k0_off1_eq k)) (read_rows hX 1 (k0_off2_eq k)) (read_rows hX 2 (k0_off3_eq k)) (read_rows hX 3 (k0_off4_eq k)) (read_rows hX 4 (k0_off5_eq k)) (read_rows hX 5 (k0_off6_eq k)) (read_rows hX 6 (k0_off7_eq k)) (read_rows hX 7 (k0_off8_eq k)) (read_rows hX 8 (k0_off9_eq k)) (read_rows hX 9 (k0_off10_eq k)) (read_rows hX 10 (k0_off11_eq k)) (read_rows hX 11 (k0_off12_eq k)) (read_rows hX 12 (k0_off13_eq k)) (read_rows hX 13 (k0_off14_eq k)) (read_rows hX 14 (k0_off15_eq k)) (read_rows hX 15 (k0_off16_eq k))

theorem k0_v108_T {v : Memref sig .tc .vmem S128x2048 .f32} {X : v.view.ty.Contents (Elt Ideal)} {k : Fin k0_t1_loop.trips} {f : Mats}
    (hX : LD (v.view.read (Elt Ideal) X) (64 * k.val) f) : T (trip_k0_t1.sl.v108 (F := Ideal) v X k) f :=
  k0_v59_T hX

theorem k0_v157_T {v : Memref sig .tc .vmem S128x2048 .f32} {X : v.view.ty.Contents (Elt Ideal)} {k : Fin k0_t1_loop.trips} {f : Mats}
    (hX : LD (v.view.read (Elt Ideal) X) (64 * k.val) f) : T (trip_k0_t1.sl.v157 (F := Ideal) v X k) f :=
  k0_v59_T hX

theorem k0_v206_T {v : Memref sig .tc .vmem S128x2048 .f32} {X : v.view.ty.Contents (Elt Ideal)} {k : Fin k0_t1_loop.trips} {f : Mats}
    (hX : LD (v.view.read (Elt Ideal) X) (64 * k.val) f) : T (trip_k0_t1.sl.v206 (F := Ideal) v X k) f :=
  k0_v59_T hX

theorem k0_v255_T {v : Memref sig .tc .vmem S128x2048 .f32} {X : v.view.ty.Contents (Elt Ideal)} {k : Fin k0_t1_loop.trips} {f : Mats}
    (hX : LD (v.view.read (Elt Ideal) X) (64 * k.val) f) : T (trip_k0_t1.sl.v255 (F := Ideal) v X k) f :=
  k0_v59_T hX

theorem k0_r_71_T {v : Memref sig .tc .vmem S128x2048 .f32} {X : v.view.ty.Contents (Elt Ideal)} {k : Fin k0_t1_loop.trips} {f : Mats}
    (hX : LD (v.view.read (Elt Ideal) X) (64 * k.val) f) : T (trip_k0_t1.sl.r_71 (F := Ideal) v X k) f :=
  k0_v59_T hX

theorem k0_chain {C : Fin 16 → Fin 2 → Chunk} {arg2 : Memref sig .tc .vmem S128x2048 .f32} {X_arg2 : arg2.view.ty.Contents (Elt Ideal)} {arg3 : Memref sig .tc .vmem S128x2048 .f32} {X_arg3 : arg3.view.ty.Contents (Elt Ideal)} {arg4 : Memref sig .tc .vmem S128x2048 .f32} {X_arg4 : arg4.view.ty.Contents (Elt Ideal)} {arg5 : Memref sig .tc .vmem S128x2048 .f32} {X_arg5 : arg5.view.ty.Contents (Elt Ideal)} {arg6 : Memref sig .tc .vmem S128x2048 .f32} {X_arg6 : arg6.view.ty.Contents (Elt Ideal)} {arg7 : Memref sig .tc .vmem S128x2048 .f32} {X_arg7 : arg7.view.ty.Contents (Elt Ideal)} {k : Fin k0_t1_loop.trips} {acc : FVec Ideal S16x128x128 .f32}
    (i2 : LD (arg2.view.read (Elt Ideal) X_arg2) (64 * k.val) (fun g h => (C g h).r))
    (i3 : LD (arg3.view.read (Elt Ideal) X_arg3) (64 * k.val) (fun g h => (C g h).lw))
    (i4 : LD (arg4.view.read (Elt Ideal) X_arg4) (64 * k.val) (fun g h => (C g h).k))
    (i5 : LD (arg5.view.read (Elt Ideal) X_arg5) (64 * k.val) (fun g h => (C g h).v))
    (i6 : LD (arg6.view.read (Elt Ideal) X_arg6) (64 * k.val) (fun g h => (C g h).a))
    (i7 : LD (arg7.view.read (Elt Ideal) X_arg7) (64 * k.val) (fun g h => (C g h).b))
    (hS : S acc (fun g h => (C g h).s)) (hZ : SZ acc) :
    T (trip_k0_t1.sl.r_95 (F := Ideal) arg2 arg3 arg4 arg5 arg6 arg7 X_arg2 X_arg3 X_arg4 X_arg5 X_arg6 X_arg7 k acc) (fun g h => (C g h).y) ∧
    S (trip_k0_t1.sl.r_96 (F := Ideal) arg3 arg4 arg5 arg6 arg7 X_arg3 X_arg4 X_arg5 X_arg6 X_arg7 k acc) (fun g h => (C g h).s') ∧
    SZ (trip_k0_t1.sl.r_96 (F := Ideal) arg3 arg4 arg5 arg6 arg7 X_arg3 X_arg4 X_arg5 X_arg6 X_arg7 k acc) := by
  have hr_72_T : T (trip_k0_t1.sl.r_72 (F := Ideal) arg3 X_arg3 k) (fun g h => (C g h).cum) := k0_pay22_T (k0_v108_T i3)
  have hr_73_T : T (trip_k0_t1.sl.r_73 (F := Ideal) arg3 X_arg3 k) (fun g h => (C g h).lw - (C g h).lw) := k0_pay25_T (k0_v108_T i3)
  have hr_74_S : S (trip_k0_t1.sl.r_74 (F := Ideal) arg3 X_arg3 k) (fun g h => csum (C g h).lw) := k0_pay26_S (k0_v108_T i3)
  have hr_75_S : S (trip_k0_t1.sl.r_75 (F := Ideal) arg3 X_arg3 k) (fun g h => (C g h).tot) := k0_pay27_S k0_pay23_ON hr_73_T hr_74_S
  have hr_76_T : T (trip_k0_t1.sl.r_76 (F := Ideal) arg3 arg7 X_arg3 X_arg7 k) (fun g h => (C g h).bt) := k0_pay30_T (k0_r_71_T i7) hr_72_T
  have hr_77_T : T (trip_k0_t1.sl.r_77 (F := Ideal) arg3 arg4 X_arg3 X_arg4 k) (fun g h => (C g h).kt) := k0_pay31_T (k0_v157_T i4) hr_72_T
  have hr_78_T : T (trip_k0_t1.sl.r_78 (F := Ideal) arg2 arg3 X_arg2 X_arg3 k) (fun g h => (C g h).rt) := k0_pay32_T (k0_v59_T i2) hr_72_T
  have hr_79_B : B (trip_k0_t1.sl.r_79 (F := Ideal) arg3 arg7 X_arg3 X_arg7 k) (fun g h => (C g h).bt) := k0_pay34_B (k0_r_71_T i7) hr_72_T
  have hr_80_B : B (trip_k0_t1.sl.r_80 (F := Ideal) arg3 arg4 X_arg3 X_arg4 k) (fun g h => (C g h).kt) := k0_pay35_B (k0_v157_T i4) hr_72_T
  have hr_81_B : B (trip_k0_t1.sl.r_81 (F := Ideal) arg5 X_arg5 k) (fun g h => (C g h).v) := k0_pay36_B (k0_v206_T i5)
  have hr_82_B : B (trip_k0_t1.sl.r_82 (F := Ideal) arg3 arg6 X_arg3 X_arg6 k) (fun g h => (C g h).at') := k0_pay37_B (k0_v108_T i3) (k0_v255_T i6) hr_72_T
  have hr_82_BZ : BZ (trip_k0_t1.sl.r_82 (F := Ideal) arg3 arg6 X_arg3 X_arg6 k) := k0_pay37_BZ (k0_v108_T i3) (k0_v255_T i6) hr_72_T
  have hr_83_B : B (trip_k0_t1.sl.r_83 (F := Ideal) arg2 arg3 X_arg2 X_arg3 k) (fun g h => (C g h).rt) := k0_pay38_B (k0_v59_T i2) hr_72_T
  have hr_83_BZ : BZ (trip_k0_t1.sl.r_83 (F := Ideal) arg2 arg3 X_arg2 X_arg3 k) := k0_pay38_BZ (k0_v59_T i2) hr_72_T
  have hr_84_T : T (trip_k0_t1.sl.r_84 (F := Ideal) arg3 arg6 X_arg3 X_arg6 k acc) (fun g h => (C g h).base) := k0_pay39_T hS hZ (k0_v108_T i3) (k0_v255_T i6) hr_72_T
  have hr_85_M : M (trip_k0_t1.sl.r_85 (F := Ideal) arg3 arg6 arg7 X_arg3 X_arg6 X_arg7 k) (fun g h => (C g h).ab) := k0_pay40_M (k0_v108_T i3) (k0_v255_T i6) (k0_r_71_T i7) hr_72_T
  have hr_86_M : M (trip_k0_t1.sl.r_86 (F := Ideal) arg3 arg4 arg6 X_arg3 X_arg4 X_arg6 k) (fun g h => (C g h).Aak) := k0_pay43_M k0_pay21_MS hr_80_B hr_82_B hr_82_BZ
  have hr_87_M : M (trip_k0_t1.sl.r_87 (F := Ideal) arg2 arg3 arg7 X_arg2 X_arg3 X_arg7 k) (fun g h => (C g h).Arb) := k0_pay44_M k0_pay20_MI hr_79_B hr_83_B hr_83_BZ
  have hr_88_M : M (trip_k0_t1.sl.r_88 (F := Ideal) arg2 arg3 arg4 X_arg2 X_arg3 X_arg4 k) (fun g h => (C g h).Ark) := k0_pay45_M k0_pay20_MI hr_80_B hr_83_B hr_83_BZ
  have hr_89_M : M (trip_k0_t1.sl.r_89 (F := Ideal) arg3 arg6 arg7 X_arg3 X_arg6 X_arg7 k) (fun g h => (C g h).p2) := k0_pay48_M hr_85_M (k0_pay41_MS3 k0_pay21_MS)
  have hr_90_M : M (trip_k0_t1.sl.r_90 (F := Ideal) arg3 arg6 arg7 X_arg3 X_arg6 X_arg7 k) (fun g h => (C g h).q3) := k0_pay49_M hr_85_M (k0_pay41_MS3 k0_pay21_MS)
  have hr_91_M : M (trip_k0_t1.sl.r_91 (F := Ideal) arg3 arg6 arg7 X_arg3 X_arg6 X_arg7 k) (fun g h => (C g h).p2) := k0_pay50_M hr_85_M (k0_pay41_MS3 k0_pay21_MS)
  have hr_92_T : T (trip_k0_t1.sl.r_92 (F := Ideal) arg3 arg4 arg5 arg6 arg7 X_arg3 X_arg4 X_arg5 X_arg6 X_arg7 k acc) (fun g h => (C g h).u) := k0_pay51_T k0_pay33_HM hr_81_B hr_84_T hr_86_M hr_89_M hr_90_M hr_91_M
  have hr_93_T : T (trip_k0_t1.sl.r_93 (F := Ideal) arg2 arg3 X_arg2 X_arg3 k acc) (fun g h => (C g h).rs) := k0_pay52_T hS hZ hr_78_T
  have hr_94_D : D (trip_k0_t1.sl.r_94 (F := Ideal) arg2 arg3 arg4 arg5 arg6 arg7 X_arg2 X_arg3 X_arg4 X_arg5 X_arg6 X_arg7 k acc) (fun g h => (C g h).inner) := k0_pay53_D k0_pay33_HM hr_81_B hr_84_T hr_86_M hr_87_M hr_88_M hr_89_M hr_90_M hr_91_M
  have hr_95_T : T (trip_k0_t1.sl.r_95 (F := Ideal) arg2 arg3 arg4 arg5 arg6 arg7 X_arg2 X_arg3 X_arg4 X_arg5 X_arg6 X_arg7 k acc) (fun g h => (C g h).y) := k0_pay54_T hr_93_T hr_94_D
  have hr_96_S : S (trip_k0_t1.sl.r_96 (F := Ideal) arg3 arg4 arg5 arg6 arg7 X_arg3 X_arg4 X_arg5 X_arg6 X_arg7 k acc) (fun g h => (C g h).s') := k0_pay55_S hS hZ (k0_v206_T i5) hr_75_S hr_76_T hr_77_T hr_92_T
  have hr_96_SZ : SZ (trip_k0_t1.sl.r_96 (F := Ideal) arg3 arg4 arg5 arg6 arg7 X_arg3 X_arg4 X_arg5 X_arg6 X_arg7 k acc) := k0_pay55_SZ hS hZ (k0_v206_T i5) hr_75_S hr_76_T hr_77_T hr_92_T
  exact ⟨hr_95_T, hr_96_S, hr_96_SZ⟩

/-- One trip of the forward loop, on a chunk of every head: the state after, and the rows and states written. -/
theorem k0_trip {C : Fin 16 → Fin 2 → Chunk} {𝒱 : Variants} {c : Dev nD} {bd : Option 𝒱.V} {i : grid0.Coords} {arg2 : Memref sig .tc .vmem S128x2048 .f32} {harg2 : arg2.IsWhole} {arg3 : Memref sig .tc .vmem S128x2048 .f32} {harg3 : arg3.IsWhole} {arg4 : Memref sig .tc .vmem S128x2048 .f32} {harg4 : arg4.IsWhole} {arg5 : Memref sig .tc .vmem S128x2048 .f32} {harg5 : arg5.IsWhole} {arg6 : Memref sig .tc .vmem S128x2048 .f32} {harg6 : arg6.IsWhole} {arg7 : Memref sig .tc .vmem S128x2048 .f32} {harg7 : arg7.IsWhole} {arg8 : Memref sig .tc .vmem S128x2048 .f32} {harg8 : arg8.IsWhole} {arg9 : Memref sig .tc .vmem S16x2x128x128 .f32} {harg9 : arg9.IsWhole} {arg10 : Memref sig .tc .vmem S16x128x128 .f32} {harg10 : arg10.IsWhole}
    {X_arg2 : arg2.view.ty.Contents (Elt Ideal)} {X_arg3 : arg3.view.ty.Contents (Elt Ideal)} {X_arg4 : arg4.view.ty.Contents (Elt Ideal)} {X_arg5 : arg5.view.ty.Contents (Elt Ideal)} {X_arg6 : arg6.view.ty.Contents (Elt Ideal)} {X_arg7 : arg7.view.ty.Contents (Elt Ideal)} {k : Fin k0_t1_loop.trips} {acc : FVec Ideal S16x128x128 .f32}
    (i2 : LD (arg2.view.read (Elt Ideal) X_arg2) (64 * k.val) (fun g h => (C g h).r))
    (i3 : LD (arg3.view.read (Elt Ideal) X_arg3) (64 * k.val) (fun g h => (C g h).lw))
    (i4 : LD (arg4.view.read (Elt Ideal) X_arg4) (64 * k.val) (fun g h => (C g h).k))
    (i5 : LD (arg5.view.read (Elt Ideal) X_arg5) (64 * k.val) (fun g h => (C g h).v))
    (i6 : LD (arg6.view.read (Elt Ideal) X_arg6) (64 * k.val) (fun g h => (C g h).a))
    (i7 : LD (arg7.view.read (Elt Ideal) X_arg7) (64 * k.val) (fun g h => (C g h).b))
    (hS : S acc (fun g h => (C g h).s)) (hZ : SZ acc) {φ : ℕ → ℕ → ℝ} {σ : ℕ → Mats}
    (hφ : ∀ g h t i, (C g h).y t i = φ (64 * k.val + t.val) (128 * g.val + 64 * h.val + i.val))
    (hσ : (fun g h => (C g h).s) = σ k.val) :
    S ((trip_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 k).1 acc) (fun g h => (C g h).s') ∧ SZ ((trip_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 k).1 acc) ∧
    (∀ p ∈ (trip_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 k).2.1 acc, Rows φ p) ∧ (∀ p ∈ (trip_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 k).2.2.1 acc, Slabs σ p) := by
  have hk : k.val < 2 := Nat.lt_of_lt_of_le k.isLt k0_t1_abs.2.1
  obtain ⟨hy, hs, hsZ⟩ := k0_chain i2 i3 i4 i5 i6 i7 hS hZ
  unfold trip_k0_t1
  refine ⟨hs, hsZ, ?_, ?_⟩
  · exact List.forall_mem_cons.mpr ⟨Rows_of (n := 64 * k.val) (hs := slices_S16x64x128_o15_0_0_S1x64x128) hy hφ 15 (k0_off16_eq k), List.forall_mem_cons.mpr ⟨Rows_of (n := 64 * k.val) (hs := slices_S16x64x128_o14_0_0_S1x64x128) hy hφ 14 (k0_off15_eq k), List.forall_mem_cons.mpr ⟨Rows_of (n := 64 * k.val) (hs := slices_S16x64x128_o13_0_0_S1x64x128) hy hφ 13 (k0_off14_eq k), List.forall_mem_cons.mpr ⟨Rows_of (n := 64 * k.val) (hs := slices_S16x64x128_o12_0_0_S1x64x128) hy hφ 12 (k0_off13_eq k), List.forall_mem_cons.mpr ⟨Rows_of (n := 64 * k.val) (hs := slices_S16x64x128_o11_0_0_S1x64x128) hy hφ 11 (k0_off12_eq k), List.forall_mem_cons.mpr ⟨Rows_of (n := 64 * k.val) (hs := slices_S16x64x128_o10_0_0_S1x64x128) hy hφ 10 (k0_off11_eq k), List.forall_mem_cons.mpr ⟨Rows_of (n := 64 * k.val) (hs := slices_S16x64x128_o9_0_0_S1x64x128) hy hφ 9 (k0_off10_eq k), List.forall_mem_cons.mpr ⟨Rows_of (n := 64 * k.val) (hs := slices_S16x64x128_o8_0_0_S1x64x128) hy hφ 8 (k0_off9_eq k), List.forall_mem_cons.mpr ⟨Rows_of (n := 64 * k.val) (hs := slices_S16x64x128_o7_0_0_S1x64x128) hy hφ 7 (k0_off8_eq k), List.forall_mem_cons.mpr ⟨Rows_of (n := 64 * k.val) (hs := slices_S16x64x128_o6_0_0_S1x64x128) hy hφ 6 (k0_off7_eq k), List.forall_mem_cons.mpr ⟨Rows_of (n := 64 * k.val) (hs := slices_S16x64x128_o5_0_0_S1x64x128) hy hφ 5 (k0_off6_eq k), List.forall_mem_cons.mpr ⟨Rows_of (n := 64 * k.val) (hs := slices_S16x64x128_o4_0_0_S1x64x128) hy hφ 4 (k0_off5_eq k), List.forall_mem_cons.mpr ⟨Rows_of (n := 64 * k.val) (hs := slices_S16x64x128_o3_0_0_S1x64x128) hy hφ 3 (k0_off4_eq k), List.forall_mem_cons.mpr ⟨Rows_of (n := 64 * k.val) (hs := slices_S16x64x128_o2_0_0_S1x64x128) hy hφ 2 (k0_off3_eq k), List.forall_mem_cons.mpr ⟨Rows_of (n := 64 * k.val) (hs := slices_S16x64x128_o1_0_0_S1x64x128) hy hφ 1 (k0_off2_eq k), List.forall_mem_cons.mpr ⟨Rows_of (n := 64 * k.val) (hs := slices_S16x64x128_o0_0_0_S1x64x128) hy hφ 0 (k0_off1_eq k), List.forall_mem_nil _⟩⟩⟩⟩⟩⟩⟩⟩⟩⟩⟩⟩⟩⟩⟩⟩
  · exact List.forall_mem_cons.mpr ⟨Slabs_of (n := k.val) (hs := slices_S16x128x128_o15_0_0_S1x128x128) hS hZ hσ 15 hk (k0_off32_eq k), List.forall_mem_cons.mpr ⟨Slabs_of (n := k.val) (hs := slices_S16x128x128_o14_0_0_S1x128x128) hS hZ hσ 14 hk (k0_off31_eq k), List.forall_mem_cons.mpr ⟨Slabs_of (n := k.val) (hs := slices_S16x128x128_o13_0_0_S1x128x128) hS hZ hσ 13 hk (k0_off30_eq k), List.forall_mem_cons.mpr ⟨Slabs_of (n := k.val) (hs := slices_S16x128x128_o12_0_0_S1x128x128) hS hZ hσ 12 hk (k0_off29_eq k), List.forall_mem_cons.mpr ⟨Slabs_of (n := k.val) (hs := slices_S16x128x128_o11_0_0_S1x128x128) hS hZ hσ 11 hk (k0_off28_eq k), List.forall_mem_cons.mpr ⟨Slabs_of (n := k.val) (hs := slices_S16x128x128_o10_0_0_S1x128x128) hS hZ hσ 10 hk (k0_off27_eq k), List.forall_mem_cons.mpr ⟨Slabs_of (n := k.val) (hs := slices_S16x128x128_o9_0_0_S1x128x128) hS hZ hσ 9 hk (k0_off26_eq k), List.forall_mem_cons.mpr ⟨Slabs_of (n := k.val) (hs := slices_S16x128x128_o8_0_0_S1x128x128) hS hZ hσ 8 hk (k0_off25_eq k), List.forall_mem_cons.mpr ⟨Slabs_of (n := k.val) (hs := slices_S16x128x128_o7_0_0_S1x128x128) hS hZ hσ 7 hk (k0_off24_eq k), List.forall_mem_cons.mpr ⟨Slabs_of (n := k.val) (hs := slices_S16x128x128_o6_0_0_S1x128x128) hS hZ hσ 6 hk (k0_off23_eq k), List.forall_mem_cons.mpr ⟨Slabs_of (n := k.val) (hs := slices_S16x128x128_o5_0_0_S1x128x128) hS hZ hσ 5 hk (k0_off22_eq k), List.forall_mem_cons.mpr ⟨Slabs_of (n := k.val) (hs := slices_S16x128x128_o4_0_0_S1x128x128) hS hZ hσ 4 hk (k0_off21_eq k), List.forall_mem_cons.mpr ⟨Slabs_of (n := k.val) (hs := slices_S16x128x128_o3_0_0_S1x128x128) hS hZ hσ 3 hk (k0_off20_eq k), List.forall_mem_cons.mpr ⟨Slabs_of (n := k.val) (hs := slices_S16x128x128_o2_0_0_S1x128x128) hS hZ hσ 2 hk (k0_off19_eq k), List.forall_mem_cons.mpr ⟨Slabs_of (n := k.val) (hs := slices_S16x128x128_o1_0_0_S1x128x128) hS hZ hσ 1 hk (k0_off18_eq k), List.forall_mem_cons.mpr ⟨Slabs_of (n := k.val) (hs := slices_S16x128x128_o0_0_0_S1x128x128) hS hZ hσ 0 hk (k0_off17_eq k), List.forall_mem_nil _⟩⟩⟩⟩⟩⟩⟩⟩⟩⟩⟩⟩⟩⟩⟩⟩

end Cert.KernelIdeal.Val
-- ==== Proof.Inv.lean ====
module

public import proofs.«01_k».proof.Proof.Chunk
public import Mathlib.LinearAlgebra.Matrix.Trace
public import Mathlib.LinearAlgebra.Matrix.NonsingularInverse
public import Mathlib.Tactic.NoncommRing

@[expose] public section

noncomputable section

namespace Cert.Rwkv

/-- Zero above the `n`-th diagonal below the main one. -/
def Fil (n : ℕ) (X : Mat) : Prop := ∀ i j : Fin 64, i.val < j.val + n → X i j = 0

theorem Fil.mul {m n : ℕ} {X Y : Mat} (hX : Fil m X) (hY : Fil n Y) : Fil (m + n) (X * Y) := fun i j h => by
  rw [Matrix.mul_apply]
  refine Finset.sum_eq_zero fun k _ => ?_
  by_cases e : i.val < k.val + m
  · rw [hX i k e, zero_mul]
  · rw [hY k j (by omega), mul_zero]

theorem Fil.add {n : ℕ} {X Y : Mat} (hX : Fil n X) (hY : Fil n Y) : Fil n (X + Y) := fun i j h => by
  rw [Matrix.add_apply, hX i j h, hY i j h, add_zero]

theorem Fil.eq_zero {X : Mat} (hX : Fil 64 X) : X = 0 := by
  ext i j
  exact hX i j (by omega)

theorem Fil_lowS (x : Mat) : Fil 1 (lowS x) := fun i j h => by
  unfold lowS
  rw [if_neg]
  simp only [Fin.lt_def]
  omega

theorem eye_eq : eye = 1 := by
  ext i j
  simp [eye, Matrix.one_apply]

/-- One doubling step of the inverse. -/
theorem inv_step {A p q : Mat} (h : (1 - A) * p = 1 - q) : (1 - A) * (p + p * q) = 1 - q * q := by
  have e : (1 - A) * (p + p * q) = ((1 - A) * p) * (1 + q) := by noncomm_ring
  rw [e, h]
  noncomm_ring

/-- One doubling step of the inverse's tangent. -/
theorem tan_step {A E p q p' q' : Mat} (h : (1 - A) * p = 1 - q) (h' : (1 - A) * p' - E * p = -q') :
    (1 - A) * (p' + p' * q + p * q') - E * (p + p * q) = -(q' * q + q * q') := by
  have e : (1 - A) * (p' + p' * q + p * q') - E * (p + p * q) = ((1 - A) * p' - E * p) * (1 + q) + ((1 - A) * p) * q' := by noncomm_ring
  rw [e, h, h']
  noncomm_ring

/-- The pairing of two matrices. -/
def ip (X Y : Mat) : ℝ := Matrix.trace (X.transpose * Y)

theorem ip_add_left (X X' Y : Mat) : ip (X + X') Y = ip X Y + ip X' Y := by
  simp [ip, Matrix.add_mul]
theorem ip_add_right (X Y Y' : Mat) : ip X (Y + Y') = ip X Y + ip X Y' := by
  simp [ip, Matrix.mul_add]
theorem ip_mul_left (X Y Z : Mat) : ip X (Y * Z) = ip (Y.transpose * X) Z := by
  simp [ip, Matrix.mul_assoc]
theorem ip_mul_right (X Y Z : Mat) : ip X (Y * Z) = ip (X * Z.transpose) Y := by
  unfold ip
  rw [Matrix.transpose_mul, Matrix.transpose_transpose, ← Matrix.mul_assoc, Matrix.trace_mul_comm, Matrix.mul_assoc]

/-- One step back through the doubling. -/
theorem adj_step (dp dq p q p' q' : Mat) :
    ip dp (p' + p' * q + p * q') + ip dq (q' * q + q * q')
      = ip (dp + dp * q.transpose) p' + ip (dq * q.transpose + q.transpose * dq + p.transpose * dp) q' := by
  simp only [ip_add_right, ip_add_left]
  rw [ip_mul_right dp p' q, ip_mul_left dp p q', ip_mul_right dq q' q, ip_mul_left dq q q']
  ring

theorem ip_single (X : Mat) (s t : Fin 64) : ip X (Matrix.single s t 1) = X s t := by
  unfold ip
  rw [Matrix.trace]
  simp only [Matrix.mul_apply, Matrix.diag, Matrix.single_apply, Matrix.transpose_apply, mul_ite, mul_one, mul_zero]
  rw [Finset.sum_eq_single t, Finset.sum_eq_single s]
  · rw [if_pos ⟨rfl, rfl⟩]
  · exact fun j _ hj => if_neg fun e => hj e.1.symm
  · exact fun h => absurd (Finset.mem_univ s) h
  · exact fun i _ hi => Finset.sum_eq_zero fun j _ => if_neg fun e => hi e.2.symm
  · exact fun h => absurd (Finset.mem_univ t) h

namespace Chunk

variable (c : Chunk)

theorem q_fil : Fil 1 c.Aab ∧ Fil 2 c.q1 ∧ Fil 4 c.q2 ∧ Fil 8 c.q3 ∧ Fil 16 c.q4 ∧ Fil 32 c.q5 := by
  have h0 : Fil 1 c.Aab := Fil_lowS _
  have h1 : Fil 2 c.q1 := h0.mul h0
  have h2 : Fil 4 c.q2 := h1.mul h1
  have h3 : Fil 8 c.q3 := h2.mul h2
  have h4 : Fil 16 c.q4 := h3.mul h3
  exact ⟨h0, h1, h2, h3, h4, h4.mul h4⟩

theorem p_inv : (1 - c.Aab) * c.p0 = 1 - c.q1 ∧ (1 - c.Aab) * c.p1 = 1 - c.q2 ∧ (1 - c.Aab) * c.p2 = 1 - c.q3
    ∧ (1 - c.Aab) * c.p3 = 1 - c.q4 ∧ (1 - c.Aab) * c.p4 = 1 - c.q5 ∧ (1 - c.Aab) * c.p5 = 1 := by
  have h0 : (1 - c.Aab) * c.p0 = 1 - c.q1 := by
    unfold p0 q1
    rw [eye_eq]
    noncomm_ring
  have h1 : (1 - c.Aab) * c.p1 = 1 - c.q2 := inv_step h0
  have h2 : (1 - c.Aab) * c.p2 = 1 - c.q3 := inv_step h1
  have h3 : (1 - c.Aab) * c.p3 = 1 - c.q4 := inv_step h2
  have h4 : (1 - c.Aab) * c.p4 = 1 - c.q5 := inv_step h3
  have h5 : (1 - c.Aab) * c.p5 = 1 - c.q5 * c.q5 := inv_step h4
  have z : c.q5 * c.q5 = 0 := (c.q_fil.2.2.2.2.2.mul c.q_fil.2.2.2.2.2).eq_zero
  rw [z, sub_zero] at h5
  exact ⟨h0, h1, h2, h3, h4, h5⟩

theorem inv_left : (1 - c.Aab) * c.p5 = 1 := c.p_inv.2.2.2.2.2
theorem inv_right : c.p5 * (1 - c.Aab) = 1 := mul_eq_one_comm.mp c.inv_left

/-- The doubling's gradient pairs with a tangent below the diagonal as the gradient of the inverse does. -/
theorem dA_pair (E : Mat) (hE : Fil 1 E) : ip c.dA E = ip c.dT (c.p5 * E * c.p5) := by
  obtain ⟨f0, f1, f2, f3, f4, f5⟩ := c.q_fil
  obtain ⟨i0, i1, i2, i3, i4, i5⟩ := c.p_inv
  let q1' : Mat := E * c.Aab + c.Aab * E
  let p1' : Mat := E + E * c.q1 + c.p0 * q1'
  let q2' : Mat := q1' * c.q1 + c.q1 * q1'
  let p2' : Mat := p1' + p1' * c.q2 + c.p1 * q2'
  let q3' : Mat := q2' * c.q2 + c.q2 * q2'
  let p3' : Mat := p2' + p2' * c.q3 + c.p2 * q3'
  let q4' : Mat := q3' * c.q3 + c.q3 * q3'
  let p4' : Mat := p3' + p3' * c.q4 + c.p3 * q4'
  let q5' : Mat := q4' * c.q4 + c.q4 * q4'
  let p5' : Mat := p4' + p4' * c.q5 + c.p4 * q5'
  let q6' : Mat := q5' * c.q5 + c.q5 * q5'
  have g1 : Fil 2 q1' := (hE.mul f0).add (f0.mul hE)
  have g2 : Fil 4 q2' := (g1.mul f1).add (f1.mul g1)
  have g3 : Fil 8 q3' := (g2.mul f2).add (f2.mul g2)
  have g4 : Fil 16 q4' := (g3.mul f3).add (f3.mul g3)
  have g5 : Fil 32 q5' := (g4.mul f4).add (f4.mul g4)
  have g6 : q6' = 0 := Fil.eq_zero ((g5.mul f5).add (f5.mul g5))
  have t0 : (1 - c.Aab) * E - E * c.p0 = -q1' := by
    show (1 - c.Aab) * E - E * (eye + c.Aab) = -(E * c.Aab + c.Aab * E)
    rw [eye_eq]
    noncomm_ring
  have t1 : (1 - c.Aab) * p1' - E * c.p1 = -q2' := tan_step i0 t0
  have t2 : (1 - c.Aab) * p2' - E * c.p2 = -q3' := tan_step i1 t1
  have t3 : (1 - c.Aab) * p3' - E * c.p3 = -q4' := tan_step i2 t2
  have t4 : (1 - c.Aab) * p4' - E * c.p4 = -q5' := tan_step i3 t3
  have t5 : (1 - c.Aab) * p5' - E * c.p5 = -q6' := tan_step i4 t4
  rw [g6, neg_zero, sub_eq_zero] at t5
  have e5 : p5' = c.p5 * E * c.p5 := by
    rw [Matrix.mul_assoc, ← t5, ← Matrix.mul_assoc, c.inv_right, Matrix.one_mul]
  rw [← e5]
  have a5 := adj_step c.dT 0 c.p4 c.q5 p4' q5'
  have z0 : ip (0 : Mat) (q5' * c.q5 + c.q5 * q5') = 0 := by simp [ip]
  have z1 : (0 : Mat) * c.q5.transpose + c.q5.transpose * 0 + c.p4.transpose * c.dT = c.dq5 := by
    rw [Matrix.zero_mul, Matrix.mul_zero, zero_add, zero_add]; rfl
  rw [z0, z1, add_zero] at a5
  have a4 := adj_step c.dp4 c.dq5 c.p3 c.q4 p3' q4'
  have a3 := adj_step c.dp3 c.dq4 c.p2 c.q3 p2' q3'
  have a2 := adj_step c.dp2 c.dq3 c.p1 c.q2 p1' q2'
  have a1 := adj_step c.dp1 c.dq2 c.p0 c.q1 E q1'
  have a0 : ip c.dp0 E + ip c.dq1 q1' = ip c.dA E := by
    show _ + ip c.dq1 (E * c.Aab + c.Aab * E) = ip (c.dp0 + c.dq1 * c.Aab.transpose + c.Aab.transpose * c.dq1) E
    simp only [ip_add_right, ip_add_left]
    rw [ip_mul_right c.dq1 E, ip_mul_left c.dq1 c.Aab]
    ring
  calc ip c.dA E = ip c.dp0 E + ip c.dq1 q1' := a0.symm
    _ = ip c.dp1 p1' + ip c.dq2 q2' := a1.symm
    _ = ip c.dp2 p2' + ip c.dq3 q3' := a2.symm
    _ = ip c.dp3 p3' + ip c.dq4 q4' := a3.symm
    _ = ip c.dp4 p4' + ip c.dq5 q5' := a4.symm
    _ = ip c.dT p5' := a5.symm

/-- Below the diagonal the doubling's gradient is the product of the backward rows and the solved rows. -/
theorem dAab_eq : c.dAab = lowS (c.dZ * c.u.transpose) := by
  ext s t
  show lowS c.dA s t = _
  unfold lowS
  split
  case isTrue h =>
    have hE : Fil 1 (Matrix.single s t (1 : ℝ)) := fun i j hij => by
      rw [Matrix.single_apply, if_neg]
      rintro ⟨rfl, rfl⟩
      simp only [Fin.lt_def] at h
      omega
    have e := c.dA_pair _ hE
    rw [ip_single, ip_mul_right, ip_mul_left, ip_single] at e
    rw [e]
    show _ = ((c.p5.transpose * c.du) * (c.p5 * c.Z).transpose) s t
    unfold dT
    rw [Matrix.transpose_mul]
    simp only [Matrix.mul_assoc]
  case isFalse h => rfl

end Chunk

end Cert.Rwkv

end
-- ==== Proof.Seq.lean ====
module

public import proofs.«01_k».proof.Proof.Inv
public import Mathlib.Tactic.Ring
public import Mathlib.Tactic.LinearCombination

@[expose] public section

noncomputable section

namespace Cert.Rwkv

/-- A row of one head. -/
abbrev Row := Fin 64 → ℝ

/-- The state times a row. -/
def app (S : Mat) (x : Row) : Row := fun i => ∑ j, S i j * x j
/-- A row times the state. -/
def appT (S : Mat) (x : Row) : Row := fun j => ∑ i, S i j * x i
/-- One step of the recurrence. -/
def stepS (lw k v a b : Row) (S : Mat) : Mat :=
  fun i j => S i j * Real.exp (lw j) + app S a i * b j + v i * k j
/-- What comes back to the state after a step. -/
def backH (dy r : Row) (G : Mat) : Mat := fun i j => G i j + dy i * r j
/-- What comes back to the state before a step. -/
def backG (lw a b : Row) (H : Mat) : Mat := fun i j => H i j * Real.exp (lw j) + app H b i * a j

/-- A sum of masked products taken with a row over the columns. -/
theorem contract (s : Fin 64 → Fin 64 → ℝ) (m n : Fin 64 → Prop) [DecidablePred m] [DecidablePred n] (u x v y : Fin 64 → Fin 64 → ℝ) (w : Row) (i : Fin 64) :
    ∑ j, (s i j + (∑ t, if m t then u t i * x t j else 0) + ∑ t, if n t then v t i * y t j else 0) * w j
      = ∑ j, s i j * w j + (∑ t, (if m t then ∑ j, x t j * w j else 0) * u t i) + ∑ t, (if n t then ∑ j, y t j * w j else 0) * v t i := by
  have aux : ∀ (m : Fin 64 → Prop) [DecidablePred m] (u x : Fin 64 → Fin 64 → ℝ),
      ∑ j, (∑ t, if m t then u t i * x t j else 0) * w j = ∑ t, (if m t then ∑ j, x t j * w j else 0) * u t i := by
    intro m _ u x
    simp only [Finset.sum_mul]
    rw [Finset.sum_comm]
    refine Finset.sum_congr rfl fun t _ => ?_
    split
    · rw [Finset.sum_mul]
      exact Finset.sum_congr rfl fun j _ => by ring
    · simp
  simp only [add_mul, Finset.sum_add_distrib]
  rw [aux m u x, aux n v y]

/-- A sum of masked products taken with a row over the rows. -/
theorem contractT (s : Fin 64 → Fin 64 → ℝ) (m n : Fin 64 → Prop) [DecidablePred m] [DecidablePred n] (u x v y : Fin 64 → Fin 64 → ℝ) (w : Row) (j : Fin 64) :
    ∑ i, (s i j + (∑ t, if m t then u t i * x t j else 0) + ∑ t, if n t then v t i * y t j else 0) * w i
      = ∑ i, s i j * w i + (∑ t, (if m t then ∑ i, u t i * w i else 0) * x t j) + ∑ t, (if n t then ∑ i, v t i * w i else 0) * y t j := by
  have h := contract (fun a b => s b a) m n x u y v w j
  simp only [mul_comm (x _ _) (u _ _), mul_comm (y _ _) (v _ _)] at h
  exact h

theorem sum_lt_zero (f : Fin 64 → ℝ) : (∑ t : Fin 64, if t.val < 0 then f t else 0) = 0 := by simp
theorem sum_lt_all (f : Fin 64 → ℝ) : (∑ t : Fin 64, if t.val < 64 then f t else 0) = ∑ t, f t :=
  Finset.sum_congr rfl fun t _ => if_pos t.isLt
theorem sum_lt_succ (f : Fin 64 → ℝ) (t : Fin 64) :
    (∑ s : Fin 64, if s.val < t.val + 1 then f s else 0) = (∑ s : Fin 64, if s.val < t.val then f s else 0) + f t := by
  have e : ∀ s : Fin 64, (if s.val < t.val + 1 then f s else 0) = (if s.val < t.val then f s else 0) + (if s = t then f s else 0) := by
    intro s
    by_cases h : s.val < t.val
    · rw [if_pos (by omega), if_pos h, if_neg (by rintro rfl; omega), add_zero]
    · by_cases h' : s = t
      · subst h'
        rw [if_pos (by omega), if_neg h, if_pos rfl, zero_add]
      · rw [if_neg (fun q => h' (Fin.ext (by omega))), if_neg h, if_neg h', add_zero]
  simp only [e, Finset.sum_add_distrib, Finset.sum_ite_eq', Finset.mem_univ, if_true]
theorem sum_ge_all (f : Fin 64 → ℝ) : (∑ t : Fin 64, if 0 ≤ t.val then f t else 0) = ∑ t, f t :=
  Finset.sum_congr rfl fun t _ => if_pos (Nat.zero_le _)
theorem sum_ge_zero (f : Fin 64 → ℝ) : (∑ t : Fin 64, if 64 ≤ t.val then f t else 0) = 0 :=
  Finset.sum_eq_zero fun t _ => if_neg (by omega)
theorem sum_ge_succ (f : Fin 64 → ℝ) (t : Fin 64) :
    (∑ s : Fin 64, if t.val ≤ s.val then f s else 0) = (∑ s : Fin 64, if t.val + 1 ≤ s.val then f s else 0) + f t := by
  have e : ∀ s : Fin 64, (if t.val ≤ s.val then f s else 0) = (if t.val + 1 ≤ s.val then f s else 0) + (if s = t then f s else 0) := by
    intro s
    by_cases h : t.val + 1 ≤ s.val
    · rw [if_pos (by omega), if_pos h, if_neg (by rintro rfl; omega), add_zero]
    · by_cases h' : s = t
      · subst h'
        rw [if_pos (by omega), if_neg h, if_pos rfl, zero_add]
      · rw [if_neg (fun q => h' (Fin.ext (by omega))), if_neg h, if_neg h', add_zero]
  simp only [e, Finset.sum_add_distrib, Finset.sum_ite_eq', Finset.mem_univ, if_true]

namespace Chunk

variable (c : Chunk)

/-- The log decays before row `n`. -/
def L (n : ℕ) : Row := fun j => ∑ t : Fin 64, if t.val < n then c.lw t j else 0
/-- The decay before row `n`. -/
def E (n : ℕ) : Row := fun j => Real.exp (c.L n j)
/-- The state before row `n` without its decay. -/
def Sc (n : ℕ) : Mat := fun i j => c.s i j + (∑ t : Fin 64, if t.val < n then c.u t i * c.bt t j else 0)
  + ∑ t : Fin 64, if t.val < n then c.v t i * c.kt t j else 0
/-- What comes back to the state, with its decay: rows from `n` on of the output and from `m` on of the solved rows. -/
def Gc (n m : ℕ) : Mat := fun i j => c.dM i j + (∑ t : Fin 64, if n ≤ t.val then c.dy t i * c.rt t j else 0)
  + ∑ t : Fin 64, if m ≤ t.val then c.dZ t i * c.at' t j else 0

theorem csum_zero : csum 0 = 0 := by
  ext i j
  exact Finset.sum_const_zero

theorem E_zero (j : Fin 64) : c.E 0 j = 1 := by
  unfold E L
  rw [sum_lt_zero, Real.exp_zero]
theorem E_succ (t : Fin 64) (j : Fin 64) : c.E (t.val + 1) j = c.E t.val j * Real.exp (c.lw t j) := by
  unfold E L
  rw [sum_lt_succ (fun t => c.lw t j), Real.exp_add]

theorem cum_eq (t j : Fin 64) : c.cum t j = c.L (t.val + 1) j := by
  unfold cum L
  rw [sub_self, Matrix.mul_zero, add_zero, Matrix.mul_apply]
  refine Finset.sum_congr rfl fun s _ => ?_
  show (if s ≤ t then (1 : ℝ) else 0) * _ = _
  by_cases h : s ≤ t
  · rw [if_pos h, if_pos (by have := Fin.le_def.mp h; omega), one_mul]
  · rw [if_neg h, if_neg (fun q => h (Fin.le_def.mpr (by omega))), zero_mul]
theorem ec_eq (t j : Fin 64) : c.ec t j = c.E (t.val + 1) j := by
  unfold ec expM E
  rw [cum_eq]
theorem ep_eq (t j : Fin 64) : c.ep t j = c.E t.val j := by
  unfold ep expM E
  rw [Matrix.sub_apply, cum_eq]
  unfold L
  rw [sum_lt_succ (fun t => c.lw t j), add_sub_cancel_right]
theorem en_eq (t j : Fin 64) : c.en t j * c.E (t.val + 1) j = 1 := by
  unfold en expM E
  rw [Matrix.sub_apply, Matrix.zero_apply, cum_eq, ← Real.exp_add, zero_sub, neg_add_cancel, Real.exp_zero]
theorem et_eq (i j : Fin 64) : c.et i j = c.E 64 j := by
  unfold et expM E tot L
  rw [sub_self, csum_zero, add_zero, sum_lt_all (fun t => c.lw t j)]
  rfl

theorem at_eq (t j : Fin 64) : c.at' t j = c.a t j * c.E t.val j := by
  rw [← ep_eq]; rfl
theorem rt_eq (t j : Fin 64) : c.rt t j = c.r t j * c.E (t.val + 1) j := by
  rw [← ec_eq]; rfl
theorem bt_eq (t j : Fin 64) : c.bt t j * c.E (t.val + 1) j = c.b t j := by
  show c.b t j * c.en t j * _ = _
  rw [mul_assoc, en_eq, mul_one]
theorem kt_eq (t j : Fin 64) : c.kt t j * c.E (t.val + 1) j = c.k t j := by
  show c.k t j * c.en t j * _ = _
  rw [mul_assoc, en_eq, mul_one]

theorem Sc_zero : c.Sc 0 = c.s := by
  ext i j
  unfold Sc
  rw [sum_lt_zero, sum_lt_zero, add_zero, add_zero]
theorem Sc_succ (t i j : Fin 64) : c.Sc (t.val + 1) i j = c.Sc t.val i j + c.u t i * c.bt t j + c.v t i * c.kt t j := by
  unfold Sc
  rw [sum_lt_succ (fun t => c.u t i * c.bt t j), sum_lt_succ (fun t => c.v t i * c.kt t j)]
  ring
theorem Sc_all : c.Sc 64 = c.sn := by
  ext i j
  unfold Sc sn upd
  rw [sum_lt_all (fun t => c.u t i * c.bt t j), sum_lt_all (fun t => c.v t i * c.kt t j), Matrix.add_apply, Matrix.add_apply,
    Matrix.mul_apply, Matrix.mul_apply, add_assoc]
  rfl

theorem lowS_mul (X Y : Mat) (t i : Fin 64) : (lowS X * Y) t i = ∑ s : Fin 64, (if s.val < t.val then X t s else 0) * Y s i := by
  rw [Matrix.mul_apply]
  rfl
theorem lowI_mul (X Y : Mat) (t i : Fin 64) : (lowI X * Y) t i = ∑ s : Fin 64, (if s.val < t.val + 1 then X t s else 0) * Y s i := by
  rw [Matrix.mul_apply]
  refine Finset.sum_congr rfl fun s _ => ?_
  unfold lowI
  congr 1
  exact if_congr (by rw [Fin.le_def]; omega) rfl rfl
theorem lowS_mulT (X Y : Mat) (t i : Fin 64) : ((lowS X).transpose * Y) t i = ∑ s : Fin 64, (if t.val + 1 ≤ s.val then X s t else 0) * Y s i := by
  rw [Matrix.mul_apply]
  refine Finset.sum_congr rfl fun s _ => ?_
  unfold lowS Matrix.transpose
  simp only [Matrix.of_apply]
  congr 1
theorem lowI_mulT (X Y : Mat) (t i : Fin 64) : ((lowI X).transpose * Y) t i = ∑ s : Fin 64, (if t.val ≤ s.val then X s t else 0) * Y s i := by
  rw [Matrix.mul_apply]
  refine Finset.sum_congr rfl fun s _ => ?_
  unfold lowI Matrix.transpose
  simp only [Matrix.of_apply]
  congr 1

theorem mulT (X Y : Mat) (s t : Fin 64) : (X * Y.transpose) s t = ∑ j, X s j * Y t j := by
  rw [Matrix.mul_apply]
  rfl

/-- The solved rows are the state before the row times the row of `a`. -/
theorem u_eq (t i : Fin 64) : c.u t i = app (c.Sc t.val) (c.at' t) i := by
  have e : c.u = c.Aab * c.u + c.Z := by
    have h : (1 - c.Aab) * c.u = c.Z := by
      unfold u
      rw [← Matrix.mul_assoc, inv_left, Matrix.one_mul]
    rw [Matrix.sub_mul, Matrix.one_mul] at h
    rw [← h, add_sub_cancel]
  have e' := congrFun (congrFun e t) i
  rw [Matrix.add_apply] at e'
  unfold app Sc
  rw [contract c.s (fun s => s.val < t.val) (fun s => s.val < t.val) c.u c.bt c.v c.kt, e']
  unfold Z base Aab Aak ab
  rw [Matrix.add_apply, lowS_mul, lowS_mul, mulT]
  simp only [mulT]
  simp only [mul_comm (c.at' t _)]
  ring

theorem y_app (t i : Fin 64) : c.y t i = app (c.Sc (t.val + 1)) (c.rt t) i := by
  unfold app Sc
  rw [contract c.s (fun s => s.val < t.val + 1) (fun s => s.val < t.val + 1) c.u c.bt c.v c.kt]
  unfold y rs inner Arb Ark
  rw [Matrix.add_apply, Matrix.add_apply, lowI_mul, lowI_mul, mulT]
  simp only [mulT]
  simp only [mul_comm (c.rt t _)]
  ring

/-- The rows that come back to the solved rows. -/
theorem dZ_eq (t i : Fin 64) : c.dZ t i = app (c.Gc t.val (t.val + 1)) (c.bt t) i := by
  have e : c.dZ = c.Aab.transpose * c.dZ + c.du := by
    have h : (1 - c.Aab).transpose * c.dZ = c.du := by
      unfold dZ
      rw [← Matrix.mul_assoc, ← Matrix.transpose_mul, inv_right, Matrix.transpose_one, Matrix.one_mul]
    rw [Matrix.transpose_sub, Matrix.transpose_one, Matrix.sub_mul, Matrix.one_mul] at h
    rw [← h, add_sub_cancel]
  have e' := congrFun (congrFun e t) i
  rw [Matrix.add_apply] at e'
  unfold app Gc
  rw [contract c.dM (fun s => t.val ≤ s.val) (fun s => t.val + 1 ≤ s.val) c.dy c.rt c.dZ c.at', e']
  unfold Aab ab du du0 du1 Arb
  rw [Matrix.add_apply, lowS_mulT, lowI_mulT, mulT]
  simp only [mulT]
  simp only [mul_comm (c.bt t _)]
  ring

theorem dv_app (t i : Fin 64) : c.dv t i = app (c.Gc t.val (t.val + 1)) (c.kt t) i := by
  unfold app Gc
  rw [contract c.dM (fun s => t.val ≤ s.val) (fun s => t.val + 1 ≤ s.val) c.dy c.rt c.dZ c.at']
  unfold dv dv0 dv2 dv1 Aak Ark
  rw [Matrix.add_apply, Matrix.add_apply, lowS_mulT, lowI_mulT, mulT]
  simp only [mulT]
  simp only [mul_comm (c.kt t _)]
  ring

theorem dkt_app (t j : Fin 64) : c.dkt t j = appT (c.Gc t.val (t.val + 1)) (c.v t) j := by
  unfold appT Gc
  rw [contractT c.dM (fun s => t.val ≤ s.val) (fun s => t.val + 1 ≤ s.val) c.dy c.rt c.dZ c.at']
  unfold dkt dk0 dkt1 dArk dAak dyv dZv
  rw [Matrix.add_apply, Matrix.add_apply, lowS_mulT, lowI_mulT, Matrix.mul_apply]
  simp only [mulT]
  simp only [mul_comm (c.v t _)]
  ring

theorem dbt_app (t j : Fin 64) : c.dbt t j = appT (c.Gc t.val (t.val + 1)) (c.u t) j := by
  unfold appT Gc
  rw [contractT c.dM (fun s => t.val ≤ s.val) (fun s => t.val + 1 ≤ s.val) c.dy c.rt c.dZ c.at']
  unfold dbt db0 dbt1 dbt2 dArb dyu
  rw [dAab_eq, Matrix.add_apply, Matrix.add_apply, lowS_mulT, lowI_mulT, Matrix.mul_apply]
  simp only [mulT]
  simp only [mul_comm (c.u t _)]
  ring

theorem drt_app (t j : Fin 64) : c.drt t j = appT (c.Sc (t.val + 1)) (c.dy t) j := by
  unfold appT Sc
  rw [contractT c.s (fun s => s.val < t.val + 1) (fun s => s.val < t.val + 1) c.u c.bt c.v c.kt]
  unfold drt dr0 drt1 dArb dArk dyu dyv
  rw [Matrix.add_apply, Matrix.add_apply, lowI_mul, lowI_mul, Matrix.mul_apply]
  simp only [mulT]
  simp only [mul_comm (c.dy t _)]
  ring

theorem dat_app (t j : Fin 64) : c.dat t j = appT (c.Sc t.val) (c.dZ t) j := by
  unfold appT Sc
  rw [contractT c.s (fun s => s.val < t.val) (fun s => s.val < t.val) c.u c.bt c.v c.kt]
  unfold dat dat1 dAak dZv
  rw [dAab_eq, Matrix.add_apply, Matrix.add_apply, lowS_mul, lowS_mul, Matrix.mul_apply]
  simp only [mulT]
  simp only [mul_comm (c.dZ t _)]
  ring

theorem Gc_low (t i j : Fin 64) : c.Gc t.val t.val i j = c.Gc t.val (t.val + 1) i j + c.dZ t i * c.at' t j := by
  unfold Gc
  rw [sum_ge_succ (fun s => c.dZ s i * c.at' s j)]
  ring
theorem Gc_high (t i j : Fin 64) : c.Gc t.val (t.val + 1) i j = c.Gc (t.val + 1) (t.val + 1) i j + c.dy t i * c.rt t j := by
  unfold Gc
  rw [sum_ge_succ (fun s => c.dy s i * c.rt s j)]
  ring
theorem Gc_all (i j : Fin 64) : c.Gc 64 64 i j = c.dM i j := by
  unfold Gc
  rw [sum_ge_zero, sum_ge_zero, add_zero, add_zero]
theorem Gc_zero : c.Gc 0 0 = c.ds0 := by
  ext i j
  unfold Gc ds0 ds1
  rw [sum_ge_all (fun t => c.dy t i * c.rt t j), sum_ge_all (fun t => c.dZ t i * c.at' t j), Matrix.add_apply, Matrix.add_apply,
    Matrix.mul_apply, Matrix.mul_apply]
  rfl

/-- The state against what comes back to it. -/
def Phi (n : ℕ) (j : Fin 64) : ℝ := ∑ i, c.Sc n i j * c.Gc n n i j

theorem Phi_low (t j : Fin 64) : c.Phi t.val j = (∑ i, c.Sc t.val i j * c.Gc t.val (t.val + 1) i j) + c.al t j := by
  have e : c.al t j = c.dat t j * c.at' t j := by
    show c.a t j * c.dat t j * c.ep t j = c.dat t j * (c.a t j * c.ep t j)
    ring
  rw [e, dat_app]
  unfold Phi appT
  rw [Finset.sum_mul, ← Finset.sum_add_distrib]
  refine Finset.sum_congr rfl fun i _ => ?_
  rw [Gc_low]
  ring

theorem Phi_high (t j : Fin 64) :
    c.Phi (t.val + 1) j = (∑ i, c.Sc t.val i j * c.Gc t.val (t.val + 1) i j) + c.bt t j * c.dbt t j + c.kt t j * c.dkt t j - c.rt t j * c.drt t j := by
  rw [dbt_app, dkt_app, drt_app]
  unfold Phi appT
  rw [Finset.mul_sum, Finset.mul_sum, Finset.mul_sum, ← Finset.sum_add_distrib, ← Finset.sum_add_distrib, ← Finset.sum_sub_distrib]
  refine Finset.sum_congr rfl fun i _ => ?_
  rw [Gc_high, Sc_succ]
  ring

theorem Phi_step (t j : Fin 64) : c.Phi t.val j = c.Phi (t.val + 1) j + c.dcum t j := by
  have e : c.dcum t j = c.rt t j * c.drt t j + c.al t j - (c.kt t j * c.dkt t j + c.bt t j * c.dbt t j) := by
    unfold dcum
    rw [Matrix.add_apply, Matrix.add_apply, Matrix.sub_apply, Matrix.zero_apply]
    show c.r t j * c.drt t j * c.ec t j + c.al t j + (0 - (c.k t j * c.dkt t j + c.b t j * c.dbt t j) * c.en t j)
      = c.r t j * c.ec t j * c.drt t j + c.al t j - (c.k t j * c.en t j * c.dkt t j + c.b t j * c.en t j * c.dbt t j)
    ring
  rw [Phi_low, Phi_high, e]
  ring

theorem Phi_all (j : Fin 64) : c.Phi 64 j = ∑ i, c.sds i j := by
  unfold Phi
  refine Finset.sum_congr rfl fun i _ => ?_
  rw [Gc_all, Sc_all]
  show c.sn i j * (c.ds i j * c.et i j) = c.sn i j * c.ds i j * c.et i j
  ring

theorem Phi_sum (j : Fin 64) (d : ℕ) (hd : d ≤ 64) :
    c.Phi (64 - d) j = (∑ i, c.sds i j) + ∑ s : Fin 64, if 64 - d ≤ s.val then c.dcum s j else 0 := by
  induction d with
  | zero => rw [Nat.sub_zero, Phi_all, sum_ge_zero, add_zero]
  | succ d ih =>
    have h := c.Phi_step ⟨64 - (d + 1), by omega⟩ j
    have h' := sum_ge_succ (fun s => c.dcum s j) ⟨64 - (d + 1), by omega⟩
    simp only at h h'
    rw [show 64 - (d + 1) + 1 = 64 - d by omega] at h h'
    rw [h, ih (by omega), h']
    ring

/-- The kernel's gradient of the log decay is the state against what comes back to it. -/
theorem dlw_app (t j : Fin 64) : c.dlw t j = ∑ i, c.Sc t.val i j * c.Gc t.val (t.val + 1) i j := by
  have h := c.Phi_sum j (64 - t.val) (by omega)
  rw [show 64 - (64 - t.val) = t.val by omega, Phi_low] at h
  have e : (LI.transpose * c.dcum) t j = ∑ s : Fin 64, if t.val ≤ s.val then c.dcum s j else 0 := by
    rw [Matrix.mul_apply]
    refine Finset.sum_congr rfl fun s _ => ?_
    show (if t ≤ s then (1 : ℝ) else 0) * _ = _
    by_cases q : t ≤ s
    · rw [if_pos q, if_pos (Fin.le_def.mp q), one_mul]
    · rw [if_neg q, if_neg (fun w => q (Fin.le_def.mpr w)), zero_mul]
  have e' : csum c.sds t j = ∑ i, c.sds i j := rfl
  unfold dlw
  rw [sub_self, sub_self, Matrix.mul_zero, csum_zero, add_zero, add_zero, Matrix.add_apply, Matrix.add_apply, e, e', Matrix.sub_apply, Matrix.zero_apply]
  linarith

section Steps

variable (St : ℕ → Mat) (h0 : St 0 = c.s)
  (hS : ∀ t : Fin 64, St (t.val + 1) = stepS (c.lw t) (c.k t) (c.v t) (c.a t) (c.b t) (St t.val))

include h0 hS

theorem app_a (t i : Fin 64) (h : ∀ i j, St t.val i j = c.Sc t.val i j * c.E t.val j) : app (St t.val) (c.a t) i = c.u t i := by
  rw [u_eq]
  unfold app
  refine Finset.sum_congr rfl fun j _ => ?_
  rw [h, at_eq]
  ring

theorem state_eq (n : ℕ) (hn : n ≤ 64) : ∀ i j, St n i j = c.Sc n i j * c.E n j := by
  induction n with
  | zero =>
    intro i j
    rw [h0, Sc_zero, E_zero, mul_one]
  | succ n ih =>
    intro i j
    have ih := ih (by omega)
    have e := congrFun (congrFun (hS ⟨n, by omega⟩) i) j
    have q := c.app_a St h0 hS ⟨n, by omega⟩ i ih
    have s := c.Sc_succ ⟨n, by omega⟩ i j
    have x := c.E_succ ⟨n, by omega⟩ j
    have b := c.bt_eq ⟨n, by omega⟩ j
    have k := c.kt_eq ⟨n, by omega⟩ j
    unfold stepS at e
    simp only at e q s x b k
    rw [e, q, ih, s, ← b, ← k, x]
    ring

theorem sa_eq (t i : Fin 64) : app (St t.val) (c.a t) i = c.u t i :=
  c.app_a St h0 hS t i (c.state_eq St h0 hS t.val (by omega))

/-- The state after the chunk. -/
theorem last_eq : c.s' = St 64 := by
  ext i j
  rw [c.state_eq St h0 hS 64 le_rfl, Sc_all, ← et_eq (i := i)]
  rfl

/-- The outputs of the chunk. -/
theorem out_eq (t i : Fin 64) : c.y t i = app (St (t.val + 1)) (c.r t) i := by
  rw [y_app]
  unfold app
  refine Finset.sum_congr rfl fun j _ => ?_
  rw [c.state_eq St h0 hS _ (by omega), rt_eq]
  ring

variable (G : ℕ → Mat) (g64 : G 64 = c.ds)
  (hG : ∀ t : Fin 64, G t.val = backG (c.lw t) (c.a t) (c.b t) (backH (c.dy t) (c.r t) (G (t.val + 1))))

include g64 hG

omit h0 hS in
theorem back_H (t i j : Fin 64) (h : ∀ i j, G (t.val + 1) i j * c.E (t.val + 1) j = c.Gc (t.val + 1) (t.val + 1) i j) :
    backH (c.dy t) (c.r t) (G (t.val + 1)) i j * c.E (t.val + 1) j = c.Gc t.val (t.val + 1) i j := by
  rw [Gc_high, ← h, rt_eq]
  unfold backH
  ring

omit h0 hS in
theorem back_u (t i : Fin 64) (h : ∀ i j, G (t.val + 1) i j * c.E (t.val + 1) j = c.Gc (t.val + 1) (t.val + 1) i j) :
    app (backH (c.dy t) (c.r t) (G (t.val + 1))) (c.b t) i = c.dZ t i := by
  rw [dZ_eq]
  unfold app
  refine Finset.sum_congr rfl fun j _ => ?_
  rw [← c.back_H G g64 hG t i j h, ← bt_eq]
  ring

omit h0 hS in
theorem back_eq (d : ℕ) (hd : d ≤ 64) : ∀ i j, G (64 - d) i j * c.E (64 - d) j = c.Gc (64 - d) (64 - d) i j := by
  induction d with
  | zero =>
    intro i j
    rw [Nat.sub_zero, Gc_all, g64, ← et_eq (i := i)]
    rfl
  | succ d ih =>
    intro i j
    have ih := ih (by omega)
    have e := congrFun (congrFun (hG ⟨64 - (d + 1), by omega⟩) i) j
    have w : 64 - d = 64 - (d + 1) + 1 := by omega
    rw [w] at ih
    have q := c.back_u G g64 hG ⟨64 - (d + 1), by omega⟩ i ih
    have p := c.back_H G g64 hG ⟨64 - (d + 1), by omega⟩ i j ih
    have s := c.Gc_low ⟨64 - (d + 1), by omega⟩ i j
    have x := c.E_succ ⟨64 - (d + 1), by omega⟩ j
    have a := c.at_eq ⟨64 - (d + 1), by omega⟩ j
    unfold backG at e
    simp only at e q s x p a
    rw [e, q, s, ← p, a, x]
    ring

omit h0 hS in
theorem back_at (t i j : Fin 64) : G (t.val + 1) i j * c.E (t.val + 1) j = c.Gc (t.val + 1) (t.val + 1) i j := by
  have h := c.back_eq G g64 hG (64 - (t.val + 1)) (by omega) i j
  rwa [show 64 - (64 - (t.val + 1)) = t.val + 1 by omega] at h

omit h0 hS in
/-- What comes back to the state before the chunk. -/
theorem first_eq : c.ds0 = G 0 := by
  ext i j
  have h := c.back_eq G g64 hG 64 le_rfl i j
  rw [show 64 - 64 = 0 by omega, E_zero, mul_one, Gc_zero] at h
  exact h.symm

omit h0 hS in
theorem H_eq (t i j : Fin 64) : backH (c.dy t) (c.r t) (G (t.val + 1)) i j = c.Gc t.val (t.val + 1) i j * c.en t j := by
  have e := c.en_eq t j
  rw [← c.back_H G g64 hG t i j (c.back_at G g64 hG t), mul_assoc, mul_comm (c.E _ _), e, mul_one]

omit h0 hS in
theorem dv_eq (t i : Fin 64) : c.dv t i = app (backH (c.dy t) (c.r t) (G (t.val + 1))) (c.k t) i := by
  rw [dv_app]
  unfold app
  refine Finset.sum_congr rfl fun j _ => ?_
  rw [c.H_eq G g64 hG]
  show _ * (c.k t j * c.en t j) = _
  ring

omit h0 hS in
theorem dk_eq (t j : Fin 64) : c.dk t j = appT (backH (c.dy t) (c.r t) (G (t.val + 1))) (c.v t) j := by
  show c.dkt t j * c.en t j = _
  rw [dkt_app]
  unfold appT
  rw [Finset.sum_mul]
  refine Finset.sum_congr rfl fun i _ => ?_
  rw [c.H_eq G g64 hG]
  ring

theorem db_eq (t j : Fin 64) : c.db t j = appT (backH (c.dy t) (c.r t) (G (t.val + 1))) (app (St t.val) (c.a t)) j := by
  show c.dbt t j * c.en t j = _
  rw [dbt_app]
  unfold appT
  rw [Finset.sum_mul]
  refine Finset.sum_congr rfl fun i _ => ?_
  rw [c.H_eq G g64 hG, c.sa_eq St h0 hS]
  ring

omit g64 hG in
theorem dr_eq (t j : Fin 64) : c.dr t j = appT (St (t.val + 1)) (c.dy t) j := by
  show c.drt t j * c.ec t j = _
  rw [drt_app]
  unfold appT
  rw [Finset.sum_mul]
  refine Finset.sum_congr rfl fun i _ => ?_
  rw [c.state_eq St h0 hS _ (by omega), ec_eq]
  ring

theorem da_eq (t j : Fin 64) : c.da t j = appT (St t.val) (app (backH (c.dy t) (c.r t) (G (t.val + 1))) (c.b t)) j := by
  show c.dat t j * c.ep t j = _
  rw [dat_app]
  unfold appT
  rw [Finset.sum_mul]
  refine Finset.sum_congr rfl fun i _ => ?_
  rw [c.state_eq St h0 hS _ (by omega), ep_eq, c.back_u G g64 hG t i (c.back_at G g64 hG t)]
  ring

theorem dlw_eq (t j : Fin 64) :
    c.dlw t j = (∑ i, St t.val i j * backH (c.dy t) (c.r t) (G (t.val + 1)) i j) * Real.exp (c.lw t j) := by
  rw [dlw_app, Finset.sum_mul]
  refine Finset.sum_congr rfl fun i _ => ?_
  have e := c.en_eq t j
  rw [E_succ] at e
  rw [c.state_eq St h0 hS _ (by omega), c.H_eq G g64 hG]
  linear_combination (-(c.Sc t.val i j * c.Gc t.val (t.val + 1) i j)) * e

end Steps

end Chunk

end Cert.Rwkv

end
-- ==== Proof.Glob.lean ====
module

public import proofs.«01_k».proof.Proof.Seq

@[expose] public section

noncomputable section

namespace Cert.Rwkv

/-- The seven inputs, by time and column. -/
structure Inputs where
  r : ℕ → ℕ → ℝ
  lw : ℕ → ℕ → ℝ
  k : ℕ → ℕ → ℝ
  v : ℕ → ℕ → ℝ
  a : ℕ → ℕ → ℝ
  b : ℕ → ℕ → ℝ
  ct : ℕ → ℕ → ℝ

/-- Head `H`'s row of an input at time `n`. -/
def row (x : ℕ → ℕ → ℝ) (n H : ℕ) : Row := fun i => x n (64 * H + i.val)
/-- Rows of every head, put back beside each other. -/
def flat (f : ℕ → ℕ → Row) (n c : ℕ) : ℝ := f n (c / 64) ⟨c % 64, Nat.mod_lt _ (by decide)⟩

theorem flat_at (f : ℕ → ℕ → Row) (n H : ℕ) (i : Fin 64) : flat f n (64 * H + i.val) = f n H i := by
  unfold flat
  have h1 : (64 * H + i.val) / 64 = H := by omega
  have h2 : (⟨(64 * H + i.val) % 64, Nat.mod_lt _ (by decide)⟩ : Fin 64) = i := Fin.ext (by show (64 * H + i.val) % 64 = i.val; omega)
  rw [h2, h1]

namespace Inputs

variable (d : Inputs)

/-- Head `H`'s state before time `n`. -/
def St (H : ℕ) : ℕ → Mat
  | 0 => 0
  | n + 1 => stepS (row d.lw n H) (row d.k n H) (row d.v n H) (row d.a n H) (row d.b n H) (St H n)

/-- The gradient of head `H`'s state, `m` times before the last. -/
def Gd (H : ℕ) : ℕ → Mat
  | 0 => 0
  | m + 1 => backG (row d.lw (4095 - m) H) (row d.a (4095 - m) H) (row d.b (4095 - m) H)
      (backH (row d.ct (4095 - m) H) (row d.r (4095 - m) H) (Gd H m))

/-- The gradient of head `H`'s state before time `n`. -/
def G (H n : ℕ) : Mat := d.Gd H (4096 - n)
/-- The gradient of head `H`'s state after time `n`, with what its output brings. -/
def Hb (H n : ℕ) : Mat := backH (row d.ct n H) (row d.r n H) (d.G H (n + 1))

theorem St_zero (H : ℕ) : d.St H 0 = 0 := rfl
theorem G_last (H : ℕ) : d.G H 4096 = 0 := rfl
theorem G_step (H n : ℕ) (hn : n < 4096) : d.G H n = backG (row d.lw n H) (row d.a n H) (row d.b n H) (d.Hb H n) := by
  have e : 4096 - n = (4095 - n) + 1 := by omega
  have e2 : 4095 - (4095 - n) = n := by omega
  have e3 : 4096 - (n + 1) = 4095 - n := by omega
  unfold Hb G
  rw [e, Gd, e2, e3]

def yRow (n H : ℕ) : Row := app (d.St H (n + 1)) (row d.r n H)
def drRow (n H : ℕ) : Row := appT (d.St H (n + 1)) (row d.ct n H)
def dlwRow (n H : ℕ) : Row := fun j => (∑ i, d.St H n i j * d.Hb H n i j) * Real.exp (row d.lw n H j)
def dkRow (n H : ℕ) : Row := appT (d.Hb H n) (row d.v n H)
def dvRow (n H : ℕ) : Row := app (d.Hb H n) (row d.k n H)
def daRow (n H : ℕ) : Row := appT (d.St H n) (app (d.Hb H n) (row d.b n H))
def dbRow (n H : ℕ) : Row := appT (d.Hb H n) (app (d.St H n) (row d.a n H))

/-- The `q`-th chunk of times of head `H`. -/
def chunk (q H : ℕ) : Chunk where
  s := d.St H (64 * q)
  r := fun t => row d.r (64 * q + t.val) H
  lw := fun t => row d.lw (64 * q + t.val) H
  k := fun t => row d.k (64 * q + t.val) H
  v := fun t => row d.v (64 * q + t.val) H
  a := fun t => row d.a (64 * q + t.val) H
  b := fun t => row d.b (64 * q + t.val) H
  dy := fun t => row d.ct (64 * q + t.val) H
  ds := d.G H (64 * (q + 1))

section
variable (q H : ℕ)

theorem chunk_last : (d.chunk q H).s' = d.St H (64 * (q + 1)) :=
  (d.chunk q H).last_eq (fun m => d.St H (64 * q + m)) rfl (fun t => rfl)

theorem chunk_y (t i : Fin 64) : (d.chunk q H).y t i = d.yRow (64 * q + t.val) H i :=
  (d.chunk q H).out_eq (fun m => d.St H (64 * q + m)) rfl (fun t => rfl) t i

variable (hq : q < 64)
include hq

theorem chunk_G (t : Fin 64) : d.G H (64 * q + t.val) =
    backG ((d.chunk q H).lw t) ((d.chunk q H).a t) ((d.chunk q H).b t)
      (backH ((d.chunk q H).dy t) ((d.chunk q H).r t) (d.G H (64 * q + (t.val + 1)))) :=
  d.G_step H (64 * q + t.val) (by omega)

theorem chunk_first : (d.chunk q H).ds0 = d.G H (64 * q) :=
  (d.chunk q H).first_eq (fun m => d.G H (64 * q + m)) rfl (d.chunk_G q H hq)

theorem chunk_dv (t i : Fin 64) : (d.chunk q H).dv t i = d.dvRow (64 * q + t.val) H i :=
  (d.chunk q H).dv_eq (fun m => d.G H (64 * q + m)) rfl (d.chunk_G q H hq) t i

theorem chunk_dk (t i : Fin 64) : (d.chunk q H).dk t i = d.dkRow (64 * q + t.val) H i :=
  (d.chunk q H).dk_eq (fun m => d.G H (64 * q + m)) rfl (d.chunk_G q H hq) t i

theorem chunk_db (t i : Fin 64) : (d.chunk q H).db t i = d.dbRow (64 * q + t.val) H i :=
  (d.chunk q H).db_eq (fun m => d.St H (64 * q + m)) rfl (fun t => rfl) (fun m => d.G H (64 * q + m)) rfl (d.chunk_G q H hq) t i

theorem chunk_da (t i : Fin 64) : (d.chunk q H).da t i = d.daRow (64 * q + t.val) H i :=
  (d.chunk q H).da_eq (fun m => d.St H (64 * q + m)) rfl (fun t => rfl) (fun m => d.G H (64 * q + m)) rfl (d.chunk_G q H hq) t i

theorem chunk_dlw (t i : Fin 64) : (d.chunk q H).dlw t i = d.dlwRow (64 * q + t.val) H i :=
  (d.chunk q H).dlw_eq (fun m => d.St H (64 * q + m)) rfl (fun t => rfl) (fun m => d.G H (64 * q + m)) rfl (d.chunk_G q H hq) t i

omit hq in
theorem chunk_dr (t i : Fin 64) : (d.chunk q H).dr t i = d.drRow (64 * q + t.val) H i :=
  (d.chunk q H).dr_eq (fun m => d.St H (64 * q + m)) rfl (fun t => rfl) t i

end

end Inputs

end Cert.Rwkv
-- ==== Proof.Block.lean ====
module

public import proofs.«01_k».proof.Proof.Load
public import proofs.«01_k».proof.Proof.Glob
public import Idealize.ShloMosaic.Lib.Pipeline.FrameBody

@[expose] public section

set_option maxRecDepth 16384

noncomputable section

namespace Cert.KernelIdeal.Val

open Idealize.ShloMosaic Idealize.ShloMosaic.TcCoe
open Cert.KernelIdeal Cert.KernelIdeal.Gen Cert.Rwkv

/-- The number of the head at place `h` of pair `g`. -/
def hd (g : Fin 16) (h : Fin 2) : ℕ := 2 * g.val + h.val

/-- A block holds the rows of `ρ` from `m` on. -/
def Blk (x : S128x2048.Idx → EReal) (m : ℕ) (ρ : ℕ → ℕ → ℝ) : Prop :=
  ∀ (a : Fin 128) (b : Fin 2048), x (ix2 a b) = ((ρ (m + a.val) b.val : ℝ) : EReal)

/-- A block of states holds those of the chunks from `q` on. -/
def BlkS (x : S16x2x128x128.Idx → EReal) (d : Inputs) (q : ℕ) : Prop :=
  ∀ g (p : Fin 2) h h' i j, x (ix4 g p (lane h i) (lane h' j)) =
    if h' = h then ((d.St (hd g h) (64 * (q + p.val)) i j : ℝ) : EReal) else 0

theorem LD_of {x : S128x2048.Idx → EReal} {m n q : ℕ} {ρ : ℕ → ℕ → ℝ} (hx : Blk x m ρ) (hq : m + n = 64 * q) :
    LD x n (fun g h t => row ρ (64 * q + t.val) (hd g h)) := by
  intro a b g h t i ha hb
  rw [hx]
  simp only [row, hd]
  rw [show m + a.val = 64 * q + t.val by omega, show b.val = 64 * (2 * g.val + h.val) + i.val by omega]

theorem LS_of {x : S16x2x128x128.Idx → EReal} {d : Inputs} {m n q : ℕ} (hx : BlkS x d m) (hq : m + n = q) :
    LS x n (fun g h => d.St (hd g h) (64 * q)) := by
  intro p g h i j hp
  rw [hx, if_pos rfl, show m + p.val = q by omega]

theorem LSZ_of {x : S16x2x128x128.Idx → EReal} {d : Inputs} {m n : ℕ} (hx : BlkS x d m) : LSZ x n := by
  intro p g h h' i j hp hh
  rw [hx, if_neg hh]

/-- A chunk's rows among all rows. -/
theorem flat_chunk (f : ℕ → ℕ → Row) {m n q : ℕ} (hq : m + n = 64 * q) (g : Fin 16) (h : Fin 2) (t i : Fin 64) :
    f (64 * q + t.val) (hd g h) i = flat f (m + (n + t.val)) (128 * g.val + 64 * h.val + i.val) := by
  rw [show 128 * g.val + 64 * h.val + i.val = 64 * hd g h + i.val by unfold hd; omega, flat_at, show m + (n + t.val) = 64 * q + t.val by omega]

theorem idx_full (hin : ∀ a, (![0, 0, 0] : Fin 3 → ℕ) a + S16x128x128.size a ≤ S16x128x128.size a) (x : S16x128x128.Idx) :
    (Rect.unit (s := S16x128x128) ![0, 0, 0] S16x128x128.size hin).emb x = x := by
  funext d
  refine Fin.ext ?_
  rw [ValueKit.rect_emb_unit_val]
  fin_cases d <;> exact Nat.zero_add _

theorem read_scr {v : Memref sig .tc .vmem S16x128x128 .f32} {X : v.view.ty.Contents (Elt Ideal)}
    {hin : ∀ a, (![0, 0, 0] : Fin 3 → ℕ) a + S16x128x128.size a ≤ S16x128x128.size a} :
    View.readAt (Elt Ideal) v.view (Rect.unit (s := S16x128x128) ![0, 0, 0] S16x128x128.size hin).toLoadRect X = v.view.read (Elt Ideal) X :=
  funext fun x => congrArg (v.view.read (Elt Ideal) X) (idx_full hin x)

theorem canon_scr {hin : ∀ a, (![0, 0, 0] : Fin 3 → ℕ) a + S16x128x128.size a ≤ S16x128x128.size a}
    (w : S16x128x128.Idx → EReal) (L : List (View.Piece (Elt Ideal) S16x128x128 .f32)) :
    View.canon (Val := Elt Ideal) (e := .f32) (⟨Rect.unit (s := S16x128x128) ![0, 0, 0] S16x128x128.size hin, w⟩ :: L) = w := by
  funext x
  have e := View.canon_cons_emb (Val := Elt Ideal) (e := .f32) (Rect.unit (s := S16x128x128) ![0, 0, 0] S16x128x128.size hin) w L x
  rw [idx_full] at e
  exact e

theorem readCov_scr {v : Memref sig .tc .vmem S16x128x128 .f32}
    {hin hin' : ∀ a, (![0, 0, 0] : Fin 3 → ℕ) a + S16x128x128.size a ≤ S16x128x128.size a}
    (w : S16x128x128.Idx → EReal) (L : List (View.Piece (Elt Ideal) S16x128x128 .f32)) :
    v.view.readCov (Val := Elt Ideal) (⟨Rect.unit (s := S16x128x128) ![0, 0, 0] S16x128x128.size hin, w⟩ :: L) (Rect.unit (s := S16x128x128) ![0, 0, 0] S16x128x128.size hin').toLoadRect = w := by
  rw [View.readCov_eq_canon', canon_scr]
  exact funext fun x => congrArg w (idx_full hin' x)

theorem zero_at0 (x : S16x128x128.Idx) : k0_pay1 (F := Ideal) x = 0 := by
  obtain ⟨g, i, j, rfl⟩ : ∃ g i j, x = ix3 g i j := ⟨x 0, x 1, x 2, by funext a; fin_cases a <;> rfl⟩
  pointwise [k0_pay1]

theorem zero_at1 (x : S16x128x128.Idx) : k1_pay1 (F := Ideal) x = 0 := zero_at0 x

theorem scr_at0 (X : FVec Ideal S16x128x128 .f32) : k0_pay2 X = X := by
  funext x
  obtain ⟨g, i, j, rfl⟩ : ∃ g i j, x = ix3 g i j := ⟨x 0, x 1, x 2, by funext a; fin_cases a <;> rfl⟩
  pointwise [k0_pay2]

theorem scr_at1 (X : FVec Ideal S16x128x128 .f32) : k1_pay3 X = X := scr_at0 X

theorem S_zero {X : S16x128x128.Idx → EReal} (hX : ∀ x, X x = 0) {f : Mats} (hf : ∀ g h i j, f g h i j = 0) : S X f :=
  fun g h i j => by rw [hX, hf]; rfl

theorem SZ_zero {X : S16x128x128.Idx → EReal} (hX : ∀ x, X x = 0) : SZ X := fun g h h' i j hh => hX _

theorem Blk_of {a : Memref sig .tc .vmem S128x2048 .f32} {L : List (View.Piece (Elt Ideal) S128x2048 .f32)} {m : ℕ} {ρ : ℕ → ℕ → ℝ}
    (hc : ∀ y, ∃ pc ∈ L, y ∈ pc.1.set) (hL : ∀ p ∈ L, Rows (fun x y => ρ (m + x) y) p) :
    Blk (a.view.read (Elt Ideal) (a.view.writes (Elt Ideal) a.view.junk L)) m ρ := by
  intro x y
  rw [View.read_writes_junk_eq_canon]
  exact canon_of (fun y v => v = ((ρ (m + (y 0).val) (y 1).val : ℝ) : EReal)) (ix2 x y) L (hc _) (fun p hp x => hL p hp x)

theorem BlkS_of {a : Memref sig .tc .vmem S16x2x128x128 .f32} {L : List (View.Piece (Elt Ideal) S16x2x128x128 .f32)} {d : Inputs} {q : ℕ}
    (hc : ∀ y, ∃ pc ∈ L, y ∈ pc.1.set) (hL : ∀ p ∈ L, Slabs (fun x g h => d.St (hd g h) (64 * (q + x))) p) :
    BlkS (a.view.read (Elt Ideal) (a.view.writes (Elt Ideal) a.view.junk L)) d q := by
  intro g p h h' i j
  rw [View.read_writes_junk_eq_canon]
  exact canon_of (fun y v => ∀ g p h h' i j, y = ix4 g p (lane h i) (lane h' j) → v =
    if h' = h then ((d.St (hd g h) (64 * (q + p.val)) i j : ℝ) : EReal) else 0) _ L (hc _)
    (fun pc hp x g p h h' i j e => hL pc hp x g p h h' i j e) g p h h' i j rfl

end Cert.KernelIdeal.Val
-- ==== Proof.Reg0.lean ====
module

public import proofs.«01_k».proof.Proof.Data0
public import proofs.«01_k».proof.Proof.Trip0
public import proofs.«01_k».proof.Proof.Block
public import proofs.«01_k».proof.Proof.Gen.KernelIdeal.Loops

@[expose] public section

set_option maxRecDepth 16384

noncomputable section

namespace Cert.KernelIdeal.Val

open Idealize.ShloMosaic Idealize.ShloMosaic.TcCoe
open Cert.KernelIdeal Cert.KernelIdeal.Gen Cert.Rwkv Cert.KernelIdeal.Rec

theorem trips0 : Scf.trips k0_t1_loop.lb k0_t1_loop.ub k0_t1_loop.st = 2 := by decide +kernel

/-- What the loop carries and has stored before trip `n`. -/
theorem k0_loop {d : Inputs} {m q : ℕ} {𝒱 : Variants} {bd : Option 𝒱.V} {c : Dev nD} {i : grid0.Coords} {arg2 : Memref sig .tc .vmem S128x2048 .f32} {harg2 : arg2.IsWhole} {arg3 : Memref sig .tc .vmem S128x2048 .f32} {harg3 : arg3.IsWhole} {arg4 : Memref sig .tc .vmem S128x2048 .f32} {harg4 : arg4.IsWhole} {arg5 : Memref sig .tc .vmem S128x2048 .f32} {harg5 : arg5.IsWhole} {arg6 : Memref sig .tc .vmem S128x2048 .f32} {harg6 : arg6.IsWhole} {arg7 : Memref sig .tc .vmem S128x2048 .f32} {harg7 : arg7.IsWhole} {arg8 : Memref sig .tc .vmem S128x2048 .f32} {harg8 : arg8.IsWhole} {arg9 : Memref sig .tc .vmem S16x2x128x128 .f32} {harg9 : arg9.IsWhole} {arg10 : Memref sig .tc .vmem S16x128x128 .f32} {harg10 : arg10.IsWhole} {X_arg2 : arg2.view.ty.Contents (Elt Ideal)} {X_arg3 : arg3.view.ty.Contents (Elt Ideal)} {X_arg4 : arg4.view.ty.Contents (Elt Ideal)} {X_arg5 : arg5.view.ty.Contents (Elt Ideal)} {X_arg6 : arg6.view.ty.Contents (Elt Ideal)} {X_arg7 : arg7.view.ty.Contents (Elt Ideal)} {init : FVec Ideal S16x128x128 .f32}
    (i2 : Blk (arg2.view.read (Elt Ideal) X_arg2) m d.r)
    (i3 : Blk (arg3.view.read (Elt Ideal) X_arg3) m d.lw)
    (i4 : Blk (arg4.view.read (Elt Ideal) X_arg4) m d.k)
    (i5 : Blk (arg5.view.read (Elt Ideal) X_arg5) m d.v)
    (i6 : Blk (arg6.view.read (Elt Ideal) X_arg6) m d.a)
    (i7 : Blk (arg7.view.read (Elt Ideal) X_arg7) m d.b)
    (hm : m = 64 * q) (hS : S init (fun g h => d.St (hd g h) (64 * (q + 0)))) (hZ : SZ init) (n : ℕ) (hn : n ≤ k0_t1_loop.trips) :
    S (st_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 init n).1 (fun g h => d.St (hd g h) (64 * (q + n))) ∧ SZ (st_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 init n).1 ∧ (∀ p ∈ (st_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 init n).2.1, Rows (fun x y => flat d.yRow (m + x) y) p) ∧ (∀ p ∈ (st_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 init n).2.2, Slabs (fun x g h => d.St (hd g h) (64 * (q + x))) p) := by
  induction n with
  | zero => exact ⟨hS, hZ, fun p hp => absurd hp List.not_mem_nil, fun p hp => absurd hp List.not_mem_nil⟩
  | succ n ih =>
    have ih := ih (Nat.le_of_succ_le hn)
    have hn2 : n < 2 := Nat.lt_of_lt_of_le hn k0_t1_abs.2.1
    rw [show (st_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 init (n + 1)) = _ from st_k0_t1_succ 𝒱 c bd i arg2 harg2 arg3 harg3 arg4 harg4 arg5 harg5 arg6 harg6 arg7 harg7 arg8 harg8 arg9 harg9 arg10 harg10 X_arg2 X_arg3 X_arg4 X_arg5 X_arg6 X_arg7 init ⟨n, hn⟩]
    have hk : m + 64 * n = 64 * (q + n) := by omega
    obtain ⟨h1, h2, h3, h4⟩ := k0_trip (𝒱 := 𝒱) (c := c) (bd := bd) (i := i) (harg2 := harg2) (harg3 := harg3) (harg4 := harg4) (harg5 := harg5) (harg6 := harg6) (harg7 := harg7) (harg8 := harg8) (harg9 := harg9) (harg10 := harg10) (C := fun g h => d.chunk (q + n) (hd g h)) (k := ⟨n, hn⟩)
      (LD_of i2 hk) (LD_of i3 hk) (LD_of i4 hk) (LD_of i5 hk) (LD_of i6 hk) (LD_of i7 hk) ih.1 ih.2.1
      (φ := fun x y => flat d.yRow (m + x) y) (σ := fun x g h => d.St (hd g h) (64 * (q + x)))
      (fun g h t i => (d.chunk_y (q + n) (hd g h) t i).trans (flat_chunk d.yRow hk g h t i)) rfl
    rw [show (fun g h => (d.chunk (q + n) (hd g h)).s') = (fun g h => d.St (hd g h) (64 * (q + (n + 1)))) from funext fun g => funext fun h => d.chunk_last _ _] at h1
    exact ⟨h1, h2, fun p hp => (List.mem_append.mp hp).elim (h3 p) (ih.2.2.1 p), fun p hp => (List.mem_append.mp hp).elim (h4 p) (ih.2.2.2 p)⟩

theorem fwdFirst_ok {d : Inputs} {m q : ℕ} {c : Dev nD} {i : grid0.Coords} {arg2 : Memref sig .tc .vmem S128x2048 .f32} {harg2 : arg2.IsWhole} {arg3 : Memref sig .tc .vmem S128x2048 .f32} {harg3 : arg3.IsWhole} {arg4 : Memref sig .tc .vmem S128x2048 .f32} {harg4 : arg4.IsWhole} {arg5 : Memref sig .tc .vmem S128x2048 .f32} {harg5 : arg5.IsWhole} {arg6 : Memref sig .tc .vmem S128x2048 .f32} {harg6 : arg6.IsWhole} {arg7 : Memref sig .tc .vmem S128x2048 .f32} {harg7 : arg7.IsWhole} {arg8 : Memref sig .tc .vmem S128x2048 .f32} {harg8 : arg8.IsWhole} {arg9 : Memref sig .tc .vmem S16x2x128x128 .f32} {harg9 : arg9.IsWhole} {arg10 : Memref sig .tc .vmem S16x128x128 .f32} {harg10 : arg10.IsWhole} {x0 : Vec Ideal S128x2048 .f32} {x1 : Vec Ideal S128x2048 .f32} {x2 : Vec Ideal S128x2048 .f32} {x3 : Vec Ideal S128x2048 .f32} {x4 : Vec Ideal S128x2048 .f32} {x5 : Vec Ideal S128x2048 .f32} (hc : fwdCond i)
    (i2 : Blk x0 m d.r)
    (i3 : Blk x1 m d.lw)
    (i4 : Blk x2 m d.k)
    (i5 : Blk x3 m d.v)
    (i6 : Blk x4 m d.a)
    (i7 : Blk x5 m d.b)
    (hm : m = 64 * q) (hz : q = 0) :
    (∀ p ∈ (fwdFirst (F := Ideal) c i arg2 harg2 arg3 harg3 arg4 harg4 arg5 harg5 arg6 harg6 arg7 harg7 arg8 harg8 arg9 harg9 arg10 harg10 hc x0 x1 x2 x3 x4 x5).1, Rows (fun x y => flat d.yRow (m + x) y) p) ∧ (∀ p ∈ (fwdFirst (F := Ideal) c i arg2 harg2 arg3 harg3 arg4 harg4 arg5 harg5 arg6 harg6 arg7 harg7 arg8 harg8 arg9 harg9 arg10 harg10 hc x0 x1 x2 x3 x4 x5).2.1, Slabs (fun x g h => d.St (hd g h) (64 * (q + x))) p) ∧
      ∃ X L, (fwdFirst (F := Ideal) c i arg2 harg2 arg3 harg3 arg4 harg4 arg5 harg5 arg6 harg6 arg7 harg7 arg8 harg8 arg9 harg9 arg10 harg10 hc x0 x1 x2 x3 x4 x5).2.2.1 = ⟨Rect.unit (s := S16x128x128) ![0, 0, 0] S16x128x128.size inb_S16x128x128_S16x128x128_0_0_0, X⟩ :: L ∧ S X (fun g h => d.St (hd g h) (64 * (q + 2))) ∧ SZ X := by
  have e : (fwdFirst.sl.v3 (F := Ideal) c arg10 : FVec Ideal S16x128x128 .f32) = k0_pay1 (F := Ideal) := by
    unfold fwdFirst.sl.v3 fwdFirst.sl.HS_1
    exact readCov_scr _ _
  have hS : S (fwdFirst.sl.v3 (F := Ideal) c arg10) (fun g h => d.St (hd g h) (64 * (q + 0))) := by
    rw [e]
    exact S_zero zero_at0 fun g h i j => by
      subst_vars
      rw [show 64 * (0 + 0) = 0 from rfl, d.St_zero]; rfl
  have hZ : SZ (fwdFirst.sl.v3 (F := Ideal) c arg10) := by
    rw [e]
    exact SZ_zero zero_at0
  unfold fwdFirst
  have H := k0_loop (𝒱 := Variants.none) (bd := none) (c := c) (i := i) (harg2 := harg2) (harg3 := harg3) (harg4 := harg4) (harg5 := harg5) (harg6 := harg6) (harg7 := harg7) (harg8 := harg8) (harg9 := harg9) (harg10 := harg10)
    (X_arg2 := harg2.unread x0) (X_arg3 := harg3.unread x1) (X_arg4 := harg4.unread x2) (X_arg5 := harg5.unread x3) (X_arg6 := harg6.unread x4) (X_arg7 := harg7.unread x5)
    (by rw [harg2.read_unread]; exact i2) (by rw [harg3.read_unread]; exact i3) (by rw [harg4.read_unread]; exact i4) (by rw [harg5.read_unread]; exact i5) (by rw [harg6.read_unread]; exact i6) (by rw [harg7.read_unread]; exact i7)
    hm hS hZ _ (le_refl _)
  rw [show k0_t1_loop.trips = 2 from trips0] at H
  dsimp only
  rw [trips0]
  refine ⟨H.2.2.1, H.2.2.2, _, _, rfl, ?_⟩
  rw [scr_at0]
  exact ⟨H.1, H.2.1⟩

theorem fwdNext_ok {d : Inputs} {m q : ℕ} {c : Dev nD} {i : grid0.Coords} {arg2 : Memref sig .tc .vmem S128x2048 .f32} {harg2 : arg2.IsWhole} {arg3 : Memref sig .tc .vmem S128x2048 .f32} {harg3 : arg3.IsWhole} {arg4 : Memref sig .tc .vmem S128x2048 .f32} {harg4 : arg4.IsWhole} {arg5 : Memref sig .tc .vmem S128x2048 .f32} {harg5 : arg5.IsWhole} {arg6 : Memref sig .tc .vmem S128x2048 .f32} {harg6 : arg6.IsWhole} {arg7 : Memref sig .tc .vmem S128x2048 .f32} {harg7 : arg7.IsWhole} {arg8 : Memref sig .tc .vmem S128x2048 .f32} {harg8 : arg8.IsWhole} {arg9 : Memref sig .tc .vmem S16x2x128x128 .f32} {harg9 : arg9.IsWhole} {arg10 : Memref sig .tc .vmem S16x128x128 .f32} {harg10 : arg10.IsWhole} {x0 : Vec Ideal S128x2048 .f32} {x1 : Vec Ideal S128x2048 .f32} {x2 : Vec Ideal S128x2048 .f32} {x3 : Vec Ideal S128x2048 .f32} {x4 : Vec Ideal S128x2048 .f32} {x5 : Vec Ideal S128x2048 .f32} {xs : Vec Ideal S16x128x128 .f32} (hc : ¬fwdCond i)
    (i2 : Blk x0 m d.r)
    (i3 : Blk x1 m d.lw)
    (i4 : Blk x2 m d.k)
    (i5 : Blk x3 m d.v)
    (i6 : Blk x4 m d.a)
    (i7 : Blk x5 m d.b)
    (hm : m = 64 * q) (hS : S xs (fun g h => d.St (hd g h) (64 * (q + 0)))) (hZ : SZ xs) :
    (∀ p ∈ (fwdNext (F := Ideal) c i arg2 harg2 arg3 harg3 arg4 harg4 arg5 harg5 arg6 harg6 arg7 harg7 arg8 harg8 arg9 harg9 arg10 harg10 hc x0 x1 x2 x3 x4 x5 xs).1, Rows (fun x y => flat d.yRow (m + x) y) p) ∧ (∀ p ∈ (fwdNext (F := Ideal) c i arg2 harg2 arg3 harg3 arg4 harg4 arg5 harg5 arg6 harg6 arg7 harg7 arg8 harg8 arg9 harg9 arg10 harg10 hc x0 x1 x2 x3 x4 x5 xs).2.1, Slabs (fun x g h => d.St (hd g h) (64 * (q + x))) p) ∧
      ∃ X L, (fwdNext (F := Ideal) c i arg2 harg2 arg3 harg3 arg4 harg4 arg5 harg5 arg6 harg6 arg7 harg7 arg8 harg8 arg9 harg9 arg10 harg10 hc x0 x1 x2 x3 x4 x5 xs).2.2.1 = ⟨Rect.unit (s := S16x128x128) ![0, 0, 0] S16x128x128.size inb_S16x128x128_S16x128x128_0_0_0, X⟩ :: L ∧ S X (fun g h => d.St (hd g h) (64 * (q + 2))) ∧ SZ X := by
  have e : View.readAt (Elt Ideal) arg10.view (Rect.unit ![0, 0, 0] S16x128x128.size inb_S16x128x128_S16x128x128_0_0_0).toLoadRect (harg10.unread xs) = xs :=
    read_scr.trans (harg10.read_unread xs)
  rw [← e] at hS hZ
  unfold fwdNext
  have H := k0_loop (𝒱 := Variants.none) (bd := none) (c := c) (i := i) (harg2 := harg2) (harg3 := harg3) (harg4 := harg4) (harg5 := harg5) (harg6 := harg6) (harg7 := harg7) (harg8 := harg8) (harg9 := harg9) (harg10 := harg10)
    (X_arg2 := harg2.unread x0) (X_arg3 := harg3.unread x1) (X_arg4 := harg4.unread x2) (X_arg5 := harg5.unread x3) (X_arg6 := harg6.unread x4) (X_arg7 := harg7.unread x5)
    (by rw [harg2.read_unread]; exact i2) (by rw [harg3.read_unread]; exact i3) (by rw [harg4.read_unread]; exact i4) (by rw [harg5.read_unread]; exact i5) (by rw [harg6.read_unread]; exact i6) (by rw [harg7.read_unread]; exact i7)
    hm hS hZ _ (le_refl _)
  rw [show k0_t1_loop.trips = 2 from trips0] at H
  dsimp only
  rw [trips0]
  refine ⟨H.2.2.1, H.2.2.2, _, _, rfl, ?_⟩
  rw [scr_at0]
  exact ⟨H.1, H.2.1⟩

/-- What a point leaves: its rows of the results, and the state it hands on. -/
def FwdOK (d : Inputs) (m q : ℕ) (o : FwdOut Ideal) : Prop :=
  Blk o.o0 m (flat d.yRow) ∧ BlkS o.o1 d q ∧ S o.st (fun g h => d.St (hd g h) (64 * (q + 2))) ∧ SZ o.st

variable (W : Dev nD → Valuation τ sig (Elt Ideal))

/-- The blocks a point reads. -/
def fwdIn (d : Inputs) (c : Dev nD) (t : Fin cfg0.N) (m q : ℕ) : Prop :=
  Blk (fwdBlk W c 0 t) m d.r ∧ Blk (fwdBlk W c 1 t) m d.lw ∧ Blk (fwdBlk W c 2 t) m d.k ∧ Blk (fwdBlk W c 3 t) m d.v ∧ Blk (fwdBlk W c 4 t) m d.a ∧ Blk (fwdBlk W c 5 t) m d.b

theorem fwdOutA_ok {d : Inputs} {m q : ℕ} (c : Dev nD) (t : Fin cfg0.N) (hc : fwdCond (grid0.coords t)) (hI : fwdIn W d c t m q)
    (hm : m = 64 * q) (hz : q = 0) : FwdOK d m q (fwdOutA W c t hc) := by
  obtain ⟨h0, h1, h2, h3, h4, h5⟩ := hI
  obtain ⟨l0, l1, X, L, e, hX, hXZ⟩ := fwdFirst_ok (c := c) (i := grid0.coords t) (harg2 := fwdMW0 t) (harg3 := fwdMW1 t) (harg4 := fwdMW2 t) (harg5 := fwdMW3 t) (harg6 := fwdMW4 t) (harg7 := fwdMW5 t) (harg8 := fwdMW6 t) (harg9 := fwdMW7 t) (harg10 := Memref.isWhole_whole cc0_scratch0) hc h0 h1 h2 h3 h4 h5 hm hz
  have es : (fwdOutA W c t hc).st = X := by
    dsimp only [fwdOutA, fwdRead]
    rw [View.read_writes_junk_eq_canon, e, canon_scr]
  refine ⟨Blk_of (fwdFirst_cover0 _ _ _ _ _ _ _ _ _ _ _ _ _ _ _ _ _ _ _ _ hc _ _ _ _ _ _) l0, BlkS_of (fwdFirst_cover1 _ _ _ _ _ _ _ _ _ _ _ _ _ _ _ _ _ _ _ _ hc _ _ _ _ _ _) l1, ?_, ?_⟩
  · rw [es]; exact hX
  · rw [es]; exact hXZ

theorem fwdOutB_ok {d : Inputs} {m q : ℕ} (c : Dev nD) (t : Fin cfg0.N) (hc : ¬fwdCond (grid0.coords t)) (xs : Vec Ideal S16x128x128 .f32) (hI : fwdIn W d c t m q)
    (hm : m = 64 * q) (hS : S xs (fun g h => d.St (hd g h) (64 * (q + 0)))) (hZ : SZ xs) : FwdOK d m q (fwdOutB W c t hc xs) := by
  obtain ⟨h0, h1, h2, h3, h4, h5⟩ := hI
  obtain ⟨l0, l1, X, L, e, hX, hXZ⟩ := fwdNext_ok (c := c) (i := grid0.coords t) (harg2 := fwdMW0 t) (harg3 := fwdMW1 t) (harg4 := fwdMW2 t) (harg5 := fwdMW3 t) (harg6 := fwdMW4 t) (harg7 := fwdMW5 t) (harg8 := fwdMW6 t) (harg9 := fwdMW7 t) (harg10 := Memref.isWhole_whole cc0_scratch0) hc h0 h1 h2 h3 h4 h5 hm hS hZ
  have es : (fwdOutB W c t hc xs).st = X := by
    dsimp only [fwdOutB, fwdRead]
    rw [View.read_writes_junk_eq_canon, e, canon_scr]
  refine ⟨Blk_of (fwdNext_cover0 _ _ _ _ _ _ _ _ _ _ _ _ _ _ _ _ _ _ _ _ hc _ _ _ _ _ _ xs) l0, BlkS_of (fwdNext_cover1 _ _ _ _ _ _ _ _ _ _ _ _ _ _ _ _ _ _ _ _ hc _ _ _ _ _ _ xs) l1, ?_, ?_⟩
  · rw [es]; exact hX
  · rw [es]; exact hXZ

theorem fwdAt_ok {d : Inputs} (c : Dev nD) (hI : ∀ t : Fin cfg0.N, fwdIn W d c t (128 * t.val) (2 * t.val)) :
    ∀ (n : ℕ) (hn : n < cfg0.N), FwdOK d (128 * n) (2 * n) (fwdAt W c n hn)
  | 0, hn => fwdOutA_ok W c ⟨0, hn⟩ _ (hI ⟨0, hn⟩) (by omega) rfl
  | n + 1, hn => by
    have ih := fwdAt_ok c hI n (Nat.lt_of_succ_lt hn)
    exact fwdOutB_ok W c ⟨n + 1, hn⟩ _ _ (hI ⟨n + 1, hn⟩) (by omega) ih.2.2.1 ih.2.2.2

end Cert.KernelIdeal.Val
-- ==== Proof.Vals0.lean ====
module

public import proofs.«01_k».proof.Proof.Reg0
public import Idealize.ShloMosaic.Lib.Pipeline.ValueKit

@[expose] public section

set_option maxRecDepth 16384

noncomputable section

namespace Cert.KernelIdeal.Val

open Idealize.ShloMosaic Idealize.ShloMosaic.TcCoe
open Cert.KernelIdeal Cert.KernelIdeal.Gen Cert.Rwkv Cert.KernelIdeal.Rec

theorem fwdIdx0 : ∀ t : Fin cfg0.N, win0_0.index t 0 = t.val ∧ win0_0.index t 1 = 0 :=
  (by decide +kernel : ∀ t : Fin grid0.N, win0_0.index t 0 = t.val ∧ win0_0.index t 1 = 0)

theorem fwdIdx1 : ∀ t : Fin cfg0.N, win0_1.index t 0 = t.val ∧ win0_1.index t 1 = 0 :=
  (by decide +kernel : ∀ t : Fin grid0.N, win0_1.index t 0 = t.val ∧ win0_1.index t 1 = 0)

theorem fwdIdx2 : ∀ t : Fin cfg0.N, win0_2.index t 0 = t.val ∧ win0_2.index t 1 = 0 :=
  (by decide +kernel : ∀ t : Fin grid0.N, win0_2.index t 0 = t.val ∧ win0_2.index t 1 = 0)

theorem fwdIdx3 : ∀ t : Fin cfg0.N, win0_3.index t 0 = t.val ∧ win0_3.index t 1 = 0 :=
  (by decide +kernel : ∀ t : Fin grid0.N, win0_3.index t 0 = t.val ∧ win0_3.index t 1 = 0)

theorem fwdIdx4 : ∀ t : Fin cfg0.N, win0_4.index t 0 = t.val ∧ win0_4.index t 1 = 0 :=
  (by decide +kernel : ∀ t : Fin grid0.N, win0_4.index t 0 = t.val ∧ win0_4.index t 1 = 0)

theorem fwdIdx5 : ∀ t : Fin cfg0.N, win0_5.index t 0 = t.val ∧ win0_5.index t 1 = 0 :=
  (by decide +kernel : ∀ t : Fin grid0.N, win0_5.index t 0 = t.val ∧ win0_5.index t 1 = 0)

theorem fwdIdx6 : ∀ t : Fin cfg0.N, win0_6.index t 0 = t.val ∧ win0_6.index t 1 = 0 :=
  (by decide +kernel : ∀ t : Fin grid0.N, win0_6.index t 0 = t.val ∧ win0_6.index t 1 = 0)

theorem fwdIdx7 : ∀ t : Fin cfg0.N, win0_7.index t 0 = 0 ∧ win0_7.index t 1 = t.val ∧ win0_7.index t 2 = 0 ∧ win0_7.index t 3 = 0 :=
  (by decide +kernel : ∀ t : Fin grid0.N, win0_7.index t 0 = 0 ∧ win0_7.index t 1 = t.val ∧ win0_7.index t 2 = 0 ∧ win0_7.index t 3 = 0)

theorem fwdLt (t : Fin cfg0.N) : t.val < 32 := lt_of_lt_of_eq t.isLt N_0

variable (W : Dev nD → Valuation τ sig (Elt Ideal))

theorem fwdBlk0 {ρ : ℕ → ℕ → ℝ} (c : Dev nD) (t : Fin cfg0.N)
    (h : ∀ (x : Fin 4096) (y : Fin 2048), W c (Proc.devRef .tc main_arg0) (ix2 x y) = ((ρ x.val y.val : ℝ) : EReal)) :
    Blk (fwdBlk W c 0 t) (128 * (t.val)) ρ := by
  intro x y
  have ht := fwdLt t
  refine Eq.trans ?_ (h ⟨128 * (t.val) + x.val, by omega⟩ y)
  blk_ext [fwdBlk, fwdIdx0 t]

theorem fwdBlk1 {ρ : ℕ → ℕ → ℝ} (c : Dev nD) (t : Fin cfg0.N)
    (h : ∀ (x : Fin 4096) (y : Fin 2048), W c (Proc.devRef .tc main_arg1) (ix2 x y) = ((ρ x.val y.val : ℝ) : EReal)) :
    Blk (fwdBlk W c 1 t) (128 * (t.val)) ρ := by
  intro x y
  have ht := fwdLt t
  refine Eq.trans ?_ (h ⟨128 * (t.val) + x.val, by omega⟩ y)
  blk_ext [fwdBlk, fwdIdx1 t]

theorem fwdBlk2 {ρ : ℕ → ℕ → ℝ} (c : Dev nD) (t : Fin cfg0.N)
    (h : ∀ (x : Fin 4096) (y : Fin 2048), W c (Proc.devRef .tc main_arg2) (ix2 x y) = ((ρ x.val y.val : ℝ) : EReal)) :
    Blk (fwdBlk W c 2 t) (128 * (t.val)) ρ := by
  intro x y
  have ht := fwdLt t
  refine Eq.trans ?_ (h ⟨128 * (t.val) + x.val, by omega⟩ y)
  blk_ext [fwdBlk, fwdIdx2 t]

theorem fwdBlk3 {ρ : ℕ → ℕ → ℝ} (c : Dev nD) (t : Fin cfg0.N)
    (h : ∀ (x : Fin 4096) (y : Fin 2048), W c (Proc.devRef .tc main_arg3) (ix2 x y) = ((ρ x.val y.val : ℝ) : EReal)) :
    Blk (fwdBlk W c 3 t) (128 * (t.val)) ρ := by
  intro x y
  have ht := fwdLt t
  refine Eq.trans ?_ (h ⟨128 * (t.val) + x.val, by omega⟩ y)
  blk_ext [fwdBlk, fwdIdx3 t]

theorem fwdBlk4 {ρ : ℕ → ℕ → ℝ} (c : Dev nD) (t : Fin cfg0.N)
    (h : ∀ (x : Fin 4096) (y : Fin 2048), W c (Proc.devRef .tc main_arg4) (ix2 x y) = ((ρ x.val y.val : ℝ) : EReal)) :
    Blk (fwdBlk W c 4 t) (128 * (t.val)) ρ := by
  intro x y
  have ht := fwdLt t
  refine Eq.trans ?_ (h ⟨128 * (t.val) + x.val, by omega⟩ y)
  blk_ext [fwdBlk, fwdIdx4 t]

theorem fwdBlk5 {ρ : ℕ → ℕ → ℝ} (c : Dev nD) (t : Fin cfg0.N)
    (h : ∀ (x : Fin 4096) (y : Fin 2048), W c (Proc.devRef .tc main_arg5) (ix2 x y) = ((ρ x.val y.val : ℝ) : EReal)) :
    Blk (fwdBlk W c 5 t) (128 * (t.val)) ρ := by
  intro x y
  have ht := fwdLt t
  refine Eq.trans ?_ (h ⟨128 * (t.val) + x.val, by omega⟩ y)
  blk_ext [fwdBlk, fwdIdx5 t]

theorem fwdIns {d : Inputs} (c : Dev nD)
    (h0 : ∀ (x : Fin 4096) (y : Fin 2048), W c (Proc.devRef .tc main_arg0) (ix2 x y) = ((d.r x.val y.val : ℝ) : EReal))
    (h1 : ∀ (x : Fin 4096) (y : Fin 2048), W c (Proc.devRef .tc main_arg1) (ix2 x y) = ((d.lw x.val y.val : ℝ) : EReal))
    (h2 : ∀ (x : Fin 4096) (y : Fin 2048), W c (Proc.devRef .tc main_arg2) (ix2 x y) = ((d.k x.val y.val : ℝ) : EReal))
    (h3 : ∀ (x : Fin 4096) (y : Fin 2048), W c (Proc.devRef .tc main_arg3) (ix2 x y) = ((d.v x.val y.val : ℝ) : EReal))
    (h4 : ∀ (x : Fin 4096) (y : Fin 2048), W c (Proc.devRef .tc main_arg4) (ix2 x y) = ((d.a x.val y.val : ℝ) : EReal))
    (h5 : ∀ (x : Fin 4096) (y : Fin 2048), W c (Proc.devRef .tc main_arg5) (ix2 x y) = ((d.b x.val y.val : ℝ) : EReal)) (t : Fin cfg0.N) : fwdIn W d c t (128 * (t.val)) (2 * (t.val)) :=
  ⟨fwdBlk0 W c t h0, fwdBlk1 W c t h1, fwdBlk2 W c t h2, fwdBlk3 W c t h3, fwdBlk4 W c t h4, fwdBlk5 W c t h5⟩

theorem fwdArr6 {d : Inputs} (c : Dev nD) (hI : ∀ t : Fin cfg0.N, fwdIn W d c t (128 * (t.val)) (2 * (t.val))) :
    (fwdDat W c).arrAt 6 cfg0.N = fun x => ((flat d.yRow (x 0).val (x 1).val : ℝ) : EReal) := by
  refine (fwdDat W c).arrAt_eq_of_covers 6 _ (by decide +kernel) fun t _ y => ?_
  blk_simp
  rw [fwdAfter6]
  have hok := (fwdAt_ok W c hI t.val t.isLt).1
  rw [show y = ix2 (y 0) (y 1) from by funext a; fin_cases a <;> rfl]
  refine (hok _ _).trans ?_
  have hi := fwdIdx6 t
  refine congrArg (fun r : ℝ => (r : EReal)) (congrArg₂ (flat d.yRow) ?_ ?_)
  · blk_simp [hi]
    omega
  · blk_simp [hi]

theorem fwdArr7 {d : Inputs} (c : Dev nD) (hI : ∀ t : Fin cfg0.N, fwdIn W d c t (128 * (t.val)) (2 * (t.val))) (x : S16x64x128x128.Idx) :
    ∀ g (p : Fin 64) h h' i j, x = ix4 g p (lane h i) (lane h' j) → (fwdDat W c).arrAt 7 cfg0.N x = if h' = h then ((d.St (hd g h) (64 * p.val) i j : ℝ) : EReal) else 0 := by
  refine (fwdDat W c).arrAt_forall_of_covers 7 (fun x v => ∀ g (p : Fin 64) h h' i j, x = ix4 g p (lane h i) (lane h' j) → v = if h' = h then ((d.St (hd g h) (64 * p.val) i j : ℝ) : EReal) else 0)
    (by decide +kernel) (fun t _ y => ?_) x
  intro g p h h' i j e
  blk_simp
  rw [fwdAfter7]
  have hok := (fwdAt_ok W c hI t.val t.isLt).2.1
  have ht := fwdLt t
  have hi := fwdIdx7 t
  have e0 := congrArg (fun z => (z 0).val) e
  have e1 := congrArg (fun z => (z 1).val) e
  have e2 := congrArg (fun z => (z 2).val) e
  have e3 := congrArg (fun z => (z 3).val) e
  blk_simp [hi] at e0 e1 e2 e3
  have hy : y = ix4 g (y 1) (lane h i) (lane h' j) := by
    funext a
    fin_cases a
    · exact Fin.ext e0
    · rfl
    · exact Fin.ext e2
    · exact Fin.ext e3
  refine (congrArg (fwdAt W c t.val t.isLt).o1 hy).trans ((hok g (y 1) h h' i j).trans ?_)
  rw [show 2 * t.val + (y 1).val = p.val by omega]

end Cert.KernelIdeal.Val
-- ==== Proof.Pay1.lean ====
module

public import proofs.«01_k».proof.Proof.Pay0

@[expose] public section

set_option maxRecDepth 16384

noncomputable section

namespace Cert.KernelIdeal.Val

open Idealize.ShloMosaic Idealize.ShloMosaic.TcCoe
open Cert.KernelIdeal Cert.KernelIdeal.Gen Cert.Rwkv

variable {C : Fin 16 → Fin 2 → Chunk}

theorem k1_pay44_MI : MI k1_pay44 := k0_pay20_MI

theorem k1_pay45_MS : MS k1_pay45 := k0_pay21_MS

theorem k1_pay46_K : K (k1_pay46 (F := Ideal)) LI := fun g s t => by
  refine (lowone_at g s t).trans ?_
  unfold LI
  split <;> simp

theorem k1_pay47_T {v174 : FVec Ideal S16x64x128 .f32} (h174 : T v174 (fun g h => (C g h).lw)) :
    T (k1_pay47 v174) (fun g h => (C g h).cum) := by
  unfold k1_pay47
  exact (T_add (T_d1 (k1_pay46_K) (T_trunc h174 _)) (T_d1 (k1_pay46_K) (T_trunc (T_sub h174 (T_ext (T_trunc h174 _) _)) _)))

theorem k1_pay48_ON : ON (k1_pay48 (F := Ideal)) := k0_pay23_ON

theorem k1_pay49_S {v174 : FVec Ideal S16x64x128 .f32} (h174 : T v174 (fun g h => (C g h).lw)) :
    S (k1_pay49 v174) (fun g h => (C g h).tot) := by
  unfold k1_pay49
  exact (S_add (S_d2 (k1_pay48_ON) (T_trunc h174 _)) (S_d2 (k1_pay48_ON) (T_trunc (T_sub h174 (T_ext (T_trunc h174 _) _)) _)))

theorem k1_pay50_T   :
    T (k1_pay50 (F := Ideal)) (fun g h => 0) := by
  unfold k1_pay50
  exact T_zero

theorem k1_pay51_T {v386 : FVec Ideal S16x64x128 .f32} {v395 : FVec Ideal S16x64x128 .f32} (h386 : T v386 (fun g h => (C g h).cum)) (h395 : T v395 (fun g h => 0)) :
    T (k1_pay51 v386 v395) (fun g h => (C g h).en) := by
  unfold k1_pay51
  exact (T_exp (T_sub h395 h386))

theorem k1_pay52_T {v174 : FVec Ideal S16x64x128 .f32} {v386 : FVec Ideal S16x64x128 .f32} (h174 : T v174 (fun g h => (C g h).lw)) (h386 : T v386 (fun g h => (C g h).cum)) :
    T (k1_pay52 v174 v386) (fun g h => (C g h).ep) := by
  unfold k1_pay52
  exact (T_exp (T_sub h386 h174))

theorem k1_pay53_T {v174 : FVec Ideal S16x64x128 .f32} {v321 : FVec Ideal S16x64x128 .f32} {v386 : FVec Ideal S16x64x128 .f32} (h174 : T v174 (fun g h => (C g h).lw)) (h321 : T v321 (fun g h => (C g h).a)) (h386 : T v386 (fun g h => (C g h).cum)) :
    T (k1_pay53 v174 v321 v386) (fun g h => (C g h).at') := by
  unfold k1_pay53
  exact (T_mul h321 (k1_pay52_T h174 h386))

theorem k1_pay54_T {v370 : FVec Ideal S16x64x128 .f32} {v386 : FVec Ideal S16x64x128 .f32} {v395 : FVec Ideal S16x64x128 .f32} (h370 : T v370 (fun g h => (C g h).b)) (h386 : T v386 (fun g h => (C g h).cum)) (h395 : T v395 (fun g h => 0)) :
    T (k1_pay54 v370 v386 v395) (fun g h => (C g h).bt) := by
  unfold k1_pay54
  exact (T_mul h370 (k1_pay51_T h386 h395))

theorem k1_pay55_T {v223 : FVec Ideal S16x64x128 .f32} {v386 : FVec Ideal S16x64x128 .f32} {v395 : FVec Ideal S16x64x128 .f32} (h223 : T v223 (fun g h => (C g h).k)) (h386 : T v386 (fun g h => (C g h).cum)) (h395 : T v395 (fun g h => 0)) :
    T (k1_pay55 v223 v386 v395) (fun g h => (C g h).kt) := by
  unfold k1_pay55
  exact (T_mul h223 (k1_pay51_T h386 h395))

theorem k1_pay56_T {v386 : FVec Ideal S16x64x128 .f32} (h386 : T v386 (fun g h => (C g h).cum)) :
    T (k1_pay56 v386) (fun g h => (C g h).ec) := by
  unfold k1_pay56
  exact (T_exp h386)

theorem k1_pay57_T {v125 : FVec Ideal S16x64x128 .f32} {v386 : FVec Ideal S16x64x128 .f32} (h125 : T v125 (fun g h => (C g h).r)) (h386 : T v386 (fun g h => (C g h).cum)) :
    T (k1_pay57 v125 v386) (fun g h => (C g h).rt) := by
  unfold k1_pay57
  exact (T_mul h125 (k1_pay56_T h386))

theorem k1_pay58_HM : HM (k1_pay58 (F := Ideal)) := k0_pay33_HM

theorem k1_pay59_B {v370 : FVec Ideal S16x64x128 .f32} {v386 : FVec Ideal S16x64x128 .f32} {v395 : FVec Ideal S16x64x128 .f32} (h370 : T v370 (fun g h => (C g h).b)) (h386 : T v386 (fun g h => (C g h).cum)) (h395 : T v395 (fun g h => 0)) :
    B (k1_pay59 v370 v386 v395) (fun g h => (C g h).bt) := by
  unfold k1_pay59
  exact (B_both (k1_pay54_T h370 h386 h395))

theorem k1_pay60_B {v223 : FVec Ideal S16x64x128 .f32} {v386 : FVec Ideal S16x64x128 .f32} {v395 : FVec Ideal S16x64x128 .f32} (h223 : T v223 (fun g h => (C g h).k)) (h386 : T v386 (fun g h => (C g h).cum)) (h395 : T v395 (fun g h => 0)) :
    B (k1_pay60 v223 v386 v395) (fun g h => (C g h).kt) := by
  unfold k1_pay60
  exact (B_both (k1_pay55_T h223 h386 h395))

theorem k1_pay61_B {v272 : FVec Ideal S16x64x128 .f32} (h272 : T v272 (fun g h => (C g h).v)) :
    B (k1_pay61 v272) (fun g h => (C g h).v) := by
  unfold k1_pay61
  exact (B_both h272)

theorem k1_pay62_B {v174 : FVec Ideal S16x64x128 .f32} {v321 : FVec Ideal S16x64x128 .f32} {v386 : FVec Ideal S16x64x128 .f32} (h174 : T v174 (fun g h => (C g h).lw)) (h321 : T v321 (fun g h => (C g h).a)) (h386 : T v386 (fun g h => (C g h).cum)) :
    B (k1_pay62 v174 v321 v386) (fun g h => (C g h).at') := by
  unfold k1_pay62
  exact (B_perhead (k1_pay58_HM) (k1_pay53_T h174 h321 h386))

theorem k1_pay62_BZ {v174 : FVec Ideal S16x64x128 .f32} {v321 : FVec Ideal S16x64x128 .f32} {v386 : FVec Ideal S16x64x128 .f32} (h174 : T v174 (fun g h => (C g h).lw)) (h321 : T v321 (fun g h => (C g h).a)) (h386 : T v386 (fun g h => (C g h).cum)) :
    BZ (k1_pay62 v174 v321 v386) := by
  unfold k1_pay62
  exact (BZ_perhead (k1_pay58_HM))

theorem k1_pay63_B {v125 : FVec Ideal S16x64x128 .f32} {v386 : FVec Ideal S16x64x128 .f32} (h125 : T v125 (fun g h => (C g h).r)) (h386 : T v386 (fun g h => (C g h).cum)) :
    B (k1_pay63 v125 v386) (fun g h => (C g h).rt) := by
  unfold k1_pay63
  exact (B_perhead (k1_pay58_HM) (k1_pay57_T h125 h386))

theorem k1_pay63_BZ {v125 : FVec Ideal S16x64x128 .f32} {v386 : FVec Ideal S16x64x128 .f32} (h125 : T v125 (fun g h => (C g h).r)) (h386 : T v386 (fun g h => (C g h).cum)) :
    BZ (k1_pay63 v125 v386) := by
  unfold k1_pay63
  exact (BZ_perhead (k1_pay58_HM))

theorem k1_pay64_T {v76 : FVec Ideal S16x128x128 .f32} {v174 : FVec Ideal S16x64x128 .f32} {v321 : FVec Ideal S16x64x128 .f32} {v386 : FVec Ideal S16x64x128 .f32} (h76 : S v76 (fun g h => (C g h).s)) (h76SZ : SZ v76) (h174 : T v174 (fun g h => (C g h).lw)) (h321 : T v321 (fun g h => (C g h).a)) (h386 : T v386 (fun g h => (C g h).cum)) :
    T (k1_pay64 v76 v174 v321 v386) (fun g h => (C g h).base) := by
  unfold k1_pay64
  exact (T_d3 (T_trunc (k1_pay53_T h174 h321 h386) _) (S_trunc h76 _) (SZ_trunc h76SZ _))

theorem k1_pay65_MS3 {v374 : IVec S64x64 1} (h374 : MS v374) :
    MS3 (k1_pay65 v374) := by
  unfold k1_pay65
  exact (MS3_of h374)

theorem k1_pay66_M {v174 : FVec Ideal S16x64x128 .f32} {v321 : FVec Ideal S16x64x128 .f32} {v370 : FVec Ideal S16x64x128 .f32} {v374 : IVec S64x64 1} {v386 : FVec Ideal S16x64x128 .f32} {v395 : FVec Ideal S16x64x128 .f32} (h174 : T v174 (fun g h => (C g h).lw)) (h321 : T v321 (fun g h => (C g h).a)) (h370 : T v370 (fun g h => (C g h).b)) (h374 : MS v374) (h386 : T v386 (fun g h => (C g h).cum)) (h395 : T v395 (fun g h => 0)) :
    M (k1_pay66 v174 v321 v370 v374 v386 v395) (fun g h => (C g h).Aab) := by
  unfold k1_pay66
  exact (M_lowS (k1_pay65_MS3 h374) (M_d4 (B_trunc (k1_pay62_B h174 h321 h386) _) (BZ_trunc (k1_pay62_BZ h174 h321 h386) _) (B_trunc (k1_pay59_B h370 h386 h395) _)))

theorem k1_pay67_B {v174 : FVec Ideal S16x64x128 .f32} {v321 : FVec Ideal S16x64x128 .f32} {v386 : FVec Ideal S16x64x128 .f32} (h174 : T v174 (fun g h => (C g h).lw)) (h321 : T v321 (fun g h => (C g h).a)) (h386 : T v386 (fun g h => (C g h).cum)) :
    B (k1_pay67 v174 v321 v386) (fun g h => (C g h).at') := by
  unfold k1_pay67
  exact (B_trunc (k1_pay62_B h174 h321 h386) _)

theorem k1_pay67_BZ {v174 : FVec Ideal S16x64x128 .f32} {v321 : FVec Ideal S16x64x128 .f32} {v386 : FVec Ideal S16x64x128 .f32} (h174 : T v174 (fun g h => (C g h).lw)) (h321 : T v321 (fun g h => (C g h).a)) (h386 : T v386 (fun g h => (C g h).cum)) :
    BZ (k1_pay67 v174 v321 v386) := by
  unfold k1_pay67
  exact (BZ_trunc (k1_pay62_BZ h174 h321 h386) _)

theorem k1_pay68_B {v223 : FVec Ideal S16x64x128 .f32} {v386 : FVec Ideal S16x64x128 .f32} {v395 : FVec Ideal S16x64x128 .f32} (h223 : T v223 (fun g h => (C g h).k)) (h386 : T v386 (fun g h => (C g h).cum)) (h395 : T v395 (fun g h => 0)) :
    B (k1_pay68 v223 v386 v395) (fun g h => (C g h).kt) := by
  unfold k1_pay68
  exact (B_trunc (k1_pay60_B h223 h386 h395) _)

theorem k1_pay69_MS3 {v374 : IVec S64x64 1} (h374 : MS v374) :
    MS3 (k1_pay69 v374) := by
  unfold k1_pay69
  exact (MS3_of h374)

theorem k1_pay70_M {v374 : IVec S64x64 1} {v447 : FVec Ideal S32x64x128 .bf16} {v448 : FVec Ideal S32x64x128 .bf16} (h374 : MS v374) (h447 : B v447 (fun g h => (C g h).at')) (h447BZ : BZ v447) (h448 : B v448 (fun g h => (C g h).kt)) :
    M (k1_pay70 v374 v447 v448 (constant S32x64x64 .f32 0x00000000#32)) (fun g h => (C g h).Aak) := by
  unfold k1_pay70
  exact (M_lowS (k1_pay69_MS3 h374) (M_d4 h447 h447BZ h448))

theorem k1_pay71_MI3 {v373 : IVec S64x64 1} (h373 : MI v373) :
    MI3 (k1_pay71 v373) := by
  unfold k1_pay71
  exact (MI3_of h373)

theorem k1_pay72_M {v373 : IVec S64x64 1} {v418 : FVec Ideal S32x64x128 .f32} {v436 : FVec Ideal S32x64x128 .f32} (h373 : MI v373) (h418 : B v418 (fun g h => (C g h).bt)) (h436 : B v436 (fun g h => (C g h).rt)) (h436BZ : BZ v436) :
    M (k1_pay72 v373 v418 v436) (fun g h => (C g h).Arb) := by
  unfold k1_pay72
  exact (M_lowI (k1_pay71_MI3 h373) (M_d4 (B_trunc h436 _) (BZ_trunc h436BZ _) (B_trunc h418 _)))

theorem k1_pay73_MI3 {v373 : IVec S64x64 1} (h373 : MI v373) :
    MI3 (k1_pay73 v373) := by
  unfold k1_pay73
  exact (MI3_of h373)

theorem k1_pay74_M {v373 : IVec S64x64 1} {v422 : FVec Ideal S32x64x128 .f32} {v436 : FVec Ideal S32x64x128 .f32} (h373 : MI v373) (h422 : B v422 (fun g h => (C g h).kt)) (h436 : B v436 (fun g h => (C g h).rt)) (h436BZ : BZ v436) :
    M (k1_pay74 v373 v422 v436) (fun g h => (C g h).Ark) := by
  unfold k1_pay74
  exact (M_lowI (k1_pay73_MI3 h373) (M_d4 (B_trunc h436 _) (BZ_trunc h436BZ _) (B_trunc h422 _)))

theorem k1_pay75_M {v446 : FVec Ideal S32x64x64 .f32} (h446 : M v446 (fun g h => (C g h).Aab)) :
    M (k1_pay75 v446) (fun g h => (C g h).p0) := by
  unfold k1_pay75
  exact (M_eye h446)

theorem k1_pay76_M {v446 : FVec Ideal S32x64x64 .f32} (h446 : M v446 (fun g h => (C g h).Aab)) :
    M (k1_pay76 v446) (fun g h => (C g h).q1) := by
  unfold k1_pay76
  exact (M_d5 (M_trunc h446 _) (M_trunc h446 _))

theorem k1_pay77_M {v446 : FVec Ideal S32x64x64 .f32} (h446 : M v446 (fun g h => (C g h).Aab)) :
    M (k1_pay77 v446) (fun g h => (C g h).p1) := by
  unfold k1_pay77
  exact (M_add (k1_pay75_M h446) (M_d5 (M_trunc (k1_pay75_M h446) _) (M_trunc (k1_pay76_M h446) _)))

theorem k1_pay78_M {v446 : FVec Ideal S32x64x64 .f32} (h446 : M v446 (fun g h => (C g h).Aab)) :
    M (k1_pay78 v446) (fun g h => (C g h).q2) := by
  unfold k1_pay78
  exact (M_d5 (M_trunc (k1_pay76_M h446) _) (M_trunc (k1_pay76_M h446) _))

theorem k1_pay79_M {v446 : FVec Ideal S32x64x64 .f32} (h446 : M v446 (fun g h => (C g h).Aab)) :
    M (k1_pay79 v446) (fun g h => (C g h).p2) := by
  unfold k1_pay79
  exact (M_add (k1_pay77_M h446) (M_d5 (M_trunc (k1_pay77_M h446) _) (M_trunc (k1_pay78_M h446) _)))

theorem k1_pay80_M {v446 : FVec Ideal S32x64x64 .f32} (h446 : M v446 (fun g h => (C g h).Aab)) :
    M (k1_pay80 v446) (fun g h => (C g h).q3) := by
  unfold k1_pay80
  exact (M_d5 (M_trunc (k1_pay78_M h446) _) (M_trunc (k1_pay78_M h446) _))

theorem k1_pay81_M {v446 : FVec Ideal S32x64x64 .f32} (h446 : M v446 (fun g h => (C g h).Aab)) :
    M (k1_pay81 v446) (fun g h => (C g h).p3) := by
  unfold k1_pay81
  exact (M_add (k1_pay79_M h446) (M_d5 (M_trunc (k1_pay79_M h446) _) (M_trunc (k1_pay80_M h446) _)))

theorem k1_pay82_M {v446 : FVec Ideal S32x64x64 .f32} (h446 : M v446 (fun g h => (C g h).Aab)) :
    M (k1_pay82 v446) (fun g h => (C g h).q3) := by
  unfold k1_pay82
  exact (M_trunc (k1_pay80_M h446) _)

theorem k1_pay83_M {v492 : FVec Ideal S32x64x64 .f32} {v497 : FVec Ideal S32x64x64 .bf16} (h492 : M v492 (fun g h => (C g h).q3)) (h497 : M v497 (fun g h => (C g h).q3)) :
    M (k1_pay83 v492 v497) (fun g h => (C g h).q4) := by
  unfold k1_pay83
  exact (M_d5 h497 (M_trunc h492 _))

theorem k1_pay84_M {v492 : FVec Ideal S32x64x64 .f32} {v496 : FVec Ideal S32x64x64 .f32} {v497 : FVec Ideal S32x64x64 .bf16} (h492 : M v492 (fun g h => (C g h).q3)) (h496 : M v496 (fun g h => (C g h).p3)) (h497 : M v497 (fun g h => (C g h).q3)) :
    M (k1_pay84 v492 v496 v497) (fun g h => (C g h).p4) := by
  unfold k1_pay84
  exact (M_add h496 (M_d5 (M_trunc h496 _) (M_trunc (k1_pay83_M h492 h497) _)))

theorem k1_pay85_M {v492 : FVec Ideal S32x64x64 .f32} {v497 : FVec Ideal S32x64x64 .bf16} (h492 : M v492 (fun g h => (C g h).q3)) (h497 : M v497 (fun g h => (C g h).q3)) :
    M (k1_pay85 v492 v497) (fun g h => (C g h).q5) := by
  unfold k1_pay85
  exact (M_d5 (M_trunc (k1_pay83_M h492 h497) _) (M_trunc (k1_pay83_M h492 h497) _))

theorem k1_pay86_M {v492 : FVec Ideal S32x64x64 .f32} {v496 : FVec Ideal S32x64x64 .f32} {v497 : FVec Ideal S32x64x64 .bf16} (h492 : M v492 (fun g h => (C g h).q3)) (h496 : M v496 (fun g h => (C g h).p3)) (h497 : M v497 (fun g h => (C g h).q3)) :
    M (k1_pay86 v492 v496 v497) (fun g h => (C g h).p5) := by
  unfold k1_pay86
  exact (M_add (k1_pay84_M h492 h496 h497) (M_d5 (M_trunc (k1_pay84_M h492 h496 h497) _) (M_trunc (k1_pay85_M h492 h497) _)))

theorem k1_pay87_B {v426 : FVec Ideal S32x64x128 .f32} {v439 : FVec Ideal S16x64x128 .f32} {v453 : FVec Ideal S32x64x64 .f32} (h426 : B v426 (fun g h => (C g h).v)) (h439 : T v439 (fun g h => (C g h).base)) (h453 : M v453 (fun g h => (C g h).Aak)) :
    B (k1_pay87 v426 v439 v453) (fun g h => (C g h).Z) := by
  unfold k1_pay87
  exact (B_add (B_both h439) (B_d6 (M_trunc h453 _) (B_trunc h426 _)))

theorem k1_pay88_T {v414 : FVec Ideal S2x1x1x128 .f32} {v426 : FVec Ideal S32x64x128 .f32} {v439 : FVec Ideal S16x64x128 .f32} {v453 : FVec Ideal S32x64x64 .f32} {v492 : FVec Ideal S32x64x64 .f32} {v496 : FVec Ideal S32x64x64 .f32} {v497 : FVec Ideal S32x64x64 .bf16} (h414 : HM v414) (h426 : B v426 (fun g h => (C g h).v)) (h439 : T v439 (fun g h => (C g h).base)) (h453 : M v453 (fun g h => (C g h).Aak)) (h492 : M v492 (fun g h => (C g h).q3)) (h496 : M v496 (fun g h => (C g h).p3)) (h497 : M v497 (fun g h => (C g h).q3)) :
    T (k1_pay88 v414 v426 v439 v453 v492 v496 v497) (fun g h => (C g h).u) := by
  unfold k1_pay88
  exact (T_red (D_mask h414 (B_d6 (M_trunc (k1_pay86_M h492 h496 h497) _) (B_trunc (k1_pay87_B h426 h439 h453) _))))

theorem k1_pay89_B {v414 : FVec Ideal S2x1x1x128 .f32} {v426 : FVec Ideal S32x64x128 .f32} {v439 : FVec Ideal S16x64x128 .f32} {v453 : FVec Ideal S32x64x64 .f32} {v492 : FVec Ideal S32x64x64 .f32} {v496 : FVec Ideal S32x64x64 .f32} {v497 : FVec Ideal S32x64x64 .bf16} (h414 : HM v414) (h426 : B v426 (fun g h => (C g h).v)) (h439 : T v439 (fun g h => (C g h).base)) (h453 : M v453 (fun g h => (C g h).Aak)) (h492 : M v492 (fun g h => (C g h).q3)) (h496 : M v496 (fun g h => (C g h).p3)) (h497 : M v497 (fun g h => (C g h).q3)) :
    B (k1_pay89 v414 v426 v439 v453 v492 v496 v497) (fun g h => (C g h).u) := by
  unfold k1_pay89
  exact (B_both (k1_pay88_T h414 h426 h439 h453 h492 h496 h497))

theorem k1_pay90_BM : BM k1_pay90 := blk_at

theorem k1_pay91_S {v272 : FVec Ideal S16x64x128 .f32} {v401 : FVec Ideal S16x64x128 .f32} {v402 : FVec Ideal S16x64x128 .f32} {v414 : FVec Ideal S2x1x1x128 .f32} {v426 : FVec Ideal S32x64x128 .f32} {v439 : FVec Ideal S16x64x128 .f32} {v453 : FVec Ideal S32x64x64 .f32} {v492 : FVec Ideal S32x64x64 .f32} {v496 : FVec Ideal S32x64x64 .f32} {v497 : FVec Ideal S32x64x64 .bf16} (h272 : T v272 (fun g h => (C g h).v)) (h401 : T v401 (fun g h => (C g h).bt)) (h402 : T v402 (fun g h => (C g h).kt)) (h414 : HM v414) (h426 : B v426 (fun g h => (C g h).v)) (h439 : T v439 (fun g h => (C g h).base)) (h453 : M v453 (fun g h => (C g h).Aak)) (h492 : M v492 (fun g h => (C g h).q3)) (h496 : M v496 (fun g h => (C g h).p3)) (h497 : M v497 (fun g h => (C g h).q3)) :
    S (k1_pay91 v272 v401 v402 v414 v426 v439 v453 v492 v496 v497) (fun g h => (C g h).upd) := by
  unfold k1_pay91
  exact (S_add (S_d7 (T_trunc (k1_pay88_T h414 h426 h439 h453 h492 h496 h497) _) (T_trunc h401 _)) (S_d7 (T_trunc h272 _) (T_trunc h402 _)))

theorem k1_pay92_BM3 {v537 : IVec S128x128 1} (h537 : BM v537) :
    BM3 (k1_pay92 v537) := by
  unfold k1_pay92
  exact (BM3_of h537)

theorem k1_pay93_S {v76 : FVec Ideal S16x128x128 .f32} {v537 : IVec S128x128 1} {v544 : FVec Ideal S16x128x128 .f32} (h76 : S v76 (fun g h => (C g h).s)) (h76SZ : SZ v76) (h537 : BM v537) (h544 : S v544 (fun g h => (C g h).upd)) :
    S (k1_pay93 v76 v537 v544 (Scalar.ofBits (F := Ideal) .f32 0x00000000#32)) (fun g h => (C g h).sn) := by
  unfold k1_pay93
  exact (S_add h76 (S_sel (k1_pay92_BM3 h537) h544))

theorem k1_pay93_SZ {v76 : FVec Ideal S16x128x128 .f32} {v537 : IVec S128x128 1} {v544 : FVec Ideal S16x128x128 .f32} (h76 : S v76 (fun g h => (C g h).s)) (h76SZ : SZ v76) (h537 : BM v537) (h544 : S v544 (fun g h => (C g h).upd)) :
    SZ (k1_pay93 v76 v537 v544 (Scalar.ofBits (F := Ideal) .f32 0x00000000#32)) := by
  unfold k1_pay93
  exact (SZ_add h76SZ (SZ_sel (k1_pay92_BM3 h537)))

theorem k1_pay94_S {v394 : FVec Ideal S16x128x128 .f32} (h394 : S v394 (fun g h => (C g h).tot)) :
    S (k1_pay94 v394) (fun g h => (C g h).et) := by
  unfold k1_pay94
  exact (S_exp h394)

theorem k1_pay102_S {arg18 : Vec Ideal S16x128x128 .f32} {v550 : FVec Ideal S16x128x128 .f32} (harg18 : S arg18 (fun g h => (C g h).ds)) (h550 : S v550 (fun g h => (C g h).et)) :
    S (k1_pay102 arg18 v550) (fun g h => (C g h).dM) := by
  unfold k1_pay102
  exact (S_mul harg18 h550)

theorem k1_pay103_S {arg18 : Vec Ideal S16x128x128 .f32} {v549 : FVec Ideal S16x128x128 .f32} {v550 : FVec Ideal S16x128x128 .f32} (harg18 : S arg18 (fun g h => (C g h).ds)) (h549 : S v549 (fun g h => (C g h).sn)) (h549SZ : SZ v549) (h550 : S v550 (fun g h => (C g h).et)) :
    S (k1_pay103 arg18 v549 v550) (fun g h => (C g h).sds) := by
  unfold k1_pay103
  exact (S_mul (S_mul h549 harg18) h550)

theorem k1_pay103_SZ {arg18 : Vec Ideal S16x128x128 .f32} {v549 : FVec Ideal S16x128x128 .f32} {v550 : FVec Ideal S16x128x128 .f32} (harg18 : S arg18 (fun g h => (C g h).ds)) (h549 : S v549 (fun g h => (C g h).sn)) (h549SZ : SZ v549) (h550 : S v550 (fun g h => (C g h).et)) :
    SZ (k1_pay103 arg18 v549 v550) := by
  unfold k1_pay103
  exact (SZ_mul (SZ_mul h549SZ))

theorem k1_pay104_S {arg18 : Vec Ideal S16x128x128 .f32} {v546 : IVec S16x128x128 1} {v550 : FVec Ideal S16x128x128 .f32} (harg18 : S arg18 (fun g h => (C g h).ds)) (h546 : BM3 v546) (h550 : S v550 (fun g h => (C g h).et)) :
    S (k1_pay104 arg18 v546 v550) (fun g h => (C g h).dM) := by
  unfold k1_pay104
  exact (S_sel h546 (k1_pay102_S harg18 h550))

end Cert.KernelIdeal.Val

end
-- ==== Proof.Pay2.lean ====
module

public import proofs.«01_k».proof.Proof.Pay1

@[expose] public section

set_option maxRecDepth 16384

noncomputable section

namespace Cert.KernelIdeal.Val

open Idealize.ShloMosaic Idealize.ShloMosaic.TcCoe
open Cert.KernelIdeal Cert.KernelIdeal.Gen Cert.Rwkv

variable {C : Fin 16 → Fin 2 → Chunk}

theorem k1_pay104_SZ {arg18 : Vec Ideal S16x128x128 .f32} {v546 : IVec S16x128x128 1} {v550 : FVec Ideal S16x128x128 .f32} (harg18 : S arg18 (fun g h => (C g h).ds)) (h546 : BM3 v546) (h550 : S v550 (fun g h => (C g h).et)) :
    SZ (k1_pay104 arg18 v546 v550) := by
  unfold k1_pay104
  exact (SZ_sel h546)

theorem k1_pay105_T {arg18 : Vec Ideal S16x128x128 .f32} {v402 : FVec Ideal S16x64x128 .f32} {v546 : IVec S16x128x128 1} {v550 : FVec Ideal S16x128x128 .f32} (harg18 : S arg18 (fun g h => (C g h).ds)) (h402 : T v402 (fun g h => (C g h).kt)) (h546 : BM3 v546) (h550 : S v550 (fun g h => (C g h).et)) :
    T (k1_pay105 arg18 v402 v546 v550) (fun g h => (C g h).dv0) := by
  unfold k1_pay105
  exact (T_d3 (T_trunc h402 _) (S_trunc (k1_pay104_S harg18 h546 h550) _) (SZ_trunc (k1_pay104_SZ harg18 h546 h550) _))

theorem k1_pay106_T {arg18 : Vec Ideal S16x128x128 .f32} {v272 : FVec Ideal S16x64x128 .f32} {v546 : IVec S16x128x128 1} {v550 : FVec Ideal S16x128x128 .f32} (harg18 : S arg18 (fun g h => (C g h).ds)) (h272 : T v272 (fun g h => (C g h).v)) (h546 : BM3 v546) (h550 : S v550 (fun g h => (C g h).et)) :
    T (k1_pay106 arg18 v272 v546 v550) (fun g h => (C g h).dk0) := by
  unfold k1_pay106
  exact (T_d8 (T_trunc h272 _) (S_trunc (k1_pay104_S harg18 h546 h550) _) (SZ_trunc (k1_pay104_SZ harg18 h546 h550) _))

theorem k1_pay107_T {arg18 : Vec Ideal S16x128x128 .f32} {v401 : FVec Ideal S16x64x128 .f32} {v546 : IVec S16x128x128 1} {v550 : FVec Ideal S16x128x128 .f32} (harg18 : S arg18 (fun g h => (C g h).ds)) (h401 : T v401 (fun g h => (C g h).bt)) (h546 : BM3 v546) (h550 : S v550 (fun g h => (C g h).et)) :
    T (k1_pay107 arg18 v401 v546 v550) (fun g h => (C g h).du0) := by
  unfold k1_pay107
  exact (T_d3 (T_trunc h401 _) (S_trunc (k1_pay104_S harg18 h546 h550) _) (SZ_trunc (k1_pay104_SZ harg18 h546 h550) _))

theorem k1_pay108_T {arg18 : Vec Ideal S16x128x128 .f32} {v525 : FVec Ideal S16x64x128 .f32} {v546 : IVec S16x128x128 1} {v550 : FVec Ideal S16x128x128 .f32} (harg18 : S arg18 (fun g h => (C g h).ds)) (h525 : T v525 (fun g h => (C g h).u)) (h546 : BM3 v546) (h550 : S v550 (fun g h => (C g h).et)) :
    T (k1_pay108 arg18 v525 v546 v550) (fun g h => (C g h).db0) := by
  unfold k1_pay108
  exact (T_d8 (T_trunc h525 _) (S_trunc (k1_pay104_S harg18 h546 h550) _) (SZ_trunc (k1_pay104_SZ harg18 h546 h550) _))

theorem k1_pay109_B {v414 : FVec Ideal S2x1x1x128 .f32} {v564 : Vec Ideal S64x128 .f32} {v566 : Vec Ideal S64x128 .f32} {v568 : Vec Ideal S64x128 .f32} {v570 : Vec Ideal S64x128 .f32} {v572 : Vec Ideal S64x128 .f32} {v574 : Vec Ideal S64x128 .f32} {v576 : Vec Ideal S64x128 .f32} {v578 : Vec Ideal S64x128 .f32} {v580 : Vec Ideal S64x128 .f32} {v582 : Vec Ideal S64x128 .f32} {v583 : FVec Ideal S1x64x128 .f32} {v584 : FVec Ideal S1x64x128 .f32} {v585 : FVec Ideal S1x64x128 .f32} {v586 : FVec Ideal S1x64x128 .f32} {v587 : FVec Ideal S1x64x128 .f32} {v588 : FVec Ideal S1x64x128 .f32} (h414 : HM v414) (h599 : T (k1_pay101 v564 v566 v568 v570 v572 v574 v576 v578 v580 v582 v583 v584 v585 v586 v587 v588) (fun g h => (C g h).dy)) :
    B (k1_pay109 v414 v564 v566 v568 v570 v572 v574 v576 v578 v580 v582 v583 v584 v585 v586 v587 v588) (fun g h => (C g h).dy) := by
  unfold k1_pay109
  exact (B_perhead h414 h599)

theorem k1_pay109_BZ {v414 : FVec Ideal S2x1x1x128 .f32} {v564 : Vec Ideal S64x128 .f32} {v566 : Vec Ideal S64x128 .f32} {v568 : Vec Ideal S64x128 .f32} {v570 : Vec Ideal S64x128 .f32} {v572 : Vec Ideal S64x128 .f32} {v574 : Vec Ideal S64x128 .f32} {v576 : Vec Ideal S64x128 .f32} {v578 : Vec Ideal S64x128 .f32} {v580 : Vec Ideal S64x128 .f32} {v582 : Vec Ideal S64x128 .f32} {v583 : FVec Ideal S1x64x128 .f32} {v584 : FVec Ideal S1x64x128 .f32} {v585 : FVec Ideal S1x64x128 .f32} {v586 : FVec Ideal S1x64x128 .f32} {v587 : FVec Ideal S1x64x128 .f32} {v588 : FVec Ideal S1x64x128 .f32} (h414 : HM v414) (h599 : T (k1_pay101 v564 v566 v568 v570 v572 v574 v576 v578 v580 v582 v583 v584 v585 v586 v587 v588) (fun g h => (C g h).dy)) :
    BZ (k1_pay109 v414 v564 v566 v568 v570 v572 v574 v576 v578 v580 v582 v583 v584 v585 v586 v587 v588) := by
  unfold k1_pay109
  exact (BZ_perhead h414)

theorem k1_pay110_M {v414 : FVec Ideal S2x1x1x128 .f32} {v426 : FVec Ideal S32x64x128 .f32} {v564 : Vec Ideal S64x128 .f32} {v566 : Vec Ideal S64x128 .f32} {v568 : Vec Ideal S64x128 .f32} {v570 : Vec Ideal S64x128 .f32} {v572 : Vec Ideal S64x128 .f32} {v574 : Vec Ideal S64x128 .f32} {v576 : Vec Ideal S64x128 .f32} {v578 : Vec Ideal S64x128 .f32} {v580 : Vec Ideal S64x128 .f32} {v582 : Vec Ideal S64x128 .f32} {v583 : FVec Ideal S1x64x128 .f32} {v584 : FVec Ideal S1x64x128 .f32} {v585 : FVec Ideal S1x64x128 .f32} {v586 : FVec Ideal S1x64x128 .f32} {v587 : FVec Ideal S1x64x128 .f32} {v588 : FVec Ideal S1x64x128 .f32} (h414 : HM v414) (h426 : B v426 (fun g h => (C g h).v)) (h599 : T (k1_pay101 v564 v566 v568 v570 v572 v574 v576 v578 v580 v582 v583 v584 v585 v586 v587 v588) (fun g h => (C g h).dy)) :
    M (k1_pay110 v414 v426 v564 v566 v568 v570 v572 v574 v576 v578 v580 v582 v583 v584 v585 v586 v587 v588) (fun g h => (C g h).dyv) := by
  unfold k1_pay110
  exact (M_d4 (B_trunc (k1_pay109_B h414 h599) _) (BZ_trunc (k1_pay109_BZ h414 h599) _) (B_trunc h426 _))

theorem k1_pay111_B {v414 : FVec Ideal S2x1x1x128 .f32} {v467 : FVec Ideal S32x64x64 .f32} {v564 : Vec Ideal S64x128 .f32} {v566 : Vec Ideal S64x128 .f32} {v568 : Vec Ideal S64x128 .f32} {v570 : Vec Ideal S64x128 .f32} {v572 : Vec Ideal S64x128 .f32} {v574 : Vec Ideal S64x128 .f32} {v576 : Vec Ideal S64x128 .f32} {v578 : Vec Ideal S64x128 .f32} {v580 : Vec Ideal S64x128 .f32} {v582 : Vec Ideal S64x128 .f32} {v583 : FVec Ideal S1x64x128 .f32} {v584 : FVec Ideal S1x64x128 .f32} {v585 : FVec Ideal S1x64x128 .f32} {v586 : FVec Ideal S1x64x128 .f32} {v587 : FVec Ideal S1x64x128 .f32} {v588 : FVec Ideal S1x64x128 .f32} (h414 : HM v414) (h467 : M v467 (fun g h => (C g h).Ark)) (h599 : T (k1_pay101 v564 v566 v568 v570 v572 v574 v576 v578 v580 v582 v583 v584 v585 v586 v587 v588) (fun g h => (C g h).dy)) :
    B (k1_pay111 v414 v467 v564 v566 v568 v570 v572 v574 v576 v578 v580 v582 v583 v584 v585 v586 v587 v588) (fun g h => (C g h).dv1) := by
  unfold k1_pay111
  exact (B_d9 (M_trunc h467 _) (B_trunc (k1_pay109_B h414 h599) _))

theorem k1_pay111_BZ {v414 : FVec Ideal S2x1x1x128 .f32} {v467 : FVec Ideal S32x64x64 .f32} {v564 : Vec Ideal S64x128 .f32} {v566 : Vec Ideal S64x128 .f32} {v568 : Vec Ideal S64x128 .f32} {v570 : Vec Ideal S64x128 .f32} {v572 : Vec Ideal S64x128 .f32} {v574 : Vec Ideal S64x128 .f32} {v576 : Vec Ideal S64x128 .f32} {v578 : Vec Ideal S64x128 .f32} {v580 : Vec Ideal S64x128 .f32} {v582 : Vec Ideal S64x128 .f32} {v583 : FVec Ideal S1x64x128 .f32} {v584 : FVec Ideal S1x64x128 .f32} {v585 : FVec Ideal S1x64x128 .f32} {v586 : FVec Ideal S1x64x128 .f32} {v587 : FVec Ideal S1x64x128 .f32} {v588 : FVec Ideal S1x64x128 .f32} (h414 : HM v414) (h467 : M v467 (fun g h => (C g h).Ark)) (h599 : T (k1_pay101 v564 v566 v568 v570 v572 v574 v576 v578 v580 v582 v583 v584 v585 v586 v587 v588) (fun g h => (C g h).dy)) :
    BZ (k1_pay111 v414 v467 v564 v566 v568 v570 v572 v574 v576 v578 v580 v582 v583 v584 v585 v586 v587 v588) := by
  unfold k1_pay111
  exact (BZ_d9 (BZ_trunc (k1_pay109_BZ h414 h599) _))

theorem k1_pay112_M {v414 : FVec Ideal S2x1x1x128 .f32} {v529 : FVec Ideal S32x64x128 .f32} {v564 : Vec Ideal S64x128 .f32} {v566 : Vec Ideal S64x128 .f32} {v568 : Vec Ideal S64x128 .f32} {v570 : Vec Ideal S64x128 .f32} {v572 : Vec Ideal S64x128 .f32} {v574 : Vec Ideal S64x128 .f32} {v576 : Vec Ideal S64x128 .f32} {v578 : Vec Ideal S64x128 .f32} {v580 : Vec Ideal S64x128 .f32} {v582 : Vec Ideal S64x128 .f32} {v583 : FVec Ideal S1x64x128 .f32} {v584 : FVec Ideal S1x64x128 .f32} {v585 : FVec Ideal S1x64x128 .f32} {v586 : FVec Ideal S1x64x128 .f32} {v587 : FVec Ideal S1x64x128 .f32} {v588 : FVec Ideal S1x64x128 .f32} (h414 : HM v414) (h529 : B v529 (fun g h => (C g h).u)) (h599 : T (k1_pay101 v564 v566 v568 v570 v572 v574 v576 v578 v580 v582 v583 v584 v585 v586 v587 v588) (fun g h => (C g h).dy)) :
    M (k1_pay112 v414 v529 v564 v566 v568 v570 v572 v574 v576 v578 v580 v582 v583 v584 v585 v586 v587 v588) (fun g h => (C g h).dyu) := by
  unfold k1_pay112
  exact (M_d4 (B_trunc (k1_pay109_B h414 h599) _) (BZ_trunc (k1_pay109_BZ h414 h599) _) (B_trunc h529 _))

theorem k1_pay113_T {v414 : FVec Ideal S2x1x1x128 .f32} {v460 : FVec Ideal S32x64x64 .f32} {v564 : Vec Ideal S64x128 .f32} {v566 : Vec Ideal S64x128 .f32} {v568 : Vec Ideal S64x128 .f32} {v570 : Vec Ideal S64x128 .f32} {v572 : Vec Ideal S64x128 .f32} {v574 : Vec Ideal S64x128 .f32} {v576 : Vec Ideal S64x128 .f32} {v578 : Vec Ideal S64x128 .f32} {v580 : Vec Ideal S64x128 .f32} {v582 : Vec Ideal S64x128 .f32} {v583 : FVec Ideal S1x64x128 .f32} {v584 : FVec Ideal S1x64x128 .f32} {v585 : FVec Ideal S1x64x128 .f32} {v586 : FVec Ideal S1x64x128 .f32} {v587 : FVec Ideal S1x64x128 .f32} {v588 : FVec Ideal S1x64x128 .f32} (h414 : HM v414) (h460 : M v460 (fun g h => (C g h).Arb)) (h599 : T (k1_pay101 v564 v566 v568 v570 v572 v574 v576 v578 v580 v582 v583 v584 v585 v586 v587 v588) (fun g h => (C g h).dy)) :
    T (k1_pay113 v414 v460 v564 v566 v568 v570 v572 v574 v576 v578 v580 v582 v583 v584 v585 v586 v587 v588) (fun g h => (C g h).du1) := by
  unfold k1_pay113
  exact (T_again (T_merge (B_d9 (M_trunc h460 _) (B_trunc (k1_pay109_B h414 h599) _)) (BZ_d9 (BZ_trunc (k1_pay109_BZ h414 h599) _))))

theorem k1_pay114_T {v76 : FVec Ideal S16x128x128 .f32} {v599 : FVec Ideal S16x64x128 .f32} (h76 : S v76 (fun g h => (C g h).s)) (h76SZ : SZ v76) (h599 : T v599 (fun g h => (C g h).dy)) :
    T (k1_pay114 v76 v599) (fun g h => (C g h).dr0) := by
  unfold k1_pay114
  exact (T_d8 (T_trunc h599 _) (S_trunc h76 _) (SZ_trunc h76SZ _))

theorem k1_pay115_S {v404 : FVec Ideal S16x64x128 .f32} {v599 : FVec Ideal S16x64x128 .f32} {v601 : FVec Ideal S16x128x128 .f32} (h404 : T v404 (fun g h => (C g h).rt)) (h599 : T v599 (fun g h => (C g h).dy)) (h601 : S v601 (fun g h => (C g h).dM)) :
    S (k1_pay115 v404 v599 v601) (fun g h => (C g h).ds1) := by
  unfold k1_pay115
  exact (S_add h601 (S_d7 (T_trunc h599 _) (T_trunc h404 _)))

theorem k1_pay116_B {v414 : FVec Ideal S2x1x1x128 .f32} {v613 : FVec Ideal S16x64x128 .f32} {v637 : FVec Ideal S16x64x128 .f32} (h414 : HM v414) (h613 : T v613 (fun g h => (C g h).du0)) (h637 : T v637 (fun g h => (C g h).du1)) :
    B (k1_pay116 v414 v613 v637) (fun g h => (C g h).du) := by
  unfold k1_pay116
  exact (B_perhead h414 (T_add h613 h637))

theorem k1_pay116_BZ {v414 : FVec Ideal S2x1x1x128 .f32} {v613 : FVec Ideal S16x64x128 .f32} {v637 : FVec Ideal S16x64x128 .f32} (h414 : HM v414) (h613 : T v613 (fun g h => (C g h).du0)) (h637 : T v637 (fun g h => (C g h).du1)) :
    BZ (k1_pay116 v414 v613 v637) := by
  unfold k1_pay116
  exact (BZ_perhead h414)

theorem k1_pay117_M {v414 : FVec Ideal S2x1x1x128 .f32} {v518 : FVec Ideal S32x64x128 .f32} {v613 : FVec Ideal S16x64x128 .f32} {v637 : FVec Ideal S16x64x128 .f32} (h414 : HM v414) (h518 : B v518 (fun g h => (C g h).Z)) (h613 : T v613 (fun g h => (C g h).du0)) (h637 : T v637 (fun g h => (C g h).du1)) :
    M (k1_pay117 v414 v518 v613 v637) (fun g h => (C g h).dT) := by
  unfold k1_pay117
  exact (M_d4 (B_trunc (k1_pay116_B h414 h613 h637) _) (BZ_trunc (k1_pay116_BZ h414 h613 h637) _) (B_trunc h518 _))

theorem k1_pay118_B {v414 : FVec Ideal S2x1x1x128 .f32} {v510 : FVec Ideal S32x64x64 .f32} {v613 : FVec Ideal S16x64x128 .f32} {v637 : FVec Ideal S16x64x128 .f32} (h414 : HM v414) (h510 : M v510 (fun g h => (C g h).p5)) (h613 : T v613 (fun g h => (C g h).du0)) (h637 : T v637 (fun g h => (C g h).du1)) :
    B (k1_pay118 v414 v510 v613 v637) (fun g h => (C g h).dZ) := by
  unfold k1_pay118
  exact (B_d9 (M_trunc h510 _) (B_trunc (k1_pay116_B h414 h613 h637) _))

theorem k1_pay118_BZ {v414 : FVec Ideal S2x1x1x128 .f32} {v510 : FVec Ideal S32x64x64 .f32} {v613 : FVec Ideal S16x64x128 .f32} {v637 : FVec Ideal S16x64x128 .f32} (h414 : HM v414) (h510 : M v510 (fun g h => (C g h).p5)) (h613 : T v613 (fun g h => (C g h).du0)) (h637 : T v637 (fun g h => (C g h).du1)) :
    BZ (k1_pay118 v414 v510 v613 v637) := by
  unfold k1_pay118
  exact (BZ_d9 (BZ_trunc (k1_pay116_BZ h414 h613 h637) _))

theorem k1_pay119_M {v414 : FVec Ideal S2x1x1x128 .f32} {v426 : FVec Ideal S32x64x128 .f32} {v510 : FVec Ideal S32x64x64 .f32} {v613 : FVec Ideal S16x64x128 .f32} {v637 : FVec Ideal S16x64x128 .f32} (h414 : HM v414) (h426 : B v426 (fun g h => (C g h).v)) (h510 : M v510 (fun g h => (C g h).p5)) (h613 : T v613 (fun g h => (C g h).du0)) (h637 : T v637 (fun g h => (C g h).du1)) :
    M (k1_pay119 v414 v426 v510 v613 v637) (fun g h => (C g h).dZv) := by
  unfold k1_pay119
  exact (M_d4 (B_trunc (k1_pay118_B h414 h510 h613 h637) _) (BZ_trunc (k1_pay118_BZ h414 h510 h613 h637) _) (B_trunc h426 _))

theorem k1_pay120_B {v414 : FVec Ideal S2x1x1x128 .f32} {v453 : FVec Ideal S32x64x64 .f32} {v510 : FVec Ideal S32x64x64 .f32} {v613 : FVec Ideal S16x64x128 .f32} {v627 : FVec Ideal S32x64x128 .f32} {v637 : FVec Ideal S16x64x128 .f32} (h414 : HM v414) (h453 : M v453 (fun g h => (C g h).Aak)) (h510 : M v510 (fun g h => (C g h).p5)) (h613 : T v613 (fun g h => (C g h).du0)) (h627 : B v627 (fun g h => (C g h).dv1)) (h627BZ : BZ v627) (h637 : T v637 (fun g h => (C g h).du1)) :
    B (k1_pay120 v414 v453 v510 v613 v627 v637) (fun g h => (C g h).dv2) := by
  unfold k1_pay120
  exact (B_add h627 (B_d9 (M_trunc h453 _) (B_trunc (k1_pay118_B h414 h510 h613 h637) _)))

theorem k1_pay120_BZ {v414 : FVec Ideal S2x1x1x128 .f32} {v453 : FVec Ideal S32x64x64 .f32} {v510 : FVec Ideal S32x64x64 .f32} {v613 : FVec Ideal S16x64x128 .f32} {v627 : FVec Ideal S32x64x128 .f32} {v637 : FVec Ideal S16x64x128 .f32} (h414 : HM v414) (h453 : M v453 (fun g h => (C g h).Aak)) (h510 : M v510 (fun g h => (C g h).p5)) (h613 : T v613 (fun g h => (C g h).du0)) (h627 : B v627 (fun g h => (C g h).dv1)) (h627BZ : BZ v627) (h637 : T v637 (fun g h => (C g h).du1)) :
    BZ (k1_pay120 v414 v453 v510 v613 v627 v637) := by
  unfold k1_pay120
  exact (BZ_add h627BZ (BZ_d9 (BZ_trunc (k1_pay118_BZ h414 h510 h613 h637) _)))

theorem k1_pay121_T {v414 : FVec Ideal S2x1x1x128 .f32} {v510 : FVec Ideal S32x64x64 .f32} {v613 : FVec Ideal S16x64x128 .f32} {v637 : FVec Ideal S16x64x128 .f32} (h414 : HM v414) (h510 : M v510 (fun g h => (C g h).p5)) (h613 : T v613 (fun g h => (C g h).du0)) (h637 : T v637 (fun g h => (C g h).du1)) :
    T (k1_pay121 v414 v510 v613 v637) (fun g h => (C g h).dZ) := by
  unfold k1_pay121
  exact (T_again (T_merge (k1_pay118_B h414 h510 h613 h637) (k1_pay118_BZ h414 h510 h613 h637)))

theorem k1_pay122_M {v414 : FVec Ideal S2x1x1x128 .f32} {v506 : FVec Ideal S32x64x64 .f32} {v518 : FVec Ideal S32x64x128 .f32} {v613 : FVec Ideal S16x64x128 .f32} {v637 : FVec Ideal S16x64x128 .f32} (h414 : HM v414) (h506 : M v506 (fun g h => (C g h).q5)) (h518 : B v518 (fun g h => (C g h).Z)) (h613 : T v613 (fun g h => (C g h).du0)) (h637 : T v637 (fun g h => (C g h).du1)) :
    M (k1_pay122 v414 v506 v518 v613 v637) (fun g h => (C g h).dp4) := by
  unfold k1_pay122
  exact (M_add (k1_pay117_M h414 h518 h613 h637) (M_d10 (M_trunc (k1_pay117_M h414 h518 h613 h637) _) (M_trunc h506 _)))

theorem k1_pay123_M {v414 : FVec Ideal S2x1x1x128 .f32} {v499 : FVec Ideal S32x64x64 .f32} {v503 : FVec Ideal S32x64x64 .f32} {v518 : FVec Ideal S32x64x128 .f32} {v613 : FVec Ideal S16x64x128 .f32} {v637 : FVec Ideal S16x64x128 .f32} (h414 : HM v414) (h499 : M v499 (fun g h => (C g h).q4)) (h503 : M v503 (fun g h => (C g h).p4)) (h518 : B v518 (fun g h => (C g h).Z)) (h613 : T v613 (fun g h => (C g h).du0)) (h637 : T v637 (fun g h => (C g h).du1)) :
    M (k1_pay123 v414 v499 v503 v518 v613 v637) (fun g h => (C g h).w4) := by
  unfold k1_pay123
  exact (M_add (M_d10 (M_trunc (M_d11 (M_trunc h503 _) (M_trunc (k1_pay117_M h414 h518 h613 h637) _)) _) (M_trunc h499 _)) (M_d11 (M_trunc h499 _) (M_trunc (M_d11 (M_trunc h503 _) (M_trunc (k1_pay117_M h414 h518 h613 h637) _)) _)))

theorem k1_pay124_M {v414 : FVec Ideal S2x1x1x128 .f32} {v499 : FVec Ideal S32x64x64 .f32} {v506 : FVec Ideal S32x64x64 .f32} {v518 : FVec Ideal S32x64x128 .f32} {v613 : FVec Ideal S16x64x128 .f32} {v637 : FVec Ideal S16x64x128 .f32} (h414 : HM v414) (h499 : M v499 (fun g h => (C g h).q4)) (h506 : M v506 (fun g h => (C g h).q5)) (h518 : B v518 (fun g h => (C g h).Z)) (h613 : T v613 (fun g h => (C g h).du0)) (h637 : T v637 (fun g h => (C g h).du1)) :
    M (k1_pay124 v414 v499 v506 v518 v613 v637) (fun g h => (C g h).dpq4) := by
  unfold k1_pay124
  exact (M_d10 (M_trunc (k1_pay122_M h414 h506 h518 h613 h637) _) (M_trunc h499 _))

theorem k1_pay125_M {v674 : FVec Ideal S32x64x64 .f32} {v684 : FVec Ideal S32x64x64 .f32} (h674 : M v674 (fun g h => (C g h).dp4)) (h684 : M v684 (fun g h => (C g h).dpq4)) :
    M (k1_pay125 v674 v684) (fun g h => (C g h).dp3) := by
  unfold k1_pay125
  exact (M_add h674 h684)

theorem k1_pay126_M {v492 : FVec Ideal S32x64x64 .f32} {v674 : FVec Ideal S32x64x64 .f32} {v684 : FVec Ideal S32x64x64 .f32} (h492 : M v492 (fun g h => (C g h).q3)) (h674 : M v674 (fun g h => (C g h).dp4)) (h684 : M v684 (fun g h => (C g h).dpq4)) :
    M (k1_pay126 v492 v674 v684) (fun g h => (C g h).dp2) := by
  unfold k1_pay126
  exact (M_add (k1_pay125_M h674 h684) (M_d10 (M_trunc (k1_pay125_M h674 h684) _) (M_trunc h492 _)))

theorem k1_pay127_M {v485 : FVec Ideal S32x64x64 .f32} {v492 : FVec Ideal S32x64x64 .f32} {v674 : FVec Ideal S32x64x64 .f32} {v684 : FVec Ideal S32x64x64 .f32} (h485 : M v485 (fun g h => (C g h).q2)) (h492 : M v492 (fun g h => (C g h).q3)) (h674 : M v674 (fun g h => (C g h).dp4)) (h684 : M v684 (fun g h => (C g h).dpq4)) :
    M (k1_pay127 v485 v492 v674 v684) (fun g h => (C g h).dp1) := by
  unfold k1_pay127
  exact (M_add (k1_pay126_M h492 h674 h684) (M_d10 (M_trunc (k1_pay126_M h492 h674 h684) _) (M_trunc h485 _)))

theorem k1_pay128_M {v478 : FVec Ideal S32x64x64 .f32} {v482 : FVec Ideal S32x64x64 .f32} {v485 : FVec Ideal S32x64x64 .f32} {v489 : FVec Ideal S32x64x64 .f32} {v492 : FVec Ideal S32x64x64 .f32} {v496 : FVec Ideal S32x64x64 .f32} {v674 : FVec Ideal S32x64x64 .f32} {v681 : FVec Ideal S32x64x64 .f32} {v684 : FVec Ideal S32x64x64 .f32} (h478 : M v478 (fun g h => (C g h).q1)) (h482 : M v482 (fun g h => (C g h).p1)) (h485 : M v485 (fun g h => (C g h).q2)) (h489 : M v489 (fun g h => (C g h).p2)) (h492 : M v492 (fun g h => (C g h).q3)) (h496 : M v496 (fun g h => (C g h).p3)) (h674 : M v674 (fun g h => (C g h).dp4)) (h681 : M v681 (fun g h => (C g h).w4)) (h684 : M v684 (fun g h => (C g h).dpq4)) :
    M (k1_pay128 v478 v482 v485 v489 v492 v496 v674 v681 v684) (fun g h => (C g h).w1) := by
  unfold k1_pay128
  exact (M_add (M_d10 (M_trunc (M_add (M_add (M_d10 (M_trunc (M_add (M_add (M_d10 (M_trunc (M_add h681 (M_d11 (M_trunc h496 _) (M_trunc h674 _))) _) (M_trunc h492 _)) (M_d11 (M_trunc h492 _) (M_trunc (M_add h681 (M_d11 (M_trunc h496 _) (M_trunc h674 _))) _))) (M_d11 (M_trunc h489 _) (M_trunc (k1_pay125_M h674 h684) _))) _) (M_trunc h485 _)) (M_d11 (M_trunc h485 _) (M_trunc (M_add (M_add (M_d10 (M_trunc (M_add h681 (M_d11 (M_trunc h496 _) (M_trunc h674 _))) _) (M_trunc h492 _)) (M_d11 (M_trunc h492 _) (M_trunc (M_add h681 (M_d11 (M_trunc h496 _) (M_trunc h674 _))) _))) (M_d11 (M_trunc h489 _) (M_trunc (k1_pay125_M h674 h684) _))) _))) (M_d11 (M_trunc h482 _) (M_trunc (k1_pay126_M h492 h674 h684) _))) _) (M_trunc h478 _)) (M_d11 (M_trunc h478 _) (M_trunc (M_add (M_add (M_d10 (M_trunc (M_add (M_add (M_d10 (M_trunc (M_add h681 (M_d11 (M_trunc h496 _) (M_trunc h674 _))) _) (M_trunc h492 _)) (M_d11 (M_trunc h492 _) (M_trunc (M_add h681 (M_d11 (M_trunc h496 _) (M_trunc h674 _))) _))) (M_d11 (M_trunc h489 _) (M_trunc (k1_pay125_M h674 h684) _))) _) (M_trunc h485 _)) (M_d11 (M_trunc h485 _) (M_trunc (M_add (M_add (M_d10 (M_trunc (M_add h681 (M_d11 (M_trunc h496 _) (M_trunc h674 _))) _) (M_trunc h492 _)) (M_d11 (M_trunc h492 _) (M_trunc (M_add h681 (M_d11 (M_trunc h496 _) (M_trunc h674 _))) _))) (M_d11 (M_trunc h489 _) (M_trunc (k1_pay125_M h674 h684) _))) _))) (M_d11 (M_trunc h482 _) (M_trunc (k1_pay126_M h492 h674 h684) _))) _)))

theorem k1_pay129_M {v478 : FVec Ideal S32x64x64 .f32} {v485 : FVec Ideal S32x64x64 .f32} {v492 : FVec Ideal S32x64x64 .f32} {v674 : FVec Ideal S32x64x64 .f32} {v684 : FVec Ideal S32x64x64 .f32} (h478 : M v478 (fun g h => (C g h).q1)) (h485 : M v485 (fun g h => (C g h).q2)) (h492 : M v492 (fun g h => (C g h).q3)) (h674 : M v674 (fun g h => (C g h).dp4)) (h684 : M v684 (fun g h => (C g h).dpq4)) :
    M (k1_pay129 v478 v485 v492 v674 v684) (fun g h => (C g h).dpq1) := by
  unfold k1_pay129
  exact (M_d10 (M_trunc (k1_pay127_M h485 h492 h674 h684) _) (M_trunc h478 _))

theorem k1_pay130_M {v475 : FVec Ideal S32x64x64 .f32} (h475 : M v475 (fun g h => (C g h).p0)) :
    M (k1_pay130 v475) (fun g h => (C g h).p0) := by
  unfold k1_pay130
  exact (M_trunc h475 _)

theorem k1_pay131_M {v485 : FVec Ideal S32x64x64 .f32} {v492 : FVec Ideal S32x64x64 .f32} {v674 : FVec Ideal S32x64x64 .f32} {v684 : FVec Ideal S32x64x64 .f32} (h485 : M v485 (fun g h => (C g h).q2)) (h492 : M v492 (fun g h => (C g h).q3)) (h674 : M v674 (fun g h => (C g h).dp4)) (h684 : M v684 (fun g h => (C g h).dpq4)) :
    M (k1_pay131 v485 v492 v674 v684) (fun g h => (C g h).dp1) := by
  unfold k1_pay131
  exact (M_trunc (k1_pay127_M h485 h492 h674 h684) _)

theorem k1_pay132_M {v465 : IVec S32x64x64 1} {v624 : FVec Ideal S32x64x64 .f32} (h465 : MI3 v465) (h624 : M v624 (fun g h => (C g h).dyv)) :
    M (k1_pay132 v465 v624) (fun g h => (C g h).dArk) := by
  unfold k1_pay132
  exact (M_lowI h465 h624)

theorem k1_pay133_M {v458 : IVec S32x64x64 1} {v630 : FVec Ideal S32x64x64 .f32} (h458 : MI3 v458) (h630 : M v630 (fun g h => (C g h).dyu)) :
    M (k1_pay133 v458 v630) (fun g h => (C g h).dArb) := by
  unfold k1_pay133
  exact (M_lowI h458 h630)

theorem k1_pay134_B {v436 : FVec Ideal S32x64x128 .f32} {v458 : IVec S32x64x64 1} {v630 : FVec Ideal S32x64x64 .f32} (h436 : B v436 (fun g h => (C g h).rt)) (h436BZ : BZ v436) (h458 : MI3 v458) (h630 : M v630 (fun g h => (C g h).dyu)) :
    B (k1_pay134 v436 v458 v630) (fun g h => (C g h).dbt1) := by
  unfold k1_pay134
  exact (B_d9 (M_trunc (k1_pay133_M h458 h630) _) (B_trunc h436 _))

theorem k1_pay134_BZ {v436 : FVec Ideal S32x64x128 .f32} {v458 : IVec S32x64x64 1} {v630 : FVec Ideal S32x64x64 .f32} (h436 : B v436 (fun g h => (C g h).rt)) (h436BZ : BZ v436) (h458 : MI3 v458) (h630 : M v630 (fun g h => (C g h).dyu)) :
    BZ (k1_pay134 v436 v458 v630) := by
  unfold k1_pay134
  exact (BZ_d9 (BZ_trunc h436BZ _))

theorem k1_pay135_B {v418 : FVec Ideal S32x64x128 .f32} {v422 : FVec Ideal S32x64x128 .f32} {v458 : IVec S32x64x64 1} {v465 : IVec S32x64x64 1} {v624 : FVec Ideal S32x64x64 .f32} {v630 : FVec Ideal S32x64x64 .f32} (h418 : B v418 (fun g h => (C g h).bt)) (h422 : B v422 (fun g h => (C g h).kt)) (h458 : MI3 v458) (h465 : MI3 v465) (h624 : M v624 (fun g h => (C g h).dyv)) (h630 : M v630 (fun g h => (C g h).dyu)) :
    B (k1_pay135 v418 v422 v458 v465 v624 v630) (fun g h => (C g h).drt1) := by
  unfold k1_pay135
  exact (B_add (B_d6 (M_trunc (k1_pay132_M h465 h624) _) (B_trunc h422 _)) (B_d6 (M_trunc (k1_pay133_M h458 h630) _) (B_trunc h418 _)))

theorem k1_pay136_M {v451 : IVec S32x64x64 1} {v659 : FVec Ideal S32x64x64 .f32} (h451 : MS3 v451) (h659 : M v659 (fun g h => (C g h).dZv)) :
    M (k1_pay136 v451 v659) (fun g h => (C g h).dAak) := by
  unfold k1_pay136
  exact (M_lowS h451 h659)

theorem k1_pay137_B {v431 : FVec Ideal S32x64x128 .f32} {v436 : FVec Ideal S32x64x128 .f32} {v451 : IVec S32x64x64 1} {v465 : IVec S32x64x64 1} {v624 : FVec Ideal S32x64x64 .f32} {v659 : FVec Ideal S32x64x64 .f32} (h431 : B v431 (fun g h => (C g h).at')) (h431BZ : BZ v431) (h436 : B v436 (fun g h => (C g h).rt)) (h436BZ : BZ v436) (h451 : MS3 v451) (h465 : MI3 v465) (h624 : M v624 (fun g h => (C g h).dyv)) (h659 : M v659 (fun g h => (C g h).dZv)) :
    B (k1_pay137 v431 v436 v451 v465 v624 v659) (fun g h => (C g h).dkt1) := by
  unfold k1_pay137
  exact (B_add (B_d9 (M_trunc (k1_pay132_M h465 h624) _) (B_trunc h436 _)) (B_d9 (M_trunc (k1_pay136_M h451 h659) _) (B_trunc h431 _)))

theorem k1_pay137_BZ {v431 : FVec Ideal S32x64x128 .f32} {v436 : FVec Ideal S32x64x128 .f32} {v451 : IVec S32x64x64 1} {v465 : IVec S32x64x64 1} {v624 : FVec Ideal S32x64x64 .f32} {v659 : FVec Ideal S32x64x64 .f32} (h431 : B v431 (fun g h => (C g h).at')) (h431BZ : BZ v431) (h436 : B v436 (fun g h => (C g h).rt)) (h436BZ : BZ v436) (h451 : MS3 v451) (h465 : MI3 v465) (h624 : M v624 (fun g h => (C g h).dyv)) (h659 : M v659 (fun g h => (C g h).dZv)) :
    BZ (k1_pay137 v431 v436 v451 v465 v624 v659) := by
  unfold k1_pay137
  exact (BZ_add (BZ_d9 (BZ_trunc h436BZ _)) (BZ_d9 (BZ_trunc h431BZ _)))

theorem k1_pay138_M {v444 : IVec S32x64x64 1} {v446 : FVec Ideal S32x64x64 .f32} {v718 : FVec Ideal S32x64x64 .f32} {v726 : FVec Ideal S32x64x64 .f32} {v729 : FVec Ideal S32x64x64 .f32} {v730 : FVec Ideal S32x64x64 .bf16} {v731 : FVec Ideal S32x64x64 .bf16} (h444 : MS3 v444) (h446 : M v446 (fun g h => (C g h).Aab)) (h718 : M v718 (fun g h => (C g h).dp1)) (h726 : M v726 (fun g h => (C g h).w1)) (h729 : M v729 (fun g h => (C g h).dpq1)) (h730 : M v730 (fun g h => (C g h).p0)) (h731 : M v731 (fun g h => (C g h).dp1)) :
    M (k1_pay138 v444 v446 v718 v726 v729 v730 v731 (constant S32x64x64 .f32 0x00000000#32)) (fun g h => (C g h).dAab) := by
  unfold k1_pay138
  exact (M_lowS h444 (M_add (M_add (M_add h718 h729) (M_d10 (M_trunc (M_add h726 (M_d11 h730 h731)) _) (M_trunc h446 _))) (M_d11 (M_trunc h446 _) (M_trunc (M_add h726 (M_d11 h730 h731)) _))))

theorem k1_pay139_B {v431 : FVec Ideal S32x64x128 .f32} {v444 : IVec S32x64x64 1} {v446 : FVec Ideal S32x64x64 .f32} {v718 : FVec Ideal S32x64x64 .f32} {v726 : FVec Ideal S32x64x64 .f32} {v729 : FVec Ideal S32x64x64 .f32} {v730 : FVec Ideal S32x64x64 .bf16} {v731 : FVec Ideal S32x64x64 .bf16} (h431 : B v431 (fun g h => (C g h).at')) (h431BZ : BZ v431) (h444 : MS3 v444) (h446 : M v446 (fun g h => (C g h).Aab)) (h718 : M v718 (fun g h => (C g h).dp1)) (h726 : M v726 (fun g h => (C g h).w1)) (h729 : M v729 (fun g h => (C g h).dpq1)) (h730 : M v730 (fun g h => (C g h).p0)) (h731 : M v731 (fun g h => (C g h).dp1)) :
    B (k1_pay139 v431 v444 v446 v718 v726 v729 v730 v731 (constant S32x64x64 .f32 0x00000000#32)) (fun g h => (C g h).dbt2) := by
  unfold k1_pay139
  exact (B_d9 (M_trunc (k1_pay138_M h444 h446 h718 h726 h729 h730 h731) _) (B_trunc h431 _))

theorem k1_pay139_BZ {v431 : FVec Ideal S32x64x128 .f32} {v444 : IVec S32x64x64 1} {v446 : FVec Ideal S32x64x64 .f32} {v718 : FVec Ideal S32x64x64 .f32} {v726 : FVec Ideal S32x64x64 .f32} {v729 : FVec Ideal S32x64x64 .f32} {v730 : FVec Ideal S32x64x64 .bf16} {v731 : FVec Ideal S32x64x64 .bf16} (h431 : B v431 (fun g h => (C g h).at')) (h431BZ : BZ v431) (h444 : MS3 v444) (h446 : M v446 (fun g h => (C g h).Aab)) (h718 : M v718 (fun g h => (C g h).dp1)) (h726 : M v726 (fun g h => (C g h).w1)) (h729 : M v729 (fun g h => (C g h).dpq1)) (h730 : M v730 (fun g h => (C g h).p0)) (h731 : M v731 (fun g h => (C g h).dp1)) :
    BZ (k1_pay139 v431 v444 v446 v718 v726 v729 v730 v731 (constant S32x64x64 .f32 0x00000000#32)) := by
  unfold k1_pay139
  exact (BZ_d9 (BZ_trunc h431BZ _))

theorem k1_pay140_B {v418 : FVec Ideal S32x64x128 .f32} {v422 : FVec Ideal S32x64x128 .f32} {v444 : IVec S32x64x64 1} {v446 : FVec Ideal S32x64x64 .f32} {v451 : IVec S32x64x64 1} {v659 : FVec Ideal S32x64x64 .f32} {v718 : FVec Ideal S32x64x64 .f32} {v726 : FVec Ideal S32x64x64 .f32} {v729 : FVec Ideal S32x64x64 .f32} {v730 : FVec Ideal S32x64x64 .bf16} {v731 : FVec Ideal S32x64x64 .bf16} (h418 : B v418 (fun g h => (C g h).bt)) (h422 : B v422 (fun g h => (C g h).kt)) (h444 : MS3 v444) (h446 : M v446 (fun g h => (C g h).Aab)) (h451 : MS3 v451) (h659 : M v659 (fun g h => (C g h).dZv)) (h718 : M v718 (fun g h => (C g h).dp1)) (h726 : M v726 (fun g h => (C g h).w1)) (h729 : M v729 (fun g h => (C g h).dpq1)) (h730 : M v730 (fun g h => (C g h).p0)) (h731 : M v731 (fun g h => (C g h).dp1)) :
    B (k1_pay140 v418 v422 v444 v446 v451 v659 v718 v726 v729 v730 v731 (constant S32x64x64 .f32 0x00000000#32)) (fun g h => (C g h).dat1) := by
  unfold k1_pay140
  exact (B_add (B_d6 (M_trunc (k1_pay136_M h451 h659) _) (B_trunc h422 _)) (B_d6 (M_trunc (k1_pay138_M h444 h446 h718 h726 h729 h730 h731) _) (B_trunc h418 _)))

theorem k1_pay141_S {v400 : FVec Ideal S16x64x128 .f32} {v645 : FVec Ideal S16x128x128 .f32} {v667 : FVec Ideal S16x64x128 .f32} (h400 : T v400 (fun g h => (C g h).at')) (h645 : S v645 (fun g h => (C g h).ds1)) (h667 : T v667 (fun g h => (C g h).dZ)) :
    S (k1_pay141 v400 v645 v667) (fun g h => (C g h).ds0) := by
  unfold k1_pay141
  exact (S_add h645 (S_d7 (T_trunc h667 _) (T_trunc h400 _)))

theorem k1_pay142_T {v414 : FVec Ideal S2x1x1x128 .f32} {v641 : FVec Ideal S16x64x128 .f32} {v759 : FVec Ideal S32x64x128 .f32} (h414 : HM v414) (h641 : T v641 (fun g h => (C g h).dr0)) (h759 : B v759 (fun g h => (C g h).drt1)) :
    T (k1_pay142 v414 v641 v759) (fun g h => (C g h).drt) := by
  unfold k1_pay142
  exact (T_add h641 (T_again (T_red (D_mask h414 h759))))

theorem k1_pay143_T {v76 : FVec Ideal S16x128x128 .f32} {v414 : FVec Ideal S2x1x1x128 .f32} {v667 : FVec Ideal S16x64x128 .f32} {v777 : FVec Ideal S32x64x128 .f32} (h76 : S v76 (fun g h => (C g h).s)) (h76SZ : SZ v76) (h414 : HM v414) (h667 : T v667 (fun g h => (C g h).dZ)) (h777 : B v777 (fun g h => (C g h).dat1)) :
    T (k1_pay143 v76 v414 v667 v777) (fun g h => (C g h).dat) := by
  unfold k1_pay143
  exact (T_add (T_d8 (T_trunc h667 _) (S_trunc h76 _) (SZ_trunc h76SZ _)) (T_again (T_red (D_mask h414 h777))))

theorem k1_pay144_T {v607 : FVec Ideal S16x64x128 .f32} {v663 : FVec Ideal S32x64x128 .f32} (h607 : T v607 (fun g h => (C g h).dv0)) (h663 : B v663 (fun g h => (C g h).dv2)) (h663BZ : BZ v663) :
    T (k1_pay144 v607 v663) (fun g h => (C g h).dv) := by
  unfold k1_pay144
  exact (T_add h607 (T_again (T_merge h663 h663BZ)))

theorem k1_pay145_T {v610 : FVec Ideal S16x64x128 .f32} {v768 : FVec Ideal S32x64x128 .f32} (h610 : T v610 (fun g h => (C g h).dk0)) (h768 : B v768 (fun g h => (C g h).dkt1)) (h768BZ : BZ v768) :
    T (k1_pay145 v610 v768) (fun g h => (C g h).dkt) := by
  unfold k1_pay145
  exact (T_add h610 (T_again (T_merge h768 h768BZ)))

theorem k1_pay146_T {v616 : FVec Ideal S16x64x128 .f32} {v758 : FVec Ideal S32x64x128 .f32} {v776 : FVec Ideal S32x64x128 .f32} (h616 : T v616 (fun g h => (C g h).db0)) (h758 : B v758 (fun g h => (C g h).dbt1)) (h758BZ : BZ v758) (h776 : B v776 (fun g h => (C g h).dbt2)) (h776BZ : BZ v776) :
    T (k1_pay146 v616 v758 v776) (fun g h => (C g h).dbt) := by
  unfold k1_pay146
  exact (T_add h616 (T_again (T_merge (B_add h758 h776) (BZ_add h758BZ h776BZ))))

theorem k1_pay147_T {v403 : FVec Ideal S16x64x128 .f32} {v414 : FVec Ideal S2x1x1x128 .f32} {v641 : FVec Ideal S16x64x128 .f32} {v759 : FVec Ideal S32x64x128 .f32} (h403 : T v403 (fun g h => (C g h).ec)) (h414 : HM v414) (h641 : T v641 (fun g h => (C g h).dr0)) (h759 : B v759 (fun g h => (C g h).drt1)) :
    T (k1_pay147 v403 v414 v641 v759) (fun g h => (C g h).dr) := by
  unfold k1_pay147
  exact (T_mul (k1_pay142_T h414 h641 h759) h403)

theorem k1_pay148_T {v125 : FVec Ideal S16x64x128 .f32} {v403 : FVec Ideal S16x64x128 .f32} {v414 : FVec Ideal S2x1x1x128 .f32} {v641 : FVec Ideal S16x64x128 .f32} {v759 : FVec Ideal S32x64x128 .f32} (h125 : T v125 (fun g h => (C g h).r)) (h403 : T v403 (fun g h => (C g h).ec)) (h414 : HM v414) (h641 : T v641 (fun g h => (C g h).dr0)) (h759 : B v759 (fun g h => (C g h).drt1)) :
    T (k1_pay148 v125 v403 v414 v641 v759) (fun g h => (C g h).rdr) := by
  unfold k1_pay148
  exact (T_mul (T_mul h125 (k1_pay142_T h414 h641 h759)) h403)

theorem k1_pay149_T {v397 : FVec Ideal S16x64x128 .f32} {v610 : FVec Ideal S16x64x128 .f32} {v768 : FVec Ideal S32x64x128 .f32} (h397 : T v397 (fun g h => (C g h).en)) (h610 : T v610 (fun g h => (C g h).dk0)) (h768 : B v768 (fun g h => (C g h).dkt1)) (h768BZ : BZ v768) :
    T (k1_pay149 v397 v610 v768) (fun g h => (C g h).dk) := by
  unfold k1_pay149
  exact (T_mul (k1_pay145_T h610 h768 h768BZ) h397)

theorem k1_pay150_T {v223 : FVec Ideal S16x64x128 .f32} {v370 : FVec Ideal S16x64x128 .f32} {v610 : FVec Ideal S16x64x128 .f32} {v616 : FVec Ideal S16x64x128 .f32} {v758 : FVec Ideal S32x64x128 .f32} {v768 : FVec Ideal S32x64x128 .f32} {v776 : FVec Ideal S32x64x128 .f32} (h223 : T v223 (fun g h => (C g h).k)) (h370 : T v370 (fun g h => (C g h).b)) (h610 : T v610 (fun g h => (C g h).dk0)) (h616 : T v616 (fun g h => (C g h).db0)) (h758 : B v758 (fun g h => (C g h).dbt1)) (h758BZ : BZ v758) (h768 : B v768 (fun g h => (C g h).dkt1)) (h768BZ : BZ v768) (h776 : B v776 (fun g h => (C g h).dbt2)) (h776BZ : BZ v776) :
    T (k1_pay150 v223 v370 v610 v616 v758 v768 v776) (fun g h => (C g h).kb) := by
  unfold k1_pay150
  exact (T_add (T_mul h223 (k1_pay145_T h610 h768 h768BZ)) (T_mul h370 (k1_pay146_T h616 h758 h758BZ h776 h776BZ)))

theorem k1_pay151_T {v397 : FVec Ideal S16x64x128 .f32} {v616 : FVec Ideal S16x64x128 .f32} {v758 : FVec Ideal S32x64x128 .f32} {v776 : FVec Ideal S32x64x128 .f32} (h397 : T v397 (fun g h => (C g h).en)) (h616 : T v616 (fun g h => (C g h).db0)) (h758 : B v758 (fun g h => (C g h).dbt1)) (h758BZ : BZ v758) (h776 : B v776 (fun g h => (C g h).dbt2)) (h776BZ : BZ v776) :
    T (k1_pay151 v397 v616 v758 v776) (fun g h => (C g h).db) := by
  unfold k1_pay151
  exact (T_mul (k1_pay146_T h616 h758 h758BZ h776 h776BZ) h397)

theorem k1_pay152_T {v76 : FVec Ideal S16x128x128 .f32} {v399 : FVec Ideal S16x64x128 .f32} {v414 : FVec Ideal S2x1x1x128 .f32} {v667 : FVec Ideal S16x64x128 .f32} {v777 : FVec Ideal S32x64x128 .f32} (h76 : S v76 (fun g h => (C g h).s)) (h76SZ : SZ v76) (h399 : T v399 (fun g h => (C g h).ep)) (h414 : HM v414) (h667 : T v667 (fun g h => (C g h).dZ)) (h777 : B v777 (fun g h => (C g h).dat1)) :
    T (k1_pay152 v76 v399 v414 v667 v777) (fun g h => (C g h).da) := by
  unfold k1_pay152
  exact (T_mul (k1_pay143_T h76 h76SZ h414 h667 h777) h399)

theorem k1_pay153_T {v76 : FVec Ideal S16x128x128 .f32} {v321 : FVec Ideal S16x64x128 .f32} {v399 : FVec Ideal S16x64x128 .f32} {v414 : FVec Ideal S2x1x1x128 .f32} {v667 : FVec Ideal S16x64x128 .f32} {v777 : FVec Ideal S32x64x128 .f32} (h76 : S v76 (fun g h => (C g h).s)) (h76SZ : SZ v76) (h321 : T v321 (fun g h => (C g h).a)) (h399 : T v399 (fun g h => (C g h).ep)) (h414 : HM v414) (h667 : T v667 (fun g h => (C g h).dZ)) (h777 : B v777 (fun g h => (C g h).dat1)) :
    T (k1_pay153 v76 v321 v399 v414 v667 v777) (fun g h => (C g h).al) := by
  unfold k1_pay153
  exact (T_mul (T_mul h321 (k1_pay143_T h76 h76SZ h414 h667 h777)) h399)

theorem k1_pay154_T {v379 : FVec Ideal S16x64x64 .bf16} {v387 : FVec Ideal S16x128x64 .bf16} {v397 : FVec Ideal S16x64x128 .f32} {v602 : FVec Ideal S16x128x128 .f32} {v817 : FVec Ideal S16x64x128 .f32} {v821 : FVec Ideal S16x64x128 .f32} {v825 : FVec Ideal S16x64x128 .f32} (h379 : K v379 LI) (h387 : ON v387) (h397 : T v397 (fun g h => (C g h).en)) (h602 : S v602 (fun g h => (C g h).sds)) (h602SZ : SZ v602) (h817 : T v817 (fun g h => (C g h).rdr)) (h821 : T v821 (fun g h => (C g h).kb)) (h825 : T v825 (fun g h => (C g h).al)) :
    T (k1_pay154 v379 v387 v397 v602 v817 v821 v825) (fun g h => (C g h).dlw) := by
  unfold k1_pay154
  exact (T_add (T_add (T_sub T_zero h825) (T_add (T_d2t h387 (S_trunc h602 _) (SZ_trunc h602SZ _)) (T_d2t h387 (S_trunc (S_sub h602 (S_ext (S_trunc h602 _) _)) _) (SZ_trunc (SZ_sub h602SZ (SZ_ext (SZ_trunc h602SZ _) _)) _)))) (T_add (T_d1t h379 (T_trunc (T_add (T_add h817 h825) (T_sub T_zero (T_mul h821 h397))) _)) (T_d1t h379 (T_trunc (T_sub (T_add (T_add h817 h825) (T_sub T_zero (T_mul h821 h397))) (T_ext (T_trunc (T_add (T_add h817 h825) (T_sub T_zero (T_mul h821 h397))) _) _)) _))))

end Cert.KernelIdeal.Val

end
-- ==== Proof.Trip1.lean ====
module

public import proofs.«01_k».proof.Proof.Pay2
public import proofs.«01_k».proof.Proof.Load
public import proofs.«01_k».proof.Proof.Gen.KernelIdeal.Loops

@[expose] public section

set_option maxRecDepth 16384

noncomputable section

namespace Cert.KernelIdeal.Val

open Idealize.ShloMosaic Idealize.ShloMosaic.TcCoe
open Cert.KernelIdeal Cert.KernelIdeal.Gen Cert.Rwkv

theorem k1_v125_T {v : Memref sig .tc .vmem S128x2048 .f32} {X : v.view.ty.Contents (Elt Ideal)} {k : Fin k1_t1_loop.trips} {f : Mats}
    (hX : LD (v.view.read (Elt Ideal) X) (64 - 64 * k.val) f) : T (trip_k1_t1.sl.v125 (F := Ideal) v X k) f :=
  T_rows (read_rows hX 0 (k1_off17_eq k)) (read_rows hX 1 (k1_off18_eq k)) (read_rows hX 2 (k1_off19_eq k)) (read_rows hX 3 (k1_off20_eq k)) (read_rows hX 4 (k1_off21_eq k)) (read_rows hX 5 (k1_off22_eq k)) (read_rows hX 6 (k1_off23_eq k)) (read_rows hX 7 (k1_off24_eq k)) (read_rows hX 8 (k1_off25_eq k)) (read_rows hX 9 (k1_off26_eq k)) (read_rows hX 10 (k1_off27_eq k)) (read_rows hX 11 (k1_off28_eq k)) (read_rows hX 12 (k1_off29_eq k)) (read_rows hX 13 (k1_off30_eq k)) (read_rows hX 14 (k1_off31_eq k)) (read_rows hX 15 (k1_off32_eq k))

theorem k1_v174_T {v : Memref sig .tc .vmem S128x2048 .f32} {X : v.view.ty.Contents (Elt Ideal)} {k : Fin k1_t1_loop.trips} {f : Mats}
    (hX : LD (v.view.read (Elt Ideal) X) (64 - 64 * k.val) f) : T (trip_k1_t1.sl.v174 (F := Ideal) v X k) f :=
  k1_v125_T hX

theorem k1_v223_T {v : Memref sig .tc .vmem S128x2048 .f32} {X : v.view.ty.Contents (Elt Ideal)} {k : Fin k1_t1_loop.trips} {f : Mats}
    (hX : LD (v.view.read (Elt Ideal) X) (64 - 64 * k.val) f) : T (trip_k1_t1.sl.v223 (F := Ideal) v X k) f :=
  k1_v125_T hX

theorem k1_v272_T {v : Memref sig .tc .vmem S128x2048 .f32} {X : v.view.ty.Contents (Elt Ideal)} {k : Fin k1_t1_loop.trips} {f : Mats}
    (hX : LD (v.view.read (Elt Ideal) X) (64 - 64 * k.val) f) : T (trip_k1_t1.sl.v272 (F := Ideal) v X k) f :=
  k1_v125_T hX

theorem k1_v321_T {v : Memref sig .tc .vmem S128x2048 .f32} {X : v.view.ty.Contents (Elt Ideal)} {k : Fin k1_t1_loop.trips} {f : Mats}
    (hX : LD (v.view.read (Elt Ideal) X) (64 - 64 * k.val) f) : T (trip_k1_t1.sl.v321 (F := Ideal) v X k) f :=
  k1_v125_T hX

theorem k1_r_64_T {v : Memref sig .tc .vmem S128x2048 .f32} {X : v.view.ty.Contents (Elt Ideal)} {k : Fin k1_t1_loop.trips} {f : Mats}
    (hX : LD (v.view.read (Elt Ideal) X) (64 - 64 * k.val) f) : T (trip_k1_t1.sl.r_64 (F := Ideal) v X k) f :=
  k1_v125_T hX

theorem k1_r_120_T {v : Memref sig .tc .vmem S128x2048 .f32} {X : v.view.ty.Contents (Elt Ideal)} {k : Fin k1_t1_loop.trips} {f : Mats}
    (hX : LD (v.view.read (Elt Ideal) X) (64 - 64 * k.val) f) : T (trip_k1_t1.sl.r_120 (F := Ideal) v X k) f := by
  unfold trip_k1_t1.sl.r_120 k1_pay101 trip_k1_t1.sl.r_104 trip_k1_t1.sl.r_105 trip_k1_t1.sl.r_106 trip_k1_t1.sl.r_107 trip_k1_t1.sl.r_108 trip_k1_t1.sl.r_109 trip_k1_t1.sl.r_110 trip_k1_t1.sl.r_111 trip_k1_t1.sl.r_112 trip_k1_t1.sl.r_113 trip_k1_t1.sl.r_114 trip_k1_t1.sl.r_115 trip_k1_t1.sl.r_116 trip_k1_t1.sl.r_117 trip_k1_t1.sl.r_118 trip_k1_t1.sl.r_119 k1_pay95 k1_pay96 k1_pay97 k1_pay98 k1_pay99 k1_pay100
  exact k1_v125_T hX

theorem k1_v76_at {v : Memref sig .tc .vmem S16x2x128x128 .f32} {X : v.view.ty.Contents (Elt Ideal)} {k : Fin k1_t1_loop.trips} (q : Fin 2) (hq : q.val = 1 - k.val) (g : Fin 16) (i j : Fin 128) :
    trip_k1_t1.sl.v76 (F := Ideal) v X k (ix3 g i j) = v.view.read (Elt Ideal) X (ix4 g q i j) :=
  S_pile (x := v.view.read (Elt Ideal) X) (q := q) (read_slab 0 q hq (k1_off1_eq k)) (read_slab 1 q hq (k1_off2_eq k)) (read_slab 2 q hq (k1_off3_eq k)) (read_slab 3 q hq (k1_off4_eq k)) (read_slab 4 q hq (k1_off5_eq k)) (read_slab 5 q hq (k1_off6_eq k)) (read_slab 6 q hq (k1_off7_eq k)) (read_slab 7 q hq (k1_off8_eq k)) (read_slab 8 q hq (k1_off9_eq k)) (read_slab 9 q hq (k1_off10_eq k)) (read_slab 10 q hq (k1_off11_eq k)) (read_slab 11 q hq (k1_off12_eq k)) (read_slab 12 q hq (k1_off13_eq k)) (read_slab 13 q hq (k1_off14_eq k)) (read_slab 14 q hq (k1_off15_eq k)) (read_slab 15 q hq (k1_off16_eq k)) g i j

theorem k1_v76_S {v : Memref sig .tc .vmem S16x2x128x128 .f32} {X : v.view.ty.Contents (Elt Ideal)} {k : Fin k1_t1_loop.trips} {f : Mats}
    (hX : LS (v.view.read (Elt Ideal) X) (1 - k.val) f) : S (trip_k1_t1.sl.v76 (F := Ideal) v X k) f := fun g h i j =>
  (k1_v76_at ⟨1 - k.val, by omega⟩ rfl g _ _).trans (hX _ g h i j rfl)

theorem k1_v76_SZ {v : Memref sig .tc .vmem S16x2x128x128 .f32} {X : v.view.ty.Contents (Elt Ideal)} {k : Fin k1_t1_loop.trips}
    (hX : LSZ (v.view.read (Elt Ideal) X) (1 - k.val)) : SZ (trip_k1_t1.sl.v76 (F := Ideal) v X k) := fun g h h' i j hh =>
  (k1_v76_at ⟨1 - k.val, by omega⟩ rfl g _ _).trans (hX _ g h h' i j rfl hh)

theorem k1_chain {C : Fin 16 → Fin 2 → Chunk} {arg2 : Memref sig .tc .vmem S128x2048 .f32} {X_arg2 : arg2.view.ty.Contents (Elt Ideal)} {arg3 : Memref sig .tc .vmem S128x2048 .f32} {X_arg3 : arg3.view.ty.Contents (Elt Ideal)} {arg4 : Memref sig .tc .vmem S128x2048 .f32} {X_arg4 : arg4.view.ty.Contents (Elt Ideal)} {arg5 : Memref sig .tc .vmem S128x2048 .f32} {X_arg5 : arg5.view.ty.Contents (Elt Ideal)} {arg6 : Memref sig .tc .vmem S128x2048 .f32} {X_arg6 : arg6.view.ty.Contents (Elt Ideal)} {arg7 : Memref sig .tc .vmem S128x2048 .f32} {X_arg7 : arg7.view.ty.Contents (Elt Ideal)} {arg8 : Memref sig .tc .vmem S128x2048 .f32} {X_arg8 : arg8.view.ty.Contents (Elt Ideal)} {arg9 : Memref sig .tc .vmem S16x2x128x128 .f32} {X_arg9 : arg9.view.ty.Contents (Elt Ideal)} {k : Fin k1_t1_loop.trips} {acc : FVec Ideal S16x128x128 .f32}
    (i2 : LD (arg2.view.read (Elt Ideal) X_arg2) (64 - 64 * k.val) (fun g h => (C g h).r))
    (i3 : LD (arg3.view.read (Elt Ideal) X_arg3) (64 - 64 * k.val) (fun g h => (C g h).lw))
    (i4 : LD (arg4.view.read (Elt Ideal) X_arg4) (64 - 64 * k.val) (fun g h => (C g h).k))
    (i5 : LD (arg5.view.read (Elt Ideal) X_arg5) (64 - 64 * k.val) (fun g h => (C g h).v))
    (i6 : LD (arg6.view.read (Elt Ideal) X_arg6) (64 - 64 * k.val) (fun g h => (C g h).a))
    (i7 : LD (arg7.view.read (Elt Ideal) X_arg7) (64 - 64 * k.val) (fun g h => (C g h).b))
    (i8 : LD (arg8.view.read (Elt Ideal) X_arg8) (64 - 64 * k.val) (fun g h => (C g h).dy))
    (i9 : LS (arg9.view.read (Elt Ideal) X_arg9) (1 - k.val) (fun g h => (C g h).s)) (i9Z : LSZ (arg9.view.read (Elt Ideal) X_arg9) (1 - k.val))
    (hS : S acc (fun g h => (C g h).ds)) :
    S (trip_k1_t1.sl.r_149 (F := Ideal) arg2 arg3 arg6 arg7 arg8 X_arg2 X_arg3 X_arg6 X_arg7 X_arg8 k acc) (fun g h => (C g h).ds0) ∧
    T (trip_k1_t1.sl.r_151 (F := Ideal) arg3 arg4 arg5 arg6 arg7 arg8 arg9 X_arg3 X_arg4 X_arg5 X_arg6 X_arg7 X_arg8 X_arg9 k) (fun g h => (C g h).dr) ∧
    T (trip_k1_t1.sl.r_158 (F := Ideal) arg2 arg3 arg4 arg5 arg6 arg7 arg8 arg9 X_arg2 X_arg3 X_arg4 X_arg5 X_arg6 X_arg7 X_arg8 X_arg9 k acc) (fun g h => (C g h).dlw) ∧
    T (trip_k1_t1.sl.r_153 (F := Ideal) arg2 arg3 arg5 arg6 arg7 arg8 X_arg2 X_arg3 X_arg5 X_arg6 X_arg7 X_arg8 k acc) (fun g h => (C g h).dk) ∧
    T (trip_k1_t1.sl.r_150 (F := Ideal) arg2 arg3 arg4 arg6 arg7 arg8 X_arg2 X_arg3 X_arg4 X_arg6 X_arg7 X_arg8 k acc) (fun g h => (C g h).dv) ∧
    T (trip_k1_t1.sl.r_156 (F := Ideal) arg2 arg3 arg4 arg5 arg6 arg7 arg8 arg9 X_arg2 X_arg3 X_arg4 X_arg5 X_arg6 X_arg7 X_arg8 X_arg9 k acc) (fun g h => (C g h).da) ∧
    T (trip_k1_t1.sl.r_155 (F := Ideal) arg2 arg3 arg4 arg5 arg6 arg7 arg8 arg9 X_arg2 X_arg3 X_arg4 X_arg5 X_arg6 X_arg7 X_arg8 X_arg9 k acc) (fun g h => (C g h).db) := by
  have hr_65_T : T (trip_k1_t1.sl.r_65 (F := Ideal) arg3 X_arg3 k) (fun g h => (C g h).cum) := k1_pay47_T (k1_v174_T i3)
  have hr_66_S : S (trip_k1_t1.sl.r_66 (F := Ideal) arg3 X_arg3 k) (fun g h => (C g h).tot) := k1_pay49_S (k1_v174_T i3)
  have hr_67_T : T (trip_k1_t1.sl.r_67 (F := Ideal) arg3 X_arg3 k) (fun g h => (C g h).en) := k1_pay51_T hr_65_T k1_pay50_T
  have hr_68_T : T (trip_k1_t1.sl.r_68 (F := Ideal) arg3 X_arg3 k) (fun g h => (C g h).ep) := k1_pay52_T (k1_v174_T i3) hr_65_T
  have hr_69_T : T (trip_k1_t1.sl.r_69 (F := Ideal) arg3 arg6 X_arg3 X_arg6 k) (fun g h => (C g h).at') := k1_pay53_T (k1_v174_T i3) (k1_v321_T i6) hr_65_T
  have hr_70_T : T (trip_k1_t1.sl.r_70 (F := Ideal) arg3 arg7 X_arg3 X_arg7 k) (fun g h => (C g h).bt) := k1_pay54_T (k1_r_64_T i7) hr_65_T k1_pay50_T
  have hr_71_T : T (trip_k1_t1.sl.r_71 (F := Ideal) arg3 arg4 X_arg3 X_arg4 k) (fun g h => (C g h).kt) := k1_pay55_T (k1_v223_T i4) hr_65_T k1_pay50_T
  have hr_72_T : T (trip_k1_t1.sl.r_72 (F := Ideal) arg3 X_arg3 k) (fun g h => (C g h).ec) := k1_pay56_T hr_65_T
  have hr_73_T : T (trip_k1_t1.sl.r_73 (F := Ideal) arg2 arg3 X_arg2 X_arg3 k) (fun g h => (C g h).rt) := k1_pay57_T (k1_v125_T i2) hr_65_T
  have hr_74_B : B (trip_k1_t1.sl.r_74 (F := Ideal) arg3 arg7 X_arg3 X_arg7 k) (fun g h => (C g h).bt) := k1_pay59_B (k1_r_64_T i7) hr_65_T k1_pay50_T
  have hr_75_B : B (trip_k1_t1.sl.r_75 (F := Ideal) arg3 arg4 X_arg3 X_arg4 k) (fun g h => (C g h).kt) := k1_pay60_B (k1_v223_T i4) hr_65_T k1_pay50_T
  have hr_76_B : B (trip_k1_t1.sl.r_76 (F := Ideal) arg5 X_arg5 k) (fun g h => (C g h).v) := k1_pay61_B (k1_v272_T i5)
  have hr_77_B : B (trip_k1_t1.sl.r_77 (F := Ideal) arg3 arg6 X_arg3 X_arg6 k) (fun g h => (C g h).at') := k1_pay62_B (k1_v174_T i3) (k1_v321_T i6) hr_65_T
  have hr_77_BZ : BZ (trip_k1_t1.sl.r_77 (F := Ideal) arg3 arg6 X_arg3 X_arg6 k) := k1_pay62_BZ (k1_v174_T i3) (k1_v321_T i6) hr_65_T
  have hr_78_B : B (trip_k1_t1.sl.r_78 (F := Ideal) arg2 arg3 X_arg2 X_arg3 k) (fun g h => (C g h).rt) := k1_pay63_B (k1_v125_T i2) hr_65_T
  have hr_78_BZ : BZ (trip_k1_t1.sl.r_78 (F := Ideal) arg2 arg3 X_arg2 X_arg3 k) := k1_pay63_BZ (k1_v125_T i2) hr_65_T
  have hr_79_T : T (trip_k1_t1.sl.r_79 (F := Ideal) arg3 arg6 arg9 X_arg3 X_arg6 X_arg9 k) (fun g h => (C g h).base) := k1_pay64_T (k1_v76_S i9) (k1_v76_SZ i9Z) (k1_v174_T i3) (k1_v321_T i6) hr_65_T
  have hr_80_M : M (trip_k1_t1.sl.r_80 (F := Ideal) arg3 arg6 arg7 X_arg3 X_arg6 X_arg7 k) (fun g h => (C g h).Aab) := k1_pay66_M (k1_v174_T i3) (k1_v321_T i6) (k1_r_64_T i7) k1_pay45_MS hr_65_T k1_pay50_T
  have hr_81_B : B (trip_k1_t1.sl.r_81 (F := Ideal) arg3 arg6 X_arg3 X_arg6 k) (fun g h => (C g h).at') := k1_pay67_B (k1_v174_T i3) (k1_v321_T i6) hr_65_T
  have hr_81_BZ : BZ (trip_k1_t1.sl.r_81 (F := Ideal) arg3 arg6 X_arg3 X_arg6 k) := k1_pay67_BZ (k1_v174_T i3) (k1_v321_T i6) hr_65_T
  have hr_82_B : B (trip_k1_t1.sl.r_82 (F := Ideal) arg3 arg4 X_arg3 X_arg4 k) (fun g h => (C g h).kt) := k1_pay68_B (k1_v223_T i4) hr_65_T k1_pay50_T
  have hr_83_M : M (trip_k1_t1.sl.r_83 (F := Ideal) arg3 arg4 arg6 X_arg3 X_arg4 X_arg6 k) (fun g h => (C g h).Aak) := k1_pay70_M k1_pay45_MS hr_81_B hr_81_BZ hr_82_B
  have hr_84_M : M (trip_k1_t1.sl.r_84 (F := Ideal) arg2 arg3 arg7 X_arg2 X_arg3 X_arg7 k) (fun g h => (C g h).Arb) := k1_pay72_M k1_pay44_MI hr_74_B hr_78_B hr_78_BZ
  have hr_85_M : M (trip_k1_t1.sl.r_85 (F := Ideal) arg2 arg3 arg4 X_arg2 X_arg3 X_arg4 k) (fun g h => (C g h).Ark) := k1_pay74_M k1_pay44_MI hr_75_B hr_78_B hr_78_BZ
  have hr_86_M : M (trip_k1_t1.sl.r_86 (F := Ideal) arg3 arg6 arg7 X_arg3 X_arg6 X_arg7 k) (fun g h => (C g h).p0) := k1_pay75_M hr_80_M
  have hr_87_M : M (trip_k1_t1.sl.r_87 (F := Ideal) arg3 arg6 arg7 X_arg3 X_arg6 X_arg7 k) (fun g h => (C g h).q1) := k1_pay76_M hr_80_M
  have hr_88_M : M (trip_k1_t1.sl.r_88 (F := Ideal) arg3 arg6 arg7 X_arg3 X_arg6 X_arg7 k) (fun g h => (C g h).p1) := k1_pay77_M hr_80_M
  have hr_89_M : M (trip_k1_t1.sl.r_89 (F := Ideal) arg3 arg6 arg7 X_arg3 X_arg6 X_arg7 k) (fun g h => (C g h).q2) := k1_pay78_M hr_80_M
  have hr_90_M : M (trip_k1_t1.sl.r_90 (F := Ideal) arg3 arg6 arg7 X_arg3 X_arg6 X_arg7 k) (fun g h => (C g h).p2) := k1_pay79_M hr_80_M
  have hr_91_M : M (trip_k1_t1.sl.r_91 (F := Ideal) arg3 arg6 arg7 X_arg3 X_arg6 X_arg7 k) (fun g h => (C g h).q3) := k1_pay80_M hr_80_M
  have hr_92_M : M (trip_k1_t1.sl.r_92 (F := Ideal) arg3 arg6 arg7 X_arg3 X_arg6 X_arg7 k) (fun g h => (C g h).p3) := k1_pay81_M hr_80_M
  have hr_93_M : M (trip_k1_t1.sl.r_93 (F := Ideal) arg3 arg6 arg7 X_arg3 X_arg6 X_arg7 k) (fun g h => (C g h).q3) := k1_pay82_M hr_80_M
  have hr_94_M : M (trip_k1_t1.sl.r_94 (F := Ideal) arg3 arg6 arg7 X_arg3 X_arg6 X_arg7 k) (fun g h => (C g h).q4) := k1_pay83_M hr_91_M hr_93_M
  have hr_95_M : M (trip_k1_t1.sl.r_95 (F := Ideal) arg3 arg6 arg7 X_arg3 X_arg6 X_arg7 k) (fun g h => (C g h).p4) := k1_pay84_M hr_91_M hr_92_M hr_93_M
  have hr_96_M : M (trip_k1_t1.sl.r_96 (F := Ideal) arg3 arg6 arg7 X_arg3 X_arg6 X_arg7 k) (fun g h => (C g h).q5) := k1_pay85_M hr_91_M hr_93_M
  have hr_97_M : M (trip_k1_t1.sl.r_97 (F := Ideal) arg3 arg6 arg7 X_arg3 X_arg6 X_arg7 k) (fun g h => (C g h).p5) := k1_pay86_M hr_91_M hr_92_M hr_93_M
  have hr_98_B : B (trip_k1_t1.sl.r_98 (F := Ideal) arg3 arg4 arg5 arg6 arg9 X_arg3 X_arg4 X_arg5 X_arg6 X_arg9 k) (fun g h => (C g h).Z) := k1_pay87_B hr_76_B hr_79_T hr_83_M
  have hr_99_T : T (trip_k1_t1.sl.r_99 (F := Ideal) arg3 arg4 arg5 arg6 arg7 arg9 X_arg3 X_arg4 X_arg5 X_arg6 X_arg7 X_arg9 k) (fun g h => (C g h).u) := k1_pay88_T k1_pay58_HM hr_76_B hr_79_T hr_83_M hr_91_M hr_92_M hr_93_M
  have hr_100_B : B (trip_k1_t1.sl.r_100 (F := Ideal) arg3 arg4 arg5 arg6 arg7 arg9 X_arg3 X_arg4 X_arg5 X_arg6 X_arg7 X_arg9 k) (fun g h => (C g h).u) := k1_pay89_B k1_pay58_HM hr_76_B hr_79_T hr_83_M hr_91_M hr_92_M hr_93_M
  have hr_101_S : S (trip_k1_t1.sl.r_101 (F := Ideal) arg3 arg4 arg5 arg6 arg7 arg9 X_arg3 X_arg4 X_arg5 X_arg6 X_arg7 X_arg9 k) (fun g h => (C g h).upd) := k1_pay91_S (k1_v272_T i5) hr_70_T hr_71_T k1_pay58_HM hr_76_B hr_79_T hr_83_M hr_91_M hr_92_M hr_93_M
  have hr_102_S : S (trip_k1_t1.sl.r_102 (F := Ideal) arg3 arg4 arg5 arg6 arg7 arg9 X_arg3 X_arg4 X_arg5 X_arg6 X_arg7 X_arg9 k) (fun g h => (C g h).sn) := k1_pay93_S (k1_v76_S i9) (k1_v76_SZ i9Z) k1_pay90_BM hr_101_S
  have hr_102_SZ : SZ (trip_k1_t1.sl.r_102 (F := Ideal) arg3 arg4 arg5 arg6 arg7 arg9 X_arg3 X_arg4 X_arg5 X_arg6 X_arg7 X_arg9 k) := k1_pay93_SZ (k1_v76_S i9) (k1_v76_SZ i9Z) k1_pay90_BM hr_101_S
  have hr_103_S : S (trip_k1_t1.sl.r_103 (F := Ideal) arg3 X_arg3 k) (fun g h => (C g h).et) := k1_pay94_S hr_66_S
  have hr_121_S : S (trip_k1_t1.sl.r_121 (F := Ideal) arg3 X_arg3 k acc) (fun g h => (C g h).dM) := k1_pay102_S hS hr_103_S
  have hr_122_S : S (trip_k1_t1.sl.r_122 (F := Ideal) arg3 arg4 arg5 arg6 arg7 arg9 X_arg3 X_arg4 X_arg5 X_arg6 X_arg7 X_arg9 k acc) (fun g h => (C g h).sds) := k1_pay103_S hS hr_102_S hr_102_SZ hr_103_S
  have hr_122_SZ : SZ (trip_k1_t1.sl.r_122 (F := Ideal) arg3 arg4 arg5 arg6 arg7 arg9 X_arg3 X_arg4 X_arg5 X_arg6 X_arg7 X_arg9 k acc) := k1_pay103_SZ hS hr_102_S hr_102_SZ hr_103_S
  have hr_123_T : T (trip_k1_t1.sl.r_123 (F := Ideal) arg3 arg4 X_arg3 X_arg4 k acc) (fun g h => (C g h).dv0) := k1_pay105_T hS hr_71_T (k1_pay92_BM3 k1_pay90_BM) hr_103_S
  have hr_124_T : T (trip_k1_t1.sl.r_124 (F := Ideal) arg3 arg5 X_arg3 X_arg5 k acc) (fun g h => (C g h).dk0) := k1_pay106_T hS (k1_v272_T i5) (k1_pay92_BM3 k1_pay90_BM) hr_103_S
  have hr_125_T : T (trip_k1_t1.sl.r_125 (F := Ideal) arg3 arg7 X_arg3 X_arg7 k acc) (fun g h => (C g h).du0) := k1_pay107_T hS hr_70_T (k1_pay92_BM3 k1_pay90_BM) hr_103_S
  have hr_126_T : T (trip_k1_t1.sl.r_126 (F := Ideal) arg3 arg4 arg5 arg6 arg7 arg9 X_arg3 X_arg4 X_arg5 X_arg6 X_arg7 X_arg9 k acc) (fun g h => (C g h).db0) := k1_pay108_T hS hr_99_T (k1_pay92_BM3 k1_pay90_BM) hr_103_S
  have hr_127_M : M (trip_k1_t1.sl.r_127 (F := Ideal) arg5 arg8 X_arg5 X_arg8 k) (fun g h => (C g h).dyv) := k1_pay110_M k1_pay58_HM hr_76_B (k1_r_120_T i8)
  have hr_128_B : B (trip_k1_t1.sl.r_128 (F := Ideal) arg2 arg3 arg4 arg8 X_arg2 X_arg3 X_arg4 X_arg8 k) (fun g h => (C g h).dv1) := k1_pay111_B k1_pay58_HM hr_85_M (k1_r_120_T i8)
  have hr_128_BZ : BZ (trip_k1_t1.sl.r_128 (F := Ideal) arg2 arg3 arg4 arg8 X_arg2 X_arg3 X_arg4 X_arg8 k) := k1_pay111_BZ k1_pay58_HM hr_85_M (k1_r_120_T i8)
  have hr_129_M : M (trip_k1_t1.sl.r_129 (F := Ideal) arg3 arg4 arg5 arg6 arg7 arg8 arg9 X_arg3 X_arg4 X_arg5 X_arg6 X_arg7 X_arg8 X_arg9 k) (fun g h => (C g h).dyu) := k1_pay112_M k1_pay58_HM hr_100_B (k1_r_120_T i8)
  have hr_130_T : T (trip_k1_t1.sl.r_130 (F := Ideal) arg2 arg3 arg7 arg8 X_arg2 X_arg3 X_arg7 X_arg8 k) (fun g h => (C g h).du1) := k1_pay113_T k1_pay58_HM hr_84_M (k1_r_120_T i8)
  have hr_131_T : T (trip_k1_t1.sl.r_131 (F := Ideal) arg8 arg9 X_arg8 X_arg9 k) (fun g h => (C g h).dr0) := k1_pay114_T (k1_v76_S i9) (k1_v76_SZ i9Z) (k1_r_120_T i8)
  have hr_132_S : S (trip_k1_t1.sl.r_132 (F := Ideal) arg2 arg3 arg8 X_arg2 X_arg3 X_arg8 k acc) (fun g h => (C g h).ds1) := k1_pay115_S hr_73_T (k1_r_120_T i8) hr_121_S
  have hr_133_M : M (trip_k1_t1.sl.r_133 (F := Ideal) arg2 arg3 arg5 arg6 arg7 arg8 X_arg2 X_arg3 X_arg5 X_arg6 X_arg7 X_arg8 k acc) (fun g h => (C g h).dZv) := k1_pay119_M k1_pay58_HM hr_76_B hr_97_M hr_125_T hr_130_T
  have hr_134_B : B (trip_k1_t1.sl.r_134 (F := Ideal) arg2 arg3 arg4 arg6 arg7 arg8 X_arg2 X_arg3 X_arg4 X_arg6 X_arg7 X_arg8 k acc) (fun g h => (C g h).dv2) := k1_pay120_B k1_pay58_HM hr_83_M hr_97_M hr_125_T hr_128_B hr_128_BZ hr_130_T
  have hr_134_BZ : BZ (trip_k1_t1.sl.r_134 (F := Ideal) arg2 arg3 arg4 arg6 arg7 arg8 X_arg2 X_arg3 X_arg4 X_arg6 X_arg7 X_arg8 k acc) := k1_pay120_BZ k1_pay58_HM hr_83_M hr_97_M hr_125_T hr_128_B hr_128_BZ hr_130_T
  have hr_135_T : T (trip_k1_t1.sl.r_135 (F := Ideal) arg2 arg3 arg6 arg7 arg8 X_arg2 X_arg3 X_arg6 X_arg7 X_arg8 k acc) (fun g h => (C g h).dZ) := k1_pay121_T k1_pay58_HM hr_97_M hr_125_T hr_130_T
  have hr_136_M : M (trip_k1_t1.sl.r_136 (F := Ideal) arg2 arg3 arg4 arg5 arg6 arg7 arg8 arg9 X_arg2 X_arg3 X_arg4 X_arg5 X_arg6 X_arg7 X_arg8 X_arg9 k acc) (fun g h => (C g h).dp4) := k1_pay122_M k1_pay58_HM hr_96_M hr_98_B hr_125_T hr_130_T
  have hr_137_M : M (trip_k1_t1.sl.r_137 (F := Ideal) arg2 arg3 arg4 arg5 arg6 arg7 arg8 arg9 X_arg2 X_arg3 X_arg4 X_arg5 X_arg6 X_arg7 X_arg8 X_arg9 k acc) (fun g h => (C g h).w4) := k1_pay123_M k1_pay58_HM hr_94_M hr_95_M hr_98_B hr_125_T hr_130_T
  have hr_138_M : M (trip_k1_t1.sl.r_138 (F := Ideal) arg2 arg3 arg4 arg5 arg6 arg7 arg8 arg9 X_arg2 X_arg3 X_arg4 X_arg5 X_arg6 X_arg7 X_arg8 X_arg9 k acc) (fun g h => (C g h).dpq4) := k1_pay124_M k1_pay58_HM hr_94_M hr_96_M hr_98_B hr_125_T hr_130_T
  have hr_139_M : M (trip_k1_t1.sl.r_139 (F := Ideal) arg2 arg3 arg4 arg5 arg6 arg7 arg8 arg9 X_arg2 X_arg3 X_arg4 X_arg5 X_arg6 X_arg7 X_arg8 X_arg9 k acc) (fun g h => (C g h).dp1) := k1_pay127_M hr_89_M hr_91_M hr_136_M hr_138_M
  have hr_140_M : M (trip_k1_t1.sl.r_140 (F := Ideal) arg2 arg3 arg4 arg5 arg6 arg7 arg8 arg9 X_arg2 X_arg3 X_arg4 X_arg5 X_arg6 X_arg7 X_arg8 X_arg9 k acc) (fun g h => (C g h).w1) := k1_pay128_M hr_87_M hr_88_M hr_89_M hr_90_M hr_91_M hr_92_M hr_136_M hr_137_M hr_138_M
  have hr_141_M : M (trip_k1_t1.sl.r_141 (F := Ideal) arg2 arg3 arg4 arg5 arg6 arg7 arg8 arg9 X_arg2 X_arg3 X_arg4 X_arg5 X_arg6 X_arg7 X_arg8 X_arg9 k acc) (fun g h => (C g h).dpq1) := k1_pay129_M hr_87_M hr_89_M hr_91_M hr_136_M hr_138_M
  have hr_142_M : M (trip_k1_t1.sl.r_142 (F := Ideal) arg3 arg6 arg7 X_arg3 X_arg6 X_arg7 k) (fun g h => (C g h).p0) := k1_pay130_M hr_86_M
  have hr_143_M : M (trip_k1_t1.sl.r_143 (F := Ideal) arg2 arg3 arg4 arg5 arg6 arg7 arg8 arg9 X_arg2 X_arg3 X_arg4 X_arg5 X_arg6 X_arg7 X_arg8 X_arg9 k acc) (fun g h => (C g h).dp1) := k1_pay131_M hr_89_M hr_91_M hr_136_M hr_138_M
  have hr_144_B : B (trip_k1_t1.sl.r_144 (F := Ideal) arg2 arg3 arg4 arg5 arg6 arg7 arg8 arg9 X_arg2 X_arg3 X_arg4 X_arg5 X_arg6 X_arg7 X_arg8 X_arg9 k) (fun g h => (C g h).dbt1) := k1_pay134_B hr_78_B hr_78_BZ (k1_pay71_MI3 k1_pay44_MI) hr_129_M
  have hr_144_BZ : BZ (trip_k1_t1.sl.r_144 (F := Ideal) arg2 arg3 arg4 arg5 arg6 arg7 arg8 arg9 X_arg2 X_arg3 X_arg4 X_arg5 X_arg6 X_arg7 X_arg8 X_arg9 k) := k1_pay134_BZ hr_78_B hr_78_BZ (k1_pay71_MI3 k1_pay44_MI) hr_129_M
  have hr_145_B : B (trip_k1_t1.sl.r_145 (F := Ideal) arg3 arg4 arg5 arg6 arg7 arg8 arg9 X_arg3 X_arg4 X_arg5 X_arg6 X_arg7 X_arg8 X_arg9 k) (fun g h => (C g h).drt1) := k1_pay135_B hr_74_B hr_75_B (k1_pay71_MI3 k1_pay44_MI) (k1_pay73_MI3 k1_pay44_MI) hr_127_M hr_129_M
  have hr_146_B : B (trip_k1_t1.sl.r_146 (F := Ideal) arg2 arg3 arg5 arg6 arg7 arg8 X_arg2 X_arg3 X_arg5 X_arg6 X_arg7 X_arg8 k acc) (fun g h => (C g h).dkt1) := k1_pay137_B hr_77_B hr_77_BZ hr_78_B hr_78_BZ (k1_pay69_MS3 k1_pay45_MS) (k1_pay73_MI3 k1_pay44_MI) hr_127_M hr_133_M
  have hr_146_BZ : BZ (trip_k1_t1.sl.r_146 (F := Ideal) arg2 arg3 arg5 arg6 arg7 arg8 X_arg2 X_arg3 X_arg5 X_arg6 X_arg7 X_arg8 k acc) := k1_pay137_BZ hr_77_B hr_77_BZ hr_78_B hr_78_BZ (k1_pay69_MS3 k1_pay45_MS) (k1_pay73_MI3 k1_pay44_MI) hr_127_M hr_133_M
  have hr_147_B : B (trip_k1_t1.sl.r_147 (F := Ideal) arg2 arg3 arg4 arg5 arg6 arg7 arg8 arg9 X_arg2 X_arg3 X_arg4 X_arg5 X_arg6 X_arg7 X_arg8 X_arg9 k acc) (fun g h => (C g h).dbt2) := k1_pay139_B hr_77_B hr_77_BZ (k1_pay65_MS3 k1_pay45_MS) hr_80_M hr_139_M hr_140_M hr_141_M hr_142_M hr_143_M
  have hr_147_BZ : BZ (trip_k1_t1.sl.r_147 (F := Ideal) arg2 arg3 arg4 arg5 arg6 arg7 arg8 arg9 X_arg2 X_arg3 X_arg4 X_arg5 X_arg6 X_arg7 X_arg8 X_arg9 k acc) := k1_pay139_BZ hr_77_B hr_77_BZ (k1_pay65_MS3 k1_pay45_MS) hr_80_M hr_139_M hr_140_M hr_141_M hr_142_M hr_143_M
  have hr_148_B : B (trip_k1_t1.sl.r_148 (F := Ideal) arg2 arg3 arg4 arg5 arg6 arg7 arg8 arg9 X_arg2 X_arg3 X_arg4 X_arg5 X_arg6 X_arg7 X_arg8 X_arg9 k acc) (fun g h => (C g h).dat1) := k1_pay140_B hr_74_B hr_75_B (k1_pay65_MS3 k1_pay45_MS) hr_80_M (k1_pay69_MS3 k1_pay45_MS) hr_133_M hr_139_M hr_140_M hr_141_M hr_142_M hr_143_M
  have hr_149_S : S (trip_k1_t1.sl.r_149 (F := Ideal) arg2 arg3 arg6 arg7 arg8 X_arg2 X_arg3 X_arg6 X_arg7 X_arg8 k acc) (fun g h => (C g h).ds0) := k1_pay141_S hr_69_T hr_132_S hr_135_T
  have hr_150_T : T (trip_k1_t1.sl.r_150 (F := Ideal) arg2 arg3 arg4 arg6 arg7 arg8 X_arg2 X_arg3 X_arg4 X_arg6 X_arg7 X_arg8 k acc) (fun g h => (C g h).dv) := k1_pay144_T hr_123_T hr_134_B hr_134_BZ
  have hr_151_T : T (trip_k1_t1.sl.r_151 (F := Ideal) arg3 arg4 arg5 arg6 arg7 arg8 arg9 X_arg3 X_arg4 X_arg5 X_arg6 X_arg7 X_arg8 X_arg9 k) (fun g h => (C g h).dr) := k1_pay147_T hr_72_T k1_pay58_HM hr_131_T hr_145_B
  have hr_152_T : T (trip_k1_t1.sl.r_152 (F := Ideal) arg2 arg3 arg4 arg5 arg6 arg7 arg8 arg9 X_arg2 X_arg3 X_arg4 X_arg5 X_arg6 X_arg7 X_arg8 X_arg9 k) (fun g h => (C g h).rdr) := k1_pay148_T (k1_v125_T i2) hr_72_T k1_pay58_HM hr_131_T hr_145_B
  have hr_153_T : T (trip_k1_t1.sl.r_153 (F := Ideal) arg2 arg3 arg5 arg6 arg7 arg8 X_arg2 X_arg3 X_arg5 X_arg6 X_arg7 X_arg8 k acc) (fun g h => (C g h).dk) := k1_pay149_T hr_67_T hr_124_T hr_146_B hr_146_BZ
  have hr_154_T : T (trip_k1_t1.sl.r_154 (F := Ideal) arg2 arg3 arg4 arg5 arg6 arg7 arg8 arg9 X_arg2 X_arg3 X_arg4 X_arg5 X_arg6 X_arg7 X_arg8 X_arg9 k acc) (fun g h => (C g h).kb) := k1_pay150_T (k1_v223_T i4) (k1_r_64_T i7) hr_124_T hr_126_T hr_144_B hr_144_BZ hr_146_B hr_146_BZ hr_147_B hr_147_BZ
  have hr_155_T : T (trip_k1_t1.sl.r_155 (F := Ideal) arg2 arg3 arg4 arg5 arg6 arg7 arg8 arg9 X_arg2 X_arg3 X_arg4 X_arg5 X_arg6 X_arg7 X_arg8 X_arg9 k acc) (fun g h => (C g h).db) := k1_pay151_T hr_67_T hr_126_T hr_144_B hr_144_BZ hr_147_B hr_147_BZ
  have hr_156_T : T (trip_k1_t1.sl.r_156 (F := Ideal) arg2 arg3 arg4 arg5 arg6 arg7 arg8 arg9 X_arg2 X_arg3 X_arg4 X_arg5 X_arg6 X_arg7 X_arg8 X_arg9 k acc) (fun g h => (C g h).da) := k1_pay152_T (k1_v76_S i9) (k1_v76_SZ i9Z) hr_68_T k1_pay58_HM hr_135_T hr_148_B
  have hr_157_T : T (trip_k1_t1.sl.r_157 (F := Ideal) arg2 arg3 arg4 arg5 arg6 arg7 arg8 arg9 X_arg2 X_arg3 X_arg4 X_arg5 X_arg6 X_arg7 X_arg8 X_arg9 k acc) (fun g h => (C g h).al) := k1_pay153_T (k1_v76_S i9) (k1_v76_SZ i9Z) (k1_v321_T i6) hr_68_T k1_pay58_HM hr_135_T hr_148_B
  have hr_158_T : T (trip_k1_t1.sl.r_158 (F := Ideal) arg2 arg3 arg4 arg5 arg6 arg7 arg8 arg9 X_arg2 X_arg3 X_arg4 X_arg5 X_arg6 X_arg7 X_arg8 X_arg9 k acc) (fun g h => (C g h).dlw) := k1_pay154_T k1_pay46_K k1_pay48_ON hr_67_T hr_122_S hr_122_SZ hr_152_T hr_154_T hr_157_T
  exact ⟨hr_149_S, hr_151_T, hr_158_T, hr_153_T, hr_150_T, hr_156_T, hr_155_T⟩

/-- One trip of the backward loop, on a chunk of every head: the gradient of the state before, and the rows written. -/
theorem k1_trip {C : Fin 16 → Fin 2 → Chunk} {𝒱 : Variants} {c : Dev nD} {bd : Option 𝒱.V} {i : grid1.Coords} {arg2 : Memref sig .tc .vmem S128x2048 .f32} {harg2 : arg2.IsWhole} {arg3 : Memref sig .tc .vmem S128x2048 .f32} {harg3 : arg3.IsWhole} {arg4 : Memref sig .tc .vmem S128x2048 .f32} {harg4 : arg4.IsWhole} {arg5 : Memref sig .tc .vmem S128x2048 .f32} {harg5 : arg5.IsWhole} {arg6 : Memref sig .tc .vmem S128x2048 .f32} {harg6 : arg6.IsWhole} {arg7 : Memref sig .tc .vmem S128x2048 .f32} {harg7 : arg7.IsWhole} {arg8 : Memref sig .tc .vmem S128x2048 .f32} {harg8 : arg8.IsWhole} {arg9 : Memref sig .tc .vmem S16x2x128x128 .f32} {harg9 : arg9.IsWhole} {arg10 : Memref sig .tc .vmem S128x2048 .f32} {harg10 : arg10.IsWhole} {arg11 : Memref sig .tc .vmem S128x2048 .f32} {harg11 : arg11.IsWhole} {arg12 : Memref sig .tc .vmem S128x2048 .f32} {harg12 : arg12.IsWhole} {arg13 : Memref sig .tc .vmem S128x2048 .f32} {harg13 : arg13.IsWhole} {arg14 : Memref sig .tc .vmem S128x2048 .f32} {harg14 : arg14.IsWhole} {arg15 : Memref sig .tc .vmem S128x2048 .f32} {harg15 : arg15.IsWhole} {arg16 : Memref sig .tc .vmem S16x128x128 .f32} {harg16 : arg16.IsWhole}
    {X_arg2 : arg2.view.ty.Contents (Elt Ideal)} {X_arg3 : arg3.view.ty.Contents (Elt Ideal)} {X_arg4 : arg4.view.ty.Contents (Elt Ideal)} {X_arg5 : arg5.view.ty.Contents (Elt Ideal)} {X_arg6 : arg6.view.ty.Contents (Elt Ideal)} {X_arg7 : arg7.view.ty.Contents (Elt Ideal)} {X_arg8 : arg8.view.ty.Contents (Elt Ideal)} {X_arg9 : arg9.view.ty.Contents (Elt Ideal)} {k : Fin k1_t1_loop.trips} {acc : FVec Ideal S16x128x128 .f32}
    (i2 : LD (arg2.view.read (Elt Ideal) X_arg2) (64 - 64 * k.val) (fun g h => (C g h).r))
    (i3 : LD (arg3.view.read (Elt Ideal) X_arg3) (64 - 64 * k.val) (fun g h => (C g h).lw))
    (i4 : LD (arg4.view.read (Elt Ideal) X_arg4) (64 - 64 * k.val) (fun g h => (C g h).k))
    (i5 : LD (arg5.view.read (Elt Ideal) X_arg5) (64 - 64 * k.val) (fun g h => (C g h).v))
    (i6 : LD (arg6.view.read (Elt Ideal) X_arg6) (64 - 64 * k.val) (fun g h => (C g h).a))
    (i7 : LD (arg7.view.read (Elt Ideal) X_arg7) (64 - 64 * k.val) (fun g h => (C g h).b))
    (i8 : LD (arg8.view.read (Elt Ideal) X_arg8) (64 - 64 * k.val) (fun g h => (C g h).dy))
    (i9 : LS (arg9.view.read (Elt Ideal) X_arg9) (1 - k.val) (fun g h => (C g h).s)) (i9Z : LSZ (arg9.view.read (Elt Ideal) X_arg9) (1 - k.val))
    (hS : S acc (fun g h => (C g h).ds)) {φdr φdlw φdk φdv φda φdb : ℕ → ℕ → ℝ}
    (hφdr : ∀ g h t i, (C g h).dr t i = φdr (64 - 64 * k.val + t.val) (128 * g.val + 64 * h.val + i.val))
    (hφdlw : ∀ g h t i, (C g h).dlw t i = φdlw (64 - 64 * k.val + t.val) (128 * g.val + 64 * h.val + i.val))
    (hφdk : ∀ g h t i, (C g h).dk t i = φdk (64 - 64 * k.val + t.val) (128 * g.val + 64 * h.val + i.val))
    (hφdv : ∀ g h t i, (C g h).dv t i = φdv (64 - 64 * k.val + t.val) (128 * g.val + 64 * h.val + i.val))
    (hφda : ∀ g h t i, (C g h).da t i = φda (64 - 64 * k.val + t.val) (128 * g.val + 64 * h.val + i.val))
    (hφdb : ∀ g h t i, (C g h).db t i = φdb (64 - 64 * k.val + t.val) (128 * g.val + 64 * h.val + i.val)) :
    S ((trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).1 acc) (fun g h => (C g h).ds0) ∧
    (∀ p ∈ (trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.1 acc, Rows φdr p) ∧
    (∀ p ∈ (trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.1 acc, Rows φdlw p) ∧
    (∀ p ∈ (trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.2.1 acc, Rows φdk p) ∧
    (∀ p ∈ (trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.2.2.1 acc, Rows φdv p) ∧
    (∀ p ∈ (trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.2.2.2.1 acc, Rows φda p) ∧
    (∀ p ∈ (trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.2.2.2.2.1 acc, Rows φdb p) := by
  obtain ⟨hs, hdr, hdlw, hdk, hdv, hda, hdb⟩ := k1_chain i2 i3 i4 i5 i6 i7 i8 i9 i9Z hS
  unfold trip_k1_t1
  refine ⟨hs, ?_, ?_, ?_, ?_, ?_, ?_⟩
  · exact List.forall_mem_cons.mpr ⟨Rows_of (n := 64 - 64 * k.val) (hs := slices_S16x64x128_o15_0_0_S1x64x128) hdr hφdr 15 (k1_off32_eq k), List.forall_mem_cons.mpr ⟨Rows_of (n := 64 - 64 * k.val) (hs := slices_S16x64x128_o14_0_0_S1x64x128) hdr hφdr 14 (k1_off31_eq k), List.forall_mem_cons.mpr ⟨Rows_of (n := 64 - 64 * k.val) (hs := slices_S16x64x128_o13_0_0_S1x64x128) hdr hφdr 13 (k1_off30_eq k), List.forall_mem_cons.mpr ⟨Rows_of (n := 64 - 64 * k.val) (hs := slices_S16x64x128_o12_0_0_S1x64x128) hdr hφdr 12 (k1_off29_eq k), List.forall_mem_cons.mpr ⟨Rows_of (n := 64 - 64 * k.val) (hs := slices_S16x64x128_o11_0_0_S1x64x128) hdr hφdr 11 (k1_off28_eq k), List.forall_mem_cons.mpr ⟨Rows_of (n := 64 - 64 * k.val) (hs := slices_S16x64x128_o10_0_0_S1x64x128) hdr hφdr 10 (k1_off27_eq k), List.forall_mem_cons.mpr ⟨Rows_of (n := 64 - 64 * k.val) (hs := slices_S16x64x128_o9_0_0_S1x64x128) hdr hφdr 9 (k1_off26_eq k), List.forall_mem_cons.mpr ⟨Rows_of (n := 64 - 64 * k.val) (hs := slices_S16x64x128_o8_0_0_S1x64x128) hdr hφdr 8 (k1_off25_eq k), List.forall_mem_cons.mpr ⟨Rows_of (n := 64 - 64 * k.val) (hs := slices_S16x64x128_o7_0_0_S1x64x128) hdr hφdr 7 (k1_off24_eq k), List.forall_mem_cons.mpr ⟨Rows_of (n := 64 - 64 * k.val) (hs := slices_S16x64x128_o6_0_0_S1x64x128) hdr hφdr 6 (k1_off23_eq k), List.forall_mem_cons.mpr ⟨Rows_of (n := 64 - 64 * k.val) (hs := slices_S16x64x128_o5_0_0_S1x64x128) hdr hφdr 5 (k1_off22_eq k), List.forall_mem_cons.mpr ⟨Rows_of (n := 64 - 64 * k.val) (hs := slices_S16x64x128_o4_0_0_S1x64x128) hdr hφdr 4 (k1_off21_eq k), List.forall_mem_cons.mpr ⟨Rows_of (n := 64 - 64 * k.val) (hs := slices_S16x64x128_o3_0_0_S1x64x128) hdr hφdr 3 (k1_off20_eq k), List.forall_mem_cons.mpr ⟨Rows_of (n := 64 - 64 * k.val) (hs := slices_S16x64x128_o2_0_0_S1x64x128) hdr hφdr 2 (k1_off19_eq k), List.forall_mem_cons.mpr ⟨Rows_of (n := 64 - 64 * k.val) (hs := slices_S16x64x128_o1_0_0_S1x64x128) hdr hφdr 1 (k1_off18_eq k), List.forall_mem_cons.mpr ⟨Rows_of (n := 64 - 64 * k.val) (hs := slices_S16x64x128_o0_0_0_S1x64x128) hdr hφdr 0 (k1_off17_eq k), List.forall_mem_nil _⟩⟩⟩⟩⟩⟩⟩⟩⟩⟩⟩⟩⟩⟩⟩⟩
  · exact List.forall_mem_cons.mpr ⟨Rows_of (n := 64 - 64 * k.val) (hs := slices_S16x64x128_o15_0_0_S1x64x128) hdlw hφdlw 15 (k1_off32_eq k), List.forall_mem_cons.mpr ⟨Rows_of (n := 64 - 64 * k.val) (hs := slices_S16x64x128_o14_0_0_S1x64x128) hdlw hφdlw 14 (k1_off31_eq k), List.forall_mem_cons.mpr ⟨Rows_of (n := 64 - 64 * k.val) (hs := slices_S16x64x128_o13_0_0_S1x64x128) hdlw hφdlw 13 (k1_off30_eq k), List.forall_mem_cons.mpr ⟨Rows_of (n := 64 - 64 * k.val) (hs := slices_S16x64x128_o12_0_0_S1x64x128) hdlw hφdlw 12 (k1_off29_eq k), List.forall_mem_cons.mpr ⟨Rows_of (n := 64 - 64 * k.val) (hs := slices_S16x64x128_o11_0_0_S1x64x128) hdlw hφdlw 11 (k1_off28_eq k), List.forall_mem_cons.mpr ⟨Rows_of (n := 64 - 64 * k.val) (hs := slices_S16x64x128_o10_0_0_S1x64x128) hdlw hφdlw 10 (k1_off27_eq k), List.forall_mem_cons.mpr ⟨Rows_of (n := 64 - 64 * k.val) (hs := slices_S16x64x128_o9_0_0_S1x64x128) hdlw hφdlw 9 (k1_off26_eq k), List.forall_mem_cons.mpr ⟨Rows_of (n := 64 - 64 * k.val) (hs := slices_S16x64x128_o8_0_0_S1x64x128) hdlw hφdlw 8 (k1_off25_eq k), List.forall_mem_cons.mpr ⟨Rows_of (n := 64 - 64 * k.val) (hs := slices_S16x64x128_o7_0_0_S1x64x128) hdlw hφdlw 7 (k1_off24_eq k), List.forall_mem_cons.mpr ⟨Rows_of (n := 64 - 64 * k.val) (hs := slices_S16x64x128_o6_0_0_S1x64x128) hdlw hφdlw 6 (k1_off23_eq k), List.forall_mem_cons.mpr ⟨Rows_of (n := 64 - 64 * k.val) (hs := slices_S16x64x128_o5_0_0_S1x64x128) hdlw hφdlw 5 (k1_off22_eq k), List.forall_mem_cons.mpr ⟨Rows_of (n := 64 - 64 * k.val) (hs := slices_S16x64x128_o4_0_0_S1x64x128) hdlw hφdlw 4 (k1_off21_eq k), List.forall_mem_cons.mpr ⟨Rows_of (n := 64 - 64 * k.val) (hs := slices_S16x64x128_o3_0_0_S1x64x128) hdlw hφdlw 3 (k1_off20_eq k), List.forall_mem_cons.mpr ⟨Rows_of (n := 64 - 64 * k.val) (hs := slices_S16x64x128_o2_0_0_S1x64x128) hdlw hφdlw 2 (k1_off19_eq k), List.forall_mem_cons.mpr ⟨Rows_of (n := 64 - 64 * k.val) (hs := slices_S16x64x128_o1_0_0_S1x64x128) hdlw hφdlw 1 (k1_off18_eq k), List.forall_mem_cons.mpr ⟨Rows_of (n := 64 - 64 * k.val) (hs := slices_S16x64x128_o0_0_0_S1x64x128) hdlw hφdlw 0 (k1_off17_eq k), List.forall_mem_nil _⟩⟩⟩⟩⟩⟩⟩⟩⟩⟩⟩⟩⟩⟩⟩⟩
  · exact List.forall_mem_cons.mpr ⟨Rows_of (n := 64 - 64 * k.val) (hs := slices_S16x64x128_o15_0_0_S1x64x128) hdk hφdk 15 (k1_off32_eq k), List.forall_mem_cons.mpr ⟨Rows_of (n := 64 - 64 * k.val) (hs := slices_S16x64x128_o14_0_0_S1x64x128) hdk hφdk 14 (k1_off31_eq k), List.forall_mem_cons.mpr ⟨Rows_of (n := 64 - 64 * k.val) (hs := slices_S16x64x128_o13_0_0_S1x64x128) hdk hφdk 13 (k1_off30_eq k), List.forall_mem_cons.mpr ⟨Rows_of (n := 64 - 64 * k.val) (hs := slices_S16x64x128_o12_0_0_S1x64x128) hdk hφdk 12 (k1_off29_eq k), List.forall_mem_cons.mpr ⟨Rows_of (n := 64 - 64 * k.val) (hs := slices_S16x64x128_o11_0_0_S1x64x128) hdk hφdk 11 (k1_off28_eq k), List.forall_mem_cons.mpr ⟨Rows_of (n := 64 - 64 * k.val) (hs := slices_S16x64x128_o10_0_0_S1x64x128) hdk hφdk 10 (k1_off27_eq k), List.forall_mem_cons.mpr ⟨Rows_of (n := 64 - 64 * k.val) (hs := slices_S16x64x128_o9_0_0_S1x64x128) hdk hφdk 9 (k1_off26_eq k), List.forall_mem_cons.mpr ⟨Rows_of (n := 64 - 64 * k.val) (hs := slices_S16x64x128_o8_0_0_S1x64x128) hdk hφdk 8 (k1_off25_eq k), List.forall_mem_cons.mpr ⟨Rows_of (n := 64 - 64 * k.val) (hs := slices_S16x64x128_o7_0_0_S1x64x128) hdk hφdk 7 (k1_off24_eq k), List.forall_mem_cons.mpr ⟨Rows_of (n := 64 - 64 * k.val) (hs := slices_S16x64x128_o6_0_0_S1x64x128) hdk hφdk 6 (k1_off23_eq k), List.forall_mem_cons.mpr ⟨Rows_of (n := 64 - 64 * k.val) (hs := slices_S16x64x128_o5_0_0_S1x64x128) hdk hφdk 5 (k1_off22_eq k), List.forall_mem_cons.mpr ⟨Rows_of (n := 64 - 64 * k.val) (hs := slices_S16x64x128_o4_0_0_S1x64x128) hdk hφdk 4 (k1_off21_eq k), List.forall_mem_cons.mpr ⟨Rows_of (n := 64 - 64 * k.val) (hs := slices_S16x64x128_o3_0_0_S1x64x128) hdk hφdk 3 (k1_off20_eq k), List.forall_mem_cons.mpr ⟨Rows_of (n := 64 - 64 * k.val) (hs := slices_S16x64x128_o2_0_0_S1x64x128) hdk hφdk 2 (k1_off19_eq k), List.forall_mem_cons.mpr ⟨Rows_of (n := 64 - 64 * k.val) (hs := slices_S16x64x128_o1_0_0_S1x64x128) hdk hφdk 1 (k1_off18_eq k), List.forall_mem_cons.mpr ⟨Rows_of (n := 64 - 64 * k.val) (hs := slices_S16x64x128_o0_0_0_S1x64x128) hdk hφdk 0 (k1_off17_eq k), List.forall_mem_nil _⟩⟩⟩⟩⟩⟩⟩⟩⟩⟩⟩⟩⟩⟩⟩⟩
  · exact List.forall_mem_cons.mpr ⟨Rows_of (n := 64 - 64 * k.val) (hs := slices_S16x64x128_o15_0_0_S1x64x128) hdv hφdv 15 (k1_off32_eq k), List.forall_mem_cons.mpr ⟨Rows_of (n := 64 - 64 * k.val) (hs := slices_S16x64x128_o14_0_0_S1x64x128) hdv hφdv 14 (k1_off31_eq k), List.forall_mem_cons.mpr ⟨Rows_of (n := 64 - 64 * k.val) (hs := slices_S16x64x128_o13_0_0_S1x64x128) hdv hφdv 13 (k1_off30_eq k), List.forall_mem_cons.mpr ⟨Rows_of (n := 64 - 64 * k.val) (hs := slices_S16x64x128_o12_0_0_S1x64x128) hdv hφdv 12 (k1_off29_eq k), List.forall_mem_cons.mpr ⟨Rows_of (n := 64 - 64 * k.val) (hs := slices_S16x64x128_o11_0_0_S1x64x128) hdv hφdv 11 (k1_off28_eq k), List.forall_mem_cons.mpr ⟨Rows_of (n := 64 - 64 * k.val) (hs := slices_S16x64x128_o10_0_0_S1x64x128) hdv hφdv 10 (k1_off27_eq k), List.forall_mem_cons.mpr ⟨Rows_of (n := 64 - 64 * k.val) (hs := slices_S16x64x128_o9_0_0_S1x64x128) hdv hφdv 9 (k1_off26_eq k), List.forall_mem_cons.mpr ⟨Rows_of (n := 64 - 64 * k.val) (hs := slices_S16x64x128_o8_0_0_S1x64x128) hdv hφdv 8 (k1_off25_eq k), List.forall_mem_cons.mpr ⟨Rows_of (n := 64 - 64 * k.val) (hs := slices_S16x64x128_o7_0_0_S1x64x128) hdv hφdv 7 (k1_off24_eq k), List.forall_mem_cons.mpr ⟨Rows_of (n := 64 - 64 * k.val) (hs := slices_S16x64x128_o6_0_0_S1x64x128) hdv hφdv 6 (k1_off23_eq k), List.forall_mem_cons.mpr ⟨Rows_of (n := 64 - 64 * k.val) (hs := slices_S16x64x128_o5_0_0_S1x64x128) hdv hφdv 5 (k1_off22_eq k), List.forall_mem_cons.mpr ⟨Rows_of (n := 64 - 64 * k.val) (hs := slices_S16x64x128_o4_0_0_S1x64x128) hdv hφdv 4 (k1_off21_eq k), List.forall_mem_cons.mpr ⟨Rows_of (n := 64 - 64 * k.val) (hs := slices_S16x64x128_o3_0_0_S1x64x128) hdv hφdv 3 (k1_off20_eq k), List.forall_mem_cons.mpr ⟨Rows_of (n := 64 - 64 * k.val) (hs := slices_S16x64x128_o2_0_0_S1x64x128) hdv hφdv 2 (k1_off19_eq k), List.forall_mem_cons.mpr ⟨Rows_of (n := 64 - 64 * k.val) (hs := slices_S16x64x128_o1_0_0_S1x64x128) hdv hφdv 1 (k1_off18_eq k), List.forall_mem_cons.mpr ⟨Rows_of (n := 64 - 64 * k.val) (hs := slices_S16x64x128_o0_0_0_S1x64x128) hdv hφdv 0 (k1_off17_eq k), List.forall_mem_nil _⟩⟩⟩⟩⟩⟩⟩⟩⟩⟩⟩⟩⟩⟩⟩⟩
  · exact List.forall_mem_cons.mpr ⟨Rows_of (n := 64 - 64 * k.val) (hs := slices_S16x64x128_o15_0_0_S1x64x128) hda hφda 15 (k1_off32_eq k), List.forall_mem_cons.mpr ⟨Rows_of (n := 64 - 64 * k.val) (hs := slices_S16x64x128_o14_0_0_S1x64x128) hda hφda 14 (k1_off31_eq k), List.forall_mem_cons.mpr ⟨Rows_of (n := 64 - 64 * k.val) (hs := slices_S16x64x128_o13_0_0_S1x64x128) hda hφda 13 (k1_off30_eq k), List.forall_mem_cons.mpr ⟨Rows_of (n := 64 - 64 * k.val) (hs := slices_S16x64x128_o12_0_0_S1x64x128) hda hφda 12 (k1_off29_eq k), List.forall_mem_cons.mpr ⟨Rows_of (n := 64 - 64 * k.val) (hs := slices_S16x64x128_o11_0_0_S1x64x128) hda hφda 11 (k1_off28_eq k), List.forall_mem_cons.mpr ⟨Rows_of (n := 64 - 64 * k.val) (hs := slices_S16x64x128_o10_0_0_S1x64x128) hda hφda 10 (k1_off27_eq k), List.forall_mem_cons.mpr ⟨Rows_of (n := 64 - 64 * k.val) (hs := slices_S16x64x128_o9_0_0_S1x64x128) hda hφda 9 (k1_off26_eq k), List.forall_mem_cons.mpr ⟨Rows_of (n := 64 - 64 * k.val) (hs := slices_S16x64x128_o8_0_0_S1x64x128) hda hφda 8 (k1_off25_eq k), List.forall_mem_cons.mpr ⟨Rows_of (n := 64 - 64 * k.val) (hs := slices_S16x64x128_o7_0_0_S1x64x128) hda hφda 7 (k1_off24_eq k), List.forall_mem_cons.mpr ⟨Rows_of (n := 64 - 64 * k.val) (hs := slices_S16x64x128_o6_0_0_S1x64x128) hda hφda 6 (k1_off23_eq k), List.forall_mem_cons.mpr ⟨Rows_of (n := 64 - 64 * k.val) (hs := slices_S16x64x128_o5_0_0_S1x64x128) hda hφda 5 (k1_off22_eq k), List.forall_mem_cons.mpr ⟨Rows_of (n := 64 - 64 * k.val) (hs := slices_S16x64x128_o4_0_0_S1x64x128) hda hφda 4 (k1_off21_eq k), List.forall_mem_cons.mpr ⟨Rows_of (n := 64 - 64 * k.val) (hs := slices_S16x64x128_o3_0_0_S1x64x128) hda hφda 3 (k1_off20_eq k), List.forall_mem_cons.mpr ⟨Rows_of (n := 64 - 64 * k.val) (hs := slices_S16x64x128_o2_0_0_S1x64x128) hda hφda 2 (k1_off19_eq k), List.forall_mem_cons.mpr ⟨Rows_of (n := 64 - 64 * k.val) (hs := slices_S16x64x128_o1_0_0_S1x64x128) hda hφda 1 (k1_off18_eq k), List.forall_mem_cons.mpr ⟨Rows_of (n := 64 - 64 * k.val) (hs := slices_S16x64x128_o0_0_0_S1x64x128) hda hφda 0 (k1_off17_eq k), List.forall_mem_nil _⟩⟩⟩⟩⟩⟩⟩⟩⟩⟩⟩⟩⟩⟩⟩⟩
  · exact List.forall_mem_cons.mpr ⟨Rows_of (n := 64 - 64 * k.val) (hs := slices_S16x64x128_o15_0_0_S1x64x128) hdb hφdb 15 (k1_off32_eq k), List.forall_mem_cons.mpr ⟨Rows_of (n := 64 - 64 * k.val) (hs := slices_S16x64x128_o14_0_0_S1x64x128) hdb hφdb 14 (k1_off31_eq k), List.forall_mem_cons.mpr ⟨Rows_of (n := 64 - 64 * k.val) (hs := slices_S16x64x128_o13_0_0_S1x64x128) hdb hφdb 13 (k1_off30_eq k), List.forall_mem_cons.mpr ⟨Rows_of (n := 64 - 64 * k.val) (hs := slices_S16x64x128_o12_0_0_S1x64x128) hdb hφdb 12 (k1_off29_eq k), List.forall_mem_cons.mpr ⟨Rows_of (n := 64 - 64 * k.val) (hs := slices_S16x64x128_o11_0_0_S1x64x128) hdb hφdb 11 (k1_off28_eq k), List.forall_mem_cons.mpr ⟨Rows_of (n := 64 - 64 * k.val) (hs := slices_S16x64x128_o10_0_0_S1x64x128) hdb hφdb 10 (k1_off27_eq k), List.forall_mem_cons.mpr ⟨Rows_of (n := 64 - 64 * k.val) (hs := slices_S16x64x128_o9_0_0_S1x64x128) hdb hφdb 9 (k1_off26_eq k), List.forall_mem_cons.mpr ⟨Rows_of (n := 64 - 64 * k.val) (hs := slices_S16x64x128_o8_0_0_S1x64x128) hdb hφdb 8 (k1_off25_eq k), List.forall_mem_cons.mpr ⟨Rows_of (n := 64 - 64 * k.val) (hs := slices_S16x64x128_o7_0_0_S1x64x128) hdb hφdb 7 (k1_off24_eq k), List.forall_mem_cons.mpr ⟨Rows_of (n := 64 - 64 * k.val) (hs := slices_S16x64x128_o6_0_0_S1x64x128) hdb hφdb 6 (k1_off23_eq k), List.forall_mem_cons.mpr ⟨Rows_of (n := 64 - 64 * k.val) (hs := slices_S16x64x128_o5_0_0_S1x64x128) hdb hφdb 5 (k1_off22_eq k), List.forall_mem_cons.mpr ⟨Rows_of (n := 64 - 64 * k.val) (hs := slices_S16x64x128_o4_0_0_S1x64x128) hdb hφdb 4 (k1_off21_eq k), List.forall_mem_cons.mpr ⟨Rows_of (n := 64 - 64 * k.val) (hs := slices_S16x64x128_o3_0_0_S1x64x128) hdb hφdb 3 (k1_off20_eq k), List.forall_mem_cons.mpr ⟨Rows_of (n := 64 - 64 * k.val) (hs := slices_S16x64x128_o2_0_0_S1x64x128) hdb hφdb 2 (k1_off19_eq k), List.forall_mem_cons.mpr ⟨Rows_of (n := 64 - 64 * k.val) (hs := slices_S16x64x128_o1_0_0_S1x64x128) hdb hφdb 1 (k1_off18_eq k), List.forall_mem_cons.mpr ⟨Rows_of (n := 64 - 64 * k.val) (hs := slices_S16x64x128_o0_0_0_S1x64x128) hdb hφdb 0 (k1_off17_eq k), List.forall_mem_nil _⟩⟩⟩⟩⟩⟩⟩⟩⟩⟩⟩⟩⟩⟩⟩⟩

end Cert.KernelIdeal.Val
-- ==== Proof.Reg1.lean ====
module

public import proofs.«01_k».proof.Proof.Data1
public import proofs.«01_k».proof.Proof.Trip1
public import proofs.«01_k».proof.Proof.Block
public import proofs.«01_k».proof.Proof.Gen.KernelIdeal.Loops

@[expose] public section

set_option maxRecDepth 16384

noncomputable section

namespace Cert.KernelIdeal.Val

open Idealize.ShloMosaic Idealize.ShloMosaic.TcCoe
open Cert.KernelIdeal Cert.KernelIdeal.Gen Cert.Rwkv Cert.KernelIdeal.Rec

theorem trips1 : Scf.trips k1_t1_loop.lb k1_t1_loop.ub k1_t1_loop.st = 2 := by decide +kernel

/-- What the loop carries and has stored before trip `n`. -/
theorem k1_loop {d : Inputs} {m q : ℕ} {𝒱 : Variants} {bd : Option 𝒱.V} {c : Dev nD} {i : grid1.Coords} {arg2 : Memref sig .tc .vmem S128x2048 .f32} {harg2 : arg2.IsWhole} {arg3 : Memref sig .tc .vmem S128x2048 .f32} {harg3 : arg3.IsWhole} {arg4 : Memref sig .tc .vmem S128x2048 .f32} {harg4 : arg4.IsWhole} {arg5 : Memref sig .tc .vmem S128x2048 .f32} {harg5 : arg5.IsWhole} {arg6 : Memref sig .tc .vmem S128x2048 .f32} {harg6 : arg6.IsWhole} {arg7 : Memref sig .tc .vmem S128x2048 .f32} {harg7 : arg7.IsWhole} {arg8 : Memref sig .tc .vmem S128x2048 .f32} {harg8 : arg8.IsWhole} {arg9 : Memref sig .tc .vmem S16x2x128x128 .f32} {harg9 : arg9.IsWhole} {arg10 : Memref sig .tc .vmem S128x2048 .f32} {harg10 : arg10.IsWhole} {arg11 : Memref sig .tc .vmem S128x2048 .f32} {harg11 : arg11.IsWhole} {arg12 : Memref sig .tc .vmem S128x2048 .f32} {harg12 : arg12.IsWhole} {arg13 : Memref sig .tc .vmem S128x2048 .f32} {harg13 : arg13.IsWhole} {arg14 : Memref sig .tc .vmem S128x2048 .f32} {harg14 : arg14.IsWhole} {arg15 : Memref sig .tc .vmem S128x2048 .f32} {harg15 : arg15.IsWhole} {arg16 : Memref sig .tc .vmem S16x128x128 .f32} {harg16 : arg16.IsWhole} {X_arg2 : arg2.view.ty.Contents (Elt Ideal)} {X_arg3 : arg3.view.ty.Contents (Elt Ideal)} {X_arg4 : arg4.view.ty.Contents (Elt Ideal)} {X_arg5 : arg5.view.ty.Contents (Elt Ideal)} {X_arg6 : arg6.view.ty.Contents (Elt Ideal)} {X_arg7 : arg7.view.ty.Contents (Elt Ideal)} {X_arg8 : arg8.view.ty.Contents (Elt Ideal)} {X_arg9 : arg9.view.ty.Contents (Elt Ideal)} {init : FVec Ideal S16x128x128 .f32}
    (i2 : Blk (arg2.view.read (Elt Ideal) X_arg2) m d.r)
    (i3 : Blk (arg3.view.read (Elt Ideal) X_arg3) m d.lw)
    (i4 : Blk (arg4.view.read (Elt Ideal) X_arg4) m d.k)
    (i5 : Blk (arg5.view.read (Elt Ideal) X_arg5) m d.v)
    (i6 : Blk (arg6.view.read (Elt Ideal) X_arg6) m d.a)
    (i7 : Blk (arg7.view.read (Elt Ideal) X_arg7) m d.b)
    (i8 : Blk (arg8.view.read (Elt Ideal) X_arg8) m d.ct) (i9 : BlkS (arg9.view.read (Elt Ideal) X_arg9) d q)
    (hm : m = 64 * q) (hq : q + 1 < 64) (hS : S init (fun g h => d.G (hd g h) (64 * (q + 2 - 0)))) (n : ℕ) (hn : n ≤ k1_t1_loop.trips) :
    S (st_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 init n).1 (fun g h => d.G (hd g h) (64 * (q + 2 - n))) ∧ (∀ p ∈ (st_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 init n).2.1, Rows (fun x y => flat d.drRow (m + x) y) p) ∧ (∀ p ∈ (st_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 init n).2.2.1, Rows (fun x y => flat d.dlwRow (m + x) y) p) ∧ (∀ p ∈ (st_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 init n).2.2.2.1, Rows (fun x y => flat d.dkRow (m + x) y) p) ∧ (∀ p ∈ (st_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 init n).2.2.2.2.1, Rows (fun x y => flat d.dvRow (m + x) y) p) ∧ (∀ p ∈ (st_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 init n).2.2.2.2.2.1, Rows (fun x y => flat d.daRow (m + x) y) p) ∧ (∀ p ∈ (st_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 init n).2.2.2.2.2.2, Rows (fun x y => flat d.dbRow (m + x) y) p) := by
  induction n with
  | zero => exact ⟨hS, fun p hp => absurd hp List.not_mem_nil, fun p hp => absurd hp List.not_mem_nil, fun p hp => absurd hp List.not_mem_nil, fun p hp => absurd hp List.not_mem_nil, fun p hp => absurd hp List.not_mem_nil, fun p hp => absurd hp List.not_mem_nil⟩
  | succ n ih =>
    have ih := ih (Nat.le_of_succ_le hn)
    have hn2 : n < 2 := Nat.lt_of_lt_of_le hn k1_t1_abs.2.1
    rw [show (st_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 init (n + 1)) = _ from st_k1_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 init ⟨n, hn⟩]
    have hk : m + (64 - 64 * n) = 64 * (q + (1 - n)) := by omega
    have hk' : q + (1 - n) < 64 := by omega
    have e1 : (fun g h => d.G (hd g h) (64 * (q + 2 - n))) = fun g h => (d.chunk (q + (1 - n)) (hd g h)).ds := funext fun g => funext fun h => congrArg (d.G (hd g h)) (by omega)
    have e2 : (fun g h => (d.chunk (q + (1 - n)) (hd g h)).ds0) = (fun g h => d.G (hd g h) (64 * (q + 2 - (n + 1)))) := funext fun g => funext fun h =>
      (d.chunk_first _ _ hk').trans (congrArg (d.G (hd g h)) (by omega))
    rw [e1] at ih
    obtain ⟨h1, h2, h3, h4, h5, h6, h7⟩ := k1_trip (𝒱 := 𝒱) (c := c) (bd := bd) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (C := fun g h => d.chunk (q + (1 - n)) (hd g h)) (k := ⟨n, hn⟩)
      (LD_of i2 hk) (LD_of i3 hk) (LD_of i4 hk) (LD_of i5 hk) (LD_of i6 hk) (LD_of i7 hk) (LD_of i8 hk) (LS_of i9 rfl) (LSZ_of i9) ih.1
      (φdr := fun x y => flat d.drRow (m + x) y) (φdlw := fun x y => flat d.dlwRow (m + x) y) (φdk := fun x y => flat d.dkRow (m + x) y) (φdv := fun x y => flat d.dvRow (m + x) y) (φda := fun x y => flat d.daRow (m + x) y) (φdb := fun x y => flat d.dbRow (m + x) y)
      (fun g h t i => (d.chunk_dr (q + (1 - n)) (hd g h)  t i).trans (flat_chunk d.drRow hk g h t i)) (fun g h t i => (d.chunk_dlw (q + (1 - n)) (hd g h) hk' t i).trans (flat_chunk d.dlwRow hk g h t i)) (fun g h t i => (d.chunk_dk (q + (1 - n)) (hd g h) hk' t i).trans (flat_chunk d.dkRow hk g h t i)) (fun g h t i => (d.chunk_dv (q + (1 - n)) (hd g h) hk' t i).trans (flat_chunk d.dvRow hk g h t i)) (fun g h t i => (d.chunk_da (q + (1 - n)) (hd g h) hk' t i).trans (flat_chunk d.daRow hk g h t i)) (fun g h t i => (d.chunk_db (q + (1 - n)) (hd g h) hk' t i).trans (flat_chunk d.dbRow hk g h t i))
    rw [e2] at h1
    exact ⟨h1, fun p hp => (List.mem_append.mp hp).elim (h2 p) (ih.2.1 p), fun p hp => (List.mem_append.mp hp).elim (h3 p) (ih.2.2.1 p), fun p hp => (List.mem_append.mp hp).elim (h4 p) (ih.2.2.2.1 p), fun p hp => (List.mem_append.mp hp).elim (h5 p) (ih.2.2.2.2.1 p), fun p hp => (List.mem_append.mp hp).elim (h6 p) (ih.2.2.2.2.2.1 p), fun p hp => (List.mem_append.mp hp).elim (h7 p) (ih.2.2.2.2.2.2 p)⟩

theorem bwdFirst_ok {d : Inputs} {m q : ℕ} {c : Dev nD} {i : grid1.Coords} {arg2 : Memref sig .tc .vmem S128x2048 .f32} {harg2 : arg2.IsWhole} {arg3 : Memref sig .tc .vmem S128x2048 .f32} {harg3 : arg3.IsWhole} {arg4 : Memref sig .tc .vmem S128x2048 .f32} {harg4 : arg4.IsWhole} {arg5 : Memref sig .tc .vmem S128x2048 .f32} {harg5 : arg5.IsWhole} {arg6 : Memref sig .tc .vmem S128x2048 .f32} {harg6 : arg6.IsWhole} {arg7 : Memref sig .tc .vmem S128x2048 .f32} {harg7 : arg7.IsWhole} {arg8 : Memref sig .tc .vmem S128x2048 .f32} {harg8 : arg8.IsWhole} {arg9 : Memref sig .tc .vmem S16x2x128x128 .f32} {harg9 : arg9.IsWhole} {arg10 : Memref sig .tc .vmem S128x2048 .f32} {harg10 : arg10.IsWhole} {arg11 : Memref sig .tc .vmem S128x2048 .f32} {harg11 : arg11.IsWhole} {arg12 : Memref sig .tc .vmem S128x2048 .f32} {harg12 : arg12.IsWhole} {arg13 : Memref sig .tc .vmem S128x2048 .f32} {harg13 : arg13.IsWhole} {arg14 : Memref sig .tc .vmem S128x2048 .f32} {harg14 : arg14.IsWhole} {arg15 : Memref sig .tc .vmem S128x2048 .f32} {harg15 : arg15.IsWhole} {arg16 : Memref sig .tc .vmem S16x128x128 .f32} {harg16 : arg16.IsWhole} {x0 : Vec Ideal S128x2048 .f32} {x1 : Vec Ideal S128x2048 .f32} {x2 : Vec Ideal S128x2048 .f32} {x3 : Vec Ideal S128x2048 .f32} {x4 : Vec Ideal S128x2048 .f32} {x5 : Vec Ideal S128x2048 .f32} {x6 : Vec Ideal S128x2048 .f32} {x7 : Vec Ideal S16x2x128x128 .f32} (hc : bwdCond i)
    (i2 : Blk x0 m d.r)
    (i3 : Blk x1 m d.lw)
    (i4 : Blk x2 m d.k)
    (i5 : Blk x3 m d.v)
    (i6 : Blk x4 m d.a)
    (i7 : Blk x5 m d.b)
    (i8 : Blk x6 m d.ct) (i9 : BlkS x7 d q)
    (hm : m = 64 * q) (hq : q + 1 < 64) (hz : q + 2 = 64) :
    (∀ p ∈ (bwdFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).1, Rows (fun x y => flat d.drRow (m + x) y) p) ∧ (∀ p ∈ (bwdFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.1, Rows (fun x y => flat d.dlwRow (m + x) y) p) ∧ (∀ p ∈ (bwdFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.1, Rows (fun x y => flat d.dkRow (m + x) y) p) ∧ (∀ p ∈ (bwdFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.1, Rows (fun x y => flat d.dvRow (m + x) y) p) ∧ (∀ p ∈ (bwdFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.2.1, Rows (fun x y => flat d.daRow (m + x) y) p) ∧ (∀ p ∈ (bwdFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.2.2.1, Rows (fun x y => flat d.dbRow (m + x) y) p) ∧
      ∃ X L, (bwdFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.2.2.2.1 = ⟨Rect.unit (s := S16x128x128) ![0, 0, 0] S16x128x128.size inb_S16x128x128_S16x128x128_0_0_0, X⟩ :: L ∧ S X (fun g h => d.G (hd g h) (64 * (q))) := by
  have e : (bwdFirst.sl.v3 (F := Ideal) c arg16 : FVec Ideal S16x128x128 .f32) = k1_pay1 (F := Ideal) := by
    unfold bwdFirst.sl.v3 bwdFirst.sl.HS_1
    exact readCov_scr _ _
  have hS : S (bwdFirst.sl.v3 (F := Ideal) c arg16) (fun g h => d.G (hd g h) (64 * (q + 2 - 0))) := by
    rw [e]
    exact S_zero zero_at1 fun g h i j => by
      subst_vars
      rw [show 64 * (q + 2 - 0) = 4096 by omega, d.G_last]; rfl
  unfold bwdFirst
  have H := k1_loop (𝒱 := Variants.none) (bd := none) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16)
    (X_arg2 := harg2.unread x0) (X_arg3 := harg3.unread x1) (X_arg4 := harg4.unread x2) (X_arg5 := harg5.unread x3) (X_arg6 := harg6.unread x4) (X_arg7 := harg7.unread x5) (X_arg8 := harg8.unread x6) (X_arg9 := harg9.unread x7)
    (by rw [harg2.read_unread]; exact i2) (by rw [harg3.read_unread]; exact i3) (by rw [harg4.read_unread]; exact i4) (by rw [harg5.read_unread]; exact i5) (by rw [harg6.read_unread]; exact i6) (by rw [harg7.read_unread]; exact i7) (by rw [harg8.read_unread]; exact i8) (by rw [harg9.read_unread]; exact i9)
    hm hq hS _ (le_refl _)
  rw [show k1_t1_loop.trips = 2 from trips1] at H
  dsimp only
  rw [trips1]
  refine ⟨H.2.1, H.2.2.1, H.2.2.2.1, H.2.2.2.2.1, H.2.2.2.2.2.1, H.2.2.2.2.2.2, _, _, rfl, ?_⟩
  rw [scr_at1]
  exact H.1

theorem bwdNext_ok {d : Inputs} {m q : ℕ} {c : Dev nD} {i : grid1.Coords} {arg2 : Memref sig .tc .vmem S128x2048 .f32} {harg2 : arg2.IsWhole} {arg3 : Memref sig .tc .vmem S128x2048 .f32} {harg3 : arg3.IsWhole} {arg4 : Memref sig .tc .vmem S128x2048 .f32} {harg4 : arg4.IsWhole} {arg5 : Memref sig .tc .vmem S128x2048 .f32} {harg5 : arg5.IsWhole} {arg6 : Memref sig .tc .vmem S128x2048 .f32} {harg6 : arg6.IsWhole} {arg7 : Memref sig .tc .vmem S128x2048 .f32} {harg7 : arg7.IsWhole} {arg8 : Memref sig .tc .vmem S128x2048 .f32} {harg8 : arg8.IsWhole} {arg9 : Memref sig .tc .vmem S16x2x128x128 .f32} {harg9 : arg9.IsWhole} {arg10 : Memref sig .tc .vmem S128x2048 .f32} {harg10 : arg10.IsWhole} {arg11 : Memref sig .tc .vmem S128x2048 .f32} {harg11 : arg11.IsWhole} {arg12 : Memref sig .tc .vmem S128x2048 .f32} {harg12 : arg12.IsWhole} {arg13 : Memref sig .tc .vmem S128x2048 .f32} {harg13 : arg13.IsWhole} {arg14 : Memref sig .tc .vmem S128x2048 .f32} {harg14 : arg14.IsWhole} {arg15 : Memref sig .tc .vmem S128x2048 .f32} {harg15 : arg15.IsWhole} {arg16 : Memref sig .tc .vmem S16x128x128 .f32} {harg16 : arg16.IsWhole} {x0 : Vec Ideal S128x2048 .f32} {x1 : Vec Ideal S128x2048 .f32} {x2 : Vec Ideal S128x2048 .f32} {x3 : Vec Ideal S128x2048 .f32} {x4 : Vec Ideal S128x2048 .f32} {x5 : Vec Ideal S128x2048 .f32} {x6 : Vec Ideal S128x2048 .f32} {x7 : Vec Ideal S16x2x128x128 .f32} {xs : Vec Ideal S16x128x128 .f32} (hc : ¬bwdCond i)
    (i2 : Blk x0 m d.r)
    (i3 : Blk x1 m d.lw)
    (i4 : Blk x2 m d.k)
    (i5 : Blk x3 m d.v)
    (i6 : Blk x4 m d.a)
    (i7 : Blk x5 m d.b)
    (i8 : Blk x6 m d.ct) (i9 : BlkS x7 d q)
    (hm : m = 64 * q) (hq : q + 1 < 64) (hS : S xs (fun g h => d.G (hd g h) (64 * (q + 2 - 0)))) :
    (∀ p ∈ (bwdNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).1, Rows (fun x y => flat d.drRow (m + x) y) p) ∧ (∀ p ∈ (bwdNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.1, Rows (fun x y => flat d.dlwRow (m + x) y) p) ∧ (∀ p ∈ (bwdNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.1, Rows (fun x y => flat d.dkRow (m + x) y) p) ∧ (∀ p ∈ (bwdNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.1, Rows (fun x y => flat d.dvRow (m + x) y) p) ∧ (∀ p ∈ (bwdNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.2.1, Rows (fun x y => flat d.daRow (m + x) y) p) ∧ (∀ p ∈ (bwdNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.2.2.1, Rows (fun x y => flat d.dbRow (m + x) y) p) ∧
      ∃ X L, (bwdNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs).2.2.2.2.2.2.1 = ⟨Rect.unit (s := S16x128x128) ![0, 0, 0] S16x128x128.size inb_S16x128x128_S16x128x128_0_0_0, X⟩ :: L ∧ S X (fun g h => d.G (hd g h) (64 * (q))) := by
  have e : View.readAt (Elt Ideal) arg16.view (Rect.unit ![0, 0, 0] S16x128x128.size inb_S16x128x128_S16x128x128_0_0_0).toLoadRect (harg16.unread xs) = xs :=
    read_scr.trans (harg16.read_unread xs)
  rw [← e] at hS
  unfold bwdNext
  have H := k1_loop (𝒱 := Variants.none) (bd := none) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16)
    (X_arg2 := harg2.unread x0) (X_arg3 := harg3.unread x1) (X_arg4 := harg4.unread x2) (X_arg5 := harg5.unread x3) (X_arg6 := harg6.unread x4) (X_arg7 := harg7.unread x5) (X_arg8 := harg8.unread x6) (X_arg9 := harg9.unread x7)
    (by rw [harg2.read_unread]; exact i2) (by rw [harg3.read_unread]; exact i3) (by rw [harg4.read_unread]; exact i4) (by rw [harg5.read_unread]; exact i5) (by rw [harg6.read_unread]; exact i6) (by rw [harg7.read_unread]; exact i7) (by rw [harg8.read_unread]; exact i8) (by rw [harg9.read_unread]; exact i9)
    hm hq hS _ (le_refl _)
  rw [show k1_t1_loop.trips = 2 from trips1] at H
  dsimp only
  rw [trips1]
  refine ⟨H.2.1, H.2.2.1, H.2.2.2.1, H.2.2.2.2.1, H.2.2.2.2.2.1, H.2.2.2.2.2.2, _, _, rfl, ?_⟩
  rw [scr_at1]
  exact H.1

/-- What a point leaves: its rows of the results, and the state it hands on. -/
def BwdOK (d : Inputs) (m q : ℕ) (o : BwdOut Ideal) : Prop :=
  Blk o.o0 m (flat d.drRow) ∧ Blk o.o1 m (flat d.dlwRow) ∧ Blk o.o2 m (flat d.dkRow) ∧ Blk o.o3 m (flat d.dvRow) ∧ Blk o.o4 m (flat d.daRow) ∧ Blk o.o5 m (flat d.dbRow) ∧ S o.st (fun g h => d.G (hd g h) (64 * (q)))

variable (W : Dev nD → Valuation τ sig (Elt Ideal))

/-- The blocks a point reads. -/
def bwdIn (d : Inputs) (c : Dev nD) (t : Fin cfg1.N) (m q : ℕ) : Prop :=
  Blk (bwdBlk W c 0 t) m d.r ∧ Blk (bwdBlk W c 1 t) m d.lw ∧ Blk (bwdBlk W c 2 t) m d.k ∧ Blk (bwdBlk W c 3 t) m d.v ∧ Blk (bwdBlk W c 4 t) m d.a ∧ Blk (bwdBlk W c 5 t) m d.b ∧ Blk (bwdBlk W c 6 t) m d.ct ∧ BlkS (bwdBlk W c 7 t) d q

theorem bwdOutA_ok {d : Inputs} {m q : ℕ} (c : Dev nD) (t : Fin cfg1.N) (hc : bwdCond (grid1.coords t)) (hI : bwdIn W d c t m q)
    (hm : m = 64 * q) (hq : q + 1 < 64) (hz : q + 2 = 64) : BwdOK d m q (bwdOutA W c t hc) := by
  obtain ⟨h0, h1, h2, h3, h4, h5, h6, h7⟩ := hI
  obtain ⟨l0, l1, l2, l3, l4, l5, X, L, e, hX⟩ := bwdFirst_ok (c := c) (i := grid1.coords t) (harg2 := bwdMW0 t) (harg3 := bwdMW1 t) (harg4 := bwdMW2 t) (harg5 := bwdMW3 t) (harg6 := bwdMW4 t) (harg7 := bwdMW5 t) (harg8 := bwdMW6 t) (harg9 := bwdMW7 t) (harg10 := bwdMW8 t) (harg11 := bwdMW9 t) (harg12 := bwdMW10 t) (harg13 := bwdMW11 t) (harg14 := bwdMW12 t) (harg15 := bwdMW13 t) (harg16 := Memref.isWhole_whole cc1_scratch0) hc h0 h1 h2 h3 h4 h5 h6 h7 hm hq hz
  have es : (bwdOutA W c t hc).st = X := by
    dsimp only [bwdOutA, bwdRead]
    rw [View.read_writes_junk_eq_canon, e, canon_scr]
  refine ⟨Blk_of (bwdFirst_cover0 _ _ _ _ _ _ _ _ _ _ _ _ _ _ _ _ _ _ _ _ _ _ _ _ _ _ _ _ _ _ _ _ hc _ _ _ _ _ _ _ _) l0, Blk_of (bwdFirst_cover1 _ _ _ _ _ _ _ _ _ _ _ _ _ _ _ _ _ _ _ _ _ _ _ _ _ _ _ _ _ _ _ _ hc _ _ _ _ _ _ _ _) l1, Blk_of (bwdFirst_cover2 _ _ _ _ _ _ _ _ _ _ _ _ _ _ _ _ _ _ _ _ _ _ _ _ _ _ _ _ _ _ _ _ hc _ _ _ _ _ _ _ _) l2, Blk_of (bwdFirst_cover3 _ _ _ _ _ _ _ _ _ _ _ _ _ _ _ _ _ _ _ _ _ _ _ _ _ _ _ _ _ _ _ _ hc _ _ _ _ _ _ _ _) l3, Blk_of (bwdFirst_cover4 _ _ _ _ _ _ _ _ _ _ _ _ _ _ _ _ _ _ _ _ _ _ _ _ _ _ _ _ _ _ _ _ hc _ _ _ _ _ _ _ _) l4, Blk_of (bwdFirst_cover5 _ _ _ _ _ _ _ _ _ _ _ _ _ _ _ _ _ _ _ _ _ _ _ _ _ _ _ _ _ _ _ _ hc _ _ _ _ _ _ _ _) l5, ?_⟩
  · rw [es]; exact hX

theorem bwdOutB_ok {d : Inputs} {m q : ℕ} (c : Dev nD) (t : Fin cfg1.N) (hc : ¬bwdCond (grid1.coords t)) (xs : Vec Ideal S16x128x128 .f32) (hI : bwdIn W d c t m q)
    (hm : m = 64 * q) (hq : q + 1 < 64) (hS : S xs (fun g h => d.G (hd g h) (64 * (q + 2 - 0)))) : BwdOK d m q (bwdOutB W c t hc xs) := by
  obtain ⟨h0, h1, h2, h3, h4, h5, h6, h7⟩ := hI
  obtain ⟨l0, l1, l2, l3, l4, l5, X, L, e, hX⟩ := bwdNext_ok (c := c) (i := grid1.coords t) (harg2 := bwdMW0 t) (harg3 := bwdMW1 t) (harg4 := bwdMW2 t) (harg5 := bwdMW3 t) (harg6 := bwdMW4 t) (harg7 := bwdMW5 t) (harg8 := bwdMW6 t) (harg9 := bwdMW7 t) (harg10 := bwdMW8 t) (harg11 := bwdMW9 t) (harg12 := bwdMW10 t) (harg13 := bwdMW11 t) (harg14 := bwdMW12 t) (harg15 := bwdMW13 t) (harg16 := Memref.isWhole_whole cc1_scratch0) hc h0 h1 h2 h3 h4 h5 h6 h7 hm hq hS
  have es : (bwdOutB W c t hc xs).st = X := by
    dsimp only [bwdOutB, bwdRead]
    rw [View.read_writes_junk_eq_canon, e, canon_scr]
  refine ⟨Blk_of (bwdNext_cover0 _ _ _ _ _ _ _ _ _ _ _ _ _ _ _ _ _ _ _ _ _ _ _ _ _ _ _ _ _ _ _ _ hc _ _ _ _ _ _ _ _ xs) l0, Blk_of (bwdNext_cover1 _ _ _ _ _ _ _ _ _ _ _ _ _ _ _ _ _ _ _ _ _ _ _ _ _ _ _ _ _ _ _ _ hc _ _ _ _ _ _ _ _ xs) l1, Blk_of (bwdNext_cover2 _ _ _ _ _ _ _ _ _ _ _ _ _ _ _ _ _ _ _ _ _ _ _ _ _ _ _ _ _ _ _ _ hc _ _ _ _ _ _ _ _ xs) l2, Blk_of (bwdNext_cover3 _ _ _ _ _ _ _ _ _ _ _ _ _ _ _ _ _ _ _ _ _ _ _ _ _ _ _ _ _ _ _ _ hc _ _ _ _ _ _ _ _ xs) l3, Blk_of (bwdNext_cover4 _ _ _ _ _ _ _ _ _ _ _ _ _ _ _ _ _ _ _ _ _ _ _ _ _ _ _ _ _ _ _ _ hc _ _ _ _ _ _ _ _ xs) l4, Blk_of (bwdNext_cover5 _ _ _ _ _ _ _ _ _ _ _ _ _ _ _ _ _ _ _ _ _ _ _ _ _ _ _ _ _ _ _ _ hc _ _ _ _ _ _ _ _ xs) l5, ?_⟩
  · rw [es]; exact hX

theorem bwdAt_ok {d : Inputs} (c : Dev nD) (hI : ∀ t : Fin cfg1.N, bwdIn W d c t (128 * (31 - t.val)) (2 * (31 - t.val))) :
    ∀ (n : ℕ) (hn : n < cfg1.N), BwdOK d (128 * (31 - n)) (2 * (31 - n)) (bwdAt W c n hn)
  | 0, hn => bwdOutA_ok W c ⟨0, hn⟩ _ (hI ⟨0, hn⟩) (by omega) (by omega) (by omega)
  | n + 1, hn => by
    have ih := bwdAt_ok c hI n (Nat.lt_of_succ_lt hn)
    have hn' : n + 1 < 32 := lt_of_lt_of_eq hn N_1
    have hS := ih.2.2.2.2.2.2
    rw [show 2 * (31 - n) = 2 * (31 - (n + 1)) + 2 - 0 by omega] at hS
    exact bwdOutB_ok W c ⟨n + 1, hn⟩ _ _ (hI ⟨n + 1, hn⟩) (by omega) (by omega) hS

end Cert.KernelIdeal.Val
-- ==== Proof.Vals1.lean ====
module

public import proofs.«01_k».proof.Proof.Reg1
public import Idealize.ShloMosaic.Lib.Pipeline.ValueKit

@[expose] public section

set_option maxRecDepth 16384

noncomputable section

namespace Cert.KernelIdeal.Val

open Idealize.ShloMosaic Idealize.ShloMosaic.TcCoe
open Cert.KernelIdeal Cert.KernelIdeal.Gen Cert.Rwkv Cert.KernelIdeal.Rec

theorem bwdIdx0 : ∀ t : Fin cfg1.N, win1_0.index t 0 = 31 - t.val ∧ win1_0.index t 1 = 0 :=
  (by decide +kernel : ∀ t : Fin grid1.N, win1_0.index t 0 = 31 - t.val ∧ win1_0.index t 1 = 0)

theorem bwdIdx1 : ∀ t : Fin cfg1.N, win1_1.index t 0 = 31 - t.val ∧ win1_1.index t 1 = 0 :=
  (by decide +kernel : ∀ t : Fin grid1.N, win1_1.index t 0 = 31 - t.val ∧ win1_1.index t 1 = 0)

theorem bwdIdx2 : ∀ t : Fin cfg1.N, win1_2.index t 0 = 31 - t.val ∧ win1_2.index t 1 = 0 :=
  (by decide +kernel : ∀ t : Fin grid1.N, win1_2.index t 0 = 31 - t.val ∧ win1_2.index t 1 = 0)

theorem bwdIdx3 : ∀ t : Fin cfg1.N, win1_3.index t 0 = 31 - t.val ∧ win1_3.index t 1 = 0 :=
  (by decide +kernel : ∀ t : Fin grid1.N, win1_3.index t 0 = 31 - t.val ∧ win1_3.index t 1 = 0)

theorem bwdIdx4 : ∀ t : Fin cfg1.N, win1_4.index t 0 = 31 - t.val ∧ win1_4.index t 1 = 0 :=
  (by decide +kernel : ∀ t : Fin grid1.N, win1_4.index t 0 = 31 - t.val ∧ win1_4.index t 1 = 0)

theorem bwdIdx5 : ∀ t : Fin cfg1.N, win1_5.index t 0 = 31 - t.val ∧ win1_5.index t 1 = 0 :=
  (by decide +kernel : ∀ t : Fin grid1.N, win1_5.index t 0 = 31 - t.val ∧ win1_5.index t 1 = 0)

theorem bwdIdx6 : ∀ t : Fin cfg1.N, win1_6.index t 0 = 31 - t.val ∧ win1_6.index t 1 = 0 :=
  (by decide +kernel : ∀ t : Fin grid1.N, win1_6.index t 0 = 31 - t.val ∧ win1_6.index t 1 = 0)

theorem bwdIdx7 : ∀ t : Fin cfg1.N, win1_7.index t 0 = 0 ∧ win1_7.index t 1 = 31 - t.val ∧ win1_7.index t 2 = 0 ∧ win1_7.index t 3 = 0 :=
  (by decide +kernel : ∀ t : Fin grid1.N, win1_7.index t 0 = 0 ∧ win1_7.index t 1 = 31 - t.val ∧ win1_7.index t 2 = 0 ∧ win1_7.index t 3 = 0)

theorem bwdIdx8 : ∀ t : Fin cfg1.N, win1_8.index t 0 = 31 - t.val ∧ win1_8.index t 1 = 0 :=
  (by decide +kernel : ∀ t : Fin grid1.N, win1_8.index t 0 = 31 - t.val ∧ win1_8.index t 1 = 0)

theorem bwdIdx9 : ∀ t : Fin cfg1.N, win1_9.index t 0 = 31 - t.val ∧ win1_9.index t 1 = 0 :=
  (by decide +kernel : ∀ t : Fin grid1.N, win1_9.index t 0 = 31 - t.val ∧ win1_9.index t 1 = 0)

theorem bwdIdx10 : ∀ t : Fin cfg1.N, win1_10.index t 0 = 31 - t.val ∧ win1_10.index t 1 = 0 :=
  (by decide +kernel : ∀ t : Fin grid1.N, win1_10.index t 0 = 31 - t.val ∧ win1_10.index t 1 = 0)

theorem bwdIdx11 : ∀ t : Fin cfg1.N, win1_11.index t 0 = 31 - t.val ∧ win1_11.index t 1 = 0 :=
  (by decide +kernel : ∀ t : Fin grid1.N, win1_11.index t 0 = 31 - t.val ∧ win1_11.index t 1 = 0)

theorem bwdIdx12 : ∀ t : Fin cfg1.N, win1_12.index t 0 = 31 - t.val ∧ win1_12.index t 1 = 0 :=
  (by decide +kernel : ∀ t : Fin grid1.N, win1_12.index t 0 = 31 - t.val ∧ win1_12.index t 1 = 0)

theorem bwdIdx13 : ∀ t : Fin cfg1.N, win1_13.index t 0 = 31 - t.val ∧ win1_13.index t 1 = 0 :=
  (by decide +kernel : ∀ t : Fin grid1.N, win1_13.index t 0 = 31 - t.val ∧ win1_13.index t 1 = 0)

theorem bwdLt (t : Fin cfg1.N) : t.val < 32 := lt_of_lt_of_eq t.isLt N_1

variable (W : Dev nD → Valuation τ sig (Elt Ideal))

theorem bwdBlk0 {ρ : ℕ → ℕ → ℝ} (c : Dev nD) (t : Fin cfg1.N)
    (h : ∀ (x : Fin 4096) (y : Fin 2048), W c (Proc.devRef .tc main_arg0) (ix2 x y) = ((ρ x.val y.val : ℝ) : EReal)) :
    Blk (bwdBlk W c 0 t) (128 * (31 - t.val)) ρ := by
  intro x y
  have ht := bwdLt t
  refine Eq.trans ?_ (h ⟨128 * (31 - t.val) + x.val, by omega⟩ y)
  blk_ext [bwdBlk, bwdIdx0 t]

theorem bwdBlk1 {ρ : ℕ → ℕ → ℝ} (c : Dev nD) (t : Fin cfg1.N)
    (h : ∀ (x : Fin 4096) (y : Fin 2048), W c (Proc.devRef .tc main_arg1) (ix2 x y) = ((ρ x.val y.val : ℝ) : EReal)) :
    Blk (bwdBlk W c 1 t) (128 * (31 - t.val)) ρ := by
  intro x y
  have ht := bwdLt t
  refine Eq.trans ?_ (h ⟨128 * (31 - t.val) + x.val, by omega⟩ y)
  blk_ext [bwdBlk, bwdIdx1 t]

theorem bwdBlk2 {ρ : ℕ → ℕ → ℝ} (c : Dev nD) (t : Fin cfg1.N)
    (h : ∀ (x : Fin 4096) (y : Fin 2048), W c (Proc.devRef .tc main_arg2) (ix2 x y) = ((ρ x.val y.val : ℝ) : EReal)) :
    Blk (bwdBlk W c 2 t) (128 * (31 - t.val)) ρ := by
  intro x y
  have ht := bwdLt t
  refine Eq.trans ?_ (h ⟨128 * (31 - t.val) + x.val, by omega⟩ y)
  blk_ext [bwdBlk, bwdIdx2 t]

theorem bwdBlk3 {ρ : ℕ → ℕ → ℝ} (c : Dev nD) (t : Fin cfg1.N)
    (h : ∀ (x : Fin 4096) (y : Fin 2048), W c (Proc.devRef .tc main_arg3) (ix2 x y) = ((ρ x.val y.val : ℝ) : EReal)) :
    Blk (bwdBlk W c 3 t) (128 * (31 - t.val)) ρ := by
  intro x y
  have ht := bwdLt t
  refine Eq.trans ?_ (h ⟨128 * (31 - t.val) + x.val, by omega⟩ y)
  blk_ext [bwdBlk, bwdIdx3 t]

theorem bwdBlk4 {ρ : ℕ → ℕ → ℝ} (c : Dev nD) (t : Fin cfg1.N)
    (h : ∀ (x : Fin 4096) (y : Fin 2048), W c (Proc.devRef .tc main_arg4) (ix2 x y) = ((ρ x.val y.val : ℝ) : EReal)) :
    Blk (bwdBlk W c 4 t) (128 * (31 - t.val)) ρ := by
  intro x y
  have ht := bwdLt t
  refine Eq.trans ?_ (h ⟨128 * (31 - t.val) + x.val, by omega⟩ y)
  blk_ext [bwdBlk, bwdIdx4 t]

theorem bwdBlk5 {ρ : ℕ → ℕ → ℝ} (c : Dev nD) (t : Fin cfg1.N)
    (h : ∀ (x : Fin 4096) (y : Fin 2048), W c (Proc.devRef .tc main_arg5) (ix2 x y) = ((ρ x.val y.val : ℝ) : EReal)) :
    Blk (bwdBlk W c 5 t) (128 * (31 - t.val)) ρ := by
  intro x y
  have ht := bwdLt t
  refine Eq.trans ?_ (h ⟨128 * (31 - t.val) + x.val, by omega⟩ y)
  blk_ext [bwdBlk, bwdIdx5 t]

theorem bwdBlk6 {ρ : ℕ → ℕ → ℝ} (c : Dev nD) (t : Fin cfg1.N)
    (h : ∀ (x : Fin 4096) (y : Fin 2048), W c (Proc.devRef .tc main_arg6) (ix2 x y) = ((ρ x.val y.val : ℝ) : EReal)) :
    Blk (bwdBlk W c 6 t) (128 * (31 - t.val)) ρ := by
  intro x y
  have ht := bwdLt t
  refine Eq.trans ?_ (h ⟨128 * (31 - t.val) + x.val, by omega⟩ y)
  blk_ext [bwdBlk, bwdIdx6 t]

theorem bwdBlk7 {d : Inputs} (c : Dev nD) (t : Fin cfg1.N)
    (h : ∀ g (p : Fin 64) h h' i j, W c (Proc.devRef .tc main_v0_1) (ix4 g p (lane h i) (lane h' j)) = if h' = h then ((d.St (hd g h) (64 * p.val) i j : ℝ) : EReal) else 0) :
    BlkS (bwdBlk W c 7 t) d (2 * (31 - t.val)) := by
  intro g p x x' i j
  have ht := bwdLt t
  refine Eq.trans ?_ (h g ⟨2 * (31 - t.val) + p.val, by omega⟩ x x' i j)
  blk_ext [bwdBlk, bwdIdx7 t]

theorem bwdIns {d : Inputs} (c : Dev nD)
    (h0 : ∀ (x : Fin 4096) (y : Fin 2048), W c (Proc.devRef .tc main_arg0) (ix2 x y) = ((d.r x.val y.val : ℝ) : EReal))
    (h1 : ∀ (x : Fin 4096) (y : Fin 2048), W c (Proc.devRef .tc main_arg1) (ix2 x y) = ((d.lw x.val y.val : ℝ) : EReal))
    (h2 : ∀ (x : Fin 4096) (y : Fin 2048), W c (Proc.devRef .tc main_arg2) (ix2 x y) = ((d.k x.val y.val : ℝ) : EReal))
    (h3 : ∀ (x : Fin 4096) (y : Fin 2048), W c (Proc.devRef .tc main_arg3) (ix2 x y) = ((d.v x.val y.val : ℝ) : EReal))
    (h4 : ∀ (x : Fin 4096) (y : Fin 2048), W c (Proc.devRef .tc main_arg4) (ix2 x y) = ((d.a x.val y.val : ℝ) : EReal))
    (h5 : ∀ (x : Fin 4096) (y : Fin 2048), W c (Proc.devRef .tc main_arg5) (ix2 x y) = ((d.b x.val y.val : ℝ) : EReal))
    (h6 : ∀ (x : Fin 4096) (y : Fin 2048), W c (Proc.devRef .tc main_arg6) (ix2 x y) = ((d.ct x.val y.val : ℝ) : EReal))
    (h7 : ∀ g (p : Fin 64) h h' i j, W c (Proc.devRef .tc main_v0_1) (ix4 g p (lane h i) (lane h' j)) = if h' = h then ((d.St (hd g h) (64 * p.val) i j : ℝ) : EReal) else 0) (t : Fin cfg1.N) : bwdIn W d c t (128 * (31 - t.val)) (2 * (31 - t.val)) :=
  ⟨bwdBlk0 W c t h0, bwdBlk1 W c t h1, bwdBlk2 W c t h2, bwdBlk3 W c t h3, bwdBlk4 W c t h4, bwdBlk5 W c t h5, bwdBlk6 W c t h6, bwdBlk7 W c t h7⟩

theorem bwdArr8 {d : Inputs} (c : Dev nD) (hI : ∀ t : Fin cfg1.N, bwdIn W d c t (128 * (31 - t.val)) (2 * (31 - t.val))) :
    (bwdDat W c).arrAt 8 cfg1.N = fun x => ((flat d.drRow (x 0).val (x 1).val : ℝ) : EReal) := by
  refine (bwdDat W c).arrAt_eq_of_covers 8 _ (by decide +kernel) fun t _ y => ?_
  blk_simp
  rw [bwdAfter8]
  have hok := (bwdAt_ok W c hI t.val t.isLt).1
  rw [show y = ix2 (y 0) (y 1) from by funext a; fin_cases a <;> rfl]
  refine (hok _ _).trans ?_
  have hi := bwdIdx8 t
  refine congrArg (fun r : ℝ => (r : EReal)) (congrArg₂ (flat d.drRow) ?_ ?_)
  · blk_simp [hi]
    omega
  · blk_simp [hi]

theorem bwdArr9 {d : Inputs} (c : Dev nD) (hI : ∀ t : Fin cfg1.N, bwdIn W d c t (128 * (31 - t.val)) (2 * (31 - t.val))) :
    (bwdDat W c).arrAt 9 cfg1.N = fun x => ((flat d.dlwRow (x 0).val (x 1).val : ℝ) : EReal) := by
  refine (bwdDat W c).arrAt_eq_of_covers 9 _ (by decide +kernel) fun t _ y => ?_
  blk_simp
  rw [bwdAfter9]
  have hok := (bwdAt_ok W c hI t.val t.isLt).2.1
  rw [show y = ix2 (y 0) (y 1) from by funext a; fin_cases a <;> rfl]
  refine (hok _ _).trans ?_
  have hi := bwdIdx9 t
  refine congrArg (fun r : ℝ => (r : EReal)) (congrArg₂ (flat d.dlwRow) ?_ ?_)
  · blk_simp [hi]
    omega
  · blk_simp [hi]

theorem bwdArr10 {d : Inputs} (c : Dev nD) (hI : ∀ t : Fin cfg1.N, bwdIn W d c t (128 * (31 - t.val)) (2 * (31 - t.val))) :
    (bwdDat W c).arrAt 10 cfg1.N = fun x => ((flat d.dkRow (x 0).val (x 1).val : ℝ) : EReal) := by
  refine (bwdDat W c).arrAt_eq_of_covers 10 _ (by decide +kernel) fun t _ y => ?_
  blk_simp
  rw [bwdAfter10]
  have hok := (bwdAt_ok W c hI t.val t.isLt).2.2.1
  rw [show y = ix2 (y 0) (y 1) from by funext a; fin_cases a <;> rfl]
  refine (hok _ _).trans ?_
  have hi := bwdIdx10 t
  refine congrArg (fun r : ℝ => (r : EReal)) (congrArg₂ (flat d.dkRow) ?_ ?_)
  · blk_simp [hi]
    omega
  · blk_simp [hi]

theorem bwdArr11 {d : Inputs} (c : Dev nD) (hI : ∀ t : Fin cfg1.N, bwdIn W d c t (128 * (31 - t.val)) (2 * (31 - t.val))) :
    (bwdDat W c).arrAt 11 cfg1.N = fun x => ((flat d.dvRow (x 0).val (x 1).val : ℝ) : EReal) := by
  refine (bwdDat W c).arrAt_eq_of_covers 11 _ (by decide +kernel) fun t _ y => ?_
  blk_simp
  rw [bwdAfter11]
  have hok := (bwdAt_ok W c hI t.val t.isLt).2.2.2.1
  rw [show y = ix2 (y 0) (y 1) from by funext a; fin_cases a <;> rfl]
  refine (hok _ _).trans ?_
  have hi := bwdIdx11 t
  refine congrArg (fun r : ℝ => (r : EReal)) (congrArg₂ (flat d.dvRow) ?_ ?_)
  · blk_simp [hi]
    omega
  · blk_simp [hi]

theorem bwdArr12 {d : Inputs} (c : Dev nD) (hI : ∀ t : Fin cfg1.N, bwdIn W d c t (128 * (31 - t.val)) (2 * (31 - t.val))) :
    (bwdDat W c).arrAt 12 cfg1.N = fun x => ((flat d.daRow (x 0).val (x 1).val : ℝ) : EReal) := by
  refine (bwdDat W c).arrAt_eq_of_covers 12 _ (by decide +kernel) fun t _ y => ?_
  blk_simp
  rw [bwdAfter12]
  have hok := (bwdAt_ok W c hI t.val t.isLt).2.2.2.2.1
  rw [show y = ix2 (y 0) (y 1) from by funext a; fin_cases a <;> rfl]
  refine (hok _ _).trans ?_
  have hi := bwdIdx12 t
  refine congrArg (fun r : ℝ => (r : EReal)) (congrArg₂ (flat d.daRow) ?_ ?_)
  · blk_simp [hi]
    omega
  · blk_simp [hi]

theorem bwdArr13 {d : Inputs} (c : Dev nD) (hI : ∀ t : Fin cfg1.N, bwdIn W d c t (128 * (31 - t.val)) (2 * (31 - t.val))) :
    (bwdDat W c).arrAt 13 cfg1.N = fun x => ((flat d.dbRow (x 0).val (x 1).val : ℝ) : EReal) := by
  refine (bwdDat W c).arrAt_eq_of_covers 13 _ (by decide +kernel) fun t _ y => ?_
  blk_simp
  rw [bwdAfter13]
  have hok := (bwdAt_ok W c hI t.val t.isLt).2.2.2.2.2.1
  rw [show y = ix2 (y 0) (y 1) from by funext a; fin_cases a <;> rfl]
  refine (hok _ _).trans ?_
  have hi := bwdIdx13 t
  refine congrArg (fun r : ℝ => (r : EReal)) (congrArg₂ (flat d.dbRow) ?_ ?_)
  · blk_simp [hi]
    omega
  · blk_simp [hi]

end Cert.KernelIdeal.Val
-- ==== Proof.Arrays.lean ====
module

public import proofs.«01_k».proof.Proof.Vals0
public import proofs.«01_k».proof.Proof.Vals1
public import proofs.«01_k».proof.Proof.Launch

@[expose] public section

set_option maxRecDepth 16384

noncomputable section

namespace Cert.KernelIdeal.Val

open Idealize.ShloMosaic Idealize.ShloMosaic.TcCoe
open Cert.KernelIdeal Cert.KernelIdeal.Gen Cert.Rwkv Cert.KernelIdeal.Rec

variable (m : (ℓ : Loc nD τ sig) → Buf (Elt Ideal) ℓ)

/-- The arguments hold the rows of `d`. -/
structure Args (d : Inputs) (c : Dev nD) : Prop where
  r : ∀ (x : Fin 4096) (y : Fin 2048), before m c (Proc.devRef .tc main_arg0) (ix2 x y) = ((d.r x.val y.val : ℝ) : EReal)
  lw : ∀ (x : Fin 4096) (y : Fin 2048), before m c (Proc.devRef .tc main_arg1) (ix2 x y) = ((d.lw x.val y.val : ℝ) : EReal)
  k : ∀ (x : Fin 4096) (y : Fin 2048), before m c (Proc.devRef .tc main_arg2) (ix2 x y) = ((d.k x.val y.val : ℝ) : EReal)
  v : ∀ (x : Fin 4096) (y : Fin 2048), before m c (Proc.devRef .tc main_arg3) (ix2 x y) = ((d.v x.val y.val : ℝ) : EReal)
  a : ∀ (x : Fin 4096) (y : Fin 2048), before m c (Proc.devRef .tc main_arg4) (ix2 x y) = ((d.a x.val y.val : ℝ) : EReal)
  b : ∀ (x : Fin 4096) (y : Fin 2048), before m c (Proc.devRef .tc main_arg5) (ix2 x y) = ((d.b x.val y.val : ℝ) : EReal)
  ct : ∀ (x : Fin 4096) (y : Fin 2048), before m c (Proc.devRef .tc main_arg6) (ix2 x y) = ((d.ct x.val y.val : ℝ) : EReal)

theorem between_keeps (c : Dev nD) (r : Ref sig .tc) (h : ∀ w, Pipeline.arrRef spec0 w = r → (cfg0.win w).isOut = false) :
    between m c (Proc.devRef .tc r) = before m c (Proc.devRef .tc r) :=
  Pipeline.afterRegion_keeps (fwdDat (before m) c) (before m c) launch0.win.arr_inj (fwdDat_A (before m) c) r h

theorem atEnd_between (c : Dev nD) (r : Ref sig .tc) (h : ∀ w, Pipeline.arrRef spec1 w = r → (cfg1.win w).isOut = false) :
    atEnd m c (Proc.devRef .tc r) = between m c (Proc.devRef .tc r) :=
  Pipeline.afterRegion_keeps (bwdDat (between m) c) (between m c) launch1.win.arr_inj (bwdDat_A (between m) c) r h

variable {m}

theorem fwdIns_of {d : Inputs} {c : Dev nD} (h : Args m d c) (t : Fin cfg0.N) :
    fwdIn (before m) d c t (128 * t.val) (2 * t.val) :=
  fwdIns (before m) c h.r h.lw h.k h.v h.a h.b t

theorem y_between {d : Inputs} {c : Dev nD} (h : Args m d c) :
    between m c (Proc.devRef .tc main_v0_0) = fun x => ((flat d.yRow (x 0).val (x 1).val : ℝ) : EReal) :=
  (Pipeline.afterRegion_arr (fwdDat (before m) c) (before m c) launch0.win.arr_inj 6).trans (fwdArr6 (before m) c (fwdIns_of h))

theorem states_between {d : Inputs} {c : Dev nD} (h : Args m d c) (g : Fin 16) (p : Fin 64) (x x' : Fin 2) (i j : Fin 64) :
    between m c (Proc.devRef .tc main_v0_1) (ix4 g p (lane x i) (lane x' j)) = if x' = x then ((d.St (hd g x) (64 * p.val) i j : ℝ) : EReal) else 0 :=
  (congrFun (Pipeline.afterRegion_arr (fwdDat (before m) c) (before m c) launch0.win.arr_inj 7) _).trans
    (fwdArr7 (before m) c (fwdIns_of h) _ g p x x' i j rfl)

theorem bwdIns_of {d : Inputs} {c : Dev nD} (h : Args m d c) (t : Fin cfg1.N) :
    bwdIn (between m) d c t (128 * (31 - t.val)) (2 * (31 - t.val)) :=
  bwdIns (between m) c
    (fun x y => (congrFun (between_keeps m c main_arg0 (by decide)) _).trans (h.r x y))
    (fun x y => (congrFun (between_keeps m c main_arg1 (by decide)) _).trans (h.lw x y))
    (fun x y => (congrFun (between_keeps m c main_arg2 (by decide)) _).trans (h.k x y))
    (fun x y => (congrFun (between_keeps m c main_arg3 (by decide)) _).trans (h.v x y))
    (fun x y => (congrFun (between_keeps m c main_arg4 (by decide)) _).trans (h.a x y))
    (fun x y => (congrFun (between_keeps m c main_arg5 (by decide)) _).trans (h.b x y))
    (fun x y => (congrFun (between_keeps m c main_arg6 (by decide)) _).trans (h.ct x y))
    (states_between h) t

theorem y_end {d : Inputs} {c : Dev nD} (h : Args m d c) :
    atEnd m c (Proc.devRef .tc main_v0_0) = fun x => ((flat d.yRow (x 0).val (x 1).val : ℝ) : EReal) :=
  (atEnd_between m c main_v0_0 (by decide)).trans (y_between h)

theorem dr_end {d : Inputs} {c : Dev nD} (h : Args m d c) :
    atEnd m c (Proc.devRef .tc main_v1_0) = fun x => ((flat d.drRow (x 0).val (x 1).val : ℝ) : EReal) :=
  (Pipeline.afterRegion_arr (bwdDat (between m) c) (between m c) launch1.win.arr_inj 8).trans (bwdArr8 (between m) c (bwdIns_of h))

theorem dlw_end {d : Inputs} {c : Dev nD} (h : Args m d c) :
    atEnd m c (Proc.devRef .tc main_v1_1) = fun x => ((flat d.dlwRow (x 0).val (x 1).val : ℝ) : EReal) :=
  (Pipeline.afterRegion_arr (bwdDat (between m) c) (between m c) launch1.win.arr_inj 9).trans (bwdArr9 (between m) c (bwdIns_of h))

theorem dk_end {d : Inputs} {c : Dev nD} (h : Args m d c) :
    atEnd m c (Proc.devRef .tc main_v1_2) = fun x => ((flat d.dkRow (x 0).val (x 1).val : ℝ) : EReal) :=
  (Pipeline.afterRegion_arr (bwdDat (between m) c) (between m c) launch1.win.arr_inj 10).trans (bwdArr10 (between m) c (bwdIns_of h))

theorem dv_end {d : Inputs} {c : Dev nD} (h : Args m d c) :
    atEnd m c (Proc.devRef .tc main_v1_3) = fun x => ((flat d.dvRow (x 0).val (x 1).val : ℝ) : EReal) :=
  (Pipeline.afterRegion_arr (bwdDat (between m) c) (between m c) launch1.win.arr_inj 11).trans (bwdArr11 (between m) c (bwdIns_of h))

theorem da_end {d : Inputs} {c : Dev nD} (h : Args m d c) :
    atEnd m c (Proc.devRef .tc main_v1_4) = fun x => ((flat d.daRow (x 0).val (x 1).val : ℝ) : EReal) :=
  (Pipeline.afterRegion_arr (bwdDat (between m) c) (between m c) launch1.win.arr_inj 12).trans (bwdArr12 (between m) c (bwdIns_of h))

theorem db_end {d : Inputs} {c : Dev nD} (h : Args m d c) :
    atEnd m c (Proc.devRef .tc main_v1_5) = fun x => ((flat d.dbRow (x 0).val (x 1).val : ℝ) : EReal) :=
  (Pipeline.afterRegion_arr (bwdDat (between m) c) (between m c) launch1.win.arr_inj 13).trans (bwdArr13 (between m) c (bwdIns_of h))

end Cert.KernelIdeal.Val
-- ==== Proof.RefLift.lean ====
module

public import proofs.«01_k».proof.Proof.RefFold
public import proofs.«01_k».proof.Proof.Rep
public import proofs.«01_k».proof.Proof.Glob
public import Idealize.ShloMosaic.Lib.WordCmp

@[expose] public section

set_option maxRecDepth 16384

noncomputable section

namespace Cert.ReferenceIdeal.Val

open Idealize.ShloMosaic Idealize.ShloMosaic.TcCoe
open Cert.ReferenceIdeal Cert.ReferenceIdeal.Gen Cert.Rwkv

/-- An array holds each head's row. -/
def RV (X : FVec Ideal S32x64 .f32) (f : Fin 32 → Row) : Prop := ∀ h i, X (ix2 h i) = ((f h i : ℝ) : EReal)
/-- The same, along the columns of a matrix with one row. -/
def CV (X : FVec Ideal S32x1x64 .f32) (f : Fin 32 → Row) : Prop := ∀ h (z : Fin 1) i, X (ix3 h z i) = ((f h i : ℝ) : EReal)
/-- The same, along the rows of a matrix with one column. -/
def DV (X : FVec Ideal S32x64x1 .f32) (f : Fin 32 → Row) : Prop := ∀ h i (z : Fin 1), X (ix3 h i z) = ((f h i : ℝ) : EReal)
/-- An array holds each head's matrix. -/
def MV (X : FVec Ideal S32x64x64 .f32) (f : Fin 32 → Mat) : Prop := ∀ h i j, X (ix3 h i j) = ((f h i j : ℝ) : EReal)
/-- A stack of rows holds `φ` at the times of `P`. -/
def SV (P : ℕ → Prop) (X : FVec Ideal S4096x32x64 .f32) (φ : ℕ → ℕ → Row) : Prop :=
  ∀ (t : Fin 4096) (h : Fin 32) (i : Fin 64), P t.val → X (ix3 t h i) = ((φ t.val h.val i : ℝ) : EReal)
/-- A stack of matrices holds `φ` at the times of `P`. -/
def TV (P : ℕ → Prop) (X : FVec Ideal S4096x32x64x64 .f32) (φ : ℕ → ℕ → Mat) : Prop :=
  ∀ (t : Fin 4096) (h : Fin 32) (i j : Fin 64), P t.val → X (ix4 t h i j) = ((φ h.val t.val i j : ℝ) : EReal)

section

variable {X Y : FVec Ideal S32x64x64 .f32} {f g : Fin 32 → Mat} {A B : FVec Ideal S32x64 .f32} {u v : Fin 32 → Row}
  {C : FVec Ideal S32x1x64 .f32} {D : FVec Ideal S32x64x1 .f32}

theorem RV.eq (hA : RV A u) (e : ∀ h i, u h i = v h i) : RV A v := fun h i => by rw [hA, e]

theorem MV.eq (hX : MV X f) (e : ∀ h i j, f h i j = g h i j) : MV X g := fun h i j => by rw [hX, e]

theorem MV.mul (hX : MV X f) (hY : MV Y g) : MV (mulf X Y) (fun h i j => f h i j * g h i j) := fun h i j => by
  pointwise
  rw [hX, hY, EReal.coe_mul]

theorem MV.add (hX : MV X f) (hY : MV Y g) : MV (addf X Y) (fun h i j => f h i j + g h i j) := fun h i j => by
  pointwise
  rw [hX, hY, EReal.coe_add]

theorem RV.mul (hA : RV A u) (hB : RV B v) : RV (mulf A B) (fun h i => u h i * v h i) := fun h i => by
  pointwise
  rw [hA, hB, EReal.coe_mul]

theorem RV.exp (hA : RV A u) : RV (Host.exp A) (fun h i => Real.exp (u h i)) := fun h i => by
  pointwise
  rw [hA]
  rfl

theorem RV.col (hA : RV A u) : CV (broadcastInDim S32x1x64 ![0, 2] bcast_S32x64_S32x1x64_0_2 A) u := fun h z i => by
  pointwise
  exact hA h i

theorem RV.row (hA : RV A u) : DV (broadcastInDim S32x64x1 ![0, 1] bcast_S32x64_S32x64x1_0_1 A) u := fun h i z => by
  pointwise
  exact hA h i

theorem CV.mat (hC : CV C u) : MV (broadcastInDim S32x64x64 ![0, 1, 2] bcast_S32x1x64_S32x64x64_0_1_2 C) (fun h i j => u h j) := fun h i j => by
  pointwise
  exact hC h _ j

theorem DV.mat (hD : DV D u) : MV (broadcastInDim S32x64x64 ![0, 1, 2] bcast_S32x64x1_S32x64x64_0_1_2 D) (fun h i j => u h i) := fun h i j => by
  pointwise
  exact hD h i _

theorem RV.mat (hA : RV A u) : MV (broadcastInDim S32x64x64 ![0, 1] bcast_S32x64_S32x64x64_0_1 A) (fun h i j => u h i) := fun h i j => by
  pointwise
  exact hA h i

theorem MV.sum2 (hX : MV X f) : RV (Host.reduceAdd X (constant S_ .f32 0x00000000#32) reducesTo_S32x64x64_S32x64_d2 h_S_) (fun h i => ∑ j, f h i j) := fun h i => by
  pointwise
  simp only [hX h i, KernelIdeal.Val.coe_sum]

theorem MV.sum1 (hX : MV X f) : RV (Host.reduceAdd X (constant S_ .f32 0x00000000#32) reducesTo_S32x64x64_S32x64_d1 h_S_) (fun h j => ∑ i, f h i j) := fun h j => by
  pointwise
  simp only [hX h _ j, KernelIdeal.Val.coe_sum]

theorem CV.sum (hC : CV C u) : RV (Host.reduceAdd C (constant S_ .f32 0x00000000#32) reducesTo_S32x1x64_S32x64_d1 h_S_) u := fun h i => by
  pointwise
  rw [Fin.sum_univ_one]
  exact hC h 0 i

theorem DV.sum (hD : DV D u) : RV (Host.reduceAdd D (constant S_ .f32 0x00000000#32) reducesTo_S32x64x1_S32x64_d2 h_S_) u := fun h i => by
  pointwise
  rw [Fin.sum_univ_one]
  exact hD h i 0

theorem RV.castC (hA : RV A u) : CV (fun x => shapeCast S32x1x64 A shapeCasts_S32x64_S32x1x64 x) u := fun h z i => by
  pointwise
  exact hA h i

theorem RV.castD (hA : RV A u) : DV (fun x => shapeCast S32x64x1 A shapeCasts_S32x64_S32x64x1 x) u := fun h i z => by
  pointwise
  exact hA h i

end

section

variable {P : ℕ → Prop} {n : ℕ} {X : FVec Ideal S4096x32x64 .f32} {Z : FVec Ideal S4096x32x64x64 .f32} {φ : ℕ → ℕ → Row} {ψ : ℕ → ℕ → Mat}

theorem SV.mono {Q : ℕ → Prop} (hX : SV P X φ) (h : ∀ t, Q t → P t) : SV Q X φ := fun t H i ht => hX t H i (h _ ht)
theorem TV.mono {Q : ℕ → Prop} (hZ : TV P Z ψ) (h : ∀ t, Q t → P t) : TV Q Z ψ := fun t H i j ht => hZ t H i j (h _ ht)

theorem SV.read (hX : SV P X φ) (hn : n < 4096) (hP : P n) {st : Fin 3 → ℤ} (hst : ∀ a, st a = (((![n, 0, 0] : Fin 3 → ℕ) a : ℕ) : ℤ)) :
    RV (fun x => shapeCast S32x64 (Host.dynamicSlice S1x32x64 X st sliceFits_S4096x32x64_S1x32x64) shapeCasts_S1x32x64_S32x64 x) (fun h => φ n h.val) := fun h i => by
  have hk : S4096x32x64.Slices ![n, 0, 0] S1x32x64 := ⟨rfl, fun a => by fin_cases a; · exact hn
                                                                        · exact Nat.le_refl 32
                                                                        · exact Nat.le_refl 64⟩
  rw [WordCmp.dynamicSlice_eq_extract _ _ _ _ _ hk hst]
  pointwise
  exact hX ⟨n, hn⟩ h i hP

theorem TV.read (hZ : TV P Z ψ) (hn : n < 4096) (hP : P n) {st : Fin 4 → ℤ} (hst : ∀ a, st a = (((![n, 0, 0, 0] : Fin 4 → ℕ) a : ℕ) : ℤ)) :
    MV (fun x => shapeCast S32x64x64 (Host.dynamicSlice S1x32x64x64 Z st sliceFits_S4096x32x64x64_S1x32x64x64) shapeCasts_S1x32x64x64_S32x64x64 x) (fun h => ψ h.val n) := fun h i j => by
  have hk : S4096x32x64x64.Slices ![n, 0, 0, 0] S1x32x64x64 := ⟨rfl, fun a => by fin_cases a; · exact hn
                                                                                 · exact Nat.le_refl 32
                                                                                 · exact Nat.le_refl 64
                                                                                 · exact Nat.le_refl 64⟩
  rw [WordCmp.dynamicSlice_eq_extract _ _ _ _ _ hk hst]
  pointwise
  exact hZ ⟨n, hn⟩ h i j hP

theorem SV.write (hX : SV P X φ) (hn : n < 4096) {A : FVec Ideal S32x64 .f32} (hA : RV A (fun h => φ n h.val))
    {st : Fin 3 → ℤ} (hst : ∀ a, st a = (((![n, 0, 0] : Fin 3 → ℕ) a : ℕ) : ℤ)) :
    SV (fun t => P t ∨ t = n) (Host.dynamicUpdateSlice X (broadcastInDim S1x32x64 ![1, 2] bcast_S32x64_S1x32x64_1_2 A) st updateFits_S4096x32x64_S1x32x64) φ := fun t h i hP => by
  have hk : S4096x32x64.Slices ![n, 0, 0] S1x32x64 := ⟨rfl, fun a => by fin_cases a; · exact hn
                                                                        · exact Nat.le_refl 32
                                                                        · exact Nat.le_refl 64⟩
  rw [WordCmp.dynamicUpdateSlice_eq_update _ _ _ _ _ hk hst]
  by_cases ht : t.val = n
  · pointwise
    rw [dif_pos ⟨by omega, by omega⟩, hA h i, ht]
  · pointwise
    rw [dif_neg (by omega)]
    exact hX t h i (hP.resolve_right ht)

theorem TV.write (hZ : TV P Z ψ) (hn : n < 4096) {A : FVec Ideal S32x64x64 .f32} (hA : MV A (fun h => ψ h.val n))
    {st : Fin 4 → ℤ} (hst : ∀ a, st a = (((![n, 0, 0, 0] : Fin 4 → ℕ) a : ℕ) : ℤ)) :
    TV (fun t => P t ∨ t = n) (Host.dynamicUpdateSlice Z (broadcastInDim S1x32x64x64 ![1, 2, 3] bcast_S32x64x64_S1x32x64x64_1_2_3 A) st updateFits_S4096x32x64x64_S1x32x64x64) ψ := fun t h i j hP => by
  have hk : S4096x32x64x64.Slices ![n, 0, 0, 0] S1x32x64x64 := ⟨rfl, fun a => by fin_cases a; · exact hn
                                                                                 · exact Nat.le_refl 32
                                                                                 · exact Nat.le_refl 64
                                                                                 · exact Nat.le_refl 64⟩
  rw [WordCmp.dynamicUpdateSlice_eq_update _ _ _ _ _ hk hst]
  by_cases ht : t.val = n
  · pointwise
    rw [dif_pos ⟨by omega, by omega⟩, hA h i j, ht]
  · pointwise
    rw [dif_neg (by omega)]
    exact hZ t h i j (hP.resolve_right ht)

end

/-- The columns of an argument, cut into heads. -/
theorem cut {X : FVec Ideal S4096x2048 .f32} {f : ℕ → ℕ → ℝ} (hX : ∀ (x : Fin 4096) (y : Fin 2048), X (ix2 x y) = ((f x.val y.val : ℝ) : EReal)) :
    SV (fun _ => True) (fun x => shapeCast S4096x32x64 X shapeCasts_S4096x2048_S4096x32x64 x) (row f) := fun t h i _ => by
  pointwise
  rw [hX]
  show ((f t.val (h.val * 64 + i.val) : ℝ) : EReal) = ((f t.val (64 * h.val + i.val) : ℝ) : EReal)
  rw [Nat.mul_comm]

/-- A stack of rows, laid side by side. -/
theorem join {X : FVec Ideal S4096x32x64 .f32} {φ : ℕ → ℕ → Row} (hX : SV (fun _ => True) X φ) (x : Fin 4096) (y : Fin 2048) :
    (fun x => shapeCast S4096x2048 X shapeCasts_S4096x32x64_S4096x2048 x) (ix2 x y) = ((flat φ x.val y.val : ℝ) : EReal) := by
  pointwise
  exact hX x ⟨y.val / 64, by omega⟩ ⟨y.val % 64, by omega⟩ trivial

theorem zeros : MV (broadcastInDim S32x64x64 ![] bcast_S_S32x64x64 (constant S_ .f32 0x00000000#32)) (fun _ _ _ => 0) := fun h i j => by
  pointwise
  rfl

end Cert.ReferenceIdeal.Val
-- ==== Proof.RefRead.lean ====
module

public import proofs.«01_k».proof.Proof.RefLift
public import proofs.«01_k».proof.Proof.RefKeeps
public import Idealize.ShloMosaic.Lib.Pointwise

@[expose] public section

set_option maxRecDepth 16384
set_option maxHeartbeats 4000000

noncomputable section

namespace Cert.ReferenceIdeal.Val

open Idealize.ShloMosaic Idealize.ShloMosaic.TcCoe
open Idealize.ShloMosaic.StableHlo Idealize.ShloMosaic.StableHlo.TRef
open Cert.ReferenceIdeal Cert.ReferenceIdeal.Gen Cert.ReferenceIdeal.Rec Cert.Rwkv

section

variable {X : Valuation τ sig (Elt Ideal)} {P : ℕ → Prop} {φ : ℕ → ℕ → Row} {ψ : ℕ → ℕ → Mat} {n : ℕ} {w : BitVec 32}

theorem fw0_read (hn : n < 4096) (hP : P n) (hw : w.toInt = (n : ℤ)) (hc : X (Proc.devRef .tc main_v9_6) = fun _ => w)
    (hX : SV P (X (Proc.devRef .tc main_v9_0)) φ) : RV (after fw0 X (Proc.devRef .tc main_while0b_v27)) (fun h => φ n h.val) := by
  after_reads_simp
  refine hX.read hn hP ?_
  intro a
  fin_cases a
  · show BitVec.toInt (X (Proc.devRef .tc main_v9_6) _) = _
    rw [hc]; exact hw
  · rfl
  · rfl

theorem fw1_read (hn : n < 4096) (hP : P n) (hw : w.toInt = (n : ℤ)) (hc : X (Proc.devRef .tc main_v9_6) = fun _ => w)
    (hX : SV P (X (Proc.devRef .tc main_v9_1)) φ) : RV (after fw1 X (Proc.devRef .tc main_while0b_v28)) (fun h => φ n h.val) := by
  after_reads_simp
  refine hX.read hn hP ?_
  intro a
  fin_cases a
  · show BitVec.toInt (X (Proc.devRef .tc main_v9_6) _) = _
    rw [hc]; exact hw
  · rfl
  · rfl

theorem fw2_read (hn : n < 4096) (hP : P n) (hw : w.toInt = (n : ℤ)) (hc : X (Proc.devRef .tc main_v9_6) = fun _ => w)
    (hX : SV P (X (Proc.devRef .tc main_v9_2)) φ) : RV (after fw2 X (Proc.devRef .tc main_while0b_v29)) (fun h => φ n h.val) := by
  after_reads_simp
  refine hX.read hn hP ?_
  intro a
  fin_cases a
  · show BitVec.toInt (X (Proc.devRef .tc main_v9_6) _) = _
    rw [hc]; exact hw
  · rfl
  · rfl

theorem fw3_read (hn : n < 4096) (hP : P n) (hw : w.toInt = (n : ℤ)) (hc : X (Proc.devRef .tc main_v9_6) = fun _ => w)
    (hX : SV P (X (Proc.devRef .tc main_v9_3)) φ) : RV (after fw3 X (Proc.devRef .tc main_while0b_v30)) (fun h => φ n h.val) := by
  after_reads_simp
  refine hX.read hn hP ?_
  intro a
  fin_cases a
  · show BitVec.toInt (X (Proc.devRef .tc main_v9_6) _) = _
    rw [hc]; exact hw
  · rfl
  · rfl

theorem fw4_read (hn : n < 4096) (hP : P n) (hw : w.toInt = (n : ℤ)) (hc : X (Proc.devRef .tc main_v9_6) = fun _ => w)
    (hX : SV P (X (Proc.devRef .tc main_v9_4)) φ) : RV (after fw4 X (Proc.devRef .tc main_while0b_v31)) (fun h => φ n h.val) := by
  after_reads_simp
  refine hX.read hn hP ?_
  intro a
  fin_cases a
  · show BitVec.toInt (X (Proc.devRef .tc main_v9_6) _) = _
    rw [hc]; exact hw
  · rfl
  · rfl

theorem fw5_read (hn : n < 4096) (hP : P n) (hw : w.toInt = (n : ℤ)) (hc : X (Proc.devRef .tc main_v9_6) = fun _ => w)
    (hX : SV P (X (Proc.devRef .tc main_v9_5)) φ) : RV (after fw5 X (Proc.devRef .tc main_while0b_v32)) (fun h => φ n h.val) := by
  after_reads_simp
  refine hX.read hn hP ?_
  intro a
  fin_cases a
  · show BitVec.toInt (X (Proc.devRef .tc main_v9_6) _) = _
    rw [hc]; exact hw
  · rfl
  · rfl

theorem fw7_write (hn : n < 4096) (hw : w.toInt = (n : ℤ)) (hc : X (Proc.devRef .tc main_v9_6) = fun _ => w)
    (hX : SV P (X (Proc.devRef .tc main_v9_8)) φ) (hV : RV (X (Proc.devRef .tc main_while0b_v56)) (fun h => φ n h.val)) :
    SV (fun t => P t ∨ t = n) (after fw7 X (Proc.devRef .tc main_while0b_v57)) φ := by
  after_reads_simp
  refine hX.write hn hV ?_
  intro a
  fin_cases a
  · show BitVec.toInt (X (Proc.devRef .tc main_v9_6) _) = _
    rw [hc]; exact hw
  · rfl
  · rfl

theorem fw8_write (hn : n < 4096) (hw : w.toInt = (n : ℤ)) (hc : X (Proc.devRef .tc main_v9_6) = fun _ => w)
    (hX : TV P (X (Proc.devRef .tc main_v9_9)) ψ) (hV : MV (X (Proc.devRef .tc main_v9_7)) (fun h => ψ h.val n)) :
    TV (fun t => P t ∨ t = n) (after fw8 X (Proc.devRef .tc main_while0b_v58)) ψ := by
  after_reads_simp
  refine hX.write hn hV ?_
  intro a
  fin_cases a
  · show BitVec.toInt (X (Proc.devRef .tc main_v9_6) _) = _
    rw [hc]; exact hw
  · rfl
  · rfl
  · rfl

theorem bw1_read (hn : n < 4096) (hP : P n) (hw : w.toInt = (n : ℤ)) (hc : X (Proc.devRef .tc main_while1b_v28) = fun _ => w)
    (hX : SV P (X (Proc.devRef .tc main_v20_0)) φ) : RV (after bw1 X (Proc.devRef .tc main_while1b_v29)) (fun h => φ n h.val) := by
  after_reads_simp
  refine hX.read hn hP ?_
  intro a
  fin_cases a
  · show BitVec.toInt (X (Proc.devRef .tc main_while1b_v28) _) = _
    rw [hc]; exact hw
  · rfl
  · rfl

theorem bw2_read (hn : n < 4096) (hP : P n) (hw : w.toInt = (n : ℤ)) (hc : X (Proc.devRef .tc main_while1b_v28) = fun _ => w)
    (hX : TV P (X (Proc.devRef .tc main_v20_1)) ψ) : MV (after bw2 X (Proc.devRef .tc main_while1b_v30)) (fun h => ψ h.val n) := by
  after_reads_simp
  refine hX.read hn hP ?_
  intro a
  fin_cases a
  · show BitVec.toInt (X (Proc.devRef .tc main_while1b_v28) _) = _
    rw [hc]; exact hw
  · rfl
  · rfl
  · rfl

theorem bw3_read (hn : n < 4096) (hP : P n) (hw : w.toInt = (n : ℤ)) (hc : X (Proc.devRef .tc main_while1b_v28) = fun _ => w)
    (hX : SV P (X (Proc.devRef .tc main_v20_2)) φ) : RV (after bw3 X (Proc.devRef .tc main_while1b_v31)) (fun h => φ n h.val) := by
  after_reads_simp
  refine hX.read hn hP ?_
  intro a
  fin_cases a
  · show BitVec.toInt (X (Proc.devRef .tc main_while1b_v28) _) = _
    rw [hc]; exact hw
  · rfl
  · rfl

theorem bw4_read (hn : n < 4096) (hP : P n) (hw : w.toInt = (n : ℤ)) (hc : X (Proc.devRef .tc main_while1b_v28) = fun _ => w)
    (hX : SV P (X (Proc.devRef .tc main_v20_3)) φ) : RV (after bw4 X (Proc.devRef .tc main_while1b_v32)) (fun h => φ n h.val) := by
  after_reads_simp
  refine hX.read hn hP ?_
  intro a
  fin_cases a
  · show BitVec.toInt (X (Proc.devRef .tc main_while1b_v28) _) = _
    rw [hc]; exact hw
  · rfl
  · rfl

theorem bw5_read (hn : n < 4096) (hP : P n) (hw : w.toInt = (n : ℤ)) (hc : X (Proc.devRef .tc main_while1b_v28) = fun _ => w)
    (hX : SV P (X (Proc.devRef .tc main_v20_4)) φ) : RV (after bw5 X (Proc.devRef .tc main_while1b_v33)) (fun h => φ n h.val) := by
  after_reads_simp
  refine hX.read hn hP ?_
  intro a
  fin_cases a
  · show BitVec.toInt (X (Proc.devRef .tc main_while1b_v28) _) = _
    rw [hc]; exact hw
  · rfl
  · rfl

theorem bw6_read (hn : n < 4096) (hP : P n) (hw : w.toInt = (n : ℤ)) (hc : X (Proc.devRef .tc main_while1b_v28) = fun _ => w)
    (hX : SV P (X (Proc.devRef .tc main_v20_5)) φ) : RV (after bw6 X (Proc.devRef .tc main_while1b_v34)) (fun h => φ n h.val) := by
  after_reads_simp
  refine hX.read hn hP ?_
  intro a
  fin_cases a
  · show BitVec.toInt (X (Proc.devRef .tc main_while1b_v28) _) = _
    rw [hc]; exact hw
  · rfl
  · rfl

theorem bw7_read (hn : n < 4096) (hP : P n) (hw : w.toInt = (n : ℤ)) (hc : X (Proc.devRef .tc main_while1b_v28) = fun _ => w)
    (hX : SV P (X (Proc.devRef .tc main_v20_6)) φ) : RV (after bw7 X (Proc.devRef .tc main_while1b_v35)) (fun h => φ n h.val) := by
  after_reads_simp
  refine hX.read hn hP ?_
  intro a
  fin_cases a
  · show BitVec.toInt (X (Proc.devRef .tc main_while1b_v28) _) = _
    rw [hc]; exact hw
  · rfl
  · rfl

theorem bw8_read (hn : n < 4096) (hP : P n) (hw : w.toInt = (n : ℤ)) (hc : X (Proc.devRef .tc main_while1b_v28) = fun _ => w)
    (hX : SV P (X (Proc.devRef .tc main_v20_7)) φ) : RV (after bw8 X (Proc.devRef .tc main_while1b_v36)) (fun h => φ n h.val) := by
  after_reads_simp
  refine hX.read hn hP ?_
  intro a
  fin_cases a
  · show BitVec.toInt (X (Proc.devRef .tc main_while1b_v28) _) = _
    rw [hc]; exact hw
  · rfl
  · rfl

theorem bw10_write (hn : n < 4096) (hw : w.toInt = (n : ℤ)) (hc : X (Proc.devRef .tc main_while1b_v28) = fun _ => w)
    (hX : SV P (X (Proc.devRef .tc main_v20_10)) φ) (hV : RV (X (Proc.devRef .tc main_while1b_v65)) (fun h => φ n h.val)) :
    SV (fun t => P t ∨ t = n) (after bw10 X (Proc.devRef .tc main_while1b_v101)) φ := by
  after_reads_simp
  refine hX.write hn hV ?_
  intro a
  fin_cases a
  · show BitVec.toInt (X (Proc.devRef .tc main_while1b_v28) _) = _
    rw [hc]; exact hw
  · rfl
  · rfl

theorem bw11_write (hn : n < 4096) (hw : w.toInt = (n : ℤ)) (hc : X (Proc.devRef .tc main_while1b_v28) = fun _ => w)
    (hX : SV P (X (Proc.devRef .tc main_v20_11)) φ) (hV : RV (X (Proc.devRef .tc main_while1b_v92)) (fun h => φ n h.val)) :
    SV (fun t => P t ∨ t = n) (after bw11 X (Proc.devRef .tc main_while1b_v102)) φ := by
  after_reads_simp
  refine hX.write hn hV ?_
  intro a
  fin_cases a
  · show BitVec.toInt (X (Proc.devRef .tc main_while1b_v28) _) = _
    rw [hc]; exact hw
  · rfl
  · rfl

theorem bw12_write (hn : n < 4096) (hw : w.toInt = (n : ℤ)) (hc : X (Proc.devRef .tc main_while1b_v28) = fun _ => w)
    (hX : SV P (X (Proc.devRef .tc main_v20_12)) φ) (hV : RV (X (Proc.devRef .tc main_while1b_v74)) (fun h => φ n h.val)) :
    SV (fun t => P t ∨ t = n) (after bw12 X (Proc.devRef .tc main_while1b_v103)) φ := by
  after_reads_simp
  refine hX.write hn hV ?_
  intro a
  fin_cases a
  · show BitVec.toInt (X (Proc.devRef .tc main_while1b_v28) _) = _
    rw [hc]; exact hw
  · rfl
  · rfl

theorem bw13_write (hn : n < 4096) (hw : w.toInt = (n : ℤ)) (hc : X (Proc.devRef .tc main_while1b_v28) = fun _ => w)
    (hX : SV P (X (Proc.devRef .tc main_v20_13)) φ) (hV : RV (X (Proc.devRef .tc main_while1b_v75)) (fun h => φ n h.val)) :
    SV (fun t => P t ∨ t = n) (after bw13 X (Proc.devRef .tc main_while1b_v104)) φ := by
  after_reads_simp
  refine hX.write hn hV ?_
  intro a
  fin_cases a
  · show BitVec.toInt (X (Proc.devRef .tc main_while1b_v28) _) = _
    rw [hc]; exact hw
  · rfl
  · rfl

theorem bw14_write (hn : n < 4096) (hw : w.toInt = (n : ℤ)) (hc : X (Proc.devRef .tc main_while1b_v28) = fun _ => w)
    (hX : SV P (X (Proc.devRef .tc main_v20_14)) φ) (hV : RV (X (Proc.devRef .tc main_while1b_v100)) (fun h => φ n h.val)) :
    SV (fun t => P t ∨ t = n) (after bw14 X (Proc.devRef .tc main_while1b_v105)) φ := by
  after_reads_simp
  refine hX.write hn hV ?_
  intro a
  fin_cases a
  · show BitVec.toInt (X (Proc.devRef .tc main_while1b_v28) _) = _
    rw [hc]; exact hw
  · rfl
  · rfl

theorem bw15_write (hn : n < 4096) (hw : w.toInt = (n : ℤ)) (hc : X (Proc.devRef .tc main_while1b_v28) = fun _ => w)
    (hX : SV P (X (Proc.devRef .tc main_v20_15)) φ) (hV : RV (X (Proc.devRef .tc main_while1b_v84)) (fun h => φ n h.val)) :
    SV (fun t => P t ∨ t = n) (after bw15 X (Proc.devRef .tc main_while1b_v106)) φ := by
  after_reads_simp
  refine hX.write hn hV ?_
  intro a
  fin_cases a
  · show BitVec.toInt (X (Proc.devRef .tc main_while1b_v28) _) = _
    rw [hc]; exact hw
  · rfl
  · rfl

theorem kf0 (X : Valuation τ sig (Elt Ideal)) {r : Ref sig .tc} (hr : r ∉ fw0W) : after fw0 X (Proc.devRef .tc r) = X (Proc.devRef .tc r) := fw0_keeps X hr
theorem kf1 (X : Valuation τ sig (Elt Ideal)) {r : Ref sig .tc} (hr : r ∉ fw1W) : after fw1 X (Proc.devRef .tc r) = X (Proc.devRef .tc r) := fw1_keeps X hr
theorem kf2 (X : Valuation τ sig (Elt Ideal)) {r : Ref sig .tc} (hr : r ∉ fw2W) : after fw2 X (Proc.devRef .tc r) = X (Proc.devRef .tc r) := fw2_keeps X hr
theorem kf3 (X : Valuation τ sig (Elt Ideal)) {r : Ref sig .tc} (hr : r ∉ fw3W) : after fw3 X (Proc.devRef .tc r) = X (Proc.devRef .tc r) := fw3_keeps X hr
theorem kf4 (X : Valuation τ sig (Elt Ideal)) {r : Ref sig .tc} (hr : r ∉ fw4W) : after fw4 X (Proc.devRef .tc r) = X (Proc.devRef .tc r) := fw4_keeps X hr
theorem kf5 (X : Valuation τ sig (Elt Ideal)) {r : Ref sig .tc} (hr : r ∉ fw5W) : after fw5 X (Proc.devRef .tc r) = X (Proc.devRef .tc r) := fw5_keeps X hr
theorem kf6 (X : Valuation τ sig (Elt Ideal)) {r : Ref sig .tc} (hr : r ∉ fw6W) : after fw6 X (Proc.devRef .tc r) = X (Proc.devRef .tc r) := fw6_keeps X hr
theorem kf7 (X : Valuation τ sig (Elt Ideal)) {r : Ref sig .tc} (hr : r ∉ fw7W) : after fw7 X (Proc.devRef .tc r) = X (Proc.devRef .tc r) := fw7_keeps X hr
theorem kf8 (X : Valuation τ sig (Elt Ideal)) {r : Ref sig .tc} (hr : r ∉ fw8W) : after fw8 X (Proc.devRef .tc r) = X (Proc.devRef .tc r) := fw8_keeps X hr
theorem kf9 (X : Valuation τ sig (Elt Ideal)) {r : Ref sig .tc} (hr : r ∉ fw9W) : after fw9 X (Proc.devRef .tc r) = X (Proc.devRef .tc r) := fw9_keeps X hr
theorem kb0 (X : Valuation τ sig (Elt Ideal)) {r : Ref sig .tc} (hr : r ∉ bw0W) : after bw0 X (Proc.devRef .tc r) = X (Proc.devRef .tc r) := bw0_keeps X hr
theorem kb1 (X : Valuation τ sig (Elt Ideal)) {r : Ref sig .tc} (hr : r ∉ bw1W) : after bw1 X (Proc.devRef .tc r) = X (Proc.devRef .tc r) := bw1_keeps X hr
theorem kb2 (X : Valuation τ sig (Elt Ideal)) {r : Ref sig .tc} (hr : r ∉ bw2W) : after bw2 X (Proc.devRef .tc r) = X (Proc.devRef .tc r) := bw2_keeps X hr
theorem kb3 (X : Valuation τ sig (Elt Ideal)) {r : Ref sig .tc} (hr : r ∉ bw3W) : after bw3 X (Proc.devRef .tc r) = X (Proc.devRef .tc r) := bw3_keeps X hr
theorem kb4 (X : Valuation τ sig (Elt Ideal)) {r : Ref sig .tc} (hr : r ∉ bw4W) : after bw4 X (Proc.devRef .tc r) = X (Proc.devRef .tc r) := bw4_keeps X hr
theorem kb5 (X : Valuation τ sig (Elt Ideal)) {r : Ref sig .tc} (hr : r ∉ bw5W) : after bw5 X (Proc.devRef .tc r) = X (Proc.devRef .tc r) := bw5_keeps X hr
theorem kb6 (X : Valuation τ sig (Elt Ideal)) {r : Ref sig .tc} (hr : r ∉ bw6W) : after bw6 X (Proc.devRef .tc r) = X (Proc.devRef .tc r) := bw6_keeps X hr
theorem kb7 (X : Valuation τ sig (Elt Ideal)) {r : Ref sig .tc} (hr : r ∉ bw7W) : after bw7 X (Proc.devRef .tc r) = X (Proc.devRef .tc r) := bw7_keeps X hr
theorem kb8 (X : Valuation τ sig (Elt Ideal)) {r : Ref sig .tc} (hr : r ∉ bw8W) : after bw8 X (Proc.devRef .tc r) = X (Proc.devRef .tc r) := bw8_keeps X hr
theorem kb9 (X : Valuation τ sig (Elt Ideal)) {r : Ref sig .tc} (hr : r ∉ bw9W) : after bw9 X (Proc.devRef .tc r) = X (Proc.devRef .tc r) := bw9_keeps X hr
theorem kb10 (X : Valuation τ sig (Elt Ideal)) {r : Ref sig .tc} (hr : r ∉ bw10W) : after bw10 X (Proc.devRef .tc r) = X (Proc.devRef .tc r) := bw10_keeps X hr
theorem kb11 (X : Valuation τ sig (Elt Ideal)) {r : Ref sig .tc} (hr : r ∉ bw11W) : after bw11 X (Proc.devRef .tc r) = X (Proc.devRef .tc r) := bw11_keeps X hr
theorem kb12 (X : Valuation τ sig (Elt Ideal)) {r : Ref sig .tc} (hr : r ∉ bw12W) : after bw12 X (Proc.devRef .tc r) = X (Proc.devRef .tc r) := bw12_keeps X hr
theorem kb13 (X : Valuation τ sig (Elt Ideal)) {r : Ref sig .tc} (hr : r ∉ bw13W) : after bw13 X (Proc.devRef .tc r) = X (Proc.devRef .tc r) := bw13_keeps X hr
theorem kb14 (X : Valuation τ sig (Elt Ideal)) {r : Ref sig .tc} (hr : r ∉ bw14W) : after bw14 X (Proc.devRef .tc r) = X (Proc.devRef .tc r) := bw14_keeps X hr
theorem kb15 (X : Valuation τ sig (Elt Ideal)) {r : Ref sig .tc} (hr : r ∉ bw15W) : after bw15 X (Proc.devRef .tc r) = X (Proc.devRef .tc r) := bw15_keeps X hr
theorem kb16 (X : Valuation τ sig (Elt Ideal)) {r : Ref sig .tc} (hr : r ∉ bw16W) : after bw16 X (Proc.devRef .tc r) = X (Proc.devRef .tc r) := bw16_keeps X hr

theorem bw0_word (hc : X (Proc.devRef .tc main_v20_8) = fun _ => w) :
    after bw0 X (Proc.devRef .tc main_while1b_v28) = fun _ => 4096#32 - w - 1#32 := by
  after_reads_simp
  rw [hc]
  rfl

end

end Cert.ReferenceIdeal.Val
-- ==== Proof.RefStep.lean ====
module

public import proofs.«01_k».proof.Proof.RefLift
public import proofs.«01_k».proof.Proof.RefKeeps
public import Idealize.ShloMosaic.Lib.Pointwise

@[expose] public section

set_option maxRecDepth 16384
set_option maxHeartbeats 4000000

noncomputable section

namespace Cert.ReferenceIdeal.Val

open Idealize.ShloMosaic Idealize.ShloMosaic.TcCoe
open Idealize.ShloMosaic.StableHlo Idealize.ShloMosaic.StableHlo.TRef
open Cert.ReferenceIdeal Cert.ReferenceIdeal.Gen Cert.ReferenceIdeal.Rec Cert.Rwkv

section

variable {X : Valuation τ sig (Elt Ideal)} {S : Fin 32 → Mat} {r lw k v a b : Fin 32 → Row}

/-- The arrays one step of the forward recurrence has read. -/
structure FwIn (X : Valuation τ sig (Elt Ideal)) (S : Fin 32 → Mat) (r lw k v a b : Fin 32 → Row) : Prop where
  S : MV (X (Proc.devRef .tc main_v9_7)) S
  r : RV (X (Proc.devRef .tc main_while0b_v27)) r
  lw : RV (X (Proc.devRef .tc main_while0b_v28)) lw
  k : RV (X (Proc.devRef .tc main_while0b_v29)) k
  v : RV (X (Proc.devRef .tc main_while0b_v30)) v
  a : RV (X (Proc.devRef .tc main_while0b_v31)) a
  b : RV (X (Proc.devRef .tc main_while0b_v32)) b

theorem fw6_state (h : FwIn X S r lw k v a b) :
    MV (after fw6 X (Proc.devRef .tc main_while0b_v52)) (fun h => stepS (lw h) (k h) (v h) (a h) (b h) (S h)) := by
  after_reads_simp
  exact ((h.S.mul h.lw.exp.col.mat).add ((h.S.mul h.a.col.mat).sum2.row.mat.mul h.b.col.mat)).add (h.v.row.mat.mul h.k.col.mat)

theorem fw6_y (h : FwIn X S r lw k v a b) :
    RV (after fw6 X (Proc.devRef .tc main_while0b_v56)) (fun h => app (stepS (lw h) (k h) (v h) (a h) (b h) (S h)) (r h)) := by
  after_reads_simp
  exact ((((h.S.mul h.lw.exp.col.mat).add ((h.S.mul h.a.col.mat).sum2.row.mat.mul h.b.col.mat)).add (h.v.row.mat.mul h.k.col.mat)).mul h.r.col.mat).sum2

end

section

variable {X : Valuation τ sig (Elt Ideal)} {S G : Fin 32 → Mat} {dy r lw k v a b : Fin 32 → Row}

/-- The arrays one step of the backward recurrence has read. -/
structure BwIn (X : Valuation τ sig (Elt Ideal)) (S G : Fin 32 → Mat) (dy r lw k v a b : Fin 32 → Row) : Prop where
  S : MV (X (Proc.devRef .tc main_while1b_v30)) S
  G : MV (X (Proc.devRef .tc main_v20_9)) G
  dy : RV (X (Proc.devRef .tc main_while1b_v29)) dy
  r : RV (X (Proc.devRef .tc main_while1b_v31)) r
  lw : RV (X (Proc.devRef .tc main_while1b_v32)) lw
  k : RV (X (Proc.devRef .tc main_while1b_v33)) k
  v : RV (X (Proc.devRef .tc main_while1b_v34)) v
  a : RV (X (Proc.devRef .tc main_while1b_v35)) a
  b : RV (X (Proc.devRef .tc main_while1b_v36)) b

theorem bw9_dr (h : BwIn X S G dy r lw k v a b) : RV (after bw9 X (Proc.devRef .tc main_while1b_v65)) (fun h => appT (stepS (lw h) (k h) (v h) (a h) (b h) (S h)) (dy h)) := by
  after_reads_simp
  exact ((((h.S.mul h.lw.exp.col.mat).add ((h.S.mul h.a.col.mat).sum2.row.mat.mul h.b.col.mat)).add (h.v.row.mat.mul h.k.col.mat)).mul h.dy.mat).sum1.castC.sum

theorem bw9_dk (h : BwIn X S G dy r lw k v a b) : RV (after bw9 X (Proc.devRef .tc main_while1b_v74)) (fun h => appT (backH (dy h) (r h) (G h)) (v h)) := by
  after_reads_simp
  exact ((h.v.row.mat.mul (h.G.add (h.dy.mat.mul h.r.col.mat))).sum1.castC.sum).eq (fun _ _ => Finset.sum_congr rfl fun _ _ => mul_comm _ _)

theorem bw9_dv (h : BwIn X S G dy r lw k v a b) : RV (after bw9 X (Proc.devRef .tc main_while1b_v75)) (fun h => app (backH (dy h) (r h) (G h)) (k h)) := by
  after_reads_simp
  exact ((h.G.add (h.dy.mat.mul h.r.col.mat)).mul h.k.col.mat).sum2.castD.sum

theorem bw9_db (h : BwIn X S G dy r lw k v a b) : RV (after bw9 X (Proc.devRef .tc main_while1b_v84)) (fun h => appT (backH (dy h) (r h) (G h)) (app (S h) (a h))) := by
  after_reads_simp
  exact (((h.S.mul h.a.col.mat).sum2.row.mat.mul (h.G.add (h.dy.mat.mul h.r.col.mat))).sum1.castC.sum).eq (fun _ _ => Finset.sum_congr rfl fun _ _ => mul_comm _ _)

theorem bw9_dlw (h : BwIn X S G dy r lw k v a b) : RV (after bw9 X (Proc.devRef .tc main_while1b_v92)) (fun h => fun j => (∑ i, S h i j * backH (dy h) (r h) (G h) i j) * Real.exp (lw h j)) := by
  after_reads_simp
  exact (h.S.mul (h.G.add (h.dy.mat.mul h.r.col.mat))).sum1.castC.sum.mul h.lw.exp

theorem bw9_da (h : BwIn X S G dy r lw k v a b) : RV (after bw9 X (Proc.devRef .tc main_while1b_v100)) (fun h => appT (S h) (app (backH (dy h) (r h) (G h)) (b h))) := by
  after_reads_simp
  exact (h.S.mul (((h.G.add (h.dy.mat.mul h.r.col.mat)).mul h.b.col.mat).sum2.castD.sum).mat).sum1.castC.sum

theorem bw9_G (h : BwIn X S G dy r lw k v a b) : MV (after bw9 X (Proc.devRef .tc main_while1b_v99)) (fun h => backG (lw h) (a h) (b h) (backH (dy h) (r h) (G h))) := by
  after_reads_simp
  exact ((h.G.add (h.dy.mat.mul h.r.col.mat)).mul h.lw.exp.col.mat).add ((((h.G.add (h.dy.mat.mul h.r.col.mat)).mul h.b.col.mat).sum2.castD.sum).mat.mul h.a.col.mat)

end

end Cert.ReferenceIdeal.Val
-- ==== Proof.RefFw.lean ====
module

public import proofs.«01_k».proof.Proof.RefRead
public import proofs.«01_k».proof.Proof.RefStep

@[expose] public section

set_option maxRecDepth 16384
set_option maxHeartbeats 4000000

noncomputable section

namespace Cert.ReferenceIdeal.Val

open Idealize.ShloMosaic Idealize.ShloMosaic.TcCoe
open Idealize.ShloMosaic.StableHlo Idealize.ShloMosaic.StableHlo.TRef
open Cert.ReferenceIdeal Cert.ReferenceIdeal.Gen Cert.ReferenceIdeal.Rec Cert.Rwkv

/-- What the forward loop holds before time `n`. -/
structure Fw (d : Inputs) (X : Valuation τ sig (Elt Ideal)) (n : ℕ) : Prop where
  r : SV (fun _ => True) (X (Proc.devRef .tc main_v9_0)) (row d.r)
  lw : SV (fun _ => True) (X (Proc.devRef .tc main_v9_1)) (row d.lw)
  k : SV (fun _ => True) (X (Proc.devRef .tc main_v9_2)) (row d.k)
  v : SV (fun _ => True) (X (Proc.devRef .tc main_v9_3)) (row d.v)
  a : SV (fun _ => True) (X (Proc.devRef .tc main_v9_4)) (row d.a)
  b : SV (fun _ => True) (X (Proc.devRef .tc main_v9_5)) (row d.b)
  S : MV (X (Proc.devRef .tc main_v9_7)) (fun h => d.St h.val n)
  y : SV (fun t => t < n) (X (Proc.devRef .tc main_v9_8)) d.yRow
  st : TV (fun t => t < n) (X (Proc.devRef .tc main_v9_9)) d.St

section

variable {d : Inputs} {X : Valuation τ sig (Elt Ideal)} {n : ℕ} {w : BitVec 32}

/-- The rows read. -/
abbrev fwRead (X : Valuation τ sig (Elt Ideal)) : Valuation τ sig (Elt Ideal) := after fw5 (after fw4 (after fw3 (after fw2 (after fw1 (after fw0 X)))))

theorem fw_in (hX : Fw d X n) (hn : n < 4096) (hw : w.toInt = (n : ℤ)) (hc : X (Proc.devRef .tc main_v9_6) = fun _ => w) :
    FwIn (fwRead X) (fun h => d.St h.val n) (fun h => row d.r n h.val) (fun h => row d.lw n h.val) (fun h => row d.k n h.val) (fun h => row d.v n h.val) (fun h => row d.a n h.val) (fun h => row d.b n h.val) where
  S := by
    (repeat first | rw [kf0] | rw [kf1] | rw [kf2] | rw [kf3] | rw [kf4] | rw [kf5] | rw [kf6] | rw [kf7] | rw [kf8] | rw [kf9])
    exact hX.S
    all_goals decide
  r := by
    (repeat first | rw [kf1] | rw [kf2] | rw [kf3] | rw [kf4] | rw [kf5])
    refine fw0_read (P := fun _ => True) hn trivial hw ?_ ?_
    · exact hc
    · exact hX.r
    all_goals decide
  lw := by
    (repeat first | rw [kf2] | rw [kf3] | rw [kf4] | rw [kf5])
    refine fw1_read (P := fun _ => True) hn trivial hw ?_ ?_
    · (repeat first | rw [kf0] | rw [kf1] | rw [kf2] | rw [kf3] | rw [kf4] | rw [kf5] | rw [kf6] | rw [kf7] | rw [kf8] | rw [kf9])
      exact hc
      all_goals decide
    · (repeat first | rw [kf0] | rw [kf1] | rw [kf2] | rw [kf3] | rw [kf4] | rw [kf5] | rw [kf6] | rw [kf7] | rw [kf8] | rw [kf9])
      exact hX.lw
      all_goals decide
    all_goals decide
  k := by
    (repeat first | rw [kf3] | rw [kf4] | rw [kf5])
    refine fw2_read (P := fun _ => True) hn trivial hw ?_ ?_
    · (repeat first | rw [kf0] | rw [kf1] | rw [kf2] | rw [kf3] | rw [kf4] | rw [kf5] | rw [kf6] | rw [kf7] | rw [kf8] | rw [kf9])
      exact hc
      all_goals decide
    · (repeat first | rw [kf0] | rw [kf1] | rw [kf2] | rw [kf3] | rw [kf4] | rw [kf5] | rw [kf6] | rw [kf7] | rw [kf8] | rw [kf9])
      exact hX.k
      all_goals decide
    all_goals decide
  v := by
    (repeat first | rw [kf4] | rw [kf5])
    refine fw3_read (P := fun _ => True) hn trivial hw ?_ ?_
    · (repeat first | rw [kf0] | rw [kf1] | rw [kf2] | rw [kf3] | rw [kf4] | rw [kf5] | rw [kf6] | rw [kf7] | rw [kf8] | rw [kf9])
      exact hc
      all_goals decide
    · (repeat first | rw [kf0] | rw [kf1] | rw [kf2] | rw [kf3] | rw [kf4] | rw [kf5] | rw [kf6] | rw [kf7] | rw [kf8] | rw [kf9])
      exact hX.v
      all_goals decide
    all_goals decide
  a := by
    (repeat first | rw [kf5])
    refine fw4_read (P := fun _ => True) hn trivial hw ?_ ?_
    · (repeat first | rw [kf0] | rw [kf1] | rw [kf2] | rw [kf3] | rw [kf4] | rw [kf5] | rw [kf6] | rw [kf7] | rw [kf8] | rw [kf9])
      exact hc
      all_goals decide
    · (repeat first | rw [kf0] | rw [kf1] | rw [kf2] | rw [kf3] | rw [kf4] | rw [kf5] | rw [kf6] | rw [kf7] | rw [kf8] | rw [kf9])
      exact hX.a
      all_goals decide
    all_goals decide
  b := by
    refine fw5_read (P := fun _ => True) hn trivial hw ?_ ?_
    · (repeat first | rw [kf0] | rw [kf1] | rw [kf2] | rw [kf3] | rw [kf4] | rw [kf5] | rw [kf6] | rw [kf7] | rw [kf8] | rw [kf9])
      exact hc
      all_goals decide
    · (repeat first | rw [kf0] | rw [kf1] | rw [kf2] | rw [kf3] | rw [kf4] | rw [kf5] | rw [kf6] | rw [kf7] | rw [kf8] | rw [kf9])
      exact hX.b
      all_goals decide

theorem fw9_state : after fw9 X (Proc.devRef .tc main_v9_7) = X (Proc.devRef .tc main_while0b_v52) := by
  after_reads_simp
  rfl
theorem fw9_y : after fw9 X (Proc.devRef .tc main_v9_8) = X (Proc.devRef .tc main_while0b_v57) := by
  after_reads_simp
  rfl
theorem fw9_st : after fw9 X (Proc.devRef .tc main_v9_9) = X (Proc.devRef .tc main_while0b_v58) := by
  after_reads_simp
  rfl

theorem fw_step (hX : Fw d X n) (hn : n < 4096) (hw : w.toInt = (n : ℤ)) (hc : X (Proc.devRef .tc main_v9_6) = fun _ => w) :
    Fw d (afterL fwI X) (n + 1) := by
  have hI := fw_in hX hn hw hc
  show Fw d (after fw9 (after fw8 (after fw7 (after fw6 (fwRead X))))) (n + 1)
  constructor
  · (repeat first | rw [kf0] | rw [kf1] | rw [kf2] | rw [kf3] | rw [kf4] | rw [kf5] | rw [kf6] | rw [kf7] | rw [kf8] | rw [kf9])
    exact hX.r
    all_goals decide
  · (repeat first | rw [kf0] | rw [kf1] | rw [kf2] | rw [kf3] | rw [kf4] | rw [kf5] | rw [kf6] | rw [kf7] | rw [kf8] | rw [kf9])
    exact hX.lw
    all_goals decide
  · (repeat first | rw [kf0] | rw [kf1] | rw [kf2] | rw [kf3] | rw [kf4] | rw [kf5] | rw [kf6] | rw [kf7] | rw [kf8] | rw [kf9])
    exact hX.k
    all_goals decide
  · (repeat first | rw [kf0] | rw [kf1] | rw [kf2] | rw [kf3] | rw [kf4] | rw [kf5] | rw [kf6] | rw [kf7] | rw [kf8] | rw [kf9])
    exact hX.v
    all_goals decide
  · (repeat first | rw [kf0] | rw [kf1] | rw [kf2] | rw [kf3] | rw [kf4] | rw [kf5] | rw [kf6] | rw [kf7] | rw [kf8] | rw [kf9])
    exact hX.a
    all_goals decide
  · (repeat first | rw [kf0] | rw [kf1] | rw [kf2] | rw [kf3] | rw [kf4] | rw [kf5] | rw [kf6] | rw [kf7] | rw [kf8] | rw [kf9])
    exact hX.b
    all_goals decide
  · rw [fw9_state]
    (repeat first | rw [kf7] | rw [kf8])
    exact fw6_state hI
    all_goals decide
  · rw [fw9_y]
    (repeat first | rw [kf8])
    refine (fw7_write (P := fun t => t < n) hn hw ?_ ?_ (fw6_y hI)).mono fun t ht => by omega
    · (repeat first | rw [kf0] | rw [kf1] | rw [kf2] | rw [kf3] | rw [kf4] | rw [kf5] | rw [kf6] | rw [kf7] | rw [kf8] | rw [kf9])
      exact hc
      all_goals decide
    · (repeat first | rw [kf0] | rw [kf1] | rw [kf2] | rw [kf3] | rw [kf4] | rw [kf5] | rw [kf6] | rw [kf7] | rw [kf8] | rw [kf9])
      exact hX.y
      all_goals decide
    all_goals decide
  · rw [fw9_st]
    refine (fw8_write (P := fun t => t < n) hn hw ?_ ?_ ?_).mono fun t ht => by omega
    · (repeat first | rw [kf0] | rw [kf1] | rw [kf2] | rw [kf3] | rw [kf4] | rw [kf5] | rw [kf6] | rw [kf7] | rw [kf8] | rw [kf9])
      exact hc
      all_goals decide
    · (repeat first | rw [kf0] | rw [kf1] | rw [kf2] | rw [kf3] | rw [kf4] | rw [kf5] | rw [kf6] | rw [kf7] | rw [kf8] | rw [kf9])
      exact hX.st
      all_goals decide
    · (repeat first | rw [kf0] | rw [kf1] | rw [kf2] | rw [kf3] | rw [kf4] | rw [kf5] | rw [kf6] | rw [kf7] | rw [kf8] | rw [kf9])
      exact hX.S
      all_goals decide

end

end Cert.ReferenceIdeal.Val
-- ==== Proof.RefBw.lean ====
module

public import proofs.«01_k».proof.Proof.RefRead
public import proofs.«01_k».proof.Proof.RefStep

@[expose] public section

set_option maxRecDepth 16384
set_option maxHeartbeats 4000000

noncomputable section

namespace Cert.ReferenceIdeal.Val

open Idealize.ShloMosaic Idealize.ShloMosaic.TcCoe
open Idealize.ShloMosaic.StableHlo Idealize.ShloMosaic.StableHlo.TRef
open Cert.ReferenceIdeal Cert.ReferenceIdeal.Gen Cert.ReferenceIdeal.Rec Cert.Rwkv

/-- What the backward loop holds after time `n` is done. -/
structure Bw (d : Inputs) (X : Valuation τ sig (Elt Ideal)) (n : ℕ) : Prop where
  ct : SV (fun _ => True) (X (Proc.devRef .tc main_v20_0)) (row d.ct)
  r : SV (fun _ => True) (X (Proc.devRef .tc main_v20_2)) (row d.r)
  lw : SV (fun _ => True) (X (Proc.devRef .tc main_v20_3)) (row d.lw)
  k : SV (fun _ => True) (X (Proc.devRef .tc main_v20_4)) (row d.k)
  v : SV (fun _ => True) (X (Proc.devRef .tc main_v20_5)) (row d.v)
  a : SV (fun _ => True) (X (Proc.devRef .tc main_v20_6)) (row d.a)
  b : SV (fun _ => True) (X (Proc.devRef .tc main_v20_7)) (row d.b)
  st : TV (fun t => t < 4096) (X (Proc.devRef .tc main_v20_1)) d.St
  G : MV (X (Proc.devRef .tc main_v20_9)) (fun h => d.G h.val n)
  dr : SV (fun t => n ≤ t) (X (Proc.devRef .tc main_v20_10)) d.drRow
  dlw : SV (fun t => n ≤ t) (X (Proc.devRef .tc main_v20_11)) d.dlwRow
  dk : SV (fun t => n ≤ t) (X (Proc.devRef .tc main_v20_12)) d.dkRow
  dv : SV (fun t => n ≤ t) (X (Proc.devRef .tc main_v20_13)) d.dvRow
  da : SV (fun t => n ≤ t) (X (Proc.devRef .tc main_v20_14)) d.daRow
  db : SV (fun t => n ≤ t) (X (Proc.devRef .tc main_v20_15)) d.dbRow

section

variable {d : Inputs} {X : Valuation τ sig (Elt Ideal)} {n : ℕ} {w : BitVec 32}

/-- The rows read. -/
abbrev bwRead (X : Valuation τ sig (Elt Ideal)) : Valuation τ sig (Elt Ideal) :=
  after bw8 (after bw7 (after bw6 (after bw5 (after bw4 (after bw3 (after bw2 (after bw1 (after bw0 X))))))))

theorem bw_in (hX : Bw d X (n + 1)) (hn : n < 4096) (hw : (4096#32 - w - 1#32).toInt = (n : ℤ)) (hc : X (Proc.devRef .tc main_v20_8) = fun _ => w) :
    BwIn (bwRead X) (fun h => d.St h.val n) (fun h => d.G h.val (n + 1)) (fun h => row d.ct n h.val) (fun h => row d.r n h.val) (fun h => row d.lw n h.val) (fun h => row d.k n h.val) (fun h => row d.v n h.val) (fun h => row d.a n h.val) (fun h => row d.b n h.val) where
  S := by
    (repeat first | rw [kb3] | rw [kb4] | rw [kb5] | rw [kb6] | rw [kb7] | rw [kb8])
    refine bw2_read (P := fun t => t < 4096) hn hn hw ?_ ?_
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.st
      all_goals decide
    all_goals decide
  G := by
    (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
    exact hX.G
    all_goals decide
  dy := by
    (repeat first | rw [kb2] | rw [kb3] | rw [kb4] | rw [kb5] | rw [kb6] | rw [kb7] | rw [kb8])
    refine bw1_read (P := fun _ => True) hn trivial hw ?_ ?_
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.ct
      all_goals decide
    all_goals decide
  r := by
    (repeat first | rw [kb4] | rw [kb5] | rw [kb6] | rw [kb7] | rw [kb8])
    refine bw3_read (P := fun _ => True) hn trivial hw ?_ ?_
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.r
      all_goals decide
    all_goals decide
  lw := by
    (repeat first | rw [kb5] | rw [kb6] | rw [kb7] | rw [kb8])
    refine bw4_read (P := fun _ => True) hn trivial hw ?_ ?_
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.lw
      all_goals decide
    all_goals decide
  k := by
    (repeat first | rw [kb6] | rw [kb7] | rw [kb8])
    refine bw5_read (P := fun _ => True) hn trivial hw ?_ ?_
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.k
      all_goals decide
    all_goals decide
  v := by
    (repeat first | rw [kb7] | rw [kb8])
    refine bw6_read (P := fun _ => True) hn trivial hw ?_ ?_
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.v
      all_goals decide
    all_goals decide
  a := by
    (repeat first | rw [kb8])
    refine bw7_read (P := fun _ => True) hn trivial hw ?_ ?_
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.a
      all_goals decide
    all_goals decide
  b := by
    refine bw8_read (P := fun _ => True) hn trivial hw ?_ ?_
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.b
      all_goals decide

theorem bw16_G : after bw16 X (Proc.devRef .tc main_v20_9) = X (Proc.devRef .tc main_while1b_v99) := by
  after_reads_simp
  rfl

theorem bw16_dr : after bw16 X (Proc.devRef .tc main_v20_10) = X (Proc.devRef .tc main_while1b_v101) := by
  after_reads_simp
  rfl

theorem bw16_dlw : after bw16 X (Proc.devRef .tc main_v20_11) = X (Proc.devRef .tc main_while1b_v102) := by
  after_reads_simp
  rfl

theorem bw16_dk : after bw16 X (Proc.devRef .tc main_v20_12) = X (Proc.devRef .tc main_while1b_v103) := by
  after_reads_simp
  rfl

theorem bw16_dv : after bw16 X (Proc.devRef .tc main_v20_13) = X (Proc.devRef .tc main_while1b_v104) := by
  after_reads_simp
  rfl

theorem bw16_da : after bw16 X (Proc.devRef .tc main_v20_14) = X (Proc.devRef .tc main_while1b_v105) := by
  after_reads_simp
  rfl

theorem bw16_db : after bw16 X (Proc.devRef .tc main_v20_15) = X (Proc.devRef .tc main_while1b_v106) := by
  after_reads_simp
  rfl

theorem bw_step (hX : Bw d X (n + 1)) (hn : n < 4096) (hw : (4096#32 - w - 1#32).toInt = (n : ℤ)) (hc : X (Proc.devRef .tc main_v20_8) = fun _ => w) :
    Bw d (afterL bwI X) n := by
  have hI := bw_in hX hn hw hc
  show Bw d (after bw16 (after bw15 (after bw14 (after bw13 (after bw12 (after bw11 (after bw10 (after bw9 (bwRead X))))))))) n
  constructor
  · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
    exact hX.ct
    all_goals decide
  · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
    exact hX.r
    all_goals decide
  · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
    exact hX.lw
    all_goals decide
  · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
    exact hX.k
    all_goals decide
  · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
    exact hX.v
    all_goals decide
  · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
    exact hX.a
    all_goals decide
  · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
    exact hX.b
    all_goals decide
  · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
    exact hX.st
    all_goals decide
  · rw [bw16_G]
    (repeat first | rw [kb10] | rw [kb11] | rw [kb12] | rw [kb13] | rw [kb14] | rw [kb15])
    refine (bw9_G hI).eq fun h i j => ?_
    rw [d.G_step h.val n hn]
    rfl
    all_goals decide
  · rw [bw16_dr]
    (repeat first | rw [kb11] | rw [kb12] | rw [kb13] | rw [kb14] | rw [kb15])
    refine (bw10_write (P := fun t => n + 1 ≤ t) (φ := d.drRow) hn hw ?_ ?_ ?_).mono fun t ht => by omega
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.dr
      all_goals decide
    · exact bw9_dr hI
    all_goals decide
  · rw [bw16_dlw]
    (repeat first | rw [kb12] | rw [kb13] | rw [kb14] | rw [kb15])
    refine (bw11_write (P := fun t => n + 1 ≤ t) (φ := d.dlwRow) hn hw ?_ ?_ ?_).mono fun t ht => by omega
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.dlw
      all_goals decide
    · (repeat first | rw [kb10] | rw [kb11] | rw [kb12] | rw [kb13] | rw [kb14] | rw [kb15] | rw [kb16])
      exact bw9_dlw hI
      all_goals decide
    all_goals decide
  · rw [bw16_dk]
    (repeat first | rw [kb13] | rw [kb14] | rw [kb15])
    refine (bw12_write (P := fun t => n + 1 ≤ t) (φ := d.dkRow) hn hw ?_ ?_ ?_).mono fun t ht => by omega
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.dk
      all_goals decide
    · (repeat first | rw [kb10] | rw [kb11] | rw [kb12] | rw [kb13] | rw [kb14] | rw [kb15] | rw [kb16])
      exact bw9_dk hI
      all_goals decide
    all_goals decide
  · rw [bw16_dv]
    (repeat first | rw [kb14] | rw [kb15])
    refine (bw13_write (P := fun t => n + 1 ≤ t) (φ := d.dvRow) hn hw ?_ ?_ ?_).mono fun t ht => by omega
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.dv
      all_goals decide
    · (repeat first | rw [kb10] | rw [kb11] | rw [kb12] | rw [kb13] | rw [kb14] | rw [kb15] | rw [kb16])
      exact bw9_dv hI
      all_goals decide
    all_goals decide
  · rw [bw16_da]
    (repeat first | rw [kb15])
    refine (bw14_write (P := fun t => n + 1 ≤ t) (φ := d.daRow) hn hw ?_ ?_ ?_).mono fun t ht => by omega
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.da
      all_goals decide
    · (repeat first | rw [kb10] | rw [kb11] | rw [kb12] | rw [kb13] | rw [kb14] | rw [kb15] | rw [kb16])
      exact bw9_da hI
      all_goals decide
    all_goals decide
  · rw [bw16_db]
    refine (bw15_write (P := fun t => n + 1 ≤ t) (φ := d.dbRow) hn hw ?_ ?_ ?_).mono fun t ht => by omega
    · (repeat first | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact bw0_word hc
      all_goals decide
    · (repeat first | rw [kb0] | rw [kb1] | rw [kb2] | rw [kb3] | rw [kb4] | rw [kb5] | rw [kb6] | rw [kb7] | rw [kb8] | rw [kb9] | rw [kb10] | rw [kb11] | rw [kb12] | rw [kb13] | rw [kb14] | rw [kb15] | rw [kb16])
      exact hX.db
      all_goals decide
    · (repeat first | rw [kb10] | rw [kb11] | rw [kb12] | rw [kb13] | rw [kb14] | rw [kb15] | rw [kb16])
      exact bw9_db hI
      all_goals decide

end

end Cert.ReferenceIdeal.Val
-- ==== Proof.RefVal.lean ====
module

public import proofs.«01_k».proof.Proof.RefFw
public import proofs.«01_k».proof.Proof.RefBw
public import proofs.«01_k».proof.Proof.RefFold

@[expose] public section

set_option maxRecDepth 16384
set_option maxHeartbeats 4000000

noncomputable section

namespace Cert.ReferenceIdeal.Val

open Idealize.ShloMosaic Idealize.ShloMosaic.TcCoe
open Idealize.ShloMosaic.StableHlo Idealize.ShloMosaic.StableHlo.TRef
open Cert.ReferenceIdeal Cert.ReferenceIdeal.Gen Cert.ReferenceIdeal.Rec Cert.Rwkv

/-- The arguments of a launch hold real inputs. -/
structure Args (m : (ℓ : Loc nD τ sig) → Buf (Elt Ideal) ℓ) (d : Inputs) (c : Dev nD) : Prop where
  r : ∀ (x : Fin 4096) (y : Fin 2048), (launchContents m c (Proc.devRef .tc main_arg0) : FVec Ideal S4096x2048 .f32) (ix2 x y) = ((d.r x.val y.val : ℝ) : EReal)
  lw : ∀ (x : Fin 4096) (y : Fin 2048), (launchContents m c (Proc.devRef .tc main_arg1) : FVec Ideal S4096x2048 .f32) (ix2 x y) = ((d.lw x.val y.val : ℝ) : EReal)
  k : ∀ (x : Fin 4096) (y : Fin 2048), (launchContents m c (Proc.devRef .tc main_arg2) : FVec Ideal S4096x2048 .f32) (ix2 x y) = ((d.k x.val y.val : ℝ) : EReal)
  v : ∀ (x : Fin 4096) (y : Fin 2048), (launchContents m c (Proc.devRef .tc main_arg3) : FVec Ideal S4096x2048 .f32) (ix2 x y) = ((d.v x.val y.val : ℝ) : EReal)
  a : ∀ (x : Fin 4096) (y : Fin 2048), (launchContents m c (Proc.devRef .tc main_arg4) : FVec Ideal S4096x2048 .f32) (ix2 x y) = ((d.a x.val y.val : ℝ) : EReal)
  b : ∀ (x : Fin 4096) (y : Fin 2048), (launchContents m c (Proc.devRef .tc main_arg5) : FVec Ideal S4096x2048 .f32) (ix2 x y) = ((d.b x.val y.val : ℝ) : EReal)
  ct : ∀ (x : Fin 4096) (y : Fin 2048), (launchContents m c (Proc.devRef .tc main_arg6) : FVec Ideal S4096x2048 .f32) (ix2 x y) = ((d.ct x.val y.val : ℝ) : EReal)

theorem word_up {k : ℕ} (hk : k < 4096) : (Scf.iv 0#32 1#32 k).toInt = (k : ℤ) := by
  have e : Scf.iv 0#32 1#32 k = BitVec.ofNat 32 k := by simp [Scf.iv]
  rw [e]
  exact WordCmp.toInt_ofNat_of_lt (by omega)

theorem word_down {n : ℕ} (hn : n < 4096) : (4096#32 - Scf.iv 0#32 1#32 (4095 - n) - 1#32).toInt = (n : ℤ) := by
  have e : 4096#32 - Scf.iv 0#32 1#32 (4095 - n) - 1#32 = BitVec.ofNat 32 n := by
    apply BitVec.eq_of_toNat_eq
    simp [Scf.iv]
    omega
  rw [e]
  exact WordCmp.toInt_ofNat_of_lt (by omega)

section

variable {m : (ℓ : Loc nD τ sig) → Buf (Elt Ideal) ℓ} {d : Inputs} {c : Dev nD} {X : Valuation τ sig (Elt Ideal)} {n : ℕ}

theorem fw_cond (h : Fw d X n) : Fw d (after cond0 X) n := by
  constructor
  · rw [cond0_keeps X (by decide)]; exact h.r
  · rw [cond0_keeps X (by decide)]; exact h.lw
  · rw [cond0_keeps X (by decide)]; exact h.k
  · rw [cond0_keeps X (by decide)]; exact h.v
  · rw [cond0_keeps X (by decide)]; exact h.a
  · rw [cond0_keeps X (by decide)]; exact h.b
  · rw [cond0_keeps X (by decide)]; exact h.S
  · rw [cond0_keeps X (by decide)]; exact h.y
  · rw [cond0_keeps X (by decide)]; exact h.st

theorem bw_cond (h : Bw d X n) : Bw d (after cond1 X) n := by
  constructor
  · rw [cond1_keeps X (by decide)]; exact h.ct
  · rw [cond1_keeps X (by decide)]; exact h.r
  · rw [cond1_keeps X (by decide)]; exact h.lw
  · rw [cond1_keeps X (by decide)]; exact h.k
  · rw [cond1_keeps X (by decide)]; exact h.v
  · rw [cond1_keeps X (by decide)]; exact h.a
  · rw [cond1_keeps X (by decide)]; exact h.b
  · rw [cond1_keeps X (by decide)]; exact h.st
  · rw [cond1_keeps X (by decide)]; exact h.G
  · rw [cond1_keeps X (by decide)]; exact h.dr
  · rw [cond1_keeps X (by decide)]; exact h.dlw
  · rw [cond1_keeps X (by decide)]; exact h.dk
  · rw [cond1_keeps X (by decide)]; exact h.dv
  · rw [cond1_keeps X (by decide)]; exact h.da
  · rw [cond1_keeps X (by decide)]; exact h.db

theorem fw_start (h : Args m d c) : Fw d (atA m c) 0 := by
  unfold atA
  constructor
  · after_reads_simp
    exact cut h.r
  · after_reads_simp
    exact cut h.lw
  · after_reads_simp
    exact cut h.k
  · after_reads_simp
    exact cut h.v
  · after_reads_simp
    exact cut h.a
  · after_reads_simp
    exact cut h.b
  · after_reads_simp
    exact zeros
  · intro t h i ht
    omega
  · intro t h i j ht
    omega

theorem fw_next {k : ℕ} (hk : k < 4096) (h : Fw d (trip0 m k c) k) : Fw d (trip0 m (k + 1) c) (k + 1) := by
  have hc : after cond0 (trip0 m k c) (Proc.devRef .tc main_v9_6) = fun _ => Scf.iv 0#32 1#32 k := by
    rw [cond0_keeps _ (by decide)]
    exact trip0_ctr m c k
  rw [trip0_succ]
  have hX := fw_cond h
  generalize after cond0 (trip0 m k c) = X at *
  exact fw_step hX hk (word_up hk) hc

theorem fw_all (h : Args m d c) (k : ℕ) : k ≤ 4096 → Fw d (trip0 m k c) k := by
  induction k with
  | zero =>
    intro _
    rw [trip0_zero]
    exact fw_start h
  | succ k ih => exact fun hk => fw_next (by omega) (ih (by omega))

theorem kept_r (h : Args m d c) : SV (fun _ => True) (trip0 m 4096 c (Proc.devRef .tc main_v0)) (row d.r) := by
  rw [trip0_keeps m c (by decide +kernel) (by decide +kernel)]
  unfold atA
  after_reads_simp
  exact cut h.r
theorem kept_lw (h : Args m d c) : SV (fun _ => True) (trip0 m 4096 c (Proc.devRef .tc main_v1)) (row d.lw) := by
  rw [trip0_keeps m c (by decide +kernel) (by decide +kernel)]
  unfold atA
  after_reads_simp
  exact cut h.lw
theorem kept_k (h : Args m d c) : SV (fun _ => True) (trip0 m 4096 c (Proc.devRef .tc main_v2)) (row d.k) := by
  rw [trip0_keeps m c (by decide +kernel) (by decide +kernel)]
  unfold atA
  after_reads_simp
  exact cut h.k
theorem kept_v (h : Args m d c) : SV (fun _ => True) (trip0 m 4096 c (Proc.devRef .tc main_v3)) (row d.v) := by
  rw [trip0_keeps m c (by decide +kernel) (by decide +kernel)]
  unfold atA
  after_reads_simp
  exact cut h.v
theorem kept_a (h : Args m d c) : SV (fun _ => True) (trip0 m 4096 c (Proc.devRef .tc main_v4)) (row d.a) := by
  rw [trip0_keeps m c (by decide +kernel) (by decide +kernel)]
  unfold atA
  after_reads_simp
  exact cut h.a
theorem kept_b (h : Args m d c) : SV (fun _ => True) (trip0 m 4096 c (Proc.devRef .tc main_v5)) (row d.b) := by
  rw [trip0_keeps m c (by decide +kernel) (by decide +kernel)]
  unfold atA
  after_reads_simp
  exact cut h.b
theorem kept_ct (h : Args m d c) (x : Fin 4096) (y : Fin 2048) :
    (trip0 m 4096 c (Proc.devRef .tc main_arg6) : FVec Ideal S4096x2048 .f32) (ix2 x y) = ((d.ct x.val y.val : ℝ) : EReal) := by
  rw [trip0_keeps m c (by decide +kernel) (by decide +kernel)]
  unfold atA
  rw [opsStart_keeps _ (by decide)]
  exact h.ct x y

theorem bw_init {T : Valuation τ sig (Elt Ideal)} (hF : TV (fun t => t < 4096) (T (Proc.devRef .tc main_v9_9)) d.St)
    (hct : ∀ (x : Fin 4096) (y : Fin 2048), (T (Proc.devRef .tc main_arg6) : FVec Ideal S4096x2048 .f32) (ix2 x y) = ((d.ct x.val y.val : ℝ) : EReal))
    (hr : SV (fun _ => True) (T (Proc.devRef .tc main_v0)) (row d.r))
    (hlw : SV (fun _ => True) (T (Proc.devRef .tc main_v1)) (row d.lw))
    (hk : SV (fun _ => True) (T (Proc.devRef .tc main_v2)) (row d.k))
    (hv : SV (fun _ => True) (T (Proc.devRef .tc main_v3)) (row d.v))
    (ha : SV (fun _ => True) (T (Proc.devRef .tc main_v4)) (row d.a))
    (hb : SV (fun _ => True) (T (Proc.devRef .tc main_v5)) (row d.b)) : Bw d (after opsMid (after cond0 T)) 4096 := by
  constructor
  · after_reads_simp
    refine cut fun x y => ?_
    exact hct x y
  · after_reads_simp
    exact hr
  · after_reads_simp
    exact hlw
  · after_reads_simp
    exact hk
  · after_reads_simp
    exact hv
  · after_reads_simp
    exact ha
  · after_reads_simp
    exact hb
  · after_reads_simp
    exact hF
  · after_reads_simp
    exact zeros.eq fun h i j => by
      rw [d.G_last]
      rfl
  · exact fun t _ _ ht => absurd t.isLt (by omega)
  · exact fun t _ _ ht => absurd t.isLt (by omega)
  · exact fun t _ _ ht => absurd t.isLt (by omega)
  · exact fun t _ _ ht => absurd t.isLt (by omega)
  · exact fun t _ _ ht => absurd t.isLt (by omega)
  · exact fun t _ _ ht => absurd t.isLt (by omega)

theorem bw_start (h : Args m d c) : Bw d (atB m c) 4096 := by
  unfold atB
  exact bw_init (fw_all h 4096 le_rfl).st (kept_ct h) (kept_r h) (kept_lw h) (kept_k h) (kept_v h) (kept_a h) (kept_b h)

theorem y_read {T : Valuation τ sig (Elt Ideal)} (hy : SV (fun t => t < 4096) (T (Proc.devRef .tc main_v9_8)) d.yRow) (x : Fin 4096) (y : Fin 2048) :
    (after opsMid (after cond0 T) (Proc.devRef .tc main_v10) : FVec Ideal S4096x2048 .f32) (ix2 x y) = ((flat d.yRow x.val y.val : ℝ) : EReal) := by
  after_reads_simp
  exact join (fun t h' i _ => hy t h' i t.isLt) x y

theorem bw_next {k : ℕ} (hk : k < 4096) (h : Bw d (trip1 m k c) (4096 - k)) : Bw d (trip1 m (k + 1) c) (4096 - (k + 1)) := by
  have e : 4096 - k = (4095 - k) + 1 := by omega
  have e' : 4096 - (k + 1) = 4095 - k := by omega
  have e2 : 4095 - (4095 - k) = k := by omega
  have hc : after cond1 (trip1 m k c) (Proc.devRef .tc main_v20_8) = fun _ => Scf.iv 0#32 1#32 k := by
    rw [cond1_keeps _ (by decide)]
    exact trip1_ctr m c k
  have hX := bw_cond h
  have hw := word_down (n := 4095 - k) (by omega)
  rw [e2] at hw
  rw [e] at hX
  rw [trip1_succ, e']
  generalize after cond1 (trip1 m k c) = X at *
  exact bw_step hX (by omega) hw hc

theorem bw_all (h : Args m d c) (k : ℕ) : k ≤ 4096 → Bw d (trip1 m k c) (4096 - k) := by
  induction k with
  | zero =>
    intro _
    rw [trip1_zero, Nat.sub_zero]
    exact bw_start h
  | succ k ih => exact fun hk => bw_next (by omega) (ih (by omega))

theorem y_end (h : Args m d c) (x : Fin 4096) (y : Fin 2048) :
    (atC m c (Proc.devRef .tc main_v10) : FVec Ideal S4096x2048 .f32) (ix2 x y) = ((flat d.yRow x.val y.val : ℝ) : EReal) := by
  have hy := (fw_all h 4096 le_rfl).y
  unfold atC
  rw [opsEnd_keeps _ (by decide), cond1_keeps _ (by decide), trip1_keeps m c (by decide +kernel) (by decide +kernel)]
  unfold atB
  exact y_read hy x y

theorem dr_end (h : Args m d c) (x : Fin 4096) (y : Fin 2048) :
    (atC m c (Proc.devRef .tc main_v26) : FVec Ideal S4096x2048 .f32) (ix2 x y) = ((flat d.drRow x.val y.val : ℝ) : EReal) := by
  have hx := (bw_all h 4096 le_rfl).dr
  unfold atC
  generalize trip1 m 4096 c = T at *
  after_reads_simp
  exact join (fun t h' i _ => hx t h' i (by omega)) x y

theorem dlw_end (h : Args m d c) (x : Fin 4096) (y : Fin 2048) :
    (atC m c (Proc.devRef .tc main_v25) : FVec Ideal S4096x2048 .f32) (ix2 x y) = ((flat d.dlwRow x.val y.val : ℝ) : EReal) := by
  have hx := (bw_all h 4096 le_rfl).dlw
  unfold atC
  generalize trip1 m 4096 c = T at *
  after_reads_simp
  exact join (fun t h' i _ => hx t h' i (by omega)) x y

theorem dk_end (h : Args m d c) (x : Fin 4096) (y : Fin 2048) :
    (atC m c (Proc.devRef .tc main_v24) : FVec Ideal S4096x2048 .f32) (ix2 x y) = ((flat d.dkRow x.val y.val : ℝ) : EReal) := by
  have hx := (bw_all h 4096 le_rfl).dk
  unfold atC
  generalize trip1 m 4096 c = T at *
  after_reads_simp
  exact join (fun t h' i _ => hx t h' i (by omega)) x y

theorem dv_end (h : Args m d c) (x : Fin 4096) (y : Fin 2048) :
    (atC m c (Proc.devRef .tc main_v23) : FVec Ideal S4096x2048 .f32) (ix2 x y) = ((flat d.dvRow x.val y.val : ℝ) : EReal) := by
  have hx := (bw_all h 4096 le_rfl).dv
  unfold atC
  generalize trip1 m 4096 c = T at *
  after_reads_simp
  exact join (fun t h' i _ => hx t h' i (by omega)) x y

theorem da_end (h : Args m d c) (x : Fin 4096) (y : Fin 2048) :
    (atC m c (Proc.devRef .tc main_v22) : FVec Ideal S4096x2048 .f32) (ix2 x y) = ((flat d.daRow x.val y.val : ℝ) : EReal) := by
  have hx := (bw_all h 4096 le_rfl).da
  unfold atC
  generalize trip1 m 4096 c = T at *
  after_reads_simp
  exact join (fun t h' i _ => hx t h' i (by omega)) x y

theorem db_end (h : Args m d c) (x : Fin 4096) (y : Fin 2048) :
    (atC m c (Proc.devRef .tc main_v21) : FVec Ideal S4096x2048 .f32) (ix2 x y) = ((flat d.dbRow x.val y.val : ℝ) : EReal) := by
  have hx := (bw_all h 4096 le_rfl).db
  unfold atC
  generalize trip1 m 4096 c = T at *
  after_reads_simp
  exact join (fun t h' i _ => hx t h' i (by omega)) x y

end

end Cert.ReferenceIdeal.Val
-- ==== Proof.Finite.lean ====
module

public import proofs.«01_k».proof.Pre_finite
public import Idealize.ShloMosaic.Lib.Pointwise

@[expose] public section

set_option maxRecDepth 16384

noncomputable section

namespace Cert.Rwkv

open Idealize.ShloMosaic Idealize.ShloMosaic.TcCoe
open Cert.Pre_finite (S4096x2048 S_)

theorem finite_facts : Cert.Pre_finite.Facts := ⟨by decide⟩

local instance : Cert.Pre_finite.Facts := finite_facts

theorem both : ∀ (p : BitVec 1) (q : Bool), IntOp.andi p (BitVec.ofBool q) = 1#1 → p = 1#1 ∧ q = true := by decide
theorem one : ∀ q : Bool, BitVec.ofBool q = 1#1 → q = true := by decide

/-- An extended real whose absolute value is below another is a real. -/
theorem real_of {x B : EReal} (h : max x (-x) < B) : x = ((x.toReal : ℝ) : EReal) := by
  refine (EReal.coe_toReal ?_ ?_).symm
  · rintro rfl
    exact absurd (lt_of_lt_of_le h le_top) (by simp)
  · rintro rfl
    exact absurd (lt_of_lt_of_le h le_top) (by simp)

/-- An array's entries as reals. -/
def real (X : FVec Ideal S4096x2048 .f32) (n c : ℕ) : ℝ :=
  if h : n < 4096 ∧ c < 2048 then EReal.toReal (X (ix2 ⟨n, h.1⟩ ⟨c, h.2⟩)) else 0

theorem real_at {X : FVec Ideal S4096x2048 .f32} (h : ∀ (x : Fin 4096) (y : Fin 2048), X (ix2 x y) = ((EReal.toReal (X (ix2 x y)) : ℝ) : EReal))
    (x : Fin 4096) (y : Fin 2048) : X (ix2 x y) = ((real X x.val y.val : ℝ) : EReal) := by
  unfold real
  rw [dif_pos ⟨x.isLt, y.isLt⟩]
  exact h x y

/-- Finite arrays hold reals. -/
theorem reals {X0 X1 X2 X3 X4 X5 X6 : FVec Ideal S4096x2048 .f32} (h : Cert.Pre_finite.fn (F := Ideal) X0 X1 X2 X3 X4 X5 X6 = fun _ => 1#1)
    (x : Fin 4096) (y : Fin 2048) : X0 (ix2 x y) = ((EReal.toReal (X0 (ix2 x y)) : ℝ) : EReal) ∧ X1 (ix2 x y) = ((EReal.toReal (X1 (ix2 x y)) : ℝ) : EReal)
      ∧ X2 (ix2 x y) = ((EReal.toReal (X2 (ix2 x y)) : ℝ) : EReal) ∧ X3 (ix2 x y) = ((EReal.toReal (X3 (ix2 x y)) : ℝ) : EReal)
      ∧ X4 (ix2 x y) = ((EReal.toReal (X4 (ix2 x y)) : ℝ) : EReal) ∧ X5 (ix2 x y) = ((EReal.toReal (X5 (ix2 x y)) : ℝ) : EReal)
      ∧ X6 (ix2 x y) = ((EReal.toReal (X6 (ix2 x y)) : ℝ) : EReal) := by
  have h1 := congrFun h (ix2 x y)
  pointwise [Cert.Pre_finite.fn, Cert.Pre_finite.fn_part1] at h1
  obtain ⟨h1, e6⟩ := both _ _ h1
  obtain ⟨h1, e5⟩ := both _ _ h1
  obtain ⟨h1, e4⟩ := both _ _ h1
  obtain ⟨h1, e3⟩ := both _ _ h1
  obtain ⟨h1, e2⟩ := both _ _ h1
  obtain ⟨h1, e1⟩ := both _ _ h1
  have e0 := one _ h1
  exact ⟨real_of (of_decide_eq_true e0), real_of (of_decide_eq_true e1), real_of (of_decide_eq_true e2), real_of (of_decide_eq_true e3),
    real_of (of_decide_eq_true e4), real_of (of_decide_eq_true e5), real_of (of_decide_eq_true e6)⟩

end Cert.Rwkv
-- ==== Proof.Same.lean ====
module

public import proofs.«01_k».proof.Proof.Frames
public import proofs.«01_k».proof.Proof.Arrays
public import proofs.«01_k».proof.Proof.RefVal
public import proofs.«01_k».proof.Proof.Finite

@[expose] public section

set_option maxRecDepth 16384

noncomputable section

namespace Cert.Proof

open Idealize.ShloMosaic Idealize.ShloMosaic.TcCoe Idealize.SL.Sem Cert.Rwkv

local instance : Cert.Pre_finite.Facts := finite_facts

theorem pair (z : Cert.KernelIdeal.S4096x2048.Idx) : ix2 (z 0) (z 1) = z := by
  funext a
  fin_cases a <;> rfl

/-- Two arrays that hold the same rows are one. -/
theorem same {A B : FVec Ideal Cert.KernelIdeal.S4096x2048 .f32} {f : ℕ → ℕ → Row}
    (hA : ∀ (x : Fin 4096) (y : Fin 2048), A (ix2 x y) = ((flat f x.val y.val : ℝ) : EReal)) (hB : B = fun x => ((flat f (x 0).val (x 1).val : ℝ) : EReal)) : A = B := by
  funext z
  rw [hB, ← pair z]
  exact hA _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- A launch's inputs, as reals. -/
def inputs (c : Dev Cert.KernelIdeal.nD) : Inputs where
  r := real (m (c, Proc.devRef .tc Cert.KernelIdeal.main_arg0))
  lw := real (m (c, Proc.devRef .tc Cert.KernelIdeal.main_arg1))
  k := real (m (c, Proc.devRef .tc Cert.KernelIdeal.main_arg2))
  v := real (m (c, Proc.devRef .tc Cert.KernelIdeal.main_arg3))
  a := real (m (c, Proc.devRef .tc Cert.KernelIdeal.main_arg4))
  b := real (m (c, Proc.devRef .tc Cert.KernelIdeal.main_arg5))
  ct := real (m (c, Proc.devRef .tc Cert.KernelIdeal.main_arg6))

variable {m m'}

theorem kernel_args (h : Cert.Pre_KernelIdeal_finite m) (c : Dev Cert.KernelIdeal.nD) : Cert.KernelIdeal.Val.Args m (inputs m c) c where
  r := real_at fun x y => (reals (h c) x y).1
  lw := real_at fun x y => (reals (h c) x y).2.1
  k := real_at fun x y => (reals (h c) x y).2.2.1
  v := real_at fun x y => (reals (h c) x y).2.2.2.1
  a := real_at fun x y => (reals (h c) x y).2.2.2.2.1
  b := real_at fun x y => (reals (h c) x y).2.2.2.2.2.1
  ct := real_at fun x y => (reals (h c) x y).2.2.2.2.2.2

theorem reference_args {d : Inputs} {c : Dev Cert.KernelIdeal.nD} (h : Cert.KernelIdeal.Val.Args m d c)
    (e0 : m' (c, Proc.devRef .tc Cert.ReferenceIdeal.main_arg0) = m (c, Proc.devRef .tc Cert.KernelIdeal.main_arg0))
    (e1 : m' (c, Proc.devRef .tc Cert.ReferenceIdeal.main_arg1) = m (c, Proc.devRef .tc Cert.KernelIdeal.main_arg1))
    (e2 : m' (c, Proc.devRef .tc Cert.ReferenceIdeal.main_arg2) = m (c, Proc.devRef .tc Cert.KernelIdeal.main_arg2))
    (e3 : m' (c, Proc.devRef .tc Cert.ReferenceIdeal.main_arg3) = m (c, Proc.devRef .tc Cert.KernelIdeal.main_arg3))
    (e4 : m' (c, Proc.devRef .tc Cert.ReferenceIdeal.main_arg4) = m (c, Proc.devRef .tc Cert.KernelIdeal.main_arg4))
    (e5 : m' (c, Proc.devRef .tc Cert.ReferenceIdeal.main_arg5) = m (c, Proc.devRef .tc Cert.KernelIdeal.main_arg5))
    (e6 : m' (c, Proc.devRef .tc Cert.ReferenceIdeal.main_arg6) = m (c, Proc.devRef .tc Cert.KernelIdeal.main_arg6)) : Cert.ReferenceIdeal.Val.Args m' d c where
  r x y := (congrFun e0 (ix2 x y)).trans (h.r x y)
  lw x y := (congrFun e1 (ix2 x y)).trans (h.lw x y)
  k x y := (congrFun e2 (ix2 x y)).trans (h.k x y)
  v x y := (congrFun e3 (ix2 x y)).trans (h.v x y)
  a x y := (congrFun e4 (ix2 x y)).trans (h.a x y)
  b x y := (congrFun e5 (ix2 x y)).trans (h.b x y)
  ct x y := (congrFun e6 (ix2 x y)).trans (h.ct x y)

set_option maxHeartbeats 4000000 in
theorem values : Cert.algebraic_KernelIdeal_ReferenceIdeal_pre_finite := by
  intro m g m' g' hpre heq
  have hK := kernel_args hpre
  have hR : ∀ c, Cert.ReferenceIdeal.Val.Args m' (inputs m c) c := fun c => by
    obtain ⟨e0, e1, e2, e3, e4, e5, e6⟩ := heq c
    exact reference_args (hK c) e0 e1 e2 e3 e4 e5 e6
  refine ⟨fun c => Cert.KernelIdeal.Rec.atEnd m c (Proc.devRef .tc Cert.KernelIdeal.main_v0_0), fun c => Cert.KernelIdeal.Rec.atEnd m c (Proc.devRef .tc Cert.KernelIdeal.main_v1_0), fun c => Cert.KernelIdeal.Rec.atEnd m c (Proc.devRef .tc Cert.KernelIdeal.main_v1_1), fun c => Cert.KernelIdeal.Rec.atEnd m c (Proc.devRef .tc Cert.KernelIdeal.main_v1_2), fun c => Cert.KernelIdeal.Rec.atEnd m c (Proc.devRef .tc Cert.KernelIdeal.main_v1_3), fun c => Cert.KernelIdeal.Rec.atEnd m c (Proc.devRef .tc Cert.KernelIdeal.main_v1_4), fun c => Cert.KernelIdeal.Rec.atEnd m c (Proc.devRef .tc Cert.KernelIdeal.main_v1_5),
    (θ_run _ _ _).mono (fun r h c => ⟨h.1 c _ (StableHlo.devRef_mem_ucRefs Cert.KernelIdeal.main_v0_0 (by decide)), h.1 c _ (StableHlo.devRef_mem_ucRefs Cert.KernelIdeal.main_v1_0 (by decide)), h.1 c _ (StableHlo.devRef_mem_ucRefs Cert.KernelIdeal.main_v1_1 (by decide)), h.1 c _ (StableHlo.devRef_mem_ucRefs Cert.KernelIdeal.main_v1_2 (by decide)), h.1 c _ (StableHlo.devRef_mem_ucRefs Cert.KernelIdeal.main_v1_3 (by decide)), h.1 c _ (StableHlo.devRef_mem_ucRefs Cert.KernelIdeal.main_v1_4 (by decide)), h.1 c _ (StableHlo.devRef_mem_ucRefs Cert.KernelIdeal.main_v1_5 (by decide)), (h.1 c _ (StableHlo.devRef_mem_ucRefs Cert.KernelIdeal.main_arg0 (by decide))).trans (Cert.KernelIdeal.Rec.arg0_kept m c), (h.1 c _ (StableHlo.devRef_mem_ucRefs Cert.KernelIdeal.main_arg1 (by decide))).trans (Cert.KernelIdeal.Rec.arg1_kept m c), (h.1 c _ (StableHlo.devRef_mem_ucRefs Cert.KernelIdeal.main_arg2 (by decide))).trans (Cert.KernelIdeal.Rec.arg2_kept m c), (h.1 c _ (StableHlo.devRef_mem_ucRefs Cert.KernelIdeal.main_arg3 (by decide))).trans (Cert.KernelIdeal.Rec.arg3_kept m c), (h.1 c _ (StableHlo.devRef_mem_ucRefs Cert.KernelIdeal.main_arg4 (by decide))).trans (Cert.KernelIdeal.Rec.arg4_kept m c), (h.1 c _ (StableHlo.devRef_mem_ucRefs Cert.KernelIdeal.main_arg5 (by decide))).trans (Cert.KernelIdeal.Rec.arg5_kept m c), (h.1 c _ (StableHlo.devRef_mem_ucRefs Cert.KernelIdeal.main_arg6 (by decide))).trans (Cert.KernelIdeal.Rec.arg6_kept m c)⟩) (Cert.KernelIdeal.Rec.run_all m g),
    (θ_run _ _ _).mono (fun r h c => ⟨(h.1 c _ (StableHlo.devRef_mem_ucRefs Cert.ReferenceIdeal.main_v10 (by decide))).trans (same (Cert.ReferenceIdeal.Val.y_end (hR c)) (Cert.KernelIdeal.Val.y_end (hK c))), (h.1 c _ (StableHlo.devRef_mem_ucRefs Cert.ReferenceIdeal.main_v26 (by decide))).trans (same (Cert.ReferenceIdeal.Val.dr_end (hR c)) (Cert.KernelIdeal.Val.dr_end (hK c))), (h.1 c _ (StableHlo.devRef_mem_ucRefs Cert.ReferenceIdeal.main_v25 (by decide))).trans (same (Cert.ReferenceIdeal.Val.dlw_end (hR c)) (Cert.KernelIdeal.Val.dlw_end (hK c))), (h.1 c _ (StableHlo.devRef_mem_ucRefs Cert.ReferenceIdeal.main_v24 (by decide))).trans (same (Cert.ReferenceIdeal.Val.dk_end (hR c)) (Cert.KernelIdeal.Val.dk_end (hK c))), (h.1 c _ (StableHlo.devRef_mem_ucRefs Cert.ReferenceIdeal.main_v23 (by decide))).trans (same (Cert.ReferenceIdeal.Val.dv_end (hR c)) (Cert.KernelIdeal.Val.dv_end (hK c))), (h.1 c _ (StableHlo.devRef_mem_ucRefs Cert.ReferenceIdeal.main_v22 (by decide))).trans (same (Cert.ReferenceIdeal.Val.da_end (hR c)) (Cert.KernelIdeal.Val.da_end (hK c))), (h.1 c _ (StableHlo.devRef_mem_ucRefs Cert.ReferenceIdeal.main_v21 (by decide))).trans (same (Cert.ReferenceIdeal.Val.db_end (hR c)) (Cert.KernelIdeal.Val.db_end (hK c))), (h.1 c _ (StableHlo.devRef_mem_ucRefs Cert.ReferenceIdeal.main_arg0 (by decide))).trans (Cert.ReferenceIdeal.Rec.arg0_kept m' c), (h.1 c _ (StableHlo.devRef_mem_ucRefs Cert.ReferenceIdeal.main_arg1 (by decide))).trans (Cert.ReferenceIdeal.Rec.arg1_kept m' c), (h.1 c _ (StableHlo.devRef_mem_ucRefs Cert.ReferenceIdeal.main_arg2 (by decide))).trans (Cert.ReferenceIdeal.Rec.arg2_kept m' c), (h.1 c _ (StableHlo.devRef_mem_ucRefs Cert.ReferenceIdeal.main_arg3 (by decide))).trans (Cert.ReferenceIdeal.Rec.arg3_kept m' c), (h.1 c _ (StableHlo.devRef_mem_ucRefs Cert.ReferenceIdeal.main_arg4 (by decide))).trans (Cert.ReferenceIdeal.Rec.arg4_kept m' c), (h.1 c _ (StableHlo.devRef_mem_ucRefs Cert.ReferenceIdeal.main_arg5 (by decide))).trans (Cert.ReferenceIdeal.Rec.arg5_kept m' c), (h.1 c _ (StableHlo.devRef_mem_ucRefs Cert.ReferenceIdeal.main_arg6 (by decide))).trans (Cert.ReferenceIdeal.Rec.arg6_kept m' c)⟩) (Cert.ReferenceIdeal.Rec.run_all m' g')⟩

end Cert.Proof
-- ==== Proof.Product.lean ====
/- What the blocked products share: a sum of products, and the coordinates of a block. -/
module

public import proofs.«01_k».proof.Defs
public import Idealize.ShloMosaic.Lib.Pointwise

@[expose] public section

noncomputable section

namespace Cert.Product

open Idealize.ShloMosaic

theorem hz : (![0, 0] : Fin 2 → Nat) = fun _ => 0 := funext fun a => by fin_cases a <;> rfl

theorem hz3 : (![0, 0, 0] : Fin 3 → Nat) = fun _ => 0 := funext fun a => by fin_cases a <;> rfl

/-- The sum of the products of two families. -/
def dot {n : ℕ} (f g : Fin n → EReal) : EReal := ∑ k, f k * g k

theorem dot_congr {n : ℕ} {f f' g g' : Fin n → EReal} (hf : ∀ k, f k = f' k) (hg : ∀ k, g k = g' k) : dot f g = dot f' g' := by
  rw [funext hf, funext hg]

theorem dot_comm {n : ℕ} (f g : Fin n → EReal) : dot f g = dot g f := Finset.sum_congr rfl fun k _ => mul_comm _ _

/-- The sum of the first products. -/
def upto (n : ℕ) (f g : ℕ → EReal) : EReal := ∑ k ∈ Finset.range n, f k * g k

theorem upto_add {n m : ℕ} {f g : ℕ → EReal} {p q : Fin m → EReal} (hp : ∀ k, p k = f (n + k.val)) (hq : ∀ k, q k = g (n + k.val)) :
    upto n f g + dot p q = upto (n + m) f g := by
  unfold upto dot
  rw [Finset.sum_range_add, ← Fin.sum_univ_eq_sum_range fun k => f (n + k) * g (n + k)]
  simp only [hp, hq]

theorem same3 (f : ℕ → ℕ → ℕ → EReal) {n a b n' a' b' : ℕ} (hn : n = n') (ha : a = a') (hb : b = b') : f n a b = f n' a' b' := by
  rw [hn, ha, hb]

/-- An array read at two numbers, zero outside it. -/
def nat2 {n n' : ℕ} (x : (⟨2, ![n, n']⟩ : Shape).Idx → EReal) (a b : ℕ) : EReal :=
  if h : a < n ∧ b < n' then x (ix2 ⟨a, h.1⟩ ⟨b, h.2⟩) else 0

theorem nat2_at {n n' : ℕ} (x : (⟨2, ![n, n']⟩ : Shape).Idx → EReal) {i : (⟨2, ![n, n']⟩ : Shape).Idx} {a b : ℕ} (h0 : (i 0).val = a)
    (h1 : (i 1).val = b) : x i = nat2 x a b := by
  subst h0 h1
  unfold nat2
  rw [dif_pos ⟨(i 0).isLt, (i 1).isLt⟩]
  exact congrArg x (eq_ix2 i)

/-- Two readings of one array agree where their coordinates do. -/
theorem read2 {α : Type} {n n' : ℕ} (x : (⟨2, ![n, n']⟩ : Shape).Idx → α) {i j : (⟨2, ![n, n']⟩ : Shape).Idx}
    (h0 : (i 0).val = (j 0).val) (h1 : (i 1).val = (j 1).val) : x i = x j :=
  congrArg x (funext fun a => by fin_cases a; exacts [Fin.ext h0, Fin.ext h1])

theorem read3 {α : Type} {n n' n'' : ℕ} (x : (⟨3, ![n, n', n'']⟩ : Shape).Idx → α) {i j : (⟨3, ![n, n', n'']⟩ : Shape).Idx}
    (h0 : (i 0).val = (j 0).val) (h1 : (i 1).val = (j 1).val) (h2 : (i 2).val = (j 2).val) : x i = x j :=
  congrArg x (funext fun a => by fin_cases a; exacts [Fin.ext h0, Fin.ext h1, Fin.ext h2])

/-- The coordinate of an element of a block that is the whole axis, of one of two blocks at one place, and the block of
    size 1024 an element is in. -/
theorem all {a n k : ℕ} (h : a = 0) : a * n + 1 * k = k := by simp [h]
theorem same {a b n k : ℕ} (h : a = b) : a * n + 1 * k = b * n + 1 * k := by rw [h]
theorem tile {q x : ℕ} (h : q = x / 1024) : q * 1024 ≤ x ∧ x < q * 1024 + 1024 := by omega
theorem part {q x : ℕ} (h : q = x) : q * 1 ≤ x ∧ x < q * 1 + 1 := by omega

end Cert.Product
-- ==== Proof.DwIn.lean ====
/- The gradient of the input projection's weights: one block of the launch is one block of the whole product. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Product

@[expose] public section

noncomputable section

namespace Cert.DwIn

open Idealize.ShloMosaic Idealize.ShloMosaic.TcCoe Idealize.SL.Sem
open Cert.Product Cert.Kernel2Ideal Cert.Kernel2Ideal.Gen

variable (m : (ℓ : Loc nD τ sig) → Buf (Elt Ideal) ℓ)

/-- The whole product: the sum over the rows of one column of each argument. -/
abbrev grad (c : Dev nD) : Buf (Elt Ideal) ((c : Thread nD τ).loc main_v0) := fun i : S4096x23552.Idx =>
  dot (n := 4096) (fun k => m ((c : Thread nD τ).loc main_arg0) (ix2 k (i 0) : S4096x4096.Idx)) fun k => m ((c : Thread nD τ).loc main_arg1) (ix2 k (i 1) : S4096x23552.Idx)

/-- The body leaves its payload of the two blocks. -/
theorem out (c : Dev nD) (i : grid0.Coords) (a1 : Memref sig .tc .vmem S4096x1024 .bf16) (h1 : a1.IsWhole)
    (a2 : Memref sig .tc .vmem S4096x1024 .bf16) (h2 : a2.IsWhole) (a3 : Memref sig .tc .vmem S1024x1024 .bf16) (h3 : a3.IsWhole)
    (a4 : Memref sig .tc .vmem S1024x1024 .f32) (h4 : a4.IsWhole) (x y : Vec Ideal S4096x1024 .bf16) :
    out0_A_2 c i a1 h1 a2 h2 a3 h3 a4 h4 x y = k0_pay1 x y := by
  unfold out0_A_2
  rw [View.read_writes_eq_canon _ _ _ (cover0_A_2 c i a1 h1 a2 h2 a3 h3 a4 h4 x y)]
  unfold kernelRun0_A
  dsimp only
  rw [View.canon_unit_zero hz]
  simp only [View.readAt_eq_ld, h1.read_unread, h2.read_unread, View.ld_unit_zero (S := S4096x1024) hz]

/-- The payload at an index. -/
theorem pay (x y : Vec Ideal S4096x1024 .bf16) (j : S1024x1024.Idx) :
    k0_pay1 x y j = dot (n := 4096) (fun k => x (ix2 k (j 0))) fun k => y (ix2 k (j 1)) := by
  have h (a b : Fin 1024) : k0_pay1 x y (ix2 a b) = dot (n := 4096) (fun k => x (ix2 k a)) fun k => y (ix2 k b) := by
    unfold k0_pay1 dot
    pointwise
  rw [eq_ix2 j]
  exact h _ _

theorem places : ∀ t : Fin grid0.N, win0_0.index t 0 = 0 ∧ win0_1.index t 0 = 0 ∧ win0_0.index t 1 = win0_2.index t 0 ∧ win0_1.index t 1 = win0_2.index t 1 := by
  decide +kernel

theorem covers : ∀ (a : Fin 4) (b : Fin 23), ∃ t : Fin grid0.N, win0_2.index t 0 = a.val ∧ win0_2.index t 1 = b.val := by
  decide +kernel

/-- What each point writes back is its block of the whole product. -/
theorem flushed (c : Dev nD) (t : Fin cfg0.N) :
    (dats m 0 c).flushed 2 t = ((cfg0.win 2).blk t).view.read (Elt Ideal) (grad m c) := by
  rw [Value.flushed2_A, out]
  obtain ⟨p0, p1, p2, p3⟩ := places t
  refine funext fun (j : S1024x1024.Idx) => ?_
  rw [View.read_apply]
  refine (pay (iblk m c 0 t) (iblk m c 1 t) j).trans ?_
  refine dot_congr (fun k => ?_) fun k => ?_ <;> unfold iblk <;> rw [View.read_apply]
  · refine read2 (m ((c : Thread nD τ).loc main_arg0)) ?_ ?_
    · show win0_0.index t 0 * 4096 + 1 * k.val = k.val; rw [p0]; omega
    · show win0_0.index t 1 * 1024 + 1 * (j 0).val = win0_2.index t 0 * 1024 + 1 * (j 0).val; rw [p2]
  · refine read2 (m ((c : Thread nD τ).loc main_arg1)) ?_ ?_
    · show win0_1.index t 0 * 4096 + 1 * k.val = k.val; rw [p1]; omega
    · show win0_1.index t 1 * 1024 + 1 * (j 1).val = win0_2.index t 1 * 1024 + 1 * (j 1).val; rw [p3]

/-- The array ends holding the whole product. -/
theorem final (c : Dev nD) : (dats m 0 c).arrAt 2 cfg0.N = grad m c :=
  (dats m 0 c).arrAt_eq_of_cover 2 (grad m c) (fun t _ => flushed m c t) fun (i : S4096x23552.Idx) => by
    have h0 : (i 0 : Nat) < 4096 := (i 0).isLt
    have h1 : (i 1 : Nat) < 23552 := (i 1).isLt
    obtain ⟨t, e0, e1⟩ := covers ⟨(i 0 : Nat) / 1024, by omega⟩ ⟨(i 1 : Nat) / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; dsimp only; omega
    | ⟨1, _⟩ => show win0_2.index t 1 * 1024 ≤ (i 1 : Nat) ∧ (i 1 : Nat) < win0_2.index t 1 * 1024 + 1024; rw [e1]; dsimp only; omega

/-- The launch and the derivative of the product compute the same array. -/
theorem values : Cert.algebraic_Kernel2Ideal_Reference2Ideal := by
  intro m g m' g' _ heq
  refine ⟨fun c => grad m c, (θ_run _ _ _).mono (fun r h c => ⟨(h c).1.trans (final m c), (h c).2⟩) (Value.run_blocks m g),
    (θ_run _ _ _).mono (fun r h c => ⟨(h c).1.trans ?_, (h c).2⟩) (Cert.Reference2Ideal.Value.run m' g')⟩
  rw [(heq c).1, (heq c).2]
  refine funext fun (i : S4096x23552.Idx) => ?_
  rw [eq_ix2 i]
  refine Eq.trans ?_ (dot_comm _ _)
  unfold dot
  pointwise

theorem frame_Kernel : Cert.quiescent_Kernel2 := fun m g _ => Cert.Kernel2.Gen.frame m g
theorem frame_KernelIdeal : Cert.quiescent_Kernel2Ideal := fun m g _ => Cert.Kernel2Ideal.Gen.frame m g
theorem frame_ReferenceIdeal : Cert.quiescent_Reference2Ideal := fun m g _ =>
  (θ_run _ _ _).mono (fun r h => ⟨fun c => (h c).2, sem_eq_zero_of_no_sems (by decide) r.2⟩) (Cert.Reference2Ideal.Value.run m g)

end Cert.DwIn
-- ==== Proof.Products.lean ====
/- Further products of the step: the gradient of the second MLP weights, the input projection. One block of a launch is one
   block of the whole product. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Product

@[expose] public section

noncomputable section

open Idealize.ShloMosaic Idealize.ShloMosaic.TcCoe Idealize.SL.Sem Cert.Product

namespace Cert.DwDown

open Cert.Kernel4Ideal Cert.Kernel4Ideal.Gen

variable (m : (ℓ : Loc nD τ sig) → Buf (Elt Ideal) ℓ)

/-- The whole product. -/
abbrev whole (c : Dev nD) : Buf (Elt Ideal) ((c : Thread nD τ).loc main_v0) := fun i : S16384x4096.Idx =>
  dot (n := 4096) (fun k => m ((c : Thread nD τ).loc main_arg0) (ix2 k (i 0) : S4096x16384.Idx)) fun k => m ((c : Thread nD τ).loc main_arg1) (ix2 k (i 1) : S4096x4096.Idx)

theorem pay (x : Vec Ideal S4096x1024 .bf16) (y : Vec Ideal S4096x1024 .bf16) (j : S1024x1024.Idx) :
    k0_pay1 x y j = dot (n := 4096) (fun k => x (ix2 k (j 0))) fun k => y (ix2 k (j 1)) := by
  rw [eq_ix2 j]
  unfold k0_pay1 dot
  generalize j 0 = a, j 1 = b
  pointwise

theorem places : ∀ t : Fin grid0.N, win0_0.index t 0 = 0 ∧ win0_1.index t 0 = 0 ∧ win0_0.index t 1 = win0_2.index t 0 ∧ win0_1.index t 1 = win0_2.index t 1 := by
  decide +kernel

theorem covers : ∀ (a : Fin 16) (b : Fin 4), ∃ t : Fin grid0.N, win0_2.index t 0 = a.val ∧ win0_2.index t 1 = b.val := by
  decide +kernel

theorem flushed (c : Dev nD) (t : Fin cfg0.N) : (dats m 0 c).flushed 2 t = ((cfg0.win 2).blk t).view.read (Elt Ideal) (whole m c) := by
  rw [Value.flushed2_A]
  unfold out0_A_2
  rw [View.read_writes_eq_canon _ _ _ (cover0_A_2 c _ _ _ _ _ _ _ _ _ _ _)]
  unfold kernelRun0_A
  dsimp only
  rw [View.canon_unit_zero hz]
  simp only [View.readAt_eq_ld, (hs0_0 t).read_unread, (hs0_1 t).read_unread, View.ld_unit_zero (S := S4096x1024) hz, View.ld_unit_zero (S := S4096x1024) hz]
  obtain ⟨p0, p1, p2, p3⟩ := places t
  refine funext fun (j : S1024x1024.Idx) => ?_
  rw [View.read_apply]
  refine (pay (iblk m c 0 t) (iblk m c 1 t) j).trans (dot_congr (fun k => ?_) fun k => ?_) <;> unfold iblk <;> rw [View.read_apply]
  · exact read2 (m ((c : Thread nD τ).loc main_arg0)) (all p0) (same p2)
  · exact read2 (m ((c : Thread nD τ).loc main_arg1)) (all p1) (same p3)

theorem final (c : Dev nD) : (dats m 0 c).arrAt 2 cfg0.N = whole m c :=
  (dats m 0 c).arrAt_eq_of_cover 2 (whole m c) (fun t _ => flushed m c t) fun (i : S16384x4096.Idx) => by
    have h0 : (i 0 : Nat) < 16384 := (i 0).isLt
    have h1 : (i 1 : Nat) < 4096 := (i 1).isLt
    obtain ⟨t, e0, e1⟩ := covers ⟨(i 0 : Nat) / 1024, by omega⟩ ⟨(i 1 : Nat) / 1024, by omega⟩
    refine ⟨t, flush0_2 t, ?_⟩
    show i ∈ ((View.whole main_v0).slice (win0_2.rect t)).set
    rw [View.set_slice_whole, Rect.mem_set_unit]
    exact fun a => match a with
      | ⟨0, _⟩ => tile e0
      | ⟨1, _⟩ => tile e1

theorem values : Cert.algebraic_Kernel4Ideal_Reference4Ideal := by
  intro m g m' g' _ heq
  refine ⟨fun c => whole m c, (θ_run _ _ _).mono (fun r h c => ⟨(h c).1.trans (final m c), (h c).2⟩) (Value.run_blocks m g),
    (θ_run _ _ _).mono (fun r h c => ⟨(h c).1.trans ?_, (h c).2⟩) (Cert.Reference4Ideal.Value.run m' g')⟩
  rw [(heq c).1, (heq c).2]
  refine funext fun (i : S16384x4096.Idx) => ?_
  rw [eq_ix2 i]
  refine Eq.trans ?_ (dot_comm _ _)
  unfold dot
  pointwise

theorem frame : Cert.quiescent_Reference4Ideal := fun m g _ =>
  (θ_run _ _ _).mono (fun r h => ⟨fun c => (h c).2, sem_eq_zero_of_no_sems (by decide) r.2⟩) (Cert.Reference4Ideal.Value.run m g)

end Cert.DwDown

namespace Cert.In

open Cert.Kernel5Ideal Cert.Kernel5Ideal.Gen

variable (m : (ℓ : Loc nD τ sig) → Buf (Elt Ideal) ℓ)

/-- The whole product. -/
abbrev whole (c : Dev nD) : Buf (Elt Ideal) ((c : Thread nD τ).loc main_v0) := fun i : S4096x23552.Idx =>
  dot (n := 4096) (fun k => m ((c : Thread nD τ).loc main_arg0) (ix2 (i 0) k : S4096x4096.Idx)) fun k => m ((c : Thread nD τ).loc main_arg1) (ix2 k (i 1) : S4096x23552.Idx)

theorem pay (x : Vec Ideal S1024x4096 .bf16) (y : Vec Ideal S4096x1024 .bf16) (j : S1024x1024.Idx) :
    k0_pay1 x y j = dot (n := 4096) (fun k => x (ix2 (j 0) k)) fun k => y (ix2 k (j 1)) := by
  rw [eq_ix2 j]
  unfold k0_pay1 dot
  generalize j 0 = a, j 1 = b
  pointwise

theorem places : ∀ t : Fin grid0.N, win0_0.index t 1 = 0 ∧ win0_1.index t 0 = 0 ∧ win0_0.index t 0 = win0_2.index t 0 ∧ win0_1.index t 1 = win0_2.index t 1 := by
  decide +kernel

theorem covers : ∀ (a : Fin 4) (b : Fin 23), ∃ t : Fin grid0.N, win0_2.index t 0 = a.val ∧ win0_2.index t 1 = b.val := by
  decide +kernel

theorem flushed (c : Dev nD) (t : Fin cfg0.N) : (dats m 0 c).flushed 2 t = ((cfg0.win 2).blk t).view.read (Elt Ideal) (whole m c) := by
  rw [Value.flushed2_A]
  unfold out0_A_2
  rw [View.read_writes_eq_canon _ _ _ (cover0_A_2 c _ _ _ _ _ _ _ _ _ _ _)]
  unfold kernelRun0_A
  dsimp only
  rw [View.canon_unit_zero hz]
  simp only [View.readAt_eq_ld, (hs0_0 t).read_unread, (hs0_1 t).read_unread, View.ld_unit_zero (S := S1024x4096) hz, View.ld_unit_zero (S := S4096x1024) hz]
  obtain ⟨p0, p1, p2, p3⟩ := places t
  refine funext fun (j : S1024x1024.Idx) => ?_
  rw [View.read_apply]
  refine (pay (iblk m c 0 t) (iblk m c 1 t) j).trans (dot_congr (fun k => ?_) fun k => ?_) <;> unfold iblk <;> rw [View.read_apply]
  · exact read2 (m ((c : Thread nD τ).loc main_arg0)) (same p2) (all p0)
  · exact read2 (m ((c : Thread nD τ).loc main_arg1)) (all p1) (same p3)

theorem final (c : Dev nD) : (dats m 0 c).arrAt 2 cfg0.N = whole m c :=
  (dats m 0 c).arrAt_eq_of_cover 2 (whole m c) (fun t _ => flushed m c t) fun (i : S4096x23552.Idx) => by
    have h0 : (i 0 : Nat) < 4096 := (i 0).isLt
    have h1 : (i 1 : Nat) < 23552 := (i 1).isLt
    obtain ⟨t, e0, e1⟩ := covers ⟨(i 0 : Nat) / 1024, by omega⟩ ⟨(i 1 : Nat) / 1024, by omega⟩
    refine ⟨t, flush0_2 t, ?_⟩
    show i ∈ ((View.whole main_v0).slice (win0_2.rect t)).set
    rw [View.set_slice_whole, Rect.mem_set_unit]
    exact fun a => match a with
      | ⟨0, _⟩ => tile e0
      | ⟨1, _⟩ => tile e1

theorem values : Cert.algebraic_Kernel5Ideal_Reference5Ideal := by
  intro m g m' g' _ heq
  refine ⟨fun c => whole m c, (θ_run _ _ _).mono (fun r h c => ⟨(h c).1.trans (final m c), (h c).2⟩) (Value.run_blocks m g),
    (θ_run _ _ _).mono (fun r h c => ⟨(h c).1.trans ?_, (h c).2⟩) (Cert.Reference5Ideal.Value.run m' g')⟩
  rw [(heq c).1, (heq c).2]
  refine funext fun (i : S4096x23552.Idx) => ?_
  rw [eq_ix2 i]
  show _ = dot _ _
  unfold dot
  pointwise

theorem frame : Cert.quiescent_Reference5Ideal := fun m g _ =>
  (θ_run _ _ _).mono (fun r h => ⟨fun c => (h c).2, sem_eq_zero_of_no_sems (by decide) r.2⟩) (Cert.Reference5Ideal.Value.run m g)

end Cert.In
-- ==== Proof.Mlp.lean ====
/- Three products of the MLP, in which a block of the launch is not only a block of a product of two matrices: the derivative
   of the activation, the gradient of the first weights and the first product itself, whose weights come in four parts. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Product

@[expose] public section

noncomputable section

open Idealize.ShloMosaic Idealize.ShloMosaic.TcCoe Idealize.SL.Sem Cert.Product

namespace Cert.DAct

open Cert.Kernel6Ideal Cert.Kernel6Ideal.Gen

variable (m : (ℓ : Loc nD τ sig) → Buf (Elt Ideal) ℓ)

/-- Twice the positive part: the derivative of its square. -/
def slope (u : EReal) : EReal := (Scalar.ofBits .f32 0x40000000#32 : Ideal .f32) * max u 0

abbrev whole (c : Dev nD) : Buf (Elt Ideal) ((c : Thread nD τ).loc main_v0) := fun i : S4096x16384.Idx =>
  dot (n := 4096) (fun k => m ((c : Thread nD τ).loc main_arg0) (ix2 (i 0) k : S4096x4096.Idx)) (fun k => m ((c : Thread nD τ).loc main_arg1) (ix2 (i 1) k : S16384x4096.Idx))
    * slope (m ((c : Thread nD τ).loc main_arg2) (ix2 (i 0) (i 1) : S4096x16384.Idx))

theorem pay (x y : Vec Ideal S1024x4096 .bf16) (z : Vec Ideal S1024x1024 .f32) (j : S1024x1024.Idx) :
    k0_pay1 x y z j = dot (n := 4096) (fun k => x (ix2 (j 0) k)) (fun k => y (ix2 (j 1) k)) * slope (z j) := by
  rw [eq_ix2 j]
  unfold k0_pay1 dot slope
  generalize j 0 = a, j 1 = b
  pointwise

theorem places : ∀ t : Fin grid0.N, (win0_0.index t 1 = 0 ∧ win0_1.index t 1 = 0 ∧ win0_0.index t 0 = win0_3.index t 0 ∧ win0_1.index t 0 = win0_3.index t 1)
    ∧ win0_2.index t 0 = win0_3.index t 0 ∧ win0_2.index t 1 = win0_3.index t 1 := by
  decide +kernel

theorem covers : ∀ (a : Fin 4) (b : Fin 16), ∃ t : Fin grid0.N, win0_3.index t 0 = a.val ∧ win0_3.index t 1 = b.val := by
  decide +kernel

theorem flushed (c : Dev nD) (t : Fin cfg0.N) : (dats m 0 c).flushed 3 t = ((cfg0.win 3).blk t).view.read (Elt Ideal) (whole m c) := by
  rw [Value.flushed3_A]
  unfold out0_A_3
  rw [View.read_writes_eq_canon _ _ _ (cover0_A_3 c _ _ _ _ _ _ _ _ _ _ _ _ _ _)]
  unfold kernelRun0_A
  dsimp only
  rw [View.canon_unit_zero hz]
  simp only [View.readAt_eq_ld, (hs0_0 t).read_unread, (hs0_1 t).read_unread, (hs0_2 t).read_unread, View.ld_unit_zero (S := S1024x4096) hz, View.ld_unit_zero (S := S1024x1024) hz]
  obtain ⟨⟨p0, p1, p2, p3⟩, p4, p5⟩ := places t
  refine funext fun (j : S1024x1024.Idx) => ?_
  rw [View.read_apply]
  refine (pay (iblk m c 0 t) (iblk m c 1 t) (iblk m c 2 t) j).trans (congrArg₂ _ (dot_congr (fun k => ?_) fun k => ?_) (congrArg slope ?_)) <;> unfold iblk <;> rw [View.read_apply]
  · exact read2 (m ((c : Thread nD τ).loc main_arg0)) (same p2) (all p0)
  · exact read2 (m ((c : Thread nD τ).loc main_arg1)) (same p3) (all p1)
  · exact read2 (m ((c : Thread nD τ).loc main_arg2)) (same p4) (same p5)

theorem final (c : Dev nD) : (dats m 0 c).arrAt 3 cfg0.N = whole m c :=
  (dats m 0 c).arrAt_eq_of_cover 3 (whole m c) (fun t _ => flushed m c t) fun (i : S4096x16384.Idx) => by
    have h0 : (i 0 : Nat) < 4096 := (i 0).isLt
    have h1 : (i 1 : Nat) < 16384 := (i 1).isLt
    obtain ⟨t, e0, e1⟩ := covers ⟨(i 0 : Nat) / 1024, by omega⟩ ⟨(i 1 : Nat) / 1024, by omega⟩
    refine ⟨t, flush0_3 t, ?_⟩
    show i ∈ ((View.whole main_v0).slice (win0_3.rect t)).set
    rw [View.set_slice_whole, Rect.mem_set_unit]
    exact fun a => match a with
      | ⟨0, _⟩ => tile e0
      | ⟨1, _⟩ => tile e1

theorem values : Cert.algebraic_Kernel6Ideal_Reference6Ideal := by
  intro m g m' g' _ heq
  refine ⟨fun c => whole m c, (θ_run _ _ _).mono (fun r h c => ⟨(h c).1.trans (final m c), (h c).2⟩) (Value.run_blocks m g),
    (θ_run _ _ _).mono (fun r h c => ⟨(h c).1.trans ?_, (h c).2⟩) (Cert.Reference6Ideal.Value.run m' g')⟩
  rw [(heq c).1, (heq c).2.1, (heq c).2.2]
  refine funext fun (i : S4096x16384.Idx) => ?_
  rw [eq_ix2 i]
  show _ = dot _ _ * slope _
  unfold dot slope
  pointwise
  rcases lt_or_ge (0 : EReal) (m ((c : Thread nD τ).loc main_arg2) i) with hu | hu
  · rw [if_pos hu, mul_one]
  · rw [max_eq_right hu, mul_zero, mul_zero, zero_mul]

theorem frame : Cert.quiescent_Reference6Ideal := fun m g _ =>
  (θ_run _ _ _).mono (fun r h => ⟨fun c => (h c).2, sem_eq_zero_of_no_sems (by decide) r.2⟩) (Cert.Reference6Ideal.Value.run m g)

end Cert.DAct

namespace Cert.DwUp

open Cert.Kernel3Ideal Cert.Kernel3Ideal.Gen

variable (m : (ℓ : Loc nD τ sig) → Buf (Elt Ideal) ℓ)

/-- The four parts of the product, one after the other. -/
abbrev whole (c : Dev nD) : Buf (Elt Ideal) ((c : Thread nD τ).loc main_v0) := fun i : S4x4096x4096.Idx =>
  dot (n := 4096) (fun k => m ((c : Thread nD τ).loc main_arg0) (ix2 k (i 1) : S4096x4096.Idx)) fun k =>
    m ((c : Thread nD τ).loc main_arg1) (ix2 k ⟨(i 0).val * 4096 + (i 2).val, by have := (i 0).isLt; have := (i 2).isLt; simp at *; omega⟩ : S4096x16384.Idx)

theorem pay (x y : Vec Ideal S4096x1024 .bf16) (j : S1x1024x1024.Idx) :
    k0_pay1 x y j = dot (n := 4096) (fun k => x (ix2 k (j 1))) fun k => y (ix2 k (j 2)) := by
  rw [eq_ix3 j]
  unfold k0_pay1 dot
  generalize j 0 = z, j 1 = a, j 2 = b
  pointwise

theorem places : ∀ t : Fin grid0.N, win0_0.index t 0 = 0 ∧ win0_1.index t 0 = 0 ∧ win0_0.index t 1 = win0_2.index t 1
    ∧ win0_1.index t 1 = win0_2.index t 0 * 4 + win0_2.index t 2 := by
  decide +kernel

theorem covers : ∀ a b d : Fin 4, ∃ t : Fin grid0.N, win0_2.index t 0 = a.val ∧ win0_2.index t 1 = b.val ∧ win0_2.index t 2 = d.val := by
  decide +kernel

theorem flushed (c : Dev nD) (t : Fin cfg0.N) : (dats m 0 c).flushed 2 t = ((cfg0.win 2).blk t).view.read (Elt Ideal) (whole m c) := by
  rw [Value.flushed2_A]
  unfold out0_A_2
  rw [View.read_writes_eq_canon _ _ _ (cover0_A_2 c _ _ _ _ _ _ _ _ _ _ _)]
  unfold kernelRun0_A
  dsimp only
  rw [View.canon_unit_zero hz3]
  simp only [View.readAt_eq_ld, (hs0_0 t).read_unread, (hs0_1 t).read_unread, View.ld_unit_zero (S := S4096x1024) hz]
  obtain ⟨p0, p1, p2, p3⟩ := places t
  refine funext fun (j : S1x1024x1024.Idx) => ?_
  rw [View.read_apply]
  refine (pay (iblk m c 0 t) (iblk m c 1 t) j).trans (dot_congr (fun k => ?_) fun k => ?_) <;> unfold iblk <;> rw [View.read_apply]
  · exact read2 (m ((c : Thread nD τ).loc main_arg0)) (all p0) (same p2)
  · refine read2 (m ((c : Thread nD τ).loc main_arg1)) (all p1) ?_
    have hj : (j 0 : Nat) < 1 := (j 0).isLt
    show win0_1.index t 1 * 1024 + 1 * (j 2).val = (win0_2.index t 0 * 1 + 1 * (j 0).val) * 4096 + (win0_2.index t 2 * 1024 + 1 * (j 2).val)
    omega

theorem final (c : Dev nD) : (dats m 0 c).arrAt 2 cfg0.N = whole m c :=
  (dats m 0 c).arrAt_eq_of_cover 2 (whole m c) (fun t _ => flushed m c t) fun (i : S4x4096x4096.Idx) => by
    have h1 : (i 1 : Nat) < 4096 := (i 1).isLt
    have h2 : (i 2 : Nat) < 4096 := (i 2).isLt
    obtain ⟨t, e0, e1, e2⟩ := covers (i 0) ⟨(i 1 : Nat) / 1024, by omega⟩ ⟨(i 2 : Nat) / 1024, by omega⟩
    refine ⟨t, flush0_2 t, ?_⟩
    show i ∈ ((View.whole main_v0).slice (win0_2.rect t)).set
    rw [View.set_slice_whole, Rect.mem_set_unit]
    exact fun a => match a with
      | ⟨0, _⟩ => part e0
      | ⟨1, _⟩ => tile e1
      | ⟨2, _⟩ => tile e2

theorem values : Cert.algebraic_Kernel3Ideal_Reference3Ideal := by
  intro m g m' g' _ heq
  refine ⟨fun c => whole m c, (θ_run _ _ _).mono (fun r h c => ⟨(h c).1.trans (final m c), (h c).2⟩) (Value.run_blocks m g),
    (θ_run _ _ _).mono (fun r h c => ⟨(h c).1.trans ?_, (h c).2⟩) (Cert.Reference3Ideal.Value.run m' g')⟩
  rw [(heq c).1, (heq c).2]
  refine funext fun (i : S4x4096x4096.Idx) => ?_
  rw [eq_ix3 i]
  refine Eq.trans ?_ (dot_comm _ _)
  unfold dot
  pointwise

theorem frame : Cert.quiescent_Reference3Ideal := fun m g _ =>
  (θ_run _ _ _).mono (fun r h => ⟨fun c => (h c).2, sem_eq_zero_of_no_sems (by decide) r.2⟩) (Cert.Reference3Ideal.Value.run m g)

end Cert.DwUp

namespace Cert.Up

open Cert.Kernel7Ideal Cert.Kernel7Ideal.Gen

variable (m : (ℓ : Loc nD τ sig) → Buf (Elt Ideal) ℓ)

/-- The product with the four parts of the weights side by side. -/
def at2 (c : Dev nD) (i : S4096x16384.Idx) : EReal :=
  dot (n := 4096) (fun k => m ((c : Thread nD τ).loc main_arg0) (ix2 (i 0) k : S4096x4096.Idx)) fun k =>
    m ((c : Thread nD τ).loc main_arg1) (ix3 ⟨(i 1).val / 4096, by have := (i 1).isLt; simp at *; omega⟩ k ⟨(i 1).val % 4096, by omega⟩ : S4x4096x4096.Idx)

abbrev up (c : Dev nD) : Buf (Elt Ideal) ((c : Thread nD τ).loc main_v0_0) := fun i : S4096x16384.Idx => at2 m c i
abbrev act (c : Dev nD) : Buf (Elt Ideal) ((c : Thread nD τ).loc main_v0_1) := fun i : S4096x16384.Idx => max (at2 m c i) 0 * max (at2 m c i) 0

theorem pay (x : Vec Ideal S1024x4096 .bf16) (y : Vec Ideal S1x4096x1024 .bf16) (j : S1024x1024.Idx) :
    k0_pay1 x y j = dot (n := 4096) (fun k => x (ix2 (j 0) k)) fun k => y (ix3 0 k (j 1)) := by
  rw [eq_ix2 j]
  unfold k0_pay1 dot
  generalize j 0 = a, j 1 = b
  pointwise

theorem pay2 (x : Vec Ideal S1024x4096 .bf16) (y : Vec Ideal S1x4096x1024 .bf16) (j : S1024x1024.Idx) :
    k0_pay2 x y j = max (k0_pay1 x y j : EReal) 0 * max (k0_pay1 x y j : EReal) 0 := by
  unfold k0_pay2
  generalize k0_pay1 x y = z
  pointwise

theorem places : ∀ t : Fin grid0.N, (win0_0.index t 0 = win0_2.index t 0 ∧ win0_0.index t 1 = 0 ∧ win0_1.index t 1 = 0
    ∧ win0_1.index t 0 * 4 + win0_1.index t 2 = win0_2.index t 1) ∧ win0_1.index t 2 < 4 ∧ win0_3.index t 0 = win0_2.index t 0 ∧ win0_3.index t 1 = win0_2.index t 1 := by
  decide +kernel

theorem covers : ∀ (a : Fin 4) (b : Fin 16), ∃ t : Fin grid0.N, win0_2.index t 0 = a.val ∧ win0_2.index t 1 = b.val := by
  decide +kernel

/-- The product of the two blocks of a point, at the element of the whole that an element of the block is. -/
theorem block (c : Dev nD) (t : Fin cfg0.N) (j : S1024x1024.Idx) (i : S4096x16384.Idx) (e0 : (i 0).val = win0_2.index t 0 * 1024 + 1 * (j 0).val)
    (e1 : (i 1).val = win0_2.index t 1 * 1024 + 1 * (j 1).val) : k0_pay1 (iblk m c 0 t) (iblk m c 1 t) j = at2 m c i := by
  obtain ⟨⟨p0, p1, p2, p3⟩, p4, _⟩ := places t
  have hj : (j 1 : Nat) < 1024 := (j 1).isLt
  refine (pay (iblk m c 0 t) (iblk m c 1 t) j).trans (dot_congr (fun k => ?_) fun k => ?_) <;> unfold iblk <;> rw [View.read_apply]
  · exact read2 (m ((c : Thread nD τ).loc main_arg0)) ((same p0).trans e0.symm) (all p1)
  · refine read3 (m ((c : Thread nD τ).loc main_arg1)) ?_ (all p2) ?_
    · show win0_1.index t 0 * 1 + 1 * 0 = (i 1).val / 4096
      omega
    · show win0_1.index t 2 * 1024 + 1 * (j 1).val = (i 1).val % 4096
      omega

theorem flushed2 (c : Dev nD) (t : Fin cfg0.N) : (dats m 0 c).flushed 2 t = ((cfg0.win 2).blk t).view.read (Elt Ideal) (up m c) := by
  rw [Value.flushed2_A]
  unfold out0_A_2
  rw [View.read_writes_eq_canon _ _ _ (cover0_A_2 c _ _ _ _ _ _ _ _ _ _ _ _ _)]
  unfold kernelRun0_A
  dsimp only
  rw [View.canon_unit_zero hz]
  simp only [View.readAt_eq_ld, (hs0_0 t).read_unread, (hs0_1 t).read_unread, View.ld_unit_zero (S := S1024x4096) hz, View.ld_unit_zero (S := S1x4096x1024) hz3]
  refine funext fun (j : S1024x1024.Idx) => ?_
  rw [View.read_apply]
  exact block m c t j _ rfl rfl

theorem flushed3 (c : Dev nD) (t : Fin cfg0.N) : (dats m 0 c).flushed 3 t = ((cfg0.win 3).blk t).view.read (Elt Ideal) (act m c) := by
  rw [Value.flushed3_A]
  unfold out0_A_3
  rw [View.read_writes_eq_canon _ _ _ (cover0_A_3 c _ _ _ _ _ _ _ _ _ _ _ _ _)]
  unfold kernelRun0_A
  dsimp only
  rw [View.canon_unit_zero hz]
  simp only [View.readAt_eq_ld, (hs0_0 t).read_unread, (hs0_1 t).read_unread, View.ld_unit_zero (S := S1024x4096) hz, View.ld_unit_zero (S := S1x4096x1024) hz3]
  obtain ⟨_, _, p5, p6⟩ := places t
  refine funext fun (j : S1024x1024.Idx) => ?_
  rw [View.read_apply]
  exact (pay2 (iblk m c 0 t) (iblk m c 1 t) j).trans (congrArg (fun z : EReal => max z 0 * max z 0) (block m c t j _ (same p5) (same p6)))

theorem final2 (c : Dev nD) : (dats m 0 c).arrAt 2 cfg0.N = up m c :=
  (dats m 0 c).arrAt_eq_of_cover 2 (up m c) (fun t _ => flushed2 m c t) fun (i : S4096x16384.Idx) => by
    have h0 : (i 0 : Nat) < 4096 := (i 0).isLt
    have h1 : (i 1 : Nat) < 16384 := (i 1).isLt
    obtain ⟨t, e0, e1⟩ := covers ⟨(i 0 : Nat) / 1024, by omega⟩ ⟨(i 1 : Nat) / 1024, by omega⟩
    refine ⟨t, flush0_2 t, ?_⟩
    show i ∈ ((View.whole main_v0_0).slice (win0_2.rect t)).set
    rw [View.set_slice_whole, Rect.mem_set_unit]
    exact fun a => match a with
      | ⟨0, _⟩ => tile e0
      | ⟨1, _⟩ => tile e1

theorem final3 (c : Dev nD) : (dats m 0 c).arrAt 3 cfg0.N = act m c :=
  (dats m 0 c).arrAt_eq_of_cover 3 (act m c) (fun t _ => flushed3 m c t) fun (i : S4096x16384.Idx) => by
    have h0 : (i 0 : Nat) < 4096 := (i 0).isLt
    have h1 : (i 1 : Nat) < 16384 := (i 1).isLt
    obtain ⟨t, e0, e1⟩ := covers ⟨(i 0 : Nat) / 1024, by omega⟩ ⟨(i 1 : Nat) / 1024, by omega⟩
    refine ⟨t, flush0_3 t, ?_⟩
    show i ∈ ((View.whole main_v0_1).slice (win0_3.rect t)).set
    rw [View.set_slice_whole, Rect.mem_set_unit]
    exact fun a => match a with
      | ⟨0, _⟩ => tile ((places t).2.2.1.trans e0)
      | ⟨1, _⟩ => tile ((places t).2.2.2.trans e1)

theorem values : Cert.algebraic_Kernel7Ideal_Reference7Ideal := by
  intro m g m' g' _ heq
  refine ⟨fun c => up m c, fun c => act m c,
    (θ_run _ _ _).mono (fun r h c => ⟨(h c).1.trans (final2 m c), (h c).2.1.trans (final3 m c), (h c).2.2⟩) (Value.run_blocks m g),
    (θ_run _ _ _).mono (fun r h c => ⟨(h c).1.trans ?_, (h c).2.1.trans ?_, (h c).2.2⟩) (Cert.Reference7Ideal.Value.run m' g')⟩
  all_goals
    rw [(heq c).1, (heq c).2]
    refine funext fun (i : S4096x16384.Idx) => ?_
    rw [eq_ix2 i]
  · show _ = at2 _ _ _
    unfold at2 dot
    pointwise
  · show _ = max (at2 _ _ _) 0 * max (at2 _ _ _) 0
    unfold at2 dot
    pointwise

theorem frame : Cert.quiescent_Reference7Ideal := fun m g _ =>
  (θ_run _ _ _).mono (fun r h => ⟨fun c => (h c).2.2, sem_eq_zero_of_no_sems (by decide) r.2⟩) (Cert.Reference7Ideal.Value.run m g)

end Cert.Up
-- ==== Proof.Sums.lean ====
/- Two products whose blocks are summed over several points of the launch, in a scratch: the gradient of the normalised
   input and the second product of the MLP. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Product

@[expose] public section

noncomputable section

open Idealize.ShloMosaic Idealize.ShloMosaic.TcCoe Idealize.SL.Sem Cert.Product

namespace Cert.DU

open Cert.Kernel8Ideal Cert.Kernel8Ideal.Gen

variable (m : (ℓ : Loc nD τ sig) → Buf (Elt Ideal) ℓ) (c : Dev nD)

/-- The first products of the sum at an index of the result. -/
def sum (n a b : ℕ) : EReal :=
  upto n (fun k => nat2 (n := 4096) (n' := 23552) (m ((c : Thread nD τ).loc main_arg0)) a k) fun k => nat2 (n := 4096) (n' := 23552) (m ((c : Thread nD τ).loc main_arg1)) b k

abbrev whole : Buf (Elt Ideal) ((c : Thread nD τ).loc main_v0) := fun i : S4096x4096.Idx => sum m c 23552 (i 0).val (i 1).val

theorem pay (x : Vec Ideal S1024x2944 .bf16) (y : Vec Ideal S1024x2944 .bf16) (z : Vec Ideal S1024x1024 .f32) (j : S1024x1024.Idx) :
    k0_pay2 x y j = dot (n := 2944) (fun k => x (ix2 (j 0) k)) (fun k => y (ix2 (j 1) k))
    ∧ k0_pay3 x y z j = (z j : EReal) + dot (n := 2944) (fun k => x (ix2 (j 0) k)) (fun k => y (ix2 (j 1) k)) ∧ k0_pay4 x y z = k0_pay3 x y z := by
  unfold k0_pay4 k0_pay3 k0_pay2 k0_pay1 dot
  refine ⟨?_, ?_, (shapeCast_self _ _).symm⟩ <;> rw [eq_ix2 j] <;> generalize j 0 = a, j 1 = b <;> pointwise

theorem places : ∀ t : Fin grid0.N, (win0_0.index t 0 = t.val / 32 ∧ win0_0.index t 1 = t.val % 8 ∧ win0_1.index t 0 = t.val / 8 % 4
    ∧ win0_1.index t 1 = t.val % 8) ∧ win0_2.index t 0 = t.val / 32 ∧ win0_2.index t 1 = t.val / 8 % 4 := by
  decide +kernel

/-- A point adds its part of the sum. -/
theorem step (t : Fin cfg0.N) (j : S1024x1024.Idx) {n a b : ℕ} (hn : n = t.val % 8 * 2944) (ha : a = t.val / 32 * 1024 + (j 0).val)
    (hb : b = t.val / 8 % 4 * 1024 + (j 1).val) :
    sum m c n a b + dot (n := 2944) (fun k => iblk m c 0 t (ix2 (j 0) k : S1024x2944.Idx)) (fun k => iblk m c 1 t (ix2 (j 1) k : S1024x2944.Idx)) = sum m c (n + 2944) a b := by
  obtain ⟨⟨p0, p1, p2, p3⟩, _⟩ := places t
  refine upto_add (fun k => ?_) fun k => ?_ <;> unfold iblk <;> rw [View.read_apply]
  · refine nat2_at (m ((c : Thread nD τ).loc main_arg0)) ?_ ?_
    · show win0_0.index t 0 * 1024 + 1 * (j 0).val = a; omega
    · show win0_0.index t 1 * 2944 + 1 * k.val = n + k.val; omega
  · refine nat2_at (m ((c : Thread nD τ).loc main_arg1)) ?_ ?_
    · show win0_1.index t 0 * 1024 + 1 * (j 1).val = b; omega
    · show win0_1.index t 1 * 2944 + 1 * k.val = n + k.val; omega

/-- What the scratch holds after a point that is not the last of its sum. -/
theorem acc : ∀ (n : ℕ) (hn : n < cfg0.N), ¬n % 8 = 7 → ∀ j : S1024x1024.Idx,
    (outsAt0 m c n hn).2 j = sum m c ((n % 8 + 1) * 2944) (n / 32 * 1024 + (j 0).val) (n / 8 % 4 * 1024 + (j 1).val)
  | n, hn, h2, j => by
    rw [add_mul, one_mul, ← step m c ⟨n, hn⟩ j rfl rfl rfl]
    by_cases h0 : n % 8 = 0
    · rw [outsAt0_A m c ⟨n, hn⟩ h0 (by dsimp only; omega) h2]
      dsimp only
      unfold sout0_A_0
      rw [View.read_writes_eq_canon _ _ _ (scover0_A_0 c _ _ _ _ _ _ _ _ _ _ _ _ _ _)]
      unfold kernelRun0_A
      dsimp only
      rw [View.canon_unit_zero hz]
      simp only [View.readAt_eq_ld, (hs0_0 _).read_unread, (hs0_1 _).read_unread, View.ld_unit_zero (S := S1024x2944) hz]
      refine (pay (iblk m c 0 ⟨n, hn⟩) (iblk m c 1 ⟨n, hn⟩) (fun _ => 0) j).1.trans ?_
      rw [h0, zero_mul]
      exact (zero_add _).symm
    · rw [outsAt0_B m c ⟨n, hn⟩ h0 (by dsimp only; omega) h2]
      dsimp only
      unfold sout0_B_0
      rw [View.read_writes_eq_canon _ _ _ (scover0_B_0 c _ _ _ _ _ _ _ _ _ _ _ _ _ _ _)]
      unfold kernelRun0_B
      dsimp only
      rw [View.canon_unit_zero hz]
      simp only [View.readAt_eq_ld, (hs0_0 _).read_unread, (hs0_1 _).read_unread, (Memref.isWhole_whole _).read_unread, View.ld_unit_zero (S := S1024x2944) hz,
        View.ld_unit_zero (S := S1024x1024) hz]
      refine (pay (iblk m c 0 ⟨n, hn⟩) (iblk m c 1 ⟨n, hn⟩) _ j).2.1.trans (congrArg (· + _) ((acc (n - 1) _ (by omega) j).trans
        (same3 (sum m c) (by omega) (by omega) (by omega))))

theorem flushed (t : Fin cfg0.N) (h2 : t.val % 8 = 7) : (dats m 0 c).flushed 2 t = ((cfg0.win 2).blk t).view.read (Elt Ideal) (whole m c) := by
  rw [Value.flushed2_C m c t (by omega) (by omega) h2]
  unfold out0_C_2
  rw [View.read_writes_eq_canon _ _ _ (cover0_C_2 c _ _ _ _ _ _ _ _ _ _ _ _ _ _ _)]
  unfold kernelRun0_C
  dsimp only
  rw [View.canon_unit_zero hz]
  simp only [View.readAt_eq_ld, (hs0_0 t).read_unread, (hs0_1 t).read_unread, (Memref.isWhole_whole _).read_unread, View.ld_unit_zero (S := S1024x2944) hz,
    View.ld_unit_zero (S := S1024x1024) hz]
  obtain ⟨_, p4, p5⟩ := places t
  refine funext fun (j : S1024x1024.Idx) => ?_
  rw [View.read_apply]
  refine (congrFun (pay _ _ _ j).2.2 j).trans ((pay (iblk m c 0 t) (iblk m c 1 t) _ j).2.1.trans ((congrArg (· + _) (acc m c (t.val - 1) _ (by omega) j)).trans
    ((step m c t j (by omega) (by omega) (by omega)).trans ?_)))
  rw [cast_eq]
  refine same3 (sum m c) (by omega) ?_ ?_
  · show _ = win0_2.index t 0 * 1024 + 1 * (j 0).val; omega
  · show _ = win0_2.index t 1 * 1024 + 1 * (j 1).val; omega

theorem final : (dats m 0 c).arrAt 2 cfg0.N = whole m c :=
  (dats m 0 c).arrAt_eq_of_cover 2 (whole m c) (fun t h => flushed m c t ((flush0_2 t).mp h)) fun (i : S4096x4096.Idx) =>
    (Value.covered_iff2 i).2 ⟨Nat.zero_le _, (i 0).isLt, Nat.zero_le _, (i 1).isLt⟩

theorem values : Cert.algebraic_Kernel8Ideal_Reference8Ideal := by
  intro m g m' g' _ heq
  refine ⟨fun c => whole m c, (θ_run _ _ _).mono (fun r h c => ⟨(h c).1.trans (final m c), (h c).2⟩) (Value.run_blocks m g),
    (θ_run _ _ _).mono (fun r h c => ⟨(h c).1.trans ?_, (h c).2⟩) (Cert.Reference8Ideal.Value.run m' g')⟩
  rw [(heq c).1, (heq c).2]
  refine funext fun (i : S4096x4096.Idx) => ?_
  have e : sum m c 0 (i 0).val (i 1).val + dot (n := 23552) (fun k => m ((c : Thread nD τ).loc main_arg0) (ix2 (i 0) k : S4096x23552.Idx))
      (fun k => m ((c : Thread nD τ).loc main_arg1) (ix2 (i 1) k : S4096x23552.Idx)) = sum m c (0 + 23552) (i 0).val (i 1).val :=
    upto_add (fun k => nat2_at _ rfl (Nat.zero_add _).symm) fun k => nat2_at _ rfl (Nat.zero_add _).symm
  rw [Nat.zero_add] at e
  refine Eq.trans ?_ e
  rw [eq_ix2 i]
  show _ = 0 + dot _ _
  unfold dot
  pointwise

theorem frame : Cert.quiescent_Reference8Ideal := fun m g _ =>
  (θ_run _ _ _).mono (fun r h => ⟨fun c => (h c).2, sem_eq_zero_of_no_sems (by decide) r.2⟩) (Cert.Reference8Ideal.Value.run m g)

end Cert.DU

namespace Cert.Down

open Cert.Kernel9Ideal Cert.Kernel9Ideal.Gen

variable (m : (ℓ : Loc nD τ sig) → Buf (Elt Ideal) ℓ) (c : Dev nD)

/-- The first products of the sum at an index of the result. -/
def sum (n a b : ℕ) : EReal :=
  upto n (fun k => nat2 (n := 4096) (n' := 16384) (m ((c : Thread nD τ).loc main_arg0)) a k) fun k => nat2 (n := 16384) (n' := 4096) (m ((c : Thread nD τ).loc main_arg1)) k b

abbrev whole : Buf (Elt Ideal) ((c : Thread nD τ).loc main_v0) := fun i : S4096x4096.Idx => sum m c 16384 (i 0).val (i 1).val

theorem pay (x : Vec Ideal S1024x4096 .bf16) (y : Vec Ideal S4096x1024 .bf16) (z : Vec Ideal S1024x1024 .f32) (j : S1024x1024.Idx) :
    k0_pay2 x y j = dot (n := 4096) (fun k => x (ix2 (j 0) k)) (fun k => y (ix2 k (j 1)))
    ∧ k0_pay3 x y z j = (z j : EReal) + dot (n := 4096) (fun k => x (ix2 (j 0) k)) (fun k => y (ix2 k (j 1))) ∧ k0_pay4 x y z = k0_pay3 x y z := by
  unfold k0_pay4 k0_pay3 k0_pay2 k0_pay1 dot
  refine ⟨?_, ?_, (shapeCast_self _ _).symm⟩ <;> rw [eq_ix2 j] <;> generalize j 0 = a, j 1 = b <;> pointwise

theorem places : ∀ t : Fin grid0.N, (win0_0.index t 0 = t.val / 16 ∧ win0_0.index t 1 = t.val % 4 ∧ win0_1.index t 1 = t.val / 4 % 4
    ∧ win0_1.index t 0 = t.val % 4) ∧ win0_2.index t 0 = t.val / 16 ∧ win0_2.index t 1 = t.val / 4 % 4 := by
  decide +kernel

/-- A point adds its part of the sum. -/
theorem step (t : Fin cfg0.N) (j : S1024x1024.Idx) {n a b : ℕ} (hn : n = t.val % 4 * 4096) (ha : a = t.val / 16 * 1024 + (j 0).val)
    (hb : b = t.val / 4 % 4 * 1024 + (j 1).val) :
    sum m c n a b + dot (n := 4096) (fun k => iblk m c 0 t (ix2 (j 0) k : S1024x4096.Idx)) (fun k => iblk m c 1 t (ix2 k (j 1) : S4096x1024.Idx)) = sum m c (n + 4096) a b := by
  obtain ⟨⟨p0, p1, p2, p3⟩, _⟩ := places t
  refine upto_add (fun k => ?_) fun k => ?_ <;> unfold iblk <;> rw [View.read_apply]
  · refine nat2_at (m ((c : Thread nD τ).loc main_arg0)) ?_ ?_
    · show win0_0.index t 0 * 1024 + 1 * (j 0).val = a; omega
    · show win0_0.index t 1 * 4096 + 1 * k.val = n + k.val; omega
  · refine nat2_at (m ((c : Thread nD τ).loc main_arg1)) ?_ ?_
    · show win0_1.index t 0 * 4096 + 1 * k.val = n + k.val; omega
    · show win0_1.index t 1 * 1024 + 1 * (j 1).val = b; omega

/-- What the scratch holds after a point that is not the last of its sum. -/
theorem acc : ∀ (n : ℕ) (hn : n < cfg0.N), ¬n % 4 = 3 → ∀ j : S1024x1024.Idx,
    (outsAt0 m c n hn).2 j = sum m c ((n % 4 + 1) * 4096) (n / 16 * 1024 + (j 0).val) (n / 4 % 4 * 1024 + (j 1).val)
  | n, hn, h2, j => by
    rw [add_mul, one_mul, ← step m c ⟨n, hn⟩ j rfl rfl rfl]
    by_cases h0 : n % 4 = 0
    · rw [outsAt0_A m c ⟨n, hn⟩ h0 (by dsimp only; omega) h2]
      dsimp only
      unfold sout0_A_0
      rw [View.read_writes_eq_canon _ _ _ (scover0_A_0 c _ _ _ _ _ _ _ _ _ _ _ _ _ _)]
      unfold kernelRun0_A
      dsimp only
      rw [View.canon_unit_zero hz]
      simp only [View.readAt_eq_ld, (hs0_0 _).read_unread, (hs0_1 _).read_unread, View.ld_unit_zero (S := S1024x4096) hz, View.ld_unit_zero (S := S4096x1024) hz]
      refine (pay (iblk m c 0 ⟨n, hn⟩) (iblk m c 1 ⟨n, hn⟩) (fun _ => 0) j).1.trans ?_
      rw [h0, zero_mul]
      exact (zero_add _).symm
    · rw [outsAt0_B m c ⟨n, hn⟩ h0 (by dsimp only; omega) h2]
      dsimp only
      unfold sout0_B_0
      rw [View.read_writes_eq_canon _ _ _ (scover0_B_0 c _ _ _ _ _ _ _ _ _ _ _ _ _ _ _)]
      unfold kernelRun0_B
      dsimp only
      rw [View.canon_unit_zero hz]
      simp only [View.readAt_eq_ld, (hs0_0 _).read_unread, (hs0_1 _).read_unread, (Memref.isWhole_whole _).read_unread, View.ld_unit_zero (S := S1024x4096) hz, View.ld_unit_zero (S := S4096x1024) hz,
        View.ld_unit_zero (S := S1024x1024) hz]
      refine (pay (iblk m c 0 ⟨n, hn⟩) (iblk m c 1 ⟨n, hn⟩) _ j).2.1.trans (congrArg (· + _) ((acc (n - 1) _ (by omega) j).trans
        (same3 (sum m c) (by omega) (by omega) (by omega))))

theorem flushed (t : Fin cfg0.N) (h2 : t.val % 4 = 3) : (dats m 0 c).flushed 2 t = ((cfg0.win 2).blk t).view.read (Elt Ideal) (whole m c) := by
  rw [Value.flushed2_C m c t (by omega) (by omega) h2]
  unfold out0_C_2
  rw [View.read_writes_eq_canon _ _ _ (cover0_C_2 c _ _ _ _ _ _ _ _ _ _ _ _ _ _ _)]
  unfold kernelRun0_C
  dsimp only
  rw [View.canon_unit_zero hz]
  simp only [View.readAt_eq_ld, (hs0_0 t).read_unread, (hs0_1 t).read_unread, (Memref.isWhole_whole _).read_unread, View.ld_unit_zero (S := S1024x4096) hz, View.ld_unit_zero (S := S4096x1024) hz,
    View.ld_unit_zero (S := S1024x1024) hz]
  obtain ⟨_, p4, p5⟩ := places t
  refine funext fun (j : S1024x1024.Idx) => ?_
  rw [View.read_apply]
  refine (congrFun (pay _ _ _ j).2.2 j).trans ((pay (iblk m c 0 t) (iblk m c 1 t) _ j).2.1.trans ((congrArg (· + _) (acc m c (t.val - 1) _ (by omega) j)).trans
    ((step m c t j (by omega) (by omega) (by omega)).trans ?_)))
  rw [cast_eq]
  refine same3 (sum m c) (by omega) ?_ ?_
  · show _ = win0_2.index t 0 * 1024 + 1 * (j 0).val; omega
  · show _ = win0_2.index t 1 * 1024 + 1 * (j 1).val; omega

theorem final : (dats m 0 c).arrAt 2 cfg0.N = whole m c :=
  (dats m 0 c).arrAt_eq_of_cover 2 (whole m c) (fun t h => flushed m c t ((flush0_2 t).mp h)) fun (i : S4096x4096.Idx) =>
    (Value.covered_iff2 i).2 ⟨Nat.zero_le _, (i 0).isLt, Nat.zero_le _, (i 1).isLt⟩

theorem values : Cert.algebraic_Kernel9Ideal_Reference9Ideal := by
  intro m g m' g' _ heq
  refine ⟨fun c => whole m c, (θ_run _ _ _).mono (fun r h c => ⟨(h c).1.trans (final m c), (h c).2⟩) (Value.run_blocks m g),
    (θ_run _ _ _).mono (fun r h c => ⟨(h c).1.trans ?_, (h c).2⟩) (Cert.Reference9Ideal.Value.run m' g')⟩
  rw [(heq c).1, (heq c).2]
  refine funext fun (i : S4096x4096.Idx) => ?_
  have e : sum m c 0 (i 0).val (i 1).val + dot (n := 16384) (fun k => m ((c : Thread nD τ).loc main_arg0) (ix2 (i 0) k : S4096x16384.Idx))
      (fun k => m ((c : Thread nD τ).loc main_arg1) (ix2 k (i 1) : S16384x4096.Idx)) = sum m c (0 + 16384) (i 0).val (i 1).val :=
    upto_add (fun k => nat2_at _ rfl (Nat.zero_add _).symm) fun k => nat2_at _ (Nat.zero_add _).symm rfl
  rw [Nat.zero_add] at e
  refine Eq.trans ?_ e
  rw [eq_ix2 i]
  show _ = 0 + dot _ _
  unfold dot
  pointwise

theorem frame : Cert.quiescent_Reference9Ideal := fun m g _ =>
  (θ_run _ _ _).mono (fun r h => ⟨fun c => (h c).2, sem_eq_zero_of_no_sems (by decide) r.2⟩) (Cert.Reference9Ideal.Value.run m g)

end Cert.Down
-- ==== Proof.lean ====
module

public import proofs.«01_k».proof.Defs
public import proofs.«01_k».proof.Proof.Same
public import proofs.«01_k».proof.Proof.DwIn
public import proofs.«01_k».proof.Proof.Products
public import proofs.«01_k».proof.Proof.Mlp
public import proofs.«01_k».proof.Proof.Sums

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
      Cert.Kernel4.Gen.facts, Cert.Kernel4Ideal.Gen.facts, Cert.Reference4Ideal.Gen.facts,
      Cert.Kernel5.Gen.facts, Cert.Kernel5Ideal.Gen.facts, Cert.Reference5Ideal.Gen.facts,
      Cert.Kernel6.Gen.facts, Cert.Kernel6Ideal.Gen.facts, Cert.Reference6Ideal.Gen.facts,
      Cert.Kernel7.Gen.facts, Cert.Kernel7Ideal.Gen.facts, Cert.Reference7Ideal.Gen.facts,
      Cert.Kernel8.Gen.facts, Cert.Kernel8Ideal.Gen.facts, Cert.Reference8Ideal.Gen.facts,
      Cert.Kernel9.Gen.facts, Cert.Kernel9Ideal.Gen.facts, Cert.Reference9Ideal.Gen.facts, Cert.Rwkv.finite_facts,
    frame_Kernel, frame_KernelIdeal, fun m g _ => frame_KernelIdeal m g trivial, frame_ReferenceIdeal, fun m g _ => frame_ReferenceIdeal m g trivial,
    Cert.DwIn.frame_Kernel, Cert.DwIn.frame_KernelIdeal, Cert.DwIn.frame_ReferenceIdeal,
      fun m g _ => Cert.Kernel3.Gen.frame m g, fun m g _ => Cert.Kernel3Ideal.Gen.frame m g, Cert.DwUp.frame,
      fun m g _ => Cert.Kernel4.Gen.frame m g, fun m g _ => Cert.Kernel4Ideal.Gen.frame m g, Cert.DwDown.frame,
      fun m g _ => Cert.Kernel5.Gen.frame m g, fun m g _ => Cert.Kernel5Ideal.Gen.frame m g, Cert.In.frame,
      fun m g _ => Cert.Kernel6.Gen.frame m g, fun m g _ => Cert.Kernel6Ideal.Gen.frame m g, Cert.DAct.frame,
      fun m g _ => Cert.Kernel7.Gen.frame m g, fun m g _ => Cert.Kernel7Ideal.Gen.frame m g, Cert.Up.frame,
      fun m g _ => Cert.Kernel8.Gen.frame m g, fun m g _ => Cert.Kernel8Ideal.Gen.frame m g, Cert.DU.frame,
      fun m g _ => Cert.Kernel9.Gen.frame m g, fun m g _ => Cert.Kernel9Ideal.Gen.frame m g, Cert.Down.frame,
    keeps_rounding, values, trivial, Cert.DwIn.values, trivial, Cert.DwUp.values, trivial, Cert.DwDown.values, trivial, Cert.In.values, trivial, Cert.DAct.values,
    trivial, Cert.Up.values, trivial, Cert.DU.values, trivial, Cert.Down.values⟩

end Cert.Proof

end
